-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_is_parity8 : Cert.Pre_is_parity8.Facts] (m : (ℓ : Loc Cert.Kernel8.nD Cert.Kernel8.τ Cert.Kernel8.sig) → Buf (Elt Bits) ℓ) : Prop :=
  ∀ c : Dev Cert.Kernel8.nD,
    (Cert.Pre_is_parity8.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2))) = (fun _ => 1#1)

def Pre_Kernel8Ideal [hPre_is_parity8 : Cert.Pre_is_parity8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_is_parity8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_is_parity8 [hPre_is_parity8 : Cert.Pre_is_parity8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_is_parity8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 [hPre_is_parity9 : Cert.Pre_is_parity9.Facts] (m : (ℓ : Loc Cert.Kernel9.nD Cert.Kernel9.τ Cert.Kernel9.sig) → Buf (Elt Bits) ℓ) : Prop :=
  ∀ c : Dev Cert.Kernel9.nD,
    (Cert.Pre_is_parity9.fn (F := Bits) (m ((c.tc : Thread Cert.Kernel9.nD Cert.Kernel9.τ).loc Cert.Kernel9.main_arg0)) (m ((c.tc : Thread Cert.Kernel9.nD Cert.Kernel9.τ).loc Cert.Kernel9.main_arg1)) (m ((c.tc : Thread Cert.Kernel9.nD Cert.Kernel9.τ).loc Cert.Kernel9.main_arg2)) (m ((c.tc : Thread Cert.Kernel9.nD Cert.Kernel9.τ).loc Cert.Kernel9.main_arg3)) (m ((c.tc : Thread Cert.Kernel9.nD Cert.Kernel9.τ).loc Cert.Kernel9.main_arg4))) = (fun _ => 1#1)

def Pre_Kernel9Ideal [hPre_is_parity9 : Cert.Pre_is_parity9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_is_parity9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_is_parity9 [hPre_is_parity9 : Cert.Pre_is_parity9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_is_parity9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 [hPre_is_place : Cert.Pre_is_place.Facts] (m : (ℓ : Loc Cert.Kernel10.nD Cert.Kernel10.τ Cert.Kernel10.sig) → Buf (Elt Bits) ℓ) : Prop :=
  ∀ c : Dev Cert.Kernel10.nD,
    (Cert.Pre_is_place.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2)) (m ((c.tc : Thread Cert.Kernel10.nD Cert.Kernel10.τ).loc Cert.Kernel10.main_arg3)) (m ((c.tc : Thread Cert.Kernel10.nD Cert.Kernel10.τ).loc Cert.Kernel10.main_arg4))) = (fun _ => 1#1)

def Pre_Kernel10Ideal [hPre_is_place : Cert.Pre_is_place.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_is_place.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_is_place [hPre_is_place : Cert.Pre_is_place.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_is_place.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3))).2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] [hPre_is_parity8 : Cert.Pre_is_parity8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] [hPre_is_parity8 : Cert.Pre_is_parity8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_is_parity8 [hReference8Ideal : Cert.Reference8Ideal.Facts] [hPre_is_parity8 : Cert.Pre_is_parity8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_is_parity8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] [hPre_is_parity9 : Cert.Pre_is_parity9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] [hPre_is_parity9 : Cert.Pre_is_parity9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_is_parity9 [hReference9Ideal : Cert.Reference9Ideal.Facts] [hPre_is_parity9 : Cert.Pre_is_parity9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_is_parity9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] [hPre_is_place : Cert.Pre_is_place.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] [hPre_is_place : Cert.Pre_is_place.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_is_place [hReference10Ideal : Cert.Reference10Ideal.Facts] [hPre_is_place : Cert.Pre_is_place.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_is_place m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_v155) = v3 c
          ∧ r.2.mem ((c.tc : Thread Cert.ReferenceIdeal.nD Cert.ReferenceIdeal.τ).loc Cert.ReferenceIdeal.main_v156) = v4 c
          ∧ r.2.mem ((c.tc : Thread Cert.ReferenceIdeal.nD Cert.ReferenceIdeal.τ).loc Cert.ReferenceIdeal.main_v158) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)) (v1 : (c : Dev Cert.Kernel2Ideal.nD) → Buf (Elt Ideal) ((c.tc : Thread Cert.Kernel2Ideal.nD Cert.Kernel2Ideal.τ).loc Cert.Kernel2Ideal.main_v4_0)) (v2 : (c : Dev Cert.Kernel2Ideal.nD) → Buf (Elt Ideal) ((c.tc : Thread Cert.Kernel2Ideal.nD Cert.Kernel2Ideal.τ).loc Cert.Kernel2Ideal.main_v6)) (v3 : (c : Dev Cert.Kernel2Ideal.nD) → Buf (Elt Ideal) ((c.tc : Thread Cert.Kernel2Ideal.nD Cert.Kernel2Ideal.τ).loc Cert.Kernel2Ideal.main_v7)) (v4 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_v4_0) = v1 c
          ∧ r.2.mem ((c.tc : Thread Cert.Kernel2Ideal.nD Cert.Kernel2Ideal.τ).loc Cert.Kernel2Ideal.main_v6) = v2 c
          ∧ r.2.mem ((c.tc : Thread Cert.Kernel2Ideal.nD Cert.Kernel2Ideal.τ).loc Cert.Kernel2Ideal.main_v7) = v3 c
          ∧ r.2.mem ((c.tc : Thread Cert.Kernel2Ideal.nD Cert.Kernel2Ideal.τ).loc Cert.Kernel2Ideal.main_v5) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v33) = v3 c
          ∧ r.2.mem ((c.tc : Thread Cert.Reference2Ideal.nD Cert.Reference2Ideal.τ).loc Cert.Reference2Ideal.main_v34) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)) (v1 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_v3) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v7)) (v1 : (c : Dev Cert.Kernel6Ideal.nD) → Buf (Elt Ideal) ((c.tc : Thread Cert.Kernel6Ideal.nD Cert.Kernel6Ideal.τ).loc Cert.Kernel6Ideal.main_v12_0)) (v2 : (c : Dev Cert.Kernel6Ideal.nD) → Buf (Elt Ideal) ((c.tc : Thread Cert.Kernel6Ideal.nD Cert.Kernel6Ideal.τ).loc Cert.Kernel6Ideal.main_v8_2)) (v3 : (c : Dev Cert.Kernel6Ideal.nD) → Buf (Elt Ideal) ((c.tc : Thread Cert.Kernel6Ideal.nD Cert.Kernel6Ideal.τ).loc Cert.Kernel6Ideal.main_v9)) (v4 : (c : Dev Cert.Kernel6Ideal.nD) → Buf (Elt Ideal) ((c.tc : Thread Cert.Kernel6Ideal.nD Cert.Kernel6Ideal.τ).loc Cert.Kernel6Ideal.main_v10_0)) (v5 : (c : Dev Cert.Kernel6Ideal.nD) → Buf (Elt Ideal) ((c.tc : Thread Cert.Kernel6Ideal.nD Cert.Kernel6Ideal.τ).loc Cert.Kernel6Ideal.main_v10_1)) (v6 : (c : Dev Cert.Kernel6Ideal.nD) → Buf (Elt Ideal) ((c.tc : Thread Cert.Kernel6Ideal.nD Cert.Kernel6Ideal.τ).loc Cert.Kernel6Ideal.main_v11_1)) (v7 : (c : Dev Cert.Kernel6Ideal.nD) → Buf (Elt Ideal) ((c.tc : Thread Cert.Kernel6Ideal.nD Cert.Kernel6Ideal.τ).loc Cert.Kernel6Ideal.main_v12_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_v12_0) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_v9) = v3 c
          ∧ r.2.mem ((c.tc : Thread Cert.Kernel6Ideal.nD Cert.Kernel6Ideal.τ).loc Cert.Kernel6Ideal.main_v10_0) = v4 c
          ∧ r.2.mem ((c.tc : Thread Cert.Kernel6Ideal.nD Cert.Kernel6Ideal.τ).loc Cert.Kernel6Ideal.main_v10_1) = v5 c
          ∧ r.2.mem ((c.tc : Thread Cert.Kernel6Ideal.nD Cert.Kernel6Ideal.τ).loc Cert.Kernel6Ideal.main_v11_1) = v6 c
          ∧ r.2.mem ((c.tc : Thread Cert.Kernel6Ideal.nD Cert.Kernel6Ideal.τ).loc Cert.Kernel6Ideal.main_v12_1) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v120) = v0 c
          ∧ r.2.mem ((c.tc : Thread Cert.Reference6Ideal.nD Cert.Reference6Ideal.τ).loc Cert.Reference6Ideal.main_v122) = v1 c
          ∧ r.2.mem ((c.tc : Thread Cert.Reference6Ideal.nD Cert.Reference6Ideal.τ).loc Cert.Reference6Ideal.main_v124) = v2 c
          ∧ r.2.mem ((c.tc : Thread Cert.Reference6Ideal.nD Cert.Reference6Ideal.τ).loc Cert.Reference6Ideal.main_v125) = v3 c
          ∧ r.2.mem ((c.tc : Thread Cert.Reference6Ideal.nD Cert.Reference6Ideal.τ).loc Cert.Reference6Ideal.main_v128) = v4 c
          ∧ r.2.mem ((c.tc : Thread Cert.Reference6Ideal.nD Cert.Reference6Ideal.τ).loc Cert.Reference6Ideal.main_v131) = v5 c
          ∧ r.2.mem ((c.tc : Thread Cert.Reference6Ideal.nD Cert.Reference6Ideal.τ).loc Cert.Reference6Ideal.main_v132) = v6 c
          ∧ r.2.mem ((c.tc : Thread Cert.Reference6Ideal.nD Cert.Reference6Ideal.τ).loc Cert.Reference6Ideal.main_v133) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_2)) (v2 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_2) = v1 c
          ∧ r.2.mem ((c.tc : Thread Cert.Kernel7Ideal.nD Cert.Kernel7Ideal.τ).loc Cert.Kernel7Ideal.main_v3) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_v22) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_on_own_chunks [hKernel8Ideal : Cert.Kernel8Ideal.Facts] [hReference8Ideal : Cert.Reference8Ideal.Facts] [hPre_is_parity8 : Cert.Pre_is_parity8.Facts] [hOn_own_chunks : Cert.On_own_chunks.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          (∀ i : (⟨3, ![2, 2048, 5632]⟩ : Shape).Idx, (Cert.On_own_chunks.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 i = 1#1 → r.2.mem ((c.tc : Thread Cert.Kernel8Ideal.nD Cert.Kernel8Ideal.τ).loc Cert.Kernel8Ideal.main_v2_0) i = v0 c i)
          ∧ (∀ i : (⟨2, ![2048, 5632]⟩ : Shape).Idx, (Cert.On_own_chunks.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2 i = 1#1 → r.2.mem ((c.tc : Thread Cert.Kernel8Ideal.nD Cert.Kernel8Ideal.τ).loc Cert.Kernel8Ideal.main_v2_1) i = v1 c i)
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          (∀ i : (⟨3, ![2, 2048, 5632]⟩ : Shape).Idx, (Cert.On_own_chunks.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 i = 1#1 → r.2.mem ((c.tc : Thread Cert.Reference8Ideal.nD Cert.Reference8Ideal.τ).loc Cert.Reference8Ideal.main_v8) i = v0 c i)
          ∧ (∀ i : (⟨2, ![2048, 5632]⟩ : Shape).Idx, (Cert.On_own_chunks.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2 i = 1#1 → r.2.mem ((c.tc : Thread Cert.Reference8Ideal.nD Cert.Reference8Ideal.τ).loc Cert.Reference8Ideal.main_v11) i = v1 c i)
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] [hPre_is_parity9 : Cert.Pre_is_parity9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_on_own_slot [hKernel10Ideal : Cert.Kernel10Ideal.Facts] [hReference10Ideal : Cert.Reference10Ideal.Facts] [hPre_is_place : Cert.Pre_is_place.Facts] [hOn_own_slot : Cert.On_own_slot.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          (∀ i : (⟨3, ![4, 2048, 1408]⟩ : Shape).Idx, (Cert.On_own_slot.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).1 i = 1#1 → r.2.mem ((c.tc : Thread Cert.Kernel10Ideal.nD Cert.Kernel10Ideal.τ).loc Cert.Kernel10Ideal.main_v0_0) i = v0 c i)
          ∧ (∀ i : (⟨3, ![4, 2048, 1408]⟩ : Shape).Idx, (Cert.On_own_slot.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2 i = 1#1 → r.2.mem ((c.tc : Thread Cert.Kernel10Ideal.nD Cert.Kernel10Ideal.τ).loc Cert.Kernel10Ideal.main_v0_1) i = v1 c i)
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          (∀ i : (⟨3, ![4, 2048, 1408]⟩ : Shape).Idx, (Cert.On_own_slot.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).1 i = 1#1 → r.2.mem ((c.tc : Thread Cert.Reference10Ideal.nD Cert.Reference10Ideal.τ).loc Cert.Reference10Ideal.main_v27) i = v0 c i)
          ∧ (∀ i : (⟨3, ![4, 2048, 1408]⟩ : Shape).Idx, (Cert.On_own_slot.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))).2 i = 1#1 → r.2.mem ((c.tc : Thread Cert.Reference10Ideal.nD Cert.Reference10Ideal.τ).loc Cert.Reference10Ideal.main_v27) i = v1 c i)
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v34) = v0 c
          ∧ r.2.mem ((c.tc : Thread Cert.Reference12Ideal.nD Cert.Reference12Ideal.τ).loc Cert.Reference12Ideal.main_v36) = v1 c
          ∧ r.2.mem ((c.tc : Thread Cert.Reference12Ideal.nD Cert.Reference12Ideal.τ).loc Cert.Reference12Ideal.main_v37) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "mask" .f32 0xF149F2CA#32 ⊥

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v75) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite2 : Cert.Pre_finite2.Facts) (hPre_is_parity8 : Cert.Pre_is_parity8.Facts) (hPre_is_parity9 : Cert.Pre_is_parity9.Facts) (hPre_is_place : Cert.Pre_is_place.Facts) (hPre_finite13 : Cert.Pre_finite13.Facts) (hOn_own_chunks : Cert.On_own_chunks.Facts) (hOn_own_slot : Cert.On_own_slot.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_is_parity8 := hPre_is_parity8)
    ∧ quiescent_Kernel8Ideal (hKernel8Ideal := hKernel8Ideal) (hPre_is_parity8 := hPre_is_parity8)
    ∧ quiescent_Reference8Ideal (hReference8Ideal := hReference8Ideal)
    ∧ quiescent_Reference8Ideal_pre_is_parity8 (hReference8Ideal := hReference8Ideal) (hPre_is_parity8 := hPre_is_parity8)
    ∧ quiescent_Kernel9 (hKernel9 := hKernel9) (hPre_is_parity9 := hPre_is_parity9)
    ∧ quiescent_Kernel9Ideal (hKernel9Ideal := hKernel9Ideal) (hPre_is_parity9 := hPre_is_parity9)
    ∧ quiescent_Reference9Ideal (hReference9Ideal := hReference9Ideal)
    ∧ quiescent_Reference9Ideal_pre_is_parity9 (hReference9Ideal := hReference9Ideal) (hPre_is_parity9 := hPre_is_parity9)
    ∧ quiescent_Kernel10 (hKernel10 := hKernel10) (hPre_is_place := hPre_is_place)
    ∧ quiescent_Kernel10Ideal (hKernel10Ideal := hKernel10Ideal) (hPre_is_place := hPre_is_place)
    ∧ quiescent_Reference10Ideal (hReference10Ideal := hReference10Ideal)
    ∧ quiescent_Reference10Ideal_pre_is_place (hReference10Ideal := hReference10Ideal) (hPre_is_place := hPre_is_place)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_on_own_chunks (hKernel8Ideal := hKernel8Ideal) (hReference8Ideal := hReference8Ideal) (hPre_is_parity8 := hPre_is_parity8) (hOn_own_chunks := hOn_own_chunks)
    ∧ preserves_Kernel9_Kernel9Ideal
    ∧ algebraic_Kernel9Ideal_Reference9Ideal (hKernel9Ideal := hKernel9Ideal) (hReference9Ideal := hReference9Ideal) (hPre_is_parity9 := hPre_is_parity9)
    ∧ preserves_Kernel10_Kernel10Ideal
    ∧ algebraic_Kernel10Ideal_Reference10Ideal_on_own_slot (hKernel10Ideal := hKernel10Ideal) (hReference10Ideal := hReference10Ideal) (hPre_is_place := hPre_is_place) (hOn_own_slot := hOn_own_slot)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
-- ==== On_own_chunks.lean ====
abbrev S1 : Shape := ⟨1, ![1]⟩
abbrev S2048x2048 : Shape := ⟨2, ![2048, 2048]⟩
abbrev S2048x11264 : Shape := ⟨2, ![2048, 11264]⟩
abbrev S2x2048x5632 : Shape := ⟨3, ![2, 2048, 5632]⟩
abbrev S_ : Shape := ⟨0, ![]⟩
abbrev S2048x5632 : Shape := ⟨2, ![2048, 5632]⟩

class Facts : Prop where
  bcast_S_S2x2048x5632 : S_.BroadcastsInDim S2x2048x5632 (![] : Fin 0 → Fin S2x2048x5632.rank)
  shapeCasts_S1_S_ : S1.ShapeCasts S_
  bcast_S_S2048x5632 : S_.BroadcastsInDim S2048x5632 (![] : Fin 0 → Fin S2048x5632.rank)

variable [Facts]

def fn {F : FTy → Type} [FloatOps F] (main_arg0 : IVec S1 32) (main_arg1 : FVec F S2048x2048 .bf16) (main_arg2 : FVec F S2048x11264 .bf16) : IVec S2x2048x5632 1 × IVec S2048x5632 1 :=
  let main_v0 : IVec S2x2048x5632 32 := iotaInDim S2x2048x5632 32 2
  let main_c : IVec S_ 32 := constantI S_ 32 1408#32
  let main_v1 : IVec S2x2048x5632 32 := broadcastInDim S2x2048x5632 ![] bcast_S_S2x2048x5632 main_c
  let main_v2 : IVec S2x2048x5632 32 := Host.divsi main_v0 main_v1
  let main_c_0 : IVec S_ 32 := constantI S_ 32 2#32
  let main_v3 : IVec S2x2048x5632 32 := broadcastInDim S2x2048x5632 ![] bcast_S_S2x2048x5632 main_c_0
  let main_v4 : IVec S2x2048x5632 32 := Host.remsi main_v2 main_v3
  let main_v5 : IVec S_ 32 := shapeCast S_ main_arg0 shapeCasts_S1_S_
  let main_v6 : IVec S2x2048x5632 32 := broadcastInDim S2x2048x5632 ![] bcast_S_S2x2048x5632 main_v5
  let main_v7 : IVec S2x2048x5632 1 := cmpi .eq main_v4 main_v6
  let main_v8 : IVec S2048x5632 32 := iotaInDim S2048x5632 32 1
  let main_c_1 : IVec S_ 32 := constantI S_ 32 1408#32
  let main_v9 : IVec S2048x5632 32 := broadcastInDim S2048x5632 ![] bcast_S_S2048x5632 main_c_1
  let main_v10 : IVec S2048x5632 32 := Host.divsi main_v8 main_v9
  let main_c_2 : IVec S_ 32 := constantI S_ 32 2#32
  let main_v11 : IVec S2048x5632 32 := broadcastInDim S2048x5632 ![] bcast_S_S2048x5632 main_c_2
  let main_v12 : IVec S2048x5632 32 := Host.remsi main_v10 main_v11
  let main_v13 : IVec S_ 32 := shapeCast S_ main_arg0 shapeCasts_S1_S_
  let main_v14 : IVec S2048x5632 32 := broadcastInDim S2048x5632 ![] bcast_S_S2048x5632 main_v13
  let main_v15 : IVec S2048x5632 1 := cmpi .eq main_v12 main_v14
  (main_v7, main_v15)
-- ==== On_own_slot.lean ====
abbrev S2 : Shape := ⟨1, ![2]⟩
abbrev S2048x2048 : Shape := ⟨2, ![2048, 2048]⟩
abbrev S2x2048x5632 : Shape := ⟨3, ![2, 2048, 5632]⟩
abbrev S4x2048x1408 : Shape := ⟨3, ![4, 2048, 1408]⟩
abbrev S_ : Shape := ⟨0, ![]⟩

class Facts : Prop where
  bcast_S_S4x2048x1408 : S_.BroadcastsInDim S4x2048x1408 (![] : Fin 0 → Fin S4x2048x1408.rank)

variable [Facts]

def fn {F : FTy → Type} [FloatOps F] (main_arg0 : IVec S2 32) (main_arg1 : FVec F S2048x2048 .bf16) (main_arg2 : FVec F S2048x2048 .bf16) (main_arg3 : FVec F S2x2048x5632 .bf16) (main_arg4 : FVec F S2x2048x5632 .bf16) : IVec S4x2048x1408 1 × IVec S4x2048x1408 1 :=
  let main_v0 : IVec S4x2048x1408 32 := iotaInDim S4x2048x1408 32 0
  let main_c : IVec S_ 32 := constantI S_ 32 0#32
  let main_v1 : IVec S4x2048x1408 32 := broadcastInDim S4x2048x1408 ![] bcast_S_S4x2048x1408 main_c
  let main_v2 : IVec S4x2048x1408 1 := cmpi .sge main_v0 main_v1
  let main_c_0 : IVec S_ 32 := constantI S_ 32 0#32
  let main_v3 : IVec S4x2048x1408 32 := broadcastInDim S4x2048x1408 ![] bcast_S_S4x2048x1408 main_c_0
  let main_v4 : IVec S4x2048x1408 1 := cmpi .eq main_v0 main_v3
  (main_v2, main_v4)
-- ==== Pre_finite.lean ====
abbrev S2048x1024 : Shape := ⟨2, ![2048, 1024]⟩
abbrev S2048x256 : Shape := ⟨2, ![2048, 256]⟩
abbrev S16 : Shape := ⟨1, ![16]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2048x256 : S_.BroadcastsInDim S2048x256 (![] : Fin 0 → Fin S2048x256.rank)
  bcast_S_S16 : S_.BroadcastsInDim S16 (![] : Fin 0 → Fin S16.rank)

variable [Facts]

def fn {F : FTy → Type} [FloatOps F] (main_arg0 : FVec F S2048x1024 .bf16) (main_arg1 : FVec F S2048x256 .bf16) (main_arg2 : FVec F S2048x256 .bf16) (main_arg3 : FVec F S16 .f32) (main_arg4 : FVec F S2048x1024 .f32) : IVec S2048x1024 1 × IVec S2048x256 1 × IVec S2048x256 1 × IVec S16 1 × IVec S2048x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x256 .f32 := (extf .f32 · bitsLt_bf16_f32) main_arg1
  let main_v5 : FVec F S2048x256 .f32 := Host.absf main_v4
  let main_cst_0 : FVec F S_ .f32 := constant S_ .f32 0x7F800000#32
  let main_v6 : FVec F S2048x256 .f32 := broadcastInDim S2048x256 ![] bcast_S_S2048x256 main_cst_0
  let main_v7 : IVec S2048x256 1 := cmpf .olt main_v5 main_v6
  let main_v8 : FVec F S2048x256 .f32 := (extf .f32 · bitsLt_bf16_f32) main_arg2
  let main_v9 : FVec F S2048x256 .f32 := Host.absf main_v8
  let main_cst_1 : FVec F S_ .f32 := constant S_ .f32 0x7F800000#32
  let main_v10 : FVec F S2048x256 .f32 := broadcastInDim S2048x256 ![] bcast_S_S2048x256 main_cst_1
  let main_v11 : IVec S2048x256 1 := cmpf .olt main_v9 main_v10
  let main_v12 : FVec F S16 .f32 := Host.absf main_arg3
  let main_cst_2 : FVec F S_ .f32 := constant S_ .f32 0x7F800000#32
  let main_v13 : FVec F S16 .f32 := broadcastInDim S16 ![] bcast_S_S16 main_cst_2
  let main_v14 : IVec S16 1 := cmpf .olt main_v12 main_v13
  let main_v15 : FVec F S2048x1024 .f32 := Host.absf main_arg4
  let main_cst_3 : FVec F S_ .f32 := constant S_ .f32 0x7F800000#32
  let main_v16 : FVec F S2048x1024 .f32 := broadcastInDim S2048x1024 ![] bcast_S_S2048x1024 main_cst_3
  let main_v17 : IVec S2048x1024 1 := cmpf .olt main_v15 main_v16
  (main_v3, main_v7, main_v11, main_v14, main_v17)
-- ==== Pre_finite13.lean ====
abbrev S2048x1024 : Shape := ⟨2, ![2048, 1024]⟩
abbrev S2048x256 : Shape := ⟨2, ![2048, 256]⟩
abbrev S16 : Shape := ⟨1, ![16]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2048x256 : S_.BroadcastsInDim S2048x256 (![] : Fin 0 → Fin S2048x256.rank)
  bcast_S_S16 : S_.BroadcastsInDim S16 (![] : Fin 0 → Fin S16.rank)

variable [Facts]

def fn {F : FTy → Type} [FloatOps F] (main_arg0 : FVec F S2048x1024 .bf16) (main_arg1 : FVec F S2048x256 .bf16) (main_arg2 : FVec F S2048x256 .bf16) (main_arg3 : FVec F S16 .f32) : IVec S2048x1024 1 × IVec S2048x256 1 × IVec S16 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x256 .f32 := (extf .f32 · bitsLt_bf16_f32) main_arg1
  let main_v5 : FVec F S2048x256 .f32 := Host.absf main_v4
  let main_cst_0 : FVec F S_ .f32 := constant S_ .f32 0x7F800000#32
  let main_v6 : FVec F S2048x256 .f32 := broadcastInDim S2048x256 ![] bcast_S_S2048x256 main_cst_0
  let main_v7 : IVec S2048x256 1 := cmpf .olt main_v5 main_v6
  let main_v8 : FVec F S16 .f32 := Host.absf main_arg3
  let main_cst_1 : FVec F S_ .f32 := constant S_ .f32 0x7F800000#32
  let main_v9 : FVec F S16 .f32 := broadcastInDim S16 ![] bcast_S_S16 main_cst_1
  let main_v10 : IVec S16 1 := cmpf .olt main_v8 main_v9
  (main_v3, main_v7, main_v10)
-- ==== Pre_finite2.lean ====
abbrev S2048x2048 : Shape := ⟨2, ![2048, 2048]⟩
abbrev S2048x11264 : Shape := ⟨2, ![2048, 11264]⟩
abbrev S5632x2048 : Shape := ⟨2, ![5632, 2048]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S2048x11264 : S_.BroadcastsInDim S2048x11264 (![] : Fin 0 → Fin S2048x11264.rank)
  bcast_S_S5632x2048 : S_.BroadcastsInDim S5632x2048 (![] : Fin 0 → Fin S5632x2048.rank)

variable [Facts]

def fn {F : FTy → Type} [FloatOps F] (main_arg0 : FVec F S2048x2048 .bf16) (main_arg1 : FVec F S2048x11264 .bf16) (main_arg2 : FVec F S5632x2048 .bf16) (main_arg3 : FVec F S2048x2048 .f32) (main_arg4 : FVec F S2048x2048 .bf16) : IVec S2048x2048 1 × IVec S2048x11264 1 × IVec S5632x2048 1 × IVec S2048x2048 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S2048x11264 .f32 := (extf .f32 · bitsLt_bf16_f32) main_arg1
  let main_v5 : FVec F S2048x11264 .f32 := Host.absf main_v4
  let main_cst_0 : FVec F S_ .f32 := constant S_ .f32 0x7F800000#32
  let main_v6 : FVec F S2048x11264 .f32 := broadcastInDim S2048x11264 ![] bcast_S_S2048x11264 main_cst_0
  let main_v7 : IVec S2048x11264 1 := cmpf .olt main_v5 main_v6
  let main_v8 : FVec F S5632x2048 .f32 := (extf .f32 · bitsLt_bf16_f32) main_arg2
  let main_v9 : FVec F S5632x2048 .f32 := Host.absf main_v8
  let main_cst_1 : FVec F S_ .f32 := constant S_ .f32 0x7F800000#32
  let main_v10 : FVec F S5632x2048 .f32 := broadcastInDim S5632x2048 ![] bcast_S_S5632x2048 main_cst_1
  let main_v11 : IVec S5632x2048 1 := cmpf .olt main_v9 main_v10
  let main_v12 : FVec F S2048x2048 .f32 := (extf .f32 · bitsLt_bf16_f32) main_arg4
  let main_v13 : FVec F S2048x2048 .f32 := Host.absf main_v12
  let main_cst_2 : FVec F S_ .f32 := constant S_ .f32 0x7F800000#32
  let main_v14 : FVec F S2048x2048 .f32 := broadcastInDim S2048x2048 ![] bcast_S_S2048x2048 main_cst_2
  let main_v15 : IVec S2048x2048 1 := cmpf .olt main_v13 main_v14
  (main_v3, main_v7, main_v11, main_v15)
-- ==== Pre_is_parity8.lean ====
abbrev S1 : Shape := ⟨1, ![1]⟩
abbrev S2048x2048 : Shape := ⟨2, ![2048, 2048]⟩
abbrev S2048x11264 : Shape := ⟨2, ![2048, 11264]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2048x2048 .bf16) (main_arg2 : FVec F S2048x11264 .bf16) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== Pre_is_parity9.lean ====
abbrev S1 : Shape := ⟨1, ![1]⟩
abbrev S2048x2048 : Shape := ⟨2, ![2048, 2048]⟩
abbrev S2048x11264 : Shape := ⟨2, ![2048, 11264]⟩
abbrev S2x2048x5632 : Shape := ⟨3, ![2, 2048, 5632]⟩
abbrev S2048x5632 : Shape := ⟨2, ![2048, 5632]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S2048x2048 .bf16) (main_arg2 : FVec F S2048x11264 .bf16) (main_arg3 : FVec F S2x2048x5632 .bf16) (main_arg4 : FVec F S2048x5632 .bf16) : IVec S1 1 :=
  let main_c : IVec S_ 32 := constantI S_ 32 0#32
  let main_v0 : IVec S1 32 := broadcastInDim S1 ![] bcast_S_S1 main_c
  let main_v1 : IVec S1 1 := cmpi .eq main_arg0 main_v0
  let main_c_0 : IVec S_ 32 := constantI S_ 32 1#32
  let main_v2 : IVec S1 32 := broadcastInDim S1 ![] bcast_S_S1 main_c_0
  let main_v3 : IVec S1 1 := cmpi .eq main_arg0 main_v2
  let main_v4 : IVec S1 1 := ori main_v1 main_v3
  main_v4
-- ==== Pre_is_place.lean ====
abbrev S2 : Shape := ⟨1, ![2]⟩
abbrev S2048x2048 : Shape := ⟨2, ![2048, 2048]⟩
abbrev S2x2048x5632 : Shape := ⟨3, ![2, 2048, 5632]⟩
abbrev S_ : Shape := ⟨0, ![]⟩

class Facts : Prop where
  bcast_S_S2 : S_.BroadcastsInDim S2 (![] : Fin 0 → Fin S2.rank)

variable [Facts]

def fn {F : FTy → Type} [FloatOps F] (main_arg0 : IVec S2 32) (main_arg1 : FVec F S2048x2048 .bf16) (main_arg2 : FVec F S2048x2048 .bf16) (main_arg3 : FVec F S2x2048x5632 .bf16) (main_arg4 : FVec F S2x2048x5632 .bf16) : IVec S2 1 :=
  let main_c : IVec S_ 32 := constantI S_ 32 0#32
  let main_v0 : IVec S2 32 := broadcastInDim S2 ![] bcast_S_S2 main_c
  let main_v1 : IVec S2 1 := cmpi .sge main_arg0 main_v0
  let main_v2 : IVec S2 32 := iotaInDim S2 32 0
  let main_c_0 : IVec S_ 32 := constantI S_ 32 1#32
  let main_v3 : IVec S2 32 := broadcastInDim S2 ![] bcast_S_S2 main_c_0
  let main_v4 : IVec S2 32 := subi main_v3 main_v2
  let main_v5 : IVec S2 1 := cmpi .sle main_arg0 main_v4
  let main_v6 : IVec S2 1 := andi main_v1 main_v5
  main_v6
-- ==== Kernel.lean ====
abbrev S2048x1024 : Shape := ⟨2, ![2048, 1024]⟩
abbrev S2048x256 : Shape := ⟨2, ![2048, 256]⟩
abbrev S16 : Shape := ⟨1, ![16]⟩
abbrev S16x1 : Shape := ⟨2, ![16, 1]⟩
abbrev S16x128 : Shape := ⟨2, ![16, 128]⟩
abbrev S128x1024 : Shape := ⟨2, ![128, 1024]⟩
abbrev S128x256 : Shape := ⟨2, ![128, 256]⟩
abbrev S256x512 : Shape := ⟨2, ![256, 512]⟩
abbrev S128x64 : Shape := ⟨2, ![128, 64]⟩
abbrev S256x64 : Shape := ⟨2, ![256, 64]⟩
abbrev S512x64 : Shape := ⟨2, ![512, 64]⟩
abbrev S1x128 : Shape := ⟨2, ![1, 128]⟩
abbrev S1x512 : Shape := ⟨2, ![1, 512]⟩
abbrev S512 : Shape := ⟨1, ![512]⟩
abbrev S1 : Shape := ⟨1, ![1]⟩
abbrev S1x1 : Shape := ⟨2, ![1, 1]⟩

abbrev nBuf : Space → Nat
  | .hbm => 13
  | .vmem => 24
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x256, .bf16⟩
  | .hbm, ⟨3, _⟩ => ⟨S16, .f32⟩
  | .hbm, ⟨4, _⟩ => ⟨S2048x1024, .f32⟩
  | .hbm, ⟨5, _⟩ => ⟨S16x1, .f32⟩
  | .hbm, ⟨6, _⟩ => ⟨S16x128, .f32⟩
  | .hbm, ⟨7, _⟩ => ⟨S2048x1024, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .hbm, ⟨12, _⟩ => ⟨S16x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S16x128, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S16x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x1024 : Shape := ⟨2, ![2048, 1024]⟩
abbrev S2048x256 : Shape := ⟨2, ![2048, 256]⟩
abbrev S16 : Shape := ⟨1, ![16]⟩
abbrev S1x2048x16x64 : Shape := ⟨4, ![1, 2048, 16, 64]⟩
abbrev S1x2048x4x64 : Shape := ⟨4, ![1, 2048, 4, 64]⟩
abbrev S_ : Shape := ⟨0, ![]⟩
abbrev S1x2176x4x64 : Shape := ⟨4, ![1, 2176, 4, 64]⟩
abbrev S1x17x128x4x64 : Shape := ⟨5, ![1, 17, 128, 4, 64]⟩
abbrev S1x16x128x4x64 : Shape := ⟨5, ![1, 16, 128, 4, 64]⟩
abbrev S1x16x128x4x4x64 : Shape := ⟨6, ![1, 16, 128, 4, 4, 64]⟩
abbrev S1x16x256x4x64 : Shape := ⟨5, ![1, 16, 256, 4, 64]⟩
abbrev S1x16x4x256x128x4 : Shape := ⟨6, ![1, 16, 4, 256, 128, 4]⟩
abbrev S1x16x4x4x128x256 : Shape := ⟨6, ![1, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S1x1x4x4x1x1 : Shape := ⟨6, ![1, 1, 4, 4, 1, 1]⟩
abbrev S1x16x4x4x128 : Shape := ⟨5, ![1, 16, 4, 4, 128]⟩
abbrev S1x16x4x4x128x1 : Shape := ⟨6, ![1, 16, 4, 4, 128, 1]⟩
abbrev S1x16x4x64x4x128 : Shape := ⟨6, ![1, 16, 4, 64, 4, 128]⟩
abbrev S1x2048x1024 : Shape := ⟨3, ![1, 2048, 1024]⟩
abbrev S1x16x4x64x256 : Shape := ⟨5, ![1, 16, 4, 64, 256]⟩
abbrev S1x4x4x1 : Shape := ⟨4, ![1, 4, 4, 1]⟩
abbrev S16x4x4x128 : Shape := ⟨4, ![16, 4, 4, 128]⟩
abbrev S1x16x4x128x4x64 : Shape := ⟨6, ![1, 16, 4, 128, 4, 64]⟩
abbrev S1x16x4x256x64 : Shape := ⟨5, ![1, 16, 4, 256, 64]⟩
abbrev S16x128 : Shape := ⟨2, ![16, 128]⟩

abbrev nBuf : Space → Nat
  | .hbm => 200
  | .vmem => 0
  | .smem => 0
  | _ => 0

abbrev hbmTy0_0 (i : Nat) : BufTy := match i % 128 with
  | 0 => ⟨S2048x1024, .bf16⟩
  | 1 => ⟨S2048x256, .bf16⟩
  | 2 => ⟨S2048x256, .bf16⟩
  | 3 => ⟨S16, .f32⟩
  | 4 => ⟨S2048x1024, .f32⟩
  | 5 => ⟨S2048x1024, .f32⟩
  | 6 => ⟨S1x2048x16x64, .f32⟩
  | 7 => ⟨S2048x256, .f32⟩
  | 8 => ⟨S1x2048x4x64, .f32⟩
  | 9 => ⟨S_, .i32⟩
  | 10 => ⟨S_, .f32⟩
  | 11 => ⟨S1x2176x4x64, .f32⟩
  | 12 => ⟨S1x17x128x4x64, .f32⟩
  | 13 => ⟨S1x16x128x4x64, .f32⟩
  | 14 => ⟨S1x16x128x4x64, .f32⟩
  | 15 => ⟨S2048x256, .f32⟩
  | 16 => ⟨S1x2048x4x64, .f32⟩
  | 17 => ⟨S_, .i32⟩
  | 18 => ⟨S_, .f32⟩
  | 19 => ⟨S1x2176x4x64, .f32⟩
  | 20 => ⟨S1x17x128x4x64, .f32⟩
  | 21 => ⟨S1x16x128x4x64, .f32⟩
  | 22 => ⟨S1x16x128x4x64, .f32⟩
  | 23 => ⟨S1x16x128x4x4x64, .f32⟩
  | 24 => ⟨S1x16x256x4x64, .f32⟩
  | 25 => ⟨S1x16x256x4x64, .f32⟩
  | 26 => ⟨S1x16x4x256x128x4, .f32⟩
  | 27 => ⟨S1x16x4x4x128x256, .f32⟩
  | 28 => ⟨S_, .f32⟩
  | 29 => ⟨S1x16x4x4x128x256, .f32⟩
  | 30 => ⟨S1x16x4x4x128x256, .f32⟩
  | 31 => ⟨S128, .i32⟩
  | 32 => ⟨S128x1, .i32⟩
  | 33 => ⟨S_, .i32⟩
  | 34 => ⟨S128x1, .i32⟩
  | 35 => ⟨S128x1, .i32⟩
  | 36 => ⟨S256, .i32⟩
  | 37 => ⟨S1x256, .i32⟩
  | 38 => ⟨S128x256, .i32⟩
  | 39 => ⟨S128x256, .i32⟩
  | 40 => ⟨S128x256, .i32⟩
  | 41 => ⟨S_, .i32⟩
  | 42 => ⟨S128x256, .i32⟩
  | 43 => ⟨S128x256, .i1⟩
  | 44 => ⟨S_, .i32⟩
  | 45 => ⟨S128x256, .i32⟩
  | 46 => ⟨S128x256, .i1⟩
  | 47 => ⟨S128x256, .i1⟩
  | 48 => ⟨S16, .i32⟩
  | 49 => ⟨S16x1, .i32⟩
  | 50 => ⟨S_, .i32⟩
  | 51 => ⟨S16x1, .i32⟩
  | 52 => ⟨S16x1, .i32⟩
  | 53 => ⟨S256, .i32⟩
  | 54 => ⟨S1x256, .i32⟩
  | 55 => ⟨S16x256, .i32⟩
  | 56 => ⟨S16x256, .i32⟩
  | 57 => ⟨S16x256, .i32⟩
  | 58 => ⟨S_, .i32⟩
  | 59 => ⟨S16x256, .i32⟩
  | 60 => ⟨S16x256, .i32⟩
  | 61 => ⟨S1x128x256, .i1⟩
  | 62 => ⟨S_, .i32⟩
  | 63 => ⟨S16x256, .i32⟩
  | 64 => ⟨S16x256, .i1⟩
  | 65 => ⟨S16x1x256, .i1⟩
  | 66 => ⟨S16x128x256, .i1⟩
  | 67 => ⟨S16x128x256, .i1⟩
  | 68 => ⟨S16x128x256, .i1⟩
  | 69 => ⟨S1x16x1x1x128x256, .i1⟩
  | 70 => ⟨S_, .f32⟩
  | 71 => ⟨S_, .f32⟩
  | 72 => ⟨S1x16x4x4x128x256, .i1⟩
  | 73 => ⟨S1x16x4x4x128x256, .f32⟩
  | 74 => ⟨S1x16x4x4x128x256, .f32⟩
  | 75 => ⟨S_, .f32⟩
  | 76 => ⟨S1x16x4x4x128x256, .f32⟩
  | 77 => ⟨S1x1x4x4x1x1, .f32⟩
  | 78 => ⟨S_, .f32⟩
  | 79 => ⟨S1x16x4x4x128, .f32⟩
  | 80 => ⟨S1x16x4x4x128x1, .f32⟩
  | 81 => ⟨S1x16x4x4x128x256, .f32⟩
  | 82 => ⟨S1x16x4x4x128x256, .i1⟩
  | 83 => ⟨S1x16x4x4x128x256, .f32⟩
  | 84 => ⟨S_, .f32⟩
  | 85 => ⟨S1x16x4x4x128, .f32⟩
  | 86 => ⟨S1x16x4x4x128x1, .f32⟩
  | 87 => ⟨S1x16x4x4x128x1, .f32⟩
  | 88 => ⟨S1x16x4x4x128x1, .f32⟩
  | 89 => ⟨S1x16x4x4x128x1, .f32⟩
  | 90 => ⟨S1x16x4x4x128x1, .i1⟩
  | 91 => ⟨S1x16x4x4x128x1, .f32⟩
  | 92 => ⟨S1x16x4x4x128x1, .i1⟩
  | 93 => ⟨S_, .f32⟩
  | 94 => ⟨S1x16x4x4x128x1, .f32⟩
  | 95 => ⟨S_, .f32⟩
  | 96 => ⟨S1x16x4x4x128x1, .f32⟩
  | 97 => ⟨S_, .f32⟩
  | 98 => ⟨S1x16x4x4x128x1, .f32⟩
  | 99 => ⟨S1x16x4x4x128x1, .f32⟩
  | 100 => ⟨S1x16x4x4x128x1, .f32⟩
  | 101 => ⟨S1x16x4x4x128x1, .f32⟩
  | 102 => ⟨S1x16x4x4x128x1, .i1⟩
  | 103 => ⟨S1x16x4x4x128x1, .f32⟩
  | 104 => ⟨S1x16x4x4x128x1, .i1⟩
  | 105 => ⟨S_, .f32⟩
  | 106 => ⟨S1x16x4x4x128x1, .f32⟩
  | 107 => ⟨S_, .f32⟩
  | 108 => ⟨S1x16x4x4x128x1, .f32⟩
  | 109 => ⟨S_, .f32⟩
  | 110 => ⟨S1x16x4x4x128x1, .f32⟩
  | 111 => ⟨S1x16x4x4x128x1, .f32⟩
  | 112 => ⟨S1x16x4x4x128x1, .f32⟩
  | 113 => ⟨S1x16x4x4x128x256, .f32⟩
  | 114 => ⟨S1x16x4x4x128x256, .f32⟩
  | 115 => ⟨S1x16x4x4x128x256, .f32⟩
  | 116 => ⟨S_, .f32⟩
  | 117 => ⟨S1x16x4x4x128, .f32⟩
  | 118 => ⟨S1x16x4x4x128x1, .f32⟩
  | 119 => ⟨S1x16x4x4x128x1, .f32⟩
  | 120 => ⟨S1x16x4x4x128x1, .f32⟩
  | 121 => ⟨S1x16x4x4x128x1, .f32⟩
  | 122 => ⟨S1x16x4x4x128x1, .f32⟩
  | 123 => ⟨S1x16x4x4x128x256, .f32⟩
  | 124 => ⟨S1x16x4x4x128x256, .f32⟩
  | 125 => ⟨S1x16x4x4x128x1, .f32⟩
  | 126 => ⟨S_, .f32⟩
  | 127 => ⟨S1x16x4x4x128x1, .f32⟩
  | _ => ⟨S2048x1024, .bf16⟩

abbrev hbmTy0_1 (i : Nat) : BufTy := match i % 128 with
  | 0 => ⟨S1x16x4x4x128x1, .f32⟩
  | 1 => ⟨S1x16x4x64x4x128, .f32⟩
  | 2 => ⟨S1x16x128x4x4x64, .f32⟩
  | 3 => ⟨S1x2048x1024, .f32⟩
  | 4 => ⟨S1x2048x1024, .f32⟩
  | 5 => ⟨S1x16x128x4x4x64, .f32⟩
  | 6 => ⟨S1x16x4x64x4x128, .f32⟩
  | 7 => ⟨S1x16x4x4x128x256, .f32⟩
  | 8 => ⟨S1x16x4x64x256, .f32⟩
  | 9 => ⟨S1x16x256x4x64, .f32⟩
  | 10 => ⟨S1x16x4x4x128x256, .f32⟩
  | 11 => ⟨S1x16x4x4x128x256, .f32⟩
  | 12 => ⟨S1x16x4x4x128x256, .f32⟩
  | 13 => ⟨S_, .f32⟩
  | 14 => ⟨S1x16x4x4x128, .f32⟩
  | 15 => ⟨S1x16x4x4x128x1, .f32⟩
  | 16 => ⟨S1x16x4x4x128x1, .f32⟩
  | 17 => ⟨S1x16x4x4x128x256, .f32⟩
  | 18 => ⟨S1x16x4x4x128x256, .f32⟩
  | 19 => ⟨S1x16x4x4x128x1, .f32⟩
  | 20 => ⟨S_, .f32⟩
  | 21 => ⟨S1x4x4x1, .f32⟩
  | 22 => ⟨S1x1x4x4x1x1, .f32⟩
  | 23 => ⟨S1x16x4x4x128x1, .f32⟩
  | 24 => ⟨S_, .f32⟩
  | 25 => ⟨S16x4x4x128, .f32⟩
  | 26 => ⟨S1x16x4x4x128, .f32⟩
  | 27 => ⟨S1x16x4x4x128x256, .f32⟩
  | 28 => ⟨S1x16x4x4x128x256, .f32⟩
  | 29 => ⟨S1x16x4x4x128x256, .f32⟩
  | 30 => ⟨S1x16x4x4x128x256, .f32⟩
  | 31 => ⟨S_, .f32⟩
  | 32 => ⟨S1x16x4x4x128, .f32⟩
  | 33 => ⟨S1x16x4x4x128x1, .f32⟩
  | 34 => ⟨S1x16x4x4x128x1, .f32⟩
  | 35 => ⟨S1x16x4x4x128x1, .f32⟩
  | 36 => ⟨S_, .f32⟩
  | 37 => ⟨S1x4x4x1, .f32⟩
  | 38 => ⟨S1x1x4x4x1x1, .f32⟩
  | 39 => ⟨S1x1x4x4x1x1, .f32⟩
  | 40 => ⟨S1x16x4x4x128x1, .f32⟩
  | 41 => ⟨S_, .f32⟩
  | 42 => ⟨S16x4x4x128, .f32⟩
  | 43 => ⟨S1x16x4x4x128, .f32⟩
  | 44 => ⟨S1x16x4x4x128, .f32⟩
  | 45 => ⟨S1x16x4x4x128x256, .f32⟩
  | 46 => ⟨S1x16x4x4x128x256, .f32⟩
  | 47 => ⟨S1x16x4x4x128x256, .f32⟩
  | 48 => ⟨S16, .f32⟩
  | 49 => ⟨S_, .f32⟩
  | 50 => ⟨S1x16x4x4x128x256, .f32⟩
  | 51 => ⟨S1x16x4x4x128x256, .f32⟩
  | 52 => ⟨S_, .f32⟩
  | 53 => ⟨S1x16x4x4x128x256, .f32⟩
  | 54 => ⟨S1x16x4x4x128x256, .f32⟩
  | 55 => ⟨S1x16x4x256x128x4, .f32⟩
  | 56 => ⟨S1x16x4x128x4x64, .f32⟩
  | 57 => ⟨S1x16x128x4x4x64, .f32⟩
  | 58 => ⟨S1x16x4x256x64, .f32⟩
  | 59 => ⟨S1x16x256x4x64, .f32⟩
  | 60 => ⟨S1x16x128x4x64, .f32⟩
  | 61 => ⟨S1x16x128x4x64, .f32⟩
  | 62 => ⟨S1x16x128x4x64, .f32⟩
  | 63 => ⟨S1x16x128x4x64, .f32⟩
  | 64 => ⟨S1x2048x16x64, .f32⟩
  | 65 => ⟨S2048x1024, .f32⟩
  | 66 => ⟨S2048x256, .f32⟩
  | 67 => ⟨S2048x256, .f32⟩
  | 68 => ⟨S2048x256, .f32⟩
  | 69 => ⟨S2048x256, .f32⟩
  | 70 => ⟨S16x1, .f32⟩
  | 71 => ⟨S16x128, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_c_3 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_6 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_7 : Ref sig .tc := ⟨.hbm, 70, rfl⟩
abbrev main_call2_v0 : Ref sig .tc := ⟨.hbm, 71, rfl⟩
abbrev main_v54_1 : Ref sig .tc := ⟨.hbm, 72, rfl⟩
abbrev main_call2_v2 : Ref sig .tc := ⟨.hbm, 73, rfl⟩
abbrev main_v54_0 : Ref sig .tc := ⟨.hbm, 74, rfl⟩
abbrev main_call2_cst : Ref sig .tc := ⟨.hbm, 75, rfl⟩
abbrev main_v54_2 : Ref sig .tc := ⟨.hbm, 76, rfl⟩
abbrev main_v55 : Ref sig .tc := ⟨.hbm, 77, rfl⟩
abbrev main_cst_8 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_10 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_cst_12 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_cst_14 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_16 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_17 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_18 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_19 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_20 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_21 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_22 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_23 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_call3_cst : Ref sig .tc := ⟨.hbm, 177, rfl⟩
abbrev main_call3_v0 : Ref sig .tc := ⟨.hbm, 178, rfl⟩
abbrev main_v139 : Ref sig .tc := ⟨.hbm, 179, rfl⟩
abbrev main_cst_24 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩

abbrev nD : Nat := 1
abbrev τ : Topo := Topo.v7x

variable {F : FTy → Type} [FloatOps F]
-- ==== Kernel2.lean ====
abbrev S2048x2048 : Shape := ⟨2, ![2048, 2048]⟩
abbrev S2048x11264 : Shape := ⟨2, ![2048, 11264]⟩
abbrev S5632x2048 : Shape := ⟨2, ![5632, 2048]⟩
abbrev S2048x8x1408 : Shape := ⟨3, ![2048, 8, 1408]⟩
abbrev S8x2048x1408 : Shape := ⟨3, ![8, 2048, 1408]⟩
abbrev S2x2048x5632 : Shape := ⟨3, ![2, 2048, 5632]⟩
abbrev S2048x5632 : Shape := ⟨2, ![2048, 5632]⟩
abbrev S512x2048 : Shape := ⟨2, ![512, 2048]⟩
abbrev S1x2048x1408 : Shape := ⟨3, ![1, 2048, 1408]⟩
abbrev S2x512x1408 : Shape := ⟨3, ![2, 512, 1408]⟩
abbrev S512x1408 : Shape := ⟨2, ![512, 1408]⟩
abbrev S1x2048x256 : Shape := ⟨3, ![1, 2048, 256]⟩
abbrev S2048x256 : Shape := ⟨2, ![2048, 256]⟩
abbrev S512x256 : Shape := ⟨2, ![512, 256]⟩
abbrev S1x512x256 : Shape := ⟨3, ![1, 512, 256]⟩
abbrev S1x2048x128 : Shape := ⟨3, ![1, 2048, 128]⟩
abbrev S2048x128 : Shape := ⟨2, ![2048, 128]⟩
abbrev S512x128 : Shape := ⟨2, ![512, 128]⟩
abbrev S1x512x128 : Shape := ⟨3, ![1, 512, 128]⟩
abbrev S512x5632 : Shape := ⟨2, ![512, 5632]⟩
abbrev S5632x1024 : Shape := ⟨2, ![5632, 1024]⟩
abbrev S512x1024 : Shape := ⟨2, ![512, 1024]⟩
abbrev S1408x2048 : Shape := ⟨2, ![1408, 2048]⟩
abbrev S256x2048 : Shape := ⟨2, ![256, 2048]⟩
abbrev S128x2048 : Shape := ⟨2, ![128, 2048]⟩
abbrev S2048x1408 : Shape := ⟨2, ![2048, 1408]⟩
abbrev S2048x512 : Shape := ⟨2, ![2048, 512]⟩
abbrev S1408x512 : Shape := ⟨2, ![1408, 512]⟩
abbrev S8x1024x1408 : Shape := ⟨3, ![8, 1024, 1408]⟩
abbrev S1x512x1408 : Shape := ⟨3, ![1, 512, 1408]⟩

abbrev nBuf : Space → Nat
  | .hbm => 15
  | .vmem => 46
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S5632x2048, .bf16⟩
  | .hbm, ⟨3, _⟩ => ⟨S2048x2048, .f32⟩
  | .hbm, ⟨4, _⟩ => ⟨S2048x2048, .bf16⟩
  | .hbm, ⟨5, _⟩ => ⟨S2048x8x1408, .bf16⟩
  | .hbm, ⟨6, _⟩ => ⟨S8x2048x1408, .bf16⟩
  | .hbm, ⟨7, _⟩ => ⟨S2x2048x5632, .bf16⟩
  | .hbm, ⟨8, _⟩ => ⟨S2048x5632, .bf16⟩
  | .hbm, ⟨9, _⟩ => ⟨S2048x2048, .f32⟩
  | .hbm, ⟨10, _⟩ => ⟨S2x2048x5632, .bf16⟩
  | .hbm, ⟨11, _⟩ => ⟨S2048x5632, .bf16⟩
  | .hbm, ⟨12, _⟩ => ⟨S5632x2048, .bf16⟩
  | .hbm, ⟨13, _⟩ => ⟨S8x1024x1408, .bf16⟩
  | .hbm, ⟨14, _⟩ => ⟨S8x1024x1408, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x5632, .bf16⟩
  | .local _ .vmem, ⟨11, _⟩ => ⟨S512x5632, .bf16⟩
  | .local _ .vmem, ⟨12, _⟩ => ⟨S5632x1024, .bf16⟩
  | .local _ .vmem, ⟨13, _⟩ => ⟨S5632x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x2048, .bf16⟩
  | .local _ .vmem, ⟨19, _⟩ => ⟨S512x2048, .bf16⟩
  | .local _ .vmem, ⟨20, _⟩ => ⟨S1408x2048, .bf16⟩
  | .local _ .vmem, ⟨21, _⟩ => ⟨S1408x2048, .bf16⟩
  | .local _ .vmem, ⟨22, _⟩ => ⟨S2x512x1408, .bf16⟩
  | .local _ .vmem, ⟨23, _⟩ => ⟨S2x512x1408, .bf16⟩
  | .local _ .vmem, ⟨24, _⟩ => ⟨S2x512x1408, .bf16⟩
  | .local _ .vmem, ⟨25, _⟩ => ⟨S2x512x1408, .bf16⟩
  | .local _ .vmem, ⟨26, _⟩ => ⟨S512x1408, .bf16⟩
  | .local _ .vmem, ⟨27, _⟩ => ⟨S512x1408, .bf16⟩
  | .local _ .vmem, ⟨28, _⟩ => ⟨S2048x1408, .bf16⟩
  | .local _ .vmem, ⟨29, _⟩ => ⟨S2048x1408, .bf16⟩
  | .local _ .vmem, ⟨30, _⟩ => ⟨S2048x512, .bf16⟩
  | .local _ .vmem, ⟨31, _⟩ => ⟨S2048x512, .bf16⟩
  | .local _ .vmem, ⟨32, _⟩ => ⟨S1408x512, .bf16⟩
  | .local _ .vmem, ⟨33, _⟩ => ⟨S1408x512, .bf16⟩
  | .local _ .vmem, ⟨34, _⟩ => ⟨S2048x512, .bf16⟩
  | .local _ .vmem, ⟨35, _⟩ => ⟨S2048x512, .bf16⟩
  | .local _ .vmem, ⟨36, _⟩ => ⟨S1x2048x1408, .bf16⟩
  | .local _ .vmem, ⟨37, _⟩ => ⟨S1x2048x1408, .bf16⟩
  | .local _ .vmem, ⟨38, _⟩ => ⟨S1x512x1408, .bf16⟩
  | .local _ .vmem, ⟨39, _⟩ => ⟨S1x512x1408, .bf16⟩
  | .local _ .vmem, ⟨40, _⟩ => ⟨S2048x512, .bf16⟩
  | .local _ .vmem, ⟨41, _⟩ => ⟨S2048x512, .bf16⟩
  | .local _ .vmem, ⟨42, _⟩ => ⟨S1x2048x1408, .bf16⟩
  | .local _ .vmem, ⟨43, _⟩ => ⟨S1x2048x1408, .bf16⟩
  | .local _ .vmem, ⟨44, _⟩ => ⟨S1x512x1408, .bf16⟩
  | .local _ .vmem, ⟨45, _⟩ => ⟨S1x512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg1_1 : Ref sig .tc := ⟨.vmem, 43, rfl⟩
abbrev cc5_stg2_0 : Ref sig .tc := ⟨.vmem, 44, rfl⟩
abbrev cc5_stg2_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![2, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S5632x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1408x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2x512x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2x512x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨3, ![4, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S2048x1408 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, false]

abbrev stage3_2 : Fin 2 → Memref sig .tc .vmem S1408x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![8, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, false]

abbrev stage4_1 : Fin 2 → Memref sig .tc .vmem S1x2048x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, false]

abbrev stage4_2 : Fin 2 → Memref sig .tc .vmem S1x512x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![8, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc5_transform_1 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, false]

abbrev stage5_1 : Fin 2 → Memref sig .tc .vmem S1x2048x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, false]

abbrev stage5_2 : Fin 2 → Memref sig .tc .vmem S1x512x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference2Ideal.lean ====
abbrev S2048x2048 : Shape := ⟨2, ![2048, 2048]⟩
abbrev S2048x11264 : Shape := ⟨2, ![2048, 11264]⟩
abbrev S5632x2048 : Shape := ⟨2, ![5632, 2048]⟩
abbrev S2048x5632 : Shape := ⟨2, ![2048, 5632]⟩
abbrev S_ : Shape := ⟨0, ![]⟩
abbrev S11264x2048 : Shape := ⟨2, ![11264, 2048]⟩
abbrev S2048x8x1408 : Shape := ⟨3, ![2048, 8, 1408]⟩
abbrev S8x2048x1408 : Shape := ⟨3, ![8, 2048, 1408]⟩
abbrev S2048x2x5632 : Shape := ⟨3, ![2048, 2, 5632]⟩
abbrev S2x2048x5632 : Shape := ⟨3, ![2, 2048, 5632]⟩
abbrev S8x1024x1408 : Shape := ⟨3, ![8, 1024, 1408]⟩

abbrev nBuf : Space → Nat
  | .hbm => 57
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S5632x2048, .bf16⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S2048x11264, .f32⟩
  | .hbm, ⟨7, _⟩ => ⟨S2048x11264, .f32⟩
  | .hbm, ⟨8, _⟩ => ⟨S5632x2048, .f32⟩
  | .hbm, ⟨9, _⟩ => ⟨S2048x5632, .f32⟩
  | .hbm, ⟨10, _⟩ => ⟨S2048x5632, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S2048x5632, .f32⟩
  | .hbm, ⟨35, _⟩ => ⟨S5632x2048, .f32⟩
  | .hbm, ⟨36, _⟩ => ⟨S2048x5632, .f32⟩
  | .hbm, ⟨37, _⟩ => ⟨S2048x5632, .f32⟩
  | .hbm, ⟨38, _⟩ => ⟨S2048x5632, .f32⟩
  | .hbm, ⟨39, _⟩ => ⟨S2048x5632, .f32⟩
  | .hbm, ⟨40, _⟩ => ⟨S2048x5632, .f32⟩
  | .hbm, ⟨41, _⟩ => ⟨S2048x5632, .f32⟩
  | .hbm, ⟨42, _⟩ => ⟨S2048x5632, .f32⟩
  | .hbm, ⟨43, _⟩ => ⟨S2048x11264, .f32⟩
  | .hbm, ⟨44, _⟩ => ⟨S11264x2048, .f32⟩
  | .hbm, ⟨45, _⟩ => ⟨S2048x11264, .f32⟩
  | .hbm, ⟨46, _⟩ => ⟨S2048x2048, .f32⟩
  | .hbm, ⟨47, _⟩ => ⟨S2048x8x1408, .f32⟩
  | .hbm, ⟨48, _⟩ => ⟨S8x2048x1408, .f32⟩
  | .hbm, ⟨49, _⟩ => ⟨S2048x2x5632, .f32⟩
  | .hbm, ⟨50, _⟩ => ⟨S2x2048x5632, .f32⟩
  | .hbm, ⟨51, _⟩ => ⟨S2x2048x5632, .bf16⟩
  | .hbm, ⟨52, _⟩ => ⟨S8x1024x1408, .f32⟩
  | .hbm, ⟨53, _⟩ => ⟨S8x1024x1408, .bf16⟩
  | .hbm, ⟨54, _⟩ => ⟨S8x1024x1408, .f32⟩
  | .hbm, ⟨55, _⟩ => ⟨S8x1024x1408, .bf16⟩
  | .hbm, ⟨56, _⟩ => ⟨S5632x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Kernel3.lean ====
abbrev S2048x11264 : Shape := ⟨2, ![2048, 11264]⟩
abbrev S2048x2x5632 : Shape := ⟨3, ![2048, 2, 5632]⟩
abbrev S2x2048x5632 : Shape := ⟨3, ![2, 2048, 5632]⟩
abbrev S2048x8x1408 : Shape := ⟨3, ![2048, 8, 1408]⟩
abbrev S8x2048x1408 : Shape := ⟨3, ![8, 2048, 1408]⟩
abbrev S2048x2048 : Shape := ⟨2, ![2048, 2048]⟩
abbrev S1x512x2816 : Shape := ⟨3, ![1, 512, 2816]⟩
abbrev S2x2048x1408 : Shape := ⟨3, ![2, 2048, 1408]⟩
abbrev S512x2048 : Shape := ⟨2, ![512, 2048]⟩
abbrev S1x512x1408 : Shape := ⟨3, ![1, 512, 1408]⟩
abbrev S512x1408 : Shape := ⟨2, ![512, 1408]⟩
abbrev S1x2048x1408 : Shape := ⟨3, ![1, 2048, 1408]⟩
abbrev S2048x1408 : Shape := ⟨2, ![2048, 1408]⟩

abbrev nBuf : Space → Nat
  | .hbm => 7
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S2048x2x5632, .bf16⟩
  | .hbm, ⟨3, _⟩ => ⟨S2x2048x5632, .bf16⟩
  | .hbm, ⟨4, _⟩ => ⟨S2048x8x1408, .bf16⟩
  | .hbm, ⟨5, _⟩ => ⟨S8x2048x1408, .bf16⟩
  | .hbm, ⟨6, _⟩ => ⟨S2048x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S2x2048x1408, .bf16⟩
  | .local _ .vmem, ⟨3, _⟩ => ⟨S2x2048x1408, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_15 : BitVec 32 := 0#32
  let v21 : BitVec 1 := Scalar.cmpi .ne v20 c0_i32_15
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S2048x11264 : Shape := ⟨2, ![2048, 11264]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S2048x11264, .bf16⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x11264, .f32⟩
  | .hbm, ⟨6, _⟩ => ⟨S2048x11264, .f32⟩
  | .hbm, ⟨7, _⟩ => ⟨S2048x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S2048x2048 : Shape := ⟨2, ![2048, 2048]⟩
abbrev S2048x8704 : Shape := ⟨2, ![2048, 8704]⟩
abbrev S2048x4x2x1088 : Shape := ⟨4, ![2048, 4, 2, 1088]⟩
abbrev S4x2x2048x1088 : Shape := ⟨4, ![4, 2, 2048, 1088]⟩
abbrev S512x2048 : Shape := ⟨2, ![512, 2048]⟩
abbrev S1x2x2048x1088 : Shape := ⟨4, ![1, 2, 2048, 1088]⟩
abbrev S512x2176 : Shape := ⟨2, ![512, 2176]⟩
abbrev S1x1x2048x1088 : Shape := ⟨4, ![1, 1, 2048, 1088]⟩
abbrev S2048x1088 : Shape := ⟨2, ![2048, 1088]⟩
abbrev S512x1088 : Shape := ⟨2, ![512, 1088]⟩
abbrev S2048x512 : Shape := ⟨2, ![2048, 512]⟩
abbrev S2048x2176 : Shape := ⟨2, ![2048, 2176]⟩
abbrev S1x2x512x1088 : Shape := ⟨4, ![1, 2, 512, 1088]⟩
abbrev S1x1x512x1088 : Shape := ⟨4, ![1, 1, 512, 1088]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x8704, .bf16⟩
  | .hbm, ⟨2, _⟩ => ⟨S2048x8704, .bf16⟩
  | .hbm, ⟨3, _⟩ => ⟨S2048x4x2x1088, .bf16⟩
  | .hbm, ⟨4, _⟩ => ⟨S4x2x2048x1088, .bf16⟩
  | .hbm, ⟨5, _⟩ => ⟨S2048x8704, .bf16⟩
  | .hbm, ⟨6, _⟩ => ⟨S4x2x2048x1088, .bf16⟩
  | .local _ .vmem, ⟨0, _⟩ => ⟨S512x2048, .bf16⟩
  | .local _ .vmem, ⟨1, _⟩ => ⟨S512x2048, .bf16⟩
  | .local _ .vmem, ⟨2, _⟩ => ⟨S1x2x2048x1088, .bf16⟩
  | .local _ .vmem, ⟨3, _⟩ => ⟨S1x2x2048x1088, .bf16⟩
  | .local _ .vmem, ⟨4, _⟩ => ⟨S512x2176, .bf16⟩
  | .local _ .vmem, ⟨5, _⟩ => ⟨S512x2176, .bf16⟩
  | .local _ .vmem, ⟨6, _⟩ => ⟨S2048x512, .bf16⟩
  | .local _ .vmem, ⟨7, _⟩ => ⟨S2048x512, .bf16⟩
  | .local _ .vmem, ⟨8, _⟩ => ⟨S2048x2176, .bf16⟩
  | .local _ .vmem, ⟨9, _⟩ => ⟨S2048x2176, .bf16⟩
  | .local _ .vmem, ⟨10, _⟩ => ⟨S1x2x512x1088, .bf16⟩
  | .local _ .vmem, ⟨11, _⟩ => ⟨S1x2x512x1088, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2x2048x1088 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x2176 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2x512x1088 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference4Ideal.lean ====
abbrev S2048x2048 : Shape := ⟨2, ![2048, 2048]⟩
abbrev S2048x8704 : Shape := ⟨2, ![2048, 8704]⟩
abbrev S8704x2048 : Shape := ⟨2, ![8704, 2048]⟩
abbrev S2048x4x2x1088 : Shape := ⟨4, ![2048, 4, 2, 1088]⟩
abbrev S4x2x2048x1088 : Shape := ⟨4, ![4, 2, 2048, 1088]⟩

abbrev nBuf : Space → Nat
  | .hbm => 14
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8704, .bf16⟩
  | .hbm, ⟨2, _⟩ => ⟨S2048x8704, .bf16⟩
  | .hbm, ⟨3, _⟩ => ⟨S2048x2048, .f32⟩
  | .hbm, ⟨4, _⟩ => ⟨S2048x8704, .f32⟩
  | .hbm, ⟨5, _⟩ => ⟨S2048x8704, .f32⟩
  | .hbm, ⟨6, _⟩ => ⟨S2048x8704, .f32⟩
  | .hbm, ⟨7, _⟩ => ⟨S8704x2048, .f32⟩
  | .hbm, ⟨8, _⟩ => ⟨S2048x8704, .f32⟩
  | .hbm, ⟨9, _⟩ => ⟨S2048x2048, .f32⟩
  | .hbm, ⟨10, _⟩ => ⟨S2048x8704, .bf16⟩
  | .hbm, ⟨11, _⟩ => ⟨S2048x4x2x1088, .f32⟩
  | .hbm, ⟨12, _⟩ => ⟨S4x2x2048x1088, .f32⟩
  | .hbm, ⟨13, _⟩ => ⟨S4x2x2048x1088, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel5.lean ====
abbrev S2048x8704 : Shape := ⟨2, ![2048, 8704]⟩
abbrev S2048x4x2x1088 : Shape := ⟨4, ![2048, 4, 2, 1088]⟩
abbrev S4x2x2048x1088 : Shape := ⟨4, ![4, 2, 2048, 1088]⟩
abbrev S2048x2048 : Shape := ⟨2, ![2048, 2048]⟩
abbrev S512x2176 : Shape := ⟨2, ![512, 2176]⟩
abbrev S1x2x2048x1088 : Shape := ⟨4, ![1, 2, 2048, 1088]⟩
abbrev S512x2048 : Shape := ⟨2, ![512, 2048]⟩
abbrev S512x1088 : Shape := ⟨2, ![512, 1088]⟩
abbrev S1x1x2048x1088 : Shape := ⟨4, ![1, 1, 2048, 1088]⟩
abbrev S2048x1088 : Shape := ⟨2, ![2048, 1088]⟩

abbrev nBuf : Space → Nat
  | .hbm => 5
  | .vmem => 7
  | .smem => 0
  | _ => 0

abbrev bufTy : (tb : Table) → Fin (tcTables nBuf tb) → BufTy
  | .hbm, ⟨0, _⟩ => ⟨S2048x8704, .bf16⟩
  | .hbm, ⟨1, _⟩ => ⟨S2048x8704, .bf16⟩
  | .hbm, ⟨2, _⟩ => ⟨S2048x4x2x1088, .bf16⟩
  | .hbm, ⟨3, _⟩ => ⟨S4x2x2048x1088, .bf16⟩
  | .hbm, ⟨4, _⟩ => ⟨S2048x2048, .f32⟩
  | .local _ .vmem, ⟨0, _⟩ => ⟨S512x2176, .bf16⟩
  | .local _ .vmem, ⟨1, _⟩ => ⟨S512x2176, .bf16⟩
  | .local _ .vmem, ⟨2, _⟩ => ⟨S1x2x2048x1088, .bf16⟩
  | .local _ .vmem, ⟨3, _⟩ => ⟨S1x2x2048x1088, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2048x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_15 : BitVec 32 := 0#32
  let v19 : BitVec 1 := Scalar.cmpi .ne v18 c0_i32_15
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x2048x1088 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference5Ideal.lean ====
abbrev S2048x8704 : Shape := ⟨2, ![2048, 8704]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x8704, .bf16⟩
  | .hbm, ⟨1, _⟩ => ⟨S2048x8704, .bf16⟩
  | .hbm, ⟨2, _⟩ => ⟨S_, .f32⟩
  | .hbm, ⟨3, _⟩ => ⟨S2048x2048, .f32⟩
  | .hbm, ⟨4, _⟩ => ⟨S2048x8704, .f32⟩
  | .hbm, ⟨5, _⟩ => ⟨S2048x8704, .f32⟩
  | .hbm, ⟨6, _⟩ => ⟨S2048x8704, .f32⟩
  | .hbm, ⟨7, _⟩ => ⟨S2048x2048, .f32⟩
  | _, _ => ⟨S2048x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S2048x8704 : Shape := ⟨2, ![2048, 8704]⟩
abbrev S3x1024 : Shape := ⟨2, ![3, 1024]⟩
abbrev S2048x1024 : Shape := ⟨2, ![2048, 1024]⟩
abbrev S1024x2048 : Shape := ⟨2, ![1024, 2048]⟩
abbrev S2048x2048 : Shape := ⟨2, ![2048, 2048]⟩
abbrev S_ : Shape := ⟨0, ![]⟩
abbrev S8x1024 : Shape := ⟨2, ![8, 1024]⟩
abbrev S1024x8x256 : Shape := ⟨3, ![1024, 8, 256]⟩
abbrev S8x1024x256 : Shape := ⟨3, ![8, 1024, 256]⟩
abbrev S2048x256 : Shape := ⟨2, ![2048, 256]⟩
abbrev S8x256 : Shape := ⟨2, ![8, 256]⟩
abbrev S1x256 : Shape := ⟨2, ![1, 256]⟩
abbrev S1024x1024 : Shape := ⟨2, ![1024, 1024]⟩
abbrev S1x1024x256 : Shape := ⟨3, ![1, 1024, 256]⟩
abbrev S1024x256 : Shape := ⟨2, ![1024, 256]⟩
abbrev S512x2048 : Shape := ⟨2, ![512, 2048]⟩
abbrev S2x2048x2048 : Shape := ⟨3, ![2, 2048, 2048]⟩
abbrev S1024x512 : Shape := ⟨2, ![1024, 512]⟩
abbrev S2x1024x512 : Shape := ⟨3, ![2, 1024, 512]⟩
abbrev S1x1024x512 : Shape := ⟨3, ![1, 1024, 512]⟩
abbrev S2048x512 : Shape := ⟨2, ![2048, 512]⟩
abbrev S512x1024 : Shape := ⟨2, ![512, 1024]⟩
abbrev S512x256 : Shape := ⟨2, ![512, 256]⟩
abbrev S3x2048x1024 : Shape := ⟨3, ![3, 2048, 1024]⟩
abbrev S3x2048x256 : Shape := ⟨3, ![3, 2048, 256]⟩
abbrev S1x2048x256 : Shape := ⟨3, ![1, 2048, 256]⟩
abbrev S256 : Shape := ⟨1, ![256]⟩

abbrev nBuf : Space → Nat
  | .hbm => 30
  | .vmem => 92
  | .smem => 0
  | _ => 0

abbrev bufTy : (tb : Table) → Fin (tcTables nBuf tb) → BufTy
  | .hbm, ⟨0, _⟩ => ⟨S2048x8704, .bf16⟩
  | .hbm, ⟨1, _⟩ => ⟨S3x1024, .f32⟩
  | .hbm, ⟨2, _⟩ => ⟨S2048x1024, .bf16⟩
  | .hbm, ⟨3, _⟩ => ⟨S1024x2048, .bf16⟩
  | .hbm, ⟨4, _⟩ => ⟨S1024x2048, .bf16⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S_, .i32⟩
  | .hbm, ⟨9, _⟩ => ⟨S_, .f32⟩
  | .hbm, ⟨10, _⟩ => ⟨S8x1024, .f32⟩
  | .hbm, ⟨11, _⟩ => ⟨S1024x8x256, .bf16⟩
  | .hbm, ⟨12, _⟩ => ⟨S8x1024x256, .bf16⟩
  | .hbm, ⟨13, _⟩ => ⟨S1024x8x256, .bf16⟩
  | .hbm, ⟨14, _⟩ => ⟨S8x1024x256, .bf16⟩
  | .hbm, ⟨15, _⟩ => ⟨S2048x1024, .bf16⟩
  | .hbm, ⟨16, _⟩ => ⟨S2048x2048, .bf16⟩
  | .hbm, ⟨17, _⟩ => ⟨S2048x2048, .bf16⟩
  | .hbm, ⟨18, _⟩ => ⟨S2048x2048, .bf16⟩
  | .hbm, ⟨19, _⟩ => ⟨S2048x2048, .f32⟩
  | .hbm, ⟨20, _⟩ => ⟨S2048x2048, .bf16⟩
  | .hbm, ⟨21, _⟩ => ⟨S2048x2048, .bf16⟩
  | .hbm, ⟨22, _⟩ => ⟨S2x2048x2048, .bf16⟩
  | .hbm, ⟨23, _⟩ => ⟨S2048x2048, .bf16⟩
  | .hbm, ⟨24, _⟩ => ⟨S8x1024x256, .bf16⟩
  | .hbm, ⟨25, _⟩ => ⟨S8x1024x256, .bf16⟩
  | .hbm, ⟨26, _⟩ => ⟨S2048x1024, .f32⟩
  | .hbm, ⟨27, _⟩ => ⟨S2048x1024, .f32⟩
  | .hbm, ⟨28, _⟩ => ⟨S3x2048x1024, .bf16⟩
  | .hbm, ⟨29, _⟩ => ⟨S8x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S8x256, .f32⟩
  | .local _ .vmem, ⟨7, _⟩ => ⟨S8x256, .f32⟩
  | .local _ .vmem, ⟨8, _⟩ => ⟨S2048x256, .bf16⟩
  | .local _ .vmem, ⟨9, _⟩ => ⟨S2048x256, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S512x2048, .bf16⟩
  | .local _ .vmem, ⟨29, _⟩ => ⟨S512x2048, .bf16⟩
  | .local _ .vmem, ⟨30, _⟩ => ⟨S2048x2048, .bf16⟩
  | .local _ .vmem, ⟨31, _⟩ => ⟨S512x2048, .f32⟩
  | .local _ .vmem, ⟨32, _⟩ => ⟨S512x2048, .f32⟩
  | .local _ .vmem, ⟨33, _⟩ => ⟨S512x2048, .f32⟩
  | .local _ .vmem, ⟨34, _⟩ => ⟨S512x2048, .f32⟩
  | .local _ .vmem, ⟨35, _⟩ => ⟨S1024x2048, .bf16⟩
  | .local _ .vmem, ⟨36, _⟩ => ⟨S1024x2048, .bf16⟩
  | .local _ .vmem, ⟨37, _⟩ => ⟨S512x2048, .bf16⟩
  | .local _ .vmem, ⟨38, _⟩ => ⟨S512x2048, .bf16⟩
  | .local _ .vmem, ⟨39, _⟩ => ⟨S1024x512, .bf16⟩
  | .local _ .vmem, ⟨40, _⟩ => ⟨S1024x512, .bf16⟩
  | .local _ .vmem, ⟨41, _⟩ => ⟨S1024x512, .bf16⟩
  | .local _ .vmem, ⟨42, _⟩ => ⟨S1024x512, .bf16⟩
  | .local _ .vmem, ⟨43, _⟩ => ⟨S1024x512, .bf16⟩
  | .local _ .vmem, ⟨44, _⟩ => ⟨S1024x512, .bf16⟩
  | .local _ .vmem, ⟨45, _⟩ => ⟨S1024x512, .bf16⟩
  | .local _ .vmem, ⟨46, _⟩ => ⟨S1024x512, .bf16⟩
  | .local _ .vmem, ⟨47, _⟩ => ⟨S1024x512, .bf16⟩
  | .local _ .vmem, ⟨48, _⟩ => ⟨S1024x512, .bf16⟩
  | .local _ .vmem, ⟨49, _⟩ => ⟨S1024x512, .bf16⟩
  | .local _ .vmem, ⟨50, _⟩ => ⟨S1024x512, .bf16⟩
  | .local _ .vmem, ⟨51, _⟩ => ⟨S2x1024x512, .bf16⟩
  | .local _ .vmem, ⟨52, _⟩ => ⟨S2x1024x512, .bf16⟩
  | .local _ .vmem, ⟨53, _⟩ => ⟨S2048x512, .bf16⟩
  | .local _ .vmem, ⟨54, _⟩ => ⟨S2048x512, .bf16⟩
  | .local _ .vmem, ⟨55, _⟩ => ⟨S2048x2048, .bf16⟩
  | .local _ .vmem, ⟨56, _⟩ => ⟨S512x2048, .bf16⟩
  | .local _ .vmem, ⟨57, _⟩ => ⟨S512x2048, .bf16⟩
  | .local _ .vmem, ⟨58, _⟩ => ⟨S2048x1024, .bf16⟩
  | .local _ .vmem, ⟨59, _⟩ => ⟨S2048x1024, .bf16⟩
  | .local _ .vmem, ⟨60, _⟩ => ⟨S2048x256, .bf16⟩
  | .local _ .vmem, ⟨61, _⟩ => ⟨S2048x256, .bf16⟩
  | .local _ .vmem, ⟨62, _⟩ => ⟨S2048x256, .bf16⟩
  | .local _ .vmem, ⟨63, _⟩ => ⟨S2048x256, .bf16⟩
  | .local _ .vmem, ⟨64, _⟩ => ⟨S1x1024x256, .bf16⟩
  | .local _ .vmem, ⟨65, _⟩ => ⟨S1x1024x256, .bf16⟩
  | .local _ .vmem, ⟨66, _⟩ => ⟨S1x1024x256, .bf16⟩
  | .local _ .vmem, ⟨67, _⟩ => ⟨S1x1024x256, .bf16⟩
  | .local _ .vmem, ⟨68, _⟩ => ⟨S512x2048, .bf16⟩
  | .local _ .vmem, ⟨69, _⟩ => ⟨S512x2048, .bf16⟩
  | .local _ .vmem, ⟨70, _⟩ => ⟨S512x2048, .bf16⟩
  | .local _ .vmem, ⟨71, _⟩ => ⟨S512x2048, .bf16⟩
  | .local _ .vmem, ⟨72, _⟩ => ⟨S8x1024x256, .bf16⟩
  | .local _ .vmem, ⟨73, _⟩ => ⟨S8x1024x256, .bf16⟩
  | .local _ .vmem, ⟨74, _⟩ => ⟨S512x1024, .f32⟩
  | .local _ .vmem, ⟨75, _⟩ => ⟨S512x1024, .f32⟩
  | .local _ .vmem, ⟨76, _⟩ => ⟨S512x1024, .f32⟩
  | .local _ .vmem, ⟨77, _⟩ => ⟨S512x1024, .f32⟩
  | .local _ .vmem, ⟨78, _⟩ => ⟨S2048x256, .bf16⟩
  | .local _ .vmem, ⟨79, _⟩ => ⟨S2048x256, .bf16⟩
  | .local _ .vmem, ⟨80, _⟩ => ⟨S2048x256, .bf16⟩
  | .local _ .vmem, ⟨81, _⟩ => ⟨S2048x256, .bf16⟩
  | .local _ .vmem, ⟨82, _⟩ => ⟨S2048x256, .bf16⟩
  | .local _ .vmem, ⟨83, _⟩ => ⟨S2048x256, .bf16⟩
  | .local _ .vmem, ⟨84, _⟩ => ⟨S8x256, .f32⟩
  | .local _ .vmem, ⟨85, _⟩ => ⟨S8x256, .f32⟩
  | .local _ .vmem, ⟨86, _⟩ => ⟨S2048x256, .f32⟩
  | .local _ .vmem, ⟨87, _⟩ => ⟨S2048x256, .f32⟩
  | .local _ .vmem, ⟨88, _⟩ => ⟨S3x2048x256, .bf16⟩
  | .local _ .vmem, ⟨89, _⟩ => ⟨S3x2048x256, .bf16⟩
  | .local _ .vmem, ⟨90, _⟩ => ⟨S8x256, .f32⟩
  | .local _ .vmem, ⟨91, _⟩ => ⟨S8x256, .f32⟩
  | _, _ => ⟨S2048x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 92 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTc nBuf bufTy 0 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev main_v11_0 : Ref sig .tc := ⟨.hbm, 26, rfl⟩
abbrev main_v11_1 : Ref sig .tc := ⟨.hbm, 27, rfl⟩
abbrev main_v12_0 : Ref sig .tc := ⟨.hbm, 28, rfl⟩
abbrev main_v12_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_stg5_0 : Ref sig .tc := ⟨.vmem, 45, rfl⟩
abbrev cc3_stg5_1 : Ref sig .tc := ⟨.vmem, 46, rfl⟩
abbrev cc3_stg6_0 : Ref sig .tc := ⟨.vmem, 47, rfl⟩
abbrev cc3_stg6_1 : Ref sig .tc := ⟨.vmem, 48, rfl⟩
abbrev cc3_stg7_0 : Ref sig .tc := ⟨.vmem, 49, rfl⟩
abbrev cc3_stg7_1 : Ref sig .tc := ⟨.vmem, 50, rfl⟩
abbrev cc3_stg8_0 : Ref sig .tc := ⟨.vmem, 51, rfl⟩
abbrev cc3_stg8_1 : Ref sig .tc := ⟨.vmem, 52, rfl⟩
abbrev cc4_stg0_0 : Ref sig .tc := ⟨.vmem, 53, rfl⟩
abbrev cc4_stg0_1 : Ref sig .tc := ⟨.vmem, 54, rfl⟩
abbrev cc4_stg1_0 : Ref sig .tc := ⟨.vmem, 55, rfl⟩
abbrev cc4_stg2_0 : Ref sig .tc := ⟨.vmem, 56, rfl⟩
abbrev cc4_stg2_1 : Ref sig .tc := ⟨.vmem, 57, rfl⟩
abbrev cc5_stg0_0 : Ref sig .tc := ⟨.vmem, 58, rfl⟩
abbrev cc5_stg1_0 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg3_1 : Ref sig .tc := ⟨.vmem, 63, rfl⟩
abbrev cc5_stg4_0 : Ref sig .tc := ⟨.vmem, 64, rfl⟩
abbrev cc5_stg4_1 : Ref sig .tc := ⟨.vmem, 65, rfl⟩
abbrev cc5_stg5_0 : Ref sig .tc := ⟨.vmem, 66, rfl⟩
abbrev cc5_stg5_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg4_1 : Ref sig .tc := ⟨.vmem, 75, rfl⟩
abbrev cc6_stg5_0 : Ref sig .tc := ⟨.vmem, 76, rfl⟩
abbrev cc6_stg5_1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg1_1 : Ref sig .tc := ⟨.vmem, 81, rfl⟩
abbrev cc7_stg2_0 : Ref sig .tc := ⟨.vmem, 82, rfl⟩
abbrev cc7_stg2_1 : Ref sig .tc := ⟨.vmem, 83, rfl⟩
abbrev cc7_stg3_0 : Ref sig .tc := ⟨.vmem, 84, rfl⟩
abbrev cc7_stg3_1 : Ref sig .tc := ⟨.vmem, 85, rfl⟩
abbrev cc7_stg4_0 : Ref sig .tc := ⟨.vmem, 86, rfl⟩
abbrev cc7_stg4_1 : Ref sig .tc := ⟨.vmem, 87, rfl⟩
abbrev cc7_stg5_0 : Ref sig .tc := ⟨.vmem, 88, rfl⟩
abbrev cc7_stg5_1 : Ref sig .tc := ⟨.vmem, 89, rfl⟩
abbrev cc7_stg6_0 : Ref sig .tc := ⟨.vmem, 90, rfl⟩
abbrev cc7_stg6_1 : Ref sig .tc := ⟨.vmem, 91, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem2_1 : DmaSem sig := 32
abbrev cc2_sem3_0 : DmaSem sig := 33
abbrev cc2_sem3_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc3_sem5_0 : DmaSem sig := 45
abbrev cc3_sem5_1 : DmaSem sig := 46
abbrev cc3_sem6_0 : DmaSem sig := 47
abbrev cc3_sem6_1 : DmaSem sig := 48
abbrev cc3_sem7_0 : DmaSem sig := 49
abbrev cc3_sem7_1 : DmaSem sig := 50
abbrev cc3_sem8_0 : DmaSem sig := 51
abbrev cc3_sem8_1 : DmaSem sig := 52
abbrev cc4_sem0_0 : DmaSem sig := 53
abbrev cc4_sem0_1 : DmaSem sig := 54
abbrev cc4_sem1_0 : DmaSem sig := 55
abbrev cc4_sem2_0 : DmaSem sig := 56
abbrev cc4_sem2_1 : DmaSem sig := 57
abbrev cc5_sem0_0 : DmaSem sig := 58
abbrev cc5_sem1_0 : DmaSem sig := 59
abbrev cc5_sem2_0 : DmaSem sig := 60
abbrev cc5_sem2_1 : DmaSem sig := 61
abbrev cc5_sem3_0 : DmaSem sig := 62
abbrev cc5_sem3_1 : DmaSem sig := 63
abbrev cc5_sem4_0 : DmaSem sig := 64
abbrev cc5_sem4_1 : DmaSem sig := 65
abbrev cc5_sem5_0 : DmaSem sig := 66
abbrev cc5_sem5_1 : DmaSem sig := 67
abbrev cc6_sem0_0 : DmaSem sig := 68
abbrev cc6_sem0_1 : DmaSem sig := 69
abbrev cc6_sem1_0 : DmaSem sig := 70
abbrev cc6_sem1_1 : DmaSem sig := 71
abbrev cc6_sem2_0 : DmaSem sig := 72
abbrev cc6_sem3_0 : DmaSem sig := 73
abbrev cc6_sem4_0 : DmaSem sig := 74
abbrev cc6_sem4_1 : DmaSem sig := 75
abbrev cc6_sem5_0 : DmaSem sig := 76
abbrev cc6_sem5_1 : DmaSem sig := 77
abbrev cc7_sem0_0 : DmaSem sig := 78
abbrev cc7_sem0_1 : DmaSem sig := 79
abbrev cc7_sem1_0 : DmaSem sig := 80
abbrev cc7_sem1_1 : DmaSem sig := 81
abbrev cc7_sem2_0 : DmaSem sig := 82
abbrev cc7_sem2_1 : DmaSem sig := 83
abbrev cc7_sem3_0 : DmaSem sig := 84
abbrev cc7_sem3_1 : DmaSem sig := 85
abbrev cc7_sem4_0 : DmaSem sig := 86
abbrev cc7_sem4_1 : DmaSem sig := 87
abbrev cc7_sem5_0 : DmaSem sig := 88
abbrev cc7_sem5_1 : DmaSem sig := 89
abbrev cc7_sem6_0 : DmaSem sig := 90
abbrev cc7_sem6_1 : DmaSem sig := 91

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc1_transform_5 (i : grid1.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev grid3 : Pipeline.Grid := ⟨3, ![2, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi c9_i32 arg1
  let c0_i32 : BitVec 32 := 0#32
  ![arg0.toNat, v0.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c13_i32 : BitVec 32 := 13#32
  let v0 : BitVec 32 := Scalar.addi c13_i32 arg1
  let c0_i32 : BitVec 32 := 0#32
  ![arg0.toNat, v0.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_7 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_8 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, false]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, false]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S1024x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1024x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S1024x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

abbrev stage3_7 : Fin 2 → Memref sig .tc .vmem S1024x512 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true, false]

abbrev stage3_8 : Fin 2 → Memref sig .tc .vmem S2x1024x512 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, false]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false, false]

abbrev stage4_2 : Fin 2 → Memref sig .tc .vmem S512x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false, false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2048x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2048x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S1x1024x256 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S1x1024x256 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S8x1024x256 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S8x1024x256 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S512x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S512x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨3, ![4, 1, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc7_transform_4 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc7_transform_5 (i : grid7.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg0.toNat]

def cc7_transform_6 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage7_0 : Fin 2 → Memref sig .tc .vmem S2048x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, false]

abbrev stage7_1 : Fin 2 → Memref sig .tc .vmem S2048x256 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false, false]

abbrev stage7_2 : Fin 2 → Memref sig .tc .vmem S2048x256 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false, false]

abbrev stage7_3 : Fin 2 → Memref sig .tc .vmem S8x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false, false]

abbrev stage7_4 : Fin 2 → Memref sig .tc .vmem S2048x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false, false]

abbrev stage7_5 : Fin 2 → Memref sig .tc .vmem S3x2048x256 .bf16 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, false, false]

abbrev stage7_6 : Fin 2 → Memref sig .tc .vmem S8x256 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, false, false]
-- ==== Reference6Ideal.lean ====
abbrev S2048x8704 : Shape := ⟨2, ![2048, 8704]⟩
abbrev S3x1024 : Shape := ⟨2, ![3, 1024]⟩
abbrev S2048x1024 : Shape := ⟨2, ![2048, 1024]⟩
abbrev S1024x2048 : Shape := ⟨2, ![1024, 2048]⟩
abbrev S2048x2048 : Shape := ⟨2, ![2048, 2048]⟩
abbrev S1x2048x8704 : Shape := ⟨3, ![1, 2048, 8704]⟩
abbrev S1x2048x1024 : Shape := ⟨3, ![1, 2048, 1024]⟩
abbrev S1x2048x256 : Shape := ⟨3, ![1, 2048, 256]⟩
abbrev S1x2048x2048 : Shape := ⟨3, ![1, 2048, 2048]⟩
abbrev S_ : Shape := ⟨0, ![]⟩
abbrev S1x2x1024 : Shape := ⟨3, ![1, 2, 1024]⟩
abbrev S1x2050x1024 : Shape := ⟨3, ![1, 2050, 1024]⟩
abbrev S1x1024 : Shape := ⟨2, ![1, 1024]⟩
abbrev S1024 : Shape := ⟨1, ![1024]⟩
abbrev S1x1x1024 : Shape := ⟨3, ![1, 1, 1024]⟩
abbrev S3x2048x1024 : Shape := ⟨3, ![3, 2048, 1024]⟩
abbrev S2x2048x2048 : Shape := ⟨3, ![2, 2048, 2048]⟩
abbrev S1024x8x256 : Shape := ⟨3, ![1024, 8, 256]⟩
abbrev S8x1024x256 : Shape := ⟨3, ![8, 1024, 256]⟩
abbrev S8x1024 : Shape := ⟨2, ![8, 1024]⟩

abbrev nBuf : Space → Nat
  | .hbm => 164
  | .vmem => 0
  | .smem => 0
  | _ => 0

abbrev hbmTy0_0 (i : Nat) : BufTy := match i % 128 with
  | 0 => ⟨S2048x8704, .bf16⟩
  | 1 => ⟨S3x1024, .f32⟩
  | 2 => ⟨S2048x1024, .bf16⟩
  | 3 => ⟨S1024x2048, .bf16⟩
  | 4 => ⟨S1024x2048, .bf16⟩
  | 5 => ⟨S2048x2048, .bf16⟩
  | 6 => ⟨S2048x2048, .f32⟩
  | 7 => ⟨S2048x2048, .bf16⟩
  | 8 => ⟨S2048x8704, .f32⟩
  | 9 => ⟨S1x2048x8704, .f32⟩
  | 10 => ⟨S1x2048x1024, .f32⟩
  | 11 => ⟨S1x2048x1024, .f32⟩
  | 12 => ⟨S1x2048x1024, .f32⟩
  | 13 => ⟨S1x2048x1024, .f32⟩
  | 14 => ⟨S1x2048x256, .f32⟩
  | 15 => ⟨S1x2048x256, .f32⟩
  | 16 => ⟨S1x2048x2048, .f32⟩
  | 17 => ⟨S1x2048x2048, .f32⟩
  | 18 => ⟨S2048x1024, .f32⟩
  | 19 => ⟨S1x2048x1024, .f32⟩
  | 20 => ⟨S1024x2048, .f32⟩
  | 21 => ⟨S1024x2048, .f32⟩
  | 22 => ⟨S2048x2048, .f32⟩
  | 23 => ⟨S1x2048x2048, .f32⟩
  | 24 => ⟨S1x2048x1024, .f32⟩
  | 25 => ⟨S_, .f32⟩
  | 26 => ⟨S1x2x1024, .f32⟩
  | 27 => ⟨S1x2050x1024, .f32⟩
  | 28 => ⟨S_, .f32⟩
  | 29 => ⟨S1x2x1024, .f32⟩
  | 30 => ⟨S1x2048x1024, .f32⟩
  | 31 => ⟨S1x1024, .f32⟩
  | 32 => ⟨S1024, .f32⟩
  | 33 => ⟨S1x1x1024, .f32⟩
  | 34 => ⟨S1x2048x1024, .f32⟩
  | 35 => ⟨S1x2048x1024, .f32⟩
  | 36 => ⟨S1x2048x1024, .f32⟩
  | 37 => ⟨S1x1024, .f32⟩
  | 38 => ⟨S1024, .f32⟩
  | 39 => ⟨S1x1x1024, .f32⟩
  | 40 => ⟨S1x2048x1024, .f32⟩
  | 41 => ⟨S1x2048x1024, .f32⟩
  | 42 => ⟨S1x2048x1024, .f32⟩
  | 43 => ⟨S1x2048x1024, .f32⟩
  | 44 => ⟨S1x1024, .f32⟩
  | 45 => ⟨S1024, .f32⟩
  | 46 => ⟨S1x1x1024, .f32⟩
  | 47 => ⟨S1x2048x1024, .f32⟩
  | 48 => ⟨S1x2048x1024, .f32⟩
  | 49 => ⟨S1x2048x1024, .f32⟩
  | 50 => ⟨S1x2048x1024, .f32⟩
  | 51 => ⟨S1x2048x2048, .f32⟩
  | 52 => ⟨S1x2048x2048, .f32⟩
  | 53 => ⟨S1x2048x2048, .f32⟩
  | 54 => ⟨S1x2048x2048, .f32⟩
  | 55 => ⟨S_, .f32⟩
  | 56 => ⟨S1x2048x2048, .f32⟩
  | 57 => ⟨S1x2048x2048, .f32⟩
  | 58 => ⟨S_, .f32⟩
  | 59 => ⟨S1x2048x2048, .f32⟩
  | 60 => ⟨S1x2048x2048, .f32⟩
  | 61 => ⟨S_, .f32⟩
  | 62 => ⟨S1x2048x2048, .f32⟩
  | 63 => ⟨S1x2048x2048, .f32⟩
  | 64 => ⟨S1x2048x2048, .f32⟩
  | 65 => ⟨S1x2048x2048, .f32⟩
  | 66 => ⟨S1x2048x2048, .f32⟩
  | 67 => ⟨S1x2048x2048, .f32⟩
  | 68 => ⟨S_, .f32⟩
  | 69 => ⟨S1x2048x2048, .f32⟩
  | 70 => ⟨S1x2048x2048, .f32⟩
  | 71 => ⟨S_, .f32⟩
  | 72 => ⟨S1x2048x2048, .f32⟩
  | 73 => ⟨S1x2048x2048, .f32⟩
  | 74 => ⟨S_, .f32⟩
  | 75 => ⟨S1x2048x2048, .f32⟩
  | 76 => ⟨S1x2048x2048, .f32⟩
  | 77 => ⟨S1x2048x2048, .f32⟩
  | 78 => ⟨S1x2048x2048, .f32⟩
  | 79 => ⟨S1x2048x2048, .f32⟩
  | 80 => ⟨S1x2048x2048, .f32⟩
  | 81 => ⟨S1x2048x2048, .f32⟩
  | 82 => ⟨S2048x2048, .f32⟩
  | 83 => ⟨S1x2048x2048, .f32⟩
  | 84 => ⟨S2048x2048, .f32⟩
  | 85 => ⟨S2048x2048, .f32⟩
  | 86 => ⟨S1x2048x2048, .f32⟩
  | 87 => ⟨S1x2048x2048, .f32⟩
  | 88 => ⟨S1x2048x2048, .f32⟩
  | 89 => ⟨S1x2048x2048, .f32⟩
  | 90 => ⟨S1x2048x2048, .f32⟩
  | 91 => ⟨S1x2048x2048, .f32⟩
  | 92 => ⟨S1x2048x2048, .f32⟩
  | 93 => ⟨S2048x1024, .f32⟩
  | 94 => ⟨S1024x2048, .f32⟩
  | 95 => ⟨S1x2048x1024, .f32⟩
  | 96 => ⟨S2048x1024, .f32⟩
  | 97 => ⟨S1024x2048, .f32⟩
  | 98 => ⟨S1x2048x1024, .f32⟩
  | 99 => ⟨S1x2048x1024, .f32⟩
  | 100 => ⟨S1x2048x1024, .f32⟩
  | 101 => ⟨S1x2048x1024, .f32⟩
  | 102 => ⟨S_, .f32⟩
  | 103 => ⟨S1x1024, .f32⟩
  | 104 => ⟨S1x1x1024, .f32⟩
  | 105 => ⟨S1x2048x1024, .f32⟩
  | 106 => ⟨S1x2048x1024, .f32⟩
  | 107 => ⟨S_, .f32⟩
  | 108 => ⟨S1024, .f32⟩
  | 109 => ⟨S1x1024, .f32⟩
  | 110 => ⟨S_, .f32⟩
  | 111 => ⟨S3x1024, .f32⟩
  | 112 => ⟨S_, .f32⟩
  | 113 => ⟨S1x2050x1024, .f32⟩
  | 114 => ⟨S1x2048x1024, .f32⟩
  | 115 => ⟨S_, .f32⟩
  | 116 => ⟨S1x1024, .f32⟩
  | 117 => ⟨S1x1x1024, .f32⟩
  | 118 => ⟨S1x2048x1024, .f32⟩
  | 119 => ⟨S1x2048x1024, .f32⟩
  | 120 => ⟨S_, .f32⟩
  | 121 => ⟨S1024, .f32⟩
  | 122 => ⟨S1x1024, .f32⟩
  | 123 => ⟨S_, .f32⟩
  | 124 => ⟨S3x1024, .f32⟩
  | 125 => ⟨S3x1024, .f32⟩
  | 126 => ⟨S_, .f32⟩
  | 127 => ⟨S1x2050x1024, .f32⟩
  | _ => ⟨S2048x8704, .bf16⟩

abbrev hbmTy0_1 (i : Nat) : BufTy := match i % 128 with
  | 0 => ⟨S1x2050x1024, .f32⟩
  | 1 => ⟨S1x2048x1024, .f32⟩
  | 2 => ⟨S_, .f32⟩
  | 3 => ⟨S1x1024, .f32⟩
  | 4 => ⟨S1x1x1024, .f32⟩
  | 5 => ⟨S1x2048x1024, .f32⟩
  | 6 => ⟨S1x2048x1024, .f32⟩
  | 7 => ⟨S_, .f32⟩
  | 8 => ⟨S1024, .f32⟩
  | 9 => ⟨S1x1024, .f32⟩
  | 10 => ⟨S_, .f32⟩
  | 11 => ⟨S3x1024, .f32⟩
  | 12 => ⟨S3x1024, .f32⟩
  | 13 => ⟨S_, .f32⟩
  | 14 => ⟨S1x2050x1024, .f32⟩
  | 15 => ⟨S1x2050x1024, .f32⟩
  | 16 => ⟨S1x2x1024, .f32⟩
  | 17 => ⟨S1x2048x1024, .f32⟩
  | 18 => ⟨S1x2048x1024, .f32⟩
  | 19 => ⟨S1x2048x1024, .f32⟩
  | 20 => ⟨S2048x2048, .f32⟩
  | 21 => ⟨S3x2048x1024, .f32⟩
  | 22 => ⟨S3x2048x1024, .bf16⟩
  | 23 => ⟨S2x2048x2048, .f32⟩
  | 24 => ⟨S2x2048x2048, .bf16⟩
  | 25 => ⟨S2048x2048, .bf16⟩
  | 26 => ⟨S1024x8x256, .f32⟩
  | 27 => ⟨S8x1024x256, .f32⟩
  | 28 => ⟨S8x1024x256, .bf16⟩
  | 29 => ⟨S1024x8x256, .f32⟩
  | 30 => ⟨S8x1024x256, .f32⟩
  | 31 => ⟨S8x1024x256, .bf16⟩
  | 32 => ⟨S2048x1024, .f32⟩
  | 33 => ⟨S_, .i32⟩
  | 34 => ⟨S_, .f32⟩
  | 35 => ⟨S8x1024, .f32⟩
  | _ => ⟨S2048x8704, .bf16⟩

abbrev hbmTy (i : Nat) : BufTy := match i / 128 with
  | 0 => hbmTy0_0 i
  | 1 => hbmTy0_1 i
  | _ => ⟨S2048x8704, .bf16⟩

abbrev bufTy : (tb : Table) → Fin (tcTables nBuf tb) → BufTy
  | .hbm, ⟨i, _⟩ => hbmTy i
  | _, _ => ⟨S2048x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_1 : Ref sig .tc := ⟨.hbm, 55, rfl⟩
abbrev main_v45 : Ref sig .tc := ⟨.hbm, 56, rfl⟩
abbrev main_v46 : Ref sig .tc := ⟨.hbm, 57, rfl⟩
abbrev main_cst_2 : Ref sig .tc := ⟨.hbm, 58, rfl⟩
abbrev main_v47 : Ref sig .tc := ⟨.hbm, 59, rfl⟩
abbrev main_v48 : Ref sig .tc := ⟨.hbm, 60, rfl⟩
abbrev main_cst_3 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_4 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_7 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_cst_8 : Ref sig .tc := ⟨.hbm, 107, rfl⟩
abbrev main_v90 : Ref sig .tc := ⟨.hbm, 108, rfl⟩
abbrev main_v91 : Ref sig .tc := ⟨.hbm, 109, rfl⟩
abbrev main_cst_9 : Ref sig .tc := ⟨.hbm, 110, rfl⟩
abbrev main_v92 : Ref sig .tc := ⟨.hbm, 111, rfl⟩
abbrev main_cst_10 : Ref sig .tc := ⟨.hbm, 112, rfl⟩
abbrev main_v93 : Ref sig .tc := ⟨.hbm, 113, rfl⟩
abbrev main_v94 : Ref sig .tc := ⟨.hbm, 114, rfl⟩
abbrev main_cst_11 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_12 : Ref sig .tc := ⟨.hbm, 120, rfl⟩
abbrev main_v99 : Ref sig .tc := ⟨.hbm, 121, rfl⟩
abbrev main_v100 : Ref sig .tc := ⟨.hbm, 122, rfl⟩
abbrev main_cst_13 : Ref sig .tc := ⟨.hbm, 123, rfl⟩
abbrev main_v101 : Ref sig .tc := ⟨.hbm, 124, rfl⟩
abbrev main_v102 : Ref sig .tc := ⟨.hbm, 125, rfl⟩
abbrev main_cst_14 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_15 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_16 : Ref sig .tc := ⟨.hbm, 135, rfl⟩
abbrev main_v110 : Ref sig .tc := ⟨.hbm, 136, rfl⟩
abbrev main_v111 : Ref sig .tc := ⟨.hbm, 137, rfl⟩
abbrev main_cst_17 : Ref sig .tc := ⟨.hbm, 138, rfl⟩
abbrev main_v112 : Ref sig .tc := ⟨.hbm, 139, rfl⟩
abbrev main_v113 : Ref sig .tc := ⟨.hbm, 140, rfl⟩
abbrev main_cst_18 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_c : Ref sig .tc := ⟨.hbm, 161, rfl⟩
abbrev main_call0_v0 : Ref sig .tc := ⟨.hbm, 162, rfl⟩
abbrev main_v133 : Ref sig .tc := ⟨.hbm, 163, rfl⟩

abbrev nD : Nat := 1
abbrev τ : Topo := Topo.v7x

variable {F : FTy → Type} [FloatOps F]
-- ==== Kernel7.lean ====
abbrev S2048x5632 : Shape := ⟨2, ![2048, 5632]⟩
abbrev S5632x2048 : Shape := ⟨2, ![5632, 2048]⟩
abbrev S2048x2048 : Shape := ⟨2, ![2048, 2048]⟩
abbrev S8x128 : Shape := ⟨2, ![8, 128]⟩
abbrev S512x5632 : Shape := ⟨2, ![512, 5632]⟩
abbrev S5632x1024 : Shape := ⟨2, ![5632, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 11
  | .vmem => 13
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S8x128, .f32⟩
  | .hbm, ⟨6, _⟩ => ⟨S2048x2048, .bf16⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S1x1, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x128, .f32⟩
  | .local _ .vmem, ⟨11, _⟩ => ⟨S512x1024, .bf16⟩
  | .local _ .vmem, ⟨12, _⟩ => ⟨S512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference7Ideal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩
abbrev S2048 : Shape := ⟨1, ![2048]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .hbm, ⟨4, _⟩ => ⟨S2048x5632, .f32⟩
  | .hbm, ⟨5, _⟩ => ⟨S5632x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S2048x2048, .f32⟩
  | .hbm, ⟨33, _⟩ => ⟨S2048x2048, .f32⟩
  | .hbm, ⟨34, _⟩ => ⟨S2048x2048, .bf16⟩
  | .hbm, ⟨35, _⟩ => ⟨S1x1, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_cst_5 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel8.lean ====
abbrev S1 : Shape := ⟨1, ![1]⟩
abbrev S2048x2048 : Shape := ⟨2, ![2048, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S2x2048x5632 : Shape := ⟨3, ![2, 2048, 5632]⟩
abbrev S2048x5632 : Shape := ⟨2, ![2048, 5632]⟩
abbrev S512x2048 : Shape := ⟨2, ![512, 2048]⟩
abbrev S1x2048x1408 : Shape := ⟨3, ![1, 2048, 1408]⟩
abbrev S2x512x1408 : Shape := ⟨3, ![2, 512, 1408]⟩
abbrev S512x1408 : Shape := ⟨2, ![512, 1408]⟩
abbrev S1x2048x256 : Shape := ⟨3, ![1, 2048, 256]⟩
abbrev S2048x256 : Shape := ⟨2, ![2048, 256]⟩
abbrev S512x256 : Shape := ⟨2, ![512, 256]⟩
abbrev S1x512x256 : Shape := ⟨3, ![1, 512, 256]⟩
abbrev S1x2048x128 : Shape := ⟨3, ![1, 2048, 128]⟩
abbrev S2048x128 : Shape := ⟨2, ![2048, 128]⟩
abbrev S512x128 : Shape := ⟨2, ![512, 128]⟩
abbrev S1x512x128 : Shape := ⟨3, ![1, 512, 128]⟩

abbrev nBuf : Space → Nat
  | .hbm => 6
  | .vmem => 10
  | .smem => 1
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2048x8x1408, .bf16⟩
  | .hbm, ⟨3, _⟩ => ⟨S8x2048x1408, .bf16⟩
  | .hbm, ⟨4, _⟩ => ⟨S2x2048x5632, .bf16⟩
  | .hbm, ⟨5, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c4_i32 : BitVec 32 := 4#32
  let v3 : BitVec 32 := Scalar.addi v2 c4_i32
  let c0_i32 : BitVec 32 := 0#32
  let c0_i32_0 : BitVec 32 := 0#32
  let c0_i32_1 : BitVec 32 := 0#32
  ![v3.toNat, c0_i32.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![c0_i32.toNat, arg1.toNat, v2.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  ![arg1.toNat, v2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S1 : Shape := ⟨1, ![1]⟩
abbrev S2048x2048 : Shape := ⟨2, ![2048, 2048]⟩
abbrev S2048x11264 : Shape := ⟨2, ![2048, 11264]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .bf16⟩
  | .hbm, ⟨2, _⟩ => ⟨S2048x11264, .bf16⟩
  | .hbm, ⟨3, _⟩ => ⟨S2048x2048, .f32⟩
  | .hbm, ⟨4, _⟩ => ⟨S2048x11264, .f32⟩
  | .hbm, ⟨5, _⟩ => ⟨S2048x11264, .f32⟩
  | .hbm, ⟨6, _⟩ => ⟨S2048x5632, .f32⟩
  | .hbm, ⟨7, _⟩ => ⟨S2048x5632, .f32⟩
  | .hbm, ⟨8, _⟩ => ⟨S1x2048x5632, .f32⟩
  | .hbm, ⟨9, _⟩ => ⟨S1x2048x5632, .f32⟩
  | .hbm, ⟨10, _⟩ => ⟨S2x2048x5632, .f32⟩
  | .hbm, ⟨11, _⟩ => ⟨S2x2048x5632, .bf16⟩
  | .hbm, ⟨12, _⟩ => ⟨S2048x5632, .f32⟩
  | .hbm, ⟨13, _⟩ => ⟨S2048x5632, .f32⟩
  | .hbm, ⟨14, _⟩ => ⟨S_, .f32⟩
  | .hbm, ⟨15, _⟩ => ⟨S2048x5632, .f32⟩
  | .hbm, ⟨16, _⟩ => ⟨S2048x5632, .f32⟩
  | .hbm, ⟨17, _⟩ => ⟨S_, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x5632, .f32⟩
  | .hbm, ⟨22, _⟩ => ⟨S2048x5632, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel9.lean ====
abbrev S1 : Shape := ⟨1, ![1]⟩
abbrev S2048x2048 : Shape := ⟨2, ![2048, 2048]⟩
abbrev S2048x11264 : Shape := ⟨2, ![2048, 11264]⟩
abbrev S2x2048x5632 : Shape := ⟨3, ![2, 2048, 5632]⟩
abbrev S2048x5632 : Shape := ⟨2, ![2048, 5632]⟩
abbrev S2048x8x1408 : Shape := ⟨3, ![2048, 8, 1408]⟩
abbrev S8x2048x1408 : Shape := ⟨3, ![8, 2048, 1408]⟩
abbrev S512x2048 : Shape := ⟨2, ![512, 2048]⟩
abbrev S1x2048x1408 : Shape := ⟨3, ![1, 2048, 1408]⟩
abbrev S2x512x1408 : Shape := ⟨3, ![2, 512, 1408]⟩
abbrev S512x1408 : Shape := ⟨2, ![512, 1408]⟩
abbrev S1x2048x256 : Shape := ⟨3, ![1, 2048, 256]⟩
abbrev S2048x256 : Shape := ⟨2, ![2048, 256]⟩
abbrev S512x256 : Shape := ⟨2, ![512, 256]⟩
abbrev S1x512x256 : Shape := ⟨3, ![1, 512, 256]⟩
abbrev S1x2048x128 : Shape := ⟨3, ![1, 2048, 128]⟩
abbrev S2048x128 : Shape := ⟨2, ![2048, 128]⟩
abbrev S512x128 : Shape := ⟨2, ![512, 128]⟩
abbrev S1x512x128 : Shape := ⟨3, ![1, 512, 128]⟩

abbrev nBuf : Space → Nat
  | .hbm => 8
  | .vmem => 10
  | .smem => 1
  | _ => 0

abbrev bufTy : (tb : Table) → Fin (tcTables nBuf tb) → BufTy
  | .hbm, ⟨0, _⟩ => ⟨S2048x2048, .bf16⟩
  | .hbm, ⟨1, _⟩ => ⟨S2048x11264, .bf16⟩
  | .hbm, ⟨2, _⟩ => ⟨S2x2048x5632, .bf16⟩
  | .hbm, ⟨3, _⟩ => ⟨S2048x5632, .bf16⟩
  | .hbm, ⟨4, _⟩ => ⟨S2048x8x1408, .bf16⟩
  | .hbm, ⟨5, _⟩ => ⟨S8x2048x1408, .bf16⟩
  | .hbm, ⟨6, _⟩ => ⟨S2x2048x5632, .bf16⟩
  | .hbm, ⟨7, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  let c0_i32_1 : BitVec 32 := 0#32
  ![v2.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c4_i32 : BitVec 32 := 4#32
  let v3 : BitVec 32 := Scalar.addi v2 c4_i32
  let c0_i32 : BitVec 32 := 0#32
  let c0_i32_0 : BitVec 32 := 0#32
  let c0_i32_1 : BitVec 32 := 0#32
  ![v3.toNat, c0_i32.toNat, c0_i32_0.toNat]

def cc0_transform_5 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![c0_i32.toNat, arg1.toNat, v2.toNat]

def cc0_transform_6 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  ![arg1.toNat, v2.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S1 : Shape := ⟨1, ![1]⟩
abbrev S2048x2048 : Shape := ⟨2, ![2048, 2048]⟩
abbrev S2048x11264 : Shape := ⟨2, ![2048, 11264]⟩
abbrev S2x2048x5632 : Shape := ⟨3, ![2, 2048, 5632]⟩
abbrev S2048x5632 : Shape := ⟨2, ![2048, 5632]⟩
abbrev S1x2048x5632 : Shape := ⟨3, ![1, 2048, 5632]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x2048, .bf16⟩
  | .hbm, ⟨2, _⟩ => ⟨S2048x11264, .bf16⟩
  | .hbm, ⟨3, _⟩ => ⟨S2x2048x5632, .bf16⟩
  | .hbm, ⟨4, _⟩ => ⟨S2048x5632, .bf16⟩
  | .hbm, ⟨5, _⟩ => ⟨S2048x2048, .f32⟩
  | .hbm, ⟨6, _⟩ => ⟨S2048x11264, .f32⟩
  | .hbm, ⟨7, _⟩ => ⟨S2048x11264, .f32⟩
  | .hbm, ⟨8, _⟩ => ⟨S2048x5632, .f32⟩
  | .hbm, ⟨9, _⟩ => ⟨S2048x5632, .f32⟩
  | .hbm, ⟨10, _⟩ => ⟨S1x2048x5632, .f32⟩
  | .hbm, ⟨11, _⟩ => ⟨S1x2048x5632, .f32⟩
  | .hbm, ⟨12, _⟩ => ⟨S2x2048x5632, .f32⟩
  | .hbm, ⟨13, _⟩ => ⟨S2x2048x5632, .bf16⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S2048x5632, .bf16⟩
  | .hbm, ⟨25, _⟩ => ⟨S2x2048x5632, .i32⟩
  | .hbm, ⟨26, _⟩ => ⟨S_, .i32⟩
  | .hbm, ⟨27, _⟩ => ⟨S2x2048x5632, .i32⟩
  | .hbm, ⟨28, _⟩ => ⟨S2x2048x5632, .i32⟩
  | .hbm, ⟨29, _⟩ => ⟨S_, .i32⟩
  | .hbm, ⟨30, _⟩ => ⟨S2x2048x5632, .i32⟩
  | .hbm, ⟨31, _⟩ => ⟨S2x2048x5632, .i32⟩
  | .hbm, ⟨32, _⟩ => ⟨S_, .i32⟩
  | .hbm, ⟨33, _⟩ => ⟨S2x2048x5632, .i32⟩
  | .hbm, ⟨34, _⟩ => ⟨S2x2048x5632, .i1⟩
  | .hbm, ⟨35, _⟩ => ⟨S2x2048x5632, .bf16⟩
  | .hbm, ⟨36, _⟩ => ⟨S2048x5632, .i32⟩
  | .hbm, ⟨37, _⟩ => ⟨S_, .i32⟩
  | .hbm, ⟨38, _⟩ => ⟨S2048x5632, .i32⟩
  | .hbm, ⟨39, _⟩ => ⟨S2048x5632, .i32⟩
  | .hbm, ⟨40, _⟩ => ⟨S_, .i32⟩
  | .hbm, ⟨41, _⟩ => ⟨S2048x5632, .i32⟩
  | .hbm, ⟨42, _⟩ => ⟨S2048x5632, .i32⟩
  | .hbm, ⟨43, _⟩ => ⟨S_, .i32⟩
  | .hbm, ⟨44, _⟩ => ⟨S2048x5632, .i32⟩
  | .hbm, ⟨45, _⟩ => ⟨S2048x5632, .i1⟩
  | .hbm, ⟨46, _⟩ => ⟨S2048x5632, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_1 : Ref sig .tc := ⟨.hbm, 37, rfl⟩
abbrev main_v22 : Ref sig .tc := ⟨.hbm, 38, rfl⟩
abbrev main_v23 : Ref sig .tc := ⟨.hbm, 39, rfl⟩
abbrev main_c_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel10.lean ====
abbrev S2 : Shape := ⟨1, ![2]⟩
abbrev S2048x2048 : Shape := ⟨2, ![2048, 2048]⟩
abbrev S2x2048x5632 : Shape := ⟨3, ![2, 2048, 5632]⟩
abbrev S4x2048x1408 : Shape := ⟨3, ![4, 2048, 1408]⟩
abbrev S2048x512 : Shape := ⟨2, ![2048, 512]⟩
abbrev S1x2048x1408 : Shape := ⟨3, ![1, 2048, 1408]⟩
abbrev S1 : Shape := ⟨1, ![1]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 6
  | .vmem => 12
  | .smem => 1
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2x2048x5632, .bf16⟩
  | .hbm, ⟨3, _⟩ => ⟨S2x2048x5632, .bf16⟩
  | .hbm, ⟨4, _⟩ => ⟨S4x2048x1408, .bf16⟩
  | .hbm, ⟨5, _⟩ => ⟨S4x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S1x512x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x512x1408, .bf16⟩
  | .local _ .smem, ⟨0, _⟩ => ⟨S2, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v13 : BitVec 32) : BitVec 1 :=
  let arg1 : BitVec 32 := BitVec.ofNat 32 (i 1).val
  let v14 : BitVec 1 := Scalar.cmpi .eq arg1 v13
  let v15 : BitVec 32 := Scalar.extui v14
  let c0_i32 : BitVec 32 := 0#32
  let v16 : BitVec 1 := Scalar.cmpi .ne v15 c0_i32
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0 : Index := 0#32
  let v1 : BitVec 32 := pf.at 0 (Rect.unit (s := S2) ![0] S1.size inb_S2_S1_0) numel1_S1
  let v2 : BitVec 32 := Scalar.addi v0 v1
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c4_i32_4 : BitVec 32 := 4#32
  let c0_i32_5 : BitVec 32 := 0#32
  let v20 : BitVec 1 := Scalar.cmpi .eq c4_i32_4 c0_i32_5
  let c1_i32_6 : BitVec 32 := 1#32
  let v21 : BitVec 32 := Scalar.select v20 c1_i32_6 c4_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let c0_i32_11 : BitVec 32 := 0#32
  ![v19.toNat, c0_i32_10.toNat, v29.toNat]

def cc0_transform_3 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0 : Index := 0#32
  let v1 : BitVec 32 := pf.at 0 (Rect.unit (s := S2) ![0] S1.size inb_S2_S1_0) numel1_S1
  let v2 : BitVec 32 := Scalar.addi v0 v1
  let c4_i32 : BitVec 32 := 4#32
  let v3 : BitVec 32 := Scalar.divsi v2 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c4_i32_4 : BitVec 32 := 4#32
  let c0_i32_5 : BitVec 32 := 0#32
  let v20 : BitVec 1 := Scalar.cmpi .eq c4_i32_4 c0_i32_5
  let c1_i32_6 : BitVec 32 := 1#32
  let v21 : BitVec 32 := Scalar.select v20 c1_i32_6 c4_i32_4
  let v22 : BitVec 32 := Scalar.remsi v2 v21
  let c0_i32_7 : BitVec 32 := 0#32
  let v23 : BitVec 1 := Scalar.cmpi .ne v22 c0_i32_7
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let v27 : BitVec 1 := Scalar.andi v26 v23
  let v28 : BitVec 32 := Scalar.addi v22 v21
  let v29 : BitVec 32 := Scalar.select v27 v28 v22
  let c0_i32_10 : BitVec 32 := 0#32
  let c0_i32_11 : BitVec 32 := 0#32
  ![v19.toNat, c0_i32_10.toNat, v29.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (inb_S2_S1_1 : ∀ a, (![1] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![v0.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference10Ideal.lean ====
abbrev S2 : Shape := ⟨1, ![2]⟩
abbrev S2048x2048 : Shape := ⟨2, ![2048, 2048]⟩
abbrev S2x2048x5632 : Shape := ⟨3, ![2, 2048, 5632]⟩
abbrev S_ : Shape := ⟨0, ![]⟩
abbrev S2048x11264 : Shape := ⟨2, ![2048, 11264]⟩
abbrev S2048x2x5632 : Shape := ⟨3, ![2048, 2, 5632]⟩
abbrev S11264x2048 : Shape := ⟨2, ![11264, 2048]⟩
abbrev S2048x8x1408 : Shape := ⟨3, ![2048, 8, 1408]⟩
abbrev S8x2048x1408 : Shape := ⟨3, ![8, 2048, 1408]⟩
abbrev S4x2x2048x1408 : Shape := ⟨4, ![4, 2, 2048, 1408]⟩
abbrev S1 : Shape := ⟨1, ![1]⟩
abbrev S4x1x2048x1408 : Shape := ⟨4, ![4, 1, 2048, 1408]⟩
abbrev S4x2048x1408 : Shape := ⟨3, ![4, 2048, 1408]⟩

abbrev nBuf : Space → Nat
  | .hbm => 35
  | .vmem => 0
  | .smem => 0
  | _ => 0

abbrev bufTy : (tb : Table) → Fin (tcTables nBuf tb) → BufTy
  | .hbm, ⟨0, _⟩ => ⟨S2, .i32⟩
  | .hbm, ⟨1, _⟩ => ⟨S2048x2048, .bf16⟩
  | .hbm, ⟨2, _⟩ => ⟨S2048x2048, .bf16⟩
  | .hbm, ⟨3, _⟩ => ⟨S2x2048x5632, .bf16⟩
  | .hbm, ⟨4, _⟩ => ⟨S2x2048x5632, .bf16⟩
  | .hbm, ⟨5, _⟩ => ⟨S_, .f32⟩
  | .hbm, ⟨6, _⟩ => ⟨S2048x11264, .f32⟩
  | .hbm, ⟨7, _⟩ => ⟨S2048x2048, .f32⟩
  | .hbm, ⟨8, _⟩ => ⟨S2048x11264, .f32⟩
  | .hbm, ⟨9, _⟩ => ⟨S2048x2048, .f32⟩
  | .hbm, ⟨10, _⟩ => ⟨S2048x11264, .f32⟩
  | .hbm, ⟨11, _⟩ => ⟨S2x2048x5632, .f32⟩
  | .hbm, ⟨12, _⟩ => ⟨S2048x2x5632, .f32⟩
  | .hbm, ⟨13, _⟩ => ⟨S2048x11264, .f32⟩
  | .hbm, ⟨14, _⟩ => ⟨S2x2048x5632, .f32⟩
  | .hbm, ⟨15, _⟩ => ⟨S2048x2x5632, .f32⟩
  | .hbm, ⟨16, _⟩ => ⟨S2048x11264, .f32⟩
  | .hbm, ⟨17, _⟩ => ⟨S11264x2048, .f32⟩
  | .hbm, ⟨18, _⟩ => ⟨S2048x11264, .f32⟩
  | .hbm, ⟨19, _⟩ => ⟨S11264x2048, .f32⟩
  | .hbm, ⟨20, _⟩ => ⟨S2048x11264, .f32⟩
  | .hbm, ⟨21, _⟩ => ⟨S2048x11264, .f32⟩
  | .hbm, ⟨22, _⟩ => ⟨S2048x8x1408, .f32⟩
  | .hbm, ⟨23, _⟩ => ⟨S8x2048x1408, .f32⟩
  | .hbm, ⟨24, _⟩ => ⟨S4x2x2048x1408, .f32⟩
  | .hbm, ⟨25, _⟩ => ⟨S1, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S4x1x2048x1408, .f32⟩
  | .hbm, ⟨30, _⟩ => ⟨S4x2048x1408, .f32⟩
  | .hbm, ⟨31, _⟩ => ⟨S4x1x2048x1408, .f32⟩
  | .hbm, ⟨32, _⟩ => ⟨S4x2048x1408, .f32⟩
  | .hbm, ⟨33, _⟩ => ⟨S4x2048x1408, .f32⟩
  | .hbm, ⟨34, _⟩ => ⟨S4x2048x1408, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel11.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference11Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel12.lean ====
abbrev S2048x2048 : Shape := ⟨2, ![2048, 2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S8x2048, .f32⟩
  | .hbm, ⟨6, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S8x2048, .f32⟩
  | .local _ .vmem, ⟨10, _⟩ => ⟨S256x2048, .bf16⟩
  | .local _ .vmem, ⟨11, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference12Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S7x2048 : Shape := ⟨2, ![7, 2048]⟩
abbrev S8x2048 : Shape := ⟨2, ![8, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S7x2048, .f32⟩
  | .hbm, ⟨49, _⟩ => ⟨S8x2048, .f32⟩
  | .hbm, ⟨50, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel13.lean ====
abbrev S2048x1024 : Shape := ⟨2, ![2048, 1024]⟩
abbrev S2048x256 : Shape := ⟨2, ![2048, 256]⟩
abbrev S16 : Shape := ⟨1, ![16]⟩
abbrev S16x1 : Shape := ⟨2, ![16, 1]⟩
abbrev S16x128 : Shape := ⟨2, ![16, 128]⟩
abbrev S128x1024 : Shape := ⟨2, ![128, 1024]⟩
abbrev S128x256 : Shape := ⟨2, ![128, 256]⟩
abbrev S256x512 : Shape := ⟨2, ![256, 512]⟩
abbrev S128x64 : Shape := ⟨2, ![128, 64]⟩
abbrev S256x64 : Shape := ⟨2, ![256, 64]⟩
abbrev S512x64 : Shape := ⟨2, ![512, 64]⟩
abbrev S1x128 : Shape := ⟨2, ![1, 128]⟩
abbrev S1x512 : Shape := ⟨2, ![1, 512]⟩
abbrev S512 : Shape := ⟨1, ![512]⟩

abbrev nBuf : Space → Nat
  | .hbm => 7
  | .vmem => 13
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x256, .bf16⟩
  | .hbm, ⟨3, _⟩ => ⟨S16, .f32⟩
  | .hbm, ⟨4, _⟩ => ⟨S16x1, .f32⟩
  | .hbm, ⟨5, _⟩ => ⟨S16x128, .f32⟩
  | .hbm, ⟨6, _⟩ => ⟨S2048x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S16x128, .f32⟩
  | .local _ .vmem, ⟨11, _⟩ => ⟨S128x1024, .bf16⟩
  | .local _ .vmem, ⟨12, _⟩ => ⟨S128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel13Ideal.lean ====
variable {F : FTy → Type} [FloatOps F] [Named F]
def κ : String → Option EReal := fun
  | "mask" => some ⊥
  | _ => none
-- ==== Reference13Ideal.lean ====
abbrev S2048x1024 : Shape := ⟨2, ![2048, 1024]⟩
abbrev S2048x256 : Shape := ⟨2, ![2048, 256]⟩
abbrev S16 : Shape := ⟨1, ![16]⟩
abbrev S1x2048x16x64 : Shape := ⟨4, ![1, 2048, 16, 64]⟩
abbrev S1x2048x4x64 : Shape := ⟨4, ![1, 2048, 4, 64]⟩
abbrev S_ : Shape := ⟨0, ![]⟩
abbrev S1x2176x4x64 : Shape := ⟨4, ![1, 2176, 4, 64]⟩
abbrev S1x17x128x4x64 : Shape := ⟨5, ![1, 17, 128, 4, 64]⟩
abbrev S1x16x128x4x64 : Shape := ⟨5, ![1, 16, 128, 4, 64]⟩
abbrev S1x16x128x4x4x64 : Shape := ⟨6, ![1, 16, 128, 4, 4, 64]⟩
abbrev S1x16x256x4x64 : Shape := ⟨5, ![1, 16, 256, 4, 64]⟩
abbrev S1x16x4x256x128x4 : Shape := ⟨6, ![1, 16, 4, 256, 128, 4]⟩
abbrev S1x16x4x4x128x256 : Shape := ⟨6, ![1, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S1x1x4x4x1x1 : Shape := ⟨6, ![1, 1, 4, 4, 1, 1]⟩
abbrev S1x16x4x4x128 : Shape := ⟨5, ![1, 16, 4, 4, 128]⟩
abbrev S1x16x4x4x128x1 : Shape := ⟨6, ![1, 16, 4, 4, 128, 1]⟩
abbrev S1x16x4x64x4x128 : Shape := ⟨6, ![1, 16, 4, 64, 4, 128]⟩
abbrev S1x2048x1024 : Shape := ⟨3, ![1, 2048, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x256, .bf16⟩
  | .hbm, ⟨3, _⟩ => ⟨S16, .f32⟩
  | .hbm, ⟨4, _⟩ => ⟨S2048x1024, .f32⟩
  | .hbm, ⟨5, _⟩ => ⟨S1x2048x16x64, .f32⟩
  | .hbm, ⟨6, _⟩ => ⟨S2048x256, .f32⟩
  | .hbm, ⟨7, _⟩ => ⟨S1x2048x4x64, .f32⟩
  | .hbm, ⟨8, _⟩ => ⟨S_, .i32⟩
  | .hbm, ⟨9, _⟩ => ⟨S_, .f32⟩
  | .hbm, ⟨10, _⟩ => ⟨S1x2176x4x64, .f32⟩
  | .hbm, ⟨11, _⟩ => ⟨S1x17x128x4x64, .f32⟩
  | .hbm, ⟨12, _⟩ => ⟨S1x16x128x4x64, .f32⟩
  | .hbm, ⟨13, _⟩ => ⟨S1x16x128x4x64, .f32⟩
  | .hbm, ⟨14, _⟩ => ⟨S2048x256, .f32⟩
  | .hbm, ⟨15, _⟩ => ⟨S1x2048x4x64, .f32⟩
  | .hbm, ⟨16, _⟩ => ⟨S_, .i32⟩
  | .hbm, ⟨17, _⟩ => ⟨S_, .f32⟩
  | .hbm, ⟨18, _⟩ => ⟨S1x2176x4x64, .f32⟩
  | .hbm, ⟨19, _⟩ => ⟨S1x17x128x4x64, .f32⟩
  | .hbm, ⟨20, _⟩ => ⟨S1x16x128x4x64, .f32⟩
  | .hbm, ⟨21, _⟩ => ⟨S1x16x128x4x64, .f32⟩
  | .hbm, ⟨22, _⟩ => ⟨S1x16x128x4x4x64, .f32⟩
  | .hbm, ⟨23, _⟩ => ⟨S1x16x256x4x64, .f32⟩
  | .hbm, ⟨24, _⟩ => ⟨S1x16x256x4x64, .f32⟩
  | .hbm, ⟨25, _⟩ => ⟨S1x16x4x256x128x4, .f32⟩
  | .hbm, ⟨26, _⟩ => ⟨S1x16x4x4x128x256, .f32⟩
  | .hbm, ⟨27, _⟩ => ⟨S_, .f32⟩
  | .hbm, ⟨28, _⟩ => ⟨S1x16x4x4x128x256, .f32⟩
  | .hbm, ⟨29, _⟩ => ⟨S1x16x4x4x128x256, .f32⟩
  | .hbm, ⟨30, _⟩ => ⟨S128, .i32⟩
  | .hbm, ⟨31, _⟩ => ⟨S128x1, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S256, .i32⟩
  | .hbm, ⟨36, _⟩ => ⟨S1x256, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S16, .i32⟩
  | .hbm, ⟨48, _⟩ => ⟨S16x1, .i32⟩
  | .hbm, ⟨49, _⟩ => ⟨S_, .i32⟩
  | .hbm, ⟨50, _⟩ => ⟨S16x1, .i32⟩
  | .hbm, ⟨51, _⟩ => ⟨S16x1, .i32⟩
  | .hbm, ⟨52, _⟩ => ⟨S256, .i32⟩
  | .hbm, ⟨53, _⟩ => ⟨S1x256, .i32⟩
  | .hbm, ⟨54, _⟩ => ⟨S16x256, .i32⟩
  | .hbm, ⟨55, _⟩ => ⟨S16x256, .i32⟩
  | .hbm, ⟨56, _⟩ => ⟨S16x256, .i32⟩
  | .hbm, ⟨57, _⟩ => ⟨S_, .i32⟩
  | .hbm, ⟨58, _⟩ => ⟨S16x256, .i32⟩
  | .hbm, ⟨59, _⟩ => ⟨S16x256, .i32⟩
  | .hbm, ⟨60, _⟩ => ⟨S1x128x256, .i1⟩
  | .hbm, ⟨61, _⟩ => ⟨S_, .i32⟩
  | .hbm, ⟨62, _⟩ => ⟨S16x256, .i32⟩
  | .hbm, ⟨63, _⟩ => ⟨S16x256, .i1⟩
  | .hbm, ⟨64, _⟩ => ⟨S16x1x256, .i1⟩
  | .hbm, ⟨65, _⟩ => ⟨S16x128x256, .i1⟩
  | .hbm, ⟨66, _⟩ => ⟨S16x128x256, .i1⟩
  | .hbm, ⟨67, _⟩ => ⟨S16x128x256, .i1⟩
  | .hbm, ⟨68, _⟩ => ⟨S1x16x1x1x128x256, .i1⟩
  | .hbm, ⟨69, _⟩ => ⟨S_, .f32⟩
  | .hbm, ⟨70, _⟩ => ⟨S_, .f32⟩
  | .hbm, ⟨71, _⟩ => ⟨S1x16x4x4x128x256, .i1⟩
  | .hbm, ⟨72, _⟩ => ⟨S1x16x4x4x128x256, .f32⟩
  | .hbm, ⟨73, _⟩ => ⟨S1x16x4x4x128x256, .f32⟩
  | .hbm, ⟨74, _⟩ => ⟨S1x1x4x4x1x1, .f32⟩
  | .hbm, ⟨75, _⟩ => ⟨S_, .f32⟩
  | .hbm, ⟨76, _⟩ => ⟨S1x16x4x4x128, .f32⟩
  | .hbm, ⟨77, _⟩ => ⟨S1x16x4x4x128x1, .f32⟩
  | .hbm, ⟨78, _⟩ => ⟨S1x16x4x4x128x1, .f32⟩
  | .hbm, ⟨79, _⟩ => ⟨S1x16x4x4x128x1, .f32⟩
  | .hbm, ⟨80, _⟩ => ⟨S1x16x4x4x128x256, .f32⟩
  | .hbm, ⟨81, _⟩ => ⟨S1x16x4x4x128x256, .f32⟩
  | .hbm, ⟨82, _⟩ => ⟨S1x16x4x4x128x256, .f32⟩
  | .hbm, ⟨83, _⟩ => ⟨S_, .f32⟩
  | .hbm, ⟨84, _⟩ => ⟨S1x16x4x4x128, .f32⟩
  | .hbm, ⟨85, _⟩ => ⟨S1x16x4x4x128x1, .f32⟩
  | .hbm, ⟨86, _⟩ => ⟨S1x16x4x4x128x1, .f32⟩
  | .hbm, ⟨87, _⟩ => ⟨S1x16x4x4x128x1, .f32⟩
  | .hbm, ⟨88, _⟩ => ⟨S1x16x4x4x128x1, .f32⟩
  | .hbm, ⟨89, _⟩ => ⟨S1x16x4x4x128x1, .f32⟩
  | .hbm, ⟨90, _⟩ => ⟨S1x16x4x4x128x256, .f32⟩
  | .hbm, ⟨91, _⟩ => ⟨S1x16x4x4x128x256, .f32⟩
  | .hbm, ⟨92, _⟩ => ⟨S1x16x4x64x4x128, .f32⟩
  | .hbm, ⟨93, _⟩ => ⟨S1x16x128x4x4x64, .f32⟩
  | .hbm, ⟨94, _⟩ => ⟨S1x2048x1024, .f32⟩
  | .hbm, ⟨95, _⟩ => ⟨S2048x1024, .f32⟩
  | .hbm, ⟨96, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_2 : Ref sig .tc := ⟨.hbm, 40, rfl⟩
abbrev main_v30 : Ref sig .tc := ⟨.hbm, 41, rfl⟩
abbrev main_v31 : Ref sig .tc := ⟨.hbm, 42, rfl⟩
abbrev main_c_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_9 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]
-- ==== Proof.Attn.Tile.lean ====
/-
  The kernel's body on its blocks, as one term per value, a key-value head `h : Fin 4` being a variable, and the equality
  of those terms with what the run of the body found (whose text writes the four heads out one after another).
-/
module

public import proofs.«01_k».proof.Proof.Gen.KernelIdeal.Value
import Idealize.ShloMosaic.Lib.Pointwise

@[expose] public section

noncomputable section

namespace Cert.KernelIdeal.Value

open Idealize.ShloMosaic Idealize.SL.Sem Cert.KernelIdeal Cert.KernelIdeal.Gen

variable {F : FTy → Type} [FloatOps F] [Named F]

/-! ## One head -/

section
variable (valid : IVec S256x512 1) (k2 v2 : FVec F S256x64 .bf16) (q4 do4 : FVec F S512x64 .bf16) (sk : FVec F S1x512 .f32)

/-- The masked scores: a row per key, a column per query row of the group. -/
def tS : FVec F S256x512 .f32 :=
  select valid (mulf (matmul dot_S256x64_S512x64_S256x512_1_1_0_0_n_n none k2 q4 (constant S256x512 .f32 0x00000000#32))
    (broadcast S256x512 (Scalar.ofBits .f32 0x3E000000#32))) (broadcast S256x512 (Named.named κ "mask" 0xF149F2CA#32))
/-- Each column's maximum, the sink included. -/
def tM : FVec F S1x512 .f32 :=
  maximumf (shapeCast S1x512 (multiReduction .maximumf [0] S512 (tS valid k2 q4) 0xFF800000#32 reduces_S256x512_S512 (.inl rfl) rfl)
    shapeCasts_S512_S1x512) sk
/-- The weights before the division. -/
def tP : FVec F S256x512 .f32 := exp (subf (tS valid k2 q4) (broadcastTo S256x512 (tM valid k2 q4 sk) broadcasts_S1x512_S256x512))
/-- The sinks' weights before the division. -/
def tE : FVec F S1x512 .f32 := exp (subf sk (tM valid k2 q4 sk))
/-- The reciprocal of each column's sum. -/
def tInv : FVec F S1x512 .f32 :=
  divf (broadcast S1x512 (Scalar.ofBits .f32 0x3F800000#32))
    (addf (shapeCast S1x512 (multiReduction .add [0] S512 (tP valid k2 q4 sk) 0x00000000#32 reduces_S256x512_S512 (.inl rfl) rfl)
      shapeCasts_S512_S1x512) (tE valid k2 q4 sk))
/-- The weights. -/
def tPn : FVec F S256x512 .f32 := mulf (tP valid k2 q4 sk) (broadcastTo S256x512 (tInv valid k2 q4 sk) broadcasts_S1x512_S256x512)
/-- The sinks' weights. -/
def tPs : FVec F S1x512 .f32 := mulf (tE valid k2 q4 sk) (tInv valid k2 q4 sk)
/-- The gradient of the weights. -/
def tDp : FVec F S256x512 .f32 :=
  matmul dot_S256x64_S512x64_S256x512_1_1_0_0_n_n none v2 do4 (constant S256x512 .f32 0x00000000#32)
/-- The gradient of the values. -/
def tDv : FVec F S256x64 .f32 :=
  matmul dot_S256x512_S512x64_S256x64_1_0_0_1_n_n none (truncf .bf16 (tPn valid k2 q4 sk) bitsLt_bf16_f32) do4 (constant S256x64 .f32 0x00000000#32)
/-- Each column's weighted mean of the weights' gradients. -/
def tDelta : FVec F S1x512 .f32 :=
  shapeCast S1x512 (multiReduction .add [0] S512 (mulf (tPn valid k2 q4 sk) (tDp v2 do4)) 0x00000000#32 reduces_S256x512_S512 (.inl rfl) rfl)
    shapeCasts_S512_S1x512
/-- The gradient of the scores. -/
def tDs : FVec F S256x512 .bf16 :=
  truncf .bf16 (mulf (mulf (tPn valid k2 q4 sk) (subf (tDp v2 do4) (broadcastTo S256x512 (tDelta valid k2 v2 q4 do4 sk) broadcasts_S1x512_S256x512)))
    (broadcast S256x512 (Scalar.ofBits .f32 0x3E000000#32))) bitsLt_bf16_f32
/-- The gradient of the keys. -/
def tDk : FVec F S256x64 .f32 :=
  matmul dot_S256x512_S512x64_S256x64_1_0_0_1_n_n none (tDs valid k2 v2 q4 do4 sk) q4 (constant S256x64 .f32 0x00000000#32)
/-- The gradient of the queries. -/
def tDq : FVec F S512x64 .f32 :=
  matmul dot_S256x512_S256x64_S512x64_0_0_1_1_n_n none (tDs valid k2 v2 q4 do4 sk) k2 (constant S512x64 .f32 0x00000000#32)
/-- Each column's part of its sink's gradient. -/
def tDsk : FVec F S1x512 .f32 :=
  mulf (subf (broadcast S1x512 (Scalar.ofBits .f32 0x00000000#32)) (tPs valid k2 q4 sk)) (tDelta valid k2 v2 q4 do4 sk)
end

/-! ## A head's part of the blocks -/

theorem slKv (h : Fin 4) : S128x256.Slices ![0, 64 * h.val] S128x64 := by revert h; decide
theorem slQ (n : Fin 16) : S128x1024.Slices ![0, 64 * n.val] S128x64 := by revert n; decide
theorem slR (g : Fin 4) : S512x64.Slices ![128 * g.val, 0] S128x64 := by revert g; decide
theorem slC (g : Fin 4) : S1x512.Slices ![0, 128 * g.val] S1x128 := by revert g; decide
theorem inSk (n : Fin 16) : ∀ a, (![n.val, 0] : Fin 2 → Nat) a + S1x128.size a ≤ S16x128.size a := by revert n; decide

/-- Query head `g` of key-value head `h`. -/
def qh (h g : Fin 4) : Fin 16 := ⟨4 * h.val + g.val, by omega⟩

/-- The head's keys (or values): those of the block before, then the block's own. -/
def kOf (h : Fin 4) (a b : Vec F S128x256 .bf16) : FVec F S256x64 .bf16 :=
  concatenate S256x64 0 [⟨S128x64, extractStridedSlice S128x64 ![0, 64 * h.val] a (slKv h)⟩, ⟨S128x64, extractStridedSlice S128x64 ![0, 64 * h.val] b (slKv h)⟩]
    concatenates_S128x64_S128x64_S256x64_d0
/-- The head's four query heads, one under another. -/
def qOf (ty : FTy) (h : Fin 4) (x : FVec F S128x1024 ty) : FVec F S512x64 ty :=
  concatenate S512x64 0 (List.ofFn fun g : Fin 4 => (⟨S128x64, extractStridedSlice S128x64 ![0, 64 * (qh h g).val] x (slQ (qh h g))⟩ : (s : Shape) × (s.Idx → F ty)))
    concatenates_S128x64_S128x64_S128x64_S128x64_S512x64_d0
/-- The head's four sinks, one beside another. -/
def skOf (h : Fin 4) (x : Vec F S16x128 .f32) : FVec F S1x512 .f32 :=
  concatenate S1x512 1 (List.ofFn fun g : Fin 4 => (⟨S1x128, shapeCast S1x128 (View.ld x (Rect.unit (s := S16x128) ![(qh h g).val, 0] S1x128.size (inSk (qh h g)))) shapeCasts_S1x128_S1x128⟩ : (s : Shape) × (s.Idx → F .f32)))
    concatenates_S1x128_S1x128_S1x128_S1x128_S1x512_d1

/-! ## The body -/

section
variable (i : grid0.Coords) (x0 : Vec F S128x1024 .bf16) (x1 x2 x3 x4 : Vec F S128x256 .bf16) (x5 : Vec F S16x128 .f32) (x6 : Vec F S128x1024 .f32)

/-- The output gradient's four heads, rounded. -/
def doOf (h : Fin 4) : FVec F S512x64 .bf16 := truncf .bf16 (qOf .f32 h x6) bitsLt_bf16_f32

/-- The gradients of the queries, keys, values and sinks of head `h`. -/
def hDq (h : Fin 4) : FVec F S512x64 .f32 := tDq (k0_pay2 i) (kOf h x1 x2) (kOf h x3 x4) (qOf .bf16 h x0) (doOf x6 h) (skOf h x5)
def hDk (h : Fin 4) : FVec F S256x64 .f32 := tDk (k0_pay2 i) (kOf h x1 x2) (kOf h x3 x4) (qOf .bf16 h x0) (doOf x6 h) (skOf h x5)
def hDv (h : Fin 4) : FVec F S256x64 .f32 := tDv (k0_pay2 i) (kOf h x1 x2) (qOf .bf16 h x0) (doOf x6 h) (skOf h x5)
def hDsk (h : Fin 4) : FVec F S1x512 .f32 := tDsk (k0_pay2 i) (kOf h x1 x2) (kOf h x3 x4) (qOf .bf16 h x0) (doOf x6 h) (skOf h x5)

/-- Query head `n`'s key-value head and its place there. -/
def hd (n : Fin 16) : Fin 4 := ⟨n.val / 4, by omega⟩
def gp (n : Fin 16) : Fin 4 := ⟨n.val % 4, by omega⟩

/-- The block of the queries' gradient. -/
def oDq : FVec F S128x1024 .f32 :=
  concatenate S128x1024 1 (List.ofFn fun n : Fin 16 => (⟨S128x64, extractStridedSlice S128x64 ![128 * (gp n).val, 0] (hDq i x0 x1 x2 x3 x4 x5 x6 (hd n)) (slR (gp n))⟩ : (s : Shape) × (s.Idx → F .f32)))
    concatenates_S128x64_S128x64_S128x64_S128x64_S128x64_S128x64_S128x64_S128x64_S128x64_S128x64_S128x64_S128x64_S128x64_S128x64_S128x64_S128x64_S128x1024_d1
/-- Four heads' rows of one half of the keys, one beside another. -/
def lower (d : Fin 4 → FVec F S256x64 .f32) : FVec F S128x256 .f32 :=
  concatenate S128x256 1 (List.ofFn fun h : Fin 4 => (⟨S128x64, extractStridedSlice S128x64 ![0, 0] (d h) slices_S256x64_o0_0_S128x64⟩ : (s : Shape) × (s.Idx → F .f32)))
    concatenates_S128x64_S128x64_S128x64_S128x64_S128x256_d1
def upper (d : Fin 4 → FVec F S256x64 .f32) : FVec F S128x256 .f32 :=
  concatenate S128x256 1 (List.ofFn fun h : Fin 4 => (⟨S128x64, extractStridedSlice S128x64 ![128, 0] (d h) slices_S256x64_o128_0_S128x64⟩ : (s : Shape) × (s.Idx → F .f32)))
    concatenates_S128x64_S128x64_S128x64_S128x64_S128x256_d1
/-- The block's part of the sinks' gradient. -/
def oDsk : FVec F S16x128 .f32 :=
  concatenate S16x128 0 (List.ofFn fun n : Fin 16 => (⟨S1x128, broadcastTo S1x128 (shapeCast S1x1 (shapeCast S1x1 (multiReduction .add [1] S1
      (extractStridedSlice S1x128 ![0, 128 * (gp n).val] (hDsk i x0 x1 x2 x3 x4 x5 x6 (hd n)) (slC (gp n))) 0x00000000#32 reduces_S1x128_S1 (.inl rfl) rfl)
      shapeCasts_S1_S1x1) shapeCasts_S1x1_S1x1) broadcasts_S1x1_S1x128⟩ : (s : Shape) × (s.Idx → F .f32)))
    concatenates_S1x128_S1x128_S1x128_S1x128_S1x128_S1x128_S1x128_S1x128_S1x128_S1x128_S1x128_S1x128_S1x128_S1x128_S1x128_S1x128_S16x128_d0
end

/-! ## What the body leaves -/

theorem hz : (![0, 0] : Fin 2 → Nat) = fun _ => 0 := funext fun a => by fin_cases a <;> rfl
theorem ldQ {ty : EltTy} (x : Vec F S128x1024 ty) : View.ld x (Rect.unit (s := S128x1024) ![0, 0] ![128, 1024] inb_S128x1024_S128x1024_0_0) = x :=
  View.ld_unit_zero (S := S128x1024) hz _ x
theorem ldK {ty : EltTy} (x : Vec F S128x256 ty) : View.ld x (Rect.unit (s := S128x256) ![0, 0] ![128, 256] inb_S128x256_S128x256_0_0) = x :=
  View.ld_unit_zero (S := S128x256) hz _ x
theorem ldS {ty : EltTy} (x : Vec F S16x128 ty) : View.ld x (Rect.unit (s := S16x128) ![0, 0] ![16, 128] inb_S16x128_S16x128_0_0) = x :=
  View.ld_unit_zero (S := S16x128) hz _ x

/-- The blocks that the body leaves, `xo` being what it found where it adds to the sinks' gradient. -/
def leaves (i : grid0.Coords) (x0 : Vec F S128x1024 .bf16) (x1 x2 x3 x4 : Vec F S128x256 .bf16) (x5 : Vec F S16x128 .f32) (x6 : Vec F S128x1024 .f32)
    (xo : FVec F S16x128 .f32) :
    Vec F S128x1024 .f32 × Vec F S128x256 .f32 × Vec F S128x256 .f32 × Vec F S128x256 .f32 × Vec F S128x256 .f32 × Vec F S16x128 .f32 :=
  (oDq i x0 x1 x2 x3 x4 x5 x6, upper (hDk i x0 x1 x2 x3 x4 x5 x6), lower (hDk i x0 x1 x2 x3 x4 x5 x6),
    upper (hDv i x0 x1 x2 x5 x6), lower (hDv i x0 x1 x2 x5 x6), k0_pay1 xo (oDsk i x0 x1 x2 x3 x4 x5 x6))

section
variable (c : Dev nD) (i : grid0.Coords)
  (arg1 : Memref sig .tc .vmem S128x1024 .bf16) (harg1 : arg1.IsWhole)
  (arg2 : Memref sig .tc .vmem S128x256 .bf16) (harg2 : arg2.IsWhole)
  (arg3 : Memref sig .tc .vmem S128x256 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S16x128 .f32) (harg6 : arg6.IsWhole)
  (arg7 : Memref sig .tc .vmem S128x1024 .f32) (harg7 : arg7.IsWhole)
  (arg8 : Memref sig .tc .vmem S128x1024 .f32) (harg8 : arg8.IsWhole)
  (arg9 : Memref sig .tc .vmem S128x256 .f32) (harg9 : arg9.IsWhole)
  (arg10 : Memref sig .tc .vmem S128x256 .f32) (harg10 : arg10.IsWhole)
  (arg11 : Memref sig .tc .vmem S128x256 .f32) (harg11 : arg11.IsWhole)
  (arg12 : Memref sig .tc .vmem S128x256 .f32) (harg12 : arg12.IsWhole)
  (arg13 : Memref sig .tc .vmem S16x128 .f32) (harg13 : arg13.IsWhole)
  (x0 : Vec F S128x1024 .bf16) (x1 x2 x3 x4 : Vec F S128x256 .bf16) (x5 : Vec F S16x128 .f32) (x6 : Vec F S128x1024 .f32) (xo : Vec F S16x128 .f32)

set_option maxRecDepth 65536 in
set_option maxHeartbeats 2000000 in
/-- The body at the first point: the sinks' gradient starts from zero. -/
theorem out_A (hc : cond0_0 i) :
    (out0_A_7 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6, out0_A_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6, out0_A_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6, out0_A_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6, out0_A_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6, out0_A_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6)
      = leaves i x0 x1 x2 x3 x4 x5 x6 k0_pay120 := by
  refine Prod.ext ?_ (Prod.ext ?_ (Prod.ext ?_ (Prod.ext ?_ (Prod.ext ?_ ?_)))) <;> dsimp only
  · unfold out0_A_7
    refine (View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6)).trans ?_
    unfold kernelRun0_A; dsimp only; sl_unfold_words
    simp only [View.readAt_eq_ld, harg1.read_unread, harg2.read_unread, harg3.read_unread, harg4.read_unread, harg5.read_unread, harg6.read_unread, harg7.read_unread, ldQ, ldK]
    exact View.canon_unit_zero (S := S128x1024) hz _ _
  · unfold out0_A_8
    refine (View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6)).trans ?_
    unfold kernelRun0_A; dsimp only; sl_unfold_words
    simp only [View.readAt_eq_ld, harg1.read_unread, harg2.read_unread, harg3.read_unread, harg4.read_unread, harg5.read_unread, harg6.read_unread, harg7.read_unread, ldQ, ldK]
    exact View.canon_unit_zero (S := S128x256) hz _ _
  · unfold out0_A_9
    refine (View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6)).trans ?_
    unfold kernelRun0_A; dsimp only; sl_unfold_words
    simp only [View.readAt_eq_ld, harg1.read_unread, harg2.read_unread, harg3.read_unread, harg4.read_unread, harg5.read_unread, harg6.read_unread, harg7.read_unread, ldQ, ldK]
    exact View.canon_unit_zero (S := S128x256) hz _ _
  · unfold out0_A_10
    refine (View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6)).trans ?_
    unfold kernelRun0_A; dsimp only; sl_unfold_words
    simp only [View.readAt_eq_ld, harg1.read_unread, harg2.read_unread, harg3.read_unread, harg4.read_unread, harg5.read_unread, harg6.read_unread, harg7.read_unread, ldQ, ldK]
    exact View.canon_unit_zero (S := S128x256) hz _ _
  · unfold out0_A_11
    refine (View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6)).trans ?_
    unfold kernelRun0_A; dsimp only; sl_unfold_words
    simp only [View.readAt_eq_ld, harg1.read_unread, harg2.read_unread, harg3.read_unread, harg4.read_unread, harg5.read_unread, harg6.read_unread, harg7.read_unread, ldQ, ldK]
    exact View.canon_unit_zero (S := S128x256) hz _ _
  · unfold out0_A_12
    refine (View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6)).trans ?_
    unfold kernelRun0_A; dsimp only; sl_unfold_words
    simp only [View.readAt_eq_ld]
    rw [harg1.read_unread x0, harg2.read_unread x1, harg3.read_unread x2, harg4.read_unread x3, harg5.read_unread x4, harg6.read_unread x5, harg7.read_unread x6, ldQ x0, ldK x1, ldK x2, ldK x3, ldK x4, ldQ x6]
    refine (View.canon_cons_unit_zero (S := S16x128) hz _ _ _).trans ?_
    rw [View.readCov_unit_zero (S := S16x128) _ hz]
    rfl

set_option maxRecDepth 65536 in
set_option maxHeartbeats 2000000 in
/-- The body at a later point: the sinks' gradient is added to what the point before left. -/
theorem out_B (hc : ¬cond0_0 i) :
    (out0_B_7 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo, out0_B_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo, out0_B_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo, out0_B_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo, out0_B_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo, out0_B_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo)
      = leaves i x0 x1 x2 x3 x4 x5 x6 xo := by
  refine Prod.ext ?_ (Prod.ext ?_ (Prod.ext ?_ (Prod.ext ?_ (Prod.ext ?_ ?_)))) <;> dsimp only
  · unfold out0_B_7
    refine (View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo)).trans ?_
    unfold kernelRun0_B; dsimp only; sl_unfold_words
    simp only [View.readAt_eq_ld, harg1.read_unread, harg2.read_unread, harg3.read_unread, harg4.read_unread, harg5.read_unread, harg6.read_unread, harg7.read_unread, ldQ, ldK]
    exact View.canon_unit_zero (S := S128x1024) hz _ _
  · unfold out0_B_8
    refine (View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo)).trans ?_
    unfold kernelRun0_B; dsimp only; sl_unfold_words
    simp only [View.readAt_eq_ld, harg1.read_unread, harg2.read_unread, harg3.read_unread, harg4.read_unread, harg5.read_unread, harg6.read_unread, harg7.read_unread, ldQ, ldK]
    exact View.canon_unit_zero (S := S128x256) hz _ _
  · unfold out0_B_9
    refine (View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo)).trans ?_
    unfold kernelRun0_B; dsimp only; sl_unfold_words
    simp only [View.readAt_eq_ld, harg1.read_unread, harg2.read_unread, harg3.read_unread, harg4.read_unread, harg5.read_unread, harg6.read_unread, harg7.read_unread, ldQ, ldK]
    exact View.canon_unit_zero (S := S128x256) hz _ _
  · unfold out0_B_10
    refine (View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo)).trans ?_
    unfold kernelRun0_B; dsimp only; sl_unfold_words
    simp only [View.readAt_eq_ld, harg1.read_unread, harg2.read_unread, harg3.read_unread, harg4.read_unread, harg5.read_unread, harg6.read_unread, harg7.read_unread, ldQ, ldK]
    exact View.canon_unit_zero (S := S128x256) hz _ _
  · unfold out0_B_11
    refine (View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo)).trans ?_
    unfold kernelRun0_B; dsimp only; sl_unfold_words
    simp only [View.readAt_eq_ld, harg1.read_unread, harg2.read_unread, harg3.read_unread, harg4.read_unread, harg5.read_unread, harg6.read_unread, harg7.read_unread, ldQ, ldK]
    exact View.canon_unit_zero (S := S128x256) hz _ _
  · unfold out0_B_12
    refine (View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 hc x0 x1 x2 x3 x4 x5 x6 xo)).trans ?_
    unfold kernelRun0_B; dsimp only; sl_unfold_words
    simp only [View.readAt_eq_ld]
    rw [harg1.read_unread x0, harg2.read_unread x1, harg3.read_unread x2, harg4.read_unread x3, harg5.read_unread x4, harg6.read_unread x5, harg7.read_unread x6, harg13.read_unread xo, ldQ x0, ldK x1, ldK x2, ldK x3, ldK x4, ldQ x6, ldS xo]
    exact View.canon_unit_zero (S := S16x128) hz _ _
end

variable (m : (ℓ : Loc nD τ sig) → Buf (Elt F) ℓ) (c : Dev nD)

/-- What point `t` leaves. -/
abbrev leavesAt (t : Fin cfg0.N) (xo : FVec F S16x128 .f32) :=
  leaves (grid0.coords t) (iblk m c 0 t) (iblk m c 1 t) (iblk m c 2 t) (iblk m c 3 t) (iblk m c 4 t) (iblk m c 5 t) (iblk m c 6 t) xo

theorem outs_A (t : Fin cfg0.N) (h0 : t.val % 16 = 0) : outsAt0 m c t.val t.isLt = leavesAt m c t k0_pay120 :=
  (outsAt0_A m c t h0).trans (out_A ..)

theorem outs_B (t : Fin cfg0.N) (h0 : ¬t.val % 16 = 0) :
    outsAt0 m c t.val t.isLt = leavesAt m c t (outsAt0 m c (t.val - 1) (Nat.lt_of_le_of_lt (Nat.sub_le _ _) t.isLt)).2.2.2.2.2 :=
  (outsAt0_B m c t h0).trans (out_B ..)

end Cert.KernelIdeal.Value

end
-- ==== Proof.Attn.Row.lean ====
/-
  One query row of the attention and its gradient, over the extended reals: the softmax with a sink of a row of scores, a
  masked score being `⊥`, and the gradient of the row's scores and sink by the two formulas that the kernel and the
  derivative of the reference use. No program is mentioned here.
-/
module

public import Idealize.ShloMosaic.Lib.Pointwise

@[expose] public section

noncomputable section

namespace Cert.Row

open Idealize.ShloMosaic

variable {N : ℕ}

/-- The largest score of the row. -/
def top (s : Fin N → EReal) : EReal := Finset.univ.fold max ⊥ s
/-- The largest of the scores and the sink. -/
def mx (s : Fin N → EReal) (σ : EReal) : EReal := max (top s) σ
/-- The weight of key `c` before the division. -/
def p (s : Fin N → EReal) (σ : EReal) (c : Fin N) : EReal := Ideal.exp (s c - mx s σ)
/-- The weight of the sink before the division. -/
def e (s : Fin N → EReal) (σ : EReal) : EReal := Ideal.exp (σ - mx s σ)
/-- The sum of all weights. -/
def den (s : Fin N → EReal) (σ : EReal) : EReal := (∑ c, p s σ c) + e s σ
/-- The weight of key `c`. -/
def pn (s : Fin N → EReal) (σ : EReal) (c : Fin N) : EReal := p s σ c * Ideal.div 1 (den s σ)
/-- The weight of the sink. -/
def ps (s : Fin N → EReal) (σ : EReal) : EReal := e s σ * Ideal.div 1 (den s σ)
/-- The weighted mean of the weights' gradients. -/
def delta (s : Fin N → EReal) (σ : EReal) (dp : Fin N → EReal) : EReal := ∑ c, pn s σ c * dp c
/-- The gradient of key `c`'s score, times the scale `sc`. -/
def ds (sc : EReal) (s : Fin N → EReal) (σ : EReal) (dp : Fin N → EReal) (c : Fin N) : EReal :=
  pn s σ c * (dp c - delta s σ dp) * sc
/-- The row's part of the sink's gradient. -/
def dsk (s : Fin N → EReal) (σ : EReal) (dp : Fin N → EReal) : EReal := (0 - ps s σ) * delta s σ dp

/-! ## The reference's formulas -/

/-- The derivative of the reference through the reciprocal of the sum. -/
def back (s : Fin N → EReal) (σ : EReal) (dp : Fin N → EReal) : EReal :=
  -(∑ c, dp c * Ideal.div 1 (den s σ * den s σ) * p s σ c)
/-- The reference's gradient of key `c`'s weight before the division, times that weight. -/
def dx (s : Fin N → EReal) (σ : EReal) (dp : Fin N → EReal) (c : Fin N) : EReal :=
  (Ideal.div (dp c) (den s σ) + back s σ dp) * p s σ c
/-- The reference's gradient of the row's maximum. -/
def dmx (s : Fin N → EReal) (σ : EReal) (dp : Fin N → EReal) : EReal :=
  -(back s σ dp * e s σ) + ∑ c, -dx s σ dp c

/-! ## What a masked key contributes -/

/-- A real sink keeps the maximum above `⊥`. -/
theorem mx_ne_bot (s : Fin N → EReal) (σ : ℝ) : mx s σ ≠ ⊥ := by
  intro h
  have : (σ : EReal) ≤ mx s σ := le_max_right _ _
  rw [h, le_bot_iff] at this
  exact EReal.coe_ne_bot _ this

/-- A masked key weighs nothing. -/
theorem p_bot (s : Fin N → EReal) (σ : EReal) (c : Fin N) (h : s c = ⊥) : p s σ c = 0 := by
  unfold p; rw [h, EReal.bot_sub]; rfl

/-- A masked key weighs nothing after the division. -/
theorem pn_bot (s : Fin N → EReal) (σ : EReal) (c : Fin N) (h : s c = ⊥) : pn s σ c = 0 := by
  unfold pn; rw [p_bot s σ c h, zero_mul]

/-- A masked key's score has gradient zero. -/
theorem ds_bot (sc : EReal) (s : Fin N → EReal) (σ : EReal) (dp : Fin N → EReal) (c : Fin N) (h : s c = ⊥) : ds sc s σ dp c = 0 := by
  unfold ds; rw [pn_bot s σ c h, zero_mul, zero_mul]

/-- The mean reads the weights' gradients at the keys that are not masked only. -/
theorem delta_congr (s : Fin N → EReal) (σ : EReal) (dp dp' : Fin N → EReal) (h : ∀ c, s c = ⊥ ∨ dp c = dp' c) :
    delta s σ dp = delta s σ dp' := by
  refine Finset.sum_congr rfl fun c _ => ?_
  rcases h c with h | h
  · rw [pn_bot s σ c h, zero_mul, zero_mul]
  · rw [h]

/-- So does the gradient of the scores. -/
theorem ds_congr (sc : EReal) (s : Fin N → EReal) (σ : EReal) (dp dp' : Fin N → EReal) (h : ∀ c, s c = ⊥ ∨ dp c = dp' c) :
    ds sc s σ dp = ds sc s σ dp' := by
  funext c
  unfold ds
  rw [delta_congr s σ dp dp' h]
  rcases h c with h | h
  · rw [pn_bot s σ c h, zero_mul, zero_mul, zero_mul, zero_mul]
  · rw [h]

/-- And the gradient of the sink. -/
theorem dsk_congr (s : Fin N → EReal) (σ : EReal) (dp dp' : Fin N → EReal) (h : ∀ c, s c = ⊥ ∨ dp c = dp' c) :
    dsk s σ dp = dsk s σ dp' := by
  unfold dsk; rw [delta_congr s σ dp dp' h]

/-! ## Both formulas over the real numbers -/

/-- A sum of real numbers. -/
theorem sum_coe {ι : Type} (t : Finset ι) (f : ι → ℝ) : ∑ i ∈ t, (f i : EReal) = ((∑ i ∈ t, f i : ℝ) : EReal) := by
  induction t using Finset.cons_induction with
  | empty => simp
  | cons a t ha ih => rw [Finset.sum_cons, Finset.sum_cons, ih, EReal.coe_add]

/-- A quotient of real numbers. -/
theorem div_coe (x y : ℝ) (hy : y ≠ 0) : Ideal.div (x : EReal) (y : EReal) = ((x / y : ℝ) : EReal) := by
  unfold Ideal.div
  rw [if_neg (by simpa using hy), ← EReal.coe_inv, ← EReal.coe_mul, div_eq_mul_inv]

/-- A row whose scores are real or masked, some of them real. -/
structure Real (s : Fin N → EReal) : Prop where
  each : ∀ c, s c = ⊥ ∨ ∃ x : ℝ, s c = x
  some : ∃ c, s c ≠ ⊥

/-- The largest score is one of them. -/
theorem top_mem (s : Fin N → EReal) (h : ∃ c, s c ≠ ⊥) : ∃ c, s c = top s := by
  have hs : (Finset.univ : Finset (Fin N)).Nonempty := ⟨h.choose, Finset.mem_univ _⟩
  obtain ⟨c, -, hc⟩ := Finset.exists_mem_eq_sup' hs s
  refine ⟨c, hc.symm.trans ?_⟩
  rw [Finset.sup'_eq_sup]; rfl

/-- The numbers of a real row: its weights, its sink's weight, their sum. -/
theorem Real.nums {s : Fin N → EReal} (h : Real s) (σ : ℝ) :
    ∃ (P : Fin N → ℝ) (E : ℝ), (∀ c, 0 ≤ P c) ∧ 0 < E ∧ (∀ c, p s σ c = P c) ∧ e s σ = E ∧ den s σ = ((∑ c, P c) + E : ℝ) := by
  obtain ⟨μ, hμ⟩ : ∃ μ : ℝ, mx s σ = μ := by
    obtain ⟨c, hc⟩ := top_mem s h.some
    unfold mx; rw [← hc]
    rcases h.each c with h0 | ⟨x, hx⟩
    · exact ⟨σ, by rw [h0]; exact max_eq_right bot_le⟩
    · exact ⟨max x σ, by rw [hx]; exact (EReal.coe_strictMono.monotone.map_max).symm⟩
  have hp : ∀ c, ∃ P : ℝ, 0 ≤ P ∧ p s σ c = P := fun c => by
    rcases h.each c with h0 | ⟨x, hx⟩
    · exact ⟨0, le_rfl, p_bot s σ c h0⟩
    · refine ⟨Real.exp (x - μ), (Real.exp_pos _).le, ?_⟩
      unfold p; rw [hμ, hx, ← EReal.coe_sub]; rfl
  choose P hP0 hP using hp
  have hE : e s σ = (Real.exp (σ - μ) : ℝ) := by unfold e; rw [hμ, ← EReal.coe_sub]; rfl
  refine ⟨P, Real.exp (σ - μ), hP0, Real.exp_pos _, hP, hE, ?_⟩
  unfold den; rw [hE, Finset.sum_congr rfl fun c _ => hP c, sum_coe, EReal.coe_add]

section
variable {s : Fin N → EReal} (h : Real s) (σ : ℝ) (dp : Fin N → ℝ)
include h

/-- A weight divided by the sum is the weight times the sum's reciprocal. -/
theorem Real.div_eq (c : Fin N) : Ideal.div (p s σ c) (den s σ) = pn s σ c := by
  obtain ⟨P, E, hP0, hE0, hP, hE, hD⟩ := h.nums σ
  have hD0 : 0 < (∑ c, P c) + E := add_pos_of_nonneg_of_pos (Finset.sum_nonneg fun c _ => hP0 c) hE0
  unfold pn
  rw [Ideal.mul_one_div]
  rw [hD]; exact_mod_cast hD0.ne'

/-- All terms of a real row as real numbers. -/
theorem Real.terms : ∃ (P : Fin N → ℝ) (E : ℝ), 0 < (∑ c, P c) + E ∧ (∀ c, p s σ c = P c) ∧ e s σ = E ∧
    (∀ c, pn s σ c = (P c / ((∑ c, P c) + E) : ℝ)) ∧ ps s σ = (E / ((∑ c, P c) + E) : ℝ) ∧
    delta s σ (fun c => dp c) = (∑ c, P c / ((∑ c, P c) + E) * dp c : ℝ) ∧
    back s σ (fun c => dp c) = (-(∑ c, P c / ((∑ c, P c) + E) * dp c) / ((∑ c, P c) + E) : ℝ) ∧
    ∀ c, dx s σ (fun c => dp c) c = ((dp c / ((∑ c, P c) + E) + -(∑ c, P c / ((∑ c, P c) + E) * dp c) / ((∑ c, P c) + E)) * P c : ℝ) := by
  obtain ⟨P, E, hP0, hE0, hP, hE, hD⟩ := h.nums σ
  have hD0 : 0 < (∑ c, P c) + E := add_pos_of_nonneg_of_pos (Finset.sum_nonneg fun c _ => hP0 c) hE0
  obtain ⟨D, hDe⟩ : ∃ D, D = (∑ c, P c) + E := ⟨_, rfl⟩
  rw [← hDe] at hD hD0
  have hpn : ∀ c, pn s σ c = (P c / D : ℝ) := fun c => by
    rw [← h.div_eq, hP, hD, div_coe _ _ hD0.ne']
  have hback : back s σ (fun c => dp c) = (-(∑ c, P c / D * dp c) / D : ℝ) := by
    unfold back
    rw [neg_div,  EReal.coe_neg, Finset.sum_div, ← sum_coe]
    congr 1
    refine Finset.sum_congr rfl fun c _ => ?_
    rw [hP, hD, ← EReal.coe_mul D D, ← EReal.coe_one, div_coe _ _ (mul_pos hD0 hD0).ne', ← EReal.coe_mul, ← EReal.coe_mul]
    congr 1; field_simp
  refine ⟨P, E, ?_⟩
  rw [← hDe]
  refine ⟨hD0, hP, hE, hpn, ?_, ?_, hback, fun c => ?_⟩
  · unfold ps
    rw [Ideal.mul_one_div (by rw [hD]; exact_mod_cast hD0.ne'), hE, hD, div_coe _ _ hD0.ne']
  · unfold delta
    rw [← sum_coe]
    exact Finset.sum_congr rfl fun c _ => by simp only [hpn, EReal.coe_mul]
  · unfold dx
    rw [hback, hD, hP, div_coe _ _ hD0.ne', ← EReal.coe_add, ← EReal.coe_mul]

/-- The two formulas give the same gradient of a score. -/
theorem Real.dx_eq (c : Fin N) : dx s σ (fun c => dp c) c = pn s σ c * (dp c - delta s σ (fun c => dp c)) := by
  obtain ⟨P, E, hD0, hP, hE, hpn, hps, hdl, hback, hdx⟩ := h.terms σ dp
  rw [hdx, hpn, hdl, ← EReal.coe_sub, ← EReal.coe_mul]
  congr 1; field_simp; ring

/-- The two formulas give the same gradient of the sink. -/
theorem Real.back_eq : back s σ (fun c => dp c) * e s σ = dsk s σ (fun c => dp c) := by
  obtain ⟨P, E, hD0, hP, hE, hpn, hps, hdl, hback, hdx⟩ := h.terms σ dp
  unfold dsk
  rw [hback, hE, hps, hdl, ← EReal.coe_mul, ← EReal.coe_zero, ← EReal.coe_sub, ← EReal.coe_mul]
  congr 1; field_simp; ring

/-- The row's maximum has gradient zero: a softmax does not move when all its scores and its sink move together. -/
theorem Real.dmx_eq : dmx s σ (fun c => dp c) = 0 := by
  obtain ⟨P, E, hD0, hP, hE, hpn, hps, hdl, hback, hdx⟩ := h.terms σ dp
  unfold dmx
  simp only [hdx, ← EReal.coe_neg]
  rw [hback, hE, sum_coe, ← EReal.coe_mul, ← EReal.coe_neg,
    ← EReal.coe_add, ← EReal.coe_zero]
  congr 1
  generalize hS : (∑ c, P c) = S at *
  generalize hT : (∑ c, P c / (S + E) * dp c) = T at *
  have h1 : ∑ c, -((dp c / (S + E) + -T / (S + E)) * P c) = -T + T / (S + E) * S := by
    have h2 : ∀ c, -((dp c / (S + E) + -T / (S + E)) * P c) = -(P c / (S + E) * dp c) + T / (S + E) * P c := fun c => by
      field_simp; ring
    simp only [h2]
    rw [Finset.sum_add_distrib, Finset.sum_neg_distrib, ← Finset.mul_sum, hT, hS]
  rw [h1]; field_simp; ring

end

/-- The number of keys that reach the maximum is not zero. -/
theorem count_ne_zero (s : Fin N → EReal) (h : ∃ c, s c ≠ ⊥) (w : Fin N → EReal) (hw : ∀ c, 0 ≤ w c) (h1 : ∀ c, s c = top s → w c ≠ 0) :
    ∑ c, w c ≠ 0 := by
  obtain ⟨c, hc⟩ := top_mem s h
  have h2 : w c ≤ ∑ c, w c := Finset.single_le_sum (fun c _ => hw c) (Finset.mem_univ c)
  exact (lt_of_lt_of_le (lt_of_le_of_ne (hw c) (h1 c hc).symm) h2).ne'

end Cert.Row

end
-- ==== Proof.Attn.TileRead.lean ====
/-
  The terms of one head read at a column: the row formulas of `Row` on that column's scores, sink and weights' gradients.
-/
module

public import proofs.«01_k».proof.Proof.Attn.Tile
public import proofs.«01_k».proof.Proof.Attn.Row
import Idealize.ShloMosaic.Lib.Pointwise
import Idealize.ShloMosaic.Lib.IdealHost

@[expose] public section

noncomputable section

namespace Cert.KernelIdeal.Value

open Idealize.ShloMosaic Idealize.SL.Sem Cert.KernelIdeal Cert.KernelIdeal.Gen

/-- The scale of the scores, as the printed number. -/
abbrev sc : EReal := Ideal.ofBits .f32 0x3E000000#32

variable (valid : IVec S256x512 1) (k2 v2 : FVec Ideal S256x64 .bf16) (q4 do4 : FVec Ideal S512x64 .bf16) (sk : FVec Ideal S1x512 .f32)

/-- The scores and the weights' gradients of column `j`. -/
def colS (j : Fin 512) (c : Fin 256) : EReal := tS valid k2 q4 (ix2 c j)
def colDp (j : Fin 512) (c : Fin 256) : EReal := tDp v2 do4 (ix2 c j)

theorem tS_apply (c : Fin 256) (j : Fin 512) :
    tS valid k2 q4 (ix2 c j) = if valid (ix2 c j) = 1#1 then (∑ d : Fin 64, k2 (ix2 c d) * q4 (ix2 j d)) * sc else ⊥ := by
  pointwise [tS]
  rw [IdealRules.named_const.ideal_named_scalar]
  · rfl
  · rfl

theorem tDp_apply (c : Fin 256) (j : Fin 512) : tDp v2 do4 (ix2 c j) = ∑ d : Fin 64, v2 (ix2 c d) * do4 (ix2 j d) := by
  pointwise [tDp]

theorem tM_apply (j : Fin 512) : tM valid k2 q4 sk (ix2 0 j) = Row.mx (colS valid k2 q4 j) (sk (ix2 0 j)) := by
  pointwise [tM]
  rfl

theorem tP_apply (c : Fin 256) (j : Fin 512) : tP valid k2 q4 sk (ix2 c j) = Row.p (colS valid k2 q4 j) (sk (ix2 0 j)) c := by
  pointwise [tP, tM_apply]
  rfl

theorem tE_apply (j : Fin 512) : tE valid k2 q4 sk (ix2 0 j) = Row.e (colS valid k2 q4 j) (sk (ix2 0 j)) := by
  pointwise [tE, tM_apply]
  rfl

theorem tInv_apply (j : Fin 512) : tInv valid k2 q4 sk (ix2 0 j) = Ideal.div 1 (Row.den (colS valid k2 q4 j) (sk (ix2 0 j))) := by
  pointwise [tInv, tE_apply, tP_apply]
  rfl

theorem tPn_apply (c : Fin 256) (j : Fin 512) : tPn valid k2 q4 sk (ix2 c j) = Row.pn (colS valid k2 q4 j) (sk (ix2 0 j)) c := by
  pointwise [tPn, tP_apply, tInv_apply]
  rfl

theorem tPs_apply (j : Fin 512) : tPs valid k2 q4 sk (ix2 0 j) = Row.ps (colS valid k2 q4 j) (sk (ix2 0 j)) := by
  pointwise [tPs, tE_apply, tInv_apply]
  rfl

theorem tDelta_apply (j : Fin 512) :
    tDelta valid k2 v2 q4 do4 sk (ix2 0 j) = Row.delta (colS valid k2 q4 j) (sk (ix2 0 j)) (colDp v2 do4 j) := by
  pointwise [tDelta, tPn_apply]
  rfl

theorem tDs_apply (c : Fin 256) (j : Fin 512) :
    tDs valid k2 v2 q4 do4 sk (ix2 c j) = Row.ds sc (colS valid k2 q4 j) (sk (ix2 0 j)) (colDp v2 do4 j) c := by
  pointwise [tDs, tPn_apply, tDelta_apply]
  rfl

theorem tDv_apply (c : Fin 256) (d : Fin 64) :
    tDv valid k2 q4 do4 sk (ix2 c d) = ∑ j : Fin 512, Row.pn (colS valid k2 q4 j) (sk (ix2 0 j)) c * do4 (ix2 j d) := by
  pointwise [tDv, tPn_apply]

theorem tDk_apply (c : Fin 256) (d : Fin 64) :
    tDk valid k2 v2 q4 do4 sk (ix2 c d) = ∑ j : Fin 512, Row.ds sc (colS valid k2 q4 j) (sk (ix2 0 j)) (colDp v2 do4 j) c * q4 (ix2 j d) := by
  pointwise [tDk, tDs_apply]

theorem tDq_apply (j : Fin 512) (d : Fin 64) :
    tDq valid k2 v2 q4 do4 sk (ix2 j d) = ∑ c : Fin 256, Row.ds sc (colS valid k2 q4 j) (sk (ix2 0 j)) (colDp v2 do4 j) c * k2 (ix2 c d) := by
  pointwise [tDq, tDs_apply]

theorem tDsk_apply (j : Fin 512) :
    tDsk valid k2 v2 q4 do4 sk (ix2 0 j) = Row.dsk (colS valid k2 q4 j) (sk (ix2 0 j)) (colDp v2 do4 j) := by
  pointwise [tDsk, tPs_apply, tDelta_apply]
  rfl

end Cert.KernelIdeal.Value

end
-- ==== Proof.Attn.Spec.lean ====
/-
  The gradient of the sliding-window attention with sinks, as formulas of the arguments: by block of 128 queries, key-value
  head, query head within it, query row, and key of the 256 keys of the block before and the block's own.
-/
module

public import proofs.«01_k».proof.Proof.Attn.Row

@[expose] public section

noncomputable section

namespace Cert.Attn

open Idealize.ShloMosaic

/-- The scale of the scores, as the printed number. -/
abbrev sc : EReal := Ideal.ofBits .f32 0x3E000000#32

/-- The arguments: queries, keys, values, sinks and the output's gradient. -/
structure Args where
  q : Fin 2048 → Fin 1024 → EReal
  k : Fin 2048 → Fin 256 → EReal
  v : Fin 2048 → Fin 256 → EReal
  sinks : Fin 16 → EReal
  g : Fin 2048 → Fin 1024 → EReal

/-- Every argument is a real number. -/
structure Args.Real (A : Args) : Prop where
  q : ∀ i j, ∃ x : ℝ, A.q i j = x
  k : ∀ i j, ∃ x : ℝ, A.k i j = x
  v : ∀ i j, ∃ x : ℝ, A.v i j = x
  sinks : ∀ i, ∃ x : ℝ, A.sinks i = x
  g : ∀ i j, ∃ x : ℝ, A.g i j = x

/-- Row `r` of block `t`. -/
def row (t : Fin 16) (r : Fin 128) : Fin 2048 := ⟨128 * t.val + r.val, by omega⟩
/-- Row `r` of the block before `t` (of the first block: that block). -/
def rowBefore (t : Fin 16) (r : Fin 128) : Fin 2048 := ⟨128 * (t.val - 1) + r.val, by omega⟩
/-- Query head `g` of key-value head `h`. -/
def head (h g : Fin 4) : Fin 16 := ⟨4 * h.val + g.val, by omega⟩
/-- Coordinate `d` of query head `g` of key-value head `h`. -/
def col (h g : Fin 4) (d : Fin 64) : Fin 1024 := ⟨64 * (4 * h.val + g.val) + d.val, by omega⟩
/-- Coordinate `d` of key-value head `h`. -/
def kcol (h : Fin 4) (d : Fin 64) : Fin 256 := ⟨64 * h.val + d.val, by omega⟩

/-- The keys (or values) of block `t`: 128 of the block before, zero before the first, then 128 of its own. -/
def banded (x : Fin 2048 → Fin 256 → EReal) (t : Fin 16) (h : Fin 4) (c : Fin 256) (d : Fin 64) : EReal :=
  if hc : c.val < 128 then (if t.val = 0 then 0 else x (rowBefore t ⟨c.val, hc⟩) (kcol h d))
  else x (row t ⟨c.val - 128, by omega⟩) (kcol h d)

/-- Query row `r` of block `t` sees key `c`. -/
def Seen (t : Fin 16) (r : Fin 128) (c : Fin 256) : Prop := r.val < c.val ∧ c.val ≤ r.val + 128 ∧ (128 ≤ c.val ∨ 0 < t.val)

instance (t : Fin 16) (r : Fin 128) (c : Fin 256) : Decidable (Seen t r c) := by unfold Seen; infer_instance

variable (A : Args) (t : Fin 16) (h g : Fin 4)

/-- The scores of a query row; those of keys that it does not see are `-∞`. -/
def S (r : Fin 128) (c : Fin 256) : EReal :=
  if Seen t r c then (∑ d : Fin 64, banded A.k t h c d * A.q (row t r) (col h g d)) * sc else ⊥
/-- The gradients of the weights of a query row. -/
def Dp (r : Fin 128) (c : Fin 256) : EReal := ∑ d : Fin 64, banded A.v t h c d * A.g (row t r) (col h g d)
/-- The weights of a query row. -/
def Pn (r : Fin 128) (c : Fin 256) : EReal := Row.pn (S A t h g r) (A.sinks (head h g)) c
/-- The scores' gradients, of the product before the scale. -/
def Ds (r : Fin 128) (c : Fin 256) : EReal := Row.ds sc (S A t h g r) (A.sinks (head h g)) (Dp A t h g r) c

/-- The gradient of the queries. -/
def Dq (r : Fin 128) (d : Fin 64) : EReal := ∑ c : Fin 256, Ds A t h g r c * banded A.k t h c d
/-- The gradient of the keys. -/
def Dk (c : Fin 256) (d : Fin 64) : EReal := ∑ g : Fin 4, ∑ r : Fin 128, Ds A t h g r c * A.q (row t r) (col h g d)
/-- The gradient of the values. -/
def Dv (c : Fin 256) (d : Fin 64) : EReal := ∑ g : Fin 4, ∑ r : Fin 128, Pn A t h g r c * A.g (row t r) (col h g d)
/-- One query row's part of the gradient of its head's sink. -/
def DskRow (r : Fin 128) : EReal := Row.dsk (S A t h g r) (A.sinks (head h g)) (Dp A t h g r)
/-- The gradient of a sink. -/
def Dsk : EReal := ∑ t : Fin 16, ∑ r : Fin 128, DskRow A t h g r

/-! ## The arrays, by flat coordinates -/

/-- A row's block and its place there. -/
def blk (i : Fin 2048) : Fin 16 := ⟨i.val / 128, by omega⟩
def pos (i : Fin 2048) : Fin 128 := ⟨i.val % 128, by omega⟩
/-- A column's heads and its coordinate there. -/
def colH (l : Fin 1024) : Fin 4 := ⟨l.val / 256, by omega⟩
def colG (l : Fin 1024) : Fin 4 := ⟨l.val / 64 % 4, by omega⟩
def colD (l : Fin 1024) : Fin 64 := ⟨l.val % 64, by omega⟩
def kcolH (l : Fin 256) : Fin 4 := ⟨l.val / 64, by omega⟩
def kcolD (l : Fin 256) : Fin 64 := ⟨l.val % 64, by omega⟩
/-- A head's key-value head and its place there. -/
def headH (n : Fin 16) : Fin 4 := ⟨n.val / 4, by omega⟩
def headG (n : Fin 16) : Fin 4 := ⟨n.val % 4, by omega⟩
/-- Key `r` of the block before, and of the block's own. -/
def before (r : Fin 128) : Fin 256 := ⟨r.val, by omega⟩
def own (r : Fin 128) : Fin 256 := ⟨128 + r.val, by omega⟩

/-- The gradient of the queries at a row and a column. -/
def aDq (i : Fin 2048) (l : Fin 1024) : EReal := Dq A (blk i) (colH l) (colG l) (pos i) (colD l)
/-- The gradient of the keys: what the block gives its own rows, and what it gives the block before. -/
def aDkOwn (i : Fin 2048) (l : Fin 256) : EReal := Dk A (blk i) (kcolH l) (own (pos i)) (kcolD l)
def aDkBefore (i : Fin 2048) (l : Fin 256) : EReal := Dk A (blk i) (kcolH l) (before (pos i)) (kcolD l)
/-- The gradient of the values, likewise. -/
def aDvOwn (i : Fin 2048) (l : Fin 256) : EReal := Dv A (blk i) (kcolH l) (own (pos i)) (kcolD l)
def aDvBefore (i : Fin 2048) (l : Fin 256) : EReal := Dv A (blk i) (kcolH l) (before (pos i)) (kcolD l)
/-- The gradient of the sinks. -/
def aDsk (n : Fin 16) : EReal := Dsk A (headH n) (headG n)

end Cert.Attn

end
-- ==== Proof.Attn.Words.lean ====
/-
  The comparisons of the mask, in 32-bit words.
-/
module

public import Idealize.ShloMosaic.PureOps

@[expose] public section

namespace Cert.KernelIdeal.Value

open Idealize.ShloMosaic

theorem lane_word : ∀ (g : Fin 4) (r : Fin 128), IntOp.andi (BitVec.ofNat 32 (128 * g.val + r.val)) 127#32 = BitVec.ofNat 32 r.val := by
  decide +kernel
theorem above_word : ∀ (r : Fin 128) (c : Fin 256), IntOp.cmpi .sgt (BitVec.ofNat 32 c.val) (BitVec.ofNat 32 r.val) = if r.val < c.val then 1#1 else 0#1 := by
  decide +kernel
theorem below_word : ∀ (r : Fin 128) (c : Fin 256),
    IntOp.cmpi .sle (BitVec.ofNat 32 c.val) (IntOp.addi (BitVec.ofNat 32 r.val) 128#32) = if c.val ≤ r.val + 128 then 1#1 else 0#1 := by
  decide +kernel
theorem own_word : ∀ c : Fin 256, IntOp.cmpi .sge (BitVec.ofNat 32 c.val) 128#32 = if 128 ≤ c.val then 1#1 else 0#1 := by decide +kernel
theorem first_word : ∀ t : Fin 16, Scalar.cmpi .sgt (BitVec.ofNat 32 t.val) 0#32 = if 0 < t.val then 1#1 else 0#1 := by decide +kernel

end Cert.KernelIdeal.Value
-- ==== Proof.Attn.KRead.lean ====
/-
  The blocks that a point leaves, read at an index: the formulas of `Attn` at that block.
-/
module

public import proofs.«01_k».proof.Proof.Attn.TileRead
public import proofs.«01_k».proof.Proof.Attn.Spec
public import proofs.«01_k».proof.Proof.Attn.Words
import Idealize.ShloMosaic.Lib.Pointwise
import Idealize.ShloMosaic.Lib.IdealHost

@[expose] public section

noncomputable section

namespace Cert.KernelIdeal.Value

open Idealize.ShloMosaic Idealize.SL.Sem Cert.KernelIdeal Cert.KernelIdeal.Gen

/-- Column `128 * g + r` of a head's 512. -/
def jj (g : Fin 4) (r : Fin 128) : Fin 512 := ⟨128 * g.val + r.val, by omega⟩

/-- A sum over a head's 512 columns. -/
theorem sum_jj (f : Fin 512 → EReal) : ∑ j, f j = ∑ g : Fin 4, ∑ r : Fin 128, f (jj g r) := by
  rw [← Fintype.sum_prod_type']
  refine (Fintype.sum_equiv (finProdFinEquiv (m := 4) (n := 128)) _ _ fun x => ?_).symm
  congr 1
  apply Fin.ext
  show 128 * x.1.val + x.2.val = x.2.val + 128 * x.1.val
  omega

/-! ## The pieces of the operands -/

theorem kOf_lo (h : Fin 4) (a b : Vec Ideal S128x256 .bf16) (c : Fin 256) (d : Fin 64) (hc : c.val < 128) :
    kOf h a b (ix2 c d) = a (ix2 ⟨c.val, hc⟩ (Attn.kcol h d)) := by
  refine (concatenate_ofFn_apply (s₁ := S128x64) (N := 2) 0 ![extractStridedSlice S128x64 ![0, 64 * h.val] a (slKv h), extractStridedSlice S128x64 ![0, 64 * h.val] b (slKv h)]
    concatenates_S128x64_S128x64_S256x64_d0 rfl 128 rfl (ix2 c d) 0 ?_ (ix2 ⟨c.val, hc⟩ d) ?_ ?_).trans ?_
  · show c.val / 128 = 0; omega
  · show c.val = c.val % 128; omega
  · intro b hb
    match b with
    | ⟨0, _⟩ => exact absurd rfl hb
    | ⟨1, _⟩ => rfl
  · show extractStridedSlice S128x64 ![0, 64 * h.val] a (slKv h) _ = _
    pointwise []
    rfl

theorem kOf_hi (h : Fin 4) (a b : Vec Ideal S128x256 .bf16) (c : Fin 256) (d : Fin 64) (hc : ¬c.val < 128) :
    kOf h a b (ix2 c d) = b (ix2 ⟨c.val - 128, by omega⟩ (Attn.kcol h d)) := by
  refine (concatenate_ofFn_apply (s₁ := S128x64) (N := 2) 0 ![extractStridedSlice S128x64 ![0, 64 * h.val] a (slKv h), extractStridedSlice S128x64 ![0, 64 * h.val] b (slKv h)]
    concatenates_S128x64_S128x64_S256x64_d0 rfl 128 rfl (ix2 c d) 1 ?_ (ix2 ⟨c.val - 128, by omega⟩ d) ?_ ?_).trans ?_
  · show c.val / 128 = 1; omega
  · show c.val - 128 = c.val % 128; omega
  · intro b hb
    match b with
    | ⟨0, _⟩ => exact absurd rfl hb
    | ⟨1, _⟩ => rfl
  · show extractStridedSlice S128x64 ![0, 64 * h.val] b (slKv h) _ = _
    pointwise []
    rfl

theorem qOf_apply (ty : FTy) (h g : Fin 4) (x : FVec Ideal S128x1024 ty) (r : Fin 128) (d : Fin 64) :
    qOf ty h x (ix2 (jj g r) d) = x (ix2 r (Attn.col h g d)) := by
  refine (concatenate_ofFn_apply (s₁ := S128x64) (N := 4) 0 (fun g => extractStridedSlice S128x64 ![0, 64 * (qh h g).val] x (slQ (qh h g)))
    concatenates_S128x64_S128x64_S128x64_S128x64_S512x64_d0 rfl 128 rfl (ix2 (jj g r) d) g ?_ (ix2 r d) ?_ ?_).trans ?_
  · show (128 * g.val + r.val) / 128 = g.val; omega
  · show r.val = (128 * g.val + r.val) % 128; omega
  · intro b hb
    match b with
    | ⟨0, _⟩ => exact absurd rfl hb
    | ⟨1, _⟩ => rfl
  · show extractStridedSlice S128x64 ![0, 64 * (qh h g).val] x (slQ (qh h g)) _ = _
    pointwise []
    rfl

theorem skOf_apply (h g : Fin 4) (x : Vec Ideal S16x128 .f32) (r : Fin 128) :
    skOf h x (ix2 0 (jj g r)) = x (ix2 (Attn.head h g) r) := by
  refine (concatenate_ofFn_apply (s₁ := S1x128) (N := 4) 1 (fun g => shapeCast S1x128 (View.ld x (Rect.unit (s := S16x128) ![(qh h g).val, 0] S1x128.size (inSk (qh h g)))) shapeCasts_S1x128_S1x128)
    concatenates_S1x128_S1x128_S1x128_S1x128_S1x512_d1 rfl 128 rfl (ix2 0 (jj g r)) g ?_ (ix2 0 r) ?_ ?_).trans ?_
  · show (128 * g.val + r.val) / 128 = g.val; omega
  · show r.val = (128 * g.val + r.val) % 128; omega
  · intro b hb
    match b with
    | ⟨0, _⟩ => rfl
    | ⟨1, _⟩ => exact absurd rfl hb
  · show shapeCast S1x128 (View.ld x (Rect.unit (s := S16x128) ![(qh h g).val, 0] S1x128.size (inSk (qh h g)))) shapeCasts_S1x128_S1x128 _ = _
    pointwise []
    rfl

theorem doOf_apply (h g : Fin 4) (x : Vec Ideal S128x1024 .f32) (r : Fin 128) (d : Fin 64) :
    doOf x h (ix2 (jj g r) d) = x (ix2 r (Attn.col h g d)) := qOf_apply .f32 h g x r d

/-- The kernel's mask of point `t`. -/
theorem valid_apply (i : grid0.Coords) (t : Fin 16) (hi : (i 0).val = t.val) (g : Fin 4) (r : Fin 128) (c : Fin 256) :
    k0_pay2 i (ix2 c (jj g r)) = 1#1 ↔ Attn.Seen t r c := by
  pointwise [k0_pay2]
  rw [hi]
  show IntOp.andi (IntOp.andi (IntOp.cmpi .sgt _ (IntOp.andi (BitVec.ofNat 32 (128 * g.val + r.val)) 127#32))
    (IntOp.cmpi .sle _ (IntOp.addi (IntOp.andi (BitVec.ofNat 32 (128 * g.val + r.val)) 127#32) 128#32))) _ = 1#1 ↔ _
  rw [lane_word, above_word, below_word, own_word, first_word]
  unfold Attn.Seen
  by_cases h1 : r.val < c.val <;> by_cases h2 : c.val ≤ r.val + 128 <;> by_cases h3 : 128 ≤ c.val <;> by_cases h4 : 0 < t.val <;>
    simp only [h1, h2, h3, h4, if_true, if_false, and_true, and_false, or_true, or_false, iff_true, iff_false] <;> decide

/-! ## The blocks -/

section
variable (A : Attn.Args) (i : grid0.Coords) (t : Fin 16) (hi : (i 0).val = t.val)
  (x0 : Vec Ideal S128x1024 .bf16) (x1 x2 x3 x4 : Vec Ideal S128x256 .bf16) (x5 : Vec Ideal S16x128 .f32) (x6 : Vec Ideal S128x1024 .f32)

/-- The blocks are those of point `t`. -/
structure Blocks : Prop where
  q : ∀ r l, x0 (ix2 r l) = A.q (Attn.row t r) l
  kp : ∀ r l, x1 (ix2 r l) = A.k (Attn.rowBefore t r) l
  kc : ∀ r l, x2 (ix2 r l) = A.k (Attn.row t r) l
  vp : ∀ r l, x3 (ix2 r l) = A.v (Attn.rowBefore t r) l
  vc : ∀ r l, x4 (ix2 r l) = A.v (Attn.row t r) l
  sk : ∀ n r, x5 (ix2 n r) = A.sinks n
  g : ∀ r l, x6 (ix2 r l) = A.g (Attn.row t r) l

/-- Where a key is seen, or the block is not the first, the head's keys are those of the formulas. -/
theorem kOf_banded (x : Fin 2048 → Fin 256 → EReal) (h : Fin 4) (a b : Vec Ideal S128x256 .bf16)
    (ha : ∀ r l, a (ix2 r l) = x (Attn.rowBefore t r) l) (hb : ∀ r l, b (ix2 r l) = x (Attn.row t r) l)
    (c : Fin 256) (hc : 128 ≤ c.val ∨ 0 < t.val) (d : Fin 64) : kOf h a b (ix2 c d) = Attn.banded x t h c d := by
  unfold Attn.banded
  by_cases h1 : c.val < 128
  · rw [dif_pos h1, if_neg (by omega), kOf_lo h a b c d h1, ha]
  · rw [dif_neg h1, kOf_hi h a b c d h1, hb]

variable {A i t x0 x1 x2 x3 x4 x5 x6} (hi : (i 0).val = t.val) (B : Blocks A t x0 x1 x2 x3 x4 x5 x6) (h g : Fin 4) (r : Fin 128)
include hi B

theorem colS_eq : colS (k0_pay2 i) (kOf h x1 x2) (qOf .bf16 h x0) (jj g r) = Attn.S A t h g r := by
  funext c
  unfold colS Attn.S
  rw [tS_apply]
  by_cases hs : Attn.Seen t r c
  · rw [if_pos ((valid_apply i t hi g r c).2 hs), if_pos hs]
    congr 1
    refine Finset.sum_congr rfl fun d _ => ?_
    rw [kOf_banded t A.k h x1 x2 B.kp B.kc c hs.2.2 d, qOf_apply, B.q]
  · rw [if_neg (fun he => hs ((valid_apply i t hi g r c).1 he)), if_neg hs]

omit hi in
theorem sink_eq : skOf h x5 (ix2 0 (jj g r)) = A.sinks (Attn.head h g) := by rw [skOf_apply, B.sk]

/-- A key that is not seen has the score `-∞`; at the others the weights' gradients are those of the formulas. -/
theorem colDp_or (c : Fin 256) : Attn.S A t h g r c = ⊥ ∨ colDp (kOf h x3 x4) (doOf x6 h) (jj g r) c = Attn.Dp A t h g r c := by
  by_cases hs : Attn.Seen t r c
  · refine .inr ?_
    unfold colDp Attn.Dp
    rw [tDp_apply]
    refine Finset.sum_congr rfl fun d _ => ?_
    rw [kOf_banded t A.v h x3 x4 B.vp B.vc c hs.2.2 d, doOf_apply, B.g]
  · exact .inl (if_neg hs)

theorem ds_eq (c : Fin 256) :
    Row.ds sc (colS (k0_pay2 i) (kOf h x1 x2) (qOf .bf16 h x0) (jj g r)) (skOf h x5 (ix2 0 (jj g r))) (colDp (kOf h x3 x4) (doOf x6 h) (jj g r)) c
      = Attn.Ds A t h g r c := by
  rw [colS_eq hi B h g r, sink_eq B h g r, Row.ds_congr sc _ _ _ _ (colDp_or hi B h g r)]
  rfl

theorem hDq_apply (d : Fin 64) : hDq i x0 x1 x2 x3 x4 x5 x6 h (ix2 (jj g r) d) = Attn.Dq A t h g r d := by
  unfold hDq Attn.Dq
  rw [tDq_apply]
  refine Finset.sum_congr rfl fun c _ => ?_
  rw [ds_eq hi B h g r c]
  by_cases hs : Attn.Seen t r c
  · rw [kOf_banded t A.k h x1 x2 B.kp B.kc c hs.2.2 d]
  · have h0 : Attn.Ds A t h g r c = 0 := Row.ds_bot _ _ _ _ _ (if_neg hs)
    rw [h0, zero_mul, zero_mul]

theorem hDk_apply (c : Fin 256) (d : Fin 64) : hDk i x0 x1 x2 x3 x4 x5 x6 h (ix2 c d) = Attn.Dk A t h c d := by
  unfold hDk Attn.Dk
  rw [tDk_apply, sum_jj]
  refine Finset.sum_congr rfl fun g _ => Finset.sum_congr rfl fun r _ => ?_
  rw [ds_eq hi B h g r c, qOf_apply, B.q]

theorem hDv_apply (c : Fin 256) (d : Fin 64) : hDv i x0 x1 x2 x5 x6 h (ix2 c d) = Attn.Dv A t h c d := by
  unfold hDv Attn.Dv
  rw [tDv_apply, sum_jj]
  refine Finset.sum_congr rfl fun g _ => Finset.sum_congr rfl fun r _ => ?_
  rw [colS_eq hi B h g r, sink_eq B h g r, doOf_apply, B.g]
  rfl

theorem hDsk_apply : hDsk i x0 x1 x2 x3 x4 x5 x6 h (ix2 0 (jj g r)) = Attn.DskRow A t h g r := by
  unfold hDsk
  rw [tDsk_apply, colS_eq hi B h g r, sink_eq B h g r, Row.dsk_congr _ _ _ _ (colDp_or hi B h g r)]
  rfl

theorem oDq_apply (l : Fin 1024) : oDq i x0 x1 x2 x3 x4 x5 x6 (ix2 r l) = Attn.Dq A t (Attn.colH l) (Attn.colG l) r (Attn.colD l) := by
  rw [← hDq_apply hi B]
  have hn : l.val / 64 < 16 := by omega
  refine (concatenate_ofFn_apply (t := S128x1024) (s₁ := S128x64) (N := 16) 1 (fun n => extractStridedSlice S128x64 ![128 * (gp n).val, 0] (hDq i x0 x1 x2 x3 x4 x5 x6 (hd n)) (slR (gp n)))
    _ rfl 64 rfl (ix2 r l) ⟨l.val / 64, hn⟩ rfl (ix2 r (Attn.colD l)) rfl ?_).trans ?_
  · intro b hb
    match b with
    | ⟨0, _⟩ => rfl
    | ⟨1, _⟩ => exact absurd rfl hb
  · have e1 : hd ⟨l.val / 64, hn⟩ = Attn.colH l := Fin.ext (by show l.val / 64 / 4 = l.val / 256; omega)
    rw [e1]
    show extractStridedSlice S128x64 ![128 * (gp ⟨l.val / 64, hn⟩).val, 0] (hDq i x0 x1 x2 x3 x4 x5 x6 (Attn.colH l)) (slR (gp ⟨l.val / 64, hn⟩)) _ = _
    pointwise []
    congr 1
    all_goals rfl

end

theorem lower_apply (d : Fin 4 → FVec Ideal S256x64 .f32) (r : Fin 128) (l : Fin 256) :
    lower d (ix2 r l) = d (Attn.kcolH l) (ix2 (Attn.before r) (Attn.kcolD l)) := by
  refine (concatenate_ofFn_apply (t := S128x256) (s₁ := S128x64) (N := 4) 1 (fun h => extractStridedSlice S128x64 ![0, 0] (d h) slices_S256x64_o0_0_S128x64)
    _ rfl 64 rfl (ix2 r l) (Attn.kcolH l) rfl (ix2 r (Attn.kcolD l)) rfl ?_).trans ?_
  · intro b hb
    match b with
    | ⟨0, _⟩ => rfl
    | ⟨1, _⟩ => exact absurd rfl hb
  · show extractStridedSlice S128x64 ![0, 0] (d _) slices_S256x64_o0_0_S128x64 _ = _
    pointwise []
    rfl

theorem upper_apply (d : Fin 4 → FVec Ideal S256x64 .f32) (r : Fin 128) (l : Fin 256) :
    upper d (ix2 r l) = d (Attn.kcolH l) (ix2 (Attn.own r) (Attn.kcolD l)) := by
  refine (concatenate_ofFn_apply (t := S128x256) (s₁ := S128x64) (N := 4) 1 (fun h => extractStridedSlice S128x64 ![128, 0] (d h) slices_S256x64_o128_0_S128x64)
    _ rfl 64 rfl (ix2 r l) (Attn.kcolH l) rfl (ix2 r (Attn.kcolD l)) rfl ?_).trans ?_
  · intro b hb
    match b with
    | ⟨0, _⟩ => rfl
    | ⟨1, _⟩ => exact absurd rfl hb
  · show extractStridedSlice S128x64 ![128, 0] (d _) slices_S256x64_o128_0_S128x64 _ = _
    pointwise []
    rfl

/-- One head's row of the block's part of the sinks' gradient. -/
def skPiece (i : grid0.Coords) (x0 : Vec Ideal S128x1024 .bf16) (x1 x2 x3 x4 : Vec Ideal S128x256 .bf16) (x5 : Vec Ideal S16x128 .f32)
    (x6 : Vec Ideal S128x1024 .f32) (n : Fin 16) : FVec Ideal S1x128 .f32 :=
  broadcastTo S1x128 (shapeCast S1x1 (shapeCast S1x1 (multiReduction .add [1] S1
    (extractStridedSlice S1x128 ![0, 128 * (gp n).val] (hDsk i x0 x1 x2 x3 x4 x5 x6 (hd n)) (slC (gp n))) 0x00000000#32 reduces_S1x128_S1 (.inl rfl) rfl)
    shapeCasts_S1_S1x1) shapeCasts_S1x1_S1x1) broadcasts_S1x1_S1x128

section
variable {A : Attn.Args} {i : grid0.Coords} {t : Fin 16}
  {x0 : Vec Ideal S128x1024 .bf16} {x1 x2 x3 x4 : Vec Ideal S128x256 .bf16} {x5 : Vec Ideal S16x128 .f32} {x6 : Vec Ideal S128x1024 .f32}
  (hi : (i 0).val = t.val) (B : Blocks A t x0 x1 x2 x3 x4 x5 x6)
include hi B

/-- The row of head `n` in the sinks' gradient. -/
theorem skPiece_apply (n : Fin 16) (l : Fin 128) :
    skPiece i x0 x1 x2 x3 x4 x5 x6 n (ix2 0 l) = ∑ r : Fin 128, Attn.DskRow A t (Attn.headH n) (Attn.headG n) r := by
  pointwise [skPiece]
  refine Finset.sum_congr rfl fun r _ => ?_
  rw [← hDsk_apply hi B]
  rfl

theorem oDsk_apply (n : Fin 16) (l : Fin 128) :
    oDsk i x0 x1 x2 x3 x4 x5 x6 (ix2 n l) = ∑ r : Fin 128, Attn.DskRow A t (Attn.headH n) (Attn.headG n) r := by
  refine (concatenate_ofFn_apply (t := S16x128) (s₁ := S1x128) (N := 16) 0 (skPiece i x0 x1 x2 x3 x4 x5 x6)
    _ rfl 1 rfl (ix2 n l) n (Nat.div_one _) (ix2 0 l) ?_ ?_).trans ?_
  · show 0 = n.val % 1; omega
  · intro b hb
    match b with
    | ⟨0, _⟩ => exact absurd rfl hb
    | ⟨1, _⟩ => rfl
  · exact skPiece_apply hi B n l

end

end Cert.KernelIdeal.Value

end
-- ==== Proof.Attn.KArr.lean ====
/-
  The arrays after the run: the formulas of `Attn` at every row and column.
-/
module

public import proofs.«01_k».proof.Proof.Attn.KRead
public import proofs.«01_k».proof.Proof.Gen.KernelIdeal.Value
public import Idealize.ShloMosaic.Lib.Pipeline.ValueKit
import Idealize.ShloMosaic.Lib.Pointwise
import Idealize.ShloMosaic.Lib.IdealHost

@[expose] public section

noncomputable section

namespace Cert.KernelIdeal.Value

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- The arguments, by coordinates. -/
def args : Attn.Args where
  q i l := (m ((c : Thread nD τ).loc main_arg0) : Vec Ideal S2048x1024 .bf16) (ix2 i l)
  k i l := (m ((c : Thread nD τ).loc main_arg1) : Vec Ideal S2048x256 .bf16) (ix2 i l)
  v i l := (m ((c : Thread nD τ).loc main_arg2) : Vec Ideal S2048x256 .bf16) (ix2 i l)
  sinks n := (m ((c : Thread nD τ).loc main_arg3) : Vec Ideal S16 .f32) (ix1 n)
  g i l := (m ((c : Thread nD τ).loc main_arg4) : Vec Ideal S2048x1024 .f32) (ix2 i l)

/-- A grid point as a block. -/
def tp (t : Fin cfg0.N) : Fin 16 := ⟨t.val, t.isLt⟩

theorem coords_val : ∀ t : Fin grid0.N, (grid0.coords t 0).val = t.val := by decide +kernel

theorem at_0 : ∀ t : Fin grid0.N, win0_0.index t 0 = t.val ∧ win0_0.index t 1 = 0 := by decide +kernel
theorem at_1 : ∀ t : Fin grid0.N, win0_1.index t 0 = t.val - 1 ∧ win0_1.index t 1 = 0 := by decide +kernel
theorem at_2 : ∀ t : Fin grid0.N, win0_2.index t 0 = t.val ∧ win0_2.index t 1 = 0 := by decide +kernel
theorem at_3 : ∀ t : Fin grid0.N, win0_3.index t 0 = t.val - 1 ∧ win0_3.index t 1 = 0 := by decide +kernel
theorem at_4 : ∀ t : Fin grid0.N, win0_4.index t 0 = t.val ∧ win0_4.index t 1 = 0 := by decide +kernel
theorem at_5 : ∀ t : Fin grid0.N, win0_5.index t 0 = 0 ∧ win0_5.index t 1 = 0 := by decide +kernel
theorem at_6 : ∀ t : Fin grid0.N, win0_6.index t 0 = t.val ∧ win0_6.index t 1 = 0 := by decide +kernel
theorem at_7 : ∀ t : Fin grid0.N, win0_7.index t 0 = t.val ∧ win0_7.index t 1 = 0 := by decide +kernel
theorem at_8 : ∀ t : Fin grid0.N, win0_8.index t 0 = t.val ∧ win0_8.index t 1 = 0 := by decide +kernel
theorem at_9 : ∀ t : Fin grid0.N, win0_9.index t 0 = t.val ∧ win0_9.index t 1 = 0 := by decide +kernel
theorem at_10 : ∀ t : Fin grid0.N, win0_10.index t 0 = t.val ∧ win0_10.index t 1 = 0 := by decide +kernel
theorem at_11 : ∀ t : Fin grid0.N, win0_11.index t 0 = t.val ∧ win0_11.index t 1 = 0 := by decide +kernel

theorem iblk0 (t : Fin cfg0.N) (r : Fin 128) (l : Fin 1024) :
    (iblk m c 0 t : Vec Ideal S128x1024 .bf16) (ix2 r l) = (args m c).q (Attn.row (tp t) r) l := by
  unfold iblk
  rw [View.read_apply]
  show V m c main_arg0 _ = _
  rw [V_main_arg0]
  show m _ _ = m _ _
  congr 1
  funext a
  apply Fin.ext
  match a with
  | ⟨0, _⟩ => show win0_0.index t 0 * 128 + 1 * r.val = 128 * t.val + r.val; rw [(at_0 t).1]; omega
  | ⟨1, _⟩ => show win0_0.index t 1 * 1024 + 1 * l.val = l.val; rw [(at_0 t).2]; omega

theorem iblk1 (t : Fin cfg0.N) (r : Fin 128) (l : Fin 256) :
    (iblk m c 1 t : Vec Ideal S128x256 .bf16) (ix2 r l) = (args m c).k (Attn.rowBefore (tp t) r) l := by
  unfold iblk
  rw [View.read_apply]
  show V m c main_arg1 _ = _
  rw [V_main_arg1]
  show m _ _ = m _ _
  congr 1
  funext a
  apply Fin.ext
  match a with
  | ⟨0, _⟩ => show win0_1.index t 0 * 128 + 1 * r.val = 128 * (t.val - 1) + r.val; rw [(at_1 t).1]; omega
  | ⟨1, _⟩ => show win0_1.index t 1 * 256 + 1 * l.val = l.val; rw [(at_1 t).2]; omega

theorem iblk2 (t : Fin cfg0.N) (r : Fin 128) (l : Fin 256) :
    (iblk m c 2 t : Vec Ideal S128x256 .bf16) (ix2 r l) = (args m c).k (Attn.row (tp t) r) l := by
  unfold iblk
  rw [View.read_apply]
  show V m c main_arg1 _ = _
  rw [V_main_arg1]
  show m _ _ = m _ _
  congr 1
  funext a
  apply Fin.ext
  match a with
  | ⟨0, _⟩ => show win0_2.index t 0 * 128 + 1 * r.val = 128 * t.val + r.val; rw [(at_2 t).1]; omega
  | ⟨1, _⟩ => show win0_2.index t 1 * 256 + 1 * l.val = l.val; rw [(at_2 t).2]; omega

theorem iblk3 (t : Fin cfg0.N) (r : Fin 128) (l : Fin 256) :
    (iblk m c 3 t : Vec Ideal S128x256 .bf16) (ix2 r l) = (args m c).v (Attn.rowBefore (tp t) r) l := by
  unfold iblk
  rw [View.read_apply]
  show V m c main_arg2 _ = _
  rw [V_main_arg2]
  show m _ _ = m _ _
  congr 1
  funext a
  apply Fin.ext
  match a with
  | ⟨0, _⟩ => show win0_3.index t 0 * 128 + 1 * r.val = 128 * (t.val - 1) + r.val; rw [(at_3 t).1]; omega
  | ⟨1, _⟩ => show win0_3.index t 1 * 256 + 1 * l.val = l.val; rw [(at_3 t).2]; omega

theorem iblk4 (t : Fin cfg0.N) (r : Fin 128) (l : Fin 256) :
    (iblk m c 4 t : Vec Ideal S128x256 .bf16) (ix2 r l) = (args m c).v (Attn.row (tp t) r) l := by
  unfold iblk
  rw [View.read_apply]
  show V m c main_arg2 _ = _
  rw [V_main_arg2]
  show m _ _ = m _ _
  congr 1
  funext a
  apply Fin.ext
  match a with
  | ⟨0, _⟩ => show win0_4.index t 0 * 128 + 1 * r.val = 128 * t.val + r.val; rw [(at_4 t).1]; omega
  | ⟨1, _⟩ => show win0_4.index t 1 * 256 + 1 * l.val = l.val; rw [(at_4 t).2]; omega

theorem iblk6 (t : Fin cfg0.N) (r : Fin 128) (l : Fin 1024) :
    (iblk m c 6 t : Vec Ideal S128x1024 .f32) (ix2 r l) = (args m c).g (Attn.row (tp t) r) l := by
  unfold iblk
  rw [View.read_apply]
  show V m c main_arg4 _ = _
  rw [V_main_arg4]
  show m _ _ = m _ _
  congr 1
  funext a
  apply Fin.ext
  match a with
  | ⟨0, _⟩ => show win0_6.index t 0 * 128 + 1 * r.val = 128 * t.val + r.val; rw [(at_6 t).1]; omega
  | ⟨1, _⟩ => show win0_6.index t 1 * 1024 + 1 * l.val = l.val; rw [(at_6 t).2]; omega

/-- The sinks, laid out over rows of 128. -/
theorem V_sinks : V m c main_v1 = broadcastInDim S16x128 ![0, 1] bcast_S16x1_S16x128_0_1
    (broadcastInDim S16x1 ![0] bcast_S16_S16x1_0 (m ((c : Thread nD τ).loc main_arg3) : Vec Ideal S16 .f32)) := by
  rfl

theorem iblk5 (t : Fin cfg0.N) (n : Fin 16) (r : Fin 128) :
    (iblk m c 5 t : Vec Ideal S16x128 .f32) (ix2 n r) = (args m c).sinks n := by
  unfold iblk
  rw [View.read_apply]
  show V m c main_v1 _ = _
  rw [V_sinks]
  show m _ _ = m _ _
  congr 1
  funext a
  apply Fin.ext
  match a with
  | ⟨0, _⟩ =>
    show win0_5.index t 0 * 16 + 1 * n.val = n.val; rw [(at_5 t).1]; omega

theorem blocks (t : Fin cfg0.N) :
    Blocks (args m c) (tp t) (iblk m c 0 t) (iblk m c 1 t) (iblk m c 2 t) (iblk m c 3 t) (iblk m c 4 t) (iblk m c 5 t) (iblk m c 6 t) where
  q := iblk0 m c t
  kp := iblk1 m c t
  kc := iblk2 m c t
  vp := iblk3 m c t
  vc := iblk4 m c t
  sk := iblk5 m c t
  g := iblk6 m c t

/-! ## The arrays -/

/-- Each point leaves the blocks of its own arguments. -/
theorem outs_leaves (t : Fin cfg0.N) : ∃ xo, outsAt0 m c t.val t.isLt = leavesAt m c t xo := by
  by_cases h0 : t.val % 16 = 0
  · exact ⟨_, outs_A m c t h0⟩
  · exact ⟨_, outs_B m c t h0⟩

theorem idx_pair {n : Nat} (y : (⟨2, ![128, n]⟩ : Shape).Idx) : ∃ (r : Fin 128) (l : Fin n), y = ix2 r l :=
  ⟨y 0, y 1, funext fun a => match a with | ⟨0, _⟩ => rfl | ⟨1, _⟩ => rfl⟩

theorem blk_row (t : Fin 16) (r : Fin 128) : Attn.blk (Attn.row t r) = t := Fin.ext (by show (128 * t.val + r.val) / 128 = t.val; omega)
theorem pos_row (t : Fin 16) (r : Fin 128) : Attn.pos (Attn.row t r) = r := Fin.ext (by show (128 * t.val + r.val) % 128 = r.val; omega)

theorem final7 : (dats m 0 c).arrAt 7 cfg0.N = fun i : S2048x1024.Idx => Attn.aDq (args m c) (i 0) (i 1) := by
  refine (dats m 0 c).arrAt_eq_of_covers 7 _ (by decide +kernel) fun t hf y => ?_
  blk_simp
  rw [after0_7]
  obtain ⟨xo, h⟩ := outs_leaves m c t
  rw [h]
  obtain ⟨r, l, rfl⟩ := idx_pair (n := 1024) y
  have e0 : ((win0_7.blk t).view.emb (ix2 r l) 0 : Fin 2048) = Attn.row (tp t) r := Fin.ext (by
    show win0_7.index t 0 * 128 + 1 * r.val = 128 * t.val + r.val; rw [(at_7 t).1]; omega)
  have e1 : ((win0_7.blk t).view.emb (ix2 r l) 1 : Fin 1024) = l := Fin.ext (by
    show win0_7.index t 1 * 1024 + 1 * l.val = l.val; rw [(at_7 t).2]; omega)
  rw [e0, e1]
  unfold Attn.aDq
  rw [blk_row, pos_row]
  exact oDq_apply (coords_val t) (blocks m c t) r l

theorem final8 : (dats m 0 c).arrAt 8 cfg0.N = fun i : S2048x256.Idx => Attn.aDkOwn (args m c) (i 0) (i 1) := by
  refine (dats m 0 c).arrAt_eq_of_covers 8 _ (by decide +kernel) fun t hf y => ?_
  blk_simp
  rw [after0_8]
  obtain ⟨xo, h⟩ := outs_leaves m c t
  rw [h]
  obtain ⟨r, l, rfl⟩ := idx_pair (n := 256) y
  have e0 : ((win0_8.blk t).view.emb (ix2 r l) 0 : Fin 2048) = Attn.row (tp t) r := Fin.ext (by
    show win0_8.index t 0 * 128 + 1 * r.val = 128 * t.val + r.val; rw [(at_8 t).1]; omega)
  have e1 : ((win0_8.blk t).view.emb (ix2 r l) 1 : Fin 256) = l := Fin.ext (by
    show win0_8.index t 1 * 256 + 1 * l.val = l.val; rw [(at_8 t).2]; omega)
  rw [e0, e1]
  unfold Attn.aDkOwn
  rw [blk_row, pos_row]
  show upper (hDk (grid0.coords t) (iblk m c 0 t) (iblk m c 1 t) (iblk m c 2 t) (iblk m c 3 t) (iblk m c 4 t) (iblk m c 5 t) (iblk m c 6 t)) (ix2 r l) = _
  rw [upper_apply]
  exact hDk_apply (coords_val t) (blocks m c t) _ _ _

theorem final9 : (dats m 0 c).arrAt 9 cfg0.N = fun i : S2048x256.Idx => Attn.aDkBefore (args m c) (i 0) (i 1) := by
  refine (dats m 0 c).arrAt_eq_of_covers 9 _ (by decide +kernel) fun t hf y => ?_
  blk_simp
  rw [after0_9]
  obtain ⟨xo, h⟩ := outs_leaves m c t
  rw [h]
  obtain ⟨r, l, rfl⟩ := idx_pair (n := 256) y
  have e0 : ((win0_9.blk t).view.emb (ix2 r l) 0 : Fin 2048) = Attn.row (tp t) r := Fin.ext (by
    show win0_9.index t 0 * 128 + 1 * r.val = 128 * t.val + r.val; rw [(at_9 t).1]; omega)
  have e1 : ((win0_9.blk t).view.emb (ix2 r l) 1 : Fin 256) = l := Fin.ext (by
    show win0_9.index t 1 * 256 + 1 * l.val = l.val; rw [(at_9 t).2]; omega)
  rw [e0, e1]
  unfold Attn.aDkBefore
  rw [blk_row, pos_row]
  show lower (hDk (grid0.coords t) (iblk m c 0 t) (iblk m c 1 t) (iblk m c 2 t) (iblk m c 3 t) (iblk m c 4 t) (iblk m c 5 t) (iblk m c 6 t)) (ix2 r l) = _
  rw [lower_apply]
  exact hDk_apply (coords_val t) (blocks m c t) _ _ _

theorem final10 : (dats m 0 c).arrAt 10 cfg0.N = fun i : S2048x256.Idx => Attn.aDvOwn (args m c) (i 0) (i 1) := by
  refine (dats m 0 c).arrAt_eq_of_covers 10 _ (by decide +kernel) fun t hf y => ?_
  blk_simp
  rw [after0_10]
  obtain ⟨xo, h⟩ := outs_leaves m c t
  rw [h]
  obtain ⟨r, l, rfl⟩ := idx_pair (n := 256) y
  have e0 : ((win0_10.blk t).view.emb (ix2 r l) 0 : Fin 2048) = Attn.row (tp t) r := Fin.ext (by
    show win0_10.index t 0 * 128 + 1 * r.val = 128 * t.val + r.val; rw [(at_10 t).1]; omega)
  have e1 : ((win0_10.blk t).view.emb (ix2 r l) 1 : Fin 256) = l := Fin.ext (by
    show win0_10.index t 1 * 256 + 1 * l.val = l.val; rw [(at_10 t).2]; omega)
  rw [e0, e1]
  unfold Attn.aDvOwn
  rw [blk_row, pos_row]
  show upper (hDv (grid0.coords t) (iblk m c 0 t) (iblk m c 1 t) (iblk m c 2 t) (iblk m c 5 t) (iblk m c 6 t)) (ix2 r l) = _
  rw [upper_apply]
  exact hDv_apply (coords_val t) (blocks m c t) _ _ _

theorem final11 : (dats m 0 c).arrAt 11 cfg0.N = fun i : S2048x256.Idx => Attn.aDvBefore (args m c) (i 0) (i 1) := by
  refine (dats m 0 c).arrAt_eq_of_covers 11 _ (by decide +kernel) fun t hf y => ?_
  blk_simp
  rw [after0_11]
  obtain ⟨xo, h⟩ := outs_leaves m c t
  rw [h]
  obtain ⟨r, l, rfl⟩ := idx_pair (n := 256) y
  have e0 : ((win0_11.blk t).view.emb (ix2 r l) 0 : Fin 2048) = Attn.row (tp t) r := Fin.ext (by
    show win0_11.index t 0 * 128 + 1 * r.val = 128 * t.val + r.val; rw [(at_11 t).1]; omega)
  have e1 : ((win0_11.blk t).view.emb (ix2 r l) 1 : Fin 256) = l := Fin.ext (by
    show win0_11.index t 1 * 256 + 1 * l.val = l.val; rw [(at_11 t).2]; omega)
  rw [e0, e1]
  unfold Attn.aDvBefore
  rw [blk_row, pos_row]
  show lower (hDv (grid0.coords t) (iblk m c 0 t) (iblk m c 1 t) (iblk m c 2 t) (iblk m c 5 t) (iblk m c 6 t)) (ix2 r l) = _
  rw [lower_apply]
  exact hDv_apply (coords_val t) (blocks m c t) _ _ _

/-! ## The sinks' gradient: a sum over the points -/

/-- Block `k`'s part of the gradient of head `n`'s sink. -/
def part (n : Fin 16) (k : Nat) : EReal := if hk : k < 16 then ∑ r : Fin 128, Attn.DskRow (args m c) ⟨k, hk⟩ (Attn.headH n) (Attn.headG n) r else 0

theorem oDsk_part (t : Fin cfg0.N) (xo : FVec Ideal S16x128 .f32) (n : Fin 16) (l : Fin 128) :
    (leavesAt m c t xo).2.2.2.2.2 (ix2 n l) = xo (ix2 n l) + part m c n t.val := by
  have e : part m c n t.val = _ := (dif_pos (show t.val < 16 from t.isLt)).trans (oDsk_apply (coords_val t) (blocks m c t) n l).symm
  rw [e]
  show k0_pay1 (F := Ideal) xo (oDsk (grid0.coords t) _ _ _ _ _ _ _) (ix2 n l) = _
  pointwise [k0_pay1]

theorem sum_upto (n : Fin 16) (l : Fin 128) : ∀ (k : Nat) (hk : k < cfg0.N),
    (outsAt0 m c k hk).2.2.2.2.2 (ix2 n l) = ∑ j ∈ Finset.range (k + 1), part m c n j
  | 0, hk => by
      rw [show outsAt0 m c 0 hk = _ from outs_A m c ⟨0, hk⟩ rfl, oDsk_part, Finset.sum_range_one]
      pointwise [k0_pay120]
  | k + 1, hk => by
      have h16 : k + 1 < 16 := hk
      rw [show outsAt0 m c (k + 1) hk = _ from outs_B m c ⟨k + 1, hk⟩ (by show ¬(k + 1) % 16 = 0; omega), oDsk_part, Finset.sum_range_succ]
      congr 1
      exact sum_upto n l k (Nat.lt_of_succ_lt hk)

/-- What the last point leaves of the sinks' gradient. -/
theorem last_point (n : Fin 16) (l : Fin 128) :
    (outsAt0 m c 15 (by decide)).2.2.2.2.2 (ix2 n l) = Attn.aDsk (args m c) n := by
  rw [sum_upto m c n l 15 (by decide), Finset.sum_range]
  unfold Attn.aDsk Attn.Dsk
  refine Finset.sum_congr rfl fun t _ => ?_
  unfold part
  rw [dif_pos t.isLt]

theorem final12 : (dats m 0 c).arrAt 12 cfg0.N = fun i : S16x128.Idx => Attn.aDsk (args m c) (i 0) := by
  have hw : (cfg0.win 12).WholeAt ⟨15, by decide⟩ := by decide +kernel
  refine (dats m 0 c).arrAt_eq_of_after_last 12 ⟨15, by decide⟩ hw _ fun j => ?_
  have e := congrFun (after0_12 m c ⟨15, by decide⟩) fun a => ⟨(j a).val, hw.lt_size j a⟩
  refine Eq.trans e ?_
  obtain ⟨n, l, rfl⟩ : ∃ (n : Fin 16) (l : Fin 128), j = ix2 n l := ⟨j 0, j 1, funext fun a => match a with | ⟨0, _⟩ => rfl | ⟨1, _⟩ => rfl⟩
  exact last_point m c n l

end Cert.KernelIdeal.Value

end
-- ==== Proof.Attn.RefSum.lean ====
/-
  The reference's sums and maxima over axes, read at an index.
-/
module

public import proofs.«01_k».proof.ReferenceIdeal
public import Idealize.ShloMosaic.Lib.Pointwise

@[expose] public section

noncomputable section

namespace Cert.ReferenceIdeal.Read

open Idealize.ShloMosaic Cert.ReferenceIdeal

/-- What falls on a row, of the last axis. -/
theorem fiber_5 (hr : S1x16x4x4x128x256.ReducesTo [5] S1x16x4x4x128) (n : Fin 16) (h g : Fin 4) (r : Fin 128) (i : S1x16x4x4x128x256.Idx) :
    hr.drop i = ix5 0 n h g r ↔ ∃ c : Fin 256, ix6 0 n h g r c = i := by
  constructor
  · intro e
    refine ⟨i 5, funext fun a => ?_⟩
    match a with
    | ⟨0, _⟩ => exact Fin.ext (congrArg Fin.val (congrFun e 0)).symm
    | ⟨1, _⟩ => exact Fin.ext (congrArg Fin.val (congrFun e 1)).symm
    | ⟨2, _⟩ => exact Fin.ext (congrArg Fin.val (congrFun e 2)).symm
    | ⟨3, _⟩ => exact Fin.ext (congrArg Fin.val (congrFun e 3)).symm
    | ⟨4, _⟩ => exact Fin.ext (congrArg Fin.val (congrFun e 4)).symm
    | ⟨5, _⟩ => rfl
  · rintro ⟨c, rfl⟩
    funext b
    match b with
    | ⟨0, _⟩ => rfl
    | ⟨1, _⟩ => rfl
    | ⟨2, _⟩ => rfl
    | ⟨3, _⟩ => rfl
    | ⟨4, _⟩ => rfl

theorem sum_5 (hr : S1x16x4x4x128x256.ReducesTo [5] S1x16x4x4x128) (v : S1x16x4x4x128x256.Idx → EReal) (z : EReal) (n : Fin 16) (h g : Fin 4) (r : Fin 128) :
    Ideal.hostReduceAdd hr v z (ix5 0 n h g r) = z + ∑ c : Fin 256, v (ix6 0 n h g r c) :=
  congrArg (z + ·) (Finset.sum_filter_eq_sum_of_fiber _ (fun c : Fin 256 => (ix6 0 n h g r c : S1x16x4x4x128x256.Idx))
    (fun _ _ e => congrFun e 5) (fiber_5 hr n h g r) v)

theorem max_5 (hr : S1x16x4x4x128x256.ReducesTo [5] S1x16x4x4x128) (v : S1x16x4x4x128x256.Idx → EReal) (z : EReal) (n : Fin 16) (h g : Fin 4) (r : Fin 128) :
    Finset.fold max z v {i | hr.drop i = ix5 0 n h g r} = Finset.univ.fold max z fun c : Fin 256 => v (ix6 0 n h g r c) :=
  Finset.fold_filter_eq_fold_of_fiber max _ (fun c : Fin 256 => (ix6 0 n h g r c : S1x16x4x4x128x256.Idx))
    (fun _ _ e => congrFun e 5) (fiber_5 hr n h g r) z v

/-- What falls on a head, of the blocks and the rows. -/
theorem fiber_14 (hr : S1x16x4x4x128x1.ReducesTo [1, 4] S1x4x4x1) (h g : Fin 4) (i : S1x16x4x4x128x1.Idx) :
    hr.drop i = ix4 0 h g 0 ↔ ∃ k : Fin 16 × Fin 128, ix6 0 k.1 h g k.2 0 = i := by
  constructor
  · intro e
    refine ⟨(i 1, i 4), funext fun a => ?_⟩
    match a with
    | ⟨0, _⟩ => exact Fin.ext (congrArg Fin.val (congrFun e 0)).symm
    | ⟨1, _⟩ => rfl
    | ⟨2, _⟩ => exact Fin.ext (congrArg Fin.val (congrFun e 1)).symm
    | ⟨3, _⟩ => exact Fin.ext (congrArg Fin.val (congrFun e 2)).symm
    | ⟨4, _⟩ => rfl
    | ⟨5, _⟩ => exact Fin.ext (congrArg Fin.val (congrFun e 3)).symm
  · rintro ⟨c, rfl⟩
    funext b
    match b with
    | ⟨0, _⟩ => rfl
    | ⟨1, _⟩ => rfl
    | ⟨2, _⟩ => rfl
    | ⟨3, _⟩ => rfl

theorem sum_14 (hr : S1x16x4x4x128x1.ReducesTo [1, 4] S1x4x4x1) (v : S1x16x4x4x128x1.Idx → EReal) (z : EReal) (h g : Fin 4) :
    Ideal.hostReduceAdd hr v z (ix4 0 h g 0) = z + ∑ n : Fin 16, ∑ r : Fin 128, v (ix6 0 n h g r 0) :=
  congrArg (z + ·) ((Finset.sum_filter_eq_sum_of_fiber _ (fun k : Fin 16 × Fin 128 => (ix6 0 k.1 h g k.2 0 : S1x16x4x4x128x1.Idx))
    (fun _ _ e => Prod.ext (congrFun e 1) (congrFun e 4)) (fiber_14 hr h g) v).trans (Fintype.sum_prod_type _))

/-- What falls on a row, of the axes of size one: that row. -/
theorem fiber_05 (hr : S1x16x4x4x128x1.ReducesTo [0, 5] S16x4x4x128) (n : Fin 16) (h g : Fin 4) (r : Fin 128) (i : S1x16x4x4x128x1.Idx) :
    hr.drop i = ix4 n h g r ↔ ∃ _k : Unit, ix6 0 n h g r 0 = i := by
  constructor
  · intro e
    refine ⟨(), funext fun a => ?_⟩
    match a with
    | ⟨0, _⟩ => exact Subsingleton.elim (α := Fin 1) _ _
    | ⟨1, _⟩ => exact Fin.ext (congrArg Fin.val (congrFun e 0)).symm
    | ⟨2, _⟩ => exact Fin.ext (congrArg Fin.val (congrFun e 1)).symm
    | ⟨3, _⟩ => exact Fin.ext (congrArg Fin.val (congrFun e 2)).symm
    | ⟨4, _⟩ => exact Fin.ext (congrArg Fin.val (congrFun e 3)).symm
    | ⟨5, _⟩ => exact Subsingleton.elim (α := Fin 1) _ _
  · rintro ⟨-, rfl⟩
    funext b
    match b with
    | ⟨0, _⟩ => rfl
    | ⟨1, _⟩ => rfl
    | ⟨2, _⟩ => rfl
    | ⟨3, _⟩ => rfl

theorem sum_05 (hr : S1x16x4x4x128x1.ReducesTo [0, 5] S16x4x4x128) (v : S1x16x4x4x128x1.Idx → EReal) (z : EReal) (n : Fin 16) (h g : Fin 4) (r : Fin 128) :
    Ideal.hostReduceAdd hr v z (ix4 n h g r) = z + v (ix6 0 n h g r 0) :=
  congrArg (z + ·) ((Finset.sum_filter_eq_sum_of_fiber _ (fun _ : Unit => (ix6 0 n h g r 0 : S1x16x4x4x128x1.Idx))
    (fun _ _ _ => rfl) (fiber_05 hr n h g r) v).trans (Fintype.sum_unique _))

end Cert.ReferenceIdeal.Read

end
-- ==== Proof.Attn.RefWords.lean ====
/-
  The comparisons of the reference's mask, in 32-bit words.
-/
module

public import Idealize.ShloMosaic.PureOps

@[expose] public section

namespace Cert.ReferenceIdeal.Read

open Idealize.ShloMosaic

theorem window_word : ∀ (r : Fin 128) (c : Fin 256),
    IntOp.andi (IntOp.cmpi .sge (IntOp.subi (IntOp.addi (BitVec.ofNat 32 r.val) 128#32) (BitVec.ofNat 32 c.val)) 0#32)
      (IntOp.cmpi .slt (IntOp.subi (IntOp.addi (BitVec.ofNat 32 r.val) 128#32) (BitVec.ofNat 32 c.val)) 128#32)
      = if r.val < c.val ∧ c.val ≤ r.val + 128 then 1#1 else 0#1 := by
  decide +kernel
theorem start_word : ∀ (n : Fin 16) (c : Fin 256),
    IntOp.cmpi .sge (IntOp.subi (IntOp.addi (IntOp.muli (BitVec.ofNat 32 n.val) 128#32) (BitVec.ofNat 32 c.val)) 128#32) 0#32
      = if 128 ≤ c.val ∨ 0 < n.val then 1#1 else 0#1 := by
  decide +kernel

end Cert.ReferenceIdeal.Read
-- ==== Proof.Attn.RefOps.lean ====
/-
  The reference's operands and its mask, read at an index.
-/
module

public import proofs.«01_k».proof.Proof.Gen.ReferenceIdeal.Read
public import proofs.«01_k».proof.Proof.Attn.RefSum
public import proofs.«01_k».proof.Proof.Attn.RefWords
public import proofs.«01_k».proof.Proof.Attn.Spec
import Idealize.ShloMosaic.Lib.Pointwise
import Idealize.ShloMosaic.Lib.IdealHost

@[expose] public section

noncomputable section

namespace Cert.ReferenceIdeal.Read

open Idealize.ShloMosaic Idealize.SL.Sem Cert.ReferenceIdeal Cert.ReferenceIdeal.Gen

variable (x0 : (⟨S2048x1024, .bf16⟩ : BufTy).Contents (Elt Ideal)) (x1 x2 : (⟨S2048x256, .bf16⟩ : BufTy).Contents (Elt Ideal))
  (x3 : (⟨S16, .f32⟩ : BufTy).Contents (Elt Ideal)) (x4 : (⟨S2048x1024, .f32⟩ : BufTy).Contents (Elt Ideal))

/-- The arguments, by coordinates. -/
def args : Attn.Args where
  q i l := x0 (ix2 i l)
  k i l := x1 (ix2 i l)
  v i l := x2 (ix2 i l)
  sinks n := x3 (ix1 n)
  g i l := x4 (ix2 i l)

/-! ## The operands -/

theorem r14 (n : Fin 16) (r : Fin 128) (h g : Fin 4) (d : Fin 64) :
    val_main_v14 x0 (ix6 0 n r h g d) = x0 (ix2 (Attn.row n r) (Attn.col h g d)) := by
  pointwise [val_main_v14, val_main_v1, val_main_v0]
  congr 2 <;> apply Fin.ext
  · simp only [Attn.row]; omega
  · simp only [Attn.col]; omega

theorem r102 (n : Fin 16) (r : Fin 128) (h g : Fin 4) (d : Fin 64) :
    val_main_v102 x4 (ix6 0 n h d g r) = x4 (ix2 (Attn.row n r) (Attn.col h g d)) := by
  pointwise [val_main_v102, val_main_v101, val_main_v100]
  congr 2 <;> apply Fin.ext
  · simp only [Attn.row]; omega
  · simp only [Attn.col]; omega

/-- The keys after 128 zero rows. -/
theorem r4 (i : Fin 2176) (h : Fin 4) (d : Fin 64) :
    val_main_v4 x1 (ix4 0 i h d) = if hi : 128 ≤ i.val then x1 (ix2 ⟨i.val - 128, by omega⟩ (Attn.kcol h d)) else 0 := by
  pointwise [val_main_v4, val_main_v3, val_main_v2, val_main_call0_v0]
  by_cases hi : 128 ≤ i.val
  · rw [dif_pos ⟨hi, by omega⟩, dif_pos hi]
    congr 2
    apply Fin.ext; show h.val * 64 + d.val = 64 * h.val + d.val; omega
  · rw [dif_neg (fun hh => hi hh.1), dif_neg hi]
    show ((((0#32 : BitVec 32).toInt : ℤ) : ℝ) : EReal) = 0
    simp

theorem r10 (i : Fin 2176) (h : Fin 4) (d : Fin 64) :
    val_main_v10 x2 (ix4 0 i h d) = if hi : 128 ≤ i.val then x2 (ix2 ⟨i.val - 128, by omega⟩ (Attn.kcol h d)) else 0 := by
  pointwise [val_main_v10, val_main_v9, val_main_v8, val_main_call1_v0]
  by_cases hi : 128 ≤ i.val
  · rw [dif_pos ⟨hi, by omega⟩, dif_pos hi]
    congr 2
    apply Fin.ext; show h.val * 64 + d.val = 64 * h.val + d.val; omega
  · rw [dif_neg (fun hh => hi hh.1), dif_neg hi]
    show ((((0#32 : BitVec 32).toInt : ℤ) : ℝ) : EReal) = 0
    simp

/-- Two blocks of 128 keys, one after the other, read at a key. -/
theorem join_apply (a b : (⟨S1x16x128x4x64, .f32⟩ : BufTy).Contents (Elt Ideal)) (n : Fin 16) (c : Fin 256) (h : Fin 4) (d : Fin 64) :
    concatenate S1x16x256x4x64 2 [⟨S1x16x128x4x64, a⟩, ⟨S1x16x128x4x64, b⟩] concatenates_S1x16x128x4x64_S1x16x128x4x64_S1x16x256x4x64_d2 (ix5 0 n c h d)
      = if hc : c.val < 128 then a (ix5 0 n ⟨c.val, hc⟩ h d) else b (ix5 0 n ⟨c.val - 128, by omega⟩ h d) := by
  by_cases hc : c.val < 128
  · rw [dif_pos hc]
    refine concatenate_ofFn_apply (t := S1x16x256x4x64) (s₁ := S1x16x128x4x64) (N := 2) 2 ![a, b]
      concatenates_S1x16x128x4x64_S1x16x128x4x64_S1x16x256x4x64_d2 rfl 128 rfl (ix5 0 n c h d) 0 ?_ (ix5 0 n ⟨c.val, hc⟩ h d) ?_ ?_
    · show c.val / 128 = 0; omega
    · show c.val = c.val % 128; omega
    · intro b hb
      match b with
      | ⟨0, _⟩ => rfl
      | ⟨1, _⟩ => rfl
      | ⟨2, _⟩ => exact absurd rfl hb
      | ⟨3, _⟩ => rfl
      | ⟨4, _⟩ => rfl
  · rw [dif_neg hc]
    refine concatenate_ofFn_apply (t := S1x16x256x4x64) (s₁ := S1x16x128x4x64) (N := 2) 2 ![a, b]
      concatenates_S1x16x128x4x64_S1x16x128x4x64_S1x16x256x4x64_d2 rfl 128 rfl (ix5 0 n c h d) 1 ?_ (ix5 0 n ⟨c.val - 128, by omega⟩ h d) ?_ ?_
    · show c.val / 128 = 1; omega
    · show c.val - 128 = c.val % 128; omega
    · intro b hb
      match b with
      | ⟨0, _⟩ => rfl
      | ⟨1, _⟩ => rfl
      | ⟨2, _⟩ => exact absurd rfl hb
      | ⟨3, _⟩ => rfl
      | ⟨4, _⟩ => rfl

theorem r15 (n : Fin 16) (c : Fin 256) (h : Fin 4) (d : Fin 64) :
    val_main_v15 x1 (ix5 0 n c h d) = Attn.banded (fun i l => x1 (ix2 i l)) n h c d := by
  unfold val_main_v15 Attn.banded
  rw [join_apply]
  by_cases hc : c.val < 128
  · rw [dif_pos hc, dif_pos hc]
    pointwise [val_main_v6, val_main_v5]
    rw [r4]
    by_cases hn : n.val = 0
    · rw [if_pos hn, dif_neg (by show ¬128 ≤ n.val * 128 + c.val; omega)]
    · rw [if_neg hn, dif_pos (by show 128 ≤ n.val * 128 + c.val; omega)]
      congr 2
      apply Fin.ext; show n.val * 128 + c.val - 128 = 128 * (n.val - 1) + c.val; omega
  · rw [dif_neg hc, dif_neg hc]
    pointwise [val_main_v7, val_main_v5]
    rw [r4, dif_pos (by show 128 ≤ (1 + n.val) * 128 + (c.val - 128); omega)]
    congr 2
    apply Fin.ext; show (1 + n.val) * 128 + (c.val - 128) - 128 = 128 * n.val + (c.val - 128); omega

theorem r16 (n : Fin 16) (c : Fin 256) (h : Fin 4) (d : Fin 64) :
    val_main_v16 x2 (ix5 0 n c h d) = Attn.banded (fun i l => x2 (ix2 i l)) n h c d := by
  unfold val_main_v16 Attn.banded
  rw [join_apply]
  by_cases hc : c.val < 128
  · rw [dif_pos hc, dif_pos hc]
    pointwise [val_main_v12, val_main_v11]
    rw [r10]
    by_cases hn : n.val = 0
    · rw [if_pos hn, dif_neg (by show ¬128 ≤ n.val * 128 + c.val; omega)]
    · rw [if_neg hn, dif_pos (by show 128 ≤ n.val * 128 + c.val; omega)]
      congr 2
      apply Fin.ext; show n.val * 128 + c.val - 128 = 128 * (n.val - 1) + c.val; omega
  · rw [dif_neg hc, dif_neg hc]
    pointwise [val_main_v13, val_main_v11]
    rw [r10, dif_pos (by show 128 ≤ (1 + n.val) * 128 + (c.val - 128); omega)]
    congr 2
    apply Fin.ext; show (1 + n.val) * 128 + (c.val - 128) - 128 = 128 * n.val + (c.val - 128); omega

/-! ## The mask -/

theorem r34 (r : Fin 128) (c : Fin 256) : val_main_v34 (F := Ideal) (ix2 r c) = if r.val < c.val ∧ c.val ≤ r.val + 128 then 1#1 else 0#1 := by
  rw [← window_word]
  pointwise [val_main_v34, val_main_v31, val_main_v33, val_main_v29, val_main_v27, val_main_v28, val_main_v24, val_main_v22, val_main_v21, val_main_v23,
    val_main_c_1, val_main_v26, val_main_v25, val_main_v30, val_main_c_2, val_main_v32, val_main_c_3]

theorem r48 (n : Fin 16) (c : Fin 256) : val_main_v48 (F := Ideal) (ix2 n c) = if 128 ≤ c.val ∨ 0 < n.val then 1#1 else 0#1 := by
  rw [← start_word]
  pointwise [val_main_v48, val_main_v47, val_main_c_6, val_main_v45, val_main_v44, val_main_c_5, val_main_v43, val_main_v42, val_main_v41, val_main_v40,
    val_main_v39, val_main_v38, val_main_v37, val_main_c_4, val_main_v36, val_main_v35]

theorem mask (n : Fin 16) (h g : Fin 4) (r : Fin 128) (c : Fin 256) :
    val_main_v54_1 (F := Ideal) (ix6 0 n h g r c) = if Attn.Seen n r c then 1#1 else 0#1 := by
  pointwise [val_main_v54_1, val_main_v53, val_main_v52, val_main_v51, val_main_v50, val_main_v49, val_main_v46]
  rw [r34, r48]
  unfold Attn.Seen
  by_cases h1 : r.val < c.val <;> by_cases h2 : c.val ≤ r.val + 128 <;> by_cases h3 : 128 ≤ c.val <;> by_cases h4 : 0 < n.val <;>
    simp only [h1, h2, h3, h4, if_true, if_false, and_true, and_false, or_true, or_false, iff_true, iff_false] <;> decide

end Cert.ReferenceIdeal.Read

end
-- ==== Proof.Attn.RefRow.lean ====
/-
  The reference's softmax, read at an index: each of its arrays is a formula of `Row` on the query row's scores, its
  head's sink and the gradients of its weights.
-/
module

public import proofs.«01_k».proof.Proof.Attn.RefOps

@[expose] public section

noncomputable section

namespace Cert.ReferenceIdeal.Read

open Idealize.ShloMosaic Idealize.SL.Sem Cert.ReferenceIdeal Cert.ReferenceIdeal.Gen

/-! ## Constants -/

theorem zero_word (s : Shape) (i : s.Idx) : constant (F := Ideal) s .f32 0x00000000#32 i = 0 := Ideal.ofBits_zero_f32
theorem one_word (s : Shape) (i : s.Idx) : constant (F := Ideal) s .f32 0x3F800000#32 i = 1 := Ideal.ofBits_one_f32
theorem bot_word (s : Shape) (i : s.Idx) : constant (F := Ideal) s .f32 0xFF800000#32 i = ⊥ := rfl

variable (x0 : (⟨S2048x1024, .bf16⟩ : BufTy).Contents (Elt Ideal)) (x1 x2 : (⟨S2048x256, .bf16⟩ : BufTy).Contents (Elt Ideal))
  (x3 : (⟨S16, .f32⟩ : BufTy).Contents (Elt Ideal)) (x4 : (⟨S2048x1024, .f32⟩ : BufTy).Contents (Elt Ideal))

variable (n : Fin 16) (h g : Fin 4) (r : Fin 128)

/-- The row's scores. -/
abbrev S : Fin 256 → EReal := Attn.S (args x0 x1 x2 x3 x4) n h g r
/-- Its head's sink. -/
abbrev σ : EReal := (args x0 x1 x2 x3 x4).sinks (Attn.head h g)
/-- The gradients of its weights. -/
abbrev D : Fin 256 → EReal := Attn.Dp (args x0 x1 x2 x3 x4) n h g r

theorem r54 (c : Fin 256) : val_main_v54_0 x0 x1 (ix6 0 n h g r c) = S x0 x1 x2 x3 x4 n h g r c := by
  pointwise [val_main_v54_0, val_main_v20, val_main_v19, val_main_v18, val_main_v17, val_main_cst, val_main_call2_v2, val_main_call2_v0, val_main_cst_7]
  rw [mask]
  simp only [r15, r14]
  show (if (if Attn.Seen n r c then 1#1 else 0#1) = 1#1 then _ else _) = _
  unfold S Attn.S
  by_cases hs : Attn.Seen n r c
  · rw [if_pos hs, if_pos hs, if_pos rfl]; rfl
  · rw [if_neg hs, if_neg hs, if_neg (by decide)]; rfl

theorem r103 (c : Fin 256) : val_main_v103 x2 x4 (ix6 0 n h g r c) = D x0 x1 x2 x3 x4 n h g r c := by
  pointwise [val_main_v103]
  refine Finset.sum_congr rfl fun d _ => ?_
  rw [r102, r16, mul_comm]
  rfl

theorem r55 : val_main_v55 x3 (ix6 0 0 h g 0 0) = σ x0 x1 x2 x3 x4 h g := by
  pointwise [val_main_v55]
  show x3 _ = x3 _
  congr 2
  apply Fin.ext; show h.val * 4 + g.val = 4 * h.val + g.val; omega

theorem r56 : val_main_v56 x0 x1 (ix5 0 n h g r) = Row.top (S x0 x1 x2 x3 x4 n h g r) := by
  pointwise [val_main_v56]
  rw [max_5]
  simp only [r54 x0 x1 x2 x3 x4]
  unfold Row.top val_main_cst_8
  rw [bot_word]

theorem max_word (a b : EReal) : FloatOps.maximumf (F := Ideal) (φ := .f32) a b = max a b := rfl

theorem r62 : val_main_v62 x0 x1 (ix6 0 n h g r 0) = val_main_v56 x0 x1 (ix5 0 n h g r) := by
  pointwise [val_main_v62]

theorem r63 : val_main_v63 x3 (ix6 0 n h g r 0) = val_main_v55 x3 (ix6 0 0 h g 0 0) := by
  pointwise [val_main_v63]

theorem r64 : val_main_v64 x0 x1 x3 (ix6 0 n h g r 0) = Row.mx (S x0 x1 x2 x3 x4 n h g r) (σ x0 x1 x2 x3 x4 h g) := by
  unfold val_main_v64 Row.mx
  rw [maximumf_apply, r62, r63, r55 x0 x1 x2 x3 x4, r56 x0 x1 x2 x3 x4]
  exact max_word _ _

theorem r85 (c : Fin 256) : val_main_v85 x0 x1 x3 (ix6 0 n h g r c) = Row.p (S x0 x1 x2 x3 x4 n h g r) (σ x0 x1 x2 x3 x4 h g) c := by
  pointwise [val_main_v85, val_main_v84, val_main_v83]
  rw [r54 x0 x1 x2 x3 x4, r64 x0 x1 x2 x3 x4]
  rfl

theorem r90 : val_main_v90 x0 x1 x3 (ix6 0 n h g r 0) = Row.e (S x0 x1 x2 x3 x4 n h g r) (σ x0 x1 x2 x3 x4 h g) := by
  pointwise [val_main_v90, val_main_v89, val_main_v88]
  rw [r55 x0 x1 x2 x3 x4, r64 x0 x1 x2 x3 x4]
  rfl

theorem r91 : val_main_v91 x0 x1 x3 (ix6 0 n h g r 0) = Row.den (S x0 x1 x2 x3 x4 n h g r) (σ x0 x1 x2 x3 x4 h g) := by
  pointwise [val_main_v91, val_main_v87, val_main_v86]
  rw [sum_5, r90 x0 x1 x2 x3 x4]
  simp only [r85 x0 x1 x2 x3 x4]
  unfold val_main_cst_16 Row.den
  rw [zero_word, zero_add]

theorem r93 (c : Fin 256) : val_main_v93 x0 x1 x3 (ix6 0 n h g r c)
    = Ideal.div (Row.p (S x0 x1 x2 x3 x4 n h g r) (σ x0 x1 x2 x3 x4 h g) c) (Row.den (S x0 x1 x2 x3 x4 n h g r) (σ x0 x1 x2 x3 x4 h g)) := by
  pointwise [val_main_v93, val_main_v92]
  rw [r85 x0 x1 x2 x3 x4, r91 x0 x1 x2 x3 x4]

theorem r96 : val_main_v96 x0 x1 x3 (ix6 0 n h g r 0)
    = Ideal.div 1 (Row.den (S x0 x1 x2 x3 x4 n h g r) (σ x0 x1 x2 x3 x4 h g) * Row.den (S x0 x1 x2 x3 x4 n h g r) (σ x0 x1 x2 x3 x4 h g)) := by
  pointwise [val_main_v96, val_main_v95, val_main_v94]
  unfold val_main_cst_17
  rw [one_word, r91 x0 x1 x2 x3 x4]

theorem r111 : val_main_v111 x0 x1 x2 x3 x4 (ix6 0 n h g r 0)
    = Row.back (S x0 x1 x2 x3 x4 n h g r) (σ x0 x1 x2 x3 x4 h g) (D x0 x1 x2 x3 x4 n h g r) := by
  pointwise [val_main_v111, val_main_v110, val_main_v109]
  rw [sum_5]
  unfold val_main_cst_18 Row.back
  rw [zero_word, zero_add]
  refine congrArg Neg.neg (Finset.sum_congr rfl fun c _ => ?_)
  pointwise [val_main_v108, val_main_v107, val_main_v106]
  rw [r85 x0 x1 x2 x3 x4, r96 x0 x1 x2 x3 x4, r103 x0 x1 x2 x3 x4]

theorem r114 : val_main_v114 x0 x1 x2 x3 x4 (ix6 0 n h g r 0)
    = Row.back (S x0 x1 x2 x3 x4 n h g r) (σ x0 x1 x2 x3 x4 h g) (D x0 x1 x2 x3 x4 n h g r) * Row.e (S x0 x1 x2 x3 x4 n h g r) (σ x0 x1 x2 x3 x4 h g) := by
  pointwise [val_main_v114]
  rw [r111, r90 x0 x1 x2 x3 x4]

theorem r122 (c : Fin 256) : val_main_v122 x0 x1 x2 x3 x4 (ix6 0 n h g r c)
    = Row.dx (S x0 x1 x2 x3 x4 n h g r) (σ x0 x1 x2 x3 x4 h g) (D x0 x1 x2 x3 x4 n h g r) c := by
  pointwise [val_main_v122, val_main_v121, val_main_v120, val_main_v119, val_main_v118, val_main_v113, val_main_v112]
  rw [sum_05]
  unfold val_main_cst_20 Row.dx
  rw [zero_word, r111, zero_add (Row.back _ _ _), r85 x0 x1 x2 x3 x4, r91 x0 x1 x2 x3 x4, r103 x0 x1 x2 x3 x4]

theorem r126 : val_main_v126 x0 x1 x2 x3 x4 (ix6 0 n h g r 0)
    = Row.dmx (S x0 x1 x2 x3 x4 n h g r) (σ x0 x1 x2 x3 x4 h g) (D x0 x1 x2 x3 x4 n h g r) := by
  pointwise [val_main_v126, val_main_v125, val_main_v124, val_main_v117]
  rw [sum_5, r114]
  unfold val_main_cst_21 Row.dmx
  rw [zero_word, zero_add]
  refine congrArg _ (Finset.sum_congr rfl fun c _ => ?_)
  pointwise [val_main_v123]
  rw [r122]

theorem r61 : val_main_v61 x0 x1 (ix5 0 n h g r)
    = ∑ c, FloatOps.uitofp (F := Ideal) .f32 (FloatOps.cmpf (F := Ideal) (φ := .f32) .oeq (S x0 x1 x2 x3 x4 n h g r c) (Row.top (S x0 x1 x2 x3 x4 n h g r))) := by
  pointwise [val_main_v61]
  rw [sum_5]
  unfold val_main_cst_9
  rw [zero_word, zero_add]
  refine Finset.sum_congr rfl fun c _ => ?_
  pointwise [val_main_v60, val_main_v59, val_main_v58, val_main_v57]
  rw [r54 x0 x1 x2 x3 x4, r56 x0 x1 x2 x3 x4]

end Cert.ReferenceIdeal.Read

end
-- ==== Proof.Attn.SpecReal.lean ====
/-
  Over real arguments every query row is a row of real numbers: its scores are real or masked, its own key is not masked,
  and the gradients of its weights are real.
-/
module

public import proofs.«01_k».proof.Proof.Attn.Spec
import Idealize.ShloMosaic.Lib.IdealHost

@[expose] public section

noncomputable section

namespace Cert.Attn

open Idealize.ShloMosaic

variable {A : Args} (hA : A.Real) (t : Fin 16) (h g : Fin 4) (r : Fin 128)

/-- The keys (or values) of a block are real, the zeros before the first block among them. -/
theorem banded_real (x : Fin 2048 → Fin 256 → EReal) (hx : ∀ i j, ∃ y : ℝ, x i j = y) (c : Fin 256) (d : Fin 64) :
    ∃ y : ℝ, banded x t h c d = y := by
  unfold banded
  split
  · split
    · exact ⟨0, rfl⟩
    · exact hx _ _
  · exact hx _ _

/-- A product of rows of real numbers is real. -/
theorem dot_real {N : ℕ} (a b : Fin N → EReal) (ha : ∀ d, ∃ y : ℝ, a d = y) (hb : ∀ d, ∃ y : ℝ, b d = y) : ∃ y : ℝ, ∑ d, a d * b d = y := by
  choose a' ha using ha
  choose b' hb using hb
  refine ⟨∑ d, a' d * b' d, ?_⟩
  rw [← Row.sum_coe]
  exact Finset.sum_congr rfl fun d _ => by rw [ha, hb, EReal.coe_mul]

/-- The scale is an eighth. -/
theorem sc_real : ∃ y : ℝ, sc = y := by
  refine ⟨1 / 8, ?_⟩
  simp [sc, Ideal.ofBits, Ideal.ieee]
  rw [← EReal.coe_mul]
  norm_num

include hA

/-- A query row's scores are real or masked, and its own key's is real. -/
theorem S_real : Row.Real (S A t h g r) := by
  obtain ⟨z, hz⟩ := sc_real
  have key : ∀ c, Seen t r c → ∃ x : ℝ, S A t h g r c = x := fun c hs => by
    obtain ⟨y, hy⟩ := dot_real (fun d => banded A.k t h c d) (fun d => A.q (row t r) (col h g d))
      (fun d => banded_real t h A.k hA.k c d) (fun d => hA.q _ _)
    refine ⟨y * z, ?_⟩
    unfold S; rw [if_pos hs, hy, hz, EReal.coe_mul]
  refine ⟨fun c => ?_, ⟨⟨128 + r.val, by omega⟩, ?_⟩⟩
  · by_cases hs : Seen t r c
    · exact Or.inr (key c hs)
    · left; unfold S; rw [if_neg hs]
  · obtain ⟨x, hx⟩ := key ⟨128 + r.val, by omega⟩ (by
      unfold Seen; exact ⟨by show r.val < 128 + r.val; omega, by show 128 + r.val ≤ r.val + 128; omega, Or.inl (by show 128 ≤ 128 + r.val; omega)⟩)
    rw [hx]; exact EReal.coe_ne_bot _

/-- The gradients of its weights are real. -/
theorem Dp_real : ∃ dp : Fin 256 → ℝ, Dp A t h g r = fun c => (dp c : EReal) := by
  have key : ∀ c, ∃ x : ℝ, Dp A t h g r c = x := fun c =>
    dot_real (fun d => banded A.v t h c d) (fun d => A.g (row t r) (col h g d)) (fun d => banded_real t h A.v hA.v c d) (fun d => hA.g _ _)
  choose dp hdp using key
  exact ⟨dp, funext hdp⟩

end Cert.Attn

end
-- ==== Proof.Attn.RefGrad.lean ====
/-
  The reference's gradients over real arguments, read at an index: the formulas of `Attn`.
-/
module

public import proofs.«01_k».proof.Proof.Attn.RefRow
public import proofs.«01_k».proof.Proof.Attn.SpecReal

@[expose] public section

noncomputable section

namespace Cert.ReferenceIdeal.Read

open Idealize.ShloMosaic Idealize.SL.Sem Cert.ReferenceIdeal Cert.ReferenceIdeal.Gen

variable (x0 : (⟨S2048x1024, .bf16⟩ : BufTy).Contents (Elt Ideal)) (x1 x2 : (⟨S2048x256, .bf16⟩ : BufTy).Contents (Elt Ideal))
  (x3 : (⟨S16, .f32⟩ : BufTy).Contents (Elt Ideal)) (x4 : (⟨S2048x1024, .f32⟩ : BufTy).Contents (Elt Ideal))

variable (n : Fin 16) (h g : Fin 4) (r : Fin 128) (hA : (args x0 x1 x2 x3 x4).Real)

/-- A count of true comparisons is not negative, and one that holds counts. -/
theorem count_nonneg (a b : EReal) : 0 ≤ FloatOps.uitofp (F := Ideal) .f32 (FloatOps.cmpf (F := Ideal) (φ := .f32) .oeq a b) := by
  show (0 : EReal) ≤ (((FloatOps.cmpf (F := Ideal) (φ := .f32) .oeq a b).toNat : ℝ) : EReal)
  exact_mod_cast Nat.cast_nonneg _

theorem count_self (a : EReal) : FloatOps.uitofp (F := Ideal) .f32 (FloatOps.cmpf (F := Ideal) (φ := .f32) .oeq a a) ≠ 0 := by
  have : FloatOps.cmpf (F := Ideal) (φ := .f32) .oeq a a = 1#1 := by
    show BitVec.ofBool (decide (a = a)) = 1#1
    simp
  rw [this]
  show (((1#1 : BitVec 1).toNat : ℝ) : EReal) ≠ 0
  simp

/-- A column's key-value head, of its query head. -/
theorem colH_eq (l : Fin 1024) (hl : l.val / 64 / 4 < 4) : (⟨l.val / 64 / 4, hl⟩ : Fin 4) = Attn.colH l :=
  Fin.ext (by show l.val / 64 / 4 = l.val / 256; omega)

include hA

theorem g93 (c : Fin 256) : val_main_v93 x0 x1 x3 (ix6 0 n h g r c) = Attn.Pn (args x0 x1 x2 x3 x4) n h g r c := by
  obtain ⟨σr, hσ⟩ := hA.sinks (Attn.head h g)
  rw [r93 x0 x1 x2 x3 x4]
  unfold Attn.Pn σ
  rw [hσ]
  exact (Attn.S_real hA n h g r).div_eq σr c

theorem g114 : val_main_v114 x0 x1 x2 x3 x4 (ix6 0 n h g r 0) = Attn.DskRow (args x0 x1 x2 x3 x4) n h g r := by
  obtain ⟨σr, hσ⟩ := hA.sinks (Attn.head h g)
  obtain ⟨dp, hdp⟩ := Attn.Dp_real hA n h g r
  rw [r114]
  unfold Attn.DskRow σ D
  rw [hσ, hdp]
  exact (Attn.S_real hA n h g r).back_eq σr dp

theorem g122 (c : Fin 256) : val_main_v122 x0 x1 x2 x3 x4 (ix6 0 n h g r c)
    = Attn.Pn (args x0 x1 x2 x3 x4) n h g r c * (D x0 x1 x2 x3 x4 n h g r c - Row.delta (S x0 x1 x2 x3 x4 n h g r) (σ x0 x1 x2 x3 x4 h g) (D x0 x1 x2 x3 x4 n h g r)) := by
  obtain ⟨σr, hσ⟩ := hA.sinks (Attn.head h g)
  obtain ⟨dp, hdp⟩ := Attn.Dp_real hA n h g r
  rw [r122]
  unfold Attn.Pn σ D
  rw [hσ, hdp]
  exact (Attn.S_real hA n h g r).dx_eq σr dp c

/-- What the reference passes through the row's maximum is zero. -/
theorem g126 : val_main_v126 x0 x1 x2 x3 x4 (ix6 0 n h g r 0) = 0 := by
  obtain ⟨σr, hσ⟩ := hA.sinks (Attn.head h g)
  obtain ⟨dp, hdp⟩ := Attn.Dp_real hA n h g r
  rw [r126]
  unfold σ D
  rw [hσ, hdp]
  exact (Attn.S_real hA n h g r).dmx_eq σr dp

theorem g134 : val_main_v134 x0 x1 x2 x3 x4 (ix5 0 n h g r) = 0 := by
  pointwise [val_main_v134, val_main_v133, val_main_v132]
  rw [sum_05]
  unfold val_main_cst_23
  pointwise [val_main_v131]
  rw [g126 (hA := hA), zero_mul, r61 x0 x1 x2 x3 x4]
  exact Ideal.zero_div (Row.count_ne_zero _ (Attn.S_real hA n h g r).some _ (fun c => count_nonneg _ _) (fun c hc => by
    unfold S; rw [hc]; exact count_self _))

theorem g137 (c : Fin 256) : val_main_v137 x0 x1 x2 x3 x4 (ix6 0 n h g r c) = val_main_v122 x0 x1 x2 x3 x4 (ix6 0 n h g r c) := by
  pointwise [val_main_v137, val_main_v136, val_main_v135]
  rw [g134 (hA := hA), zero_mul, add_zero (val_main_v122 x0 x1 x2 x3 x4 (ix6 0 n h g r c))]

theorem g141 (c : Fin 256) : val_main_v141 x0 x1 x2 x3 x4 (ix6 0 n h g r c) = Attn.Ds (args x0 x1 x2 x3 x4) n h g r c := by
  pointwise [val_main_v141, val_main_v140, val_main_v139, val_main_call3_v0]
  rw [mask, g137 (hA := hA), g122 (hA := hA)]
  unfold val_main_call3_cst val_main_cst_24
  rw [zero_word]
  show (if (if Attn.Seen n r c then 1#1 else 0#1) = 1#1 then _ else _) * Attn.sc = _
  by_cases hs : Attn.Seen n r c
  · rw [if_pos hs, if_pos rfl]; rfl
  · rw [if_neg hs, if_neg (by decide), zero_mul]
    unfold Attn.Ds
    rw [Row.ds_bot]
    unfold Attn.S; rw [if_neg hs]

/-! ## The results -/

theorem res_dq (i : Fin 2048) (l : Fin 1024) : val_main_v152 x0 x1 x2 x3 x4 (ix2 i l) = Attn.aDq (args x0 x1 x2 x3 x4) i l := by
  pointwise [val_main_v152, val_main_v151, val_main_v144, val_main_v143, val_main_v142]
  unfold Attn.aDq Attn.Dq
  refine Finset.sum_congr rfl fun c _ => ?_
  rw [g141 (hA := hA), r15, colH_eq]
  rfl

theorem g145 (c : Fin 256) (d : Fin 64) : val_main_v145 x0 x1 x2 x3 x4 (ix5 0 n h c d) = Attn.Dk (args x0 x1 x2 x3 x4) n h c d := by
  pointwise [val_main_v145, val_main_v142]
  unfold Attn.Dk
  refine Finset.sum_comm.trans (Finset.sum_congr rfl fun g _ => Finset.sum_congr rfl fun r _ => ?_)
  rw [g141 (hA := hA), r14]
  rfl

theorem res_dkOwn (i : Fin 2048) (l : Fin 256) : val_main_v153 x0 x1 x2 x3 x4 (ix2 i l) = Attn.aDkOwn (args x0 x1 x2 x3 x4) i l := by
  pointwise [val_main_v153, val_main_v150, val_main_v146]
  exact g145 (hA := hA) ..

theorem res_dkBefore (i : Fin 2048) (l : Fin 256) : val_main_v154 x0 x1 x2 x3 x4 (ix2 i l) = Attn.aDkBefore (args x0 x1 x2 x3 x4) i l := by
  pointwise [val_main_v154, val_main_v149, val_main_v146]
  exact g145 (hA := hA) ..

theorem res_dvOwn (i : Fin 2048) (l : Fin 256) : val_main_v155 x0 x1 x3 x4 (ix2 i l) = Attn.aDvOwn (args x0 x1 x2 x3 x4) i l := by
  pointwise [val_main_v155, val_main_v148, val_main_v105, val_main_v104]
  unfold Attn.aDvOwn Attn.Dv
  refine Finset.sum_congr rfl fun g _ => Finset.sum_congr rfl fun r _ => ?_
  rw [g93 (hA := hA), r102, mul_comm]
  rfl

theorem res_dvBefore (i : Fin 2048) (l : Fin 256) : val_main_v156 x0 x1 x3 x4 (ix2 i l) = Attn.aDvBefore (args x0 x1 x2 x3 x4) i l := by
  pointwise [val_main_v156, val_main_v147, val_main_v105, val_main_v104]
  unfold Attn.aDvBefore Attn.Dv
  refine Finset.sum_congr rfl fun g _ => Finset.sum_congr rfl fun r _ => ?_
  rw [g93 (hA := hA), r102, mul_comm]
  rfl

theorem res_dsk (j : S16x128.Idx) : val_main_v158 x0 x1 x2 x3 x4 j = Attn.aDsk (args x0 x1 x2 x3 x4) (j 0) := by
  pointwise [val_main_v158, val_main_v157, val_main_v138, val_main_v130, val_main_v129, val_main_v128, val_main_v116, val_main_v115]
  rw [sum_14, sum_14]
  have h0 : ∀ (h g : Fin 4) (n : Fin 16) (r : Fin 128), val_main_v127 x0 x1 x2 x3 x4 (ix6 0 n h g r 0) = 0 := fun h g n r => by
    pointwise [val_main_v127]
    rw [g126 (hA := hA), zero_mul]
  simp only [h0, g114 x0 x1 x2 x3 x4 _ _ _ _ hA, Finset.sum_const_zero]
  unfold val_main_cst_19 val_main_cst_22
  rw [zero_word, zero_add, add_zero, add_zero]
  rfl

end Cert.ReferenceIdeal.Read

end
-- ==== Proof.Attn.Finite.lean ====
/-
  The precondition: every argument is a real number.
-/
module

public import proofs.«01_k».proof.Pre_finite
public import Idealize.ShloMosaic.PureOps.Ideal
import Idealize.ShloMosaic.Lib.IdealHost

@[expose] public section

noncomputable section

namespace Cert.Pre_finite

open Idealize.ShloMosaic

/-- The side conditions of the precondition's operations. -/
theorem facts : Facts where
  bitsLt_bf16_f32 := by decide
  bcast_S_S2048x1024 := by decide
  bcast_S_S2048x256 := by decide
  bcast_S_S16 := by decide

/-- A number below infinity in absolute value is real. -/
theorem real_of_lt (x : EReal) (h : FloatOps.cmpf (F := Ideal) (φ := .f32) .olt (FloatOps.hostAbsf (F := Ideal) (φ := .f32) x) (Ideal.ofBits .f32 0x7F800000#32) = 1#1) :
    ∃ y : ℝ, x = y := by
  have hlt : max x (-x) < ⊤ := by
    by_contra hn
    have h0 : BitVec.ofBool (decide (max x (-x) < (⊤ : EReal))) = 1#1 := h
    rw [decide_eq_false hn] at h0
    exact absurd h0 (by decide)
  obtain ⟨h1, h2⟩ := max_lt_iff.mp hlt
  refine ⟨x.toReal, (EReal.coe_toReal h1.ne fun e => ?_).symm⟩
  rw [e, EReal.neg_bot] at h2
  exact lt_irrefl _ h2

variable [Facts] (x0 : FVec Ideal S2048x1024 .bf16) (x1 x2 : FVec Ideal S2048x256 .bf16) (x3 : FVec Ideal S16 .f32) (x4 : FVec Ideal S2048x1024 .f32)

/-! The precondition gives a real number at every index of every argument. -/

theorem real0 (h : (fn x0 x1 x2 x3 x4).1 = fun _ => 1#1) (i : S2048x1024.Idx) : ∃ y : ℝ, x0 i = y := real_of_lt _ (congrFun h i)
theorem real1 (h : (fn x0 x1 x2 x3 x4).2.1 = fun _ => 1#1) (i : S2048x256.Idx) : ∃ y : ℝ, x1 i = y := real_of_lt _ (congrFun h i)
theorem real2 (h : (fn x0 x1 x2 x3 x4).2.2.1 = fun _ => 1#1) (i : S2048x256.Idx) : ∃ y : ℝ, x2 i = y := real_of_lt _ (congrFun h i)
theorem real3 (h : (fn x0 x1 x2 x3 x4).2.2.2.1 = fun _ => 1#1) (i : S16.Idx) : ∃ y : ℝ, x3 i = y := real_of_lt _ (congrFun h i)
theorem real4 (h : (fn x0 x1 x2 x3 x4).2.2.2.2 = fun _ => 1#1) (i : S2048x1024.Idx) : ∃ y : ℝ, x4 i = y := real_of_lt _ (congrFun h i)

end Cert.Pre_finite

end
-- ==== Proof.Ffn.Spec.lean ====
/-
  The feed-forward block and its gradients, at a row and a column.
-/
module

public import Idealize.ShloMosaic.Lib.Pipeline.ValueKit
public import Idealize.ShloMosaic.PureOps.Ideal.Laws

@[expose] public section

noncomputable section

namespace Ffn

open Idealize.ShloMosaic

/-- One half, as the programs write it. -/
def half : EReal := Ideal.ofBits .f32 0x3F000000#32

/-- The logistic function. -/
def sig (z : EReal) : EReal := Ideal.div 1 (1 + Ideal.exp (-z))

/-- The activation of a gate `g` and a value `u`. -/
def act (g u : EReal) : EReal := g * sig g * u

/-- The gradients at the gate and at the value, from the gradient `d` at the activation. -/
def actG (d g u : EReal) : EReal := d * u * (sig g * (1 + g * (1 - sig g)))
def actU (d g : EReal) : EReal := d * (g * sig g)

/-- The block's arguments: the input, the gates' and values' weights, the last weights, the residual and the gradient at the output. -/
structure Args where
  h : Fin 2048 → Fin 2048 → EReal
  wgu : Fin 2048 → Fin 11264 → EReal
  wd : Fin 5632 → Fin 2048 → EReal
  x : Fin 2048 → Fin 2048 → EReal
  dy : Fin 2048 → Fin 2048 → EReal

/-- The column of half `b`: the gates come first and the values second. -/
def col (b : Fin 2) (f : Fin 5632) : Fin 11264 := ⟨5632 * b.val + f.val, by omega⟩
/-- Column `q` of chunk `k`. -/
def chunk (k : Fin 8) (q : Fin 1408) : Fin 11264 := ⟨1408 * k.val + q.val, by omega⟩

variable (a : Args)

/-- The gates and the values. -/
def GU (i : Fin 2048) (f : Fin 11264) : EReal := ∑ l : Fin 2048, a.h i l * a.wgu l f
def A (i : Fin 2048) (f : Fin 5632) : EReal := act (GU a i (col 0 f)) (GU a i (col 1 f))
/-- The block's result. -/
def Y (i l : Fin 2048) : EReal := a.x i l + half * ∑ f : Fin 5632, A a i f * a.wd f l
/-- The gradient at the activation. -/
def dA (i : Fin 2048) (f : Fin 5632) : EReal := half * ∑ l : Fin 2048, a.dy i l * a.wd f l
/-- The gradient at the gates and at the values. -/
def D (b : Fin 2) (i : Fin 2048) (f : Fin 5632) : EReal :=
  if b.val = 0 then actG (dA a i f) (GU a i (col 0 f)) (GU a i (col 1 f)) else actU (dA a i f) (GU a i (col 0 f))
/-- The gradient of the last weights. -/
def dWd (f : Fin 5632) (l : Fin 2048) : EReal := half * ∑ i : Fin 2048, A a i f * a.dy i l
/-- The gradient of the gates' and values' weights. -/
def dWgu (l : Fin 2048) (b : Fin 2) (f : Fin 5632) : EReal := ∑ i : Fin 2048, a.h i l * D a b i f

end Ffn

end
-- ==== Proof.Ffn.Up.lean ====
/-
  The call that computes the gates, the values and the activation: what its body leaves in its two blocks.
-/
module

public import proofs.«01_k».proof.Proof.Gen.Kernel2Ideal.Frame
public import proofs.«01_k».proof.Proof.Ffn.Spec
import Idealize.ShloMosaic.Lib.Pointwise
import Idealize.ShloMosaic.Lib.IdealHost

@[expose] public section

noncomputable section

namespace Cert.Kernel2Ideal.Value

open Idealize.ShloMosaic Idealize.ShloMosaic.TcCoe Idealize.SL.Sem Cert.Kernel2Ideal Cert.Kernel2Ideal.Gen
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

theorem idx2 {a b : ℕ} (y : (⟨2, ![a, b]⟩ : Shape).Idx) : ∃ (r : Fin a) (q : Fin b), y = ix2 r q :=
  ⟨y 0, y 1, funext fun k => match k with | ⟨0, _⟩ => rfl | ⟨1, _⟩ => rfl⟩
theorem idx3 {a b c : ℕ} (y : (⟨3, ![a, b, c]⟩ : Shape).Idx) : ∃ (p : Fin a) (r : Fin b) (q : Fin c), y = ix3 p r q :=
  ⟨y 0, y 1, y 2, funext fun k => match k with | ⟨0, _⟩ => rfl | ⟨1, _⟩ => rfl | ⟨2, _⟩ => rfl⟩

/-- Column `q` of the columns that start at `o`. -/
def at_ {n w : ℕ} (o : ℕ) (q : Fin w) (h : o + w ≤ n) : Fin n := ⟨o + q.val, by omega⟩

theorem ld_rows {ty : EltTy} (x : Vec Ideal S512x2048 ty) : View.ld x (Rect.unit (s := S512x2048) ![0, 0] ![512, 2048] inb_S512x2048_S512x2048_0_0) = x :=
  View.ld_unit_zero (S := S512x2048) hz2 _ x

/-- A slice of columns of one plane, read. -/
theorem ld_cols {n R N w : ℕ} {ty : EltTy} (x : Vec Ideal ⟨3, ![n, R, N]⟩ ty) (b : Fin n) (o : ℕ) (h) (ho : o + w ≤ N) (r : Fin R) (q : Fin w) :
    View.ld x (Rect.unit (s := ⟨3, ![n, R, N]⟩) ![b.val, 0, o] ![1, R, w] h) (ix3 (n0 := 1) 0 r q) = x (ix3 b r (at_ o q ho)) := by
  refine congrArg x (funext fun a => Fin.ext ?_)
  match a with
  | ⟨0, _⟩ => show b.val + 1 * 0 = b.val; omega
  | ⟨1, _⟩ => show 0 + 1 * r.val = r.val; omega
  | ⟨2, _⟩ => show o + 1 * q.val = o + q.val; omega

/-- The place in its array of an element of a stored slice. -/
theorem emb_cols {n R N w : ℕ} (b : Fin n) (o : ℕ) (h) (ho : o + w ≤ N) (r : Fin R) (q : Fin w) :
    (Rect.unit (s := ⟨3, ![n, R, N]⟩) ![b.val, 0, o] ![1, R, w] h).emb (ix3 (n0 := 1) 0 r q) = ix3 b r (at_ o q ho) := by
  refine funext fun a => Fin.ext ?_
  match a with
  | ⟨0, _⟩ => show b.val + 1 * 0 = b.val; omega
  | ⟨1, _⟩ => show 0 + 1 * r.val = r.val; omega
  | ⟨2, _⟩ => show o + 1 * q.val = o + q.val; omega
theorem emb_cols2 {R N w : ℕ} (o : ℕ) (h) (ho : o + w ≤ N) (r : Fin R) (q : Fin w) :
    (Rect.unit (s := ⟨2, ![R, N]⟩) ![0, o] ![R, w] h).emb (ix2 r q) = ix2 r (at_ o q ho) := by
  refine funext fun a => Fin.ext ?_
  match a with
  | ⟨0, _⟩ => show 0 + 1 * r.val = r.val; omega
  | ⟨1, _⟩ => show o + 1 * q.val = o + q.val; omega

/-- A row of the input times a column of the weights' block. -/
def prod (x0 : Vec Ideal S512x2048 .bf16) (w : Vec Ideal S1x2048x1408 .bf16) (r : Fin 512) (q : Fin 1408) : EReal :=
  ∑ l : Fin 2048, x0 (ix2 r l) * w (ix3 0 l q)

/-! ## The stored values -/

theorem gu256 (v0 : Vec Ideal S512x2048 .bf16) (v1 : Vec Ideal S1x2048x256 .bf16) (r : Fin 512) (q : Fin 256) :
    k0_pay10 v0 v1 (ix3 0 r q) = ∑ l : Fin 2048, v0 (ix2 r l) * v1 (ix3 0 l q) := by
  pointwise [k0_pay10, k0_pay8]
theorem gu128 (v0 : Vec Ideal S512x2048 .bf16) (v1 : Vec Ideal S1x2048x128 .bf16) (r : Fin 512) (q : Fin 128) :
    k0_pay5 v0 v1 (ix3 0 r q) = ∑ l : Fin 2048, v0 (ix2 r l) * v1 (ix3 0 l q) := by
  pointwise [k0_pay5, k0_pay3]
theorem act256 (v0 : Vec Ideal S512x2048 .bf16) (v1 v4 : Vec Ideal S1x2048x256 .bf16) (r : Fin 512) (q : Fin 256) :
    k0_pay12 v0 v1 v4 (ix2 r q) = Ffn.act (∑ l : Fin 2048, v0 (ix2 r l) * v1 (ix3 0 l q)) (∑ l : Fin 2048, v0 (ix2 r l) * v4 (ix3 0 l q)) := by
  unfold Ffn.act Ffn.sig
  pointwise [k0_pay12, k0_pay8, k0_pay9]
  rfl
theorem act128 (v0 : Vec Ideal S512x2048 .bf16) (v1 v4 : Vec Ideal S1x2048x128 .bf16) (r : Fin 512) (q : Fin 128) :
    k0_pay7 v0 v1 v4 (ix2 r q) = Ffn.act (∑ l : Fin 2048, v0 (ix2 r l) * v1 (ix3 0 l q)) (∑ l : Fin 2048, v0 (ix2 r l) * v4 (ix3 0 l q)) := by
  unfold Ffn.act Ffn.sig
  pointwise [k0_pay7, k0_pay3, k0_pay4]
  rfl

theorem sum_cols (x0 : Vec Ideal S512x2048 .bf16) (w : Vec Ideal S1x2048x1408 .bf16) {k : ℕ} (o : ℕ) (h) (ho : o + k ≤ 1408) (r : Fin 512) (q : Fin k) :
    (∑ l : Fin 2048, x0 (ix2 r l) * View.ld w (Rect.unit (s := S1x2048x1408) ![0, 0, o] ![1, 2048, k] h) (ix3 (n0 := 1) 0 l q)) = prod x0 w r (at_ o q ho) :=
  Finset.sum_congr rfl fun l _ => congrArg (x0 (ix2 r l) * ·) (ld_cols w 0 o h ho l q)

section
variable (x0 : Vec Ideal S512x2048 .bf16) (w w' : Vec Ideal S1x2048x1408 .bf16) (o : ℕ) (h)

/-- One store of a slice of plane `b`, where the array is to hold `G`. -/
theorem gu_piece256 (b : Fin 2) (h') (ho : o + 256 ≤ 1408) (G : S2x512x1408.Idx → EReal) (hG : ∀ r q, G (ix3 b r q) = prod x0 w r q) (y : S1x512x256.Idx) :
    k0_pay10 x0 (View.ld w (Rect.unit (s := S1x2048x1408) ![0, 0, o] ![1, 2048, 256] h)) y
      = G ((Rect.unit (s := S2x512x1408) ![b.val, 0, o] ![1, 512, 256] h').emb y) := by
  obtain ⟨p, r, q, rfl⟩ := idx3 y
  obtain rfl : p = (0 : Fin 1) := Subsingleton.elim _ _
  refine (gu256 _ _ r q).trans ((sum_cols x0 w o h ho r q).trans ?_)
  exact ((congrArg G (emb_cols b o h' ho r q)).trans (hG r _)).symm
theorem gu_piece128 (b : Fin 2) (h') (ho : o + 128 ≤ 1408) (G : S2x512x1408.Idx → EReal) (hG : ∀ r q, G (ix3 b r q) = prod x0 w r q) (y : S1x512x128.Idx) :
    k0_pay5 x0 (View.ld w (Rect.unit (s := S1x2048x1408) ![0, 0, o] ![1, 2048, 128] h)) y
      = G ((Rect.unit (s := S2x512x1408) ![b.val, 0, o] ![1, 512, 128] h').emb y) := by
  obtain ⟨p, r, q, rfl⟩ := idx3 y
  obtain rfl : p = (0 : Fin 1) := Subsingleton.elim _ _
  refine (gu128 _ _ r q).trans ((sum_cols x0 w o h ho r q).trans ?_)
  exact ((congrArg G (emb_cols b o h' ho r q)).trans (hG r _)).symm
theorem act_piece256 (h') (ho : o + 256 ≤ 1408) (G : S512x1408.Idx → EReal) (hG : ∀ r q, G (ix2 r q) = Ffn.act (prod x0 w r q) (prod x0 w' r q)) (y : S512x256.Idx) :
    k0_pay12 x0 (View.ld w (Rect.unit (s := S1x2048x1408) ![0, 0, o] ![1, 2048, 256] h)) (View.ld w' (Rect.unit (s := S1x2048x1408) ![0, 0, o] ![1, 2048, 256] h)) y
      = G ((Rect.unit (s := S512x1408) ![0, o] ![512, 256] h').emb y) := by
  obtain ⟨r, q, rfl⟩ := idx2 y
  refine (act256 _ _ _ r q).trans ((congrArg₂ Ffn.act (sum_cols x0 w o h ho r q) (sum_cols x0 w' o h ho r q)).trans ?_)
  exact ((congrArg G (emb_cols2 o h' ho r q)).trans (hG r _)).symm
theorem act_piece128 (h') (ho : o + 128 ≤ 1408) (G : S512x1408.Idx → EReal) (hG : ∀ r q, G (ix2 r q) = Ffn.act (prod x0 w r q) (prod x0 w' r q)) (y : S512x128.Idx) :
    k0_pay7 x0 (View.ld w (Rect.unit (s := S1x2048x1408) ![0, 0, o] ![1, 2048, 128] h)) (View.ld w' (Rect.unit (s := S1x2048x1408) ![0, 0, o] ![1, 2048, 128] h)) y
      = G ((Rect.unit (s := S512x1408) ![0, o] ![512, 128] h').emb y) := by
  obtain ⟨r, q, rfl⟩ := idx2 y
  refine (act128 _ _ _ r q).trans ((congrArg₂ Ffn.act (sum_cols x0 w o h ho r q) (sum_cols x0 w' o h ho r q)).trans ?_)
  exact ((congrArg G (emb_cols2 o h' ho r q)).trans (hG r _)).symm
end

section
variable (c : Dev nD) (i : grid0.Coords) (arg2 : Memref sig .tc .vmem S512x2048 .bf16) (harg2 : arg2.IsWhole)
  (arg3 : Memref sig .tc .vmem S1x2048x1408 .bf16) (harg3 : arg3.IsWhole) (arg4 : Memref sig .tc .vmem S1x2048x1408 .bf16) (harg4 : arg4.IsWhole)
  (arg5 : Memref sig .tc .vmem S2x512x1408 .bf16) (harg5 : arg5.IsWhole) (arg6 : Memref sig .tc .vmem S512x1408 .bf16) (harg6 : arg6.IsWhole)
  (x0 : Vec Ideal S512x2048 .bf16) (x1 x2 : Vec Ideal S1x2048x1408 .bf16)

/-- The block of the gates and the values. -/
def guBlock (x0 : Vec Ideal S512x2048 .bf16) (x1 x2 : Vec Ideal S1x2048x1408 .bf16) (y : S2x512x1408.Idx) : EReal :=
  if (y 0).val = 0 then prod x0 x1 (y 1) (y 2) else prod x0 x2 (y 1) (y 2)

set_option maxRecDepth 65536 in
/-- The first block holds the gates in its first plane and the values in its second. -/
theorem up_gu (y : S2x512x1408.Idx) : out0_A_3 c i arg2 harg2 arg3 harg3 arg4 harg4 arg5 harg5 arg6 harg6 x0 x1 x2 y = guBlock x0 x1 x2 y := by
  unfold out0_A_3
  refine View.read_writes_apply_of_pieces _ _ (guBlock x0 x1 x2) _ ?_ _ (cover0_A_3 c i arg2 harg2 arg3 harg3 arg4 harg4 arg5 harg5 arg6 harg6 x0 x1 x2 y)
  unfold kernelRun0_A; dsimp only; sl_unfold_words
  simp only [View.readAt_eq_ld]
  rw [harg2.read_unread x0, harg3.read_unread x1, harg4.read_unread x2, ld_rows x0]
  have g0 : ∀ r q, guBlock x0 x1 x2 (ix3 0 r q) = prod x0 x1 r q := fun _ _ => rfl
  have g1 : ∀ r q, guBlock x0 x1 x2 (ix3 1 r q) = prod x0 x2 r q := fun _ _ => rfl
  intro p hp
  simp only [List.mem_cons, List.not_mem_nil, or_false] at hp
  rcases hp with rfl | rfl | rfl | rfl | rfl | rfl | rfl | rfl | rfl | rfl | rfl | rfl
  · exact gu_piece128 x0 x2 1280 (by decide) 1 (by decide) (by decide) _ g1
  · exact gu_piece128 x0 x1 1280 (by decide) 0 (by decide) (by decide) _ g0
  · exact gu_piece256 x0 x2 1024 (by decide) 1 (by decide) (by decide) _ g1
  · exact gu_piece256 x0 x1 1024 (by decide) 0 (by decide) (by decide) _ g0
  · exact gu_piece256 x0 x2 768 (by decide) 1 (by decide) (by decide) _ g1
  · exact gu_piece256 x0 x1 768 (by decide) 0 (by decide) (by decide) _ g0
  · exact gu_piece256 x0 x2 512 (by decide) 1 (by decide) (by decide) _ g1
  · exact gu_piece256 x0 x1 512 (by decide) 0 (by decide) (by decide) _ g0
  · exact gu_piece256 x0 x2 256 (by decide) 1 (by decide) (by decide) _ g1
  · exact gu_piece256 x0 x1 256 (by decide) 0 (by decide) (by decide) _ g0
  · exact gu_piece256 x0 x2 0 (by decide) 1 (by decide) (by decide) _ g1
  · exact gu_piece256 x0 x1 0 (by decide) 0 (by decide) (by decide) _ g0

/-- The block of the activations. -/
def actBlock (x0 : Vec Ideal S512x2048 .bf16) (x1 x2 : Vec Ideal S1x2048x1408 .bf16) (y : S512x1408.Idx) : EReal :=
  Ffn.act (prod x0 x1 (y 0) (y 1)) (prod x0 x2 (y 0) (y 1))

set_option maxRecDepth 65536 in
theorem up_act (y : S512x1408.Idx) : out0_A_4 c i arg2 harg2 arg3 harg3 arg4 harg4 arg5 harg5 arg6 harg6 x0 x1 x2 y = actBlock x0 x1 x2 y := by
  unfold out0_A_4
  refine View.read_writes_apply_of_pieces _ _ (actBlock x0 x1 x2) _ ?_ _ (cover0_A_4 c i arg2 harg2 arg3 harg3 arg4 harg4 arg5 harg5 arg6 harg6 x0 x1 x2 y)
  unfold kernelRun0_A; dsimp only; sl_unfold_words
  simp only [View.readAt_eq_ld]
  rw [harg2.read_unread x0, harg3.read_unread x1, harg4.read_unread x2, ld_rows x0]
  have g : ∀ r q, actBlock x0 x1 x2 (ix2 r q) = Ffn.act (prod x0 x1 r q) (prod x0 x2 r q) := fun _ _ => rfl
  intro p hp
  simp only [List.mem_cons, List.not_mem_nil, or_false] at hp
  rcases hp with rfl | rfl | rfl | rfl | rfl | rfl
  · exact act_piece128 x0 x1 x2 1280 (by decide) (by decide) (by decide) _ g
  · exact act_piece256 x0 x1 x2 1024 (by decide) (by decide) (by decide) _ g
  · exact act_piece256 x0 x1 x2 768 (by decide) (by decide) (by decide) _ g
  · exact act_piece256 x0 x1 x2 512 (by decide) (by decide) (by decide) _ g
  · exact act_piece256 x0 x1 x2 256 (by decide) (by decide) (by decide) _ g
  · exact act_piece256 x0 x1 x2 0 (by decide) (by decide) (by decide) _ g
end

end Cert.Kernel2Ideal.Value

end
-- ==== Proof.Ffn.Act.lean ====
/-
  The call that computes the gradients at the gates and at the values: what its body leaves in its two blocks.
-/
module

public import proofs.«01_k».proof.Proof.Ffn.Up
import Idealize.ShloMosaic.Lib.Pointwise
import Idealize.ShloMosaic.Lib.IdealHost

@[expose] public section

noncomputable section

namespace Cert.Kernel2Ideal.Value

open Idealize.ShloMosaic Idealize.ShloMosaic.TcCoe Idealize.SL.Sem Cert.Kernel2Ideal Cert.Kernel2Ideal.Gen
open Idealize.ShloMosaic.Pipeline (Dat)

/-- A slice of rows of the last weights' block, read. -/
theorem ld_wrows {R N w : ℕ} {ty : EltTy} (x : Vec Ideal ⟨2, ![R, N]⟩ ty) (o : ℕ) (h) (ho : o + w ≤ R) (q : Fin w) (l : Fin N) :
    View.ld x (Rect.unit (s := ⟨2, ![R, N]⟩) ![o, 0] ![w, N] h) (ix2 q l) = x (ix2 (at_ o q ho) l) := by
  refine congrArg x (funext fun a => Fin.ext ?_)
  match a with
  | ⟨0, _⟩ => show o + 1 * q.val = o + q.val; omega
  | ⟨1, _⟩ => show 0 + 1 * l.val = l.val; omega

/-- The gradient at one activation of the block. -/
def dact (x0 : Vec Ideal S512x2048 .bf16) (w : Vec Ideal S1408x2048 .bf16) (r : Fin 512) (q : Fin 1408) : EReal :=
  Ffn.half * ∑ l : Fin 2048, x0 (ix2 r l) * w (ix2 q l)

/-! ## The stored values -/

/-- The gradient at a gate, from the slices read. -/
theorem dg256 (v0 : Vec Ideal S512x2048 .bf16) (v1 : Vec Ideal S256x2048 .bf16) (v5 v8 : Vec Ideal S1x512x256 .bf16) (r : Fin 512) (q : Fin 256) :
    k2_pay11 v0 v1 v5 v8 (ix3 0 r q) = Ffn.actG (Ffn.half * ∑ l : Fin 2048, v0 (ix2 r l) * v1 (ix2 q l)) (v5 (ix3 0 r q)) (v8 (ix3 0 r q)) := by
  unfold Ffn.actG Ffn.sig Ffn.half
  pointwise [k2_pay11, k2_pay6, k2_pay7, k2_pay8, k2_pay9]
  rfl
theorem du256 (v0 : Vec Ideal S512x2048 .bf16) (v1 : Vec Ideal S256x2048 .bf16) (v5 : Vec Ideal S1x512x256 .bf16) (r : Fin 512) (q : Fin 256) :
    k2_pay12 v0 v1 v5 (ix3 0 r q) = Ffn.actU (Ffn.half * ∑ l : Fin 2048, v0 (ix2 r l) * v1 (ix2 q l)) (v5 (ix3 0 r q)) := by
  unfold Ffn.actU Ffn.sig Ffn.half
  pointwise [k2_pay12, k2_pay6, k2_pay7, k2_pay9, k2_pay10]
  rfl
theorem a256 (v5 v8 : Vec Ideal S1x512x256 .bf16) (r : Fin 512) (q : Fin 256) :
    k2_pay13 v5 v8 (ix2 r q) = Ffn.act (v5 (ix3 0 r q)) (v8 (ix3 0 r q)) := by
  unfold Ffn.act Ffn.sig
  pointwise [k2_pay13, k2_pay7, k2_pay8, k2_pay9, k2_pay10]
  rfl
theorem dg128 (v0 : Vec Ideal S512x2048 .bf16) (v1 : Vec Ideal S128x2048 .bf16) (v5 v8 : Vec Ideal S1x512x128 .bf16) (r : Fin 512) (q : Fin 128) :
    k2_pay3 (k2_pay47 v0 v1) (k2_pay48 v5) (k2_pay49 v8) (ix3 0 r q) = Ffn.actG (Ffn.half * ∑ l : Fin 2048, v0 (ix2 r l) * v1 (ix2 q l)) (v5 (ix3 0 r q)) (v8 (ix3 0 r q)) := by
  unfold Ffn.actG Ffn.sig Ffn.half
  pointwise [k2_pay3, k2_pay1, k2_pay47, k2_pay48, k2_pay49]
  rfl
theorem du128 (v0 : Vec Ideal S512x2048 .bf16) (v1 : Vec Ideal S128x2048 .bf16) (v5 : Vec Ideal S1x512x128 .bf16) (r : Fin 512) (q : Fin 128) :
    k2_pay4 (k2_pay47 v0 v1) (k2_pay48 v5) (ix3 0 r q) = Ffn.actU (Ffn.half * ∑ l : Fin 2048, v0 (ix2 r l) * v1 (ix2 q l)) (v5 (ix3 0 r q)) := by
  unfold Ffn.actU Ffn.sig Ffn.half
  pointwise [k2_pay4, k2_pay2, k2_pay1, k2_pay47, k2_pay48]
  rfl
theorem a128 (v5 v8 : Vec Ideal S1x512x128 .bf16) (r : Fin 512) (q : Fin 128) :
    k2_pay5 (k2_pay48 v5) (k2_pay49 v8) (ix2 r q) = Ffn.act (v5 (ix3 0 r q)) (v8 (ix3 0 r q)) := by
  unfold Ffn.act Ffn.sig
  pointwise [k2_pay5, k2_pay2, k2_pay1, k2_pay48, k2_pay49]
  rfl

theorem dact_cols (x0 : Vec Ideal S512x2048 .bf16) (w : Vec Ideal S1408x2048 .bf16) {k : ℕ} (o : ℕ) (h) (ho : o + k ≤ 1408) (r : Fin 512) (q : Fin k) :
    Ffn.half * (∑ l : Fin 2048, x0 (ix2 r l) * View.ld w (Rect.unit (s := S1408x2048) ![o, 0] ![k, 2048] h) (ix2 q l)) = dact x0 w r (at_ o q ho) :=
  congrArg (Ffn.half * ·) (Finset.sum_congr rfl fun l _ => congrArg (x0 (ix2 r l) * ·) (ld_wrows w o h ho q l))

section
variable (x0 : Vec Ideal S512x2048 .bf16) (w : Vec Ideal S1408x2048 .bf16) (gu : Vec Ideal S2x512x1408 .bf16) (o : ℕ) (h hg hu)

/-- One store of a slice of gates' gradients, where the array is to hold `G`. -/
theorem dg_piece256 (h') (ho : o + 256 ≤ 1408) (G : S2x512x1408.Idx → EReal)
    (hG : ∀ r q, G (ix3 0 r q) = Ffn.actG (dact x0 w r q) (gu (ix3 0 r q)) (gu (ix3 1 r q))) (y : S1x512x256.Idx) :
    k2_pay11 x0 (View.ld w (Rect.unit (s := S1408x2048) ![o, 0] ![256, 2048] h)) (View.ld gu (Rect.unit (s := S2x512x1408) ![0, 0, o] ![1, 512, 256] hg))
        (View.ld gu (Rect.unit (s := S2x512x1408) ![1, 0, o] ![1, 512, 256] hu)) y
      = G ((Rect.unit (s := S2x512x1408) ![0, 0, o] ![1, 512, 256] h').emb y) := by
  obtain ⟨p, r, q, rfl⟩ := idx3 y
  obtain rfl : p = (0 : Fin 1) := Subsingleton.elim _ _
  refine (dg256 _ _ _ _ r q).trans ?_
  rw [dact_cols x0 w o h ho r q]
  refine (congrArg₂ (Ffn.actG _) (ld_cols gu 0 o hg ho r q) (ld_cols gu 1 o hu ho r q)).trans ?_
  exact ((congrArg G (emb_cols 0 o h' ho r q)).trans (hG r _)).symm
theorem dg_piece128 (h') (ho : o + 128 ≤ 1408) (G : S2x512x1408.Idx → EReal)
    (hG : ∀ r q, G (ix3 0 r q) = Ffn.actG (dact x0 w r q) (gu (ix3 0 r q)) (gu (ix3 1 r q))) (y : S1x512x128.Idx) :
    k2_pay3 (k2_pay47 x0 (View.ld w (Rect.unit (s := S1408x2048) ![o, 0] ![128, 2048] h))) (k2_pay48 (View.ld gu (Rect.unit (s := S2x512x1408) ![0, 0, o] ![1, 512, 128] hg)))
        (k2_pay49 (View.ld gu (Rect.unit (s := S2x512x1408) ![1, 0, o] ![1, 512, 128] hu))) y
      = G ((Rect.unit (s := S2x512x1408) ![0, 0, o] ![1, 512, 128] h').emb y) := by
  obtain ⟨p, r, q, rfl⟩ := idx3 y
  obtain rfl : p = (0 : Fin 1) := Subsingleton.elim _ _
  refine (dg128 _ _ _ _ r q).trans ?_
  rw [dact_cols x0 w o h ho r q]
  refine (congrArg₂ (Ffn.actG _) (ld_cols gu 0 o hg ho r q) (ld_cols gu 1 o hu ho r q)).trans ?_
  exact ((congrArg G (emb_cols 0 o h' ho r q)).trans (hG r _)).symm
/-- One store of a slice of values' gradients. -/
theorem du_piece256 (h') (ho : o + 256 ≤ 1408) (G : S2x512x1408.Idx → EReal)
    (hG : ∀ r q, G (ix3 1 r q) = Ffn.actU (dact x0 w r q) (gu (ix3 0 r q))) (y : S1x512x256.Idx) :
    k2_pay12 x0 (View.ld w (Rect.unit (s := S1408x2048) ![o, 0] ![256, 2048] h)) (View.ld gu (Rect.unit (s := S2x512x1408) ![0, 0, o] ![1, 512, 256] hg)) y
      = G ((Rect.unit (s := S2x512x1408) ![1, 0, o] ![1, 512, 256] h').emb y) := by
  obtain ⟨p, r, q, rfl⟩ := idx3 y
  obtain rfl : p = (0 : Fin 1) := Subsingleton.elim _ _
  refine (du256 _ _ _ r q).trans ?_
  rw [dact_cols x0 w o h ho r q]
  refine (congrArg (Ffn.actU _) (ld_cols gu 0 o hg ho r q)).trans ?_
  exact ((congrArg G (emb_cols 1 o h' ho r q)).trans (hG r _)).symm
theorem du_piece128 (h') (ho : o + 128 ≤ 1408) (G : S2x512x1408.Idx → EReal)
    (hG : ∀ r q, G (ix3 1 r q) = Ffn.actU (dact x0 w r q) (gu (ix3 0 r q))) (y : S1x512x128.Idx) :
    k2_pay4 (k2_pay47 x0 (View.ld w (Rect.unit (s := S1408x2048) ![o, 0] ![128, 2048] h))) (k2_pay48 (View.ld gu (Rect.unit (s := S2x512x1408) ![0, 0, o] ![1, 512, 128] hg))) y
      = G ((Rect.unit (s := S2x512x1408) ![1, 0, o] ![1, 512, 128] h').emb y) := by
  obtain ⟨p, r, q, rfl⟩ := idx3 y
  obtain rfl : p = (0 : Fin 1) := Subsingleton.elim _ _
  refine (du128 _ _ _ r q).trans ?_
  rw [dact_cols x0 w o h ho r q]
  refine (congrArg (Ffn.actU _) (ld_cols gu 0 o hg ho r q)).trans ?_
  exact ((congrArg G (emb_cols 1 o h' ho r q)).trans (hG r _)).symm
/-- One store of a slice of activations. -/
theorem a_piece256 (h') (ho : o + 256 ≤ 1408) (G : S512x1408.Idx → EReal)
    (hG : ∀ r q, G (ix2 r q) = Ffn.act (gu (ix3 0 r q)) (gu (ix3 1 r q))) (y : S512x256.Idx) :
    k2_pay13 (View.ld gu (Rect.unit (s := S2x512x1408) ![0, 0, o] ![1, 512, 256] hg)) (View.ld gu (Rect.unit (s := S2x512x1408) ![1, 0, o] ![1, 512, 256] hu)) y
      = G ((Rect.unit (s := S512x1408) ![0, o] ![512, 256] h').emb y) := by
  obtain ⟨r, q, rfl⟩ := idx2 y
  refine (a256 _ _ r q).trans ((congrArg₂ Ffn.act (ld_cols gu 0 o hg ho r q) (ld_cols gu 1 o hu ho r q)).trans ?_)
  exact ((congrArg G (emb_cols2 o h' ho r q)).trans (hG r _)).symm
theorem a_piece128 (h') (ho : o + 128 ≤ 1408) (G : S512x1408.Idx → EReal)
    (hG : ∀ r q, G (ix2 r q) = Ffn.act (gu (ix3 0 r q)) (gu (ix3 1 r q))) (y : S512x128.Idx) :
    k2_pay5 (k2_pay48 (View.ld gu (Rect.unit (s := S2x512x1408) ![0, 0, o] ![1, 512, 128] hg))) (k2_pay49 (View.ld gu (Rect.unit (s := S2x512x1408) ![1, 0, o] ![1, 512, 128] hu))) y
      = G ((Rect.unit (s := S512x1408) ![0, o] ![512, 128] h').emb y) := by
  obtain ⟨r, q, rfl⟩ := idx2 y
  refine (a128 _ _ r q).trans ((congrArg₂ Ffn.act (ld_cols gu 0 o hg ho r q) (ld_cols gu 1 o hu ho r q)).trans ?_)
  exact ((congrArg G (emb_cols2 o h' ho r q)).trans (hG r _)).symm
end

section
variable (c : Dev nD) (i : grid2.Coords) (arg2 : Memref sig .tc .vmem S512x2048 .bf16) (harg2 : arg2.IsWhole)
  (arg3 : Memref sig .tc .vmem S1408x2048 .bf16) (harg3 : arg3.IsWhole) (arg4 : Memref sig .tc .vmem S2x512x1408 .bf16) (harg4 : arg4.IsWhole)
  (arg5 : Memref sig .tc .vmem S2x512x1408 .bf16) (harg5 : arg5.IsWhole) (arg6 : Memref sig .tc .vmem S512x1408 .bf16) (harg6 : arg6.IsWhole)
  (x0 : Vec Ideal S512x2048 .bf16) (x1 : Vec Ideal S1408x2048 .bf16) (x2 : Vec Ideal S2x512x1408 .bf16)

/-- The block of the gradients at the gates and at the values. -/
def dguBlock (x0 : Vec Ideal S512x2048 .bf16) (x1 : Vec Ideal S1408x2048 .bf16) (x2 : Vec Ideal S2x512x1408 .bf16) (y : S2x512x1408.Idx) : EReal :=
  if (y 0).val = 0 then Ffn.actG (dact x0 x1 (y 1) (y 2)) (x2 (ix3 0 (y 1) (y 2))) (x2 (ix3 1 (y 1) (y 2)))
  else Ffn.actU (dact x0 x1 (y 1) (y 2)) (x2 (ix3 0 (y 1) (y 2)))

set_option maxRecDepth 65536 in
/-- The first block holds the gates' gradients in its first plane and the values' in its second. -/
theorem act_dgu (y : S2x512x1408.Idx) : out2_A_3 c i arg2 harg2 arg3 harg3 arg4 harg4 arg5 harg5 arg6 harg6 x0 x1 x2 y = dguBlock x0 x1 x2 y := by
  unfold out2_A_3
  refine View.read_writes_apply_of_pieces _ _ (dguBlock x0 x1 x2) _ ?_ _ (cover2_A_3 c i arg2 harg2 arg3 harg3 arg4 harg4 arg5 harg5 arg6 harg6 x0 x1 x2 y)
  unfold kernelRun2_A; dsimp only; sl_unfold_words
  simp only [View.readAt_eq_ld]
  rw [harg2.read_unread x0, harg3.read_unread x1, harg4.read_unread x2, ld_rows x0]
  have g0 : ∀ r q, dguBlock x0 x1 x2 (ix3 0 r q) = Ffn.actG (dact x0 x1 r q) (x2 (ix3 0 r q)) (x2 (ix3 1 r q)) := fun _ _ => rfl
  have g1 : ∀ r q, dguBlock x0 x1 x2 (ix3 1 r q) = Ffn.actU (dact x0 x1 r q) (x2 (ix3 0 r q)) := fun _ _ => rfl
  intro p hp
  simp only [List.mem_cons, List.not_mem_nil, or_false] at hp
  rcases hp with rfl | rfl | rfl | rfl | rfl | rfl | rfl | rfl | rfl | rfl | rfl | rfl
  · exact du_piece128 x0 x1 x2 1280 (by decide) (by decide) (by decide) (by decide) _ g1
  · exact dg_piece128 x0 x1 x2 1280 (by decide) (by decide) (by decide) (by decide) (by decide) _ g0
  · exact du_piece256 x0 x1 x2 1024 (by decide) (by decide) (by decide) (by decide) _ g1
  · exact dg_piece256 x0 x1 x2 1024 (by decide) (by decide) (by decide) (by decide) (by decide) _ g0
  · exact du_piece256 x0 x1 x2 768 (by decide) (by decide) (by decide) (by decide) _ g1
  · exact dg_piece256 x0 x1 x2 768 (by decide) (by decide) (by decide) (by decide) (by decide) _ g0
  · exact du_piece256 x0 x1 x2 512 (by decide) (by decide) (by decide) (by decide) _ g1
  · exact dg_piece256 x0 x1 x2 512 (by decide) (by decide) (by decide) (by decide) (by decide) _ g0
  · exact du_piece256 x0 x1 x2 256 (by decide) (by decide) (by decide) (by decide) _ g1
  · exact dg_piece256 x0 x1 x2 256 (by decide) (by decide) (by decide) (by decide) (by decide) _ g0
  · exact du_piece256 x0 x1 x2 0 (by decide) (by decide) (by decide) (by decide) _ g1
  · exact dg_piece256 x0 x1 x2 0 (by decide) (by decide) (by decide) (by decide) (by decide) _ g0

/-- The block of the activations. -/
def aBlock (x2 : Vec Ideal S2x512x1408 .bf16) (y : S512x1408.Idx) : EReal :=
  Ffn.act (x2 (ix3 0 (y 0) (y 1))) (x2 (ix3 1 (y 0) (y 1)))

set_option maxRecDepth 65536 in
theorem act_a (y : S512x1408.Idx) : out2_A_4 c i arg2 harg2 arg3 harg3 arg4 harg4 arg5 harg5 arg6 harg6 x0 x1 x2 y = aBlock x2 y := by
  unfold out2_A_4
  refine View.read_writes_apply_of_pieces _ _ (aBlock x2) _ ?_ _ (cover2_A_4 c i arg2 harg2 arg3 harg3 arg4 harg4 arg5 harg5 arg6 harg6 x0 x1 x2 y)
  unfold kernelRun2_A; dsimp only; sl_unfold_words
  simp only [View.readAt_eq_ld]
  rw [harg4.read_unread x2]
  have g : ∀ r q, aBlock x2 (ix2 r q) = Ffn.act (x2 (ix3 0 r q)) (x2 (ix3 1 r q)) := fun _ _ => rfl
  intro p hp
  simp only [List.mem_cons, List.not_mem_nil, or_false] at hp
  rcases hp with rfl | rfl | rfl | rfl | rfl | rfl
  · exact a_piece128 x2 1280 (by decide) (by decide) (by decide) (by decide) _ g
  · exact a_piece256 x2 1024 (by decide) (by decide) (by decide) (by decide) _ g
  · exact a_piece256 x2 768 (by decide) (by decide) (by decide) (by decide) _ g
  · exact a_piece256 x2 512 (by decide) (by decide) (by decide) (by decide) _ g
  · exact a_piece256 x2 256 (by decide) (by decide) (by decide) (by decide) _ g
  · exact a_piece256 x2 0 (by decide) (by decide) (by decide) (by decide) _ g
end

end Cert.Kernel2Ideal.Value

end
-- ==== Proof.Ffn.UpArr.lean ====
/-
  The two calls of 1408 columns: the arrays they leave, from the arrays they read.
-/
module

public import proofs.«01_k».proof.Proof.Ffn.Act

@[expose] public section

noncomputable section

namespace Cert.Kernel2Ideal.Value

open Idealize.ShloMosaic Idealize.ShloMosaic.TcCoe Idealize.SL.Sem Cert.Kernel2Ideal Cert.Kernel2Ideal.Gen
open Idealize.ShloMosaic.Pipeline (Dat)

variable (V : (c : Dev nD) → (b : Ref sig .tc) → Buf (Elt Ideal) ((c : Thread nD τ).loc b)) (c : Dev nD) (a : Ffn.Args)

/-- Row `r` of the block of rows, and column `q` of the block of columns, of step `t` of sixteen. -/
def row16 (t : Nat) (r : Fin 512) : Fin 2048 := ⟨512 * (t % 4) + r.val, by omega⟩
def col16 (t : Nat) (ht : t < 16) (q : Fin 1408) : Fin 5632 := ⟨1408 * (t / 4) + q.val, by omega⟩

/-! ## The gates, the values and the activation -/

theorem at0_0 : ∀ t : Fin grid0.N, win0_0.index t 0 = t.val % 4 ∧ win0_0.index t 1 = 0 := by decide +kernel
theorem at0_1 : ∀ t : Fin grid0.N, win0_1.index t 0 = t.val / 4 ∧ win0_1.index t 1 = 0 ∧ win0_1.index t 2 = 0 := by decide +kernel
theorem at0_2 : ∀ t : Fin grid0.N, win0_2.index t 0 = 4 + t.val / 4 ∧ win0_2.index t 1 = 0 ∧ win0_2.index t 2 = 0 := by decide +kernel
theorem at0_3 : ∀ t : Fin grid0.N, win0_3.index t 0 = 0 ∧ win0_3.index t 1 = t.val % 4 ∧ win0_3.index t 2 = t.val / 4 := by decide +kernel
theorem at0_4 : ∀ t : Fin grid0.N, win0_4.index t 0 = t.val % 4 ∧ win0_4.index t 1 = t.val / 4 := by decide +kernel

theorem blk0_0 (t : Fin cfg0.N) (r : Fin 512) (l : Fin 2048) :
    (iblk0 V c 0 t : Vec Ideal S512x2048 .bf16) (ix2 r l) = (V c main_arg0 : Vec Ideal S2048x2048 .bf16) (ix2 (row16 t.val r) l) := by
  unfold iblk0
  rw [View.read_apply]
  refine congrArg (V c main_arg0 : Vec Ideal S2048x2048 .bf16) (funext fun k => Fin.ext ?_)
  match k with
  | ⟨0, _⟩ => show win0_0.index t 0 * 512 + 1 * r.val = _; rw [(at0_0 t).1]; show _ = 512 * (t.val % 4) + r.val; omega
  | ⟨1, _⟩ => show win0_0.index t 1 * 2048 + 1 * l.val = _; rw [(at0_0 t).2]; show _ = l.val; omega
theorem blk0_1 (t : Fin cfg0.N) (l : Fin 2048) (q : Fin 1408) :
    (iblk0 V c 1 t : Vec Ideal S1x2048x1408 .bf16) (ix3 0 l q) = (V c main_v1 : Vec Ideal S8x2048x1408 .bf16) (ix3 ⟨t.val / 4, by have h : t.val < 16 := t.isLt; omega⟩ l q) := by
  unfold iblk0
  rw [View.read_apply]
  refine congrArg (V c main_v1 : Vec Ideal S8x2048x1408 .bf16) (funext fun k => Fin.ext ?_)
  match k with
  | ⟨0, _⟩ => show win0_1.index t 0 * 1 + 1 * 0 = _; rw [(at0_1 t).1]; show _ = t.val / 4; omega
  | ⟨1, _⟩ => show win0_1.index t 1 * 2048 + 1 * l.val = _; rw [(at0_1 t).2.1]; show _ = l.val; omega
  | ⟨2, _⟩ => show win0_1.index t 2 * 1408 + 1 * q.val = _; rw [(at0_1 t).2.2]; show _ = q.val; omega
theorem blk0_2 (t : Fin cfg0.N) (l : Fin 2048) (q : Fin 1408) :
    (iblk0 V c 2 t : Vec Ideal S1x2048x1408 .bf16) (ix3 0 l q) = (V c main_v1 : Vec Ideal S8x2048x1408 .bf16) (ix3 ⟨4 + t.val / 4, by have h : t.val < 16 := t.isLt; omega⟩ l q) := by
  unfold iblk0
  rw [View.read_apply]
  refine congrArg (V c main_v1 : Vec Ideal S8x2048x1408 .bf16) (funext fun k => Fin.ext ?_)
  match k with
  | ⟨0, _⟩ => show win0_2.index t 0 * 1 + 1 * 0 = _; rw [(at0_2 t).1]; show _ = 4 + t.val / 4; omega
  | ⟨1, _⟩ => show win0_2.index t 1 * 2048 + 1 * l.val = _; rw [(at0_2 t).2.1]; show _ = l.val; omega
  | ⟨2, _⟩ => show win0_2.index t 2 * 1408 + 1 * q.val = _; rw [(at0_2 t).2.2]; show _ = q.val; omega

section
variable (hH : ∀ i l, (V c main_arg0 : Vec Ideal S2048x2048 .bf16) (ix2 i l) = a.h i l)
  (hT : ∀ k l q, (V c main_v1 : Vec Ideal S8x2048x1408 .bf16) (ix3 k l q) = a.wgu l (Ffn.chunk k q))
include hH hT

theorem prod_gates (t : Fin cfg0.N) (r : Fin 512) (q : Fin 1408) :
    prod (iblk0 V c 0 t) (iblk0 V c 1 t) r q = Ffn.GU a (row16 t.val r) (Ffn.col 0 (col16 t.val t.isLt q)) := by
  unfold prod Ffn.GU
  refine Finset.sum_congr rfl fun l _ => ?_
  rw [blk0_0, blk0_1, hH, hT]
  refine congrArg (fun f => _ * a.wgu l f) (Fin.ext ?_)
  show 1408 * (t.val / 4) + q.val = 5632 * 0 + (1408 * (t.val / 4) + q.val)
  omega
theorem prod_values (t : Fin cfg0.N) (r : Fin 512) (q : Fin 1408) :
    prod (iblk0 V c 0 t) (iblk0 V c 2 t) r q = Ffn.GU a (row16 t.val r) (Ffn.col 1 (col16 t.val t.isLt q)) := by
  unfold prod Ffn.GU
  refine Finset.sum_congr rfl fun l _ => ?_
  rw [blk0_0, blk0_2, hH, hT]
  refine congrArg (fun f => _ * a.wgu l f) (Fin.ext ?_)
  show 1408 * (4 + t.val / 4) + q.val = 5632 * 1 + (1408 * (t.val / 4) + q.val)
  omega

/-- The array of the gates and the values. -/
theorem up_gu_arr : (dat0 V c).arrAt 3 cfg0.N = fun y : S2x2048x5632.Idx => Ffn.GU a (y 1) (Ffn.col (y 0) (y 2)) := by
  refine (dat0 V c).arrAt_eq_of_covers 3 _ (by decide +kernel) fun t hf y => ?_
  blk_simp
  rw [after0_3]
  obtain ⟨b, r, q, rfl⟩ := idx3 (a := 2) (b := 512) (c := 1408) y
  have e0 : ((win0_3.blk t).view.emb (ix3 b r q) 0 : Fin 2) = b := Fin.ext (by
    show win0_3.index t 0 * 2 + 1 * b.val = b.val; rw [(at0_3 t).1]; omega)
  have e1 : ((win0_3.blk t).view.emb (ix3 b r q) 1 : Fin 2048) = row16 t.val r := Fin.ext (by
    show win0_3.index t 1 * 512 + 1 * r.val = 512 * (t.val % 4) + r.val; rw [(at0_3 t).2.1]; omega)
  have e2 : ((win0_3.blk t).view.emb (ix3 b r q) 2 : Fin 5632) = col16 t.val t.isLt q := Fin.ext (by
    show win0_3.index t 2 * 1408 + 1 * q.val = 1408 * (t.val / 4) + q.val; rw [(at0_3 t).2.2]; omega)
  rw [e0, e1, e2]
  unfold outsAt0
  dsimp only
  rw [up_gu]
  match b with
  | ⟨0, _⟩ => exact prod_gates V c a hH hT t r q
  | ⟨1, _⟩ => exact prod_values V c a hH hT t r q

/-- The array of the activations. -/
theorem up_act_arr : (dat0 V c).arrAt 4 cfg0.N = fun y : S2048x5632.Idx => Ffn.A a (y 0) (y 1) := by
  refine (dat0 V c).arrAt_eq_of_covers 4 _ (by decide +kernel) fun t hf y => ?_
  blk_simp
  rw [after0_4]
  obtain ⟨r, q, rfl⟩ := idx2 (a := 512) (b := 1408) y
  have e0 : ((win0_4.blk t).view.emb (ix2 r q) 0 : Fin 2048) = row16 t.val r := Fin.ext (by
    show win0_4.index t 0 * 512 + 1 * r.val = 512 * (t.val % 4) + r.val; rw [(at0_4 t).1]; omega)
  have e1 : ((win0_4.blk t).view.emb (ix2 r q) 1 : Fin 5632) = col16 t.val t.isLt q := Fin.ext (by
    show win0_4.index t 1 * 1408 + 1 * q.val = 1408 * (t.val / 4) + q.val; rw [(at0_4 t).2]; omega)
  rw [e0, e1]
  unfold outsAt0
  dsimp only
  rw [up_act]
  exact congrArg₂ Ffn.act (prod_gates V c a hH hT t r q) (prod_values V c a hH hT t r q)
end

/-! ## The gradients at the gates and at the values -/

theorem at2_0 : ∀ t : Fin grid2.N, win2_0.index t 0 = t.val % 4 ∧ win2_0.index t 1 = 0 := by decide +kernel
theorem at2_1 : ∀ t : Fin grid2.N, win2_1.index t 0 = t.val / 4 ∧ win2_1.index t 1 = 0 := by decide +kernel
theorem at2_2 : ∀ t : Fin grid2.N, win2_2.index t 0 = 0 ∧ win2_2.index t 1 = t.val % 4 ∧ win2_2.index t 2 = t.val / 4 := by decide +kernel
theorem at2_3 : ∀ t : Fin grid2.N, win2_3.index t 0 = 0 ∧ win2_3.index t 1 = t.val % 4 ∧ win2_3.index t 2 = t.val / 4 := by decide +kernel
theorem at2_4 : ∀ t : Fin grid2.N, win2_4.index t 0 = t.val % 4 ∧ win2_4.index t 1 = t.val / 4 := by decide +kernel

theorem blk2_0 (t : Fin cfg2.N) (r : Fin 512) (l : Fin 2048) :
    (iblk2 V c 0 t : Vec Ideal S512x2048 .bf16) (ix2 r l) = (V c main_arg4 : Vec Ideal S2048x2048 .bf16) (ix2 (row16 t.val r) l) := by
  unfold iblk2
  rw [View.read_apply]
  refine congrArg (V c main_arg4 : Vec Ideal S2048x2048 .bf16) (funext fun k => Fin.ext ?_)
  match k with
  | ⟨0, _⟩ => show win2_0.index t 0 * 512 + 1 * r.val = _; rw [(at2_0 t).1]; show _ = 512 * (t.val % 4) + r.val; omega
  | ⟨1, _⟩ => show win2_0.index t 1 * 2048 + 1 * l.val = _; rw [(at2_0 t).2]; show _ = l.val; omega
theorem blk2_1 (t : Fin cfg2.N) (q : Fin 1408) (l : Fin 2048) :
    (iblk2 V c 1 t : Vec Ideal S1408x2048 .bf16) (ix2 q l) = (V c main_arg2 : Vec Ideal S5632x2048 .bf16) (ix2 (col16 t.val t.isLt q) l) := by
  unfold iblk2
  rw [View.read_apply]
  refine congrArg (V c main_arg2 : Vec Ideal S5632x2048 .bf16) (funext fun k => Fin.ext ?_)
  match k with
  | ⟨0, _⟩ => show win2_1.index t 0 * 1408 + 1 * q.val = _; rw [(at2_1 t).1]; show _ = 1408 * (t.val / 4) + q.val; omega
  | ⟨1, _⟩ => show win2_1.index t 1 * 2048 + 1 * l.val = _; rw [(at2_1 t).2]; show _ = l.val; omega
theorem blk2_2 (t : Fin cfg2.N) (b : Fin 2) (r : Fin 512) (q : Fin 1408) :
    (iblk2 V c 2 t : Vec Ideal S2x512x1408 .bf16) (ix3 b r q) = (V c main_v2_0 : Vec Ideal S2x2048x5632 .bf16) (ix3 b (row16 t.val r) (col16 t.val t.isLt q)) := by
  unfold iblk2
  rw [View.read_apply]
  refine congrArg (V c main_v2_0 : Vec Ideal S2x2048x5632 .bf16) (funext fun k => Fin.ext ?_)
  match k with
  | ⟨0, _⟩ => show win2_2.index t 0 * 2 + 1 * b.val = _; rw [(at2_2 t).1]; show _ = b.val; omega
  | ⟨1, _⟩ => show win2_2.index t 1 * 512 + 1 * r.val = _; rw [(at2_2 t).2.1]; show _ = 512 * (t.val % 4) + r.val; omega
  | ⟨2, _⟩ => show win2_2.index t 2 * 1408 + 1 * q.val = _; rw [(at2_2 t).2.2]; show _ = 1408 * (t.val / 4) + q.val; omega

section
variable (hgu : ∀ b i f, (V c main_v2_0 : Vec Ideal S2x2048x5632 .bf16) (ix3 b i f) = Ffn.GU a i (Ffn.col b f))
include hgu

/-- The array of the activations, computed again. -/
theorem act_a_arr : (dat2 V c).arrAt 4 cfg2.N = fun y : S2048x5632.Idx => Ffn.A a (y 0) (y 1) := by
  refine (dat2 V c).arrAt_eq_of_covers 4 _ (by decide +kernel) fun t hf y => ?_
  blk_simp
  rw [after2_4]
  obtain ⟨r, q, rfl⟩ := idx2 (a := 512) (b := 1408) y
  have e0 : ((win2_4.blk t).view.emb (ix2 r q) 0 : Fin 2048) = row16 t.val r := Fin.ext (by
    show win2_4.index t 0 * 512 + 1 * r.val = 512 * (t.val % 4) + r.val; rw [(at2_4 t).1]; omega)
  have e1 : ((win2_4.blk t).view.emb (ix2 r q) 1 : Fin 5632) = col16 t.val t.isLt q := Fin.ext (by
    show win2_4.index t 1 * 1408 + 1 * q.val = 1408 * (t.val / 4) + q.val; rw [(at2_4 t).2]; omega)
  rw [e0, e1]
  unfold outsAt2
  dsimp only
  rw [act_a]
  exact congrArg₂ Ffn.act ((blk2_2 V c t 0 r q).trans (hgu _ _ _)) ((blk2_2 V c t 1 r q).trans (hgu _ _ _))

variable (hdy : ∀ i l, (V c main_arg4 : Vec Ideal S2048x2048 .bf16) (ix2 i l) = a.dy i l)
  (hw : ∀ f l, (V c main_arg2 : Vec Ideal S5632x2048 .bf16) (ix2 f l) = a.wd f l)
include hdy hw

omit hgu in
theorem dact_dA (t : Fin cfg2.N) (r : Fin 512) (q : Fin 1408) :
    dact (iblk2 V c 0 t) (iblk2 V c 1 t) r q = Ffn.dA a (row16 t.val r) (col16 t.val t.isLt q) := by
  unfold dact Ffn.dA
  refine congrArg (Ffn.half * ·) (Finset.sum_congr rfl fun l _ => ?_)
  rw [blk2_0, blk2_1, hdy, hw]

/-- The array of the gradients at the gates and at the values. -/
theorem act_dgu_arr : (dat2 V c).arrAt 3 cfg2.N = fun y : S2x2048x5632.Idx => Ffn.D a (y 0) (y 1) (y 2) := by
  refine (dat2 V c).arrAt_eq_of_covers 3 _ (by decide +kernel) fun t hf y => ?_
  blk_simp
  rw [after2_3]
  obtain ⟨b, r, q, rfl⟩ := idx3 (a := 2) (b := 512) (c := 1408) y
  have e0 : ((win2_3.blk t).view.emb (ix3 b r q) 0 : Fin 2) = b := Fin.ext (by
    show win2_3.index t 0 * 2 + 1 * b.val = b.val; rw [(at2_3 t).1]; omega)
  have e1 : ((win2_3.blk t).view.emb (ix3 b r q) 1 : Fin 2048) = row16 t.val r := Fin.ext (by
    show win2_3.index t 1 * 512 + 1 * r.val = 512 * (t.val % 4) + r.val; rw [(at2_3 t).2.1]; omega)
  have e2 : ((win2_3.blk t).view.emb (ix3 b r q) 2 : Fin 5632) = col16 t.val t.isLt q := Fin.ext (by
    show win2_3.index t 2 * 1408 + 1 * q.val = 1408 * (t.val / 4) + q.val; rw [(at2_3 t).2.2]; omega)
  rw [e0, e1, e2]
  unfold outsAt2
  dsimp only
  rw [act_dgu]
  have g0 := (blk2_2 V c t 0 r q).trans (hgu _ _ _)
  have g1 := (blk2_2 V c t 1 r q).trans (hgu _ _ _)
  have d := dact_dA V c a hdy hw t r q
  match b with
  | ⟨0, _⟩ =>
    show Ffn.actG (dact (iblk2 V c 0 t) (iblk2 V c 1 t) r q) _ _ = Ffn.actG _ _ _
    rw [d]; exact congrArg₂ (Ffn.actG _) g0 g1
  | ⟨1, _⟩ => exact congrArg₂ Ffn.actU d g0
end

end Cert.Kernel2Ideal.Value

end
-- ==== Proof.Ffn.Prods.lean ====
/-
  The calls that are one product: the arrays they leave, from the arrays they read.
-/
module

public import proofs.«01_k».proof.Proof.Ffn.Up
import Idealize.ShloMosaic.Lib.Pointwise
import Idealize.ShloMosaic.Lib.IdealHost

@[expose] public section

noncomputable section

namespace Cert.Kernel2Ideal.Value

open Idealize.ShloMosaic Idealize.ShloMosaic.TcCoe Idealize.SL.Sem Cert.Kernel2Ideal Cert.Kernel2Ideal.Gen
open Idealize.ShloMosaic.Pipeline (Dat)

/-! ## What each body leaves in its block -/

theorem out1_apply (x0 : Vec Ideal S512x5632 .bf16) (x1 : Vec Ideal S5632x1024 .bf16) (x2 : Vec Ideal S512x1024 .f32) (r : Fin 512) (q : Fin 1024) :
    out1_3 x0 x1 x2 (ix2 r q) = x2 (ix2 r q) + Ffn.half * ∑ f : Fin 5632, x0 (ix2 r f) * x1 (ix2 f q) := by
  unfold out1_3
  rw [View.canon_unit_zero (S := S512x1024) hz2, View.ld_unit_zero (S := S512x5632) hz2 _ x0, View.ld_unit_zero (S := S5632x1024) hz2 _ x1, View.ld_unit_zero (S := S512x1024) hz2 _ x2]
  unfold Ffn.half
  pointwise [k1_pay1]
theorem out3_apply (x0 : Vec Ideal S2048x1408 .bf16) (x1 : Vec Ideal S2048x512 .bf16) (r : Fin 1408) (q : Fin 512) :
    out3_2 x0 x1 (ix2 r q) = Ffn.half * ∑ i : Fin 2048, x0 (ix2 i r) * x1 (ix2 i q) := by
  unfold out3_2
  rw [View.canon_unit_zero (S := S1408x512) hz2, View.ld_unit_zero (S := S2048x1408) hz2 _ x0, View.ld_unit_zero (S := S2048x512) hz2 _ x1]
  unfold Ffn.half
  pointwise [k3_pay1]
theorem out4_apply (x0 : Vec Ideal S2048x512 .bf16) (x1 : Vec Ideal S1x2048x1408 .bf16) (r : Fin 512) (q : Fin 1408) :
    out4_2 x0 x1 (ix3 0 r q) = ∑ i : Fin 2048, x0 (ix2 i r) * x1 (ix3 0 i q) := by
  unfold out4_2
  rw [View.canon_unit_zero (S := S1x512x1408) hz3, View.ld_unit_zero (S := S2048x512) hz2 _ x0, View.ld_unit_zero (S := S1x2048x1408) hz3 _ x1]
  pointwise [k4_pay1]
theorem out5_eq (x0 : Vec Ideal S2048x512 .bf16) (x1 : Vec Ideal S1x2048x1408 .bf16) : out5_2 x0 x1 = out4_2 x0 x1 := rfl

variable (V : (c : Dev nD) → (b : Ref sig .tc) → Buf (Elt Ideal) ((c : Thread nD τ).loc b)) (c : Dev nD) (a : Ffn.Args)

/-! ## The block's result -/

theorem at1_0 : ∀ t : Fin grid1.N, win1_0.index t 0 = t.val % 4 ∧ win1_0.index t 1 = 0 := by decide +kernel
theorem at1_1 : ∀ t : Fin grid1.N, win1_1.index t 0 = 0 ∧ win1_1.index t 1 = t.val / 4 := by decide +kernel
theorem at1_2 : ∀ t : Fin grid1.N, win1_2.index t 0 = t.val % 4 ∧ win1_2.index t 1 = t.val / 4 := by decide +kernel
theorem at1_3 : ∀ t : Fin grid1.N, win1_3.index t 0 = t.val % 4 ∧ win1_3.index t 1 = t.val / 4 := by decide +kernel

/-- Row `r` of the block of rows, and column `q` of the block of columns, of step `t` of eight. -/
def row8 (t : Nat) (r : Fin 512) : Fin 2048 := ⟨512 * (t % 4) + r.val, by omega⟩
def col8 (t : Nat) (ht : t < 8) (q : Fin 1024) : Fin 2048 := ⟨1024 * (t / 4) + q.val, by omega⟩

theorem blk1_0 (t : Fin cfg1.N) (r : Fin 512) (f : Fin 5632) :
    (iblk1 V c 0 t : Vec Ideal S512x5632 .bf16) (ix2 r f) = (V c main_v2_1 : Vec Ideal S2048x5632 .bf16) (ix2 (row8 t.val r) f) := by
  unfold iblk1
  rw [View.read_apply]
  refine congrArg (V c main_v2_1 : Vec Ideal S2048x5632 .bf16) (funext fun k => Fin.ext ?_)
  match k with
  | ⟨0, _⟩ => show win1_0.index t 0 * 512 + 1 * r.val = _; rw [(at1_0 t).1]; show _ = 512 * (t.val % 4) + r.val; omega
  | ⟨1, _⟩ => show win1_0.index t 1 * 5632 + 1 * f.val = _; rw [(at1_0 t).2]; show _ = f.val; omega
theorem blk1_1 (t : Fin cfg1.N) (f : Fin 5632) (q : Fin 1024) :
    (iblk1 V c 1 t : Vec Ideal S5632x1024 .bf16) (ix2 f q) = (V c main_arg2 : Vec Ideal S5632x2048 .bf16) (ix2 f (col8 t.val t.isLt q)) := by
  unfold iblk1
  rw [View.read_apply]
  refine congrArg (V c main_arg2 : Vec Ideal S5632x2048 .bf16) (funext fun k => Fin.ext ?_)
  match k with
  | ⟨0, _⟩ => show win1_1.index t 0 * 5632 + 1 * f.val = _; rw [(at1_1 t).1]; show _ = f.val; omega
  | ⟨1, _⟩ => show win1_1.index t 1 * 1024 + 1 * q.val = _; rw [(at1_1 t).2]; show _ = 1024 * (t.val / 4) + q.val; omega
theorem blk1_2 (t : Fin cfg1.N) (r : Fin 512) (q : Fin 1024) :
    (iblk1 V c 2 t : Vec Ideal S512x1024 .f32) (ix2 r q) = (V c main_arg3 : Vec Ideal S2048x2048 .f32) (ix2 (row8 t.val r) (col8 t.val t.isLt q)) := by
  unfold iblk1
  rw [View.read_apply]
  refine congrArg (V c main_arg3 : Vec Ideal S2048x2048 .f32) (funext fun k => Fin.ext ?_)
  match k with
  | ⟨0, _⟩ => show win1_2.index t 0 * 512 + 1 * r.val = _; rw [(at1_2 t).1]; show _ = 512 * (t.val % 4) + r.val; omega
  | ⟨1, _⟩ => show win1_2.index t 1 * 1024 + 1 * q.val = _; rw [(at1_2 t).2]; show _ = 1024 * (t.val / 4) + q.val; omega

/-- The array of the block's result. -/
theorem down_arr (hA : ∀ i f, (V c main_v2_1 : Vec Ideal S2048x5632 .bf16) (ix2 i f) = Ffn.A a i f)
    (hw : ∀ f l, (V c main_arg2 : Vec Ideal S5632x2048 .bf16) (ix2 f l) = a.wd f l) (hx : ∀ i l, (V c main_arg3 : Vec Ideal S2048x2048 .f32) (ix2 i l) = a.x i l) :
    (dat1 V c).arrAt 3 cfg1.N = fun y : S2048x2048.Idx => Ffn.Y a (y 0) (y 1) := by
  refine (dat1 V c).arrAt_eq_of_covers 3 _ (by decide +kernel) fun t hf y => ?_
  blk_simp
  rw [after1_3]
  obtain ⟨r, q, rfl⟩ := idx2 (a := 512) (b := 1024) y
  have e0 : ((win1_3.blk t).view.emb (ix2 r q) 0 : Fin 2048) = row8 t.val r := Fin.ext (by
    show win1_3.index t 0 * 512 + 1 * r.val = 512 * (t.val % 4) + r.val; rw [(at1_3 t).1]; omega)
  have e1 : ((win1_3.blk t).view.emb (ix2 r q) 1 : Fin 2048) = col8 t.val t.isLt q := Fin.ext (by
    show win1_3.index t 1 * 1024 + 1 * q.val = 1024 * (t.val / 4) + q.val; rw [(at1_3 t).2]; omega)
  rw [e0, e1]
  refine (out1_apply _ _ _ r q).trans ?_
  unfold Ffn.Y
  exact congrArg₂ (· + ·) ((blk1_2 V c t r q).trans (hx _ _)) (congrArg (Ffn.half * ·)
    (Finset.sum_congr rfl fun f _ => congrArg₂ (· * ·) ((blk1_0 V c t r f).trans (hA _ _)) ((blk1_1 V c t f q).trans (hw _ _))))

/-! ## The gradient of the last weights -/

theorem at3_0 : ∀ t : Fin grid3.N, win3_0.index t 0 = 0 ∧ win3_0.index t 1 = t.val / 4 := by decide +kernel
theorem at3_1 : ∀ t : Fin grid3.N, win3_1.index t 0 = 0 ∧ win3_1.index t 1 = t.val % 4 := by decide +kernel
theorem at3_2 : ∀ t : Fin grid3.N, win3_2.index t 0 = t.val / 4 ∧ win3_2.index t 1 = t.val % 4 := by decide +kernel

def rowD (t : Nat) (ht : t < 16) (r : Fin 1408) : Fin 5632 := ⟨1408 * (t / 4) + r.val, by omega⟩
def colD (t : Nat) (q : Fin 512) : Fin 2048 := ⟨512 * (t % 4) + q.val, by omega⟩

theorem blk3_0 (t : Fin cfg3.N) (i : Fin 2048) (r : Fin 1408) :
    (iblk3 V c 0 t : Vec Ideal S2048x1408 .bf16) (ix2 i r) = (V c main_v4_1 : Vec Ideal S2048x5632 .bf16) (ix2 i (rowD t.val t.isLt r)) := by
  unfold iblk3
  rw [View.read_apply]
  refine congrArg (V c main_v4_1 : Vec Ideal S2048x5632 .bf16) (funext fun k => Fin.ext ?_)
  match k with
  | ⟨0, _⟩ => show win3_0.index t 0 * 2048 + 1 * i.val = _; rw [(at3_0 t).1]; show _ = i.val; omega
  | ⟨1, _⟩ => show win3_0.index t 1 * 1408 + 1 * r.val = _; rw [(at3_0 t).2]; show _ = 1408 * (t.val / 4) + r.val; omega
theorem blk3_1 (t : Fin cfg3.N) (i : Fin 2048) (q : Fin 512) :
    (iblk3 V c 1 t : Vec Ideal S2048x512 .bf16) (ix2 i q) = (V c main_arg4 : Vec Ideal S2048x2048 .bf16) (ix2 i (colD t.val q)) := by
  unfold iblk3
  rw [View.read_apply]
  refine congrArg (V c main_arg4 : Vec Ideal S2048x2048 .bf16) (funext fun k => Fin.ext ?_)
  match k with
  | ⟨0, _⟩ => show win3_1.index t 0 * 2048 + 1 * i.val = _; rw [(at3_1 t).1]; show _ = i.val; omega
  | ⟨1, _⟩ => show win3_1.index t 1 * 512 + 1 * q.val = _; rw [(at3_1 t).2]; show _ = 512 * (t.val % 4) + q.val; omega

/-- The array of the gradient of the last weights. -/
theorem dwd_arr (hA : ∀ i f, (V c main_v4_1 : Vec Ideal S2048x5632 .bf16) (ix2 i f) = Ffn.A a i f)
    (hdy : ∀ i l, (V c main_arg4 : Vec Ideal S2048x2048 .bf16) (ix2 i l) = a.dy i l) :
    (dat3 V c).arrAt 2 cfg3.N = fun y : S5632x2048.Idx => Ffn.dWd a (y 0) (y 1) := by
  refine (dat3 V c).arrAt_eq_of_covers 2 _ (by decide +kernel) fun t hf y => ?_
  blk_simp
  rw [after3_2]
  obtain ⟨r, q, rfl⟩ := idx2 (a := 1408) (b := 512) y
  have e0 : ((win3_2.blk t).view.emb (ix2 r q) 0 : Fin 5632) = rowD t.val t.isLt r := Fin.ext (by
    show win3_2.index t 0 * 1408 + 1 * r.val = 1408 * (t.val / 4) + r.val; rw [(at3_2 t).1]; omega)
  have e1 : ((win3_2.blk t).view.emb (ix2 r q) 1 : Fin 2048) = colD t.val q := Fin.ext (by
    show win3_2.index t 1 * 512 + 1 * q.val = 512 * (t.val % 4) + q.val; rw [(at3_2 t).2]; omega)
  rw [e0, e1]
  refine (out3_apply _ _ r q).trans ?_
  unfold Ffn.dWd
  exact congrArg (Ffn.half * ·)
    (Finset.sum_congr rfl fun i _ => congrArg₂ (· * ·) ((blk3_0 V c t i r).trans (hA _ _)) ((blk3_1 V c t i q).trans (hdy _ _)))

/-! ## The gradient of the gates' and values' weights, in two calls -/

theorem at4_0 : ∀ t : Fin grid4.N, win4_0.index t 0 = 0 ∧ win4_0.index t 1 = t.val % 2 := by decide +kernel
theorem at4_1 : ∀ t : Fin grid4.N, win4_1.index t 0 = t.val / 8 ∧ win4_1.index t 1 = 0 ∧ win4_1.index t 2 = (t.val / 2) % 4 := by decide +kernel
theorem at4_2 : ∀ t : Fin grid4.N, win4_2.index t 0 = t.val / 2 ∧ win4_2.index t 1 = t.val % 2 ∧ win4_2.index t 2 = 0 := by decide +kernel
theorem at5_0 : ∀ t : Fin grid5.N, win5_0.index t 0 = 0 ∧ win5_0.index t 1 = 2 + t.val % 2 := by decide +kernel
theorem at5_1 : ∀ t : Fin grid5.N, win5_1.index t 0 = t.val / 8 ∧ win5_1.index t 1 = 0 ∧ win5_1.index t 2 = (t.val / 2) % 4 := by decide +kernel
theorem at5_2 : ∀ t : Fin grid5.N, win5_2.index t 0 = t.val / 2 ∧ win5_2.index t 1 = t.val % 2 ∧ win5_2.index t 2 = 0 := by decide +kernel

/-- The gradient of the weights of chunk `k` of 1408 columns. -/
def dW (l : Fin 2048) (k : Fin 8) (q : Fin 1408) : EReal := Ffn.dWgu a l ⟨k.val / 4, by omega⟩ ⟨1408 * (k.val % 4) + q.val, by omega⟩
/-- Row `r` of the lower and of the upper half. -/
def loRow (r : Fin 1024) : Fin 2048 := ⟨r.val, by omega⟩
def hiRow (r : Fin 1024) : Fin 2048 := ⟨1024 + r.val, by omega⟩
/-- The step's chunk, and a row of its rows. -/
def chunkW (t : Nat) (ht : t < 16) : Fin 8 := ⟨t / 2, by omega⟩
def rowW (t : Nat) (r : Fin 512) : Fin 1024 := ⟨512 * (t % 2) + r.val, by omega⟩

theorem blk4_0 (t : Fin cfg4.N) (i : Fin 2048) (r : Fin 512) :
    (iblk4 V c 0 t : Vec Ideal S2048x512 .bf16) (ix2 i r) = (V c main_arg0 : Vec Ideal S2048x2048 .bf16) (ix2 i (loRow (rowW t.val r))) := by
  unfold iblk4
  rw [View.read_apply]
  refine congrArg (V c main_arg0 : Vec Ideal S2048x2048 .bf16) (funext fun k => Fin.ext ?_)
  match k with
  | ⟨0, _⟩ => show win4_0.index t 0 * 2048 + 1 * i.val = _; rw [(at4_0 t).1]; show _ = i.val; omega
  | ⟨1, _⟩ => show win4_0.index t 1 * 512 + 1 * r.val = _; rw [(at4_0 t).2]; show _ = 512 * (t.val % 2) + r.val; omega
theorem blk4_1 (t : Fin cfg4.N) (i : Fin 2048) (q : Fin 1408) :
    (iblk4 V c 1 t : Vec Ideal S1x2048x1408 .bf16) (ix3 0 i q)
      = (V c main_v4_0 : Vec Ideal S2x2048x5632 .bf16) (ix3 ⟨(chunkW t.val t.isLt).val / 4, by omega⟩ i ⟨1408 * ((chunkW t.val t.isLt).val % 4) + q.val, by omega⟩) := by
  unfold iblk4
  rw [View.read_apply]
  refine congrArg (V c main_v4_0 : Vec Ideal S2x2048x5632 .bf16) (funext fun k => Fin.ext ?_)
  match k with
  | ⟨0, _⟩ => show win4_1.index t 0 * 1 + 1 * 0 = _; rw [(at4_1 t).1]; show _ = t.val / 2 / 4; omega
  | ⟨1, _⟩ => show win4_1.index t 1 * 2048 + 1 * i.val = _; rw [(at4_1 t).2.1]; show _ = i.val; omega
  | ⟨2, _⟩ => show win4_1.index t 2 * 1408 + 1 * q.val = _; rw [(at4_1 t).2.2]; show _ = 1408 * (t.val / 2 % 4) + q.val; omega
theorem blk5_0 (t : Fin cfg5.N) (i : Fin 2048) (r : Fin 512) :
    (iblk5 V c 0 t : Vec Ideal S2048x512 .bf16) (ix2 i r) = (V c main_arg0 : Vec Ideal S2048x2048 .bf16) (ix2 i (hiRow (rowW t.val r))) := by
  unfold iblk5
  rw [View.read_apply]
  refine congrArg (V c main_arg0 : Vec Ideal S2048x2048 .bf16) (funext fun k => Fin.ext ?_)
  match k with
  | ⟨0, _⟩ => show win5_0.index t 0 * 2048 + 1 * i.val = _; rw [(at5_0 t).1]; show _ = i.val; omega
  | ⟨1, _⟩ => show win5_0.index t 1 * 512 + 1 * r.val = _; rw [(at5_0 t).2]; show _ = 1024 + (512 * (t.val % 2) + r.val); omega
theorem blk5_1 (t : Fin cfg5.N) (i : Fin 2048) (q : Fin 1408) :
    (iblk5 V c 1 t : Vec Ideal S1x2048x1408 .bf16) (ix3 0 i q)
      = (V c main_v4_0 : Vec Ideal S2x2048x5632 .bf16) (ix3 ⟨(chunkW t.val t.isLt).val / 4, by omega⟩ i ⟨1408 * ((chunkW t.val t.isLt).val % 4) + q.val, by omega⟩) := by
  unfold iblk5
  rw [View.read_apply]
  refine congrArg (V c main_v4_0 : Vec Ideal S2x2048x5632 .bf16) (funext fun k => Fin.ext ?_)
  match k with
  | ⟨0, _⟩ => show win5_1.index t 0 * 1 + 1 * 0 = _; rw [(at5_1 t).1]; show _ = t.val / 2 / 4; omega
  | ⟨1, _⟩ => show win5_1.index t 1 * 2048 + 1 * i.val = _; rw [(at5_1 t).2.1]; show _ = i.val; omega
  | ⟨2, _⟩ => show win5_1.index t 2 * 1408 + 1 * q.val = _; rw [(at5_1 t).2.2]; show _ = 1408 * (t.val / 2 % 4) + q.val; omega

section
variable (hh : ∀ i l, (V c main_arg0 : Vec Ideal S2048x2048 .bf16) (ix2 i l) = a.h i l)
  (hd : ∀ b i f, (V c main_v4_0 : Vec Ideal S2x2048x5632 .bf16) (ix3 b i f) = Ffn.D a b i f)
include hh hd

/-- The array of the weights' gradient, the lower half of the rows. -/
theorem lo_arr : (dat4 V c).arrAt 2 cfg4.N = fun y : S8x1024x1408.Idx => dW a (loRow (y 1)) (y 0) (y 2) := by
  refine (dat4 V c).arrAt_eq_of_covers 2 _ (by decide +kernel) fun t hf y => ?_
  blk_simp
  rw [after4_2]
  obtain ⟨p, r, q, rfl⟩ := idx3 (a := 1) (b := 512) (c := 1408) y
  obtain rfl : p = (0 : Fin 1) := Subsingleton.elim _ _
  have e0 : ((win4_2.blk t).view.emb (ix3 (n0 := 1) 0 r q) 0 : Fin 8) = chunkW t.val t.isLt := Fin.ext (by
    show win4_2.index t 0 * 1 + 1 * 0 = t.val / 2; rw [(at4_2 t).1]; omega)
  have e1 : ((win4_2.blk t).view.emb (ix3 (n0 := 1) 0 r q) 1 : Fin 1024) = rowW t.val r := Fin.ext (by
    show win4_2.index t 1 * 512 + 1 * r.val = 512 * (t.val % 2) + r.val; rw [(at4_2 t).2.1]; omega)
  have e2 : ((win4_2.blk t).view.emb (ix3 (n0 := 1) 0 r q) 2 : Fin 1408) = q := Fin.ext (by
    show win4_2.index t 2 * 1408 + 1 * q.val = q.val; rw [(at4_2 t).2.2]; omega)
  rw [e0, e1, e2]
  refine (out4_apply _ _ r q).trans ?_
  unfold dW Ffn.dWgu
  exact Finset.sum_congr rfl fun i _ => congrArg₂ (· * ·) ((blk4_0 V c t i r).trans (hh _ _)) ((blk4_1 V c t i q).trans (hd _ _ _))

/-- The array of the weights' gradient, the upper half of the rows. -/
theorem hi_arr : (dat5 V c).arrAt 2 cfg5.N = fun y : S8x1024x1408.Idx => dW a (hiRow (y 1)) (y 0) (y 2) := by
  refine (dat5 V c).arrAt_eq_of_covers 2 _ (by decide +kernel) fun t hf y => ?_
  blk_simp
  rw [after5_2, out5_eq]
  obtain ⟨p, r, q, rfl⟩ := idx3 (a := 1) (b := 512) (c := 1408) y
  obtain rfl : p = (0 : Fin 1) := Subsingleton.elim _ _
  have e0 : ((win5_2.blk t).view.emb (ix3 (n0 := 1) 0 r q) 0 : Fin 8) = chunkW t.val t.isLt := Fin.ext (by
    show win5_2.index t 0 * 1 + 1 * 0 = t.val / 2; rw [(at5_2 t).1]; omega)
  have e1 : ((win5_2.blk t).view.emb (ix3 (n0 := 1) 0 r q) 1 : Fin 1024) = rowW t.val r := Fin.ext (by
    show win5_2.index t 1 * 512 + 1 * r.val = 512 * (t.val % 2) + r.val; rw [(at5_2 t).2.1]; omega)
  have e2 : ((win5_2.blk t).view.emb (ix3 (n0 := 1) 0 r q) 2 : Fin 1408) = q := Fin.ext (by
    show win5_2.index t 2 * 1408 + 1 * q.val = q.val; rw [(at5_2 t).2.2]; omega)
  rw [e0, e1, e2]
  refine (out4_apply _ _ r q).trans ?_
  unfold dW Ffn.dWgu
  exact Finset.sum_congr rfl fun i _ => congrArg₂ (· * ·) ((blk5_0 V c t i r).trans (hh _ _)) ((blk5_1 V c t i q).trans (hd _ _ _))
end

end Cert.Kernel2Ideal.Value

end
-- ==== Proof.Ffn.Run.lean ====
/-
  The feed-forward calls one after another: what each leaves for the next, and the results of the whole run.
-/
module

public import proofs.«01_k».proof.Proof.Ffn.UpArr
public import proofs.«01_k».proof.Proof.Ffn.Prods
public import proofs.«01_k».proof.Proof.Gen.Kernel2Ideal.Frame
import Idealize.ShloMosaic.Lib.Pointwise
import Idealize.ShloMosaic.Lib.IdealHost

@[expose] public section

noncomputable section

namespace Cert.Kernel2Ideal.Value

open Idealize.SL Idealize.SL.Sem Idealize.ShloMosaic Idealize.ShloMosaic.TcCoe Cert.Kernel2Ideal Cert.Kernel2Ideal.Gen

variable (m : (ℓ : Loc nD τ sig) → Buf (Elt Ideal) ℓ) (ρ : Dev nD → PrngReg) (c : Dev nD)

/-- The block's arguments, as launched. -/
def args : Ffn.Args where
  h i l := (m ((c : Thread nD τ).loc main_arg0) : Vec Ideal S2048x2048 .bf16) (ix2 i l)
  wgu i f := (m ((c : Thread nD τ).loc main_arg1) : Vec Ideal S2048x11264 .bf16) (ix2 i f)
  wd f l := (m ((c : Thread nD τ).loc main_arg2) : Vec Ideal S5632x2048 .bf16) (ix2 f l)
  x i l := (m ((c : Thread nD τ).loc main_arg3) : Vec Ideal S2048x2048 .f32) (ix2 i l)
  dy i l := (m ((c : Thread nD τ).loc main_arg4) : Vec Ideal S2048x2048 .bf16) (ix2 i l)

/-- The weights by chunks of columns, chunk first, at a chunk, a row and a column. -/
theorem chunk_apply (x : Vec Ideal S2048x11264 .bf16) (k : Fin 8) (l : Fin 2048) (q : Fin 1408) :
    transpose S8x2048x1408 [1, 0, 2] (shapeCast S2048x8x1408 x shapeCasts_S2048x11264_S2048x8x1408) transposes_S2048x8x1408_S8x2048x1408_1_0_2 (ix3 k l q)
      = x (ix2 l (Ffn.chunk k q)) := by
  pointwise
  refine congrArg x (congrArg (ix2 l) (Fin.ext ?_))
  show k.val * 1408 + q.val = 1408 * k.val + q.val
  omega

/-- The chunked weights the first call reads. -/
theorem w1_chunks : (W1 m ρ c (Proc.devRef .tc main_v1) : Vec Ideal S8x2048x1408 .bf16)
    = transpose S8x2048x1408 [1, 0, 2] (shapeCast S2048x8x1408 (m ((c : Thread nD τ).loc main_arg1) : Vec Ideal S2048x11264 .bf16) shapeCasts_S2048x11264_S2048x8x1408)
        transposes_S2048x8x1408_S8x2048x1408_1_0_2 := rfl

/-- The gates and values, after the first call. -/
theorem gu_2 : (W2 m ρ c (Proc.devRef .tc main_v2_0) : Vec Ideal S2x2048x5632 .bf16) = fun y : S2x2048x5632.Idx => Ffn.GU (args m c) (y 1) (Ffn.col (y 0) (y 2)) :=
  (W2_arr m ρ c 3).trans (up_gu_arr (V1 m ρ) c (args m c) (fun i l => congrFun (W1_args m ρ c main_arg0 (by decide)) (ix2 i l))
    (fun k l q => (congrFun (w1_chunks m ρ c) (ix3 k l q)).trans (chunk_apply _ k l q)))
/-- The activation, after the first call. -/
theorem act_2 : (W2 m ρ c (Proc.devRef .tc main_v2_1) : Vec Ideal S2048x5632 .bf16) = fun y : S2048x5632.Idx => Ffn.A (args m c) (y 0) (y 1) :=
  (W2_arr m ρ c 4).trans (up_act_arr (V1 m ρ) c (args m c) (fun i l => congrFun (W1_args m ρ c main_arg0 (by decide)) (ix2 i l))
    (fun k l q => (congrFun (w1_chunks m ρ c) (ix3 k l q)).trans (chunk_apply _ k l q)))
/-- The block's result, after the second call. -/
theorem y_3 : (W3 m ρ c (Proc.devRef .tc main_v3) : Vec Ideal S2048x2048 .f32) = fun y : S2048x2048.Idx => Ffn.Y (args m c) (y 0) (y 1) :=
  (W3_arr m ρ c 3).trans (down_arr (V2 m ρ) c (args m c) (fun i f => congrFun (act_2 m ρ c) (ix2 i f))
    (fun f l => congrFun (W2_args m ρ c main_arg2 (by decide)) (ix2 f l)) (fun i l => congrFun (W2_args m ρ c main_arg3 (by decide)) (ix2 i l)))
/-- The gates and values, still, after the second call. -/
theorem gu_3 : (W3 m ρ c (Proc.devRef .tc main_v2_0) : Vec Ideal S2x2048x5632 .bf16) = fun y : S2x2048x5632.Idx => Ffn.GU (args m c) (y 1) (Ffn.col (y 0) (y 2)) :=
  (W3_of m ρ c main_v2_0 (by decide +kernel)).trans (gu_2 m ρ c)
/-- The gradient at the gates and values, after the third call. -/
theorem dgu_4 : (W4 m ρ c (Proc.devRef .tc main_v4_0) : Vec Ideal S2x2048x5632 .bf16) = fun y : S2x2048x5632.Idx => Ffn.D (args m c) (y 0) (y 1) (y 2) :=
  (W4_arr m ρ c 3).trans (act_dgu_arr (V3 m ρ) c (args m c) (fun b i f => congrFun (gu_3 m ρ c) (ix3 b i f))
    (fun i l => congrFun (W3_args m ρ c main_arg4 (by decide)) (ix2 i l)) (fun f l => congrFun (W3_args m ρ c main_arg2 (by decide)) (ix2 f l)))
/-- The activation anew, after the third call. -/
theorem act_4 : (W4 m ρ c (Proc.devRef .tc main_v4_1) : Vec Ideal S2048x5632 .bf16) = fun y : S2048x5632.Idx => Ffn.A (args m c) (y 0) (y 1) :=
  (W4_arr m ρ c 4).trans (act_a_arr (V3 m ρ) c (args m c) (fun b i f => congrFun (gu_3 m ρ c) (ix3 b i f)))
/-- The gradient of the last weights, after the fourth call. -/
theorem dwd_5 : (W5 m ρ c (Proc.devRef .tc main_v5) : Vec Ideal S5632x2048 .bf16) = fun y : S5632x2048.Idx => Ffn.dWd (args m c) (y 0) (y 1) :=
  (W5_arr m ρ c 2).trans (dwd_arr (V4 m ρ) c (args m c) (fun i f => congrFun (act_4 m ρ c) (ix2 i f))
    (fun i l => congrFun (W4_args m ρ c main_arg4 (by decide)) (ix2 i l)))
/-- The gradient at the gates and values, still, after the fourth and the fifth call. -/
theorem dgu_5 : (W5 m ρ c (Proc.devRef .tc main_v4_0) : Vec Ideal S2x2048x5632 .bf16) = fun y : S2x2048x5632.Idx => Ffn.D (args m c) (y 0) (y 1) (y 2) :=
  (W5_of m ρ c main_v4_0 (by decide +kernel)).trans (dgu_4 m ρ c)
theorem dgu_6 : (W6 m ρ c (Proc.devRef .tc main_v4_0) : Vec Ideal S2x2048x5632 .bf16) = fun y : S2x2048x5632.Idx => Ffn.D (args m c) (y 0) (y 1) (y 2) :=
  (W6_of m ρ c main_v4_0 (by decide +kernel)).trans (dgu_5 m ρ c)
/-- The lower half of the gradient of the gates' and values' weights, after the fifth call. -/
theorem lo_6 : (W6 m ρ c (Proc.devRef .tc main_v6) : Vec Ideal S8x1024x1408 .bf16) = fun y : S8x1024x1408.Idx => dW (args m c) (loRow (y 1)) (y 0) (y 2) :=
  (W6_arr m ρ c 2).trans (lo_arr (V5 m ρ) c (args m c) (fun i l => congrFun (W5_args m ρ c main_arg0 (by decide)) (ix2 i l))
    (fun b i f => congrFun (dgu_5 m ρ c) (ix3 b i f)))

/-! ## The results at the end -/

theorem hi_7 : (W7 m ρ c (Proc.devRef .tc main_v7) : Vec Ideal S8x1024x1408 .bf16) = fun y : S8x1024x1408.Idx => dW (args m c) (hiRow (y 1)) (y 0) (y 2) :=
  (W7_arr m ρ c 2).trans (hi_arr (V6 m ρ) c (args m c) (fun i l => congrFun (W6_args m ρ c main_arg0 (by decide)) (ix2 i l))
    (fun b i f => congrFun (dgu_6 m ρ c) (ix3 b i f)))
theorem lo_7 : (W7 m ρ c (Proc.devRef .tc main_v6) : Vec Ideal S8x1024x1408 .bf16) = fun y : S8x1024x1408.Idx => dW (args m c) (loRow (y 1)) (y 0) (y 2) :=
  (W7_of m ρ c main_v6 (by decide +kernel)).trans (lo_6 m ρ c)
theorem dwd_7 : (W7 m ρ c (Proc.devRef .tc main_v5) : Vec Ideal S5632x2048 .bf16) = fun y : S5632x2048.Idx => Ffn.dWd (args m c) (y 0) (y 1) :=
  (W7_of m ρ c main_v5 (by decide +kernel)).trans ((W6_of m ρ c main_v5 (by decide +kernel)).trans (dwd_5 m ρ c))
theorem dgu_7 : (W7 m ρ c (Proc.devRef .tc main_v4_0) : Vec Ideal S2x2048x5632 .bf16) = fun y : S2x2048x5632.Idx => Ffn.D (args m c) (y 0) (y 1) (y 2) :=
  (W7_of m ρ c main_v4_0 (by decide +kernel)).trans (dgu_6 m ρ c)
theorem y_7 : (W7 m ρ c (Proc.devRef .tc main_v3) : Vec Ideal S2048x2048 .f32) = fun y : S2048x2048.Idx => Ffn.Y (args m c) (y 0) (y 1) :=
  (W7_of m ρ c main_v3 (by decide +kernel)).trans ((W6_of m ρ c main_v3 (by decide +kernel)).trans ((W5_of m ρ c main_v3 (by decide +kernel)).trans
    ((W4_of m ρ c main_v3 (by decide +kernel)).trans (y_3 m ρ c))))

/-! ## The run -/

open Idealize.SL.RA Idealize.SL.BI Idealize.SL.BI.BIBase Idealize.SL.BI.Laws Idealize.SL.ProofMode
open scoped Idealize.SL.BI
open Idealize.ShloMosaic.Rounds
open Idealize.ShloMosaic.Pipeline (Dat Cfg Window BodyObligation cellOf)

/-- The machine the run is stated in. -/
abbrev Mach := MT nD τ sig Unit (Elt Ideal) ℕ (UR sig nD τ) ℕ

-- the kit's implicit arguments are found by unifying its conclusion with this one, as in the generated frame
set_option backward.isDefEq.respectTransparency.types false in
/-- The run ends with the block's result and the gradients in its result arrays and its arguments as launched. -/
theorem run : θ_run defs (onTc (τ := τ) (main (F := Ideal))) ⟨m, fun _ => 0, ρ⟩ (fun r => ∀ c : Dev nD,
      r.2.mem ((c.tc : Thread nD τ).loc main_v3) = W7 m ρ c (Proc.devRef .tc main_v3)
      ∧ r.2.mem ((c.tc : Thread nD τ).loc main_v4_0) = W7 m ρ c (Proc.devRef .tc main_v4_0)
      ∧ r.2.mem ((c.tc : Thread nD τ).loc main_v6) = W7 m ρ c (Proc.devRef .tc main_v6)
      ∧ r.2.mem ((c.tc : Thread nD τ).loc main_v7) = W7 m ρ c (Proc.devRef .tc main_v7)
      ∧ r.2.mem ((c.tc : Thread nD τ).loc main_v5) = W7 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Mach)
            ⊢ BI.own (emb₁ (initOf (Pipeline.cells cfgs cellOf_inj) (Pipeline.launchToks cfgs cellOf_inj))) from .rfl)
        iexact Hu
      iapply (show (BI.emp : sProp Mach) ⊢ bigSep Finset.univ (fun _ : Dev nD => (BI.emp : sProp Mach)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨h c _ (mem_uc main_v3 (by decide)), h c _ (mem_uc main_v4_0 (by decide)), h c _ (mem_uc main_v6 (by decide)),
       h c _ (mem_uc main_v7 (by decide)), h c _ (mem_uc main_v5 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.Kernel2Ideal.Value

end
-- ==== Proof.Ffn.Ref.lean ====
/-
  The feed-forward reference and the gradients jax takes of it, at a row and a column.
-/
module

public import proofs.«01_k».proof.Proof.Gen.Reference2Ideal.Read
public import proofs.«01_k».proof.Proof.Ffn.Spec
import Idealize.ShloMosaic.Lib.Pointwise
import Idealize.ShloMosaic.Lib.IdealHost

@[expose] public section

noncomputable section

namespace Cert.Reference2Ideal.Value

open Idealize.ShloMosaic Cert.Reference2Ideal Cert.Reference2Ideal.Gen Cert.Reference2Ideal.Read

/-- The block's arguments, from the arrays. -/
def args (x0 : Vec Ideal S2048x2048 .bf16) (x1 : Vec Ideal S2048x11264 .bf16) (x2 : Vec Ideal S5632x2048 .bf16) (x3 : Vec Ideal S2048x2048 .f32)
    (x4 : Vec Ideal S2048x2048 .bf16) : Ffn.Args where
  h i l := x0 (ix2 i l)
  wgu i f := x1 (ix2 i f)
  wd f l := x2 (ix2 f l)
  x i l := x3 (ix2 i l)
  dy i l := x4 (ix2 i l)

variable (x0 : Vec Ideal S2048x2048 .bf16) (x1 : Vec Ideal S2048x11264 .bf16) (x2 : Vec Ideal S5632x2048 .bf16) (x3 : Vec Ideal S2048x2048 .f32)
  (x4 : Vec Ideal S2048x2048 .bf16)

/-- The gates and values. -/
theorem ref_gu (i : Fin 2048) (f : Fin 11264) : val_main_v2 (F := Ideal) x0 x1 (ix2 i f) = Ffn.GU (args x0 x1 x2 x3 x4) i f := by
  unfold Ffn.GU args
  pointwise [val_main_v2, val_main_v0, val_main_v1]
theorem ref_gate (i : Fin 2048) (f : Fin 5632) : val_main_v4 (F := Ideal) x0 x1 (ix2 i f) = Ffn.GU (args x0 x1 x2 x3 x4) i (Ffn.col 0 f) := by
  refine Eq.trans ?_ (ref_gu x0 x1 x2 x3 x4 i (Ffn.col 0 f))
  rw [val_main_v4_apply]
  refine congrArg (val_main_v2 (F := Ideal) x0 x1) (funext fun k => Fin.ext ?_)
  match k with
  | ⟨0, _⟩ => rfl
  | ⟨1, _⟩ => show f.val = 5632 * 0 + f.val; omega
theorem ref_value (i : Fin 2048) (f : Fin 5632) : val_main_v5 (F := Ideal) x0 x1 (ix2 i f) = Ffn.GU (args x0 x1 x2 x3 x4) i (Ffn.col 1 f) := by
  refine Eq.trans ?_ (ref_gu x0 x1 x2 x3 x4 i (Ffn.col 1 f))
  rw [val_main_v5_apply]
  refine congrArg (val_main_v2 (F := Ideal) x0 x1) (funext fun k => Fin.ext ?_)
  match k with
  | ⟨0, _⟩ => rfl
  | ⟨1, _⟩ => rfl

/-- The logistic function of the gate. -/
theorem ref_sig (i : Fin 2048) (f : Fin 5632) :
    val_main_v6_2 (F := Ideal) x0 x1 (ix2 i f) = Ffn.sig (Ffn.GU (args x0 x1 x2 x3 x4) i (Ffn.col 0 f)) := by
  have e1 : Ideal.ofBits .f32 0x3F800000#32 = 1 := Ideal.ofBits_one_f32
  show Ideal.div (Ideal.ofBits .f32 0x3F800000#32) (Ideal.ofBits .f32 0x3F800000#32 + Ideal.exp (-(val_main_v4 (F := Ideal) x0 x1 (ix2 i f)))) = _
  rw [e1, ref_gate x0 x1 x2 x3 x4]
  rfl
/-- The activation. -/
theorem ref_act (i : Fin 2048) (f : Fin 5632) : val_main_v7 (F := Ideal) x0 x1 (ix2 i f) = Ffn.A (args x0 x1 x2 x3 x4) i f := by
  show val_main_v4 (F := Ideal) x0 x1 (ix2 i f) * val_main_v6_2 (F := Ideal) x0 x1 (ix2 i f) * val_main_v5 (F := Ideal) x0 x1 (ix2 i f) = _
  rw [ref_gate x0 x1 x2 x3 x4, ref_sig x0 x1 x2 x3 x4, ref_value x0 x1 x2 x3 x4]
  rfl
/-- The block's result. -/
theorem ref_y (i l : Fin 2048) : val_main_v11 (F := Ideal) x0 x1 x2 x3 (ix2 i l) = Ffn.Y (args x0 x1 x2 x3 x4) i l := by
  show x3 (ix2 i l) + Ideal.ofBits .f32 0x3F000000#32 * val_main_v8 (F := Ideal) x0 x1 x2 (ix2 i l) = x3 (ix2 i l) + Ffn.half * _
  refine congrArg (fun z => x3 (ix2 i l) + Ffn.half * z) ?_
  rw [val_main_v8_apply]
  refine Finset.sum_congr rfl fun f _ => ?_
  have e : lidx_main_v8 (ix2 i l) f = ix2 i f := funext fun k => match k with
    | ⟨0, _⟩ => rfl
    | ⟨1, _⟩ => rfl
  have e' : ridx_main_v8 (ix2 i l) f = ix2 f l := funext fun k => match k with
    | ⟨0, _⟩ => rfl
    | ⟨1, _⟩ => rfl
  rw [e, e', ref_act x0 x1 x2 x3 x4]
  rfl
/-- The gradient at the activation, the half taken inside the product. -/
theorem ref_dact (i : Fin 2048) (f : Fin 5632) :
    val_main_v17 (F := Ideal) x2 x4 (ix2 i f) = ∑ l : Fin 2048, Ffn.half * x4 (ix2 i l) * x2 (ix2 f l) := by
  unfold Ffn.half
  pointwise [val_main_v17, val_main_v14, val_main_v13, val_main_cst_0, val_main_v12, val_main_v3]
/-- The gradient of the last weights, the half taken inside the product. -/
theorem ref_dwd (f : Fin 5632) (l : Fin 2048) :
    val_main_v34 (F := Ideal) x0 x1 x4 (ix2 f l) = ∑ i : Fin 2048, Ffn.half * x4 (ix2 i l) * Ffn.A (args x0 x1 x2 x3 x4) i f := by
  have h : val_main_v34 (F := Ideal) x0 x1 x4 (ix2 f l) = val_main_v15 (F := Ideal) x0 x1 x4 (ix2 l f) := by
    show val_main_v16 (F := Ideal) x0 x1 x4 (ix2 f l) = _
    rw [val_main_v16_apply]
    exact congrArg _ (funext fun k => match k with
      | ⟨0, _⟩ => rfl
      | ⟨1, _⟩ => rfl)
  rw [h, val_main_v15_apply]
  refine Finset.sum_congr rfl fun i _ => ?_
  have e : lidx_main_v15 (ix2 l f) i = ix2 i l := funext fun k => match k with
    | ⟨0, _⟩ => rfl
    | ⟨1, _⟩ => rfl
  have e' : ridx_main_v15 (ix2 l f) i = ix2 i f := funext fun k => match k with
    | ⟨0, _⟩ => rfl
    | ⟨1, _⟩ => rfl
  rw [e, e', ref_act x0 x1 x2 x3 x4]
  rfl

/-- The gradient at the gates and values, as jax writes it. -/
def refD (b : Fin 2) (i : Fin 2048) (f : Fin 5632) : EReal :=
  let g := Ffn.GU (args x0 x1 x2 x3 x4) i (Ffn.col 0 f)
  let u := Ffn.GU (args x0 x1 x2 x3 x4) i (Ffn.col 1 f)
  let d := ∑ l : Fin 2048, Ffn.half * x4 (ix2 i l) * x2 (ix2 f l)
  if b.val = 0 then d * u * Ffn.sig g + g * (d * u) * (Ffn.sig g * (1 - Ffn.sig g)) else g * Ffn.sig g * d

theorem ref_dgates (i : Fin 2048) (f : Fin 5632) : val_main_v20 (F := Ideal) x0 x1 x2 x4 (ix2 i f) = refD x0 x1 x2 x3 x4 0 i f := by
  have e1 : Ideal.ofBits .f32 0x3F800000#32 = 1 := Ideal.ofBits_one_f32
  show val_main_v17 (F := Ideal) x2 x4 (ix2 i f) * val_main_v5 (F := Ideal) x0 x1 (ix2 i f) * val_main_v6_2 (F := Ideal) x0 x1 (ix2 i f)
    + val_main_v4 (F := Ideal) x0 x1 (ix2 i f) * (val_main_v17 (F := Ideal) x2 x4 (ix2 i f) * val_main_v5 (F := Ideal) x0 x1 (ix2 i f))
      * (val_main_v6_2 (F := Ideal) x0 x1 (ix2 i f) * (Ideal.ofBits .f32 0x3F800000#32 - val_main_v6_2 (F := Ideal) x0 x1 (ix2 i f))) = _
  rw [e1, ref_gate x0 x1 x2 x3 x4, ref_sig x0 x1 x2 x3 x4, ref_value x0 x1 x2 x3 x4, ref_dact]
  rfl
theorem ref_dvalues (i : Fin 2048) (f : Fin 5632) : val_main_v18 (F := Ideal) x0 x1 x2 x4 (ix2 i f) = refD x0 x1 x2 x3 x4 1 i f := by
  show val_main_v4 (F := Ideal) x0 x1 (ix2 i f) * val_main_v6_2 (F := Ideal) x0 x1 (ix2 i f) * val_main_v17 (F := Ideal) x2 x4 (ix2 i f) = _
  rw [ref_gate x0 x1 x2 x3 x4, ref_sig x0 x1 x2 x3 x4, ref_dact]
  rfl
/-- Both gradients side by side. -/
theorem ref_both (b : Fin 2) (i : Fin 2048) (f : Fin 5632) :
    val_main_v21 (F := Ideal) x0 x1 x2 x4 (ix2 i (Ffn.col b f)) = refD x0 x1 x2 x3 x4 b i f := by
  unfold val_main_v21
  match b with
  | ⟨0, _⟩ =>
    refine (concatenate_pair_apply_left 1 (val_main_v20 (F := Ideal) x0 x1 x2 x4) (val_main_v18 (F := Ideal) x0 x1 x2 x4)
      concatenates_S2048x5632_S2048x5632_S2048x11264_d1 (ix2 i (Ffn.col 0 f)) rfl (ix2 i f) fun k => ?_).trans (ref_dgates x0 x1 x2 x3 x4 i f)
    match k with
    | ⟨0, _⟩ => rfl
    | ⟨1, _⟩ => show f.val = 5632 * 0 + f.val; omega
  | ⟨1, _⟩ =>
    refine (concatenate_pair_apply_right 1 (val_main_v20 (F := Ideal) x0 x1 x2 x4) (val_main_v18 (F := Ideal) x0 x1 x2 x4)
      concatenates_S2048x5632_S2048x5632_S2048x11264_d1 (ix2 i (Ffn.col 1 f)) rfl rfl (ix2 i f) (fun k hk => ?_) ?_).trans (ref_dvalues x0 x1 x2 x3 x4 i f)
    · match k with
      | ⟨0, _⟩ => rfl
      | ⟨1, _⟩ => exact absurd rfl hk
    · show f.val + 5632 = 5632 * 1 + f.val; omega
/-- The gradient at the gates and values. -/
theorem ref_dgu (b : Fin 2) (i : Fin 2048) (f : Fin 5632) : val_main_v29 (F := Ideal) x0 x1 x2 x4 (ix3 b i f) = refD x0 x1 x2 x3 x4 b i f := by
  refine Eq.trans ?_ (ref_both x0 x1 x2 x3 x4 b i f)
  pointwise [val_main_v29, val_main_v28, val_main_v27]
  refine congrArg (val_main_v21 (F := Ideal) x0 x1 x2 x4) (congrArg (ix2 i) (Fin.ext ?_))
  show b.val * 5632 + f.val = 5632 * b.val + f.val
  omega
/-- The gradient of the gates' and values' weights, by chunks of columns. -/
theorem ref_dw (l : Fin 2048) (k : Fin 8) (q : Fin 1408) :
    val_main_v26 (F := Ideal) x0 x1 x2 x4 (ix3 k l q)
      = ∑ i : Fin 2048, refD x0 x1 x2 x3 x4 ⟨k.val / 4, by omega⟩ i ⟨1408 * (k.val % 4) + q.val, by omega⟩ * x0 (ix2 i l) := by
  have hk : (Ffn.col ⟨k.val / 4, by omega⟩ ⟨1408 * (k.val % 4) + q.val, by omega⟩).val = k.val * 1408 + q.val := by
    show 5632 * (k.val / 4) + (1408 * (k.val % 4) + q.val) = _
    omega
  have h : val_main_v26 (F := Ideal) x0 x1 x2 x4 (ix3 k l q)
      = val_main_v22 (F := Ideal) x0 x1 x2 x4 (ix2 (Ffn.col ⟨k.val / 4, by omega⟩ ⟨1408 * (k.val % 4) + q.val, by omega⟩) l) := by
    pointwise [val_main_v26, val_main_v25, val_main_v23]
    exact congrArg (fun z => val_main_v22 (F := Ideal) x0 x1 x2 x4 (ix2 z l)) (Fin.ext hk.symm)
  rw [h, val_main_v22_apply]
  refine Finset.sum_congr rfl fun i _ => ?_
  exact congrArg₂ (· * ·) ((congrArg _ (funext fun a => match a with
    | ⟨0, _⟩ => rfl
    | ⟨1, _⟩ => rfl)).trans (ref_both x0 x1 x2 x3 x4 _ i _)) (congrArg x0 (funext fun a => match a with
    | ⟨0, _⟩ => rfl
    | ⟨1, _⟩ => rfl))
/-- Its lower and its upper half of the rows. -/
theorem ref_lo (k : Fin 8) (r : Fin 1024) (q : Fin 1408) :
    val_main_v31 (F := Ideal) x0 x1 x2 x4 (ix3 k r q) = val_main_v26 (F := Ideal) x0 x1 x2 x4 (ix3 k ⟨r.val, by omega⟩ q) := by
  pointwise [val_main_v31, val_main_v30]
theorem ref_hi (k : Fin 8) (r : Fin 1024) (q : Fin 1408) :
    val_main_v33 (F := Ideal) x0 x1 x2 x4 (ix3 k r q) = val_main_v26 (F := Ideal) x0 x1 x2 x4 (ix3 k ⟨1024 + r.val, by omega⟩ q) := by
  pointwise [val_main_v33, val_main_v32]

end Cert.Reference2Ideal.Value

end
-- ==== Proof.Ffn.Finite2.lean ====
/-
  The feed-forward precondition, and what it gives: every number on the way is real, and the two ways of writing
  the gradients agree.
-/
module

public import proofs.«01_k».proof.Pre_finite2
public import proofs.«01_k».proof.Proof.Attn.Finite
public import proofs.«01_k».proof.Proof.Attn.SpecReal
public import proofs.«01_k».proof.Proof.Ffn.Spec
import Idealize.ShloMosaic.Lib.IdealHost

@[expose] public section

noncomputable section

namespace Cert.Pre_finite2

open Idealize.ShloMosaic

/-- The side conditions of the precondition's operations. -/
theorem facts : Facts where
  bitsLt_bf16_f32 := by decide
  bcast_S_S2048x2048 := by decide
  bcast_S_S2048x11264 := by decide
  bcast_S_S5632x2048 := by decide

variable [Facts] (x0 : FVec Ideal S2048x2048 .bf16) (x1 : FVec Ideal S2048x11264 .bf16) (x2 : FVec Ideal S5632x2048 .bf16) (x3 : FVec Ideal S2048x2048 .f32)
  (x4 : FVec Ideal S2048x2048 .bf16)

/-! The precondition gives a real number at every index of every argument but the residual. -/

theorem real0 (h : (fn x0 x1 x2 x3 x4).1 = fun _ => 1#1) (i : S2048x2048.Idx) : ∃ y : ℝ, x0 i = y := Cert.Pre_finite.real_of_lt _ (congrFun h i)
theorem real1 (h : (fn x0 x1 x2 x3 x4).2.1 = fun _ => 1#1) (i : S2048x11264.Idx) : ∃ y : ℝ, x1 i = y := Cert.Pre_finite.real_of_lt _ (congrFun h i)
theorem real2 (h : (fn x0 x1 x2 x3 x4).2.2.1 = fun _ => 1#1) (i : S5632x2048.Idx) : ∃ y : ℝ, x2 i = y := Cert.Pre_finite.real_of_lt _ (congrFun h i)
theorem real4 (h : (fn x0 x1 x2 x3 x4).2.2.2 = fun _ => 1#1) (i : S2048x2048.Idx) : ∃ y : ℝ, x4 i = y := Cert.Pre_finite.real_of_lt _ (congrFun h i)

end Cert.Pre_finite2

namespace Ffn

open Idealize.ShloMosaic

/-- One half is a number that is not negative and not infinite. -/
theorem half_eq : half = ((1 / 2 : ℝ) : EReal) := by
  simp [half, Ideal.ofBits, Ideal.ieee]
  rw [← EReal.coe_mul]
  norm_num
theorem half_nonneg : 0 ≤ half := by rw [half_eq]; exact EReal.coe_nonneg.mpr (by norm_num)
theorem half_ne_top : half ≠ ⊤ := by rw [half_eq]; exact EReal.coe_ne_top _
/-- The half of a sum is the sum of the halves. -/
theorem half_sum {N : ℕ} (x : Fin N → EReal) : half * ∑ d, x d = ∑ d, half * x d := by
  refine Finset.induction_on (Finset.univ : Finset (Fin N)) (by simp) fun d s hd ih => ?_
  rw [Finset.sum_insert hd, Finset.sum_insert hd, EReal.left_distrib_of_nonneg_of_ne_top half_nonneg half_ne_top, ih]
/-- The logistic function of a real number is real. -/
theorem sig_real (g : ℝ) : ∃ s : ℝ, sig g = s := by
  refine ⟨1 * (1 + Real.exp (-g))⁻¹, ?_⟩
  have hp : (0 : ℝ) < 1 + Real.exp (-g) := by positivity
  have e : (1 : EReal) + Ideal.exp (-(g : EReal)) = ((1 + Real.exp (-g) : ℝ) : EReal) := by
    rw [← EReal.coe_neg, EReal.coe_add]; rfl
  unfold sig Ideal.div
  rw [e, if_neg (by rw [EReal.coe_eq_zero]; exact hp.ne'), EReal.coe_mul, EReal.coe_inv]
  rfl

/-- The gradient at a gate, in the kernel's form and in jax's. -/
theorem gate_eq (d g u : ℝ) : actG d g u = (d : EReal) * u * sig g + g * (d * u) * (sig g * (1 - sig g)) := by
  obtain ⟨s, hs⟩ := sig_real g
  unfold actG
  rw [hs]
  norm_cast
  ring

/-- Every argument but the residual is real. -/
structure Args.Real (a : Args) : Prop where
  h : ∀ i l, ∃ y : ℝ, a.h i l = y
  wgu : ∀ l f, ∃ y : ℝ, a.wgu l f = y
  wd : ∀ f l, ∃ y : ℝ, a.wd f l = y
  dy : ∀ i l, ∃ y : ℝ, a.dy i l = y

variable (a : Args) (ha : a.Real)

/-- The gradient at the activation with the half inside the product. -/
theorem dA_eq (i : Fin 2048) (f : Fin 5632) : ∑ l : Fin 2048, half * a.dy i l * a.wd f l = dA a i f := by
  unfold dA
  rw [half_sum]
  exact Finset.sum_congr rfl fun l _ => mul_assoc _ _ _
/-- The gradient of the last weights with the half inside the product. -/
theorem dWd_eq (f : Fin 5632) (l : Fin 2048) : ∑ i : Fin 2048, half * a.dy i l * A a i f = dWd a f l := by
  unfold dWd
  rw [half_sum]
  exact Finset.sum_congr rfl fun i _ => by rw [mul_assoc, mul_comm (a.dy i l)]

include ha

/-- The gates and values, and the gradient at the activation, are real. -/
theorem GU_real (i : Fin 2048) (f : Fin 11264) : ∃ y : ℝ, GU a i f = y := Cert.Attn.dot_real _ _ (ha.h i) fun l => ha.wgu l f
theorem dA_real (i : Fin 2048) (f : Fin 5632) : ∃ y : ℝ, dA a i f = y := by
  obtain ⟨z, hz⟩ := Cert.Attn.dot_real (fun l => a.dy i l) (fun l => a.wd f l) (ha.dy i) (ha.wd f)
  refine ⟨1 / 2 * z, ?_⟩
  unfold dA
  rw [hz, half_eq, EReal.coe_mul]

/-- The gradient at the gates and values, as jax writes it, is the kernel's. -/
theorem D_eq (b : Fin 2) (i : Fin 2048) (f : Fin 5632) :
    (if b.val = 0 then dA a i f * GU a i (col 1 f) * sig (GU a i (col 0 f))
        + GU a i (col 0 f) * (dA a i f * GU a i (col 1 f)) * (sig (GU a i (col 0 f)) * (1 - sig (GU a i (col 0 f))))
      else GU a i (col 0 f) * sig (GU a i (col 0 f)) * dA a i f) = D a b i f := by
  obtain ⟨d, hd⟩ := dA_real a ha i f
  obtain ⟨g, hg⟩ := GU_real a ha i (col 0 f)
  obtain ⟨u, hu⟩ := GU_real a ha i (col 1 f)
  unfold D
  rw [hd, hg, hu, ← gate_eq]
  unfold actU
  rw [mul_comm (d : EReal)]

end Ffn

end
-- ==== Proof.Ffn.Claim2.lean ====
/-
  The feed-forward block and its gradients: the claims of its program.
-/
module

public import proofs.«01_k».proof.Defs
public import proofs.«01_k».proof.Proof.Ffn.Run
public import proofs.«01_k».proof.Proof.Ffn.Ref
public import proofs.«01_k».proof.Proof.Ffn.Finite2
import Idealize.ShloMosaic.Lib.IdealHost

@[expose] public section

noncomputable section

namespace Cert.Proof

open Idealize.ShloMosaic Idealize.SL.Sem

/-- The reference runs and leaves its arguments. -/
theorem frame_ri2 : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

section
variable (x0 : Vec Ideal Cert.Reference2Ideal.S2048x2048 .bf16) (x1 : Vec Ideal Cert.Reference2Ideal.S2048x11264 .bf16)
  (x2 : Vec Ideal Cert.Reference2Ideal.S5632x2048 .bf16) (x3 : Vec Ideal Cert.Reference2Ideal.S2048x2048 .f32) (x4 : Vec Ideal Cert.Reference2Ideal.S2048x2048 .bf16)
  (a : Ffn.Args) (e : a = Cert.Reference2Ideal.Value.args x0 x1 x2 x3 x4)
include e

/-! The reference's arrays, in the kernel's form: the block's result, the gradient of the last weights, and, of real
    arguments, the gradient at the gates and values and the halves of their weights' gradient. -/

theorem arr_y : Cert.Reference2Ideal.Read.val_main_v11 (F := Ideal) x0 x1 x2 x3 = fun y : Cert.Reference2Ideal.S2048x2048.Idx => Ffn.Y a (y 0) (y 1) := by
  subst e
  funext y
  obtain ⟨i, l, rfl⟩ := Cert.Kernel2Ideal.Value.idx2 (a := 2048) (b := 2048) y
  exact Cert.Reference2Ideal.Value.ref_y x0 x1 x2 x3 x4 i l
theorem arr_dwd : Cert.Reference2Ideal.Read.val_main_v34 (F := Ideal) x0 x1 x4 = fun y : Cert.Reference2Ideal.S5632x2048.Idx => Ffn.dWd a (y 0) (y 1) := by
  subst e
  funext y
  obtain ⟨f, l, rfl⟩ := Cert.Kernel2Ideal.Value.idx2 (a := 5632) (b := 2048) y
  exact (Cert.Reference2Ideal.Value.ref_dwd x0 x1 x2 x3 x4 f l).trans (Ffn.dWd_eq (Cert.Reference2Ideal.Value.args x0 x1 x2 x3 x4) f l)

variable (ha : a.Real)
include ha

theorem refD_eq (b : Fin 2) (i : Fin 2048) (f : Fin 5632) : Cert.Reference2Ideal.Value.refD x0 x1 x2 x3 x4 b i f = Ffn.D a b i f := by
  refine Eq.trans ?_ (Ffn.D_eq a ha b i f)
  rw [← Ffn.dA_eq a i f]
  subst e
  rfl
theorem arr_dgu : Cert.Reference2Ideal.Read.val_main_v29 (F := Ideal) x0 x1 x2 x4 = fun y : Cert.Reference2Ideal.S2x2048x5632.Idx => Ffn.D a (y 0) (y 1) (y 2) := by
  funext y
  obtain ⟨b, i, f, rfl⟩ := Cert.Kernel2Ideal.Value.idx3 (a := 2) (b := 2048) (c := 5632) y
  exact (Cert.Reference2Ideal.Value.ref_dgu x0 x1 x2 x3 x4 b i f).trans (refD_eq x0 x1 x2 x3 x4 a e ha b i f)
theorem dw_eq (l : Fin 2048) (k : Fin 8) (q : Fin 1408) :
    Cert.Reference2Ideal.Read.val_main_v26 (F := Ideal) x0 x1 x2 x4 (ix3 k l q) = Cert.Kernel2Ideal.Value.dW a l k q := by
  refine (Cert.Reference2Ideal.Value.ref_dw x0 x1 x2 x3 x4 l k q).trans ?_
  unfold Cert.Kernel2Ideal.Value.dW Ffn.dWgu
  refine Finset.sum_congr rfl fun i _ => ?_
  rw [refD_eq x0 x1 x2 x3 x4 a e ha, mul_comm]
  subst e
  rfl
theorem arr_lo : Cert.Reference2Ideal.Read.val_main_v31 (F := Ideal) x0 x1 x2 x4
    = fun y : Cert.Reference2Ideal.S8x1024x1408.Idx => Cert.Kernel2Ideal.Value.dW a (Cert.Kernel2Ideal.Value.loRow (y 1)) (y 0) (y 2) := by
  funext y
  obtain ⟨k, r, q, rfl⟩ := Cert.Kernel2Ideal.Value.idx3 (a := 8) (b := 1024) (c := 1408) y
  exact (Cert.Reference2Ideal.Value.ref_lo x0 x1 x2 x4 k r q).trans (dw_eq x0 x1 x2 x3 x4 a e ha _ k q)
theorem arr_hi : Cert.Reference2Ideal.Read.val_main_v33 (F := Ideal) x0 x1 x2 x4
    = fun y : Cert.Reference2Ideal.S8x1024x1408.Idx => Cert.Kernel2Ideal.Value.dW a (Cert.Kernel2Ideal.Value.hiRow (y 1)) (y 0) (y 2) := by
  funext y
  obtain ⟨k, r, q, rfl⟩ := Cert.Kernel2Ideal.Value.idx3 (a := 8) (b := 1024) (c := 1408) y
  exact (Cert.Reference2Ideal.Value.ref_hi x0 x1 x2 x4 k r q).trans (dw_eq x0 x1 x2 x3 x4 a e ha _ k q)
end

/-- The kernel and the reference give the same result and the same gradients of real arguments. -/
theorem algebraic2 [Cert.Pre_finite2.Facts] : Cert.algebraic_Kernel2Ideal_Reference2Ideal_pre_finite2 := by
  intro m ρ m' ρ' hpre hagree
  refine ⟨_, _, _, _, _, Cert.Kernel2Ideal.Value.run m ρ, ?_⟩
  refine (θ_run Cert.Reference2Ideal.defs _ _).mono (fun r h c => ?_) (Cert.Reference2Ideal.Value.run (F := Ideal) m' ρ')
  obtain ⟨h0, h1, h2, h3, h4, hargs⟩ := h c
  obtain ⟨a0, a1, a2, a3, a4⟩ := hagree c
  obtain ⟨p0, p1, p2, p4⟩ := hpre c
  have ha : (Cert.Kernel2Ideal.Value.args m c).Real :=
    { h := fun i l => Cert.Pre_finite2.real0 _ _ _ _ _ p0 (ix2 i l)
      wgu := fun i l => Cert.Pre_finite2.real1 _ _ _ _ _ p1 (ix2 i l)
      wd := fun i l => Cert.Pre_finite2.real2 _ _ _ _ _ p2 (ix2 i l)
      dy := fun i l => Cert.Pre_finite2.real4 _ _ _ _ _ p4 (ix2 i l) }
  refine ⟨h0.trans ?_, h1.trans ?_, h2.trans ?_, h3.trans ?_, h4.trans ?_, hargs⟩
  · rw [Cert.Reference2Ideal.Read.val_main_v11_eq, a0, a1, a2, a3]
    exact (arr_y _ _ _ _ (m ((c.tc : Thread Cert.Kernel2Ideal.nD Cert.Kernel2Ideal.τ).loc Cert.Kernel2Ideal.main_arg4)) (Cert.Kernel2Ideal.Value.args m c) rfl).trans
      (Cert.Kernel2Ideal.Value.y_7 m ρ c).symm
  · rw [Cert.Reference2Ideal.Read.val_main_v29_eq, a0, a1, a2, a4]
    exact (arr_dgu _ _ _ (m ((c.tc : Thread Cert.Kernel2Ideal.nD Cert.Kernel2Ideal.τ).loc Cert.Kernel2Ideal.main_arg3)) _ (Cert.Kernel2Ideal.Value.args m c) rfl ha).trans
      (Cert.Kernel2Ideal.Value.dgu_7 m ρ c).symm
  · rw [Cert.Reference2Ideal.Read.val_main_v31_eq, a0, a1, a2, a4]
    exact (arr_lo _ _ _ (m ((c.tc : Thread Cert.Kernel2Ideal.nD Cert.Kernel2Ideal.τ).loc Cert.Kernel2Ideal.main_arg3)) _ (Cert.Kernel2Ideal.Value.args m c) rfl ha).trans
      (Cert.Kernel2Ideal.Value.lo_7 m ρ c).symm
  · rw [Cert.Reference2Ideal.Read.val_main_v33_eq, a0, a1, a2, a4]
    exact (arr_hi _ _ _ (m ((c.tc : Thread Cert.Kernel2Ideal.nD Cert.Kernel2Ideal.τ).loc Cert.Kernel2Ideal.main_arg3)) _ (Cert.Kernel2Ideal.Value.args m c) rfl ha).trans
      (Cert.Kernel2Ideal.Value.hi_7 m ρ c).symm
  · rw [Cert.Reference2Ideal.Read.val_main_v34_eq, a0, a1, a4]
    exact (arr_dwd _ _ (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)) _ (Cert.Kernel2Ideal.Value.args m c) rfl).trans
      (Cert.Kernel2Ideal.Value.dwd_7 m ρ c).symm

end Cert.Proof

end
-- ==== Proof.Ffn.Dh.lean ====
/-
  The gradient of the feed-forward block's input: what the kernel's four steps over the columns add up to.
-/
module

public import proofs.«01_k».proof.Proof.Gen.Kernel3Ideal.Value
public import Idealize.ShloMosaic.Lib.Pipeline.ValueKit
import Idealize.ShloMosaic.Lib.Pointwise
import Idealize.ShloMosaic.Lib.IdealHost

@[expose] public section

noncomputable section

namespace Cert.Kernel3Ideal.Value

open Idealize.ShloMosaic Idealize.ShloMosaic.TcCoe Idealize.SL.Sem Cert.Kernel3Ideal Cert.Kernel3Ideal.Gen
open Idealize.ShloMosaic.Pipeline (Dat)

theorem hz : (![0, 0] : Fin 2 → Nat) = fun _ => 0 := funext fun a => by fin_cases a <;> rfl
theorem ldO (x : Vec Ideal S512x2048 .f32) : View.ld x (Rect.unit (s := S512x2048) ![0, 0] ![512, 2048] inb_S512x2048_S512x2048_0_0) = x :=
  View.ld_unit_zero (S := S512x2048) hz _ x

/-- One step: the products of two chunks of 1408 columns are added to what was there. -/
def step (x0 : Vec Ideal S1x512x2816 .bf16) (x1 : Vec Ideal S2x2048x1408 .bf16) (acc : Vec Ideal S512x2048 .f32) : Vec Ideal S512x2048 .f32 :=
  k0_pay2 acc
    (View.ld x0 (Rect.unit (s := S1x512x2816) ![0, 0, 0] S1x512x1408.size inb_S1x512x2816_S1x512x1408_0_0_0))
    (View.ld x1 (Rect.unit (s := S2x2048x1408) ![0, 0, 0] S1x2048x1408.size inb_S2x2048x1408_S1x2048x1408_0_0_0))
    (View.ld x0 (Rect.unit (s := S1x512x2816) ![0, 0, 1408] S1x512x1408.size inb_S1x512x2816_S1x512x1408_0_0_1408))
    (View.ld x1 (Rect.unit (s := S2x2048x1408) ![1, 0, 0] S1x2048x1408.size inb_S2x2048x1408_S1x2048x1408_1_0_0))

section
variable (c : Dev nD) (i : grid0.Coords) (arg3 : Memref sig .tc .vmem S1x512x2816 .bf16) (harg3 : arg3.IsWhole)
  (arg4 : Memref sig .tc .vmem S2x2048x1408 .bf16) (harg4 : arg4.IsWhole) (arg5 : Memref sig .tc .vmem S512x2048 .f32) (harg5 : arg5.IsWhole)
  (arg6 : Memref sig .tc .vmem S512x2048 .f32) (harg6 : arg6.IsWhole)
  (x0 : Vec Ideal S1x512x2816 .bf16) (x1 : Vec Ideal S2x2048x1408 .bf16) (xs0 : Vec Ideal S512x2048 .f32)

theorem sout_A (hc0 : cond0_0 i) (hc1 : ¬cond0_1 i) :
    sout0_A_0 c i arg3 harg3 arg4 harg4 arg5 harg5 arg6 harg6 hc0 hc1 x0 x1 = step x0 x1 (k0_pay1 (F := Ideal)) := by
  unfold sout0_A_0
  refine (View.read_writes_eq_canon _ _ _ (scover0_A_0 c i arg3 harg3 arg4 harg4 arg5 harg5 arg6 harg6 hc0 hc1 x0 x1)).trans ?_
  unfold kernelRun0_A; dsimp only; sl_unfold_words
  simp only [View.readAt_eq_ld]
  rw [harg3.read_unread x0, harg4.read_unread x1]
  refine (View.canon_cons_unit_zero (S := S512x2048) hz _ _ _).trans ?_
  rw [View.readCov_unit_zero (S := S512x2048) _ hz]
  rfl

theorem sout_B (hc0 : ¬cond0_0 i) (hc1 : ¬cond0_1 i) :
    sout0_B_0 c i arg3 harg3 arg4 harg4 arg5 harg5 arg6 harg6 hc0 hc1 x0 x1 xs0 = step x0 x1 xs0 := by
  unfold sout0_B_0
  refine (View.read_writes_eq_canon _ _ _ (scover0_B_0 c i arg3 harg3 arg4 harg4 arg5 harg5 arg6 harg6 hc0 hc1 x0 x1 xs0)).trans ?_
  unfold kernelRun0_B; dsimp only; sl_unfold_words
  simp only [View.readAt_eq_ld]
  rw [harg3.read_unread x0, harg4.read_unread x1, harg6.read_unread xs0, ldO xs0]
  exact View.canon_unit_zero (S := S512x2048) hz _ _

theorem out_C (hc0 : ¬cond0_0 i) (hc1 : cond0_1 i) :
    out0_C_2 c i arg3 harg3 arg4 harg4 arg5 harg5 arg6 harg6 hc0 hc1 x0 x1 xs0 = step x0 x1 xs0 := by
  unfold out0_C_2
  refine (View.read_writes_eq_canon _ _ _ (cover0_C_2 c i arg3 harg3 arg4 harg4 arg5 harg5 arg6 harg6 hc0 hc1 x0 x1 xs0)).trans ?_
  unfold kernelRun0_C; dsimp only; sl_unfold_words
  simp only [View.readAt_eq_ld]
  rw [harg3.read_unread x0, harg4.read_unread x1, harg6.read_unread xs0, ldO xs0]
  refine (View.canon_unit_zero (S := S512x2048) hz _ _).trans ?_
  rw [View.readCov_unit_zero (S := S512x2048) _ hz]
  rfl
end

/-- Column `q` of the second chunk. -/
def second (q : Fin 1408) : Fin 2816 := ⟨1408 + q.val, by omega⟩
def first (q : Fin 1408) : Fin 2816 := ⟨q.val, by omega⟩

theorem ld_first (x0 : Vec Ideal S1x512x2816 .bf16) (r : Fin 512) (q : Fin 1408) :
    View.ld x0 (Rect.unit (s := S1x512x2816) ![0, 0, 0] ![1, 512, 1408] inb_S1x512x2816_S1x512x1408_0_0_0) (ix3 0 r q) = x0 (ix3 0 r (first q)) := by
  refine congrArg x0 (funext fun a => Fin.ext ?_)
  match a with
  | ⟨0, _⟩ => rfl
  | ⟨1, _⟩ => show 0 + 1 * r.val = r.val; omega
  | ⟨2, _⟩ => show 0 + 1 * q.val = q.val; omega
theorem ld_second (x0 : Vec Ideal S1x512x2816 .bf16) (r : Fin 512) (q : Fin 1408) :
    View.ld x0 (Rect.unit (s := S1x512x2816) ![0, 0, 1408] ![1, 512, 1408] inb_S1x512x2816_S1x512x1408_0_0_1408) (ix3 0 r q) = x0 (ix3 0 r (second q)) := by
  refine congrArg x0 (funext fun a => Fin.ext ?_)
  match a with
  | ⟨0, _⟩ => rfl
  | ⟨1, _⟩ => show 0 + 1 * r.val = r.val; omega
  | ⟨2, _⟩ => show 1408 + 1 * q.val = 1408 + q.val; omega
theorem ld_w0 (x1 : Vec Ideal S2x2048x1408 .bf16) (r : Fin 2048) (q : Fin 1408) :
    View.ld x1 (Rect.unit (s := S2x2048x1408) ![0, 0, 0] ![1, 2048, 1408] inb_S2x2048x1408_S1x2048x1408_0_0_0) (ix3 0 r q) = x1 (ix3 0 r q) := by
  refine congrArg x1 (funext fun a => Fin.ext ?_)
  match a with
  | ⟨0, _⟩ => rfl
  | ⟨1, _⟩ => show 0 + 1 * r.val = r.val; omega
  | ⟨2, _⟩ => show 0 + 1 * q.val = q.val; omega
theorem ld_w1 (x1 : Vec Ideal S2x2048x1408 .bf16) (r : Fin 2048) (q : Fin 1408) :
    View.ld x1 (Rect.unit (s := S2x2048x1408) ![1, 0, 0] ![1, 2048, 1408] inb_S2x2048x1408_S1x2048x1408_1_0_0) (ix3 0 r q) = x1 (ix3 1 r q) := by
  refine congrArg x1 (funext fun a => Fin.ext ?_)
  match a with
  | ⟨0, _⟩ => rfl
  | ⟨1, _⟩ => show 0 + 1 * r.val = r.val; omega
  | ⟨2, _⟩ => show 0 + 1 * q.val = q.val; omega

theorem pay2_apply (acc : Vec Ideal S512x2048 .f32) (v4 : Vec Ideal S1x512x1408 .bf16) (v6 : Vec Ideal S1x2048x1408 .bf16) (v9 : Vec Ideal S1x512x1408 .bf16)
    (v11 : Vec Ideal S1x2048x1408 .bf16) (r : Fin 512) (l : Fin 2048) :
    k0_pay2 acc v4 v6 v9 v11 (ix2 r l)
      = acc (ix2 r l) + ((∑ q : Fin 1408, v4 (ix3 0 r q) * v6 (ix3 0 l q)) + ∑ q : Fin 1408, v9 (ix3 0 r q) * v11 (ix3 0 l q)) := by
  pointwise [k0_pay2]

theorem step_apply (x0 : Vec Ideal S1x512x2816 .bf16) (x1 : Vec Ideal S2x2048x1408 .bf16) (acc : Vec Ideal S512x2048 .f32) (r : Fin 512) (l : Fin 2048) :
    step x0 x1 acc (ix2 r l) = acc (ix2 r l)
      + ((∑ q : Fin 1408, x0 (ix3 0 r (first q)) * x1 (ix3 0 l q)) + ∑ q : Fin 1408, x0 (ix3 0 r (second q)) * x1 (ix3 1 l q)) := by
  unfold step
  rw [pay2_apply]
  exact congrArg (acc (ix2 r l) + ·) (congrArg₂ (· + ·)
    (Finset.sum_congr rfl fun q _ => congrArg₂ (· * ·) (ld_first x0 r q) (ld_w0 x1 l q))
    (Finset.sum_congr rfl fun q _ => congrArg₂ (· * ·) (ld_second x0 r q) (ld_w1 x1 l q)))

theorem start_apply (r : Fin 512) (l : Fin 2048) : k0_pay1 (F := Ideal) (ix2 r l) = 0 := by
  pointwise [k0_pay1]

/-! ## The blocks -/

variable (m : (ℓ : Loc nD τ sig) → Buf (Elt Ideal) ℓ) (c : Dev nD)

/-- The arguments, by coordinates. -/
def dgu (i : Fin 2048) (f : Fin 11264) : EReal := (m ((c : Thread nD τ).loc main_arg0) : Vec Ideal S2048x11264 .bf16) (ix2 i f)
def wgu (l : Fin 2048) (f : Fin 11264) : EReal := (m ((c : Thread nD τ).loc main_arg1) : Vec Ideal S2048x11264 .bf16) (ix2 l f)

theorem V_d : V m c main_v1 = transpose S2x2048x5632 [1, 0, 2] (shapeCast S2048x2x5632 (m ((c : Thread nD τ).loc main_arg0) : Vec Ideal S2048x11264 .bf16) shapeCasts_S2048x11264_S2048x2x5632)
    transposes_S2048x2x5632_S2x2048x5632_1_0_2 := by
  rfl
theorem V_w : V m c main_v3 = transpose S8x2048x1408 [1, 0, 2] (shapeCast S2048x8x1408 (m ((c : Thread nD τ).loc main_arg1) : Vec Ideal S2048x11264 .bf16) shapeCasts_S2048x11264_S2048x8x1408)
    transposes_S2048x8x1408_S8x2048x1408_1_0_2 := by
  rfl

theorem half_apply (x : Vec Ideal S2048x11264 .bf16) (b : Fin 2) (i : Fin 2048) (f : Fin 5632) :
    transpose S2x2048x5632 [1, 0, 2] (shapeCast S2048x2x5632 x shapeCasts_S2048x11264_S2048x2x5632) transposes_S2048x2x5632_S2x2048x5632_1_0_2 (ix3 b i f)
      = x (ix2 i ⟨b.val * 5632 + f.val, by omega⟩) := by
  pointwise
theorem chunk_apply (x : Vec Ideal S2048x11264 .bf16) (b : Fin 8) (i : Fin 2048) (f : Fin 1408) :
    transpose S8x2048x1408 [1, 0, 2] (shapeCast S2048x8x1408 x shapeCasts_S2048x11264_S2048x8x1408) transposes_S2048x8x1408_S8x2048x1408_1_0_2 (ix3 b i f)
      = x (ix2 i ⟨b.val * 1408 + f.val, by omega⟩) := by
  pointwise

theorem at_0 : ∀ t : Fin grid0.N, win0_0.index t 0 = (t.val % 4) / 2 ∧ win0_0.index t 1 = t.val / 4 ∧ win0_0.index t 2 = t.val % 2 := by decide +kernel
theorem at_1 : ∀ t : Fin grid0.N, win0_1.index t 0 = t.val % 4 ∧ win0_1.index t 1 = 0 ∧ win0_1.index t 2 = 0 := by decide +kernel

/-- Row `r` of block `t / 4`, and column `q` of the columns of step `t % 4`. -/
def rowOf (t : Nat) (ht : t < 16) (r : Fin 512) : Fin 2048 := ⟨512 * (t / 4) + r.val, by omega⟩
def colOf (t : Nat) (q : Fin 2816) : Fin 11264 := ⟨2816 * (t % 4) + q.val, by omega⟩

theorem iblk0 (t : Fin cfg0.N) (r : Fin 512) (q : Fin 2816) :
    (iblk m c 0 t : Vec Ideal S1x512x2816 .bf16) (ix3 0 r q) = dgu m c (rowOf t.val t.isLt r) (colOf t.val q) := by
  unfold iblk
  rw [View.read_apply]
  show V m c main_v1 _ = _
  have e : ((win0_0.blk t).view.emb (ix3 0 r q) : S2x2048x5632.Idx)
      = ix3 ⟨(t.val % 4) / 2, by omega⟩ (rowOf t.val t.isLt r) ⟨2816 * (t.val % 2) + q.val, by omega⟩ := by
    funext a; apply Fin.ext
    match a with
    | ⟨0, _⟩ => show win0_0.index t 0 * 1 + 1 * 0 = _; rw [(at_0 t).1]; show _ = (t.val % 4) / 2; omega
    | ⟨1, _⟩ => show win0_0.index t 1 * 512 + 1 * r.val = _; rw [(at_0 t).2.1]; show _ = 512 * (t.val / 4) + r.val; omega
    | ⟨2, _⟩ => show win0_0.index t 2 * 2816 + 1 * q.val = _; rw [(at_0 t).2.2]; show _ = 2816 * (t.val % 2) + q.val; omega
  rw [show ((cfg0.win 0).blk t).view.emb (ix3 0 r q) = _ from e, V_d, half_apply]
  unfold dgu
  congr 2
  apply Fin.ext
  show ((t.val % 4) / 2) * 5632 + (2816 * (t.val % 2) + q.val) = 2816 * (t.val % 4) + q.val
  omega

theorem iblk1 (t : Fin cfg0.N) (b : Fin 2) (l : Fin 2048) (q : Fin 1408) :
    (iblk m c 1 t : Vec Ideal S2x2048x1408 .bf16) (ix3 b l q) = wgu m c l (colOf t.val ⟨1408 * b.val + q.val, by omega⟩) := by
  unfold iblk
  rw [View.read_apply]
  show V m c main_v3 _ = _
  have e : ((win0_1.blk t).view.emb (ix3 b l q) : S8x2048x1408.Idx) = ix3 ⟨2 * (t.val % 4) + b.val, by omega⟩ l q := by
    funext a; apply Fin.ext
    match a with
    | ⟨0, _⟩ => show win0_1.index t 0 * 2 + 1 * b.val = _; rw [(at_1 t).1]; show _ = 2 * (t.val % 4) + b.val; omega
    | ⟨1, _⟩ => show win0_1.index t 1 * 2048 + 1 * l.val = _; rw [(at_1 t).2.1]; show _ = l.val; omega
    | ⟨2, _⟩ => show win0_1.index t 2 * 1408 + 1 * q.val = _; rw [(at_1 t).2.2]; show _ = q.val; omega
  rw [show ((cfg0.win 1).blk t).view.emb (ix3 b l q) = _ from e, V_w, chunk_apply]
  unfold wgu
  congr 2
  apply Fin.ext
  show (2 * (t.val % 4) + b.val) * 1408 + q.val = 2816 * (t.val % 4) + (1408 * b.val + q.val)
  omega

/-- The products of the columns of step `k`, at a row and a column of the result. -/
def part (i l : Fin 2048) (k : Nat) : EReal := ∑ q : Fin 2816, dgu m c i (colOf k q) * wgu m c l (colOf k q)

theorem two_chunks (f : Fin 2816 → EReal) : (∑ q : Fin 1408, f (first q)) + ∑ q : Fin 1408, f (second q) = ∑ q : Fin 2816, f q :=
  (Fin.sum_univ_add (a := 1408) (b := 1408) f).symm

theorem step_part (t : Fin cfg0.N) (acc : Vec Ideal S512x2048 .f32) (r : Fin 512) (l : Fin 2048) :
    step (iblk m c 0 t) (iblk m c 1 t) acc (ix2 r l) = acc (ix2 r l) + part m c (rowOf t.val t.isLt r) l t.val := by
  rw [step_apply]
  congr 1
  unfold part
  rw [← two_chunks]
  congr 1 <;> refine Finset.sum_congr rfl fun q _ => ?_
  · rw [iblk0, iblk1]
    congr 3; apply Fin.ext; show 1408 * 0 + q.val = q.val; omega
  · rw [iblk0, iblk1]
    rfl

theorem part_mod (i l : Fin 2048) (k k' : Nat) (h : k % 4 = k' % 4) : part m c i l k = part m c i l k' := by
  unfold part colOf
  simp only [h]

theorem carried (r : Fin 512) (l : Fin 2048) (t : Fin cfg0.N) (h3 : t.val % 4 < 3) :
    (outsAt0 m c t.val t.isLt).2 (ix2 r l) = ∑ j ∈ Finset.range (t.val % 4 + 1), part m c (rowOf t.val t.isLt r) l j := by
  obtain ⟨n, hn⟩ := t
  induction n with
  | zero =>
    rw [outsAt0_A m c ⟨0, hn⟩ rfl (show ¬(0 % 4 = 3) by decide)]
    dsimp only
    rw [sout_A, step_part, start_apply, Finset.sum_range_one, zero_add (part m c _ l 0)]
  | succ n ih =>
    have h16 : n + 1 < 16 := hn
    dsimp only at h3
    by_cases h0 : (n + 1) % 4 = 0
    · rw [outsAt0_A m c ⟨n + 1, hn⟩ h0 (by dsimp only; omega)]
      dsimp only
      rw [sout_A, step_part, start_apply, h0, Finset.sum_range_one, zero_add (part m c _ l (n + 1))]
      exact part_mod m c _ l _ _ h0
    · rw [outsAt0_B m c ⟨n + 1, hn⟩ h0 (by dsimp only; omega)]
      dsimp only
      have e := ih (Nat.lt_of_succ_lt hn) (by dsimp only; omega)
      dsimp only at e
      have hr : rowOf n (Nat.lt_of_succ_lt h16) r = rowOf (n + 1) h16 r := Fin.ext (by show 512 * (n / 4) + r.val = 512 * ((n + 1) / 4) + r.val; omega)
      rw [sout_B, step_part]
      refine (congrArg (· + part m c (rowOf (n + 1) h16 r) l (n + 1)) e).trans ?_
      rw [show (n + 1) % 4 = n % 4 + 1 by omega, Finset.sum_range_succ _ (n % 4 + 1), hr, part_mod m c _ l (n + 1) (n % 4 + 1) (by omega)]

/-- The sum over the columns. -/
def Dh (i l : Fin 2048) : EReal := ∑ f : Fin 11264, dgu m c i f * wgu m c l f

theorem four_parts (i l : Fin 2048) : ∑ j ∈ Finset.range 4, part m c i l j = Dh m c i l := by
  unfold Dh
  rw [Finset.sum_range, ← Equiv.sum_comp (finProdFinEquiv (m := 4) (n := 2816)), Fintype.sum_prod_type]
  refine Finset.sum_congr rfl fun j _ => Finset.sum_congr rfl fun q _ => ?_
  have e : colOf j.val q = finProdFinEquiv (j, q) := Fin.ext (by show 2816 * (j.val % 4) + q.val = q.val + 2816 * j.val; omega)
  rw [e]

theorem flushed_at (r : Fin 512) (l : Fin 2048) (t : Fin cfg0.N) (h3 : t.val % 4 = 3) :
    (outsAt0 m c t.val t.isLt).1 (ix2 r l) = Dh m c (rowOf t.val t.isLt r) l := by
  have ht : t.val < 16 := t.isLt
  rw [outsAt0_C m c t (by omega) h3]
  dsimp only
  have hr : rowOf (t.val - 1) (by omega) r = rowOf t.val t.isLt r := Fin.ext (by show 512 * ((t.val - 1) / 4) + r.val = 512 * (t.val / 4) + r.val; omega)
  have e := carried m c r l ⟨t.val - 1, Nat.lt_of_le_of_lt (Nat.sub_le _ _) t.isLt⟩ (by dsimp only; omega)
  dsimp only at e
  rw [out_C, step_part, e, hr, show (t.val - 1) % 4 + 1 = 3 by omega, part_mod m c _ l t.val 3 (by omega), ← Finset.sum_range_succ _ 3, four_parts]

theorem at_2 : ∀ t : Fin grid0.N, win0_2.index t 0 = t.val / 4 ∧ win0_2.index t 1 = 0 := by decide +kernel

/-- The array after the run. -/
theorem final : (dats m 0 c).arrAt 2 cfg0.N = fun i : S2048x2048.Idx => Dh m c (i 0) (i 1) := by
  refine (dats m 0 c).arrAt_eq_of_covers 2 _ (by decide +kernel) fun t hf y => ?_
  blk_simp
  rw [after0_2]
  obtain ⟨r, l, rfl⟩ : ∃ (r : Fin 512) (l : Fin 2048), y = ix2 r l := ⟨y 0, y 1, funext fun a => match a with | ⟨0, _⟩ => rfl | ⟨1, _⟩ => rfl⟩
  have e0 : ((win0_2.blk t).view.emb (ix2 r l) 0 : Fin 2048) = rowOf t.val t.isLt r := Fin.ext (by
    show win0_2.index t 0 * 512 + 1 * r.val = 512 * (t.val / 4) + r.val; rw [(at_2 t).1]; omega)
  have e1 : ((win0_2.blk t).view.emb (ix2 r l) 1 : Fin 2048) = l := Fin.ext (by
    show win0_2.index t 1 * 2048 + 1 * l.val = l.val; rw [(at_2 t).2]; omega)
  rw [e0, e1]
  exact flushed_at m c r l t ((flush0_2 t).mp hf)

end Cert.Kernel3Ideal.Value

end
-- ==== Proof.Ffn.DhClaim.lean ====
/-
  The gradient of the feed-forward block's input: the claims of its program.
-/
module

public import proofs.«01_k».proof.Defs
public import proofs.«01_k».proof.Proof.Gen.Kernel3.Frame
public import proofs.«01_k».proof.Proof.Gen.Reference3Ideal.Read
public import proofs.«01_k».proof.Proof.Ffn.Dh
import Idealize.ShloMosaic.Lib.Pointwise
import Idealize.ShloMosaic.Lib.IdealHost

@[expose] public section

noncomputable section

namespace Cert.Proof

open Idealize.ShloMosaic Idealize.SL.Sem

/-- The reference runs and leaves its arguments. -/
theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference's product, at a row and a column. -/
theorem ref_dh (x0 x1 : Vec Ideal Cert.Reference3Ideal.S2048x11264 .bf16) (i l : Fin 2048) :
    Cert.Reference3Ideal.Read.val_main_v4 (F := Ideal) x0 x1 (ix2 i l) = ∑ f : Fin 11264, x0 (ix2 i f) * x1 (ix2 l f) := by
  pointwise [Cert.Reference3Ideal.Read.val_main_v4, Cert.Reference3Ideal.Read.val_main_v3, Cert.Reference3Ideal.Read.val_main_v1]

/-- The kernel and the reference give the same gradient of the block's input. -/
theorem algebraic3 : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun r h c => ?_) (Cert.Reference3Ideal.Value.run (F := Ideal) m' ρ')
  obtain ⟨h0, hargs⟩ := h c
  obtain ⟨a0, a1⟩ := hagree c
  refine ⟨h0.trans ?_, hargs⟩
  rw [Cert.Reference3Ideal.Read.val_main_v4_eq, Cert.Kernel3Ideal.Value.final]
  simp only [a0, a1]
  funext i
  have e : i = ix2 (i 0) (i 1) := funext fun k => match k with
    | ⟨0, _⟩ => rfl
    | ⟨1, _⟩ => rfl
  exact (congrArg _ e).trans (ref_dh _ _ (i 0) (i 1))

end Cert.Proof

end
-- ==== Proof.In.Proj.lean ====
/-
  The mixer's input projection and the gradient of its weights: the arrays that the two calls leave, and the run.
-/
module

public import proofs.«01_k».proof.Proof.Gen.Kernel4Ideal.Frame
public import Idealize.ShloMosaic.Lib.Pipeline.ValueKit
import Idealize.ShloMosaic.Lib.Pointwise
import Idealize.ShloMosaic.Lib.IdealHost

@[expose] public section

noncomputable section

namespace Cert.Kernel4Ideal.Value

open Idealize.SL Idealize.SL.Sem Idealize.ShloMosaic Idealize.ShloMosaic.TcCoe Cert.Kernel4Ideal Cert.Kernel4Ideal.Gen

theorem hz2 : (![0, 0] : Fin 2 → Nat) = fun _ => 0 := funext fun a => by fin_cases a <;> rfl
theorem idx2 {a b : ℕ} (y : (⟨2, ![a, b]⟩ : Shape).Idx) : ∃ (r : Fin a) (q : Fin b), y = ix2 r q :=
  ⟨y 0, y 1, funext fun k => match k with | ⟨0, _⟩ => rfl | ⟨1, _⟩ => rfl⟩
theorem idx4 {a b c d : ℕ} (y : (⟨4, ![a, b, c, d]⟩ : Shape).Idx) : ∃ (k : Fin a) (p : Fin b) (r : Fin c) (q : Fin d), y = ix4 k p r q :=
  ⟨y 0, y 1, y 2, y 3, funext fun k => match k with | ⟨0, _⟩ => rfl | ⟨1, _⟩ => rfl | ⟨2, _⟩ => rfl | ⟨3, _⟩ => rfl⟩

/-! ## What the bodies leave in their blocks, two chunks of 1088 columns each -/

/-- Column `q` of chunk `b`. -/
def two (b : Fin 2) (q : Fin 1088) : Fin 2176 := ⟨1088 * b.val + q.val, by omega⟩
/-- The chunk of a column, and its place in it. -/
def chunkOf (f : Fin 2176) : Fin 2 := ⟨f.val / 1088, by omega⟩
def inChunk (f : Fin 2176) : Fin 1088 := ⟨f.val % 1088, by omega⟩
theorem chunkOf_two (b : Fin 2) (q : Fin 1088) : chunkOf (two b q) = b := Fin.ext (by show (1088 * b.val + q.val) / 1088 = b.val; omega)
theorem inChunk_two (b : Fin 2) (q : Fin 1088) : inChunk (two b q) = q := Fin.ext (by show (1088 * b.val + q.val) % 1088 = q.val; omega)
theorem two_chunkOf (f : Fin 2176) : two (chunkOf f) (inChunk f) = f := Fin.ext (by show 1088 * (f.val / 1088) + f.val % 1088 = f.val; omega)

theorem pay0_1 (v0 : Vec Ideal S512x2048 .bf16) (v1 : Vec Ideal S1x1x2048x1088 .bf16) (r : Fin 512) (q : Fin 1088) :
    k0_pay1 v0 v1 (ix2 r q) = ∑ l : Fin 2048, v0 (ix2 r l) * v1 (ix4 0 0 l q) := by
  pointwise [k0_pay1]
theorem pay0_2 (v0 : Vec Ideal S512x2048 .bf16) (v1 : Vec Ideal S1x1x2048x1088 .bf16) (r : Fin 512) (q : Fin 1088) :
    k0_pay2 v0 v1 (ix2 r q) = ∑ l : Fin 2048, v0 (ix2 r l) * v1 (ix4 0 0 l q) := by
  pointwise [k0_pay2]
theorem pay1_1 (v0 : Vec Ideal S2048x512 .bf16) (v1 : Vec Ideal S2048x1088 .bf16) (r : Fin 512) (q : Fin 1088) :
    k1_pay1 v0 v1 (ix4 0 0 r q) = ∑ i : Fin 2048, v0 (ix2 i r) * v1 (ix2 i q) := by
  pointwise [k1_pay1]
theorem pay1_2 (v0 : Vec Ideal S2048x512 .bf16) (v1 : Vec Ideal S2048x1088 .bf16) (r : Fin 512) (q : Fin 1088) :
    k1_pay2 v0 v1 (ix4 0 0 r q) = ∑ i : Fin 2048, v0 (ix2 i r) * v1 (ix2 i q) := by
  pointwise [k1_pay2]

/-- A chunk of the weights' block, read. -/
theorem ld_w (x : Vec Ideal S1x2x2048x1088 .bf16) (b : Fin 2) (h) (l : Fin 2048) (q : Fin 1088) :
    View.ld x (Rect.unit (s := S1x2x2048x1088) ![0, b.val, 0, 0] ![1, 1, 2048, 1088] h) (ix4 (n0 := 1) (n1 := 1) 0 0 l q) = x (ix4 0 b l q) := by
  refine congrArg x (funext fun a => Fin.ext ?_)
  match a with
  | ⟨0, _⟩ => rfl
  | ⟨1, _⟩ => show b.val + 1 * 0 = b.val; omega
  | ⟨2, _⟩ => show 0 + 1 * l.val = l.val; omega
  | ⟨3, _⟩ => show 0 + 1 * q.val = q.val; omega
/-- A chunk of columns of the gradient's block, read. -/
theorem ld_d (x : Vec Ideal S2048x2176 .bf16) (b : Fin 2) (h) (i : Fin 2048) (q : Fin 1088) :
    View.ld x (Rect.unit (s := S2048x2176) ![0, 1088 * b.val] ![2048, 1088] h) (ix2 i q) = x (ix2 i (two b q)) := by
  refine congrArg x (funext fun a => Fin.ext ?_)
  match a with
  | ⟨0, _⟩ => show 0 + 1 * i.val = i.val; omega
  | ⟨1, _⟩ => show 1088 * b.val + 1 * q.val = 1088 * b.val + q.val; omega
theorem emb_p (b : Fin 2) (h) (r : Fin 512) (q : Fin 1088) :
    (Rect.unit (s := S512x2176) ![0, 1088 * b.val] ![512, 1088] h).emb (ix2 r q) = ix2 r (two b q) := by
  refine funext fun a => Fin.ext ?_
  match a with
  | ⟨0, _⟩ => show 0 + 1 * r.val = r.val; omega
  | ⟨1, _⟩ => show 1088 * b.val + 1 * q.val = 1088 * b.val + q.val; omega
theorem emb_w (b : Fin 2) (h) (r : Fin 512) (q : Fin 1088) :
    (Rect.unit (s := S1x2x512x1088) ![0, b.val, 0, 0] ![1, 1, 512, 1088] h).emb (ix4 (n0 := 1) (n1 := 1) 0 0 r q) = ix4 0 b r q := by
  refine funext fun a => Fin.ext ?_
  match a with
  | ⟨0, _⟩ => rfl
  | ⟨1, _⟩ => show b.val + 1 * 0 = b.val; omega
  | ⟨2, _⟩ => show 0 + 1 * r.val = r.val; omega
  | ⟨3, _⟩ => show 0 + 1 * q.val = q.val; omega

/-- The block of the projection, and the block of the weights' gradient. -/
def projBlock (x0 : Vec Ideal S512x2048 .bf16) (x1 : Vec Ideal S1x2x2048x1088 .bf16) : Vec Ideal S512x2176 .bf16 := fun y =>
  ∑ l : Fin 2048, x0 (ix2 (y 0) l) * x1 (ix4 0 (chunkOf (y 1)) l (inChunk (y 1)))
def dwBlock (x0 : Vec Ideal S2048x512 .bf16) (x1 : Vec Ideal S2048x2176 .bf16) : Vec Ideal S1x2x512x1088 .bf16 := fun y =>
  ∑ i : Fin 2048, x0 (ix2 i (y 2)) * x1 (ix2 i (two (y 1) (y 3)))

theorem projBlock_at (x0 : Vec Ideal S512x2048 .bf16) (x1 : Vec Ideal S1x2x2048x1088 .bf16) (b : Fin 2) (r : Fin 512) (q : Fin 1088) :
    projBlock x0 x1 (ix2 r (two b q)) = ∑ l : Fin 2048, x0 (ix2 r l) * x1 (ix4 0 b l q) := by
  show (∑ l : Fin 2048, x0 (ix2 r l) * x1 (ix4 0 (chunkOf (two b q)) l (inChunk (two b q)))) = _
  rw [chunkOf_two, inChunk_two]

theorem out0_apply (x0 : Vec Ideal S512x2048 .bf16) (x1 : Vec Ideal S1x2x2048x1088 .bf16) (y : S512x2176.Idx) : out0_2 x0 x1 y = projBlock x0 x1 y := by
  unfold out0_2
  refine View.canon_apply_of_pieces (projBlock x0 x1) _ (fun p hp => ?_) y (cover0_2 _ _ y)
  simp only [List.mem_cons, List.not_mem_nil, or_false] at hp
  rcases hp with rfl | rfl <;> intro z <;> obtain ⟨r, q, rfl⟩ := idx2 (a := 512) (b := 1088) z
  · refine (pay0_2 _ _ r q).trans (Eq.trans ?_ ((congrArg (projBlock x0 x1) (emb_p 1 inb_S512x2176_S512x1088_0_1088 r q)).trans (projBlock_at x0 x1 1 r q)).symm)
    exact Finset.sum_congr rfl fun l _ => congrArg₂ (· * ·) (congrFun (View.ld_unit_zero (S := S512x2048) hz2 _ x0) _) (ld_w x1 1 _ l q)
  · refine (pay0_1 _ _ r q).trans (Eq.trans ?_ ((congrArg (projBlock x0 x1) (emb_p 0 inb_S512x2176_S512x1088_0_0 r q)).trans (projBlock_at x0 x1 0 r q)).symm)
    exact Finset.sum_congr rfl fun l _ => congrArg₂ (· * ·) (congrFun (View.ld_unit_zero (S := S512x2048) hz2 _ x0) _) (ld_w x1 0 _ l q)
theorem out1_apply (x0 : Vec Ideal S2048x512 .bf16) (x1 : Vec Ideal S2048x2176 .bf16) (y : S1x2x512x1088.Idx) : out1_2 x0 x1 y = dwBlock x0 x1 y := by
  unfold out1_2
  refine View.canon_apply_of_pieces (dwBlock x0 x1) _ (fun p hp => ?_) y (cover1_2 _ _ y)
  simp only [List.mem_cons, List.not_mem_nil, or_false] at hp
  rcases hp with rfl | rfl <;> intro z <;> obtain ⟨k, p, r, q, rfl⟩ := idx4 (a := 1) (b := 1) (c := 512) (d := 1088) z <;>
    obtain rfl : k = (0 : Fin 1) := Subsingleton.elim _ _ <;> obtain rfl : p = (0 : Fin 1) := Subsingleton.elim _ _
  · refine (pay1_2 _ _ r q).trans (Eq.trans ?_ (congrArg (dwBlock x0 x1) (emb_w 1 inb_S1x2x512x1088_S1x1x512x1088_0_1_0_0 r q)).symm)
    exact Finset.sum_congr rfl fun i _ => congrArg₂ (· * ·) (congrFun (View.ld_unit_zero (S := S2048x512) hz2 _ x0) _) (ld_d x1 1 _ i q)
  · refine (pay1_1 _ _ r q).trans (Eq.trans ?_ (congrArg (dwBlock x0 x1) (emb_w 0 inb_S1x2x512x1088_S1x1x512x1088_0_0_0_0 r q)).symm)
    exact Finset.sum_congr rfl fun i _ => congrArg₂ (· * ·) (congrFun (View.ld_unit_zero (S := S2048x512) hz2 _ x0) _) (ld_d x1 0 _ i q)

/-! ## The arrays -/

/-- Column `q` of chunk `b` of the `k`-th pair of chunks. -/
def col (k : Fin 4) (b : Fin 2) (q : Fin 1088) : Fin 8704 := ⟨2176 * k.val + (1088 * b.val + q.val), by omega⟩

section
variable (V : (c : Dev nD) → (b : Ref sig .tc) → Buf (Elt Ideal) ((c : Thread nD τ).loc b)) (c : Dev nD)
  (h : Fin 2048 → Fin 2048 → EReal) (w d : Fin 2048 → Fin 8704 → EReal)

theorem at0_0 : ∀ t : Fin grid0.N, win0_0.index t 0 = t.val % 4 ∧ win0_0.index t 1 = 0 := by decide +kernel
theorem at0_1 : ∀ t : Fin grid0.N, win0_1.index t 0 = t.val / 4 ∧ win0_1.index t 1 = 0 ∧ win0_1.index t 2 = 0 ∧ win0_1.index t 3 = 0 := by decide +kernel
theorem at0_2 : ∀ t : Fin grid0.N, win0_2.index t 0 = t.val % 4 ∧ win0_2.index t 1 = t.val / 4 := by decide +kernel
theorem at1_0 : ∀ t : Fin grid1.N, win1_0.index t 0 = 0 ∧ win1_0.index t 1 = t.val % 4 := by decide +kernel
theorem at1_1 : ∀ t : Fin grid1.N, win1_1.index t 0 = 0 ∧ win1_1.index t 1 = t.val / 4 := by decide +kernel
theorem at1_2 : ∀ t : Fin grid1.N, win1_2.index t 0 = t.val / 4 ∧ win1_2.index t 1 = 0 ∧ win1_2.index t 2 = t.val % 4 ∧ win1_2.index t 3 = 0 := by decide +kernel

/-- The pair of chunks, row `r` of the block of rows, and column `f` of the block of columns, of step `t` of sixteen. -/
def pair16 (t : Nat) (ht : t < 16) : Fin 4 := ⟨t / 4, by omega⟩
def row16 (t : Nat) (r : Fin 512) : Fin 2048 := ⟨512 * (t % 4) + r.val, by omega⟩
def col16 (t : Nat) (ht : t < 16) (f : Fin 2176) : Fin 8704 := ⟨2176 * (t / 4) + f.val, by omega⟩

theorem blk0_0 (t : Fin cfg0.N) (r : Fin 512) (l : Fin 2048) :
    (iblk0 V c 0 t : Vec Ideal S512x2048 .bf16) (ix2 r l) = (V c main_arg0 : Vec Ideal S2048x2048 .bf16) (ix2 (row16 t.val r) l) := by
  unfold iblk0
  rw [View.read_apply]
  refine congrArg (V c main_arg0 : Vec Ideal S2048x2048 .bf16) (funext fun k => Fin.ext ?_)
  match k with
  | ⟨0, _⟩ => show win0_0.index t 0 * 512 + 1 * r.val = _; rw [(at0_0 t).1]; show _ = 512 * (t.val % 4) + r.val; omega
  | ⟨1, _⟩ => show win0_0.index t 1 * 2048 + 1 * l.val = _; rw [(at0_0 t).2]; show _ = l.val; omega
theorem blk0_1 (t : Fin cfg0.N) (b : Fin 2) (l : Fin 2048) (q : Fin 1088) :
    (iblk0 V c 1 t : Vec Ideal S1x2x2048x1088 .bf16) (ix4 0 b l q)
      = (V c main_v1 : Vec Ideal S4x2x2048x1088 .bf16) (ix4 (pair16 t.val t.isLt) b l q) := by
  unfold iblk0
  rw [View.read_apply]
  refine congrArg (V c main_v1 : Vec Ideal S4x2x2048x1088 .bf16) (funext fun k => Fin.ext ?_)
  match k with
  | ⟨0, _⟩ => show win0_1.index t 0 * 1 + 1 * 0 = _; rw [(at0_1 t).1]; show _ = t.val / 4; omega
  | ⟨1, _⟩ => show win0_1.index t 1 * 2 + 1 * b.val = _; rw [(at0_1 t).2.1]; show _ = b.val; omega
  | ⟨2, _⟩ => show win0_1.index t 2 * 2048 + 1 * l.val = _; rw [(at0_1 t).2.2.1]; show _ = l.val; omega
  | ⟨3, _⟩ => show win0_1.index t 3 * 1088 + 1 * q.val = _; rw [(at0_1 t).2.2.2]; show _ = q.val; omega
theorem blk1_0 (t : Fin cfg1.N) (i : Fin 2048) (r : Fin 512) :
    (iblk1 V c 0 t : Vec Ideal S2048x512 .bf16) (ix2 i r) = (V c main_arg0 : Vec Ideal S2048x2048 .bf16) (ix2 i (row16 t.val r)) := by
  unfold iblk1
  rw [View.read_apply]
  refine congrArg (V c main_arg0 : Vec Ideal S2048x2048 .bf16) (funext fun k => Fin.ext ?_)
  match k with
  | ⟨0, _⟩ => show win1_0.index t 0 * 2048 + 1 * i.val = _; rw [(at1_0 t).1]; show _ = i.val; omega
  | ⟨1, _⟩ => show win1_0.index t 1 * 512 + 1 * r.val = _; rw [(at1_0 t).2]; show _ = 512 * (t.val % 4) + r.val; omega
theorem blk1_1 (t : Fin cfg1.N) (i : Fin 2048) (f : Fin 2176) :
    (iblk1 V c 1 t : Vec Ideal S2048x2176 .bf16) (ix2 i f) = (V c main_arg2 : Vec Ideal S2048x8704 .bf16) (ix2 i (col16 t.val t.isLt f)) := by
  unfold iblk1
  rw [View.read_apply]
  refine congrArg (V c main_arg2 : Vec Ideal S2048x8704 .bf16) (funext fun k => Fin.ext ?_)
  match k with
  | ⟨0, _⟩ => show win1_1.index t 0 * 2048 + 1 * i.val = _; rw [(at1_1 t).1]; show _ = i.val; omega
  | ⟨1, _⟩ => show win1_1.index t 1 * 2176 + 1 * f.val = _; rw [(at1_1 t).2]; show _ = 2176 * (t.val / 4) + f.val; omega

/-- The array of the projection. -/
theorem proj_arr (hH : ∀ i l, (V c main_arg0 : Vec Ideal S2048x2048 .bf16) (ix2 i l) = h i l)
    (hW : ∀ k b l q, (V c main_v1 : Vec Ideal S4x2x2048x1088 .bf16) (ix4 k b l q) = w l (col k b q)) :
    (dat0 V c).arrAt 2 cfg0.N = fun y : S2048x8704.Idx => ∑ l : Fin 2048, h (y 0) l * w l (y 1) := by
  refine (dat0 V c).arrAt_eq_of_covers 2 _ (by decide +kernel) fun t hf y => ?_
  blk_simp
  rw [after0_2]
  obtain ⟨r, f, rfl⟩ := idx2 (a := 512) (b := 2176) y
  have e0 : ((win0_2.blk t).view.emb (ix2 r f) 0 : Fin 2048) = row16 t.val r := Fin.ext (by
    show win0_2.index t 0 * 512 + 1 * r.val = 512 * (t.val % 4) + r.val; rw [(at0_2 t).1]; omega)
  have e1 : ((win0_2.blk t).view.emb (ix2 r f) 1 : Fin 8704) = col16 t.val t.isLt f := Fin.ext (by
    show win0_2.index t 1 * 2176 + 1 * f.val = 2176 * (t.val / 4) + f.val; rw [(at0_2 t).2]; omega)
  rw [e0, e1]
  refine (out0_apply _ _ _).trans (Finset.sum_congr rfl fun l _ => congrArg₂ (· * ·) ((blk0_0 V c t r l).trans (hH _ _)) ?_)
  refine ((blk0_1 V c t (chunkOf f) l (inChunk f)).trans (hW _ _ _ _)).trans (congrArg (w l) (Fin.ext ?_))
  show 2176 * (t.val / 4) + (1088 * (f.val / 1088) + f.val % 1088) = 2176 * (t.val / 4) + f.val
  omega

/-- The array of the gradient of the projection's weights. -/
theorem dw_arr (hH : ∀ i l, (V c main_arg0 : Vec Ideal S2048x2048 .bf16) (ix2 i l) = h i l)
    (hD : ∀ i f, (V c main_arg2 : Vec Ideal S2048x8704 .bf16) (ix2 i f) = d i f) :
    (dat1 V c).arrAt 2 cfg1.N = fun y : S4x2x2048x1088.Idx => ∑ i : Fin 2048, h i (y 2) * d i (col (y 0) (y 1) (y 3)) := by
  refine (dat1 V c).arrAt_eq_of_covers 2 _ (by decide +kernel) fun t hf y => ?_
  blk_simp
  rw [after1_2]
  obtain ⟨k, b, r, q, rfl⟩ := idx4 (a := 1) (b := 2) (c := 512) (d := 1088) y
  obtain rfl : k = (0 : Fin 1) := Subsingleton.elim _ _
  have e0 : ((win1_2.blk t).view.emb (ix4 0 b r q) 0 : Fin 4) = (pair16 t.val t.isLt) := Fin.ext (by
    show win1_2.index t 0 * 1 + 1 * 0 = t.val / 4; rw [(at1_2 t).1]; omega)
  have e1 : ((win1_2.blk t).view.emb (ix4 0 b r q) 1 : Fin 2) = b := Fin.ext (by
    show win1_2.index t 1 * 2 + 1 * b.val = b.val; rw [(at1_2 t).2.1]; omega)
  have e2 : ((win1_2.blk t).view.emb (ix4 0 b r q) 2 : Fin 2048) = row16 t.val r := Fin.ext (by
    show win1_2.index t 2 * 512 + 1 * r.val = 512 * (t.val % 4) + r.val; rw [(at1_2 t).2.2.1]; omega)
  have e3 : ((win1_2.blk t).view.emb (ix4 0 b r q) 3 : Fin 1088) = q := Fin.ext (by
    show win1_2.index t 3 * 1088 + 1 * q.val = q.val; rw [(at1_2 t).2.2.2]; omega)
  rw [e0, e1, e2, e3]
  exact (out1_apply _ _ _).trans (Finset.sum_congr rfl fun i _ => congrArg₂ (· * ·) ((blk1_0 V c t i r).trans (hH _ _))
    ((blk1_1 V c t i (two b q)).trans (hD _ _)))
end

/-! ## The two calls one after another -/

variable (m : (ℓ : Loc nD τ sig) → Buf (Elt Ideal) ℓ) (ρ : Dev nD → PrngReg) (c : Dev nD)

/-- The arguments, as launched, by coordinates: the projection's input, its weights, and the gradient at its result. -/
def hIn (i l : Fin 2048) : EReal := (m ((c : Thread nD τ).loc main_arg0) : Vec Ideal S2048x2048 .bf16) (ix2 i l)
def wIn (l : Fin 2048) (f : Fin 8704) : EReal := (m ((c : Thread nD τ).loc main_arg1) : Vec Ideal S2048x8704 .bf16) (ix2 l f)
def dIn (i : Fin 2048) (f : Fin 8704) : EReal := (m ((c : Thread nD τ).loc main_arg2) : Vec Ideal S2048x8704 .bf16) (ix2 i f)

theorem chunk_apply (x : Vec Ideal S2048x8704 .bf16) (k : Fin 4) (b : Fin 2) (l : Fin 2048) (q : Fin 1088) :
    transpose S4x2x2048x1088 [1, 2, 0, 3] (shapeCast S2048x4x2x1088 x shapeCasts_S2048x8704_S2048x4x2x1088) transposes_S2048x4x2x1088_S4x2x2048x1088_1_2_0_3 (ix4 k b l q)
      = x (ix2 l (col k b q)) := by
  pointwise
  refine congrArg x (congrArg (ix2 l) (Fin.ext ?_))
  dsimp only [col]
  omega
theorem w1_chunks : (W1 m ρ c (Proc.devRef .tc main_v1) : Vec Ideal S4x2x2048x1088 .bf16)
    = transpose S4x2x2048x1088 [1, 2, 0, 3] (shapeCast S2048x4x2x1088 (m ((c : Thread nD τ).loc main_arg1) : Vec Ideal S2048x8704 .bf16) shapeCasts_S2048x8704_S2048x4x2x1088)
        transposes_S2048x4x2x1088_S4x2x2048x1088_1_2_0_3 := rfl

/-- The projection, at the end. -/
theorem proj_3 : (W3 m ρ c (Proc.devRef .tc main_v2) : Vec Ideal S2048x8704 .bf16) = fun y : S2048x8704.Idx => ∑ l : Fin 2048, hIn m c (y 0) l * wIn m c l (y 1) :=
  (W3_of m ρ c main_v2 (by decide +kernel)).trans ((W2_arr m ρ c 2).trans (proj_arr (V1 m ρ) c (hIn m c) (wIn m c)
    (fun i l => congrFun (W1_args m ρ c main_arg0 (by decide)) (ix2 i l))
    (fun k b l q => (congrFun (w1_chunks m ρ c) (ix4 k b l q)).trans (chunk_apply _ k b l q))))
/-- The gradient of its weights, at the end. -/
theorem dw_3 : (W3 m ρ c (Proc.devRef .tc main_v3) : Vec Ideal S4x2x2048x1088 .bf16)
    = fun y : S4x2x2048x1088.Idx => ∑ i : Fin 2048, hIn m c i (y 2) * dIn m c i (col (y 0) (y 1) (y 3)) :=
  (W3_arr m ρ c 2).trans (dw_arr (V2 m ρ) c (hIn m c) (dIn m c)
    (fun i l => congrFun (W2_args m ρ c main_arg0 (by decide)) (ix2 i l)) (fun i f => congrFun (W2_args m ρ c main_arg2 (by decide)) (ix2 i f)))

open Idealize.SL.RA Idealize.SL.BI Idealize.SL.BI.BIBase Idealize.SL.BI.Laws Idealize.SL.ProofMode
open scoped Idealize.SL.BI
open Idealize.ShloMosaic.Rounds
open Idealize.ShloMosaic.Pipeline (Dat Cfg Window BodyObligation cellOf)

/-- The machine the run is stated in. -/
abbrev Mach := MT nD τ sig Unit (Elt Ideal) ℕ (UR sig nD τ) ℕ

-- the kit's implicit arguments are found by unifying its conclusion with this one, as in the generated frame
set_option backward.isDefEq.respectTransparency.types false in
/-- The run ends with the projection and the gradient of its weights in its result arrays and its arguments as launched. -/
theorem run : θ_run defs (onTc (τ := τ) (main (F := Ideal))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Mach)
            ⊢ BI.own (emb₁ (initOf (Pipeline.cells cfgs cellOf_inj) (Pipeline.launchToks cfgs cellOf_inj))) from .rfl)
        iexact Hu
      iapply (show (BI.emp : sProp Mach) ⊢ bigSep Finset.univ (fun _ : Dev nD => (BI.emp : sProp Mach)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v2 (by decide)), h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.Kernel4Ideal.Value

end
-- ==== Proof.In.ProjClaim.lean ====
/-
  The mixer's input projection and the gradient of its weights: the claims of their program.
-/
module

public import proofs.«01_k».proof.Defs
public import proofs.«01_k».proof.Proof.Gen.Kernel4.Frame
public import proofs.«01_k».proof.Proof.Gen.Reference4Ideal.Read
public import proofs.«01_k».proof.Proof.In.Proj
import Idealize.ShloMosaic.Lib.Pointwise
import Idealize.ShloMosaic.Lib.IdealHost

@[expose] public section

noncomputable section

namespace Cert.Proof

open Idealize.ShloMosaic Idealize.SL.Sem

/-- The reference runs and leaves its arguments. -/
theorem frame_ri4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The reference's projection, at a row and a column. -/
theorem ref_proj (x0 : Vec Ideal Cert.Reference4Ideal.S2048x2048 .bf16) (x1 : Vec Ideal Cert.Reference4Ideal.S2048x8704 .bf16) (i : Fin 2048) (f : Fin 8704) :
    Cert.Reference4Ideal.Read.val_main_v7 (F := Ideal) x0 x1 (ix2 i f) = ∑ l : Fin 2048, x0 (ix2 i l) * x1 (ix2 l f) := by
  pointwise [Cert.Reference4Ideal.Read.val_main_v7, Cert.Reference4Ideal.Read.val_main_v2, Cert.Reference4Ideal.Read.val_main_v0, Cert.Reference4Ideal.Read.val_main_v1]

/-- The reference's gradient of the weights, at a chunk of columns, a row and a column. -/
theorem ref_dwin (x0 : Vec Ideal Cert.Reference4Ideal.S2048x2048 .bf16) (x2 : Vec Ideal Cert.Reference4Ideal.S2048x8704 .bf16) (k : Fin 4) (b : Fin 2) (l : Fin 2048)
    (q : Fin 1088) : Cert.Reference4Ideal.Read.val_main_v10 (F := Ideal) x0 x2 (ix4 k b l q)
      = ∑ i : Fin 2048, x2 (ix2 i (Cert.Kernel4Ideal.Value.col k b q)) * x0 (ix2 i l) := by
  pointwise [Cert.Reference4Ideal.Read.val_main_v10, Cert.Reference4Ideal.Read.val_main_v9, Cert.Reference4Ideal.Read.val_main_v8, Cert.Reference4Ideal.Read.val_main_v5,
    Cert.Reference4Ideal.Read.val_main_v4, Cert.Reference4Ideal.Read.val_main_v3, Cert.Reference4Ideal.Read.val_main_v0]
  refine Finset.sum_congr rfl fun i _ => congrArg (fun f => x2 (ix2 i f) * _) (Fin.ext ?_)
  dsimp only [Cert.Kernel4Ideal.Value.col]
  omega

/-- The kernel and the reference give the same projection and the same gradient of its weights. -/
theorem algebraic4 : Cert.algebraic_Kernel4Ideal_Reference4Ideal := by
  intro m ρ m' ρ' _ hagree
  refine ⟨_, _, Cert.Kernel4Ideal.Value.run m ρ, ?_⟩
  refine (θ_run Cert.Reference4Ideal.defs _ _).mono (fun r h c => ?_) (Cert.Reference4Ideal.Value.run (F := Ideal) m' ρ')
  obtain ⟨h0, h1, hargs⟩ := h c
  obtain ⟨a0, a1, a2⟩ := hagree c
  refine ⟨h0.trans ?_, h1.trans ?_, hargs⟩
  · rw [Cert.Reference4Ideal.Read.val_main_v7_eq, a0, a1]
    refine Eq.trans ?_ (Cert.Kernel4Ideal.Value.proj_3 m ρ c).symm
    funext y
    obtain ⟨i, f, rfl⟩ := Cert.Kernel4Ideal.Value.idx2 (a := 2048) (b := 8704) y
    exact ref_proj _ _ i f
  · rw [Cert.Reference4Ideal.Read.val_main_v10_eq, a0, a2]
    refine Eq.trans ?_ (Cert.Kernel4Ideal.Value.dw_3 m ρ c).symm
    funext y
    obtain ⟨k, b, l, q, rfl⟩ := Cert.Kernel4Ideal.Value.idx4 (a := 4) (b := 2) (c := 2048) (d := 1088) y
    exact (ref_dwin _ _ k b l q).trans (Finset.sum_congr rfl fun i _ => mul_comm _ _)

end Cert.Proof

end
-- ==== Proof.In.Dh.lean ====
/-
  The gradient of the mixer's normalised input: what the kernel's four steps over the columns of the projection add up to.
-/
module

public import proofs.«01_k».proof.Proof.Gen.Kernel5Ideal.Value
public import Idealize.ShloMosaic.Lib.Pipeline.ValueKit
import Idealize.ShloMosaic.Lib.Pointwise
import Idealize.ShloMosaic.Lib.IdealHost

@[expose] public section

noncomputable section

namespace Cert.Kernel5Ideal.Value

open Idealize.ShloMosaic Idealize.ShloMosaic.TcCoe Idealize.SL.Sem Cert.Kernel5Ideal Cert.Kernel5Ideal.Gen
open Idealize.ShloMosaic.Pipeline (Dat)

theorem hz : (![0, 0] : Fin 2 → Nat) = fun _ => 0 := funext fun a => by fin_cases a <;> rfl
theorem ldO (x : Vec Ideal S512x2048 .f32) : View.ld x (Rect.unit (s := S512x2048) ![0, 0] ![512, 2048] inb_S512x2048_S512x2048_0_0) = x :=
  View.ld_unit_zero (S := S512x2048) hz _ x

/-- One step: the products of two chunks of 1088 columns are added to what was there. -/
def step (x0 : Vec Ideal S512x2176 .bf16) (x1 : Vec Ideal S1x2x2048x1088 .bf16) (acc : Vec Ideal S512x2048 .f32) : Vec Ideal S512x2048 .f32 :=
  k0_pay2 acc
    (View.ld x0 (Rect.unit (s := S512x2176) ![0, 0] S512x1088.size inb_S512x2176_S512x1088_0_0))
    (View.ld x1 (Rect.unit (s := S1x2x2048x1088) ![0, 0, 0, 0] S1x1x2048x1088.size inb_S1x2x2048x1088_S1x1x2048x1088_0_0_0_0))
    (View.ld x0 (Rect.unit (s := S512x2176) ![0, 1088] S512x1088.size inb_S512x2176_S512x1088_0_1088))
    (View.ld x1 (Rect.unit (s := S1x2x2048x1088) ![0, 1, 0, 0] S1x1x2048x1088.size inb_S1x2x2048x1088_S1x1x2048x1088_0_1_0_0))

section
variable (c : Dev nD) (i : grid0.Coords) (arg3 : Memref sig .tc .vmem S512x2176 .bf16) (harg3 : arg3.IsWhole)
  (arg4 : Memref sig .tc .vmem S1x2x2048x1088 .bf16) (harg4 : arg4.IsWhole) (arg5 : Memref sig .tc .vmem S512x2048 .f32) (harg5 : arg5.IsWhole)
  (arg6 : Memref sig .tc .vmem S512x2048 .f32) (harg6 : arg6.IsWhole)
  (x0 : Vec Ideal S512x2176 .bf16) (x1 : Vec Ideal S1x2x2048x1088 .bf16) (xs0 : Vec Ideal S512x2048 .f32)

theorem sout_A (hc0 : cond0_0 i) (hc1 : ¬cond0_1 i) :
    sout0_A_0 c i arg3 harg3 arg4 harg4 arg5 harg5 arg6 harg6 hc0 hc1 x0 x1 = step x0 x1 (k0_pay1 (F := Ideal)) := by
  unfold sout0_A_0
  refine (View.read_writes_eq_canon _ _ _ (scover0_A_0 c i arg3 harg3 arg4 harg4 arg5 harg5 arg6 harg6 hc0 hc1 x0 x1)).trans ?_
  unfold kernelRun0_A; dsimp only; sl_unfold_words
  simp only [View.readAt_eq_ld]
  rw [harg3.read_unread x0, harg4.read_unread x1]
  refine (View.canon_cons_unit_zero (S := S512x2048) hz _ _ _).trans ?_
  rw [View.readCov_unit_zero (S := S512x2048) _ hz]
  rfl

theorem sout_B (hc0 : ¬cond0_0 i) (hc1 : ¬cond0_1 i) :
    sout0_B_0 c i arg3 harg3 arg4 harg4 arg5 harg5 arg6 harg6 hc0 hc1 x0 x1 xs0 = step x0 x1 xs0 := by
  unfold sout0_B_0
  refine (View.read_writes_eq_canon _ _ _ (scover0_B_0 c i arg3 harg3 arg4 harg4 arg5 harg5 arg6 harg6 hc0 hc1 x0 x1 xs0)).trans ?_
  unfold kernelRun0_B; dsimp only; sl_unfold_words
  simp only [View.readAt_eq_ld]
  rw [harg3.read_unread x0, harg4.read_unread x1, harg6.read_unread xs0, ldO xs0]
  exact View.canon_unit_zero (S := S512x2048) hz _ _

theorem out_C (hc0 : ¬cond0_0 i) (hc1 : cond0_1 i) :
    out0_C_2 c i arg3 harg3 arg4 harg4 arg5 harg5 arg6 harg6 hc0 hc1 x0 x1 xs0 = step x0 x1 xs0 := by
  unfold out0_C_2
  refine (View.read_writes_eq_canon _ _ _ (cover0_C_2 c i arg3 harg3 arg4 harg4 arg5 harg5 arg6 harg6 hc0 hc1 x0 x1 xs0)).trans ?_
  unfold kernelRun0_C; dsimp only; sl_unfold_words
  simp only [View.readAt_eq_ld]
  rw [harg3.read_unread x0, harg4.read_unread x1, harg6.read_unread xs0, ldO xs0]
  refine (View.canon_unit_zero (S := S512x2048) hz _ _).trans ?_
  rw [View.readCov_unit_zero (S := S512x2048) _ hz]
  rfl
end

/-- Column `q` of the first and of the second chunk. -/
def first (q : Fin 1088) : Fin 2176 := ⟨q.val, by omega⟩
def second (q : Fin 1088) : Fin 2176 := ⟨1088 + q.val, by omega⟩

theorem ld_first (x0 : Vec Ideal S512x2176 .bf16) (r : Fin 512) (q : Fin 1088) :
    View.ld x0 (Rect.unit (s := S512x2176) ![0, 0] ![512, 1088] inb_S512x2176_S512x1088_0_0) (ix2 r q) = x0 (ix2 r (first q)) := by
  refine congrArg x0 (funext fun a => Fin.ext ?_)
  match a with
  | ⟨0, _⟩ => show 0 + 1 * r.val = r.val; omega
  | ⟨1, _⟩ => show 0 + 1 * q.val = q.val; omega
theorem ld_second (x0 : Vec Ideal S512x2176 .bf16) (r : Fin 512) (q : Fin 1088) :
    View.ld x0 (Rect.unit (s := S512x2176) ![0, 1088] ![512, 1088] inb_S512x2176_S512x1088_0_1088) (ix2 r q) = x0 (ix2 r (second q)) := by
  refine congrArg x0 (funext fun a => Fin.ext ?_)
  match a with
  | ⟨0, _⟩ => show 0 + 1 * r.val = r.val; omega
  | ⟨1, _⟩ => show 1088 + 1 * q.val = 1088 + q.val; omega
theorem ld_w0 (x1 : Vec Ideal S1x2x2048x1088 .bf16) (r : Fin 2048) (q : Fin 1088) :
    View.ld x1 (Rect.unit (s := S1x2x2048x1088) ![0, 0, 0, 0] ![1, 1, 2048, 1088] inb_S1x2x2048x1088_S1x1x2048x1088_0_0_0_0) (ix4 0 0 r q) = x1 (ix4 0 0 r q) := by
  refine congrArg x1 (funext fun a => Fin.ext ?_)
  match a with
  | ⟨0, _⟩ => rfl
  | ⟨1, _⟩ => rfl
  | ⟨2, _⟩ => show 0 + 1 * r.val = r.val; omega
  | ⟨3, _⟩ => show 0 + 1 * q.val = q.val; omega
theorem ld_w1 (x1 : Vec Ideal S1x2x2048x1088 .bf16) (r : Fin 2048) (q : Fin 1088) :
    View.ld x1 (Rect.unit (s := S1x2x2048x1088) ![0, 1, 0, 0] ![1, 1, 2048, 1088] inb_S1x2x2048x1088_S1x1x2048x1088_0_1_0_0) (ix4 0 0 r q) = x1 (ix4 0 1 r q) := by
  refine congrArg x1 (funext fun a => Fin.ext ?_)
  match a with
  | ⟨0, _⟩ => rfl
  | ⟨1, _⟩ => rfl
  | ⟨2, _⟩ => show 0 + 1 * r.val = r.val; omega
  | ⟨3, _⟩ => show 0 + 1 * q.val = q.val; omega

theorem pay2_apply (acc : Vec Ideal S512x2048 .f32) (v4 : Vec Ideal S512x1088 .bf16) (v5 : Vec Ideal S1x1x2048x1088 .bf16) (v8 : Vec Ideal S512x1088 .bf16)
    (v9 : Vec Ideal S1x1x2048x1088 .bf16) (r : Fin 512) (l : Fin 2048) :
    k0_pay2 acc v4 v5 v8 v9 (ix2 r l)
      = acc (ix2 r l) + ((∑ q : Fin 1088, v4 (ix2 r q) * v5 (ix4 0 0 l q)) + ∑ q : Fin 1088, v8 (ix2 r q) * v9 (ix4 0 0 l q)) := by
  pointwise [k0_pay2]

theorem step_apply (x0 : Vec Ideal S512x2176 .bf16) (x1 : Vec Ideal S1x2x2048x1088 .bf16) (acc : Vec Ideal S512x2048 .f32) (r : Fin 512) (l : Fin 2048) :
    step x0 x1 acc (ix2 r l) = acc (ix2 r l)
      + ((∑ q : Fin 1088, x0 (ix2 r (first q)) * x1 (ix4 0 0 l q)) + ∑ q : Fin 1088, x0 (ix2 r (second q)) * x1 (ix4 0 1 l q)) := by
  unfold step
  rw [pay2_apply]
  exact congrArg (acc (ix2 r l) + ·) (congrArg₂ (· + ·)
    (Finset.sum_congr rfl fun q _ => congrArg₂ (· * ·) (ld_first x0 r q) (ld_w0 x1 l q))
    (Finset.sum_congr rfl fun q _ => congrArg₂ (· * ·) (ld_second x0 r q) (ld_w1 x1 l q)))

theorem start_apply (r : Fin 512) (l : Fin 2048) : k0_pay1 (F := Ideal) (ix2 r l) = 0 := by
  pointwise [k0_pay1]

/-! ## The blocks -/

variable (m : (ℓ : Loc nD τ sig) → Buf (Elt Ideal) ℓ) (c : Dev nD)

/-- The arguments, by coordinates. -/
def dproj (i : Fin 2048) (f : Fin 8704) : EReal := (m ((c : Thread nD τ).loc main_arg0) : Vec Ideal S2048x8704 .bf16) (ix2 i f)
def win (l : Fin 2048) (f : Fin 8704) : EReal := (m ((c : Thread nD τ).loc main_arg1) : Vec Ideal S2048x8704 .bf16) (ix2 l f)

theorem V_d : V m c main_arg0 = (m ((c : Thread nD τ).loc main_arg0) : Vec Ideal S2048x8704 .bf16) := by
  rfl
theorem V_w : V m c main_v1 = transpose S4x2x2048x1088 [1, 2, 0, 3] (shapeCast S2048x4x2x1088 (m ((c : Thread nD τ).loc main_arg1) : Vec Ideal S2048x8704 .bf16) shapeCasts_S2048x8704_S2048x4x2x1088)
    transposes_S2048x4x2x1088_S4x2x2048x1088_1_2_0_3 := by
  rfl

theorem chunk_apply (x : Vec Ideal S2048x8704 .bf16) (k : Fin 4) (b : Fin 2) (i : Fin 2048) (f : Fin 1088) :
    transpose S4x2x2048x1088 [1, 2, 0, 3] (shapeCast S2048x4x2x1088 x shapeCasts_S2048x8704_S2048x4x2x1088) transposes_S2048x4x2x1088_S4x2x2048x1088_1_2_0_3 (ix4 k b i f)
      = x (ix2 i ⟨2176 * k.val + (1088 * b.val + f.val), by omega⟩) := by
  pointwise
  refine congrArg x (congrArg (ix2 i) (Fin.ext ?_))
  dsimp only
  omega

theorem at_0 : ∀ t : Fin grid0.N, win0_0.index t 0 = t.val / 4 ∧ win0_0.index t 1 = t.val % 4 := by decide +kernel
theorem at_1 : ∀ t : Fin grid0.N, win0_1.index t 0 = t.val % 4 ∧ win0_1.index t 1 = 0 ∧ win0_1.index t 2 = 0 ∧ win0_1.index t 3 = 0 := by decide +kernel

/-- Row `r` of block `t / 4`, and column `q` of the columns of step `t % 4`. -/
def rowOf (t : Nat) (ht : t < 16) (r : Fin 512) : Fin 2048 := ⟨512 * (t / 4) + r.val, by omega⟩
def colOf (t : Nat) (q : Fin 2176) : Fin 8704 := ⟨2176 * (t % 4) + q.val, by omega⟩

theorem iblk0 (t : Fin cfg0.N) (r : Fin 512) (q : Fin 2176) :
    (iblk m c 0 t : Vec Ideal S512x2176 .bf16) (ix2 r q) = dproj m c (rowOf t.val t.isLt r) (colOf t.val q) := by
  unfold iblk
  rw [View.read_apply]
  show V m c main_arg0 _ = _
  rw [V_d]
  unfold dproj
  refine congrArg (m ((c : Thread nD τ).loc main_arg0) : Vec Ideal S2048x8704 .bf16) (funext fun a => Fin.ext ?_)
  match a with
  | ⟨0, _⟩ => show win0_0.index t 0 * 512 + 1 * r.val = _; rw [(at_0 t).1]; show _ = 512 * (t.val / 4) + r.val; omega
  | ⟨1, _⟩ => show win0_0.index t 1 * 2176 + 1 * q.val = _; rw [(at_0 t).2]; show _ = 2176 * (t.val % 4) + q.val; omega

theorem iblk1 (t : Fin cfg0.N) (b : Fin 2) (l : Fin 2048) (q : Fin 1088) :
    (iblk m c 1 t : Vec Ideal S1x2x2048x1088 .bf16) (ix4 0 b l q) = win m c l (colOf t.val ⟨1088 * b.val + q.val, by omega⟩) := by
  unfold iblk
  rw [View.read_apply]
  show V m c main_v1 _ = _
  have e : ((win0_1.blk t).view.emb (ix4 0 b l q) : S4x2x2048x1088.Idx) = ix4 ⟨t.val % 4, by omega⟩ b l q := by
    funext a; apply Fin.ext
    match a with
    | ⟨0, _⟩ => show win0_1.index t 0 * 1 + 1 * 0 = _; rw [(at_1 t).1]; show _ = t.val % 4; omega
    | ⟨1, _⟩ => show win0_1.index t 1 * 2 + 1 * b.val = _; rw [(at_1 t).2.1]; show _ = b.val; omega
    | ⟨2, _⟩ => show win0_1.index t 2 * 2048 + 1 * l.val = _; rw [(at_1 t).2.2.1]; show _ = l.val; omega
    | ⟨3, _⟩ => show win0_1.index t 3 * 1088 + 1 * q.val = _; rw [(at_1 t).2.2.2]; show _ = q.val; omega
  rw [show ((cfg0.win 1).blk t).view.emb (ix4 0 b l q) = _ from e, V_w, chunk_apply]
  rfl

/-- The products of the columns of step `k`, at a row and a column of the result. -/
def part (i l : Fin 2048) (k : Nat) : EReal := ∑ q : Fin 2176, dproj m c i (colOf k q) * win m c l (colOf k q)

theorem two_chunks (f : Fin 2176 → EReal) : (∑ q : Fin 1088, f (first q)) + ∑ q : Fin 1088, f (second q) = ∑ q : Fin 2176, f q :=
  (Fin.sum_univ_add (a := 1088) (b := 1088) f).symm

theorem step_part (t : Fin cfg0.N) (acc : Vec Ideal S512x2048 .f32) (r : Fin 512) (l : Fin 2048) :
    step (iblk m c 0 t) (iblk m c 1 t) acc (ix2 r l) = acc (ix2 r l) + part m c (rowOf t.val t.isLt r) l t.val := by
  rw [step_apply]
  congr 1
  unfold part
  rw [← two_chunks]
  congr 1 <;> refine Finset.sum_congr rfl fun q _ => ?_
  · rw [iblk0, iblk1]
    congr 3; apply Fin.ext; show 1088 * 0 + q.val = q.val; omega
  · rw [iblk0, iblk1]
    rfl

theorem part_mod (i l : Fin 2048) (k k' : Nat) (h : k % 4 = k' % 4) : part m c i l k = part m c i l k' := by
  unfold part colOf
  simp only [h]

theorem carried (r : Fin 512) (l : Fin 2048) (t : Fin cfg0.N) (h3 : t.val % 4 < 3) :
    (outsAt0 m c t.val t.isLt).2 (ix2 r l) = ∑ j ∈ Finset.range (t.val % 4 + 1), part m c (rowOf t.val t.isLt r) l j := by
  obtain ⟨n, hn⟩ := t
  induction n with
  | zero =>
    rw [outsAt0_A m c ⟨0, hn⟩ rfl (show ¬(0 % 4 = 3) by decide)]
    dsimp only
    rw [sout_A, step_part, start_apply, Finset.sum_range_one, zero_add (part m c _ l 0)]
  | succ n ih =>
    have h16 : n + 1 < 16 := hn
    dsimp only at h3
    by_cases h0 : (n + 1) % 4 = 0
    · rw [outsAt0_A m c ⟨n + 1, hn⟩ h0 (by dsimp only; omega)]
      dsimp only
      rw [sout_A, step_part, start_apply, h0, Finset.sum_range_one, zero_add (part m c _ l (n + 1))]
      exact part_mod m c _ l _ _ h0
    · rw [outsAt0_B m c ⟨n + 1, hn⟩ h0 (by dsimp only; omega)]
      dsimp only
      have e := ih (Nat.lt_of_succ_lt hn) (by dsimp only; omega)
      dsimp only at e
      have hr : rowOf n (Nat.lt_of_succ_lt h16) r = rowOf (n + 1) h16 r := Fin.ext (by show 512 * (n / 4) + r.val = 512 * ((n + 1) / 4) + r.val; omega)
      rw [sout_B, step_part]
      refine (congrArg (· + part m c (rowOf (n + 1) h16 r) l (n + 1)) e).trans ?_
      rw [show (n + 1) % 4 = n % 4 + 1 by omega, Finset.sum_range_succ _ (n % 4 + 1), hr, part_mod m c _ l (n + 1) (n % 4 + 1) (by omega)]

/-- The sum over the columns. -/
def Dh (i l : Fin 2048) : EReal := ∑ f : Fin 8704, dproj m c i f * win m c l f

theorem four_parts (i l : Fin 2048) : ∑ j ∈ Finset.range 4, part m c i l j = Dh m c i l := by
  unfold Dh
  rw [Finset.sum_range, ← Equiv.sum_comp (finProdFinEquiv (m := 4) (n := 2176)), Fintype.sum_prod_type]
  refine Finset.sum_congr rfl fun j _ => Finset.sum_congr rfl fun q _ => ?_
  have e : colOf j.val q = finProdFinEquiv (j, q) := Fin.ext (by show 2176 * (j.val % 4) + q.val = q.val + 2176 * j.val; omega)
  rw [e]

theorem flushed_at (r : Fin 512) (l : Fin 2048) (t : Fin cfg0.N) (h3 : t.val % 4 = 3) :
    (outsAt0 m c t.val t.isLt).1 (ix2 r l) = Dh m c (rowOf t.val t.isLt r) l := by
  have ht : t.val < 16 := t.isLt
  rw [outsAt0_C m c t (by omega) h3]
  dsimp only
  have hr : rowOf (t.val - 1) (by omega) r = rowOf t.val t.isLt r := Fin.ext (by show 512 * ((t.val - 1) / 4) + r.val = 512 * (t.val / 4) + r.val; omega)
  have e := carried m c r l ⟨t.val - 1, Nat.lt_of_le_of_lt (Nat.sub_le _ _) t.isLt⟩ (by dsimp only; omega)
  dsimp only at e
  rw [out_C, step_part, e, hr, show (t.val - 1) % 4 + 1 = 3 by omega, part_mod m c _ l t.val 3 (by omega), ← Finset.sum_range_succ _ 3, four_parts]

theorem at_2 : ∀ t : Fin grid0.N, win0_2.index t 0 = t.val / 4 ∧ win0_2.index t 1 = 0 := by decide +kernel

/-- The array after the run. -/
theorem final : (dats m 0 c).arrAt 2 cfg0.N = fun i : S2048x2048.Idx => Dh m c (i 0) (i 1) := by
  refine (dats m 0 c).arrAt_eq_of_covers 2 _ (by decide +kernel) fun t hf y => ?_
  blk_simp
  rw [after0_2]
  obtain ⟨r, l, rfl⟩ : ∃ (r : Fin 512) (l : Fin 2048), y = ix2 r l := ⟨y 0, y 1, funext fun a => match a with | ⟨0, _⟩ => rfl | ⟨1, _⟩ => rfl⟩
  have e0 : ((win0_2.blk t).view.emb (ix2 r l) 0 : Fin 2048) = rowOf t.val t.isLt r := Fin.ext (by
    show win0_2.index t 0 * 512 + 1 * r.val = 512 * (t.val / 4) + r.val; rw [(at_2 t).1]; omega)
  have e1 : ((win0_2.blk t).view.emb (ix2 r l) 1 : Fin 2048) = l := Fin.ext (by
    show win0_2.index t 1 * 2048 + 1 * l.val = l.val; rw [(at_2 t).2]; omega)
  rw [e0, e1]
  exact flushed_at m c r l t ((flush0_2 t).mp hf)

end Cert.Kernel5Ideal.Value

end
-- ==== Proof.In.DhClaim.lean ====
/-
  The gradient of the mixer's normalised input: the claims of its program.
-/
module

public import proofs.«01_k».proof.Defs
public import proofs.«01_k».proof.Proof.Gen.Kernel5.Frame
public import proofs.«01_k».proof.Proof.Gen.Reference5Ideal.Read
public import proofs.«01_k».proof.Proof.In.Dh
import Idealize.ShloMosaic.Lib.Pointwise
import Idealize.ShloMosaic.Lib.IdealHost

@[expose] public section

noncomputable section

namespace Cert.Proof

open Idealize.ShloMosaic Idealize.SL.Sem

/-- The reference runs and leaves its arguments. -/
theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference's product, at a row and a column. -/
theorem ref_dh5 (x0 x1 : Vec Ideal Cert.Reference5Ideal.S2048x8704 .bf16) (i l : Fin 2048) :
    Cert.Reference5Ideal.Read.val_main_v4 (F := Ideal) x0 x1 (ix2 i l) = ∑ f : Fin 8704, x0 (ix2 i f) * x1 (ix2 l f) := by
  pointwise [Cert.Reference5Ideal.Read.val_main_v4, Cert.Reference5Ideal.Read.val_main_v3, Cert.Reference5Ideal.Read.val_main_v1]

/-- The kernel and the reference give the same gradient of the mixer's normalised input. -/
theorem algebraic5 : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun r h c => ?_) (Cert.Reference5Ideal.Value.run (F := Ideal) m' ρ')
  obtain ⟨h0, hargs⟩ := h c
  obtain ⟨a0, a1⟩ := hagree c
  refine ⟨h0.trans ?_, hargs⟩
  rw [Cert.Reference5Ideal.Read.val_main_v4_eq, Cert.Kernel5Ideal.Value.final]
  simp only [a0, a1]
  funext i
  have e : i = ix2 (i 0) (i 1) := funext fun k => match k with
    | ⟨0, _⟩ => rfl
    | ⟨1, _⟩ => rfl
  exact (congrArg _ e).trans (ref_dh5 _ _ (i 0) (i 1))

end Cert.Proof

end
-- ==== Proof.Mix.Spec.lean ====
/-
  The mixer after its projection, and its gradients, at a row and a column.
-/
module

public import proofs.«01_k».proof.Proof.Ffn.Spec

@[expose] public section

noncomputable section

namespace Mix

open Idealize.ShloMosaic

/-- The arguments by coordinates: the projection, the taps of the convolution, the attention's result, the three weights, the
    residual, and the gradient at the mixer's result. -/
structure Args where
  p : Fin 2048 → Fin 8704 → EReal
  cw : Fin 3 → Fin 1024 → EReal
  o : Fin 2048 → Fin 1024 → EReal
  woc : Fin 1024 → Fin 2048 → EReal
  woa : Fin 1024 → Fin 2048 → EReal
  wo : Fin 2048 → Fin 2048 → EReal
  x : Fin 2048 → Fin 2048 → EReal
  dx : Fin 2048 → Fin 2048 → EReal

/-- A column of values `s` rows later, zeros in front; and `s` rows earlier, zeros behind. -/
def back {n : ℕ} (s : ℕ) (f : Fin n → EReal) (i : Fin n) : EReal := if s ≤ i.val then f ⟨i.val - s, by omega⟩ else 0
def fwd {n : ℕ} (s : ℕ) (f : Fin n → EReal) (i : Fin n) : EReal := if h : i.val + s < n then f ⟨i.val + s, h⟩ else 0

theorem back_zero {n : ℕ} (f : Fin n → EReal) (i : Fin n) : back 0 f i = f i := if_pos (Nat.zero_le _)

/-- A tap's row among the eight rows of the padded taps. -/
abbrev tapRow (j : Fin 3) : Fin 8 := ⟨j.val, by omega⟩

/-- Column `q` of the projection's columns that start at `o`. -/
def at_ {w : ℕ} (o : ℕ) (q : Fin w) (h : o + w ≤ 8704 := by decide) : Fin 8704 := ⟨o + q.val, by omega⟩

/-- Three taps on a column: the row itself, one row back and two rows back. -/
def conv {n : ℕ} (w : Fin 3 → EReal) (u : Fin n → EReal) (i : Fin n) : EReal := u i * w 2 + back 1 u i * w 1 + back 2 u i * w 0
/-- The same taps forwards. -/
def convT {n : ℕ} (w : Fin 3 → EReal) (u : Fin n → EReal) (i : Fin n) : EReal := u i * w 2 + fwd 1 u i * w 1 + fwd 2 u i * w 0

variable (a : Args)

def xc (i : Fin 2048) (q : Fin 1024) : EReal := a.p i (at_ 0 q)
def bg (i : Fin 2048) (q : Fin 1024) : EReal := a.p i (at_ 1024 q)
def cg (i : Fin 2048) (q : Fin 1024) : EReal := a.p i (at_ 2048 q)
/-- The two gates of the mixer. -/
def sa (i d : Fin 2048) : EReal := Ffn.sig (a.p i (at_ 4608 d))
def sb (i d : Fin 2048) : EReal := Ffn.sig (a.p i (at_ 6656 d))

/-- What the convolution reads, what it leaves, and that times its gate. -/
def u (q : Fin 1024) (i : Fin 2048) : EReal := cg a i q * xc a i q
def cv (q : Fin 1024) (i : Fin 2048) : EReal := conv (fun j => a.cw j q) (u a q) i
def ca (i : Fin 2048) (q : Fin 1024) : EReal := bg a i q * cv a q i

def ya (i d : Fin 2048) : EReal := ∑ l : Fin 1024, ca a i l * a.woc l d
def yb (i d : Fin 2048) : EReal := ∑ l : Fin 1024, a.o i l * a.woa l d
def merged (i d : Fin 2048) : EReal := sa a i d * ya a i d + sb a i d * yb a i d
/-- The mixer's result: the residual and the merged rows times the output weights. -/
def x2 (i d : Fin 2048) : EReal := a.x i d + ∑ l : Fin 2048, merged a i l * a.wo l d

/-- The gradient at the merged rows, at the two branches, and at the two gates' arguments. -/
def dm (i d : Fin 2048) : EReal := ∑ l : Fin 2048, a.dx i l * a.wo d l
def dya (i d : Fin 2048) : EReal := dm a i d * sa a i d
def dyb (i d : Fin 2048) : EReal := dm a i d * sb a i d
def dga (i d : Fin 2048) : EReal := dm a i d * ya a i d * sa a i d * (1 - sa a i d)
def dgb (i d : Fin 2048) : EReal := dm a i d * yb a i d * sb a i d * (1 - sb a i d)
/-- The two gates' gradients, stacked. -/
def dg (b : Fin 2) (i d : Fin 2048) : EReal :=
  match b with
  | ⟨0, _⟩ => dga a i d
  | ⟨1, _⟩ => dgb a i d

/-- The gradients of the three weights. -/
def dwo (l d : Fin 2048) : EReal := ∑ i : Fin 2048, merged a i l * a.dx i d
def dwoc (l : Fin 1024) (d : Fin 2048) : EReal := ∑ i : Fin 2048, ca a i l * dya a i d
def dwoa (l : Fin 1024) (d : Fin 2048) : EReal := ∑ i : Fin 2048, a.o i l * dyb a i d

/-- The gradients at the gated convolution and at the attention's result. -/
def dca (i : Fin 2048) (l : Fin 1024) : EReal := ∑ d : Fin 2048, dya a i d * a.woc l d
def dO (i : Fin 2048) (l : Fin 1024) : EReal := ∑ d : Fin 2048, dyb a i d * a.woa l d

/-- The gradients at the convolution's result, at what it reads, at its gate, and at its taps. -/
def dconv (q : Fin 1024) (i : Fin 2048) : EReal := dca a i q * bg a i q
def du (q : Fin 1024) (i : Fin 2048) : EReal := convT (fun j => a.cw j q) (dconv a q) i
def d3 (k : Fin 3) (i : Fin 2048) (q : Fin 1024) : EReal :=
  match k with
  | ⟨0, _⟩ => du a q i * cg a i q
  | ⟨1, _⟩ => dca a i q * cv a q i
  | ⟨2, _⟩ => du a q i * xc a i q
def dtap (j : ℕ) (q : Fin 1024) : EReal := ∑ i : Fin 2048, dconv a q i * back (2 - j) (u a q) i

/-- The taps' gradient on eight rows, the last five zero. -/
def dtap8 (j : Fin 8) (q : Fin 1024) : EReal := if j.val < 3 then dtap a j.val q else 0

/-- Column `q` of chunk `k` of eight chunks of 256 columns. -/
def chunk (k : Fin 8) (q : Fin 256) : Fin 2048 := ⟨256 * k.val + q.val, by omega⟩

end Mix

end
-- ==== Proof.Mix.Conv.lean ====
/-
  The convolution's two calls: what their bodies leave in their blocks.
-/
module

public import proofs.«01_k».proof.Proof.Gen.Kernel6Ideal.Frame
public import proofs.«01_k».proof.Proof.Mix.Spec
public import Idealize.ShloMosaic.Lib.Pipeline.ValueKit
import Idealize.ShloMosaic.Lib.KernelVsHost
import Idealize.ShloMosaic.Lib.Pointwise
import Idealize.ShloMosaic.Lib.IdealHost

@[expose] public section

noncomputable section

namespace Cert.Kernel6Ideal.Value

open Idealize.SL Idealize.SL.Sem Idealize.ShloMosaic Idealize.ShloMosaic.TcCoe Cert.Kernel6Ideal Cert.Kernel6Ideal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem idx2 {a b : ℕ} (y : (⟨2, ![a, b]⟩ : Shape).Idx) : ∃ (r : Fin a) (q : Fin b), y = ix2 r q :=
  ⟨y 0, y 1, funext fun k => match k with | ⟨0, _⟩ => rfl | ⟨1, _⟩ => rfl⟩
theorem idx3 {a b c : ℕ} (y : (⟨3, ![a, b, c]⟩ : Shape).Idx) : ∃ (p : Fin a) (r : Fin b) (q : Fin c), y = ix3 p r q :=
  ⟨y 0, y 1, y 2, funext fun k => match k with | ⟨0, _⟩ => rfl | ⟨1, _⟩ => rfl | ⟨2, _⟩ => rfl⟩

/-! ## The shifted rows -/

theorem back1_word : ∀ i : Fin 2048, IntOp.cmpi .sge (BitVec.ofNat 32 i.val) 1#32 = if 1 ≤ i.val then 1#1 else 0#1 := by decide +kernel
theorem back2_word : ∀ i : Fin 2048, IntOp.cmpi .sge (BitVec.ofNat 32 i.val) 2#32 = if 2 ≤ i.val then 1#1 else 0#1 := by decide +kernel
theorem fwd1_word : ∀ i : Fin 2048, IntOp.cmpi .slt (BitVec.ofNat 32 i.val) 2047#32 = if i.val < 2047 then 1#1 else 0#1 := by decide +kernel
theorem fwd2_word : ∀ i : Fin 2048, IntOp.cmpi .slt (BitVec.ofNat 32 i.val) 2046#32 = if i.val < 2046 then 1#1 else 0#1 := by decide +kernel

/-- A row of a shifted column times a weight, as the bodies choose it: the rotated row, or zero past the end. -/
theorem back1_sel (f : Fin 2048 → EReal) (w : EReal) (r : Fin 2048) (h) :
    Scalar.select (IntOp.cmpi .sge (BitVec.ofNat 32 r.val) 1#32) (f ⟨(r.val + 2048 - 1) % 2048, h⟩ * w) 0 = Mix.back 1 f r * w := by
  rw [back1_word]
  unfold Mix.back
  by_cases hr : 1 ≤ r.val
  · rw [if_pos hr, if_pos hr]
    exact congrArg (fun j => f j * w) (Fin.ext (by show (r.val + 2048 - 1) % 2048 = r.val - 1; omega))
  · rw [if_neg hr, if_neg hr]
    exact (zero_mul w).symm
theorem back2_sel (f : Fin 2048 → EReal) (w : EReal) (r : Fin 2048) (h) :
    Scalar.select (IntOp.cmpi .sge (BitVec.ofNat 32 r.val) 2#32) (f ⟨(r.val + 2048 - 2) % 2048, h⟩ * w) 0 = Mix.back 2 f r * w := by
  rw [back2_word]
  unfold Mix.back
  by_cases hr : 2 ≤ r.val
  · rw [if_pos hr, if_pos hr]
    exact congrArg (fun j => f j * w) (Fin.ext (by show (r.val + 2048 - 2) % 2048 = r.val - 2; omega))
  · rw [if_neg hr, if_neg hr]
    exact (zero_mul w).symm
theorem fwd1_sel (f : Fin 2048 → EReal) (w : EReal) (r : Fin 2048) (h) :
    Scalar.select (IntOp.cmpi .slt (BitVec.ofNat 32 r.val) 2047#32) (f ⟨(r.val + 2048 - 2047) % 2048, h⟩ * w) 0 = Mix.fwd 1 f r * w := by
  rw [fwd1_word]
  unfold Mix.fwd
  by_cases hr : r.val < 2047
  · rw [if_pos hr, dif_pos (show r.val + 1 < 2048 by omega)]
    exact congrArg (fun j => f j * w) (Fin.ext (by show (r.val + 2048 - 2047) % 2048 = r.val + 1; omega))
  · rw [if_neg hr, dif_neg (show ¬ r.val + 1 < 2048 by omega)]
    exact (zero_mul w).symm
theorem fwd2_sel (f : Fin 2048 → EReal) (w : EReal) (r : Fin 2048) (h) :
    Scalar.select (IntOp.cmpi .slt (BitVec.ofNat 32 r.val) 2046#32) (f ⟨(r.val + 2048 - 2046) % 2048, h⟩ * w) 0 = Mix.fwd 2 f r * w := by
  rw [fwd2_word]
  unfold Mix.fwd
  by_cases hr : r.val < 2046
  · rw [if_pos hr, dif_pos (show r.val + 2 < 2048 by omega)]
    exact congrArg (fun j => f j * w) (Fin.ext (by show (r.val + 2048 - 2046) % 2048 = r.val + 2; omega))
  · rw [if_neg hr, dif_neg (show ¬ r.val + 2 < 2048 by omega)]
    exact (zero_mul w).symm

/-! ## The stored values -/

/-- The taps of a column, in the first three rows of a block of eight. -/
def taps (v : Vec Ideal S8x256 .f32) (q : Fin 256) (j : Fin 3) : EReal := v (ix2 ⟨j.val, by omega⟩ q)

section
variable (v0 v2 v4 : Vec Ideal S2048x256 .bf16) (v6 : Vec Ideal S8x256 .f32) (v8 : Vec Ideal S2048x256 .f32) (r : Fin 2048) (q : Fin 256)

theorem pay0 : k0_pay1 v0 v2 v6 v4 (ix2 r q) = v4 (ix2 r q) * Mix.conv (taps v6 q) (fun i => v0 (ix2 i q) * v2 (ix2 i q)) r := by
  unfold Mix.conv
  pointwise [k0_pay1]
  exact congrArg (v4 (ix2 r q) * ·) (congrArg₂ (· + ·) (congrArg (_ + ·) (back1_sel (fun i => v0 (ix2 i q) * v2 (ix2 i q)) _ r _))
    (back2_sel (fun i => v0 (ix2 i q) * v2 (ix2 i q)) _ r _))

theorem pay7_10 : k7_pay10 v0 v4 v6 (ix2 r q) = Mix.conv (taps v6 q) (fun i => v4 (ix2 i q) * v0 (ix2 i q)) r := by
  unfold Mix.conv
  pointwise [k7_pay10, k7_pay5, k7_pay7, k7_pay8, k7_pay9, k7_pay3, k7_pay4]
  exact congrArg₂ (· + ·) (congrArg (_ + ·) (back1_sel (fun i => v4 (ix2 i q) * v0 (ix2 i q)) _ r _))
    (back2_sel (fun i => v4 (ix2 i q) * v0 (ix2 i q)) _ r _)
set_option maxRecDepth 65536 in
theorem pay7_14 : k7_pay14 (k7_pay5 v6) (k7_pay11 v2 v8) (k7_pay12 v2 v6 v8) (k7_pay13 v2 v8) (iota .tc S2048x256 32 [0] iota_S2048x256_d0_w32) (ix2 r q)
    = Mix.convT (taps v6 q) (fun i => v8 (ix2 i q) * v2 (ix2 i q)) r := by
  unfold Mix.convT
  pointwise [k7_pay14, k7_pay5, k7_pay11, k7_pay12, k7_pay13, k7_pay6]
  exact congrArg₂ (· + ·) (congrArg (_ + ·) (fwd1_sel (fun i => v8 (ix2 i q) * v2 (ix2 i q)) _ r _))
    (fwd2_sel (fun i => v8 (ix2 i q) * v2 (ix2 i q)) _ r _)
theorem pay7_15 : k7_pay15 (k7_pay4 v4) (k7_pay5 v6) (k7_pay11 v2 v8) (k7_pay12 v2 v6 v8) (k7_pay13 v2 v8) (iota .tc S2048x256 32 [0] iota_S2048x256_d0_w32) (ix3 0 r q)
    = Mix.convT (taps v6 q) (fun i => v8 (ix2 i q) * v2 (ix2 i q)) r * v4 (ix2 r q) := by
  rw [← pay7_14]
  pointwise [k7_pay15, k7_pay4]
theorem pay7_16 : k7_pay16 (k7_pay6 v8) (k7_pay10 v0 v4 v6) (ix3 0 r q) = v8 (ix2 r q) * Mix.conv (taps v6 q) (fun i => v4 (ix2 i q) * v0 (ix2 i q)) r := by
  rw [← pay7_10]
  pointwise [k7_pay16, k7_pay6]
theorem pay7_17 : k7_pay17 (k7_pay3 v0) (k7_pay5 v6) (k7_pay11 v2 v8) (k7_pay12 v2 v6 v8) (k7_pay13 v2 v8) (iota .tc S2048x256 32 [0] iota_S2048x256_d0_w32) (ix3 0 r q)
    = Mix.convT (taps v6 q) (fun i => v8 (ix2 i q) * v2 (ix2 i q)) r * v0 (ix2 r q) := by
  rw [← pay7_14]
  pointwise [k7_pay17, k7_pay3]

theorem pay7_19 : k7_pay19 (k7_pay9 v0 v4) (k7_pay11 v2 v8) (ix2 0 q)
    = ∑ i : Fin 2048, v8 (ix2 i q) * v2 (ix2 i q) * Mix.back 2 (fun i => v4 (ix2 i q) * v0 (ix2 i q)) i := by
  pointwise [k7_pay19, k7_pay9, k7_pay11, k7_pay7, k7_pay6, k7_pay3, k7_pay4]
  refine Finset.sum_congr rfl fun i _ => (congrArg (Scalar.select _ · 0) (mul_comm _ _)).trans ?_
  exact (back2_sel (fun i => v4 (ix2 i q) * v0 (ix2 i q)) (v8 (ix2 i q) * v2 (ix2 i q)) i _).trans (mul_comm _ _)
theorem pay7_1 : k7_pay1 (k7_pay8 v0 v4) (k7_pay11 v2 v8) (ix2 0 q)
    = ∑ i : Fin 2048, v8 (ix2 i q) * v2 (ix2 i q) * Mix.back 1 (fun i => v4 (ix2 i q) * v0 (ix2 i q)) i := by
  pointwise [k7_pay1, k7_pay8, k7_pay11, k7_pay7, k7_pay6, k7_pay3, k7_pay4]
  refine Finset.sum_congr rfl fun i _ => (congrArg (Scalar.select _ · 0) (mul_comm _ _)).trans ?_
  exact (back1_sel (fun i => v4 (ix2 i q) * v0 (ix2 i q)) (v8 (ix2 i q) * v2 (ix2 i q)) i _).trans (mul_comm _ _)
theorem pay7_2 : k7_pay2 (k7_pay7 v0 v4) (k7_pay11 v2 v8) (ix2 0 q)
    = ∑ i : Fin 2048, v8 (ix2 i q) * v2 (ix2 i q) * Mix.back 0 (fun i => v4 (ix2 i q) * v0 (ix2 i q)) i := by
  simp only [Mix.back_zero]
  pointwise [k7_pay2, k7_pay11, k7_pay7, k7_pay6, k7_pay3, k7_pay4]
end

end Cert.Kernel6Ideal.Value

end
-- ==== Proof.Mix.ConvArr.lean ====
/-
  The convolution's two calls: the arrays they leave, from the arrays they read.
-/
module

public import proofs.«01_k».proof.Proof.Mix.Conv
import Idealize.ShloMosaic.Lib.Pointwise
import Idealize.ShloMosaic.Lib.IdealHost

@[expose] public section

noncomputable section

namespace Cert.Kernel6Ideal.Value

open Idealize.SL Idealize.SL.Sem Idealize.ShloMosaic Idealize.ShloMosaic.TcCoe Cert.Kernel6Ideal Cert.Kernel6Ideal.Gen

/-- An array read at an index whose coordinates are known. -/
theorem rd2 {α : Type} {n m : ℕ} (x : (⟨2, ![n, m]⟩ : Shape).Idx → α) (y : (⟨2, ![n, m]⟩ : Shape).Idx) (i : Fin n) (j : Fin m)
    (h0 : (y 0).val = i.val) (h1 : (y 1).val = j.val) : x y = x (ix2 i j) :=
  congrArg x (funext fun k => Fin.ext (match k with | ⟨0, _⟩ => h0 | ⟨1, _⟩ => h1))
theorem rd3 {α : Type} {n m l : ℕ} (x : (⟨3, ![n, m, l]⟩ : Shape).Idx → α) (y : (⟨3, ![n, m, l]⟩ : Shape).Idx) (i : Fin n) (j : Fin m) (k : Fin l)
    (h0 : (y 0).val = i.val) (h1 : (y 1).val = j.val) (h2 : (y 2).val = k.val) : x y = x (ix3 i j k) :=
  congrArg x (funext fun k => Fin.ext (match k with | ⟨0, _⟩ => h0 | ⟨1, _⟩ => h1 | ⟨2, _⟩ => h2))

theorem out0_apply (x0 x1 x2 : Vec Ideal S2048x256 .bf16) (x3 : Vec Ideal S8x256 .f32) (r : Fin 2048) (q : Fin 256) :
    out0_4 x0 x1 x2 x3 (ix2 r q) = x1 (ix2 r q) * Mix.conv (taps x3 q) (fun i => x2 (ix2 i q) * x0 (ix2 i q)) r := by
  unfold out0_4
  rw [View.canon_unit_zero (S := S2048x256) hz2, View.ld_unit_zero (S := S2048x256) hz2 _ x0, View.ld_unit_zero (S := S2048x256) hz2 _ x1,
    View.ld_unit_zero (S := S2048x256) hz2 _ x2, View.ld_unit_zero (S := S8x256) hz2 _ x3]
  exact pay0 x2 x0 x1 x3 r q

variable (V : (c : Dev nD) → (b : Ref sig .tc) → Buf (Elt Ideal) ((c : Thread nD τ).loc b)) (c : Dev nD) (a : Mix.Args)

/-- Column `q` of the block of columns of step `t` of four. -/
def col4 (t : Nat) (ht : t < 4) (q : Fin 256) : Fin 1024 := ⟨256 * t + q.val, by omega⟩

theorem at0_0 : ∀ t : Fin grid0.N, win0_0.index t 0 = 0 ∧ win0_0.index t 1 = t.val := by decide +kernel
theorem at0_1 : ∀ t : Fin grid0.N, win0_1.index t 0 = 0 ∧ win0_1.index t 1 = 4 + t.val := by decide +kernel
theorem at0_2 : ∀ t : Fin grid0.N, win0_2.index t 0 = 0 ∧ win0_2.index t 1 = 8 + t.val := by decide +kernel
theorem at0_3 : ∀ t : Fin grid0.N, win0_3.index t 0 = 0 ∧ win0_3.index t 1 = t.val := by decide +kernel
theorem at0_4 : ∀ t : Fin grid0.N, win0_4.index t 0 = 0 ∧ win0_4.index t 1 = t.val := by decide +kernel
theorem at7_0 : ∀ t : Fin grid7.N, win7_0.index t 0 = 0 ∧ win7_0.index t 1 = t.val := by decide +kernel
theorem at7_1 : ∀ t : Fin grid7.N, win7_1.index t 0 = 0 ∧ win7_1.index t 1 = 4 + t.val := by decide +kernel
theorem at7_2 : ∀ t : Fin grid7.N, win7_2.index t 0 = 0 ∧ win7_2.index t 1 = 8 + t.val := by decide +kernel
theorem at7_3 : ∀ t : Fin grid7.N, win7_3.index t 0 = 0 ∧ win7_3.index t 1 = t.val := by decide +kernel
theorem at7_4 : ∀ t : Fin grid7.N, win7_4.index t 0 = 0 ∧ win7_4.index t 1 = t.val := by decide +kernel
theorem at7_5 : ∀ t : Fin grid7.N, win7_5.index t 0 = 0 ∧ win7_5.index t 1 = 0 ∧ win7_5.index t 2 = t.val := by decide +kernel
theorem at7_6 : ∀ t : Fin grid7.N, win7_6.index t 0 = 0 ∧ win7_6.index t 1 = t.val := by decide +kernel

section
variable (hP : ∀ i f, (V c main_arg0 : Vec Ideal S2048x8704 .bf16) (ix2 i f) = a.p i f)
  (hW : ∀ (j : Fin 3) q, (V c main_v0 : Vec Ideal S8x1024 .f32) (ix2 (Mix.tapRow j) q) = a.cw j q)

include hP in
theorem blk0_0 (t : Fin cfg0.N) (r : Fin 2048) (q : Fin 256) : (iblk0 V c 0 t : Vec Ideal S2048x256 .bf16) (ix2 r q) = Mix.xc a r (col4 t.val t.isLt q) := by
  unfold iblk0
  rw [View.read_apply]
  refine (rd2 (V c main_arg0 : Vec Ideal S2048x8704 .bf16) _ r (Mix.at_ 0 (col4 t.val t.isLt q)) ?_ ?_).trans (hP _ _)
  · show win0_0.index t 0 * 2048 + 1 * r.val = r.val; rw [(at0_0 t).1]; omega
  · show win0_0.index t 1 * 256 + 1 * q.val = 0 + (256 * t.val + q.val); rw [(at0_0 t).2]; omega
include hP in
theorem blk0_1 (t : Fin cfg0.N) (r : Fin 2048) (q : Fin 256) : (iblk0 V c 1 t : Vec Ideal S2048x256 .bf16) (ix2 r q) = Mix.bg a r (col4 t.val t.isLt q) := by
  unfold iblk0
  rw [View.read_apply]
  refine (rd2 (V c main_arg0 : Vec Ideal S2048x8704 .bf16) _ r (Mix.at_ 1024 (col4 t.val t.isLt q)) ?_ ?_).trans (hP _ _)
  · show win0_1.index t 0 * 2048 + 1 * r.val = r.val; rw [(at0_1 t).1]; omega
  · show win0_1.index t 1 * 256 + 1 * q.val = 1024 + (256 * t.val + q.val); rw [(at0_1 t).2]; omega
include hP in
theorem blk0_2 (t : Fin cfg0.N) (r : Fin 2048) (q : Fin 256) : (iblk0 V c 2 t : Vec Ideal S2048x256 .bf16) (ix2 r q) = Mix.cg a r (col4 t.val t.isLt q) := by
  unfold iblk0
  rw [View.read_apply]
  refine (rd2 (V c main_arg0 : Vec Ideal S2048x8704 .bf16) _ r (Mix.at_ 2048 (col4 t.val t.isLt q)) ?_ ?_).trans (hP _ _)
  · show win0_2.index t 0 * 2048 + 1 * r.val = r.val; rw [(at0_2 t).1]; omega
  · show win0_2.index t 1 * 256 + 1 * q.val = 2048 + (256 * t.val + q.val); rw [(at0_2 t).2]; omega
include hW in
theorem taps0 (t : Fin cfg0.N) (q : Fin 256) : taps (iblk0 V c 3 t : Vec Ideal S8x256 .f32) q = fun j => a.cw j (col4 t.val t.isLt q) := by
  funext j
  unfold taps iblk0
  rw [View.read_apply]
  refine (rd2 (V c main_v0 : Vec Ideal S8x1024 .f32) _ ⟨j.val, by omega⟩ (col4 t.val t.isLt q) ?_ ?_).trans (hW _ _)
  · show win0_3.index t 0 * 8 + 1 * j.val = j.val; rw [(at0_3 t).1]; omega
  · show win0_3.index t 1 * 256 + 1 * q.val = 256 * t.val + q.val; rw [(at0_3 t).2]; omega

include hP hW in
/-- The array of the gated convolution. -/
theorem ca_arr : (dat0 V c).arrAt 4 cfg0.N = fun y : S2048x1024.Idx => Mix.ca a (y 0) (y 1) := by
  refine (dat0 V c).arrAt_eq_of_covers 4 _ (by decide +kernel) fun t hf y => ?_
  blk_simp
  rw [after0_4]
  obtain ⟨r, q, rfl⟩ := idx2 (a := 2048) (b := 256) y
  have e0 : ((win0_4.blk t).view.emb (ix2 r q) 0 : Fin 2048) = r := Fin.ext (by
    show win0_4.index t 0 * 2048 + 1 * r.val = r.val; rw [(at0_4 t).1]; omega)
  have e1 : ((win0_4.blk t).view.emb (ix2 r q) 1 : Fin 1024) = col4 t.val t.isLt q := Fin.ext (by
    show win0_4.index t 1 * 256 + 1 * q.val = 256 * t.val + q.val; rw [(at0_4 t).2]; omega)
  rw [e0, e1]
  refine (out0_apply _ _ _ _ r q).trans (congrArg₂ (· * ·) (blk0_1 V c a hP t r q) ?_)
  rw [taps0 V c a hW t q]
  exact congrArg (fun f => Mix.conv _ f r) (funext fun i => congrArg₂ (· * ·) (blk0_2 V c a hP t i q) (blk0_0 V c a hP t i q))
end

/-! ## The convolution's gradient -/

section
variable (c : Dev nD) (i : grid7.Coords) (arg3 : Memref sig .tc .vmem S2048x256 .bf16) (harg3 : arg3.IsWhole) (arg4 : Memref sig .tc .vmem S2048x256 .bf16) (harg4 : arg4.IsWhole)
  (arg5 : Memref sig .tc .vmem S2048x256 .bf16) (harg5 : arg5.IsWhole) (arg6 : Memref sig .tc .vmem S8x256 .f32) (harg6 : arg6.IsWhole)
  (arg7 : Memref sig .tc .vmem S2048x256 .f32) (harg7 : arg7.IsWhole) (arg8 : Memref sig .tc .vmem S3x2048x256 .bf16) (harg8 : arg8.IsWhole)
  (arg9 : Memref sig .tc .vmem S8x256 .f32) (harg9 : arg9.IsWhole)
  (x0 x1 x2 : Vec Ideal S2048x256 .bf16) (x3 : Vec Ideal S8x256 .f32) (x4 : Vec Ideal S2048x256 .f32)

/-- The block of the three gradients. -/
def d3Block (x0 x1 x2 : Vec Ideal S2048x256 .bf16) (x3 : Vec Ideal S8x256 .f32) (x4 : Vec Ideal S2048x256 .f32) : Vec Ideal S3x2048x256 .bf16 := fun y =>
  match (y 0 : Fin 3) with
  | ⟨0, _⟩ => Mix.convT (taps x3 (y 2)) (fun i => x4 (ix2 i (y 2)) * x1 (ix2 i (y 2))) (y 1) * x2 (ix2 (y 1) (y 2))
  | ⟨1, _⟩ => x4 (ix2 (y 1) (y 2)) * Mix.conv (taps x3 (y 2)) (fun i => x2 (ix2 i (y 2)) * x0 (ix2 i (y 2))) (y 1)
  | ⟨2, _⟩ => Mix.convT (taps x3 (y 2)) (fun i => x4 (ix2 i (y 2)) * x1 (ix2 i (y 2))) (y 1) * x0 (ix2 (y 1) (y 2))

theorem emb_plane {n R N : ℕ} (b : Fin n) (h) (r : Fin R) (q : Fin N) :
    (Rect.unit (s := ⟨3, ![n, R, N]⟩) ![b.val, 0, 0] ![1, R, N] h).emb (ix3 (n0 := 1) 0 r q) = ix3 b r q := by
  refine funext fun a => Fin.ext ?_
  match a with
  | ⟨0, _⟩ => show b.val + 1 * 0 = b.val; omega
  | ⟨1, _⟩ => show 0 + 1 * r.val = r.val; omega
  | ⟨2, _⟩ => show 0 + 1 * q.val = q.val; omega

set_option maxRecDepth 65536 in
theorem out7_5_apply (y : S3x2048x256.Idx) :
    out7_A_5 c i arg3 harg3 arg4 harg4 arg5 harg5 arg6 harg6 arg7 harg7 arg8 harg8 arg9 harg9 x0 x1 x2 x3 x4 y = d3Block x0 x1 x2 x3 x4 y := by
  unfold out7_A_5
  refine View.read_writes_apply_of_pieces _ _ (d3Block x0 x1 x2 x3 x4) _ ?_ _ (cover7_A_5 c i arg3 harg3 arg4 harg4 arg5 harg5 arg6 harg6 arg7 harg7 arg8 harg8 arg9 harg9 x0 x1 x2 x3 x4 y)
  unfold kernelRun7_A; dsimp only; sl_unfold_words
  simp only [View.readAt_eq_ld]
  rw [harg3.read_unread x0, harg4.read_unread x1, harg5.read_unread x2, harg6.read_unread x3, harg7.read_unread x4, View.ld_unit_zero (S := S2048x256) hz2 _ x0,
    View.ld_unit_zero (S := S2048x256) hz2 _ x1, View.ld_unit_zero (S := S2048x256) hz2 _ x2, View.ld_unit_zero (S := S8x256) hz2 _ x3, View.ld_unit_zero (S := S2048x256) hz2 _ x4]
  intro p hp
  simp only [List.mem_cons, List.not_mem_nil, or_false] at hp
  rcases hp with rfl | rfl | rfl <;> intro z <;> obtain ⟨k, r, q, rfl⟩ := idx3 (a := 1) (b := 2048) (c := 256) z <;>
    obtain rfl : k = (0 : Fin 1) := Subsingleton.elim _ _
  · exact (pay7_17 x0 x1 x3 x4 r q).trans (congrArg (d3Block x0 x1 x2 x3 x4) (emb_plane (n := 3) (R := 2048) (N := 256) 2 inb_S3x2048x256_S1x2048x256_2_0_0 r q)).symm
  · exact (pay7_16 x0 x2 x3 x4 r q).trans (congrArg (d3Block x0 x1 x2 x3 x4) (emb_plane (n := 3) (R := 2048) (N := 256) 1 inb_S3x2048x256_S1x2048x256_1_0_0 r q)).symm
  · exact (pay7_15 x1 x2 x3 x4 r q).trans (congrArg (d3Block x0 x1 x2 x3 x4) (emb_plane (n := 3) (R := 2048) (N := 256) 0 inb_S3x2048x256_S1x2048x256_0_0_0 r q)).symm

/-- Row `j` of the taps' gradient. -/
def tapSum (x0 x1 x2 : Vec Ideal S2048x256 .bf16) (x4 : Vec Ideal S2048x256 .f32) (s : ℕ) (q : Fin 256) : EReal :=
  ∑ i : Fin 2048, x4 (ix2 i q) * x1 (ix2 i q) * Mix.back s (fun i => x2 (ix2 i q) * x0 (ix2 i q)) i

theorem emb_row (j : Fin 8) (h) (q : Fin 256) : (Rect.unit (s := S8x256) ![j.val, 0] ![1, 256] h).emb (ix2 (n0 := 1) 0 q) = ix2 j q := by
  refine funext fun a => Fin.ext ?_
  match a with
  | ⟨0, _⟩ => show j.val + 1 * 0 = j.val; omega
  | ⟨1, _⟩ => show 0 + 1 * q.val = q.val; omega
theorem not_row (j k : Fin 8) (h) (q : Fin 256) (hjk : k.val ≠ j.val) : ix2 k q ∉ (Rect.unit (s := S8x256) ![j.val, 0] ![1, 256] h).set := by
  rw [Rect.mem_set_unit]
  intro hm
  have h0 : j.val ≤ k.val ∧ k.val < j.val + 1 := hm 0
  omega

/-- The last store a single row, read at a row: what was stored there, or what the stores before it left. -/
theorem canon_row (j k : Fin 8) (h) (w : Vec Ideal S1x256 .f32) (L : List (View.Piece (Elt Ideal) S8x256 .f32)) (q : Fin 256) :
    View.canon (⟨Rect.unit (s := S8x256) ![j.val, 0] ![1, 256] h, w⟩ :: L) (ix2 k q) = if k.val = j.val then w (ix2 0 q) else View.canon L (ix2 k q) := by
  by_cases hk : k.val = j.val
  · obtain rfl : k = j := Fin.ext hk
    rw [if_pos rfl]
    have e := View.canon_cons_emb (Rect.unit (s := S8x256) ![k.val, 0] ![1, 256] h) w L (ix2 (n0 := 1) 0 q)
    rw [emb_row] at e
    exact e
  · rw [if_neg hk]
    exact View.canon_cons_of_not_mem _ _ (not_row j k h q hk)

set_option maxRecDepth 65536 in
theorem out7_6_apply (j : Fin 8) (q : Fin 256) :
    out7_A_6 c i arg3 harg3 arg4 harg4 arg5 harg5 arg6 harg6 arg7 harg7 arg8 harg8 arg9 harg9 x0 x1 x2 x3 x4 (ix2 j q)
      = if j.val < 3 then tapSum x0 x1 x2 x4 (2 - j.val) q else 0 := by
  unfold out7_A_6
  rw [View.read_writes_junk_eq_canon]
  unfold kernelRun7_A; dsimp only; sl_unfold_words
  simp only [View.readAt_eq_ld]
  rw [harg3.read_unread x0, harg4.read_unread x1, harg5.read_unread x2, harg7.read_unread x4, View.ld_unit_zero (S := S2048x256) hz2 _ x0,
    View.ld_unit_zero (S := S2048x256) hz2 _ x1, View.ld_unit_zero (S := S2048x256) hz2 _ x2, View.ld_unit_zero (S := S2048x256) hz2 _ x4]
  refine (canon_row 2 j _ _ _ q).trans ?_
  by_cases j2 : j.val = 2
  · refine (if_pos j2).trans (Eq.trans ?_ (if_pos (by omega)).symm)
    rw [j2]
    exact pay7_2 x0 x1 x2 x4 q
  refine (if_neg j2).trans ((canon_row 1 j _ _ _ q).trans ?_)
  by_cases j1 : j.val = 1
  · refine (if_pos j1).trans (Eq.trans ?_ (if_pos (by omega)).symm)
    rw [j1]
    exact pay7_1 x0 x1 x2 x4 q
  refine (if_neg j1).trans ((canon_row 0 j _ _ _ q).trans ?_)
  by_cases j0 : j.val = 0
  · refine (if_pos j0).trans (Eq.trans ?_ (if_pos (by omega)).symm)
    rw [j0]
    exact pay7_19 x0 x1 x2 x4 q
  refine (if_neg j0).trans ((congrFun (View.canon_unit_zero (S := S8x256) hz2 _ _) (ix2 j q)).trans ?_)
  rw [if_neg (by omega)]
  pointwise [k7_pay18]
end

section
variable (hP : ∀ i f, (V c main_arg0 : Vec Ideal S2048x8704 .bf16) (ix2 i f) = a.p i f)
  (hW : ∀ (j : Fin 3) q, (V c main_v0 : Vec Ideal S8x1024 .f32) (ix2 (Mix.tapRow j) q) = a.cw j q)
  (hD : ∀ i q, (V c main_v11_0 : Vec Ideal S2048x1024 .f32) (ix2 i q) = Mix.dca a i q)

include hP in
theorem blk7_0 (t : Fin cfg7.N) (r : Fin 2048) (q : Fin 256) : (iblk7 V c 0 t : Vec Ideal S2048x256 .bf16) (ix2 r q) = Mix.xc a r (col4 t.val t.isLt q) := by
  unfold iblk7
  rw [View.read_apply]
  refine (rd2 (V c main_arg0 : Vec Ideal S2048x8704 .bf16) _ r (Mix.at_ 0 (col4 t.val t.isLt q)) ?_ ?_).trans (hP _ _)
  · show win7_0.index t 0 * 2048 + 1 * r.val = r.val; rw [(at7_0 t).1]; omega
  · show win7_0.index t 1 * 256 + 1 * q.val = 0 + (256 * t.val + q.val); rw [(at7_0 t).2]; omega
include hP in
theorem blk7_1 (t : Fin cfg7.N) (r : Fin 2048) (q : Fin 256) : (iblk7 V c 1 t : Vec Ideal S2048x256 .bf16) (ix2 r q) = Mix.bg a r (col4 t.val t.isLt q) := by
  unfold iblk7
  rw [View.read_apply]
  refine (rd2 (V c main_arg0 : Vec Ideal S2048x8704 .bf16) _ r (Mix.at_ 1024 (col4 t.val t.isLt q)) ?_ ?_).trans (hP _ _)
  · show win7_1.index t 0 * 2048 + 1 * r.val = r.val; rw [(at7_1 t).1]; omega
  · show win7_1.index t 1 * 256 + 1 * q.val = 1024 + (256 * t.val + q.val); rw [(at7_1 t).2]; omega
include hP in
theorem blk7_2 (t : Fin cfg7.N) (r : Fin 2048) (q : Fin 256) : (iblk7 V c 2 t : Vec Ideal S2048x256 .bf16) (ix2 r q) = Mix.cg a r (col4 t.val t.isLt q) := by
  unfold iblk7
  rw [View.read_apply]
  refine (rd2 (V c main_arg0 : Vec Ideal S2048x8704 .bf16) _ r (Mix.at_ 2048 (col4 t.val t.isLt q)) ?_ ?_).trans (hP _ _)
  · show win7_2.index t 0 * 2048 + 1 * r.val = r.val; rw [(at7_2 t).1]; omega
  · show win7_2.index t 1 * 256 + 1 * q.val = 2048 + (256 * t.val + q.val); rw [(at7_2 t).2]; omega
include hW in
theorem taps7 (t : Fin cfg7.N) (q : Fin 256) : taps (iblk7 V c 3 t : Vec Ideal S8x256 .f32) q = fun j => a.cw j (col4 t.val t.isLt q) := by
  funext j
  unfold taps iblk7
  rw [View.read_apply]
  refine (rd2 (V c main_v0 : Vec Ideal S8x1024 .f32) _ ⟨j.val, by omega⟩ (col4 t.val t.isLt q) ?_ ?_).trans (hW _ _)
  · show win7_3.index t 0 * 8 + 1 * j.val = j.val; rw [(at7_3 t).1]; omega
  · show win7_3.index t 1 * 256 + 1 * q.val = 256 * t.val + q.val; rw [(at7_3 t).2]; omega
include hD in
theorem blk7_4 (t : Fin cfg7.N) (r : Fin 2048) (q : Fin 256) : (iblk7 V c 4 t : Vec Ideal S2048x256 .f32) (ix2 r q) = Mix.dca a r (col4 t.val t.isLt q) := by
  unfold iblk7
  rw [View.read_apply]
  refine (rd2 (V c main_v11_0 : Vec Ideal S2048x1024 .f32) _ r (col4 t.val t.isLt q) ?_ ?_).trans (hD _ _)
  · show win7_4.index t 0 * 2048 + 1 * r.val = r.val; rw [(at7_4 t).1]; omega
  · show win7_4.index t 1 * 256 + 1 * q.val = 256 * t.val + q.val; rw [(at7_4 t).2]; omega

/-- Two blocks multiplied, a column. -/
def cprod (x y : S2048x256.Idx → EReal) (q : Fin 256) (i : Fin 2048) : EReal := x (ix2 i q) * y (ix2 i q)

include hP in
theorem u7 (t : Fin cfg7.N) (q : Fin 256) : cprod (iblk7 V c 2 t) (iblk7 V c 0 t) q = Mix.u a (col4 t.val t.isLt q) :=
  funext fun i => congrArg₂ (fun s t : EReal => s * t) (blk7_2 V c a hP t i q) (blk7_0 V c a hP t i q)
include hP hD in
theorem dconv7 (t : Fin cfg7.N) (q : Fin 256) : cprod (iblk7 V c 4 t) (iblk7 V c 1 t) q = Mix.dconv a (col4 t.val t.isLt q) :=
  funext fun i => congrArg₂ (fun s t : EReal => s * t) (blk7_4 V c a hD t i q) (blk7_1 V c a hP t i q)

include hP hW hD in
/-- The array of the three gradients. -/
theorem d3_arr : (dat7 V c).arrAt 5 cfg7.N = fun y : S3x2048x1024.Idx => Mix.d3 a (y 0) (y 1) (y 2) := by
  refine (dat7 V c).arrAt_eq_of_covers 5 _ (by decide +kernel) fun t hf y => ?_
  blk_simp
  rw [after7_5]
  obtain ⟨b, r, q, rfl⟩ := idx3 (a := 3) (b := 2048) (c := 256) y
  have e0 : ((win7_5.blk t).view.emb (ix3 b r q) 0 : Fin 3) = b := Fin.ext (by
    show win7_5.index t 0 * 3 + 1 * b.val = b.val; rw [(at7_5 t).1]; omega)
  have e1 : ((win7_5.blk t).view.emb (ix3 b r q) 1 : Fin 2048) = r := Fin.ext (by
    show win7_5.index t 1 * 2048 + 1 * r.val = r.val; rw [(at7_5 t).2.1]; omega)
  have e2 : ((win7_5.blk t).view.emb (ix3 b r q) 2 : Fin 1024) = col4 t.val t.isLt q := Fin.ext (by
    show win7_5.index t 2 * 256 + 1 * q.val = 256 * t.val + q.val; rw [(at7_5 t).2.2]; omega)
  rw [e0, e1, e2]
  unfold outsAt7
  dsimp only
  rw [out7_5_apply]
  have ht := taps7 V c a hW t q
  have hu := u7 V c a hP t q
  have hd := dconv7 V c a hP hD t q
  match b with
  | ⟨0, _⟩ => exact congrArg₂ (fun s t : EReal => s * t) (congrArg₂ (fun w f => Mix.convT w f r) ht hd) (blk7_2 V c a hP t r q)
  | ⟨1, _⟩ => exact congrArg₂ (fun s t : EReal => s * t) (blk7_4 V c a hD t r q) (congrArg₂ (fun w f => Mix.conv w f r) ht hu)
  | ⟨2, _⟩ => exact congrArg₂ (fun s t : EReal => s * t) (congrArg₂ (fun w f => Mix.convT w f r) ht hd) (blk7_0 V c a hP t r q)

include hP hD in
/-- The array of the taps' gradient: three rows, and zeros. -/
theorem dtap_arr : (dat7 V c).arrAt 6 cfg7.N = fun y : S8x1024.Idx => Mix.dtap8 a (y 0) (y 1) := by
  refine (dat7 V c).arrAt_eq_of_covers 6 _ (by decide +kernel) fun t hf y => ?_
  blk_simp
  rw [after7_6]
  obtain ⟨j, q, rfl⟩ := idx2 (a := 8) (b := 256) y
  have e0 : ((win7_6.blk t).view.emb (ix2 j q) 0 : Fin 8) = j := Fin.ext (by
    show win7_6.index t 0 * 8 + 1 * j.val = j.val; rw [(at7_6 t).1]; omega)
  have e1 : ((win7_6.blk t).view.emb (ix2 j q) 1 : Fin 1024) = col4 t.val t.isLt q := Fin.ext (by
    show win7_6.index t 1 * 256 + 1 * q.val = 256 * t.val + q.val; rw [(at7_6 t).2]; omega)
  rw [e0, e1]
  unfold outsAt7
  dsimp only
  rw [out7_6_apply]
  have hu := u7 V c a hP t q
  have hd := dconv7 V c a hP hD t q
  have hs : tapSum (iblk7 V c 0 t) (iblk7 V c 1 t) (iblk7 V c 2 t) (iblk7 V c 4 t) (2 - j.val) q = Mix.dtap a j.val (col4 t.val t.isLt q) :=
    Finset.sum_congr rfl fun i _ => congrArg₂ (fun s t : EReal => s * t) (congrFun hd i) (congrArg (fun f => Mix.back (2 - j.val) f i) hu)
  exact congrArg (fun s : EReal => if j.val < 3 then s else 0) hs
end

end Cert.Kernel6Ideal.Value

end
-- ==== Proof.Mix.Gates.lean ====
/-
  The gradients at the two branches and at the two gates: the arrays that their call leaves, from the arrays it reads.
-/
module

public import proofs.«01_k».proof.Proof.Mix.ConvArr
import Idealize.ShloMosaic.Lib.Pointwise
import Idealize.ShloMosaic.Lib.IdealHost

@[expose] public section

noncomputable section

namespace Cert.Kernel6Ideal.Value

open Idealize.SL Idealize.SL.Sem Idealize.ShloMosaic Idealize.ShloMosaic.TcCoe Cert.Kernel6Ideal Cert.Kernel6Ideal.Gen

/-! ## What the body leaves in its blocks -/

/-- Rows times the rows of a weight. -/
def rowsRows (x : Vec Ideal S1024x2048 .bf16) (w : Vec Ideal S512x2048 .bf16) (r : Fin 1024) (q : Fin 512) : EReal :=
  ∑ l : Fin 2048, x (ix2 r l) * w (ix2 q l)

/-- The gradient at a gate's argument `g`, of the gradient `d` at the gated rows and of the branch's value `v`. -/
def gateGrad (d v g : EReal) : EReal := d * v * Ffn.sig g * (1 - Ffn.sig g)

section
variable (x0 : Vec Ideal S1024x2048 .bf16) (x1 : Vec Ideal S512x2048 .bf16) (x2 x3 x4 x5 : Vec Ideal S1024x512 .bf16) (r : Fin 1024) (q : Fin 512)

theorem out3_6_apply : out3_6 x0 x1 x2 x3 x4 x5 (ix2 r q) = rowsRows x0 x1 r q * Ffn.sig (x4 (ix2 r q)) := by
  unfold out3_6
  rw [View.canon_unit_zero (S := S1024x512) hz2, View.ld_unit_zero (S := S1024x2048) hz2 _ x0, View.ld_unit_zero (S := S512x2048) hz2 _ x1,
    View.ld_unit_zero (S := S1024x512) hz2 _ x4]
  unfold rowsRows Ffn.sig
  pointwise [k3_pay5, k3_pay2, k3_pay3]
  rfl
theorem out3_7_apply : out3_7 x0 x1 x2 x3 x4 x5 (ix2 r q) = rowsRows x0 x1 r q * Ffn.sig (x5 (ix2 r q)) := by
  unfold out3_7
  rw [View.canon_unit_zero (S := S1024x512) hz2, View.ld_unit_zero (S := S1024x2048) hz2 _ x0, View.ld_unit_zero (S := S512x2048) hz2 _ x1,
    View.ld_unit_zero (S := S1024x512) hz2 _ x5]
  unfold rowsRows Ffn.sig
  pointwise [k3_pay6, k3_pay2, k3_pay4]
  rfl

theorem pay3_7 : k3_pay7 x0 x1 x4 x2 (ix3 0 r q) = gateGrad (rowsRows x0 x1 r q) (x2 (ix2 r q)) (x4 (ix2 r q)) := by
  have e1 : Ideal.ofBits .f32 0x3F800000#32 = 1 := Ideal.ofBits_one_f32
  unfold gateGrad rowsRows Ffn.sig
  rw [← e1]
  pointwise [k3_pay7, k3_pay2, k3_pay3]
  rfl
theorem pay3_1 : k3_pay1 (k3_pay4 x5) (k3_pay8 x0 x1 x5 x3) (Scalar.ofBits .f32 0x3F800000#32) (ix3 0 r q)
    = gateGrad (rowsRows x0 x1 r q) (x3 (ix2 r q)) (x5 (ix2 r q)) := by
  have e1 : Ideal.ofBits .f32 0x3F800000#32 = 1 := Ideal.ofBits_one_f32
  unfold gateGrad rowsRows Ffn.sig
  rw [← e1]
  pointwise [k3_pay1, k3_pay8, k3_pay2, k3_pay4]
  rfl

/-- The block of the two gates' gradients. -/
def gateBlock : Vec Ideal S2x1024x512 .bf16 := fun y =>
  match (y 0 : Fin 2) with
  | ⟨0, _⟩ => gateGrad (rowsRows x0 x1 (y 1) (y 2)) (x2 (ix2 (y 1) (y 2))) (x4 (ix2 (y 1) (y 2)))
  | ⟨1, _⟩ => gateGrad (rowsRows x0 x1 (y 1) (y 2)) (x3 (ix2 (y 1) (y 2))) (x5 (ix2 (y 1) (y 2)))

theorem out3_8_apply (y : S2x1024x512.Idx) : out3_8 x0 x1 x2 x3 x4 x5 y = gateBlock x0 x1 x2 x3 x4 x5 y := by
  unfold out3_8
  rw [View.ld_unit_zero (S := S1024x2048) hz2 _ x0, View.ld_unit_zero (S := S512x2048) hz2 _ x1,
    View.ld_unit_zero (S := S1024x512) hz2 _ x2, View.ld_unit_zero (S := S1024x512) hz2 _ x3, View.ld_unit_zero (S := S1024x512) hz2 _ x4,
    View.ld_unit_zero (S := S1024x512) hz2 _ x5]
  refine View.canon_apply_of_pieces (gateBlock x0 x1 x2 x3 x4 x5) _ (fun p hp => ?_) y (cover3_8 _ _ y)
  simp only [List.mem_cons, List.not_mem_nil, or_false] at hp
  rcases hp with rfl | rfl <;> intro z <;> obtain ⟨k, r, q, rfl⟩ := idx3 (a := 1) (b := 1024) (c := 512) z <;>
    obtain rfl : k = (0 : Fin 1) := Subsingleton.elim _ _
  · exact (pay3_1 x0 x1 x3 x5 r q).trans (congrArg (gateBlock x0 x1 x2 x3 x4 x5) (emb_plane (n := 2) (R := 1024) (N := 512) 1 inb_S2x1024x512_S1x1024x512_1_0_0 r q)).symm
  · exact (pay3_7 x0 x1 x2 x4 r q).trans (congrArg (gateBlock x0 x1 x2 x3 x4 x5) (emb_plane (n := 2) (R := 1024) (N := 512) 0 inb_S2x1024x512_S1x1024x512_0_0_0 r q)).symm
end

variable (V : (c : Dev nD) → (b : Ref sig .tc) → Buf (Elt Ideal) ((c : Thread nD τ).loc b)) (c : Dev nD) (a : Mix.Args)

/-! ## The arrays -/

/-- Row `r` of the block of rows, and column `q` of the block of columns, of step `t` of eight. -/
def row8 (t : Nat) (ht : t < 8) (r : Fin 1024) : Fin 2048 := ⟨1024 * (t / 4) + r.val, by omega⟩
def col8 (t : Nat) (q : Fin 512) : Fin 2048 := ⟨512 * (t % 4) + q.val, by omega⟩

theorem at3_0 : ∀ t : Fin grid3.N, win3_0.index t 0 = t.val / 4 ∧ win3_0.index t 1 = 0 := by decide +kernel
theorem at3_1 : ∀ t : Fin grid3.N, win3_1.index t 0 = t.val % 4 ∧ win3_1.index t 1 = 0 := by decide +kernel
theorem at3_2 : ∀ t : Fin grid3.N, win3_2.index t 0 = t.val / 4 ∧ win3_2.index t 1 = t.val % 4 := by decide +kernel
theorem at3_3 : ∀ t : Fin grid3.N, win3_3.index t 0 = t.val / 4 ∧ win3_3.index t 1 = t.val % 4 := by decide +kernel
theorem at3_4 : ∀ t : Fin grid3.N, win3_4.index t 0 = t.val / 4 ∧ win3_4.index t 1 = 9 + t.val % 4 := by decide +kernel
theorem at3_5 : ∀ t : Fin grid3.N, win3_5.index t 0 = t.val / 4 ∧ win3_5.index t 1 = 13 + t.val % 4 := by decide +kernel
theorem at3_6 : ∀ t : Fin grid3.N, win3_6.index t 0 = t.val / 4 ∧ win3_6.index t 1 = t.val % 4 := by decide +kernel
theorem at3_7 : ∀ t : Fin grid3.N, win3_7.index t 0 = t.val / 4 ∧ win3_7.index t 1 = t.val % 4 := by decide +kernel
theorem at3_8 : ∀ t : Fin grid3.N, win3_8.index t 0 = 0 ∧ win3_8.index t 1 = t.val / 4 ∧ win3_8.index t 2 = t.val % 4 := by decide +kernel

section
variable (hP : ∀ i f, (V c main_arg0 : Vec Ideal S2048x8704 .bf16) (ix2 i f) = a.p i f)
  (hD : ∀ i d, (V c main_arg7 : Vec Ideal S2048x2048 .bf16) (ix2 i d) = a.dx i d)
  (hWo : ∀ l d, (V c main_arg5 : Vec Ideal S2048x2048 .bf16) (ix2 l d) = a.wo l d)
  (hA : ∀ i d, (V c main_v6_1 : Vec Ideal S2048x2048 .bf16) (ix2 i d) = Mix.ya a i d)
  (hB : ∀ i d, (V c main_v6_2 : Vec Ideal S2048x2048 .bf16) (ix2 i d) = Mix.yb a i d)

include hD in
theorem blk3_0 (t : Fin cfg3.N) (r : Fin 1024) (l : Fin 2048) : (iblk3 V c 0 t : Vec Ideal S1024x2048 .bf16) (ix2 r l) = a.dx (row8 t.val t.isLt r) l := by
  unfold iblk3
  rw [View.read_apply]
  refine (rd2 (V c main_arg7 : Vec Ideal S2048x2048 .bf16) _ (row8 t.val t.isLt r) l ?_ ?_).trans (hD _ _)
  · show win3_0.index t 0 * 1024 + 1 * r.val = 1024 * (t.val / 4) + r.val; rw [(at3_0 t).1]; omega
  · show win3_0.index t 1 * 2048 + 1 * l.val = l.val; rw [(at3_0 t).2]; omega
include hWo in
theorem blk3_1 (t : Fin cfg3.N) (q : Fin 512) (l : Fin 2048) : (iblk3 V c 1 t : Vec Ideal S512x2048 .bf16) (ix2 q l) = a.wo (col8 t.val q) l := by
  unfold iblk3
  rw [View.read_apply]
  refine (rd2 (V c main_arg5 : Vec Ideal S2048x2048 .bf16) _ (col8 t.val q) l ?_ ?_).trans (hWo _ _)
  · show win3_1.index t 0 * 512 + 1 * q.val = 512 * (t.val % 4) + q.val; rw [(at3_1 t).1]; omega
  · show win3_1.index t 1 * 2048 + 1 * l.val = l.val; rw [(at3_1 t).2]; omega
include hA in
theorem blk3_2 (t : Fin cfg3.N) (r : Fin 1024) (q : Fin 512) : (iblk3 V c 2 t : Vec Ideal S1024x512 .bf16) (ix2 r q) = Mix.ya a (row8 t.val t.isLt r) (col8 t.val q) := by
  unfold iblk3
  rw [View.read_apply]
  refine (rd2 (V c main_v6_1 : Vec Ideal S2048x2048 .bf16) _ (row8 t.val t.isLt r) (col8 t.val q) ?_ ?_).trans (hA _ _)
  · show win3_2.index t 0 * 1024 + 1 * r.val = 1024 * (t.val / 4) + r.val; rw [(at3_2 t).1]; omega
  · show win3_2.index t 1 * 512 + 1 * q.val = 512 * (t.val % 4) + q.val; rw [(at3_2 t).2]; omega
include hB in
theorem blk3_3 (t : Fin cfg3.N) (r : Fin 1024) (q : Fin 512) : (iblk3 V c 3 t : Vec Ideal S1024x512 .bf16) (ix2 r q) = Mix.yb a (row8 t.val t.isLt r) (col8 t.val q) := by
  unfold iblk3
  rw [View.read_apply]
  refine (rd2 (V c main_v6_2 : Vec Ideal S2048x2048 .bf16) _ (row8 t.val t.isLt r) (col8 t.val q) ?_ ?_).trans (hB _ _)
  · show win3_3.index t 0 * 1024 + 1 * r.val = 1024 * (t.val / 4) + r.val; rw [(at3_3 t).1]; omega
  · show win3_3.index t 1 * 512 + 1 * q.val = 512 * (t.val % 4) + q.val; rw [(at3_3 t).2]; omega
include hP in
theorem blk3_4 (t : Fin cfg3.N) (r : Fin 1024) (q : Fin 512) :
    (iblk3 V c 4 t : Vec Ideal S1024x512 .bf16) (ix2 r q) = a.p (row8 t.val t.isLt r) (Mix.at_ 4608 (col8 t.val q)) := by
  unfold iblk3
  rw [View.read_apply]
  refine (rd2 (V c main_arg0 : Vec Ideal S2048x8704 .bf16) _ (row8 t.val t.isLt r) (Mix.at_ 4608 (col8 t.val q)) ?_ ?_).trans (hP _ _)
  · show win3_4.index t 0 * 1024 + 1 * r.val = 1024 * (t.val / 4) + r.val; rw [(at3_4 t).1]; omega
  · show win3_4.index t 1 * 512 + 1 * q.val = 4608 + (512 * (t.val % 4) + q.val); rw [(at3_4 t).2]; omega
include hP in
theorem blk3_5 (t : Fin cfg3.N) (r : Fin 1024) (q : Fin 512) :
    (iblk3 V c 5 t : Vec Ideal S1024x512 .bf16) (ix2 r q) = a.p (row8 t.val t.isLt r) (Mix.at_ 6656 (col8 t.val q)) := by
  unfold iblk3
  rw [View.read_apply]
  refine (rd2 (V c main_arg0 : Vec Ideal S2048x8704 .bf16) _ (row8 t.val t.isLt r) (Mix.at_ 6656 (col8 t.val q)) ?_ ?_).trans (hP _ _)
  · show win3_5.index t 0 * 1024 + 1 * r.val = 1024 * (t.val / 4) + r.val; rw [(at3_5 t).1]; omega
  · show win3_5.index t 1 * 512 + 1 * q.val = 6656 + (512 * (t.val % 4) + q.val); rw [(at3_5 t).2]; omega

include hD hWo in
theorem rows_dm (t : Fin cfg3.N) (r : Fin 1024) (q : Fin 512) :
    rowsRows (iblk3 V c 0 t) (iblk3 V c 1 t) r q = Mix.dm a (row8 t.val t.isLt r) (col8 t.val q) := by
  unfold rowsRows Mix.dm
  exact Finset.sum_congr rfl fun l _ => congrArg₂ (fun s t : EReal => s * t) (blk3_0 V c a hD t r l) (blk3_1 V c a hWo t q l)

include hP hD hWo in
/-- The array of the gradient at the convolution's branch. -/
theorem dya_arr : (dat3 V c).arrAt 6 cfg3.N = fun y : S2048x2048.Idx => Mix.dya a (y 0) (y 1) := by
  refine (dat3 V c).arrAt_eq_of_covers 6 _ (by decide +kernel) fun t hf y => ?_
  blk_simp
  rw [after3_6]
  obtain ⟨r, q, rfl⟩ := idx2 (a := 1024) (b := 512) y
  have e0 : ((win3_6.blk t).view.emb (ix2 r q) 0 : Fin 2048) = row8 t.val t.isLt r := Fin.ext (by
    show win3_6.index t 0 * 1024 + 1 * r.val = 1024 * (t.val / 4) + r.val; rw [(at3_6 t).1]; omega)
  have e1 : ((win3_6.blk t).view.emb (ix2 r q) 1 : Fin 2048) = col8 t.val q := Fin.ext (by
    show win3_6.index t 1 * 512 + 1 * q.val = 512 * (t.val % 4) + q.val; rw [(at3_6 t).2]; omega)
  rw [e0, e1]
  refine (out3_6_apply _ _ _ _ _ _ r q).trans ?_
  exact congrArg₂ (fun s t : EReal => s * t) (rows_dm V c a hD hWo t r q) (congrArg Ffn.sig (blk3_4 V c a hP t r q))

include hP hD hWo in
/-- The array of the gradient at the attention's branch. -/
theorem dyb_arr : (dat3 V c).arrAt 7 cfg3.N = fun y : S2048x2048.Idx => Mix.dyb a (y 0) (y 1) := by
  refine (dat3 V c).arrAt_eq_of_covers 7 _ (by decide +kernel) fun t hf y => ?_
  blk_simp
  rw [after3_7]
  obtain ⟨r, q, rfl⟩ := idx2 (a := 1024) (b := 512) y
  have e0 : ((win3_7.blk t).view.emb (ix2 r q) 0 : Fin 2048) = row8 t.val t.isLt r := Fin.ext (by
    show win3_7.index t 0 * 1024 + 1 * r.val = 1024 * (t.val / 4) + r.val; rw [(at3_7 t).1]; omega)
  have e1 : ((win3_7.blk t).view.emb (ix2 r q) 1 : Fin 2048) = col8 t.val q := Fin.ext (by
    show win3_7.index t 1 * 512 + 1 * q.val = 512 * (t.val % 4) + q.val; rw [(at3_7 t).2]; omega)
  rw [e0, e1]
  refine (out3_7_apply _ _ _ _ _ _ r q).trans ?_
  exact congrArg₂ (fun s t : EReal => s * t) (rows_dm V c a hD hWo t r q) (congrArg Ffn.sig (blk3_5 V c a hP t r q))

include hP hD hWo hA hB in
/-- The array of the gradients at the two gates' arguments. -/
theorem dgates_arr : (dat3 V c).arrAt 8 cfg3.N = fun y : S2x2048x2048.Idx => Mix.dg a (y 0) (y 1) (y 2) := by
  refine (dat3 V c).arrAt_eq_of_covers 8 _ (by decide +kernel) fun t hf y => ?_
  blk_simp
  rw [after3_8]
  obtain ⟨b, r, q, rfl⟩ := idx3 (a := 2) (b := 1024) (c := 512) y
  have e0 : ((win3_8.blk t).view.emb (ix3 b r q) 0 : Fin 2) = b := Fin.ext (by
    show win3_8.index t 0 * 2 + 1 * b.val = b.val; rw [(at3_8 t).1]; omega)
  have e1 : ((win3_8.blk t).view.emb (ix3 b r q) 1 : Fin 2048) = row8 t.val t.isLt r := Fin.ext (by
    show win3_8.index t 1 * 1024 + 1 * r.val = 1024 * (t.val / 4) + r.val; rw [(at3_8 t).2.1]; omega)
  have e2 : ((win3_8.blk t).view.emb (ix3 b r q) 2 : Fin 2048) = col8 t.val q := Fin.ext (by
    show win3_8.index t 2 * 512 + 1 * q.val = 512 * (t.val % 4) + q.val; rw [(at3_8 t).2.2]; omega)
  rw [e0, e1, e2]
  refine (out3_8_apply _ _ _ _ _ _ _).trans ?_
  match b with
  | ⟨0, _⟩ =>
    exact (congrArg (fun d => gateGrad d _ _) (rows_dm V c a hD hWo t r q)).trans (congrArg₂ (gateGrad _) (blk3_2 V c a hA t r q) (blk3_4 V c a hP t r q))
  | ⟨1, _⟩ =>
    exact (congrArg (fun d => gateGrad d _ _) (rows_dm V c a hD hWo t r q)).trans (congrArg₂ (gateGrad _) (blk3_3 V c a hB t r q) (blk3_5 V c a hP t r q))
end

end Cert.Kernel6Ideal.Value

end
-- ==== Proof.Mix.Out.lean ====
/-
  The two branches, the merged rows and the mixer's result: the arrays that the two calls leave, from the arrays they read.
-/
module

public import proofs.«01_k».proof.Proof.Mix.ConvArr
import Idealize.ShloMosaic.Lib.Pointwise
import Idealize.ShloMosaic.Lib.IdealHost

@[expose] public section

noncomputable section

namespace Cert.Kernel6Ideal.Value

open Idealize.SL Idealize.SL.Sem Idealize.ShloMosaic Idealize.ShloMosaic.TcCoe Cert.Kernel6Ideal Cert.Kernel6Ideal.Gen

/-! ## What each body leaves in its block -/

/-- Rows times a chunk of columns. -/
def rowsChunk (x : Vec Ideal S1024x1024 .bf16) (w : Vec Ideal S1x1024x256 .bf16) (r : Fin 1024) (q : Fin 256) : EReal :=
  ∑ l : Fin 1024, x (ix2 r l) * w (ix3 0 l q)

section
variable (x0 x1 : Vec Ideal S1024x1024 .bf16) (x2 x3 : Vec Ideal S1x1024x256 .bf16) (x4 x5 : Vec Ideal S1024x256 .bf16) (r : Fin 1024) (q : Fin 256)

theorem out1_6_apply : out1_6 x0 x1 x2 x3 x4 x5 (ix2 r q) = Ffn.sig (x4 (ix2 r q)) * rowsChunk x0 x2 r q + Ffn.sig (x5 (ix2 r q)) * rowsChunk x1 x3 r q := by
  unfold out1_6
  rw [View.canon_unit_zero (S := S1024x256) hz2, View.ld_unit_zero (S := S1024x1024) hz2 _ x0, View.ld_unit_zero (S := S1024x1024) hz2 _ x1,
    View.ld_unit_zero (S := S1x1024x256) hz3 _ x2, View.ld_unit_zero (S := S1x1024x256) hz3 _ x3,
    View.ld_unit_zero (S := S1024x256) hz2 _ x4, View.ld_unit_zero (S := S1024x256) hz2 _ x5]
  unfold rowsChunk Ffn.sig
  pointwise [k1_pay5, k1_pay1, k1_pay2]
  rfl
theorem out1_7_apply : out1_7 x0 x1 x2 x3 x4 x5 (ix2 r q) = rowsChunk x0 x2 r q := by
  unfold out1_7
  rw [View.canon_unit_zero (S := S1024x256) hz2, View.ld_unit_zero (S := S1024x1024) hz2 _ x0, View.ld_unit_zero (S := S1x1024x256) hz3 _ x2]
  unfold rowsChunk
  pointwise [k1_pay3, k1_pay1]
theorem out1_8_apply : out1_8 x0 x1 x2 x3 x4 x5 (ix2 r q) = rowsChunk x1 x3 r q := by
  unfold out1_8
  rw [View.canon_unit_zero (S := S1024x256) hz2, View.ld_unit_zero (S := S1024x1024) hz2 _ x1, View.ld_unit_zero (S := S1x1024x256) hz3 _ x3]
  unfold rowsChunk
  pointwise [k1_pay4, k1_pay2]
end

theorem out2_3_apply (x0 : Vec Ideal S512x2048 .bf16) (x1 : Vec Ideal S2048x2048 .bf16) (x2 : Vec Ideal S512x2048 .f32) (r : Fin 512) (q : Fin 2048) :
    out2_3 x0 x1 x2 (ix2 r q) = x2 (ix2 r q) + ∑ l : Fin 2048, x0 (ix2 r l) * x1 (ix2 l q) := by
  unfold out2_3
  rw [View.canon_unit_zero (S := S512x2048) hz2, View.ld_unit_zero (S := S512x2048) hz2 _ x0, View.ld_unit_zero (S := S2048x2048) hz2 _ x1, View.ld_unit_zero (S := S512x2048) hz2 _ x2]
  pointwise [k2_pay1]

variable (V : (c : Dev nD) → (b : Ref sig .tc) → Buf (Elt Ideal) ((c : Thread nD τ).loc b)) (c : Dev nD) (a : Mix.Args)

/-! ## The two branches and the merged rows -/

/-- Row `r` of the block of rows, and the chunk of columns, of step `t` of sixteen. -/
def row2 (t : Nat) (ht : t < 16) (r : Fin 1024) : Fin 2048 := ⟨1024 * (t / 8) + r.val, by omega⟩
def chunk8 (t : Nat) : Fin 8 := ⟨t % 8, by omega⟩

theorem at1_0 : ∀ t : Fin grid1.N, win1_0.index t 0 = t.val / 8 ∧ win1_0.index t 1 = 0 := by decide +kernel
theorem at1_1 : ∀ t : Fin grid1.N, win1_1.index t 0 = t.val / 8 ∧ win1_1.index t 1 = 0 := by decide +kernel
theorem at1_2 : ∀ t : Fin grid1.N, win1_2.index t 0 = t.val % 8 ∧ win1_2.index t 1 = 0 ∧ win1_2.index t 2 = 0 := by decide +kernel
theorem at1_3 : ∀ t : Fin grid1.N, win1_3.index t 0 = t.val % 8 ∧ win1_3.index t 1 = 0 ∧ win1_3.index t 2 = 0 := by decide +kernel
theorem at1_4 : ∀ t : Fin grid1.N, win1_4.index t 0 = t.val / 8 ∧ win1_4.index t 1 = 18 + t.val % 8 := by decide +kernel
theorem at1_5 : ∀ t : Fin grid1.N, win1_5.index t 0 = t.val / 8 ∧ win1_5.index t 1 = 26 + t.val % 8 := by decide +kernel
theorem at1_6 : ∀ t : Fin grid1.N, win1_6.index t 0 = t.val / 8 ∧ win1_6.index t 1 = t.val % 8 := by decide +kernel
theorem at1_7 : ∀ t : Fin grid1.N, win1_7.index t 0 = t.val / 8 ∧ win1_7.index t 1 = t.val % 8 := by decide +kernel
theorem at1_8 : ∀ t : Fin grid1.N, win1_8.index t 0 = t.val / 8 ∧ win1_8.index t 1 = t.val % 8 := by decide +kernel

section
variable (hP : ∀ i f, (V c main_arg0 : Vec Ideal S2048x8704 .bf16) (ix2 i f) = a.p i f)
  (hA : ∀ i l, (V c main_v5 : Vec Ideal S2048x1024 .bf16) (ix2 i l) = Mix.ca a i l)
  (hO : ∀ i l, (V c main_arg2 : Vec Ideal S2048x1024 .bf16) (ix2 i l) = a.o i l)
  (hC : ∀ k l q, (V c main_v2 : Vec Ideal S8x1024x256 .bf16) (ix3 k l q) = a.woc l (Mix.chunk k q))
  (hT : ∀ k l q, (V c main_v4 : Vec Ideal S8x1024x256 .bf16) (ix3 k l q) = a.woa l (Mix.chunk k q))

include hA in
theorem blk1_0 (t : Fin cfg1.N) (r l : Fin 1024) : (iblk1 V c 0 t : Vec Ideal S1024x1024 .bf16) (ix2 r l) = Mix.ca a (row2 t.val t.isLt r) l := by
  unfold iblk1
  rw [View.read_apply]
  refine (rd2 (V c main_v5 : Vec Ideal S2048x1024 .bf16) _ (row2 t.val t.isLt r) l ?_ ?_).trans (hA _ _)
  · show win1_0.index t 0 * 1024 + 1 * r.val = 1024 * (t.val / 8) + r.val; rw [(at1_0 t).1]; omega
  · show win1_0.index t 1 * 1024 + 1 * l.val = l.val; rw [(at1_0 t).2]; omega
include hO in
theorem blk1_1 (t : Fin cfg1.N) (r l : Fin 1024) : (iblk1 V c 1 t : Vec Ideal S1024x1024 .bf16) (ix2 r l) = a.o (row2 t.val t.isLt r) l := by
  unfold iblk1
  rw [View.read_apply]
  refine (rd2 (V c main_arg2 : Vec Ideal S2048x1024 .bf16) _ (row2 t.val t.isLt r) l ?_ ?_).trans (hO _ _)
  · show win1_1.index t 0 * 1024 + 1 * r.val = 1024 * (t.val / 8) + r.val; rw [(at1_1 t).1]; omega
  · show win1_1.index t 1 * 1024 + 1 * l.val = l.val; rw [(at1_1 t).2]; omega
include hC in
theorem blk1_2 (t : Fin cfg1.N) (l : Fin 1024) (q : Fin 256) : (iblk1 V c 2 t : Vec Ideal S1x1024x256 .bf16) (ix3 0 l q) = a.woc l (Mix.chunk (chunk8 t.val) q) := by
  unfold iblk1
  rw [View.read_apply]
  refine (rd3 (V c main_v2 : Vec Ideal S8x1024x256 .bf16) _ (chunk8 t.val) l q ?_ ?_ ?_).trans (hC _ _ _)
  · show win1_2.index t 0 * 1 + 1 * 0 = t.val % 8; rw [(at1_2 t).1]; omega
  · show win1_2.index t 1 * 1024 + 1 * l.val = l.val; rw [(at1_2 t).2.1]; omega
  · show win1_2.index t 2 * 256 + 1 * q.val = q.val; rw [(at1_2 t).2.2]; omega
include hT in
theorem blk1_3 (t : Fin cfg1.N) (l : Fin 1024) (q : Fin 256) : (iblk1 V c 3 t : Vec Ideal S1x1024x256 .bf16) (ix3 0 l q) = a.woa l (Mix.chunk (chunk8 t.val) q) := by
  unfold iblk1
  rw [View.read_apply]
  refine (rd3 (V c main_v4 : Vec Ideal S8x1024x256 .bf16) _ (chunk8 t.val) l q ?_ ?_ ?_).trans (hT _ _ _)
  · show win1_3.index t 0 * 1 + 1 * 0 = t.val % 8; rw [(at1_3 t).1]; omega
  · show win1_3.index t 1 * 1024 + 1 * l.val = l.val; rw [(at1_3 t).2.1]; omega
  · show win1_3.index t 2 * 256 + 1 * q.val = q.val; rw [(at1_3 t).2.2]; omega
include hP in
theorem blk1_4 (t : Fin cfg1.N) (r : Fin 1024) (q : Fin 256) :
    Ffn.sig ((iblk1 V c 4 t : Vec Ideal S1024x256 .bf16) (ix2 r q)) = Mix.sa a (row2 t.val t.isLt r) (Mix.chunk (chunk8 t.val) q) := by
  unfold iblk1
  rw [View.read_apply]
  refine congrArg Ffn.sig ((rd2 (V c main_arg0 : Vec Ideal S2048x8704 .bf16) _ (row2 t.val t.isLt r) (Mix.at_ 4608 (Mix.chunk (chunk8 t.val) q)) ?_ ?_).trans (hP _ _))
  · show win1_4.index t 0 * 1024 + 1 * r.val = 1024 * (t.val / 8) + r.val; rw [(at1_4 t).1]; omega
  · show win1_4.index t 1 * 256 + 1 * q.val = 4608 + (256 * (t.val % 8) + q.val); rw [(at1_4 t).2]; omega
include hP in
theorem blk1_5 (t : Fin cfg1.N) (r : Fin 1024) (q : Fin 256) :
    Ffn.sig ((iblk1 V c 5 t : Vec Ideal S1024x256 .bf16) (ix2 r q)) = Mix.sb a (row2 t.val t.isLt r) (Mix.chunk (chunk8 t.val) q) := by
  unfold iblk1
  rw [View.read_apply]
  refine congrArg Ffn.sig ((rd2 (V c main_arg0 : Vec Ideal S2048x8704 .bf16) _ (row2 t.val t.isLt r) (Mix.at_ 6656 (Mix.chunk (chunk8 t.val) q)) ?_ ?_).trans (hP _ _))
  · show win1_5.index t 0 * 1024 + 1 * r.val = 1024 * (t.val / 8) + r.val; rw [(at1_5 t).1]; omega
  · show win1_5.index t 1 * 256 + 1 * q.val = 6656 + (256 * (t.val % 8) + q.val); rw [(at1_5 t).2]; omega

include hA hC in
theorem rows_ya (t : Fin cfg1.N) (r : Fin 1024) (q : Fin 256) :
    rowsChunk (iblk1 V c 0 t) (iblk1 V c 2 t) r q = Mix.ya a (row2 t.val t.isLt r) (Mix.chunk (chunk8 t.val) q) := by
  unfold rowsChunk Mix.ya
  exact Finset.sum_congr rfl fun l _ => congrArg₂ (fun s t : EReal => s * t) (blk1_0 V c a hA t r l) (blk1_2 V c a hC t l q)
include hO hT in
theorem rows_yb (t : Fin cfg1.N) (r : Fin 1024) (q : Fin 256) :
    rowsChunk (iblk1 V c 1 t) (iblk1 V c 3 t) r q = Mix.yb a (row2 t.val t.isLt r) (Mix.chunk (chunk8 t.val) q) := by
  unfold rowsChunk Mix.yb
  exact Finset.sum_congr rfl fun l _ => congrArg₂ (fun s t : EReal => s * t) (blk1_1 V c a hO t r l) (blk1_3 V c a hT t l q)

include hP hA hO hC hT in
/-- The array of the merged rows. -/
theorem merged_arr : (dat1 V c).arrAt 6 cfg1.N = fun y : S2048x2048.Idx => Mix.merged a (y 0) (y 1) := by
  refine (dat1 V c).arrAt_eq_of_covers 6 _ (by decide +kernel) fun t hf y => ?_
  blk_simp
  rw [after1_6]
  obtain ⟨r, q, rfl⟩ := idx2 (a := 1024) (b := 256) y
  have e0 : ((win1_6.blk t).view.emb (ix2 r q) 0 : Fin 2048) = row2 t.val t.isLt r := Fin.ext (by
    show win1_6.index t 0 * 1024 + 1 * r.val = 1024 * (t.val / 8) + r.val; rw [(at1_6 t).1]; omega)
  have e1 : ((win1_6.blk t).view.emb (ix2 r q) 1 : Fin 2048) = Mix.chunk (chunk8 t.val) q := Fin.ext (by
    show win1_6.index t 1 * 256 + 1 * q.val = 256 * (t.val % 8) + q.val; rw [(at1_6 t).2]; omega)
  rw [e0, e1]
  refine (out1_6_apply _ _ _ _ _ _ r q).trans ?_
  unfold Mix.merged
  exact congrArg₂ (fun s t : EReal => s + t) (congrArg₂ (fun s t : EReal => s * t) (blk1_4 V c a hP t r q) (rows_ya V c a hA hC t r q))
    (congrArg₂ (fun s t : EReal => s * t) (blk1_5 V c a hP t r q) (rows_yb V c a hO hT t r q))

include hA hC in
/-- The array of the convolution's branch. -/
theorem ya_arr : (dat1 V c).arrAt 7 cfg1.N = fun y : S2048x2048.Idx => Mix.ya a (y 0) (y 1) := by
  refine (dat1 V c).arrAt_eq_of_covers 7 _ (by decide +kernel) fun t hf y => ?_
  blk_simp
  rw [after1_7]
  obtain ⟨r, q, rfl⟩ := idx2 (a := 1024) (b := 256) y
  have e0 : ((win1_7.blk t).view.emb (ix2 r q) 0 : Fin 2048) = row2 t.val t.isLt r := Fin.ext (by
    show win1_7.index t 0 * 1024 + 1 * r.val = 1024 * (t.val / 8) + r.val; rw [(at1_7 t).1]; omega)
  have e1 : ((win1_7.blk t).view.emb (ix2 r q) 1 : Fin 2048) = Mix.chunk (chunk8 t.val) q := Fin.ext (by
    show win1_7.index t 1 * 256 + 1 * q.val = 256 * (t.val % 8) + q.val; rw [(at1_7 t).2]; omega)
  rw [e0, e1]
  exact (out1_7_apply _ _ _ _ _ _ r q).trans (rows_ya V c a hA hC t r q)

include hO hT in
/-- The array of the attention's branch. -/
theorem yb_arr : (dat1 V c).arrAt 8 cfg1.N = fun y : S2048x2048.Idx => Mix.yb a (y 0) (y 1) := by
  refine (dat1 V c).arrAt_eq_of_covers 8 _ (by decide +kernel) fun t hf y => ?_
  blk_simp
  rw [after1_8]
  obtain ⟨r, q, rfl⟩ := idx2 (a := 1024) (b := 256) y
  have e0 : ((win1_8.blk t).view.emb (ix2 r q) 0 : Fin 2048) = row2 t.val t.isLt r := Fin.ext (by
    show win1_8.index t 0 * 1024 + 1 * r.val = 1024 * (t.val / 8) + r.val; rw [(at1_8 t).1]; omega)
  have e1 : ((win1_8.blk t).view.emb (ix2 r q) 1 : Fin 2048) = Mix.chunk (chunk8 t.val) q := Fin.ext (by
    show win1_8.index t 1 * 256 + 1 * q.val = 256 * (t.val % 8) + q.val; rw [(at1_8 t).2]; omega)
  rw [e0, e1]
  exact (out1_8_apply _ _ _ _ _ _ r q).trans (rows_yb V c a hO hT t r q)
end

/-! ## The mixer's result -/

/-- Row `r` of the block of 512 rows of step `t` of four. -/
def row4 (t : Nat) (ht : t < 4) (r : Fin 512) : Fin 2048 := ⟨512 * t + r.val, by omega⟩

theorem at2_0 : ∀ t : Fin grid2.N, win2_0.index t 0 = t.val ∧ win2_0.index t 1 = 0 := by decide +kernel
theorem at2_1 : ∀ t : Fin grid2.N, win2_1.index t 0 = 0 ∧ win2_1.index t 1 = 0 := by decide +kernel
theorem at2_2 : ∀ t : Fin grid2.N, win2_2.index t 0 = t.val ∧ win2_2.index t 1 = 0 := by decide +kernel
theorem at2_3 : ∀ t : Fin grid2.N, win2_3.index t 0 = t.val ∧ win2_3.index t 1 = 0 := by decide +kernel

section
variable (hM : ∀ i l, (V c main_v6_0 : Vec Ideal S2048x2048 .bf16) (ix2 i l) = Mix.merged a i l)
  (hWo : ∀ l d, (V c main_arg5 : Vec Ideal S2048x2048 .bf16) (ix2 l d) = a.wo l d)
  (hX : ∀ i d, (V c main_arg6 : Vec Ideal S2048x2048 .f32) (ix2 i d) = a.x i d)

include hM in
theorem blk2_0 (t : Fin cfg2.N) (r : Fin 512) (l : Fin 2048) : (iblk2 V c 0 t : Vec Ideal S512x2048 .bf16) (ix2 r l) = Mix.merged a (row4 t.val t.isLt r) l := by
  unfold iblk2
  rw [View.read_apply]
  refine (rd2 (V c main_v6_0 : Vec Ideal S2048x2048 .bf16) _ (row4 t.val t.isLt r) l ?_ ?_).trans (hM _ _)
  · show win2_0.index t 0 * 512 + 1 * r.val = 512 * t.val + r.val; rw [(at2_0 t).1]; omega
  · show win2_0.index t 1 * 2048 + 1 * l.val = l.val; rw [(at2_0 t).2]; omega
include hWo in
theorem blk2_1 (t : Fin cfg2.N) (l d : Fin 2048) : (iblk2 V c 1 t : Vec Ideal S2048x2048 .bf16) (ix2 l d) = a.wo l d := by
  unfold iblk2
  rw [View.read_apply]
  refine (rd2 (V c main_arg5 : Vec Ideal S2048x2048 .bf16) _ l d ?_ ?_).trans (hWo _ _)
  · show win2_1.index t 0 * 2048 + 1 * l.val = l.val; rw [(at2_1 t).1]; omega
  · show win2_1.index t 1 * 2048 + 1 * d.val = d.val; rw [(at2_1 t).2]; omega
include hX in
theorem blk2_2 (t : Fin cfg2.N) (r : Fin 512) (d : Fin 2048) : (iblk2 V c 2 t : Vec Ideal S512x2048 .f32) (ix2 r d) = a.x (row4 t.val t.isLt r) d := by
  unfold iblk2
  rw [View.read_apply]
  refine (rd2 (V c main_arg6 : Vec Ideal S2048x2048 .f32) _ (row4 t.val t.isLt r) d ?_ ?_).trans (hX _ _)
  · show win2_2.index t 0 * 512 + 1 * r.val = 512 * t.val + r.val; rw [(at2_2 t).1]; omega
  · show win2_2.index t 1 * 2048 + 1 * d.val = d.val; rw [(at2_2 t).2]; omega

include hM hWo hX in
/-- The array of the mixer's result. -/
theorem x2_arr : (dat2 V c).arrAt 3 cfg2.N = fun y : S2048x2048.Idx => Mix.x2 a (y 0) (y 1) := by
  refine (dat2 V c).arrAt_eq_of_covers 3 _ (by decide +kernel) fun t hf y => ?_
  blk_simp
  rw [after2_3]
  obtain ⟨r, d, rfl⟩ := idx2 (a := 512) (b := 2048) y
  have e0 : ((win2_3.blk t).view.emb (ix2 r d) 0 : Fin 2048) = row4 t.val t.isLt r := Fin.ext (by
    show win2_3.index t 0 * 512 + 1 * r.val = 512 * t.val + r.val; rw [(at2_3 t).1]; omega)
  have e1 : ((win2_3.blk t).view.emb (ix2 r d) 1 : Fin 2048) = d := Fin.ext (by
    show win2_3.index t 1 * 2048 + 1 * d.val = d.val; rw [(at2_3 t).2]; omega)
  rw [e0, e1]
  refine (out2_3_apply _ _ _ r d).trans ?_
  unfold Mix.x2
  exact congrArg₂ (fun s t : EReal => s + t) (blk2_2 V c a hX t r d)
    (Finset.sum_congr rfl fun l _ => congrArg₂ (fun s t : EReal => s * t) (blk2_0 V c a hM t r l) (blk2_1 V c a hWo t l d))
end

end Cert.Kernel6Ideal.Value

end
-- ==== Proof.Mix.Prods.lean ====
/-
  The calls that are products: the gradients of the three weights, and the gradients at the gated convolution and at the attention's
  result. The arrays they leave, from the arrays they read.
-/
module

public import proofs.«01_k».proof.Proof.Mix.Out
import Idealize.ShloMosaic.Lib.Pointwise
import Idealize.ShloMosaic.Lib.IdealHost

@[expose] public section

noncomputable section

namespace Cert.Kernel6Ideal.Value

open Idealize.SL Idealize.SL.Sem Idealize.ShloMosaic Idealize.ShloMosaic.TcCoe Cert.Kernel6Ideal Cert.Kernel6Ideal.Gen

/-! ## What each body leaves in its block -/

theorem out4_apply (x0 : Vec Ideal S2048x512 .bf16) (x1 : Vec Ideal S2048x2048 .bf16) (r : Fin 512) (d : Fin 2048) :
    out4_2 x0 x1 (ix2 r d) = ∑ i : Fin 2048, x0 (ix2 i r) * x1 (ix2 i d) := by
  unfold out4_2
  rw [View.canon_unit_zero (S := S512x2048) hz2, View.ld_unit_zero (S := S2048x512) hz2 _ x0, View.ld_unit_zero (S := S2048x2048) hz2 _ x1]
  pointwise [k4_pay1]

section
variable (x0 x1 : Vec Ideal S2048x1024 .bf16) (x2 x3 : Vec Ideal S2048x256 .bf16) (l : Fin 1024) (q : Fin 256)

theorem out5_4_apply : out5_4 x0 x1 x2 x3 (ix3 0 l q) = ∑ i : Fin 2048, x0 (ix2 i l) * x2 (ix2 i q) := by
  unfold out5_4
  rw [View.canon_unit_zero (S := S1x1024x256) hz3, View.ld_unit_zero (S := S2048x1024) hz2 _ x0, View.ld_unit_zero (S := S2048x256) hz2 _ x2]
  pointwise [k5_pay1]
theorem out5_5_apply : out5_5 x0 x1 x2 x3 (ix3 0 l q) = ∑ i : Fin 2048, x1 (ix2 i l) * x3 (ix2 i q) := by
  unfold out5_5
  rw [View.canon_unit_zero (S := S1x1024x256) hz3, View.ld_unit_zero (S := S2048x1024) hz2 _ x1, View.ld_unit_zero (S := S2048x256) hz2 _ x3]
  pointwise [k5_pay2]
end

/-- A chunk of a row times a chunk of a weight's row. -/
def pp (x : Vec Ideal S512x256 .bf16) (w : Vec Ideal S1x1024x256 .bf16) (r : Fin 512) (l : Fin 1024) : EReal :=
  ∑ q : Fin 256, x (ix2 r q) * w (ix3 0 l q)
/-- The same, of chunk `k` of the whole row and of the eight chunks of the weight. -/
def cp (x : Vec Ideal S512x2048 .bf16) (w : Vec Ideal S8x1024x256 .bf16) (r : Fin 512) (l : Fin 1024) (k : Fin 8) : EReal :=
  ∑ q : Fin 256, x (ix2 r (Mix.chunk k q)) * w (ix3 k l q)

theorem pp_eq (x : Vec Ideal S512x2048 .bf16) (w : Vec Ideal S8x1024x256 .bf16) (k : Fin 8) (o : ℕ) (ho : o = 256 * k.val) (h h') (r : Fin 512) (l : Fin 1024) :
    pp (View.ld x (Rect.unit (s := S512x2048) ![0, o] ![512, 256] h)) (View.ld w (Rect.unit (s := S8x1024x256) ![k.val, 0, 0] ![1, 1024, 256] h')) r l = cp x w r l k := by
  unfold pp cp
  refine Finset.sum_congr rfl fun q _ => congrArg₂ (fun s t : EReal => s * t) (rd2 x _ r (Mix.chunk k q) ?_ ?_) (rd3 w _ k l q ?_ ?_ ?_)
  · show 0 + 1 * r.val = r.val; omega
  · show o + 1 * q.val = 256 * k.val + q.val; omega
  · show k.val + 1 * 0 = k.val; omega
  · show 0 + 1 * l.val = l.val; omega
  · show 0 + 1 * q.val = q.val; omega

section
variable (u0 u1 u2 u3 u4 u5 u6 u7 : Vec Ideal S512x256 .bf16) (w0 w1 w2 w3 w4 w5 w6 w7 : Vec Ideal S1x1024x256 .bf16) (r : Fin 512) (l : Fin 1024)

theorem pay6_3 : k6_pay3 (k6_pay2 u0 w0 u1 w1 u2 w2 u3 w3 u4 w4) u5 w5 u6 w6 u7 w7 (ix2 r l)
    = pp u0 w0 r l + pp u1 w1 r l + pp u2 w2 r l + pp u3 w3 r l + pp u4 w4 r l + pp u5 w5 r l + pp u6 w6 r l + pp u7 w7 r l := by
  unfold pp
  pointwise [k6_pay3, k6_pay2]
theorem pay6_1 : k6_pay1 (k6_pay7 (k6_pay4 u0 w0) (k6_pay5 u1) (k6_pay6 w1) u2 w2 u3 w3 u4 w4 u5 w5) (k6_pay8 u6) (k6_pay9 w6) u7 w7 (ix2 r l)
    = pp u0 w0 r l + pp u1 w1 r l + pp u2 w2 r l + pp u3 w3 r l + pp u4 w4 r l + pp u5 w5 r l + pp u6 w6 r l + pp u7 w7 r l := by
  unfold pp
  pointwise [k6_pay1, k6_pay7, k6_pay4, k6_pay5, k6_pay6, k6_pay8, k6_pay9]
end

/-- The eight chunks' products, added up. -/
def rowSum (x : Vec Ideal S512x2048 .bf16) (w : Vec Ideal S8x1024x256 .bf16) (r : Fin 512) (l : Fin 1024) : EReal := ∑ k : Fin 8, cp x w r l k

theorem eight (x : Vec Ideal S512x2048 .bf16) (w : Vec Ideal S8x1024x256 .bf16) (r : Fin 512) (l : Fin 1024) :
    pp (View.ld x r6_0) (View.ld w r6_1) r l + pp (View.ld x r6_2) (View.ld w r6_3) r l + pp (View.ld x r6_4) (View.ld w r6_5) r l
      + pp (View.ld x r6_6) (View.ld w r6_7) r l + pp (View.ld x r6_8) (View.ld w r6_9) r l + pp (View.ld x r6_10) (View.ld w r6_11) r l
      + pp (View.ld x r6_12) (View.ld w r6_13) r l + pp (View.ld x r6_14) (View.ld w r6_15) r l = rowSum x w r l := by
  have c0 : pp (View.ld x r6_0) (View.ld w r6_1) r l = cp x w r l 0 := pp_eq x w 0 0 rfl inb_S512x2048_S512x256_0_0 inb_S8x1024x256_S1x1024x256_0_0_0 r l
  have c1 : pp (View.ld x r6_2) (View.ld w r6_3) r l = cp x w r l 1 := pp_eq x w 1 256 rfl inb_S512x2048_S512x256_0_256 inb_S8x1024x256_S1x1024x256_1_0_0 r l
  have c2 : pp (View.ld x r6_4) (View.ld w r6_5) r l = cp x w r l 2 := pp_eq x w 2 512 rfl inb_S512x2048_S512x256_0_512 inb_S8x1024x256_S1x1024x256_2_0_0 r l
  have c3 : pp (View.ld x r6_6) (View.ld w r6_7) r l = cp x w r l 3 := pp_eq x w 3 768 rfl inb_S512x2048_S512x256_0_768 inb_S8x1024x256_S1x1024x256_3_0_0 r l
  have c4 : pp (View.ld x r6_8) (View.ld w r6_9) r l = cp x w r l 4 := pp_eq x w 4 1024 rfl inb_S512x2048_S512x256_0_1024 inb_S8x1024x256_S1x1024x256_4_0_0 r l
  have c5 : pp (View.ld x r6_10) (View.ld w r6_11) r l = cp x w r l 5 := pp_eq x w 5 1280 rfl inb_S512x2048_S512x256_0_1280 inb_S8x1024x256_S1x1024x256_5_0_0 r l
  have c6 : pp (View.ld x r6_12) (View.ld w r6_13) r l = cp x w r l 6 := pp_eq x w 6 1536 rfl inb_S512x2048_S512x256_0_1536 inb_S8x1024x256_S1x1024x256_6_0_0 r l
  have c7 : pp (View.ld x r6_14) (View.ld w r6_15) r l = cp x w r l 7 := pp_eq x w 7 1792 rfl inb_S512x2048_S512x256_0_1792 inb_S8x1024x256_S1x1024x256_7_0_0 r l
  rw [c0, c1, c2, c3, c4, c5, c6, c7]
  exact (Fin.sum_univ_eight (cp x w r l)).symm

section
variable (x0 x1 : Vec Ideal S512x2048 .bf16) (x2 x3 : Vec Ideal S8x1024x256 .bf16) (r : Fin 512) (l : Fin 1024)

theorem out6_4_apply : out6_4 x0 x1 x2 x3 (ix2 r l) = rowSum x0 x2 r l := by
  unfold out6_4
  rw [View.canon_unit_zero (S := S512x1024) hz2]
  exact (pay6_3 _ _ _ _ _ _ _ _ _ _ _ _ _ _ _ _ r l).trans (eight x0 x2 r l)
theorem out6_5_apply : out6_5 x0 x1 x2 x3 (ix2 r l) = rowSum x1 x3 r l := by
  unfold out6_5
  rw [View.canon_unit_zero (S := S512x1024) hz2]
  exact (pay6_1 _ _ _ _ _ _ _ _ _ _ _ _ _ _ _ _ r l).trans (eight x1 x3 r l)
end

/-- A sum over 2048 columns, by chunks of 256. -/
theorem sum_chunks (f : Fin 2048 → EReal) : ∑ k : Fin 8, ∑ q : Fin 256, f (Mix.chunk k q) = ∑ d, f d := by
  rw [← Equiv.sum_comp (finProdFinEquiv (m := 8) (n := 256)), Fintype.sum_prod_type]
  refine Finset.sum_congr rfl fun k _ => Finset.sum_congr rfl fun q _ => ?_
  have e : Mix.chunk k q = finProdFinEquiv (k, q) := Fin.ext (by show 256 * k.val + q.val = q.val + 256 * k.val; omega)
  rw [e]

variable (V : (c : Dev nD) → (b : Ref sig .tc) → Buf (Elt Ideal) ((c : Thread nD τ).loc b)) (c : Dev nD) (a : Mix.Args)

/-! ## The gradient of the output weights -/

theorem at4_0 : ∀ t : Fin grid4.N, win4_0.index t 0 = 0 ∧ win4_0.index t 1 = t.val := by decide +kernel
theorem at4_1 : ∀ t : Fin grid4.N, win4_1.index t 0 = 0 ∧ win4_1.index t 1 = 0 := by decide +kernel
theorem at4_2 : ∀ t : Fin grid4.N, win4_2.index t 0 = t.val ∧ win4_2.index t 1 = 0 := by decide +kernel

section
variable (hM : ∀ i l, (V c main_v6_0 : Vec Ideal S2048x2048 .bf16) (ix2 i l) = Mix.merged a i l)
  (hD : ∀ i d, (V c main_arg7 : Vec Ideal S2048x2048 .bf16) (ix2 i d) = a.dx i d)

include hM in
theorem blk4_0 (t : Fin cfg4.N) (i : Fin 2048) (r : Fin 512) : (iblk4 V c 0 t : Vec Ideal S2048x512 .bf16) (ix2 i r) = Mix.merged a i (row4 t.val t.isLt r) := by
  unfold iblk4
  rw [View.read_apply]
  refine (rd2 (V c main_v6_0 : Vec Ideal S2048x2048 .bf16) _ i (row4 t.val t.isLt r) ?_ ?_).trans (hM _ _)
  · show win4_0.index t 0 * 2048 + 1 * i.val = i.val; rw [(at4_0 t).1]; omega
  · show win4_0.index t 1 * 512 + 1 * r.val = 512 * t.val + r.val; rw [(at4_0 t).2]; omega
include hD in
theorem blk4_1 (t : Fin cfg4.N) (i d : Fin 2048) : (iblk4 V c 1 t : Vec Ideal S2048x2048 .bf16) (ix2 i d) = a.dx i d := by
  unfold iblk4
  rw [View.read_apply]
  refine (rd2 (V c main_arg7 : Vec Ideal S2048x2048 .bf16) _ i d ?_ ?_).trans (hD _ _)
  · show win4_1.index t 0 * 2048 + 1 * i.val = i.val; rw [(at4_1 t).1]; omega
  · show win4_1.index t 1 * 2048 + 1 * d.val = d.val; rw [(at4_1 t).2]; omega

include hM hD in
/-- The array of the gradient of the output weights. -/
theorem dwo_arr : (dat4 V c).arrAt 2 cfg4.N = fun y : S2048x2048.Idx => Mix.dwo a (y 0) (y 1) := by
  refine (dat4 V c).arrAt_eq_of_covers 2 _ (by decide +kernel) fun t hf y => ?_
  blk_simp
  rw [after4_2]
  obtain ⟨r, d, rfl⟩ := idx2 (a := 512) (b := 2048) y
  have e0 : ((win4_2.blk t).view.emb (ix2 r d) 0 : Fin 2048) = row4 t.val t.isLt r := Fin.ext (by
    show win4_2.index t 0 * 512 + 1 * r.val = 512 * t.val + r.val; rw [(at4_2 t).1]; omega)
  have e1 : ((win4_2.blk t).view.emb (ix2 r d) 1 : Fin 2048) = d := Fin.ext (by
    show win4_2.index t 1 * 2048 + 1 * d.val = d.val; rw [(at4_2 t).2]; omega)
  rw [e0, e1]
  refine (out4_apply _ _ r d).trans ?_
  unfold Mix.dwo
  exact Finset.sum_congr rfl fun i _ => congrArg₂ (fun s t : EReal => s * t) (blk4_0 V c a hM t i r) (blk4_1 V c a hD t i d)
end

/-! ## The gradients of the two branches' weights -/

theorem at5_0 : ∀ t : Fin grid5.N, win5_0.index t 0 = 0 ∧ win5_0.index t 1 = 0 := by decide +kernel
theorem at5_1 : ∀ t : Fin grid5.N, win5_1.index t 0 = 0 ∧ win5_1.index t 1 = 0 := by decide +kernel
theorem at5_2 : ∀ t : Fin grid5.N, win5_2.index t 0 = 0 ∧ win5_2.index t 1 = t.val := by decide +kernel
theorem at5_3 : ∀ t : Fin grid5.N, win5_3.index t 0 = 0 ∧ win5_3.index t 1 = t.val := by decide +kernel
theorem at5_4 : ∀ t : Fin grid5.N, win5_4.index t 0 = t.val ∧ win5_4.index t 1 = 0 ∧ win5_4.index t 2 = 0 := by decide +kernel
theorem at5_5 : ∀ t : Fin grid5.N, win5_5.index t 0 = t.val ∧ win5_5.index t 1 = 0 ∧ win5_5.index t 2 = 0 := by decide +kernel

/-- The chunk of step `t` of eight. -/
def step8 (t : Nat) (ht : t < 8) : Fin 8 := ⟨t, ht⟩

section
variable (hA : ∀ i l, (V c main_v5 : Vec Ideal S2048x1024 .bf16) (ix2 i l) = Mix.ca a i l)
  (hO : ∀ i l, (V c main_arg2 : Vec Ideal S2048x1024 .bf16) (ix2 i l) = a.o i l)
  (hYa : ∀ i d, (V c main_v8_0 : Vec Ideal S2048x2048 .bf16) (ix2 i d) = Mix.dya a i d)
  (hYb : ∀ i d, (V c main_v8_1 : Vec Ideal S2048x2048 .bf16) (ix2 i d) = Mix.dyb a i d)

include hA in
theorem blk5_0 (t : Fin cfg5.N) (i : Fin 2048) (l : Fin 1024) : (iblk5 V c 0 t : Vec Ideal S2048x1024 .bf16) (ix2 i l) = Mix.ca a i l := by
  unfold iblk5
  rw [View.read_apply]
  refine (rd2 (V c main_v5 : Vec Ideal S2048x1024 .bf16) _ i l ?_ ?_).trans (hA _ _)
  · show win5_0.index t 0 * 2048 + 1 * i.val = i.val; rw [(at5_0 t).1]; omega
  · show win5_0.index t 1 * 1024 + 1 * l.val = l.val; rw [(at5_0 t).2]; omega
include hO in
theorem blk5_1 (t : Fin cfg5.N) (i : Fin 2048) (l : Fin 1024) : (iblk5 V c 1 t : Vec Ideal S2048x1024 .bf16) (ix2 i l) = a.o i l := by
  unfold iblk5
  rw [View.read_apply]
  refine (rd2 (V c main_arg2 : Vec Ideal S2048x1024 .bf16) _ i l ?_ ?_).trans (hO _ _)
  · show win5_1.index t 0 * 2048 + 1 * i.val = i.val; rw [(at5_1 t).1]; omega
  · show win5_1.index t 1 * 1024 + 1 * l.val = l.val; rw [(at5_1 t).2]; omega
include hYa in
theorem blk5_2 (t : Fin cfg5.N) (i : Fin 2048) (q : Fin 256) : (iblk5 V c 2 t : Vec Ideal S2048x256 .bf16) (ix2 i q) = Mix.dya a i (Mix.chunk (step8 t.val t.isLt) q) := by
  unfold iblk5
  rw [View.read_apply]
  refine (rd2 (V c main_v8_0 : Vec Ideal S2048x2048 .bf16) _ i (Mix.chunk (step8 t.val t.isLt) q) ?_ ?_).trans (hYa _ _)
  · show win5_2.index t 0 * 2048 + 1 * i.val = i.val; rw [(at5_2 t).1]; omega
  · show win5_2.index t 1 * 256 + 1 * q.val = 256 * t.val + q.val; rw [(at5_2 t).2]; omega
include hYb in
theorem blk5_3 (t : Fin cfg5.N) (i : Fin 2048) (q : Fin 256) : (iblk5 V c 3 t : Vec Ideal S2048x256 .bf16) (ix2 i q) = Mix.dyb a i (Mix.chunk (step8 t.val t.isLt) q) := by
  unfold iblk5
  rw [View.read_apply]
  refine (rd2 (V c main_v8_1 : Vec Ideal S2048x2048 .bf16) _ i (Mix.chunk (step8 t.val t.isLt) q) ?_ ?_).trans (hYb _ _)
  · show win5_3.index t 0 * 2048 + 1 * i.val = i.val; rw [(at5_3 t).1]; omega
  · show win5_3.index t 1 * 256 + 1 * q.val = 256 * t.val + q.val; rw [(at5_3 t).2]; omega

include hA hYa in
/-- The array of the gradient of the convolution's branch's weights, by chunks. -/
theorem dwoc_arr : (dat5 V c).arrAt 4 cfg5.N = fun y : S8x1024x256.Idx => Mix.dwoc a (y 1) (Mix.chunk (y 0) (y 2)) := by
  refine (dat5 V c).arrAt_eq_of_covers 4 _ (by decide +kernel) fun t hf y => ?_
  blk_simp
  rw [after5_4]
  obtain ⟨p, l, q, rfl⟩ := idx3 (a := 1) (b := 1024) (c := 256) y
  obtain rfl : p = (0 : Fin 1) := Subsingleton.elim _ _
  have e0 : ((win5_4.blk t).view.emb (ix3 (n0 := 1) 0 l q) 0 : Fin 8) = step8 t.val t.isLt := Fin.ext (by
    show win5_4.index t 0 * 1 + 1 * 0 = t.val; rw [(at5_4 t).1]; omega)
  have e1 : ((win5_4.blk t).view.emb (ix3 (n0 := 1) 0 l q) 1 : Fin 1024) = l := Fin.ext (by
    show win5_4.index t 1 * 1024 + 1 * l.val = l.val; rw [(at5_4 t).2.1]; omega)
  have e2 : ((win5_4.blk t).view.emb (ix3 (n0 := 1) 0 l q) 2 : Fin 256) = q := Fin.ext (by
    show win5_4.index t 2 * 256 + 1 * q.val = q.val; rw [(at5_4 t).2.2]; omega)
  rw [e0, e1, e2]
  refine (out5_4_apply _ _ _ _ l q).trans ?_
  unfold Mix.dwoc
  exact Finset.sum_congr rfl fun i _ => congrArg₂ (fun s t : EReal => s * t) (blk5_0 V c a hA t i l) (blk5_2 V c a hYa t i q)

include hO hYb in
/-- The array of the gradient of the attention's branch's weights, by chunks. -/
theorem dwoa_arr : (dat5 V c).arrAt 5 cfg5.N = fun y : S8x1024x256.Idx => Mix.dwoa a (y 1) (Mix.chunk (y 0) (y 2)) := by
  refine (dat5 V c).arrAt_eq_of_covers 5 _ (by decide +kernel) fun t hf y => ?_
  blk_simp
  rw [after5_5]
  obtain ⟨p, l, q, rfl⟩ := idx3 (a := 1) (b := 1024) (c := 256) y
  obtain rfl : p = (0 : Fin 1) := Subsingleton.elim _ _
  have e0 : ((win5_5.blk t).view.emb (ix3 (n0 := 1) 0 l q) 0 : Fin 8) = step8 t.val t.isLt := Fin.ext (by
    show win5_5.index t 0 * 1 + 1 * 0 = t.val; rw [(at5_5 t).1]; omega)
  have e1 : ((win5_5.blk t).view.emb (ix3 (n0 := 1) 0 l q) 1 : Fin 1024) = l := Fin.ext (by
    show win5_5.index t 1 * 1024 + 1 * l.val = l.val; rw [(at5_5 t).2.1]; omega)
  have e2 : ((win5_5.blk t).view.emb (ix3 (n0 := 1) 0 l q) 2 : Fin 256) = q := Fin.ext (by
    show win5_5.index t 2 * 256 + 1 * q.val = q.val; rw [(at5_5 t).2.2]; omega)
  rw [e0, e1, e2]
  refine (out5_5_apply _ _ _ _ l q).trans ?_
  unfold Mix.dwoa
  exact Finset.sum_congr rfl fun i _ => congrArg₂ (fun s t : EReal => s * t) (blk5_1 V c a hO t i l) (blk5_3 V c a hYb t i q)
end

/-! ## The gradients at the gated convolution and at the attention's result -/

theorem at6_0 : ∀ t : Fin grid6.N, win6_0.index t 0 = t.val ∧ win6_0.index t 1 = 0 := by decide +kernel
theorem at6_1 : ∀ t : Fin grid6.N, win6_1.index t 0 = t.val ∧ win6_1.index t 1 = 0 := by decide +kernel
theorem at6_2 : ∀ t : Fin grid6.N, win6_2.index t 0 = 0 ∧ win6_2.index t 1 = 0 ∧ win6_2.index t 2 = 0 := by decide +kernel
theorem at6_3 : ∀ t : Fin grid6.N, win6_3.index t 0 = 0 ∧ win6_3.index t 1 = 0 ∧ win6_3.index t 2 = 0 := by decide +kernel
theorem at6_4 : ∀ t : Fin grid6.N, win6_4.index t 0 = t.val ∧ win6_4.index t 1 = 0 := by decide +kernel
theorem at6_5 : ∀ t : Fin grid6.N, win6_5.index t 0 = t.val ∧ win6_5.index t 1 = 0 := by decide +kernel

section
variable (hYa : ∀ i d, (V c main_v8_0 : Vec Ideal S2048x2048 .bf16) (ix2 i d) = Mix.dya a i d)
  (hYb : ∀ i d, (V c main_v8_1 : Vec Ideal S2048x2048 .bf16) (ix2 i d) = Mix.dyb a i d)
  (hC : ∀ k l q, (V c main_v2 : Vec Ideal S8x1024x256 .bf16) (ix3 k l q) = a.woc l (Mix.chunk k q))
  (hT : ∀ k l q, (V c main_v4 : Vec Ideal S8x1024x256 .bf16) (ix3 k l q) = a.woa l (Mix.chunk k q))

include hYa in
theorem blk6_0 (t : Fin cfg6.N) (r : Fin 512) (d : Fin 2048) : (iblk6 V c 0 t : Vec Ideal S512x2048 .bf16) (ix2 r d) = Mix.dya a (row4 t.val t.isLt r) d := by
  unfold iblk6
  rw [View.read_apply]
  refine (rd2 (V c main_v8_0 : Vec Ideal S2048x2048 .bf16) _ (row4 t.val t.isLt r) d ?_ ?_).trans (hYa _ _)
  · show win6_0.index t 0 * 512 + 1 * r.val = 512 * t.val + r.val; rw [(at6_0 t).1]; omega
  · show win6_0.index t 1 * 2048 + 1 * d.val = d.val; rw [(at6_0 t).2]; omega
include hYb in
theorem blk6_1 (t : Fin cfg6.N) (r : Fin 512) (d : Fin 2048) : (iblk6 V c 1 t : Vec Ideal S512x2048 .bf16) (ix2 r d) = Mix.dyb a (row4 t.val t.isLt r) d := by
  unfold iblk6
  rw [View.read_apply]
  refine (rd2 (V c main_v8_1 : Vec Ideal S2048x2048 .bf16) _ (row4 t.val t.isLt r) d ?_ ?_).trans (hYb _ _)
  · show win6_1.index t 0 * 512 + 1 * r.val = 512 * t.val + r.val; rw [(at6_1 t).1]; omega
  · show win6_1.index t 1 * 2048 + 1 * d.val = d.val; rw [(at6_1 t).2]; omega
include hC in
theorem blk6_2 (t : Fin cfg6.N) (k : Fin 8) (l : Fin 1024) (q : Fin 256) : (iblk6 V c 2 t : Vec Ideal S8x1024x256 .bf16) (ix3 k l q) = a.woc l (Mix.chunk k q) := by
  unfold iblk6
  rw [View.read_apply]
  refine (rd3 (V c main_v2 : Vec Ideal S8x1024x256 .bf16) _ k l q ?_ ?_ ?_).trans (hC _ _ _)
  · show win6_2.index t 0 * 8 + 1 * k.val = k.val; rw [(at6_2 t).1]; omega
  · show win6_2.index t 1 * 1024 + 1 * l.val = l.val; rw [(at6_2 t).2.1]; omega
  · show win6_2.index t 2 * 256 + 1 * q.val = q.val; rw [(at6_2 t).2.2]; omega
include hT in
theorem blk6_3 (t : Fin cfg6.N) (k : Fin 8) (l : Fin 1024) (q : Fin 256) : (iblk6 V c 3 t : Vec Ideal S8x1024x256 .bf16) (ix3 k l q) = a.woa l (Mix.chunk k q) := by
  unfold iblk6
  rw [View.read_apply]
  refine (rd3 (V c main_v4 : Vec Ideal S8x1024x256 .bf16) _ k l q ?_ ?_ ?_).trans (hT _ _ _)
  · show win6_3.index t 0 * 8 + 1 * k.val = k.val; rw [(at6_3 t).1]; omega
  · show win6_3.index t 1 * 1024 + 1 * l.val = l.val; rw [(at6_3 t).2.1]; omega
  · show win6_3.index t 2 * 256 + 1 * q.val = q.val; rw [(at6_3 t).2.2]; omega

include hYa hC in
/-- The array of the gradient at the gated convolution. -/
theorem dca_arr : (dat6 V c).arrAt 4 cfg6.N = fun y : S2048x1024.Idx => Mix.dca a (y 0) (y 1) := by
  refine (dat6 V c).arrAt_eq_of_covers 4 _ (by decide +kernel) fun t hf y => ?_
  blk_simp
  rw [after6_4]
  obtain ⟨r, l, rfl⟩ := idx2 (a := 512) (b := 1024) y
  have e0 : ((win6_4.blk t).view.emb (ix2 r l) 0 : Fin 2048) = row4 t.val t.isLt r := Fin.ext (by
    show win6_4.index t 0 * 512 + 1 * r.val = 512 * t.val + r.val; rw [(at6_4 t).1]; omega)
  have e1 : ((win6_4.blk t).view.emb (ix2 r l) 1 : Fin 1024) = l := Fin.ext (by
    show win6_4.index t 1 * 1024 + 1 * l.val = l.val; rw [(at6_4 t).2]; omega)
  rw [e0, e1]
  refine (out6_4_apply _ _ _ _ r l).trans ?_
  refine Eq.trans ?_ (sum_chunks fun d => Mix.dya a (row4 t.val t.isLt r) d * a.woc l d)
  exact Finset.sum_congr rfl fun k _ => Finset.sum_congr rfl fun q _ => congrArg₂ (fun s t : EReal => s * t) (blk6_0 V c a hYa t r _) (blk6_2 V c a hC t k l q)

include hYb hT in
/-- The array of the gradient at the attention's result. -/
theorem do_arr : (dat6 V c).arrAt 5 cfg6.N = fun y : S2048x1024.Idx => Mix.dO a (y 0) (y 1) := by
  refine (dat6 V c).arrAt_eq_of_covers 5 _ (by decide +kernel) fun t hf y => ?_
  blk_simp
  rw [after6_5]
  obtain ⟨r, l, rfl⟩ := idx2 (a := 512) (b := 1024) y
  have e0 : ((win6_5.blk t).view.emb (ix2 r l) 0 : Fin 2048) = row4 t.val t.isLt r := Fin.ext (by
    show win6_5.index t 0 * 512 + 1 * r.val = 512 * t.val + r.val; rw [(at6_5 t).1]; omega)
  have e1 : ((win6_5.blk t).view.emb (ix2 r l) 1 : Fin 1024) = l := Fin.ext (by
    show win6_5.index t 1 * 1024 + 1 * l.val = l.val; rw [(at6_5 t).2]; omega)
  rw [e0, e1]
  refine (out6_5_apply _ _ _ _ r l).trans ?_
  refine Eq.trans ?_ (sum_chunks fun d => Mix.dyb a (row4 t.val t.isLt r) d * a.woa l d)
  exact Finset.sum_congr rfl fun k _ => Finset.sum_congr rfl fun q _ => congrArg₂ (fun s t : EReal => s * t) (blk6_1 V c a hYb t r _) (blk6_3 V c a hT t k l q)
end

end Cert.Kernel6Ideal.Value

end
-- ==== Proof.Mix.Run.lean ====
/-
  The calls of the mixing program one after another: what each leaves for the next, and the results of the whole run.
-/
module

public import proofs.«01_k».proof.Proof.Mix.Gates
public import proofs.«01_k».proof.Proof.Mix.Prods
public import proofs.«01_k».proof.Proof.Gen.Kernel6Ideal.Frame
import Idealize.ShloMosaic.Lib.Pointwise
import Idealize.ShloMosaic.Lib.IdealHost
import Idealize.ShloMosaic.Lib.KernelVsHost

@[expose] public section

noncomputable section

namespace Cert.Kernel6Ideal.Value

open Idealize.SL Idealize.SL.Sem Idealize.ShloMosaic Idealize.ShloMosaic.TcCoe Cert.Kernel6Ideal Cert.Kernel6Ideal.Gen

variable (m : (ℓ : Loc nD τ sig) → Buf (Elt Ideal) ℓ) (ρ : Dev nD → PrngReg) (c : Dev nD)

/-- The program's arguments, as launched. -/
def args : Mix.Args where
  p i f := (m ((c : Thread nD τ).loc main_arg0) : Vec Ideal S2048x8704 .bf16) (ix2 i f)
  cw j q := (m ((c : Thread nD τ).loc main_arg1) : Vec Ideal S3x1024 .f32) (ix2 j q)
  o i l := (m ((c : Thread nD τ).loc main_arg2) : Vec Ideal S2048x1024 .bf16) (ix2 i l)
  woc l d := (m ((c : Thread nD τ).loc main_arg3) : Vec Ideal S1024x2048 .bf16) (ix2 l d)
  woa l d := (m ((c : Thread nD τ).loc main_arg4) : Vec Ideal S1024x2048 .bf16) (ix2 l d)
  wo l d := (m ((c : Thread nD τ).loc main_arg5) : Vec Ideal S2048x2048 .bf16) (ix2 l d)
  x i d := (m ((c : Thread nD τ).loc main_arg6) : Vec Ideal S2048x2048 .f32) (ix2 i d)
  dx i d := (m ((c : Thread nD τ).loc main_arg7) : Vec Ideal S2048x2048 .bf16) (ix2 i d)

/-- A weight by chunks of columns, chunk first, at a chunk, a row and a column. -/
theorem chunk_apply (x : Vec Ideal S1024x2048 .bf16) (k : Fin 8) (l : Fin 1024) (q : Fin 256) :
    transpose S8x1024x256 [1, 0, 2] (shapeCast S1024x8x256 x shapeCasts_S1024x2048_S1024x8x256) transposes_S1024x8x256_S8x1024x256_1_0_2 (ix3 k l q)
      = x (ix2 l (Mix.chunk k q)) := by
  pointwise
  refine congrArg x (congrArg (ix2 l) (Fin.ext ?_))
  show k.val * 256 + q.val = 256 * k.val + q.val
  omega
/-- The convolution's taps, with five rows of zeros below, at one of the first three rows. -/
theorem taps_apply (x : Vec Ideal S3x1024 .f32) (v : Vec Ideal S_ .f32) (j : Fin 3) (q : Fin 1024) :
    pad S8x1024 ![0, 0] ![5, 0] ![0, 0] x v pads_S3x1024_S8x1024_050_000 h_S_ (ix2 (Mix.tapRow j) q) = x (ix2 j q) :=
  pad_apply_of_inside _ _ _ x v _ _ _ (ix2 j q) fun k => match k with
    | ⟨0, _⟩ => by show j.val = 0 + j.val * (0 + 1); omega
    | ⟨1, _⟩ => by show q.val = 0 + q.val * (0 + 1); omega

/-- The padded taps, before the first call. -/
theorem taps_3 (j : Fin 3) (q : Fin 1024) : (W3 m ρ c (Proc.devRef .tc main_v0) : Vec Ideal S8x1024 .f32) (ix2 (Mix.tapRow j) q) = (args m c).cw j q := by
  obtain ⟨v, hv⟩ : ∃ v : Vec Ideal S_ .f32, (W2 m ρ c (Proc.devRef .tc main_v0) : Vec Ideal S8x1024 .f32)
    = pad S8x1024 ![0, 0] ![5, 0] ![0, 0] (m ((c : Thread nD τ).loc main_arg1) : Vec Ideal S3x1024 .f32) v pads_S3x1024_S8x1024_050_000 h_S_ := ⟨_, rfl⟩
  exact (congrFun ((W3_of m ρ c main_v0 (by decide +kernel)).trans hv) _).trans (taps_apply _ _ j q)
/-- The two weights by chunks, before the first call. -/
theorem woc_3 (k : Fin 8) (l : Fin 1024) (q : Fin 256) : (W3 m ρ c (Proc.devRef .tc main_v2) : Vec Ideal S8x1024x256 .bf16) (ix3 k l q) = (args m c).woc l (Mix.chunk k q) := by
  refine (congrFun (show (W3 m ρ c (Proc.devRef .tc main_v2) : Vec Ideal S8x1024x256 .bf16)
    = transpose S8x1024x256 [1, 0, 2] (shapeCast S1024x8x256 (m ((c : Thread nD τ).loc main_arg3) : Vec Ideal S1024x2048 .bf16) shapeCasts_S1024x2048_S1024x8x256)
        transposes_S1024x8x256_S8x1024x256_1_0_2 from rfl) _).trans ?_
  exact chunk_apply _ k l q
theorem woa_3 (k : Fin 8) (l : Fin 1024) (q : Fin 256) : (W3 m ρ c (Proc.devRef .tc main_v4) : Vec Ideal S8x1024x256 .bf16) (ix3 k l q) = (args m c).woa l (Mix.chunk k q) := by
  refine (congrFun (show (W3 m ρ c (Proc.devRef .tc main_v4) : Vec Ideal S8x1024x256 .bf16)
    = transpose S8x1024x256 [1, 0, 2] (shapeCast S1024x8x256 (m ((c : Thread nD τ).loc main_arg4) : Vec Ideal S1024x2048 .bf16) shapeCasts_S1024x2048_S1024x8x256)
        transposes_S1024x8x256_S8x1024x256_1_0_2 from rfl) _).trans ?_
  exact chunk_apply _ k l q

theorem woc_4 (k : Fin 8) (l : Fin 1024) (q : Fin 256) : (W4 m ρ c (Proc.devRef .tc main_v2) : Vec Ideal S8x1024x256 .bf16) (ix3 k l q) = (args m c).woc l (Mix.chunk k q) :=
  (congrFun (W4_of m ρ c main_v2 (by decide +kernel)) _).trans (woc_3 m ρ c k l q)
theorem woc_9 (k : Fin 8) (l : Fin 1024) (q : Fin 256) : (W9 m ρ c (Proc.devRef .tc main_v2) : Vec Ideal S8x1024x256 .bf16) (ix3 k l q) = (args m c).woc l (Mix.chunk k q) :=
  (congrFun (W9_of m ρ c main_v2 (by decide +kernel)) _).trans ((congrFun (W8_of m ρ c main_v2 (by decide +kernel)) _).trans ((congrFun (W7_of m ρ c main_v2 (by decide +kernel)) _).trans ((congrFun (W6_of m ρ c main_v2 (by decide +kernel)) _).trans ((congrFun (W5_of m ρ c main_v2 (by decide +kernel)) _).trans (woc_4 m ρ c k l q)))))
theorem woa_4 (k : Fin 8) (l : Fin 1024) (q : Fin 256) : (W4 m ρ c (Proc.devRef .tc main_v4) : Vec Ideal S8x1024x256 .bf16) (ix3 k l q) = (args m c).woa l (Mix.chunk k q) :=
  (congrFun (W4_of m ρ c main_v4 (by decide +kernel)) _).trans (woa_3 m ρ c k l q)
theorem woa_9 (k : Fin 8) (l : Fin 1024) (q : Fin 256) : (W9 m ρ c (Proc.devRef .tc main_v4) : Vec Ideal S8x1024x256 .bf16) (ix3 k l q) = (args m c).woa l (Mix.chunk k q) :=
  (congrFun (W9_of m ρ c main_v4 (by decide +kernel)) _).trans ((congrFun (W8_of m ρ c main_v4 (by decide +kernel)) _).trans ((congrFun (W7_of m ρ c main_v4 (by decide +kernel)) _).trans ((congrFun (W6_of m ρ c main_v4 (by decide +kernel)) _).trans ((congrFun (W5_of m ρ c main_v4 (by decide +kernel)) _).trans (woa_4 m ρ c k l q)))))
theorem taps_10 (j : Fin 3) (q : Fin 1024) : (W10 m ρ c (Proc.devRef .tc main_v0) : Vec Ideal S8x1024 .f32) (ix2 (Mix.tapRow j) q) = (args m c).cw j q :=
  (congrFun (W10_of m ρ c main_v0 (by decide +kernel)) _).trans ((congrFun (W9_of m ρ c main_v0 (by decide +kernel)) _).trans ((congrFun (W8_of m ρ c main_v0 (by decide +kernel)) _).trans ((congrFun (W7_of m ρ c main_v0 (by decide +kernel)) _).trans ((congrFun (W6_of m ρ c main_v0 (by decide +kernel)) _).trans ((congrFun (W5_of m ρ c main_v0 (by decide +kernel)) _).trans ((congrFun (W4_of m ρ c main_v0 (by decide +kernel)) _).trans (taps_3 m ρ c j q)))))))

/-- The gated convolution, after the first call. -/
theorem ca_4 : (W4 m ρ c (Proc.devRef .tc main_v5) : Vec Ideal S2048x1024 .bf16) = fun y : S2048x1024.Idx => Mix.ca (args m c) (y 0) (y 1) :=
  (W4_arr m ρ c 4).trans (ca_arr (V3 m ρ) c (args m c) (fun i j => congrFun (W3_args m ρ c main_arg0 (by decide)) (ix2 i j)) (taps_3 m ρ c))
/-- The two branches gated and added, after the second call. -/
theorem merged_5 : (W5 m ρ c (Proc.devRef .tc main_v6_0) : Vec Ideal S2048x2048 .bf16) = fun y : S2048x2048.Idx => Mix.merged (args m c) (y 0) (y 1) :=
  (W5_arr m ρ c 6).trans (merged_arr (V4 m ρ) c (args m c) (fun i j => congrFun (W4_args m ρ c main_arg0 (by decide)) (ix2 i j)) (fun i j => congrFun (ca_4 m ρ c) (ix2 i j)) (fun i j => congrFun (W4_args m ρ c main_arg2 (by decide)) (ix2 i j)) (woc_4 m ρ c) (woa_4 m ρ c))
/-- The convolution's branch, after the second call. -/
theorem ya_5 : (W5 m ρ c (Proc.devRef .tc main_v6_1) : Vec Ideal S2048x2048 .bf16) = fun y : S2048x2048.Idx => Mix.ya (args m c) (y 0) (y 1) :=
  (W5_arr m ρ c 7).trans (ya_arr (V4 m ρ) c (args m c) (fun i j => congrFun (ca_4 m ρ c) (ix2 i j)) (woc_4 m ρ c))
/-- The attention's branch, after the second call. -/
theorem yb_5 : (W5 m ρ c (Proc.devRef .tc main_v6_2) : Vec Ideal S2048x2048 .bf16) = fun y : S2048x2048.Idx => Mix.yb (args m c) (y 0) (y 1) :=
  (W5_arr m ρ c 8).trans (yb_arr (V4 m ρ) c (args m c) (fun i j => congrFun (W4_args m ρ c main_arg2 (by decide)) (ix2 i j)) (woa_4 m ρ c))
/-- The residual, after the third call. -/
theorem x2_6 : (W6 m ρ c (Proc.devRef .tc main_v7) : Vec Ideal S2048x2048 .f32) = fun y : S2048x2048.Idx => Mix.x2 (args m c) (y 0) (y 1) :=
  (W6_arr m ρ c 3).trans (x2_arr (V5 m ρ) c (args m c) (fun i j => congrFun (merged_5 m ρ c) (ix2 i j)) (fun i j => congrFun (W5_args m ρ c main_arg5 (by decide)) (ix2 i j)) (fun i j => congrFun (W5_args m ρ c main_arg6 (by decide)) (ix2 i j)))
/-- The two branches, still, after the third call. -/
theorem ya_6 : (W6 m ρ c (Proc.devRef .tc main_v6_1) : Vec Ideal S2048x2048 .bf16) = fun y : S2048x2048.Idx => Mix.ya (args m c) (y 0) (y 1) :=
  (W6_of m ρ c main_v6_1 (by decide +kernel)).trans (ya_5 m ρ c)
theorem yb_6 : (W6 m ρ c (Proc.devRef .tc main_v6_2) : Vec Ideal S2048x2048 .bf16) = fun y : S2048x2048.Idx => Mix.yb (args m c) (y 0) (y 1) :=
  (W6_of m ρ c main_v6_2 (by decide +kernel)).trans (yb_5 m ρ c)
/-- The gradients at the two branches and at the gates, after the fourth call. -/
theorem dya_7 : (W7 m ρ c (Proc.devRef .tc main_v8_0) : Vec Ideal S2048x2048 .bf16) = fun y : S2048x2048.Idx => Mix.dya (args m c) (y 0) (y 1) :=
  (W7_arr m ρ c 6).trans (dya_arr (V6 m ρ) c (args m c) (fun i j => congrFun (W6_args m ρ c main_arg0 (by decide)) (ix2 i j)) (fun i j => congrFun (W6_args m ρ c main_arg7 (by decide)) (ix2 i j)) (fun i j => congrFun (W6_args m ρ c main_arg5 (by decide)) (ix2 i j)))
theorem dyb_7 : (W7 m ρ c (Proc.devRef .tc main_v8_1) : Vec Ideal S2048x2048 .bf16) = fun y : S2048x2048.Idx => Mix.dyb (args m c) (y 0) (y 1) :=
  (W7_arr m ρ c 7).trans (dyb_arr (V6 m ρ) c (args m c) (fun i j => congrFun (W6_args m ρ c main_arg0 (by decide)) (ix2 i j)) (fun i j => congrFun (W6_args m ρ c main_arg7 (by decide)) (ix2 i j)) (fun i j => congrFun (W6_args m ρ c main_arg5 (by decide)) (ix2 i j)))
theorem dg_7 : (W7 m ρ c (Proc.devRef .tc main_v8_2) : Vec Ideal S2x2048x2048 .bf16) = fun y : S2x2048x2048.Idx => Mix.dg (args m c) (y 0) (y 1) (y 2) :=
  (W7_arr m ρ c 8).trans (dgates_arr (V6 m ρ) c (args m c) (fun i j => congrFun (W6_args m ρ c main_arg0 (by decide)) (ix2 i j)) (fun i j => congrFun (W6_args m ρ c main_arg7 (by decide)) (ix2 i j)) (fun i j => congrFun (W6_args m ρ c main_arg5 (by decide)) (ix2 i j)) (fun i j => congrFun (ya_6 m ρ c) (ix2 i j)) (fun i j => congrFun (yb_6 m ρ c) (ix2 i j)))
/-- What the products read, still. -/
theorem merged_7 : (W7 m ρ c (Proc.devRef .tc main_v6_0) : Vec Ideal S2048x2048 .bf16) = fun y : S2048x2048.Idx => Mix.merged (args m c) (y 0) (y 1) :=
  (W7_of m ρ c main_v6_0 (by decide +kernel)).trans ((W6_of m ρ c main_v6_0 (by decide +kernel)).trans (merged_5 m ρ c))
/-- The gradient of the last weights, after the fifth call. -/
theorem dwo_8 : (W8 m ρ c (Proc.devRef .tc main_v9) : Vec Ideal S2048x2048 .bf16) = fun y : S2048x2048.Idx => Mix.dwo (args m c) (y 0) (y 1) :=
  (W8_arr m ρ c 2).trans (dwo_arr (V7 m ρ) c (args m c) (fun i j => congrFun (merged_7 m ρ c) (ix2 i j)) (fun i j => congrFun (W7_args m ρ c main_arg7 (by decide)) (ix2 i j)))
/-- What the next two calls read, still. -/
theorem ca_8 : (W8 m ρ c (Proc.devRef .tc main_v5) : Vec Ideal S2048x1024 .bf16) = fun y : S2048x1024.Idx => Mix.ca (args m c) (y 0) (y 1) :=
  (W8_of m ρ c main_v5 (by decide +kernel)).trans ((W7_of m ρ c main_v5 (by decide +kernel)).trans ((W6_of m ρ c main_v5 (by decide +kernel)).trans ((W5_of m ρ c main_v5 (by decide +kernel)).trans (ca_4 m ρ c))))
theorem dya_8 : (W8 m ρ c (Proc.devRef .tc main_v8_0) : Vec Ideal S2048x2048 .bf16) = fun y : S2048x2048.Idx => Mix.dya (args m c) (y 0) (y 1) :=
  (W8_of m ρ c main_v8_0 (by decide +kernel)).trans (dya_7 m ρ c)
theorem dyb_8 : (W8 m ρ c (Proc.devRef .tc main_v8_1) : Vec Ideal S2048x2048 .bf16) = fun y : S2048x2048.Idx => Mix.dyb (args m c) (y 0) (y 1) :=
  (W8_of m ρ c main_v8_1 (by decide +kernel)).trans (dyb_7 m ρ c)
/-- The gradients of the two branches' weights, after the sixth call. -/
theorem dwoc_9 : (W9 m ρ c (Proc.devRef .tc main_v10_0) : Vec Ideal S8x1024x256 .bf16) = fun y : S8x1024x256.Idx => Mix.dwoc (args m c) (y 1) (Mix.chunk (y 0) (y 2)) :=
  (W9_arr m ρ c 4).trans (dwoc_arr (V8 m ρ) c (args m c) (fun i j => congrFun (ca_8 m ρ c) (ix2 i j)) (fun i j => congrFun (dya_8 m ρ c) (ix2 i j)))
theorem dwoa_9 : (W9 m ρ c (Proc.devRef .tc main_v10_1) : Vec Ideal S8x1024x256 .bf16) = fun y : S8x1024x256.Idx => Mix.dwoa (args m c) (y 1) (Mix.chunk (y 0) (y 2)) :=
  (W9_arr m ρ c 5).trans (dwoa_arr (V8 m ρ) c (args m c) (fun i j => congrFun (W8_args m ρ c main_arg2 (by decide)) (ix2 i j)) (fun i j => congrFun (dyb_8 m ρ c) (ix2 i j)))
theorem dya_9 : (W9 m ρ c (Proc.devRef .tc main_v8_0) : Vec Ideal S2048x2048 .bf16) = fun y : S2048x2048.Idx => Mix.dya (args m c) (y 0) (y 1) :=
  (W9_of m ρ c main_v8_0 (by decide +kernel)).trans (dya_8 m ρ c)
theorem dyb_9 : (W9 m ρ c (Proc.devRef .tc main_v8_1) : Vec Ideal S2048x2048 .bf16) = fun y : S2048x2048.Idx => Mix.dyb (args m c) (y 0) (y 1) :=
  (W9_of m ρ c main_v8_1 (by decide +kernel)).trans (dyb_8 m ρ c)
/-- The gradients at the gated convolution and at the attention's result, after the seventh call. -/
theorem dca_10 : (W10 m ρ c (Proc.devRef .tc main_v11_0) : Vec Ideal S2048x1024 .f32) = fun y : S2048x1024.Idx => Mix.dca (args m c) (y 0) (y 1) :=
  (W10_arr m ρ c 4).trans (dca_arr (V9 m ρ) c (args m c) (fun i j => congrFun (dya_9 m ρ c) (ix2 i j)) (woc_9 m ρ c))
theorem do_10 : (W10 m ρ c (Proc.devRef .tc main_v11_1) : Vec Ideal S2048x1024 .bf16) = fun y : S2048x1024.Idx => Mix.dO (args m c) (y 0) (y 1) :=
  (W10_arr m ρ c 5).trans (do_arr (V9 m ρ) c (args m c) (fun i j => congrFun (dyb_9 m ρ c) (ix2 i j)) (woa_9 m ρ c))
/-- The gradients at the convolution's gates and input, and of its taps, after the last call. -/
theorem d3_11 : (W11 m ρ c (Proc.devRef .tc main_v12_0) : Vec Ideal S3x2048x1024 .bf16) = fun y : S3x2048x1024.Idx => Mix.d3 (args m c) (y 0) (y 1) (y 2) :=
  (W11_arr m ρ c 5).trans (d3_arr (V10 m ρ) c (args m c) (fun i j => congrFun (W10_args m ρ c main_arg0 (by decide)) (ix2 i j)) (taps_10 m ρ c) (fun i j => congrFun (dca_10 m ρ c) (ix2 i j)))
theorem dtap_11 : (W11 m ρ c (Proc.devRef .tc main_v12_1) : Vec Ideal S8x1024 .f32) = fun y : S8x1024.Idx => Mix.dtap8 (args m c) (y 0) (y 1) :=
  (W11_arr m ρ c 6).trans (dtap_arr (V10 m ρ) c (args m c) (fun i j => congrFun (W10_args m ρ c main_arg0 (by decide)) (ix2 i j)) (fun i j => congrFun (dca_10 m ρ c) (ix2 i j)))
/-- The other results, at the end. -/
theorem x2_11 : (W11 m ρ c (Proc.devRef .tc main_v7) : Vec Ideal S2048x2048 .f32) = fun y : S2048x2048.Idx => Mix.x2 (args m c) (y 0) (y 1) :=
  (W11_of m ρ c main_v7 (by decide +kernel)).trans ((W10_of m ρ c main_v7 (by decide +kernel)).trans ((W9_of m ρ c main_v7 (by decide +kernel)).trans ((W8_of m ρ c main_v7 (by decide +kernel)).trans ((W7_of m ρ c main_v7 (by decide +kernel)).trans (x2_6 m ρ c)))))
theorem dg_11 : (W11 m ρ c (Proc.devRef .tc main_v8_2) : Vec Ideal S2x2048x2048 .bf16) = fun y : S2x2048x2048.Idx => Mix.dg (args m c) (y 0) (y 1) (y 2) :=
  (W11_of m ρ c main_v8_2 (by decide +kernel)).trans ((W10_of m ρ c main_v8_2 (by decide +kernel)).trans ((W9_of m ρ c main_v8_2 (by decide +kernel)).trans ((W8_of m ρ c main_v8_2 (by decide +kernel)).trans (dg_7 m ρ c))))
theorem dwo_11 : (W11 m ρ c (Proc.devRef .tc main_v9) : Vec Ideal S2048x2048 .bf16) = fun y : S2048x2048.Idx => Mix.dwo (args m c) (y 0) (y 1) :=
  (W11_of m ρ c main_v9 (by decide +kernel)).trans ((W10_of m ρ c main_v9 (by decide +kernel)).trans ((W9_of m ρ c main_v9 (by decide +kernel)).trans (dwo_8 m ρ c)))
theorem dwoc_11 : (W11 m ρ c (Proc.devRef .tc main_v10_0) : Vec Ideal S8x1024x256 .bf16) = fun y : S8x1024x256.Idx => Mix.dwoc (args m c) (y 1) (Mix.chunk (y 0) (y 2)) :=
  (W11_of m ρ c main_v10_0 (by decide +kernel)).trans ((W10_of m ρ c main_v10_0 (by decide +kernel)).trans (dwoc_9 m ρ c))
theorem dwoa_11 : (W11 m ρ c (Proc.devRef .tc main_v10_1) : Vec Ideal S8x1024x256 .bf16) = fun y : S8x1024x256.Idx => Mix.dwoa (args m c) (y 1) (Mix.chunk (y 0) (y 2)) :=
  (W11_of m ρ c main_v10_1 (by decide +kernel)).trans ((W10_of m ρ c main_v10_1 (by decide +kernel)).trans (dwoa_9 m ρ c))
theorem do_11 : (W11 m ρ c (Proc.devRef .tc main_v11_1) : Vec Ideal S2048x1024 .bf16) = fun y : S2048x1024.Idx => Mix.dO (args m c) (y 0) (y 1) :=
  (W11_of m ρ c main_v11_1 (by decide +kernel)).trans (do_10 m ρ c)

open Idealize.SL.RA Idealize.SL.BI Idealize.SL.BI.BIBase Idealize.SL.BI.Laws Idealize.SL.ProofMode
open scoped Idealize.SL.BI
open Idealize.ShloMosaic.Rounds
open Idealize.ShloMosaic.Pipeline (Dat Cfg Window BodyObligation cellOf)

/-- The machine the run is stated in. -/
abbrev Mach := MT nD τ sig Unit (Elt Ideal) ℕ (UR sig nD τ) ℕ

-- the kit's implicit arguments are found by unifying its conclusion with this one, as in the generated frame
set_option backward.isDefEq.respectTransparency.types false in
/-- The run ends with what the last boundary holds in its eight result arrays and its arguments as launched. -/
theorem run : θ_run defs (onTc (τ := τ) (main (F := Ideal))) ⟨m, fun _ => 0, ρ⟩ (fun r => ∀ c : Dev nD,
      r.2.mem ((c.tc : Thread nD τ).loc main_v7) = W11 m ρ c (Proc.devRef .tc main_v7)
      ∧ r.2.mem ((c.tc : Thread nD τ).loc main_v12_0) = W11 m ρ c (Proc.devRef .tc main_v12_0)
      ∧ r.2.mem ((c.tc : Thread nD τ).loc main_v8_2) = W11 m ρ c (Proc.devRef .tc main_v8_2)
      ∧ r.2.mem ((c.tc : Thread nD τ).loc main_v9) = W11 m ρ c (Proc.devRef .tc main_v9)
      ∧ r.2.mem ((c.tc : Thread nD τ).loc main_v10_0) = W11 m ρ c (Proc.devRef .tc main_v10_0)
      ∧ r.2.mem ((c.tc : Thread nD τ).loc main_v10_1) = W11 m ρ c (Proc.devRef .tc main_v10_1)
      ∧ r.2.mem ((c.tc : Thread nD τ).loc main_v11_1) = W11 m ρ c (Proc.devRef .tc main_v11_1)
      ∧ r.2.mem ((c.tc : Thread nD τ).loc main_v12_1) = W11 m ρ c (Proc.devRef .tc main_v12_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Mach)
            ⊢ BI.own (emb₁ (initOf (Pipeline.cells cfgs cellOf_inj) (Pipeline.launchToks cfgs cellOf_inj))) from .rfl)
        iexact Hu
      iapply (show (BI.emp : sProp Mach) ⊢ bigSep Finset.univ (fun _ : Dev nD => (BI.emp : sProp Mach)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨h c _ (mem_uc main_v7 (by decide)), h c _ (mem_uc main_v12_0 (by decide)), h c _ (mem_uc main_v8_2 (by decide)), h c _ (mem_uc main_v9 (by decide)), h c _ (mem_uc main_v10_0 (by decide)), h c _ (mem_uc main_v10_1 (by decide)), h c _ (mem_uc main_v11_1 (by decide)), h c _ (mem_uc main_v12_1 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.Kernel6Ideal.Value

end
-- ==== Proof.Mix.Ref.lean ====
/-
  The mixing reference and the gradients jax takes of it, at coordinates: each stage is what the specification names.
-/
module

public import proofs.«01_k».proof.Proof.Gen.Reference6Ideal.Read
public import proofs.«01_k».proof.Proof.Mix.Spec
import Idealize.ShloMosaic.Lib.Pointwise
import Idealize.ShloMosaic.Lib.IdealHost
import Idealize.ShloMosaic.Lib.KernelVsHost

@[expose] public section

noncomputable section

namespace Cert.Reference6Ideal.Value

open Idealize.ShloMosaic Cert.Reference6Ideal Cert.Reference6Ideal.Gen Cert.Reference6Ideal.Read

/-- The reference's eight argument arrays. -/
structure Arrays where
  x0 : Vec Ideal S2048x8704 .bf16
  x1 : Vec Ideal S3x1024 .f32
  x2 : Vec Ideal S2048x1024 .bf16
  x3 : Vec Ideal S1024x2048 .bf16
  x4 : Vec Ideal S1024x2048 .bf16
  x5 : Vec Ideal S2048x2048 .bf16
  x6 : Vec Ideal S2048x2048 .f32
  x7 : Vec Ideal S2048x2048 .bf16

/-- The same by coordinates. -/
def Arrays.args (X : Arrays) : Mix.Args where
  p i f := X.x0 (ix2 i f)
  cw j q := X.x1 (ix2 j q)
  o i l := X.x2 (ix2 i l)
  woc l d := X.x3 (ix2 l d)
  woa l d := X.x4 (ix2 l d)
  wo l d := X.x5 (ix2 l d)
  x i d := X.x6 (ix2 i d)
  dx i d := X.x7 (ix2 i d)

variable (X : Arrays)

/-! ## The projection's columns, the taps and the weights -/

theorem r_xc (i : Fin 2048) (q : Fin 1024) : val_main_v2 (F := Ideal) X.x0 (ix3 0 i q) = Mix.xc X.args i q := by
  rw [val_main_v2_apply, val_main_v1_apply]
  exact congrArg X.x0 (funext fun k => Fin.ext (match k with
    | ⟨0, _⟩ => rfl
    | ⟨1, _⟩ => by show q.val = 0 + q.val; omega))
theorem r_bg (i : Fin 2048) (q : Fin 1024) : val_main_v3 (F := Ideal) X.x0 (ix3 0 i q) = Mix.bg X.args i q := by
  rw [val_main_v3_apply, val_main_v1_apply]
  exact congrArg X.x0 (funext fun k => match k with | ⟨0, _⟩ => rfl | ⟨1, _⟩ => rfl)
theorem r_cg (i : Fin 2048) (q : Fin 1024) : val_main_v4 (F := Ideal) X.x0 (ix3 0 i q) = Mix.cg X.args i q := by
  rw [val_main_v4_apply, val_main_v1_apply]
  exact congrArg X.x0 (funext fun k => match k with | ⟨0, _⟩ => rfl | ⟨1, _⟩ => rfl)
/-- The logistic function of the first gate, and of the second. -/
theorem r_sa (i d : Fin 2048) : val_main_v48 (F := Ideal) X.x0 (ix3 0 i d) = Mix.sa X.args i d := by
  have e1 : Ideal.ofBits .f32 0x3F800000#32 = 1 := Ideal.ofBits_one_f32
  have e : val_main_v8 (F := Ideal) X.x0 (ix3 0 i d) = X.args.p i (Mix.at_ 4608 d) := by
    rw [val_main_v8_apply, val_main_v1_apply]
    exact congrArg X.x0 (funext fun k => match k with | ⟨0, _⟩ => rfl | ⟨1, _⟩ => rfl)
  show Ideal.div (Ideal.ofBits .f32 0x3F800000#32) (Ideal.ofBits .f32 0x3F800000#32 + Ideal.exp (-(val_main_v8 (F := Ideal) X.x0 (ix3 0 i d)))) = _
  rw [e1, e]
  rfl
theorem r_sb (i d : Fin 2048) : val_main_v58 (F := Ideal) X.x0 (ix3 0 i d) = Mix.sb X.args i d := by
  have e1 : Ideal.ofBits .f32 0x3F800000#32 = 1 := Ideal.ofBits_one_f32
  have e : val_main_v9 (F := Ideal) X.x0 (ix3 0 i d) = X.args.p i (Mix.at_ 6656 d) := by
    rw [val_main_v9_apply, val_main_v1_apply]
    exact congrArg X.x0 (funext fun k => match k with | ⟨0, _⟩ => rfl | ⟨1, _⟩ => rfl)
  show Ideal.div (Ideal.ofBits .f32 0x3F800000#32) (Ideal.ofBits .f32 0x3F800000#32 + Ideal.exp (-(val_main_v9 (F := Ideal) X.x0 (ix3 0 i d)))) = _
  rw [e1, e]
  rfl
/-- The attention's result and the gradient at the residual. -/
theorem r_o (i : Fin 2048) (l : Fin 1024) : val_main_v11 (F := Ideal) X.x2 (ix3 0 i l) = X.args.o i l := by
  rw [val_main_v11_apply]
  exact congrArg X.x2 (funext fun k => match k with | ⟨0, _⟩ => rfl | ⟨1, _⟩ => rfl)
theorem r_dx (i d : Fin 2048) : val_main_v67 (F := Ideal) X.x7 (ix3 0 i d) = X.args.dx i d := by
  rw [val_main_v67_apply]
  exact congrArg X.x7 (funext fun k => match k with | ⟨0, _⟩ => rfl | ⟨1, _⟩ => rfl)
/-- The taps, each along the rows. -/
theorem r_w0 (i : Fin 2048) (q : Fin 1024) : val_main_v24 (F := Ideal) X.x1 (ix3 0 i q) = X.args.cw 0 q := by
  unfold Arrays.args
  pointwise [val_main_v24, val_main_v23, val_main_v22, val_main_v21]
theorem r_w1 (i : Fin 2048) (q : Fin 1024) : val_main_v30 (F := Ideal) X.x1 (ix3 0 i q) = X.args.cw 1 q := by
  unfold Arrays.args
  pointwise [val_main_v30, val_main_v29, val_main_v28, val_main_v27]
theorem r_w2 (i : Fin 2048) (q : Fin 1024) : val_main_v37 (F := Ideal) X.x1 (ix3 0 i q) = X.args.cw 2 q := by
  unfold Arrays.args
  pointwise [val_main_v37, val_main_v36, val_main_v35, val_main_v34]

/-! ## The convolution -/

theorem r_u (i : Fin 2048) (q : Fin 1024) : val_main_v16 (F := Ideal) X.x0 (ix3 0 i q) = Mix.u X.args q i := by
  show val_main_v4 (F := Ideal) X.x0 (ix3 0 i q) * val_main_v2 (F := Ideal) X.x0 (ix3 0 i q) = _
  rw [r_cg, r_xc]
  rfl
/-- The convolution's input with two rows of zeros above it: row `i + 2 - s` holds the input `s` rows back. -/
theorem r_above (s : ℕ) (hs : s ≤ 2) (i : Fin 2048) (q : Fin 1024) (r : Fin 2050) (hr : r.val + s = i.val + 2) :
    val_main_v18 (F := Ideal) X.x0 (ix3 0 r q) = Mix.back s (Mix.u X.args q) i := by
  unfold val_main_v18 Mix.back
  by_cases h : s ≤ i.val
  · rw [if_pos h]
    refine (concatenate_pair_apply_right 1 (val_main_v17 (F := Ideal)) (val_main_v16 (F := Ideal) X.x0)
      concatenates_S1x2x1024_S1x2048x1024_S1x2050x1024_d1 (ix3 0 r q) rfl rfl (ix3 0 ⟨i.val - s, by omega⟩ q) (fun k hk => ?_) ?_).trans (r_u X _ q)
    · match k with
      | ⟨0, _⟩ => rfl
      | ⟨1, _⟩ => exact absurd rfl hk
      | ⟨2, _⟩ => rfl
    · show i.val - s + 2 = r.val; omega
  · rw [if_neg h]
    refine (concatenate_pair_apply_left 1 (val_main_v17 (F := Ideal)) (val_main_v16 (F := Ideal) X.x0)
      concatenates_S1x2x1024_S1x2048x1024_S1x2050x1024_d1 (ix3 0 r q) rfl (ix3 0 ⟨r.val, by omega⟩ q) fun k => ?_).trans Ideal.ofBits_zero_f32
    match k with
    | ⟨0, _⟩ => rfl
    | ⟨1, _⟩ => rfl
    | ⟨2, _⟩ => rfl
/-- The input two rows back, one row back, and the input. -/
theorem r_u2 (i : Fin 2048) (q : Fin 1024) : val_main_v20 (F := Ideal) X.x0 (ix3 0 i q) = Mix.back 2 (Mix.u X.args q) i := by
  rw [val_main_v20_apply]
  refine Eq.trans ?_ (r_above X 2 (by omega) i q ⟨i.val, by omega⟩ rfl)
  exact congrArg (val_main_v18 (F := Ideal) X.x0) (funext fun k => match k with | ⟨0, _⟩ => rfl | ⟨1, _⟩ => rfl | ⟨2, _⟩ => rfl)
theorem r_u1 (i : Fin 2048) (q : Fin 1024) : val_main_v26 (F := Ideal) X.x0 (ix3 0 i q) = Mix.back 1 (Mix.u X.args q) i := by
  rw [val_main_v26_apply]
  refine Eq.trans ?_ (r_above X 1 (by omega) i q ⟨1 + i.val, by omega⟩ (by show 1 + i.val + 1 = i.val + 2; omega))
  exact congrArg (val_main_v18 (F := Ideal) X.x0) (funext fun k => match k with | ⟨0, _⟩ => rfl | ⟨1, _⟩ => rfl | ⟨2, _⟩ => rfl)
theorem r_u0 (i : Fin 2048) (q : Fin 1024) : val_main_v33 (F := Ideal) X.x0 (ix3 0 i q) = Mix.u X.args q i := by
  rw [val_main_v33_apply]
  refine Eq.trans ?_ ((r_above X 0 (by omega) i q ⟨2 + i.val, by omega⟩ (by show 2 + i.val + 0 = i.val + 2; omega)).trans (Mix.back_zero _ i))
  exact congrArg (val_main_v18 (F := Ideal) X.x0) (funext fun k => match k with | ⟨0, _⟩ => rfl | ⟨1, _⟩ => rfl | ⟨2, _⟩ => rfl)
theorem r_cv (i : Fin 2048) (q : Fin 1024) : val_main_v39 (F := Ideal) X.x0 X.x1 (ix3 0 i q) = Mix.cv X.args q i := by
  show val_main_v20 (F := Ideal) X.x0 (ix3 0 i q) * val_main_v24 (F := Ideal) X.x1 (ix3 0 i q)
    + val_main_v26 (F := Ideal) X.x0 (ix3 0 i q) * val_main_v30 (F := Ideal) X.x1 (ix3 0 i q)
    + val_main_v33 (F := Ideal) X.x0 (ix3 0 i q) * val_main_v37 (F := Ideal) X.x1 (ix3 0 i q) = _
  rw [r_u2, r_u1, r_u0, r_w0, r_w1, r_w2]
  unfold Mix.cv Mix.conv
  rw [add_comm, add_comm (Mix.back 2 _ i * _), ← add_assoc]
theorem r_ca (i : Fin 2048) (q : Fin 1024) : val_main_v40 (F := Ideal) X.x0 X.x1 (ix3 0 i q) = Mix.ca X.args i q := by
  show val_main_v3 (F := Ideal) X.x0 (ix3 0 i q) * val_main_v39 (F := Ideal) X.x0 X.x1 (ix3 0 i q) = _
  rw [r_bg, r_cv]
  rfl

/-! ## The branches, the gates and the residual -/

theorem r_ya (i d : Fin 2048) : val_main_v41 (F := Ideal) X.x0 X.x1 X.x3 (ix3 0 i d) = Mix.ya X.args i d := by
  rw [val_main_v41_apply]
  refine Finset.sum_congr rfl fun l _ => congrArg₂ (fun s t : EReal => s * t) (Eq.trans ?_ (r_ca X i l)) ?_
  · exact congrArg (val_main_v40 (F := Ideal) X.x0 X.x1) (funext fun k => match k with | ⟨0, _⟩ => rfl | ⟨1, _⟩ => rfl | ⟨2, _⟩ => rfl)
  · exact congrArg X.x3 (funext fun k => match k with | ⟨0, _⟩ => rfl | ⟨1, _⟩ => rfl)
theorem r_yb (i d : Fin 2048) : val_main_v42 (F := Ideal) X.x2 X.x4 (ix3 0 i d) = Mix.yb X.args i d := by
  rw [val_main_v42_apply]
  refine Finset.sum_congr rfl fun l _ => congrArg₂ (fun s t : EReal => s * t) (Eq.trans ?_ (r_o X i l)) ?_
  · exact congrArg (val_main_v11 (F := Ideal) X.x2) (funext fun k => match k with | ⟨0, _⟩ => rfl | ⟨1, _⟩ => rfl | ⟨2, _⟩ => rfl)
  · exact congrArg X.x4 (funext fun k => match k with | ⟨0, _⟩ => rfl | ⟨1, _⟩ => rfl)
theorem r_merged (i d : Fin 2048) : val_main_v63 (F := Ideal) X.x0 X.x1 X.x2 X.x3 X.x4 (ix3 0 i d) = Mix.merged X.args i d := by
  show val_main_v48 (F := Ideal) X.x0 (ix3 0 i d) * val_main_v41 (F := Ideal) X.x0 X.x1 X.x3 (ix3 0 i d)
    + val_main_v58 (F := Ideal) X.x0 (ix3 0 i d) * val_main_v42 (F := Ideal) X.x2 X.x4 (ix3 0 i d) = _
  rw [r_sa, r_sb, r_ya, r_yb]
  rfl
/-- The residual. -/
theorem r_x2 (i d : Fin 2048) : val_main_v120 (F := Ideal) X.x0 X.x1 X.x2 X.x3 X.x4 X.x5 X.x6 (ix2 i d) = Mix.x2 X.args i d := by
  have e : val_main_v120 (F := Ideal) X.x0 X.x1 X.x2 X.x3 X.x4 X.x5 X.x6 (ix2 i d) = val_main_v65 (F := Ideal) X.x0 X.x1 X.x2 X.x3 X.x4 X.x5 X.x6 (ix3 0 i d) := by
    unfold val_main_v120
    pointwise
  have ex : val_main_v15 (F := Ideal) X.x6 (ix3 0 i d) = X.args.x i d := by
    rw [val_main_v15_apply]
    exact congrArg X.x6 (funext fun k => match k with | ⟨0, _⟩ => rfl | ⟨1, _⟩ => rfl)
  refine e.trans (congrArg₂ (fun s t : EReal => s + t) ex ?_)
  rw [val_main_v64_apply]
  refine Finset.sum_congr rfl fun l _ => congrArg₂ (fun s t : EReal => s * t) (Eq.trans ?_ (r_merged X i l)) ?_
  · exact congrArg (val_main_v63 (F := Ideal) X.x0 X.x1 X.x2 X.x3 X.x4) (funext fun k => match k with | ⟨0, _⟩ => rfl | ⟨1, _⟩ => rfl | ⟨2, _⟩ => rfl)
  · exact congrArg X.x5 (funext fun k => match k with | ⟨0, _⟩ => rfl | ⟨1, _⟩ => rfl)

/-! ## The gradients at the branches and the gates -/

theorem r_dm (i d : Fin 2048) : val_main_v70 (F := Ideal) X.x5 X.x7 (ix3 0 i d) = Mix.dm X.args i d := by
  rw [val_main_v70_apply]
  refine Finset.sum_congr rfl fun l _ => congrArg₂ (fun s t : EReal => s * t) (Eq.trans ?_ (r_dx X i l)) ?_
  · exact congrArg (val_main_v67 (F := Ideal) X.x7) (funext fun k => match k with | ⟨0, _⟩ => rfl | ⟨1, _⟩ => rfl | ⟨2, _⟩ => rfl)
  · exact congrArg X.x5 (funext fun k => match k with | ⟨0, _⟩ => rfl | ⟨1, _⟩ => rfl)
theorem r_dya (i d : Fin 2048) : val_main_v74 (F := Ideal) X.x0 X.x5 X.x7 (ix3 0 i d) = Mix.dya X.args i d := by
  show val_main_v48 (F := Ideal) X.x0 (ix3 0 i d) * val_main_v70 (F := Ideal) X.x5 X.x7 (ix3 0 i d) = _
  rw [r_sa, r_dm]
  exact mul_comm _ _
theorem r_dyb (i d : Fin 2048) : val_main_v71 (F := Ideal) X.x0 X.x5 X.x7 (ix3 0 i d) = Mix.dyb X.args i d := by
  show val_main_v58 (F := Ideal) X.x0 (ix3 0 i d) * val_main_v70 (F := Ideal) X.x5 X.x7 (ix3 0 i d) = _
  rw [r_sb, r_dm]
  exact mul_comm _ _
theorem r_dga (i d : Fin 2048) : val_main_v76 (F := Ideal) X.x0 X.x1 X.x3 X.x5 X.x7 (ix3 0 i d) = Mix.dga X.args i d := by
  have e1 : Ideal.ofBits .f32 0x3F800000#32 = 1 := Ideal.ofBits_one_f32
  show val_main_v70 (F := Ideal) X.x5 X.x7 (ix3 0 i d) * val_main_v41 (F := Ideal) X.x0 X.x1 X.x3 (ix3 0 i d)
    * (val_main_v48 (F := Ideal) X.x0 (ix3 0 i d) * (Ideal.ofBits .f32 0x3F800000#32 - val_main_v48 (F := Ideal) X.x0 (ix3 0 i d))) = _
  rw [e1, r_dm, r_ya, r_sa]
  exact (mul_assoc _ _ _).symm
theorem r_dgb (i d : Fin 2048) : val_main_v73 (F := Ideal) X.x0 X.x2 X.x4 X.x5 X.x7 (ix3 0 i d) = Mix.dgb X.args i d := by
  have e1 : Ideal.ofBits .f32 0x3F800000#32 = 1 := Ideal.ofBits_one_f32
  show val_main_v70 (F := Ideal) X.x5 X.x7 (ix3 0 i d) * val_main_v42 (F := Ideal) X.x2 X.x4 (ix3 0 i d)
    * (val_main_v58 (F := Ideal) X.x0 (ix3 0 i d) * (Ideal.ofBits .f32 0x3F800000#32 - val_main_v58 (F := Ideal) X.x0 (ix3 0 i d))) = _
  rw [e1, r_dm, r_yb, r_sb]
  exact (mul_assoc _ _ _).symm
/-- The gradients at the two gates, one plane each. -/
theorem r_dg (b : Fin 2) (i d : Fin 2048) : val_main_v124 (F := Ideal) X.x0 X.x1 X.x2 X.x3 X.x4 X.x5 X.x7 (ix3 b i d) = Mix.dg X.args b i d := by
  show val_main_v123 (F := Ideal) X.x0 X.x1 X.x2 X.x3 X.x4 X.x5 X.x7 (ix3 b i d) = _
  unfold val_main_v123
  match b with
  | ⟨0, _⟩ =>
    refine (concatenate_pair_apply_left 0 (val_main_v76 (F := Ideal) X.x0 X.x1 X.x3 X.x5 X.x7) (val_main_v73 (F := Ideal) X.x0 X.x2 X.x4 X.x5 X.x7)
      concatenates_S1x2048x2048_S1x2048x2048_S2x2048x2048_d0 (ix3 0 i d) rfl (ix3 0 i d) fun k => ?_).trans (r_dga X i d)
    match k with
    | ⟨0, _⟩ => rfl
    | ⟨1, _⟩ => rfl
    | ⟨2, _⟩ => rfl
  | ⟨1, _⟩ =>
    refine (concatenate_pair_apply_right 0 (val_main_v76 (F := Ideal) X.x0 X.x1 X.x3 X.x5 X.x7) (val_main_v73 (F := Ideal) X.x0 X.x2 X.x4 X.x5 X.x7)
      concatenates_S1x2048x2048_S1x2048x2048_S2x2048x2048_d0 (ix3 1 i d) rfl rfl (ix3 0 i d) (fun k hk => ?_) rfl).trans (r_dgb X i d)
    match k with
    | ⟨0, _⟩ => exact absurd rfl hk
    | ⟨1, _⟩ => rfl
    | ⟨2, _⟩ => rfl

/-! ## The gradients of the weights, and at the branches' inputs -/

/-- A product summed over a plane of one and the rows, at two columns: the sum over the rows. -/
theorem dot_rows2 (x y : FVec Ideal S1x2048x2048 .f32) (d l : Fin 2048) :
    Host.dotGeneral (F := Ideal) dot_S1x2048x2048_S1x2048x2048_S2048x2048_01_01_2_2_n_n none x y (ix2 d l) = ∑ i : Fin 2048, x (ix3 0 i d) * y (ix3 0 i l) := by
  pointwise
  exact Fin.sum_univ_one _
theorem dot_rows1 (x : FVec Ideal S1x2048x2048 .f32) (y : FVec Ideal S1x2048x1024 .f32) (d : Fin 2048) (l : Fin 1024) :
    Host.dotGeneral (F := Ideal) dot_S1x2048x2048_S1x2048x1024_S2048x1024_01_01_2_2_n_n none x y (ix2 d l) = ∑ i : Fin 2048, x (ix3 0 i d) * y (ix3 0 i l) := by
  pointwise
  exact Fin.sum_univ_one _

theorem r_dwo (l d : Fin 2048) : val_main_v125 (F := Ideal) X.x0 X.x1 X.x2 X.x3 X.x4 X.x7 (ix2 l d) = Mix.dwo X.args l d := by
  have e : val_main_v125 (F := Ideal) X.x0 X.x1 X.x2 X.x3 X.x4 X.x7 (ix2 l d) = val_main_v68 (F := Ideal) X.x0 X.x1 X.x2 X.x3 X.x4 X.x7 (ix2 d l) := by
    show val_main_v69 (F := Ideal) X.x0 X.x1 X.x2 X.x3 X.x4 X.x7 (ix2 l d) = _
    rw [val_main_v69_apply]
    exact congrArg _ (funext fun k => match k with | ⟨0, _⟩ => rfl | ⟨1, _⟩ => rfl)
  refine (e.trans (dot_rows2 _ _ d l)).trans (Finset.sum_congr rfl fun i _ => ?_)
  rw [r_dx, r_merged]
  exact mul_comm _ _
/-- The gradients of the branches' weights, by chunks of columns. -/
theorem r_dwoc (k : Fin 8) (l : Fin 1024) (q : Fin 256) :
    val_main_v128 (F := Ideal) X.x0 X.x1 X.x5 X.x7 (ix3 k l q) = Mix.dwoc X.args l (Mix.chunk k q) := by
  have e : val_main_v128 (F := Ideal) X.x0 X.x1 X.x5 X.x7 (ix3 k l q) = val_main_v80 (F := Ideal) X.x0 X.x1 X.x5 X.x7 (ix2 (Mix.chunk k q) l) := by
    pointwise [val_main_v128, val_main_v127, val_main_v126, val_main_v81]
    refine congrArg (val_main_v80 (F := Ideal) X.x0 X.x1 X.x5 X.x7) (congrArg (fun z => ix2 z l) (Fin.ext ?_))
    show k.val * 256 + q.val = 256 * k.val + q.val
    omega
  refine (e.trans (dot_rows1 _ _ _ l)).trans (Finset.sum_congr rfl fun i _ => ?_)
  rw [r_dya, r_ca]
  exact mul_comm _ _
theorem r_dwoa (k : Fin 8) (l : Fin 1024) (q : Fin 256) :
    val_main_v131 (F := Ideal) X.x0 X.x2 X.x5 X.x7 (ix3 k l q) = Mix.dwoa X.args l (Mix.chunk k q) := by
  have e : val_main_v131 (F := Ideal) X.x0 X.x2 X.x5 X.x7 (ix3 k l q) = val_main_v77 (F := Ideal) X.x0 X.x2 X.x5 X.x7 (ix2 (Mix.chunk k q) l) := by
    pointwise [val_main_v131, val_main_v130, val_main_v129, val_main_v78]
    refine congrArg (val_main_v77 (F := Ideal) X.x0 X.x2 X.x5 X.x7) (congrArg (fun z => ix2 z l) (Fin.ext ?_))
    show k.val * 256 + q.val = 256 * k.val + q.val
    omega
  refine (e.trans (dot_rows1 _ _ _ l)).trans (Finset.sum_congr rfl fun i _ => ?_)
  rw [r_dyb, r_o]
  exact mul_comm _ _
/-- The gradient at the attention's result. -/
theorem r_do (i : Fin 2048) (l : Fin 1024) : val_main_v132 (F := Ideal) X.x0 X.x4 X.x5 X.x7 (ix2 i l) = Mix.dO X.args i l := by
  have e : val_main_v132 (F := Ideal) X.x0 X.x4 X.x5 X.x7 (ix2 i l) = val_main_v79 (F := Ideal) X.x0 X.x4 X.x5 X.x7 (ix3 0 i l) := by
    unfold val_main_v132
    pointwise
  rw [e, val_main_v79_apply]
  refine Finset.sum_congr rfl fun d _ => congrArg₂ (fun s t : EReal => s * t) (Eq.trans ?_ (r_dyb X i d)) ?_
  · exact congrArg (val_main_v71 (F := Ideal) X.x0 X.x5 X.x7) (funext fun k => match k with | ⟨0, _⟩ => rfl | ⟨1, _⟩ => rfl | ⟨2, _⟩ => rfl)
  · exact congrArg X.x4 (funext fun k => match k with | ⟨0, _⟩ => rfl | ⟨1, _⟩ => rfl)
/-- The gradient at the gated convolution, and at the convolution. -/
theorem r_dca (i : Fin 2048) (l : Fin 1024) : val_main_v82 (F := Ideal) X.x0 X.x3 X.x5 X.x7 (ix3 0 i l) = Mix.dca X.args i l := by
  rw [val_main_v82_apply]
  refine Finset.sum_congr rfl fun d _ => congrArg₂ (fun s t : EReal => s * t) (Eq.trans ?_ (r_dya X i d)) ?_
  · exact congrArg (val_main_v74 (F := Ideal) X.x0 X.x5 X.x7) (funext fun k => match k with | ⟨0, _⟩ => rfl | ⟨1, _⟩ => rfl | ⟨2, _⟩ => rfl)
  · exact congrArg X.x3 (funext fun k => match k with | ⟨0, _⟩ => rfl | ⟨1, _⟩ => rfl)
theorem r_dconv (i : Fin 2048) (q : Fin 1024) : val_main_v83 (F := Ideal) X.x0 X.x3 X.x5 X.x7 (ix3 0 i q) = Mix.dconv X.args q i := by
  show val_main_v3 (F := Ideal) X.x0 (ix3 0 i q) * val_main_v82 (F := Ideal) X.x0 X.x3 X.x5 X.x7 (ix3 0 i q) = _
  rw [r_bg, r_dca]
  exact mul_comm _ _

/-! ## Through the convolution -/

/-- Rows shifted down by `lo` among two more, zeros around: two rows below the top stands the value `2 - lo` rows on. -/
theorem pad_below (x : FVec Ideal S1x2048x1024 .f32) (v : FVec Ideal S_ .f32) (hv : v (Shape.Idx.first h_S_) = 0) (lo hi : ℕ) (hl : lo ≤ 2)
    (h : S1x2048x1024.Pads ![0, lo, 0] ![0, hi, 0] ![0, 0, 0] S1x2050x1024) (i : Fin 2048) (q : Fin 1024) :
    pad S1x2050x1024 ![0, lo, 0] ![0, hi, 0] ![0, 0, 0] x v h h_S_ (ix3 0 (⟨2 + i.val, by omega⟩ : Fin 2050) q)
      = Mix.fwd (2 - lo) (fun j => x (ix3 0 j q)) i := by
  unfold Mix.fwd
  by_cases hi' : i.val + (2 - lo) < 2048
  · rw [dif_pos hi']
    exact pad_apply_of_inside _ _ _ x v _ _ _ (ix3 0 (⟨i.val + (2 - lo), hi'⟩ : Fin 2048) q) fun k => match k with
      | ⟨0, _⟩ => rfl
      | ⟨1, _⟩ => by show 2 + i.val = lo + (i.val + (2 - lo)) * (0 + 1); omega
      | ⟨2, _⟩ => by show q.val = 0 + q.val * (0 + 1); omega
  · rw [dif_neg hi']
    refine (pad_apply_of_not_inside _ _ _ x v _ _ _ 1 fun hc => ?_).trans hv
    have h2 : (2 + i.val - lo) / (0 + 1) < 2048 := hc.2.2
    omega
/-- A shift of zero rows is none. -/
theorem fwd_zero {n : ℕ} (f : Fin n → EReal) (i : Fin n) : Mix.fwd 0 f i = f i := dif_pos i.isLt
/-- A shift of products with one value is the product of the shift. -/
theorem fwd_mul {n : ℕ} (s : ℕ) (f : Fin n → EReal) (w : EReal) (i : Fin n) : Mix.fwd s (fun j => f j * w) i = Mix.fwd s f i * w := by
  unfold Mix.fwd
  by_cases h : i.val + s < n
  · rw [dif_pos h, dif_pos h]
  · rw [dif_neg h, dif_neg h, zero_mul]
/-- The gradient at the convolution, times each tap. -/
theorem r_dw2 (i : Fin 2048) (q : Fin 1024) :
    val_main_v89 (F := Ideal) X.x0 X.x1 X.x3 X.x5 X.x7 (ix3 0 i q) = Mix.dconv X.args q i * X.args.cw 2 q :=
  congrArg₂ (fun s t : EReal => s * t) (r_dconv X i q) (r_w2 X i q)
theorem r_dw1 (i : Fin 2048) (q : Fin 1024) :
    val_main_v98 (F := Ideal) X.x0 X.x1 X.x3 X.x5 X.x7 (ix3 0 i q) = Mix.dconv X.args q i * X.args.cw 1 q :=
  congrArg₂ (fun s t : EReal => s * t) (r_dconv X i q) (r_w1 X i q)
theorem r_dw0 (i : Fin 2048) (q : Fin 1024) :
    val_main_v109 (F := Ideal) X.x0 X.x1 X.x3 X.x5 X.x7 (ix3 0 i q) = Mix.dconv X.args q i * X.args.cw 0 q :=
  congrArg₂ (fun s t : EReal => s * t) (r_dconv X i q) (r_w0 X i q)
/-- The gradient at the convolution's input. -/
theorem r_du (i : Fin 2048) (q : Fin 1024) : val_main_v117 (F := Ideal) X.x0 X.x1 X.x3 X.x5 X.x7 (ix3 0 i q) = Mix.du X.args q i := by
  rw [val_main_v117_apply]
  have e : idx_main_v117 (ix3 0 i q) = ix3 0 (⟨2 + i.val, by omega⟩ : Fin 2050) q := funext fun k => match k with | ⟨0, _⟩ => rfl | ⟨1, _⟩ => rfl | ⟨2, _⟩ => rfl
  rw [e]
  have e2 := pad_below (val_main_v89 (F := Ideal) X.x0 X.x1 X.x3 X.x5 X.x7) (val_main_cst_10 (F := Ideal)) Ideal.ofBits_zero_f32 2 0 (by omega)
    pads_S1x2048x1024_S1x2050x1024_000_200_000 i q
  have e1 := pad_below (val_main_v98 (F := Ideal) X.x0 X.x1 X.x3 X.x5 X.x7) (val_main_cst_14 (F := Ideal)) Ideal.ofBits_zero_f32 1 1 (by omega)
    pads_S1x2048x1024_S1x2050x1024_000_110_000 i q
  have e0 := pad_below (val_main_v109 (F := Ideal) X.x0 X.x1 X.x3 X.x5 X.x7) (val_main_cst_18 (F := Ideal)) Ideal.ofBits_zero_f32 0 2 (by omega)
    pads_S1x2048x1024_S1x2050x1024_000_020_000 i q
  simp only [r_dw2] at e2
  simp only [r_dw1] at e1
  simp only [r_dw0] at e0
  rw [fwd_mul] at e2 e1 e0
  rw [fwd_zero] at e2
  exact congrArg₂ (fun s t : EReal => s + t) (congrArg₂ (fun s t : EReal => s + t) e2 e1) e0
/-- Three planes on top of each other, at each plane. -/
theorem planes (x y z : FVec Ideal S1x2048x1024 .f32) (k : Fin 3) (i : Fin 2048) (q : Fin 1024) :
    concatenate S3x2048x1024 0 [⟨S1x2048x1024, x⟩, ⟨S1x2048x1024, y⟩, ⟨S1x2048x1024, z⟩]
        concatenates_S1x2048x1024_S1x2048x1024_S1x2048x1024_S3x2048x1024_d0 (ix3 k i q)
      = if k.val = 0 then x (ix3 0 i q) else if k.val = 1 then y (ix3 0 i q) else z (ix3 0 i q) := by
  match k with
  | ⟨0, _⟩ => pointwise
  | ⟨1, _⟩ => pointwise
  | ⟨2, _⟩ => pointwise
/-- The gradients at the convolution's gate, at its branch's gate and at its input, one plane each. -/
theorem r_d3 (k : Fin 3) (i : Fin 2048) (q : Fin 1024) :
    val_main_v122 (F := Ideal) X.x0 X.x1 X.x3 X.x5 X.x7 (ix3 k i q) = Mix.d3 X.args k i q := by
  show val_main_v121 (F := Ideal) X.x0 X.x1 X.x3 X.x5 X.x7 (ix3 k i q) = _
  refine (planes (val_main_v118 (F := Ideal) X.x0 X.x1 X.x3 X.x5 X.x7) (val_main_v84 (F := Ideal) X.x0 X.x1 X.x3 X.x5 X.x7) (val_main_v119 (F := Ideal) X.x0 X.x1 X.x3 X.x5 X.x7) k i q).trans ?_
  match k with
  | ⟨0, _⟩ =>
    refine (if_pos rfl).trans ?_
    show val_main_v4 (F := Ideal) X.x0 (ix3 0 i q) * val_main_v117 (F := Ideal) X.x0 X.x1 X.x3 X.x5 X.x7 (ix3 0 i q) = _
    rw [r_cg, r_du]
    exact mul_comm _ _
  | ⟨1, _⟩ =>
    refine (if_neg (by show ¬(1 : ℕ) = 0; omega)).trans ((if_pos rfl).trans ?_)
    show val_main_v82 (F := Ideal) X.x0 X.x3 X.x5 X.x7 (ix3 0 i q) * val_main_v39 (F := Ideal) X.x0 X.x1 (ix3 0 i q) = _
    rw [r_dca, r_cv]
    rfl
  | ⟨2, _⟩ =>
    refine (if_neg (by show ¬(2 : ℕ) = 0; omega)).trans ((if_neg (by show ¬(2 : ℕ) = 1; omega)).trans ?_)
    show val_main_v117 (F := Ideal) X.x0 X.x1 X.x3 X.x5 X.x7 (ix3 0 i q) * val_main_v2 (F := Ideal) X.x0 (ix3 0 i q) = _
    rw [r_du, r_xc]
    rfl

/-! ## The gradient of the taps -/

/-- The sum over the two leading axes of one, at a column. -/
theorem reduce_ones (v : FVec Ideal S1x1x1024 .f32) (z : FVec Ideal S_ .f32) (hz : z (Shape.Idx.first h_S_) = 0) (q : Fin 1024) :
    Host.reduceAdd (F := Ideal) v z reducesTo_S1x1x1024_S1024_d0_1 h_S_ (ix1 q) = v (ix3 0 0 q) := by
  show z (Shape.Idx.first h_S_) + ∑ i ∈ Finset.univ.filter (fun i => reducesTo_S1x1x1024_S1024_d0_1.drop i = ix1 q), v i = _
  have e : Finset.univ.filter (fun i => reducesTo_S1x1x1024_S1024_d0_1.drop i = ix1 q) = {ix3 0 0 q} := by
    ext i
    rw [Finset.mem_filter, Finset.mem_singleton]
    constructor
    · intro h
      exact funext fun k => match k with
        | ⟨0, _⟩ => Subsingleton.elim (α := Fin 1) _ _
        | ⟨1, _⟩ => Subsingleton.elim (α := Fin 1) _ _
        | ⟨2, _⟩ => Fin.ext (congrArg Fin.val (congrFun h.2 0))
    · rintro rfl
      exact ⟨Finset.mem_univ _, funext fun k => match k with | ⟨0, _⟩ => rfl⟩
  rw [e, Finset.sum_singleton, hz, zero_add]
/-- The sums over the rows, of the input `2 - j` rows back times the gradient at the convolution. -/
theorem r_t2 (q : Fin 1024) : val_main_v90 (F := Ideal) X.x0 X.x3 X.x5 X.x7 (ix1 q) = Mix.dtap X.args 2 q := by
  refine (reduce_ones _ _ Ideal.ofBits_zero_f32 q).trans ?_
  rw [val_main_v87_apply, val_main_v86_apply]
  refine (congrArg (· + _) Ideal.ofBits_zero_f32).trans ((zero_add _).trans (Finset.sum_congr rfl fun i _ => ?_))
  have e : idx_main_v86 (idx_main_v87 (ix3 0 0 q)) i = ix3 0 i q := funext fun k => match k with
    | ⟨0, _⟩ => rfl
    | ⟨1, _⟩ => rfl
    | ⟨2, _⟩ => Fin.ext (by show ((0 * 1 + 0) * 1024 + q.val) % 1024 = q.val; omega)
  rw [e]
  show val_main_v33 (F := Ideal) X.x0 (ix3 0 i q) * val_main_v83 (F := Ideal) X.x0 X.x3 X.x5 X.x7 (ix3 0 i q) = _
  rw [r_u0, r_dconv, mul_comm]
  exact congrArg (fun s : EReal => _ * s) (Mix.back_zero _ i).symm
theorem r_t1 (q : Fin 1024) : val_main_v99 (F := Ideal) X.x0 X.x3 X.x5 X.x7 (ix1 q) = Mix.dtap X.args 1 q := by
  refine (reduce_ones _ _ Ideal.ofBits_zero_f32 q).trans ?_
  rw [val_main_v96_apply, val_main_v95_apply]
  refine (congrArg (· + _) Ideal.ofBits_zero_f32).trans ((zero_add _).trans (Finset.sum_congr rfl fun i _ => ?_))
  have e : idx_main_v95 (idx_main_v96 (ix3 0 0 q)) i = ix3 0 i q := funext fun k => match k with
    | ⟨0, _⟩ => rfl
    | ⟨1, _⟩ => rfl
    | ⟨2, _⟩ => Fin.ext (by show ((0 * 1 + 0) * 1024 + q.val) % 1024 = q.val; omega)
  rw [e]
  show val_main_v26 (F := Ideal) X.x0 (ix3 0 i q) * val_main_v83 (F := Ideal) X.x0 X.x3 X.x5 X.x7 (ix3 0 i q) = _
  rw [r_u1, r_dconv, mul_comm]
theorem r_t0 (q : Fin 1024) : val_main_v110 (F := Ideal) X.x0 X.x3 X.x5 X.x7 (ix1 q) = Mix.dtap X.args 0 q := by
  refine (reduce_ones _ _ Ideal.ofBits_zero_f32 q).trans ?_
  rw [val_main_v107_apply, val_main_v106_apply]
  refine (congrArg (· + _) Ideal.ofBits_zero_f32).trans ((zero_add _).trans (Finset.sum_congr rfl fun i _ => ?_))
  have e : idx_main_v106 (idx_main_v107 (ix3 0 0 q)) i = ix3 0 i q := funext fun k => match k with
    | ⟨0, _⟩ => rfl
    | ⟨1, _⟩ => rfl
    | ⟨2, _⟩ => Fin.ext (by show ((0 * 1 + 0) * 1024 + q.val) % 1024 = q.val; omega)
  rw [e]
  show val_main_v20 (F := Ideal) X.x0 (ix3 0 i q) * val_main_v83 (F := Ideal) X.x0 X.x3 X.x5 X.x7 (ix3 0 i q) = _
  rw [r_u2, r_dconv, mul_comm]
/-- One row among three, zeros around it. -/
theorem pad_one (x : FVec Ideal S1x1024 .f32) (v : FVec Ideal S_ .f32) (hv : v (Shape.Idx.first h_S_) = 0) (lo hi : ℕ)
    (h : S1x1024.Pads ![lo, 0] ![hi, 0] ![0, 0] S3x1024) (j : Fin 3) (q : Fin 1024) :
    pad S3x1024 ![lo, 0] ![hi, 0] ![0, 0] x v h h_S_ (ix2 j q) = if j.val = lo then x (ix2 0 q) else 0 := by
  by_cases e : j.val = lo
  · rw [if_pos e]
    exact pad_apply_of_inside _ _ _ x v _ _ _ (ix2 (0 : Fin 1) q) fun k => match k with
      | ⟨0, _⟩ => by show j.val = lo + 0 * (0 + 1); omega
      | ⟨1, _⟩ => by show q.val = 0 + q.val * (0 + 1); omega
  · rw [if_neg e]
    refine (pad_apply_of_not_inside _ _ _ x v _ _ _ 0 fun hc => ?_).trans hv
    have h1 : lo ≤ j.val := hc.1
    have h2 : (j.val - lo) / (0 + 1) < 1 := hc.2.2
    omega
/-- The three sums, a row each. -/
theorem r_taps (j : Fin 3) (q : Fin 1024) : val_main_v113 (F := Ideal) X.x0 X.x3 X.x5 X.x7 (ix2 j q) = Mix.dtap X.args j.val q := by
  have e2 := pad_one (val_main_v91 (F := Ideal) X.x0 X.x3 X.x5 X.x7) (val_main_cst_9 (F := Ideal)) Ideal.ofBits_zero_f32 2 0
    pads_S1x1024_S3x1024_200_000 j q
  have e1 := pad_one (val_main_v100 (F := Ideal) X.x0 X.x3 X.x5 X.x7) (val_main_cst_13 (F := Ideal)) Ideal.ofBits_zero_f32 1 1
    pads_S1x1024_S3x1024_110_000 j q
  have e0 := pad_one (val_main_v111 (F := Ideal) X.x0 X.x3 X.x5 X.x7) (val_main_cst_17 (F := Ideal)) Ideal.ofBits_zero_f32 0 2
    pads_S1x1024_S3x1024_020_000 j q
  have i2 : idx_main_v91 (ix2 0 q) = ix1 q := funext fun k => match k with | ⟨0, _⟩ => rfl
  have i1 : idx_main_v100 (ix2 0 q) = ix1 q := funext fun k => match k with | ⟨0, _⟩ => rfl
  have i0 : idx_main_v111 (ix2 0 q) = ix1 q := funext fun k => match k with | ⟨0, _⟩ => rfl
  rw [val_main_v91_apply, i2, r_t2] at e2
  rw [val_main_v100_apply, i1, r_t1] at e1
  rw [val_main_v111_apply, i0, r_t0] at e0
  refine (congrArg₂ (fun s t : EReal => s + t) (congrArg₂ (fun s t : EReal => s + t) e2 e1) e0).trans ?_
  match j with
  | ⟨0, _⟩ => exact (congrArg₂ (fun s t : EReal => s + t) (congrArg₂ (fun s t : EReal => s + t) (if_neg (by show ¬(0 : ℕ) = 2; omega)) (if_neg (by show ¬(0 : ℕ) = 1; omega))) (if_pos rfl)).trans (by simp only [zero_add])
  | ⟨1, _⟩ => exact (congrArg₂ (fun s t : EReal => s + t) (congrArg₂ (fun s t : EReal => s + t) (if_neg (by show ¬(1 : ℕ) = 2; omega)) (if_pos rfl)) (if_neg (by show ¬(1 : ℕ) = 0; omega))).trans (by simp only [zero_add, add_zero])
  | ⟨2, _⟩ => exact (congrArg₂ (fun s t : EReal => s + t) (congrArg₂ (fun s t : EReal => s + t) (if_pos rfl) (if_neg (by show ¬(2 : ℕ) = 1; omega))) (if_neg (by show ¬(2 : ℕ) = 0; omega))).trans (by simp only [add_zero])
/-- The gradient of the taps, five rows of zeros below. -/
theorem r_dtap (j : Fin 8) (q : Fin 1024) : val_main_v133 (F := Ideal) X.x0 X.x3 X.x5 X.x7 (ix2 j q) = Mix.dtap8 X.args j q := by
  unfold val_main_v133 Mix.dtap8
  by_cases h : j.val < 3
  · rw [if_pos h]
    refine (pad_apply_of_inside _ _ _ (val_main_v113 (F := Ideal) X.x0 X.x3 X.x5 X.x7) _ _ _ _ (ix2 (⟨j.val, h⟩ : Fin 3) q) fun k => ?_).trans (r_taps X ⟨j.val, h⟩ q)
    match k with
    | ⟨0, _⟩ => show j.val = 0 + j.val * (0 + 1); omega
    | ⟨1, _⟩ => show q.val = 0 + q.val * (0 + 1); omega
  · rw [if_neg h]
    refine (pad_apply_of_not_inside _ _ _ (val_main_v113 (F := Ideal) X.x0 X.x3 X.x5 X.x7) _ _ _ _ 0 fun hc => ?_).trans ?_
    · have h2 : (j.val - 0) / (0 + 1) < 3 := hc.2.2
      omega
    · show (((0#32 : BitVec 32).toInt : ℝ) : EReal) = 0
      simp

end Cert.Reference6Ideal.Value

end
-- ==== Proof.Mix.Claim6.lean ====
/-
  The mixing of the two branches, the convolution and the gradients of both: the claims of their program.
-/
module

public import proofs.«01_k».proof.Defs
public import proofs.«01_k».proof.Proof.Gen.Kernel6.Frame
public import proofs.«01_k».proof.Proof.Gen.Reference6Ideal.Read
public import proofs.«01_k».proof.Proof.Mix.Run
public import proofs.«01_k».proof.Proof.Mix.Ref
import Idealize.ShloMosaic.Lib.Pointwise
import Idealize.ShloMosaic.Lib.IdealHost

@[expose] public section

noncomputable section

namespace Cert.Proof

open Idealize.ShloMosaic Idealize.SL.Sem

/-- The reference runs and leaves its arguments. -/
theorem frame_ri6 : Cert.quiescent_Reference6Ideal := fun m ρ _ =>
  (θ_run Cert.Reference6Ideal.defs _ _).mono (fun r h => ⟨fun c => (h c).2.2.2.2.2.2.2.2, sem_eq_zero_of_no_sems (by decide) r.2⟩)
    (Cert.Reference6Ideal.Value.run (F := Ideal) m ρ)

open Cert.Kernel6Ideal in
/-- The arrays the kernel's program is launched with, as the reference's. -/
def arrays6 (m : (ℓ : Loc nD τ sig) → Buf (Elt Ideal) ℓ) (c : Dev nD) : Cert.Reference6Ideal.Value.Arrays where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  x7 := m ((c.tc : Thread nD τ).loc main_arg7)

open Cert.Kernel6Ideal.Value in
/-- The kernel and the reference give the same residual, the same gradients at what the mixing reads and the same gradients of its
    weights and taps. -/
theorem algebraic6 : Cert.algebraic_Kernel6Ideal_Reference6Ideal := by
  intro m ρ m' ρ' _ hagree
  refine ⟨_, _, _, _, _, _, _, _, Cert.Kernel6Ideal.Value.run m ρ, ?_⟩
  refine (θ_run Cert.Reference6Ideal.defs _ _).mono (fun r h c => ?_) (Cert.Reference6Ideal.Value.run (F := Ideal) m' ρ')
  obtain ⟨h0, h1, h2, h3, h4, h5, h6, h7, hargs⟩ := h c
  obtain ⟨a0, a1, a2, a3, a4, a5, a6, a7⟩ := hagree c
  refine ⟨h0.trans ?_, h1.trans ?_, h2.trans ?_, h3.trans ?_, h4.trans ?_, h5.trans ?_, h6.trans ?_, h7.trans ?_, hargs⟩
  · rw [Cert.Reference6Ideal.Read.val_main_v120_eq, a0, a1, a2, a3, a4, a5, a6]
    refine Eq.trans ?_ (x2_11 m ρ c).symm
    funext y
    obtain ⟨i, d, rfl⟩ := idx2 (a := 2048) (b := 2048) y
    exact Cert.Reference6Ideal.Value.r_x2 (arrays6 m c) i d
  · rw [Cert.Reference6Ideal.Read.val_main_v122_eq, a0, a1, a3, a5, a7]
    refine Eq.trans ?_ (d3_11 m ρ c).symm
    funext y
    obtain ⟨k, i, q, rfl⟩ := idx3 (a := 3) (b := 2048) (c := 1024) y
    exact Cert.Reference6Ideal.Value.r_d3 (arrays6 m c) k i q
  · rw [Cert.Reference6Ideal.Read.val_main_v124_eq, a0, a1, a2, a3, a4, a5, a7]
    refine Eq.trans ?_ (dg_11 m ρ c).symm
    funext y
    obtain ⟨b, i, d, rfl⟩ := idx3 (a := 2) (b := 2048) (c := 2048) y
    exact Cert.Reference6Ideal.Value.r_dg (arrays6 m c) b i d
  · rw [Cert.Reference6Ideal.Read.val_main_v125_eq, a0, a1, a2, a3, a4, a7]
    refine Eq.trans ?_ (dwo_11 m ρ c).symm
    funext y
    obtain ⟨l, d, rfl⟩ := idx2 (a := 2048) (b := 2048) y
    exact Cert.Reference6Ideal.Value.r_dwo (arrays6 m c) l d
  · rw [Cert.Reference6Ideal.Read.val_main_v128_eq, a0, a1, a5, a7]
    refine Eq.trans ?_ (dwoc_11 m ρ c).symm
    funext y
    obtain ⟨k, l, q, rfl⟩ := idx3 (a := 8) (b := 1024) (c := 256) y
    exact Cert.Reference6Ideal.Value.r_dwoc (arrays6 m c) k l q
  · rw [Cert.Reference6Ideal.Read.val_main_v131_eq, a0, a2, a5, a7]
    refine Eq.trans ?_ (dwoa_11 m ρ c).symm
    funext y
    obtain ⟨k, l, q, rfl⟩ := idx3 (a := 8) (b := 1024) (c := 256) y
    exact Cert.Reference6Ideal.Value.r_dwoa (arrays6 m c) k l q
  · rw [Cert.Reference6Ideal.Read.val_main_v132_eq, a0, a4, a5, a7]
    refine Eq.trans ?_ (do_11 m ρ c).symm
    funext y
    obtain ⟨i, l, rfl⟩ := idx2 (a := 2048) (b := 1024) y
    exact Cert.Reference6Ideal.Value.r_do (arrays6 m c) i l
  · rw [Cert.Reference6Ideal.Read.val_main_v133_eq, a0, a3, a5, a7]
    refine Eq.trans ?_ (dtap_11 m ρ c).symm
    funext y
    obtain ⟨j, q, rfl⟩ := idx2 (a := 8) (b := 1024) y
    exact Cert.Reference6Ideal.Value.r_dtap (arrays6 m c) j q

end Cert.Proof

end
-- ==== Proof.Loss.Spec.lean ====
/-
  The loss and its gradient, by coordinates: what is left between the block's result and the target, its square, and the
  mean of the squares.
-/
module

public import proofs.«01_k».proof.Proof.Ffn.Finite2
import Idealize.ShloMosaic.Lib.IdealHost

@[expose] public section

noncomputable section

namespace Loss

open Idealize.ShloMosaic

/-- The constants of the two programs, as they are written there: 1, 2, 2048, 1/2048 and 1/4096. -/
def one : EReal := Ideal.ofBits .f32 0x3F800000#32
def two : EReal := Ideal.ofBits .f32 0x40000000#32
def width : EReal := Ideal.ofBits .f32 0x45000000#32
def share : EReal := Ideal.ofBits .f32 0x3A000000#32
def quota : EReal := Ideal.ofBits .f32 0x39800000#32

theorem one_eq : one = ((1 : ℝ) : EReal) := by
  simp [one, Ideal.ofBits, Ideal.ieee]
  rw [← EReal.coe_mul]
  norm_num
theorem two_eq : two = ((2 : ℝ) : EReal) := by
  simp [two, Ideal.ofBits, Ideal.ieee]
  rw [← EReal.coe_mul]
  norm_num
theorem width_eq : width = ((2048 : ℝ) : EReal) := by
  simp [width, Ideal.ofBits, Ideal.ieee]
  rw [← EReal.coe_mul]
  norm_num
theorem share_eq : share = ((1 / 2048 : ℝ) : EReal) := by
  simp [share, Ideal.ofBits, Ideal.ieee]
  rw [← EReal.coe_mul]
  norm_num
theorem quota_eq : quota = ((1 / 4096 : ℝ) : EReal) := by
  simp [quota, Ideal.ofBits, Ideal.ieee]
  rw [← EReal.coe_mul]
  norm_num

/-- The quotient by 2048 is the product by 1/2048. -/
theorem div_width (x : EReal) : Ideal.div x width = x * share := by
  unfold Ideal.div
  rw [width_eq, share_eq, if_neg (by rw [EReal.coe_eq_zero]; norm_num), ← EReal.coe_inv]
  norm_num

/-- A sum times 1/2048 is the sum of the terms times 1/2048. -/
theorem sum_share {N : ℕ} (x : Fin N → EReal) : ∑ d, x d * share = (∑ d, x d) * share := by
  have h0 : 0 ≤ share := by rw [share_eq]; exact EReal.coe_nonneg.mpr (by norm_num)
  have ht : share ≠ ⊤ := by rw [share_eq]; exact EReal.coe_ne_top _
  refine Finset.induction_on (Finset.univ : Finset (Fin N)) (by simp) fun d s hd ih => ?_
  rw [Finset.sum_insert hd, Finset.sum_insert hd, EReal.right_distrib_of_nonneg_of_ne_top h0 ht, ih]

/-- What the programs read: the activation, the weights, the residual and the target. -/
structure Args where
  a : Fin 2048 → Fin 5632 → EReal
  w : Fin 5632 → Fin 2048 → EReal
  x : Fin 2048 → Fin 2048 → EReal
  t : Fin 2048 → Fin 2048 → EReal

variable (p : Args)

/-- The block's result less the target. -/
def E (i l : Fin 2048) : EReal := p.x i l + Ffn.half * (∑ f, p.a i f * p.w f l) - p.t i l
/-- The gradient at the block's result. -/
def Dy (i l : Fin 2048) : EReal := E p i l * share
/-- The sum of the squares, and the loss. -/
def Sq : EReal := ∑ i, ∑ l, E p i l * E p i l
def L : EReal := Sq p * quota

/-- The gradient in the reference's form. -/
theorem dy_eq (i l : Fin 2048) : Ideal.div (Ffn.half * one) width * (two * E p i l) = Dy p i l := by
  rw [div_width, ← mul_assoc, mul_comm]
  unfold Dy
  congr 1
  rw [Ffn.half_eq, one_eq, two_eq, share_eq, ← EReal.coe_mul, ← EReal.coe_mul, ← EReal.coe_mul]
  norm_num

/-- The loss in the reference's form. -/
theorem loss_eq : Ffn.half * ∑ i, Ideal.div (∑ l, E p i l * E p i l) width = L p := by
  simp only [div_width]
  rw [sum_share, mul_comm, mul_assoc]
  unfold L Sq
  congr 1
  rw [Ffn.half_eq, share_eq, quota_eq, ← EReal.coe_mul]
  norm_num

end Loss

end
-- ==== Proof.Loss.Down.lean ====
/-
  The last product of the feed-forward block with the loss: what the kernel's eight steps leave.
-/
module

public import proofs.«01_k».proof.Proof.Gen.Kernel7Ideal.Frame
public import proofs.«01_k».proof.Proof.Loss.Spec
public import Idealize.ShloMosaic.Lib.Pipeline.ValueKit
import Idealize.ShloMosaic.Lib.Pointwise
import Idealize.ShloMosaic.Lib.IdealHost

@[expose] public section

noncomputable section

namespace Cert.Kernel7Ideal.Value

open Idealize.ShloMosaic Idealize.ShloMosaic.TcCoe Idealize.SL.Sem Cert.Kernel7Ideal Cert.Kernel7Ideal.Gen
open Idealize.ShloMosaic.Pipeline (Dat)

theorem hz : (![0, 0] : Fin 2 → Nat) = fun _ => 0 := funext fun a => by fin_cases a <;> rfl
theorem idx2 {a b : ℕ} (y : (⟨2, ![a, b]⟩ : Shape).Idx) : ∃ (r : Fin a) (q : Fin b), y = ix2 r q :=
  ⟨y 0, y 1, funext fun k => match k with | ⟨0, _⟩ => rfl | ⟨1, _⟩ => rfl⟩

/-! ## What each step leaves in its blocks -/

section
variable (c : Dev nD) (i : grid0.Coords) (arg3 : Memref sig .tc .vmem S512x5632 .bf16) (harg3 : arg3.IsWhole)
  (arg4 : Memref sig .tc .vmem S5632x1024 .bf16) (harg4 : arg4.IsWhole) (arg5 : Memref sig .tc .vmem S512x1024 .f32) (harg5 : arg5.IsWhole)
  (arg6 : Memref sig .tc .vmem S512x1024 .f32) (harg6 : arg6.IsWhole) (arg7 : Memref sig .tc .vmem S512x1024 .f32) (harg7 : arg7.IsWhole)
  (arg8 : Memref sig .tc .vmem S8x128 .f32) (harg8 : arg8.IsWhole) (arg9 : Memref sig .tc .vmem S512x1024 .bf16) (harg9 : arg9.IsWhole)
  (x0 : Vec Ideal S512x5632 .bf16) (x1 : Vec Ideal S5632x1024 .bf16) (x2 x3 : Vec Ideal S512x1024 .f32) (acc : Vec Ideal S8x128 .f32)

theorem out_A4 (hc0 : cond0_0 i) :
    out0_A_4 c i arg3 harg3 arg4 harg4 arg5 harg5 arg6 harg6 arg7 harg7 arg8 harg8 arg9 harg9 hc0 x0 x1 x2 x3 = k0_pay2 x0 x1 x2 x3 := by
  unfold out0_A_4
  refine (View.read_writes_eq_canon _ _ _ (cover0_A_4 c i arg3 harg3 arg4 harg4 arg5 harg5 arg6 harg6 arg7 harg7 arg8 harg8 arg9 harg9 hc0 x0 x1 x2 x3)).trans ?_
  unfold kernelRun0_A; dsimp only; sl_unfold_words
  simp only [View.readAt_eq_ld]
  rw [harg3.read_unread x0, harg4.read_unread x1, harg5.read_unread x2, harg6.read_unread x3]
  refine (View.canon_unit_zero (S := S512x1024) hz _ _).trans ?_
  rw [View.ld_unit_zero (S := S512x5632) hz _ x0, View.ld_unit_zero (S := S5632x1024) hz _ x1, View.ld_unit_zero (S := S512x1024) hz _ x2, View.ld_unit_zero (S := S512x1024) hz _ x3]
theorem out_A6 (hc0 : cond0_0 i) :
    out0_A_6 c i arg3 harg3 arg4 harg4 arg5 harg5 arg6 harg6 arg7 harg7 arg8 harg8 arg9 harg9 hc0 x0 x1 x2 x3 = k0_pay3 x0 x1 x2 x3 := by
  unfold out0_A_6
  refine (View.read_writes_eq_canon _ _ _ (cover0_A_6 c i arg3 harg3 arg4 harg4 arg5 harg5 arg6 harg6 arg7 harg7 arg8 harg8 arg9 harg9 hc0 x0 x1 x2 x3)).trans ?_
  unfold kernelRun0_A; dsimp only; sl_unfold_words
  simp only [View.readAt_eq_ld]
  rw [harg3.read_unread x0, harg4.read_unread x1, harg5.read_unread x2, harg6.read_unread x3]
  refine (View.canon_unit_zero (S := S512x1024) hz _ _).trans ?_
  rw [View.ld_unit_zero (S := S512x5632) hz _ x0, View.ld_unit_zero (S := S5632x1024) hz _ x1, View.ld_unit_zero (S := S512x1024) hz _ x2, View.ld_unit_zero (S := S512x1024) hz _ x3]
theorem out_A5 (hc0 : cond0_0 i) :
    out0_A_5 c i arg3 harg3 arg4 harg4 arg5 harg5 arg6 harg6 arg7 harg7 arg8 harg8 arg9 harg9 hc0 x0 x1 x2 x3 = k0_pay5 x0 x1 x2 x3 (k0_pay4 (F := Ideal)) := by
  unfold out0_A_5
  refine (View.read_writes_eq_canon _ _ _ (cover0_A_5 c i arg3 harg3 arg4 harg4 arg5 harg5 arg6 harg6 arg7 harg7 arg8 harg8 arg9 harg9 hc0 x0 x1 x2 x3)).trans ?_
  unfold kernelRun0_A; dsimp only; sl_unfold_words
  simp only [View.readAt_eq_ld]
  rw [harg3.read_unread x0, harg4.read_unread x1, harg5.read_unread x2, harg6.read_unread x3]
  refine (View.canon_cons_unit_zero (S := S8x128) hz _ _ _).trans ?_
  rw [View.readCov_unit_zero (S := S8x128) _ hz,
    View.ld_unit_zero (S := S512x5632) hz _ x0, View.ld_unit_zero (S := S5632x1024) hz _ x1, View.ld_unit_zero (S := S512x1024) hz _ x2, View.ld_unit_zero (S := S512x1024) hz _ x3]
theorem out_B4 (hc0 : ¬cond0_0 i) :
    out0_B_4 c i arg3 harg3 arg4 harg4 arg5 harg5 arg6 harg6 arg7 harg7 arg8 harg8 arg9 harg9 hc0 x0 x1 x2 x3 acc = k0_pay2 x0 x1 x2 x3 := by
  unfold out0_B_4
  refine (View.read_writes_eq_canon _ _ _ (cover0_B_4 c i arg3 harg3 arg4 harg4 arg5 harg5 arg6 harg6 arg7 harg7 arg8 harg8 arg9 harg9 hc0 x0 x1 x2 x3 acc)).trans ?_
  unfold kernelRun0_B; dsimp only; sl_unfold_words
  simp only [View.readAt_eq_ld]
  rw [harg3.read_unread x0, harg4.read_unread x1, harg5.read_unread x2, harg6.read_unread x3]
  refine (View.canon_unit_zero (S := S512x1024) hz _ _).trans ?_
  rw [View.ld_unit_zero (S := S512x5632) hz _ x0, View.ld_unit_zero (S := S5632x1024) hz _ x1, View.ld_unit_zero (S := S512x1024) hz _ x2, View.ld_unit_zero (S := S512x1024) hz _ x3]
theorem out_B6 (hc0 : ¬cond0_0 i) :
    out0_B_6 c i arg3 harg3 arg4 harg4 arg5 harg5 arg6 harg6 arg7 harg7 arg8 harg8 arg9 harg9 hc0 x0 x1 x2 x3 acc = k0_pay3 x0 x1 x2 x3 := by
  unfold out0_B_6
  refine (View.read_writes_eq_canon _ _ _ (cover0_B_6 c i arg3 harg3 arg4 harg4 arg5 harg5 arg6 harg6 arg7 harg7 arg8 harg8 arg9 harg9 hc0 x0 x1 x2 x3 acc)).trans ?_
  unfold kernelRun0_B; dsimp only; sl_unfold_words
  simp only [View.readAt_eq_ld]
  rw [harg3.read_unread x0, harg4.read_unread x1, harg5.read_unread x2, harg6.read_unread x3]
  refine (View.canon_unit_zero (S := S512x1024) hz _ _).trans ?_
  rw [View.ld_unit_zero (S := S512x5632) hz _ x0, View.ld_unit_zero (S := S5632x1024) hz _ x1, View.ld_unit_zero (S := S512x1024) hz _ x2, View.ld_unit_zero (S := S512x1024) hz _ x3]
theorem out_B5 (hc0 : ¬cond0_0 i) :
    out0_B_5 c i arg3 harg3 arg4 harg4 arg5 harg5 arg6 harg6 arg7 harg7 arg8 harg8 arg9 harg9 hc0 x0 x1 x2 x3 acc = k0_pay5 x0 x1 x2 x3 acc := by
  unfold out0_B_5
  refine (View.read_writes_eq_canon _ _ _ (cover0_B_5 c i arg3 harg3 arg4 harg4 arg5 harg5 arg6 harg6 arg7 harg7 arg8 harg8 arg9 harg9 hc0 x0 x1 x2 x3 acc)).trans ?_
  unfold kernelRun0_B; dsimp only; sl_unfold_words
  simp only [View.readAt_eq_ld]
  rw [harg3.read_unread x0, harg4.read_unread x1, harg5.read_unread x2, harg6.read_unread x3, harg8.read_unread acc]
  refine (View.canon_unit_zero (S := S8x128) hz _ _).trans ?_
  rw [View.ld_unit_zero (S := S8x128) hz _ acc,
    View.ld_unit_zero (S := S512x5632) hz _ x0, View.ld_unit_zero (S := S5632x1024) hz _ x1, View.ld_unit_zero (S := S512x1024) hz _ x2, View.ld_unit_zero (S := S512x1024) hz _ x3]
end

/-! ## The bodies' arithmetic, by coordinates -/

variable (x0 : Vec Ideal S512x5632 .bf16) (x1 : Vec Ideal S5632x1024 .bf16) (x2 x3 : Vec Ideal S512x1024 .f32) (acc : Vec Ideal S8x128 .f32)

theorem pay1_apply (r : Fin 512) (q : Fin 1024) :
    k0_pay1 x0 x1 x2 x3 (ix2 r q) = x2 (ix2 r q) + Ffn.half * (∑ f : Fin 5632, x0 (ix2 r f) * x1 (ix2 f q)) - x3 (ix2 r q) := by
  unfold Ffn.half
  pointwise [k0_pay1]
theorem pay2_apply (r : Fin 512) (q : Fin 1024) : k0_pay2 x0 x1 x2 x3 (ix2 r q) = k0_pay1 x0 x1 x2 x3 (ix2 r q) * Loss.share := by
  unfold Loss.share k0_pay2
  generalize k0_pay1 x0 x1 x2 x3 = e
  pointwise
theorem pay3_apply (r : Fin 512) (q : Fin 1024) : k0_pay3 x0 x1 x2 x3 (ix2 r q) = k0_pay1 x0 x1 x2 x3 (ix2 r q) * Loss.share := by
  unfold Loss.share k0_pay3
  generalize k0_pay1 x0 x1 x2 x3 = e
  pointwise
theorem pay4_apply (u : Fin 8) (v : Fin 128) : k0_pay4 (F := Ideal) (ix2 u v) = 0 := by
  pointwise [k0_pay4]
theorem pay5_apply (u : Fin 8) (v : Fin 128) :
    k0_pay5 x0 x1 x2 x3 acc (ix2 u v)
      = acc (ix2 u v) + ∑ r : Fin 512, ∑ q : Fin 1024, k0_pay1 x0 x1 x2 x3 (ix2 r q) * k0_pay1 x0 x1 x2 x3 (ix2 r q) := by
  unfold k0_pay5
  generalize k0_pay1 x0 x1 x2 x3 = e
  pointwise

end Cert.Kernel7Ideal.Value

end
-- ==== Proof.Loss.Run.lean ====
/-
  The gradient and the loss after the kernel's run.
-/
module

public import proofs.«01_k».proof.Proof.Loss.Down
import Idealize.ShloMosaic.Lib.Pointwise
import Idealize.ShloMosaic.Lib.IdealHost

@[expose] public section

noncomputable section

namespace Cert.Kernel7Ideal.Value

open Idealize.ShloMosaic Idealize.ShloMosaic.TcCoe Idealize.SL.Sem Cert.Kernel7Ideal Cert.Kernel7Ideal.Gen
open Idealize.ShloMosaic.Pipeline (Dat)

variable (m : (ℓ : Loc nD τ sig) → Buf (Elt Ideal) ℓ) (ρ : Dev nD → PrngReg) (c : Dev nD)

/-- The arguments, by coordinates. -/
def args : Loss.Args where
  a i f := (m ((c : Thread nD τ).loc main_arg0) : Vec Ideal S2048x5632 .bf16) (ix2 i f)
  w f l := (m ((c : Thread nD τ).loc main_arg1) : Vec Ideal S5632x2048 .bf16) (ix2 f l)
  x i l := (m ((c : Thread nD τ).loc main_arg2) : Vec Ideal S2048x2048 .f32) (ix2 i l)
  t i l := (m ((c : Thread nD τ).loc main_arg3) : Vec Ideal S2048x2048 .f32) (ix2 i l)

/-! ## The blocks -/

theorem at_0 : ∀ t : Fin grid0.N, win0_0.index t 0 = t.val % 4 ∧ win0_0.index t 1 = 0 := by decide +kernel
theorem at_1 : ∀ t : Fin grid0.N, win0_1.index t 0 = 0 ∧ win0_1.index t 1 = t.val / 4 := by decide +kernel
theorem at_2 : ∀ t : Fin grid0.N, win0_2.index t 0 = t.val % 4 ∧ win0_2.index t 1 = t.val / 4 := by decide +kernel
theorem at_3 : ∀ t : Fin grid0.N, win0_3.index t 0 = t.val % 4 ∧ win0_3.index t 1 = t.val / 4 := by decide +kernel
theorem at_4 : ∀ t : Fin grid0.N, win0_4.index t 0 = t.val % 4 ∧ win0_4.index t 1 = t.val / 4 := by decide +kernel
theorem at_5 : ∀ t : Fin grid0.N, win0_5.index t 0 = 0 ∧ win0_5.index t 1 = 0 := by decide +kernel
theorem at_6 : ∀ t : Fin grid0.N, win0_6.index t 0 = t.val % 4 ∧ win0_6.index t 1 = t.val / 4 := by decide +kernel

/-- Row `r` and column `q` of step `t`'s block. -/
def row (t : Nat) (r : Fin 512) : Fin 2048 := ⟨512 * (t % 4) + r.val, by omega⟩
def col (t : Nat) (q : Fin 1024) : Fin 2048 := ⟨1024 * (t / 4 % 2) + q.val, by omega⟩

theorem blk0 (t : Fin cfg0.N) (r : Fin 512) (f : Fin 5632) : (iblk m c 0 t : Vec Ideal S512x5632 .bf16) (ix2 r f) = (args m c).a (row t.val r) f := by
  unfold iblk
  rw [View.read_apply]
  refine congrArg (m ((c : Thread nD τ).loc main_arg0) : Vec Ideal S2048x5632 .bf16) (funext fun k => Fin.ext ?_)
  match k with
  | ⟨0, _⟩ => show win0_0.index t 0 * 512 + 1 * r.val = _; rw [(at_0 t).1]; show _ = 512 * (t.val % 4) + r.val; omega
  | ⟨1, _⟩ => show win0_0.index t 1 * 5632 + 1 * f.val = _; rw [(at_0 t).2]; show _ = f.val; omega
theorem blk1 (t : Fin cfg0.N) (f : Fin 5632) (q : Fin 1024) : (iblk m c 1 t : Vec Ideal S5632x1024 .bf16) (ix2 f q) = (args m c).w f (col t.val q) := by
  have ht : t.val < 8 := t.isLt
  unfold iblk
  rw [View.read_apply]
  refine congrArg (m ((c : Thread nD τ).loc main_arg1) : Vec Ideal S5632x2048 .bf16) (funext fun k => Fin.ext ?_)
  match k with
  | ⟨0, _⟩ => show win0_1.index t 0 * 5632 + 1 * f.val = _; rw [(at_1 t).1]; show _ = f.val; omega
  | ⟨1, _⟩ => show win0_1.index t 1 * 1024 + 1 * q.val = _; rw [(at_1 t).2]; show _ = 1024 * (t.val / 4 % 2) + q.val; omega
theorem blk2 (t : Fin cfg0.N) (r : Fin 512) (q : Fin 1024) : (iblk m c 2 t : Vec Ideal S512x1024 .f32) (ix2 r q) = (args m c).x (row t.val r) (col t.val q) := by
  have ht : t.val < 8 := t.isLt
  unfold iblk
  rw [View.read_apply]
  refine congrArg (m ((c : Thread nD τ).loc main_arg2) : Vec Ideal S2048x2048 .f32) (funext fun k => Fin.ext ?_)
  match k with
  | ⟨0, _⟩ => show win0_2.index t 0 * 512 + 1 * r.val = _; rw [(at_2 t).1]; show _ = 512 * (t.val % 4) + r.val; omega
  | ⟨1, _⟩ => show win0_2.index t 1 * 1024 + 1 * q.val = _; rw [(at_2 t).2]; show _ = 1024 * (t.val / 4 % 2) + q.val; omega
theorem blk3 (t : Fin cfg0.N) (r : Fin 512) (q : Fin 1024) : (iblk m c 3 t : Vec Ideal S512x1024 .f32) (ix2 r q) = (args m c).t (row t.val r) (col t.val q) := by
  have ht : t.val < 8 := t.isLt
  unfold iblk
  rw [View.read_apply]
  refine congrArg (m ((c : Thread nD τ).loc main_arg3) : Vec Ideal S2048x2048 .f32) (funext fun k => Fin.ext ?_)
  match k with
  | ⟨0, _⟩ => show win0_3.index t 0 * 512 + 1 * r.val = _; rw [(at_3 t).1]; show _ = 512 * (t.val % 4) + r.val; omega
  | ⟨1, _⟩ => show win0_3.index t 1 * 1024 + 1 * q.val = _; rw [(at_3 t).2]; show _ = 1024 * (t.val / 4 % 2) + q.val; omega

/-- What is left of the target at a row and a column of the step's block. -/
theorem err (t : Fin cfg0.N) (r : Fin 512) (q : Fin 1024) :
    k0_pay1 (iblk m c 0 t) (iblk m c 1 t) (iblk m c 2 t) (iblk m c 3 t) (ix2 r q) = Loss.E (args m c) (row t.val r) (col t.val q) := by
  rw [pay1_apply, blk2, blk3]
  unfold Loss.E
  simp only [blk0, blk1]

/-! ## The gradient -/

theorem after4 (t : Fin cfg0.N) : (outsAt0 m c t.val t.isLt).1 = k0_pay2 (iblk m c 0 t) (iblk m c 1 t) (iblk m c 2 t) (iblk m c 3 t) := by
  by_cases h : t.val % 8 = 0
  · rw [outsAt0_A m c t h]; dsimp only; rw [out_A4]
  · rw [outsAt0_B m c t h]; dsimp only; rw [out_B4]
theorem after6 (t : Fin cfg0.N) : (outsAt0 m c t.val t.isLt).2.2 = k0_pay3 (iblk m c 0 t) (iblk m c 1 t) (iblk m c 2 t) (iblk m c 3 t) := by
  by_cases h : t.val % 8 = 0
  · rw [outsAt0_A m c t h]; dsimp only; rw [out_A6]
  · rw [outsAt0_B m c t h]; dsimp only; rw [out_B6]

theorem dy_arr : (dats m 0 c).arrAt 4 cfg0.N = fun y : S2048x2048.Idx => Loss.Dy (args m c) (y 0) (y 1) := by
  refine (dats m 0 c).arrAt_eq_of_covers 4 _ (by decide +kernel) fun t hf y => ?_
  have ht : t.val < 8 := t.isLt
  blk_simp
  rw [after0_4, after4]
  obtain ⟨r, q, rfl⟩ := idx2 (a := 512) (b := 1024) y
  have e0 : ((win0_4.blk t).view.emb (ix2 r q) 0 : Fin 2048) = row t.val r := Fin.ext (by
    show win0_4.index t 0 * 512 + 1 * r.val = 512 * (t.val % 4) + r.val; rw [(at_4 t).1]; omega)
  have e1 : ((win0_4.blk t).view.emb (ix2 r q) 1 : Fin 2048) = col t.val q := Fin.ext (by
    show win0_4.index t 1 * 1024 + 1 * q.val = 1024 * (t.val / 4 % 2) + q.val; rw [(at_4 t).2]; omega)
  rw [e0, e1]
  refine (pay2_apply _ _ _ _ r q).trans ?_
  rw [err]
  rfl
theorem dyb_arr : (dats m 0 c).arrAt 6 cfg0.N = fun y : S2048x2048.Idx => Loss.Dy (args m c) (y 0) (y 1) := by
  refine (dats m 0 c).arrAt_eq_of_covers 6 _ (by decide +kernel) fun t hf y => ?_
  have ht : t.val < 8 := t.isLt
  blk_simp
  rw [after0_6, after6]
  obtain ⟨r, q, rfl⟩ := idx2 (a := 512) (b := 1024) y
  have e0 : ((win0_6.blk t).view.emb (ix2 r q) 0 : Fin 2048) = row t.val r := Fin.ext (by
    show win0_6.index t 0 * 512 + 1 * r.val = 512 * (t.val % 4) + r.val; rw [(at_6 t).1]; omega)
  have e1 : ((win0_6.blk t).view.emb (ix2 r q) 1 : Fin 2048) = col t.val q := Fin.ext (by
    show win0_6.index t 1 * 1024 + 1 * q.val = 1024 * (t.val / 4 % 2) + q.val; rw [(at_6 t).2]; omega)
  rw [e0, e1]
  refine (pay3_apply _ _ _ _ r q).trans ?_
  rw [err]
  rfl

/-! ## The sum of the squares -/

/-- The squares of step `t`'s block, added up. -/
def part (t : Nat) : EReal := ∑ r, ∑ q, Loss.E (args m c) (row t r) (col t q) * Loss.E (args m c) (row t r) (col t q)

theorem step (t : Fin cfg0.N) (acc : Vec Ideal S8x128 .f32) (u : Fin 8) (v : Fin 128) :
    k0_pay5 (iblk m c 0 t) (iblk m c 1 t) (iblk m c 2 t) (iblk m c 3 t) acc (ix2 u v) = acc (ix2 u v) + part m c t.val := by
  rw [pay5_apply]
  simp only [err]
  rfl

theorem carried (u : Fin 8) (v : Fin 128) (n : Nat) (h : n < cfg0.N) :
    (outsAt0 m c n h).2.1 (ix2 u v) = ∑ j ∈ Finset.range (n + 1), part m c j := by
  induction n with
  | zero =>
    rw [outsAt0_A m c ⟨0, h⟩ rfl]
    dsimp only
    rw [out_A5, step, pay4_apply, Finset.sum_range_one, zero_add (part m c 0)]
  | succ n ih =>
    have h8 : n + 1 < 8 := h
    rw [outsAt0_B m c ⟨n + 1, h⟩ (by dsimp only; omega)]
    dsimp only
    rw [out_B5, step]
    refine (congrArg (· + part m c (n + 1)) (ih (Nat.lt_of_succ_lt h))).trans ?_
    rw [← Finset.sum_range_succ _ (n + 1)]

/-- The eight blocks are the whole. -/
theorem eight : ∑ j ∈ Finset.range 8, part m c j = Loss.Sq (args m c) := by
  unfold part Loss.Sq
  generalize Loss.E (args m c) = e
  rw [Finset.sum_range, ← Equiv.sum_comp (finProdFinEquiv (m := 2) (n := 4)), Fintype.sum_prod_type, Finset.sum_comm,
    ← Equiv.sum_comp (finProdFinEquiv (m := 4) (n := 512)), Fintype.sum_prod_type]
  refine Finset.sum_congr rfl fun b _ => ?_
  rw [Finset.sum_comm]
  refine Finset.sum_congr rfl fun r _ => ?_
  rw [← Equiv.sum_comp (finProdFinEquiv (m := 2) (n := 1024)), Fintype.sum_prod_type]
  refine Finset.sum_congr rfl fun a _ => Finset.sum_congr rfl fun q _ => ?_
  have hr : row (finProdFinEquiv (m := 2) (n := 4) (a, b)).val r = finProdFinEquiv (m := 4) (n := 512) (b, r) := Fin.ext (by
    show 512 * ((b.val + 4 * a.val) % 4) + r.val = r.val + 512 * b.val; omega)
  have hq : col (finProdFinEquiv (m := 2) (n := 4) (a, b)).val q = finProdFinEquiv (m := 2) (n := 1024) (a, q) := Fin.ext (by
    show 1024 * ((b.val + 4 * a.val) / 4 % 2) + q.val = q.val + 1024 * a.val; omega)
  rw [hr, hq]

theorem sq_arr : (dats m 0 c).arrAt 5 cfg0.N = fun _ : S8x128.Idx => Loss.Sq (args m c) := by
  refine (dats m 0 c).arrAt_eq_of_covers 5 _ (by decide +kernel) fun t hf y => ?_
  have ht : t.val < 8 := t.isLt
  have h7 : t.val = 7 := by have := (flush0_5 t).mp hf; omega
  blk_simp
  rw [after0_5]
  obtain ⟨u, v, rfl⟩ := idx2 (a := 8) (b := 128) y
  refine (carried m c u v t.val t.isLt).trans ?_
  rw [h7]
  exact eight m c

/-! ## The run -/

/-- The loss, from the sum of the squares. -/
theorem tail (s : Vec Ideal S8x128 .f32) (u v : Fin 1) :
    mulf (F := Ideal) (extractStridedSlice S1x1 ![0, 0] s slices_S8x128_S1x1_0_0) (broadcastInDim S1x1 ![] bcast_S_S1x1 (constant (F := Ideal) S_ .f32 0x39800000#32)) (ix2 u v)
      = s (ix2 0 0) * Loss.quota := by
  unfold Loss.quota
  pointwise

theorem loss_arr : Pipeline.afterTail₀ cfgs (dats m) 0 (V0 m) [hostOps1] c main_v3 = fun _ : S1x1.Idx => Loss.L (args m c) := by
  have e : Pipeline.afterTail₀ cfgs (dats m) 0 (V0 m) [hostOps1] c main_v3
      = mulf (F := Ideal) (extractStridedSlice S1x1 ![0, 0] ((dats m 0 c).arrAt 5 cfg0.N : Vec Ideal S8x128 .f32) slices_S8x128_S1x1_0_0)
          (broadcastInDim S1x1 ![] bcast_S_S1x1 (constant (F := Ideal) S_ .f32 0x39800000#32)) := by
    refine Eq.trans ?_ (congrArg (fun s : Vec Ideal S8x128 .f32 => mulf (F := Ideal) (extractStridedSlice S1x1 ![0, 0] s slices_S8x128_S1x1_0_0)
          (broadcastInDim S1x1 ![] bcast_S_S1x1 (constant (F := Ideal) S_ .f32 0x39800000#32)))
        (Pipeline.withArrays_arr spec0 (by decide) c (V0 m c) (fun w => (dats m 0 c).arrAt w cfg0.N) 5))
    rfl
  rw [e, sq_arr]
  funext y
  obtain ⟨u, v, rfl⟩ := idx2 (a := 1) (b := 1) y
  exact tail _ u v

/-- The run leaves the gradient twice, the loss, and the arguments as they were. -/
theorem run : θ_run defs (onTc (τ := τ) (main (F := Ideal))) ⟨m, fun _ => 0, ρ⟩ fun r => ∀ c : Dev nD,
      r.2.mem ((c.tc : Thread nD τ).loc main_v0_0) = (fun y : S2048x2048.Idx => Loss.Dy (args m c) (y 0) (y 1))
      ∧ r.2.mem ((c.tc : Thread nD τ).loc main_v0_2) = (fun y : S2048x2048.Idx => Loss.Dy (args m c) (y 0) (y 1))
      ∧ r.2.mem ((c.tc : Thread nD τ).loc main_v3) = (fun _ : S1x1.Idx => Loss.L (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (dy_arr m c), ((h c).1 6).trans (dyb_arr m c),
      ((h c).2 main_v3 (Pipeline.mem_restRefs_of main_v3 (by decide) (by decide))).trans (loss_arr m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Kernel7Ideal.Value

end
-- ==== Proof.Loss.Claim7.lean ====
/-
  The last product of the feed-forward block with the loss: the claims of its program.
-/
module

public import proofs.«01_k».proof.Defs
public import proofs.«01_k».proof.Proof.Gen.Kernel7.Frame
public import proofs.«01_k».proof.Proof.Gen.Reference7Ideal.Read
public import proofs.«01_k».proof.Proof.Loss.Run
import Idealize.ShloMosaic.Lib.Pointwise
import Idealize.ShloMosaic.Lib.IdealHost

@[expose] public section

noncomputable section

namespace Cert.Reference7Ideal.Read

open Idealize.ShloMosaic Cert.Reference7Ideal

variable (x0 : Vec Ideal S2048x5632 .bf16) (x1 : Vec Ideal S5632x2048 .bf16) (x2 x3 : Vec Ideal S2048x2048 .f32)

/-- The reference's arguments, by coordinates. -/
def args : Loss.Args where
  a i f := x0 (ix2 i f)
  w f l := x1 (ix2 f l)
  x i l := x2 (ix2 i l)
  t i l := x3 (ix2 i l)

/-- What is left of the target. -/
theorem r_err (i l : Fin 2048) : val_main_v6 (F := Ideal) x0 x1 x2 x3 (ix2 i l) = Loss.E (args x0 x1 x2 x3) i l := by
  unfold Loss.E Ffn.half args
  pointwise [val_main_v6, val_main_v5, val_main_v4, val_main_v3, val_main_cst, val_main_v2, val_main_v1, val_main_v0]

/-- The gradient. -/
theorem r_dy (i l : Fin 2048) : val_main_v20 (F := Ideal) x0 x1 x2 x3 (ix2 i l) = Loss.Dy (args x0 x1 x2 x3) i l := by
  rw [← Loss.dy_eq, ← r_err]
  unfold val_main_v20 val_main_v9
  generalize val_main_v6 (F := Ideal) x0 x1 x2 x3 = e
  unfold Ffn.half Loss.one Loss.two Loss.width
  pointwise [val_main_v19, val_main_v18, val_main_v17, val_main_cst_7, val_main_v16, val_main_v15, val_main_cst_6, val_main_cst_5, val_main_v8, val_main_cst_0]
theorem r_dyb (i l : Fin 2048) : val_main_v21 (F := Ideal) x0 x1 x2 x3 (ix2 i l) = Loss.Dy (args x0 x1 x2 x3) i l := by
  rw [← r_dy]
  unfold val_main_v21
  generalize val_main_v20 (F := Ideal) x0 x1 x2 x3 = e
  pointwise

/-- The squares of a row, added up. -/
theorem r_row (i : Fin 2048) : val_main_v10 (F := Ideal) x0 x1 x2 x3 (ix1 i) = ∑ l, Loss.E (args x0 x1 x2 x3) i l * Loss.E (args x0 x1 x2 x3) i l := by
  simp only [← r_err]
  unfold val_main_v10 val_main_v7
  generalize val_main_v6 (F := Ideal) x0 x1 x2 x3 = e
  pointwise [val_main_cst_1]

/-- The loss. -/
theorem r_loss (u v : Fin 1) : val_main_v22 (F := Ideal) x0 x1 x2 x3 (ix2 u v) = Loss.L (args x0 x1 x2 x3) := by
  rw [← Loss.loss_eq]
  simp only [← r_row]
  unfold val_main_v22 val_main_v14 val_main_v13 val_main_v12
  generalize val_main_v10 (F := Ideal) x0 x1 x2 x3 = e
  unfold Ffn.half Loss.width
  pointwise [val_main_cst_4, val_main_cst_3, val_main_v11, val_main_cst_2]

end Cert.Reference7Ideal.Read

namespace Cert.Proof

open Idealize.ShloMosaic Idealize.SL.Sem

/-- The reference runs and leaves its arguments. -/
theorem frame_ri7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The kernel and the reference give the same loss and the same gradient at the block's result. -/
theorem algebraic7 : Cert.algebraic_Kernel7Ideal_Reference7Ideal := by
  intro m ρ m' ρ' _ hagree
  refine ⟨_, _, _, Cert.Kernel7Ideal.Value.run m ρ, ?_⟩
  refine (θ_run Cert.Reference7Ideal.defs _ _).mono (fun r h c => ?_) (Cert.Reference7Ideal.Value.run (F := Ideal) m' ρ')
  obtain ⟨h0, h1, h2, hargs⟩ := h c
  obtain ⟨a0, a1, a2, a3⟩ := hagree c
  refine ⟨h0.trans ?_, h1.trans ?_, h2.trans ?_, hargs⟩
  · rw [Cert.Reference7Ideal.Read.val_main_v20_eq, a0, a1, a2, a3]
    funext y
    obtain ⟨i, l, rfl⟩ := Cert.Kernel7Ideal.Value.idx2 (a := 2048) (b := 2048) y
    exact Cert.Reference7Ideal.Read.r_dy _ _ _ _ i l
  · rw [Cert.Reference7Ideal.Read.val_main_v21_eq, a0, a1, a2, a3]
    funext y
    obtain ⟨i, l, rfl⟩ := Cert.Kernel7Ideal.Value.idx2 (a := 2048) (b := 2048) y
    exact Cert.Reference7Ideal.Read.r_dyb _ _ _ _ i l
  · rw [Cert.Reference7Ideal.Read.val_main_v22_eq, a0, a1, a2, a3]
    funext y
    obtain ⟨u, v, rfl⟩ := Cert.Kernel7Ideal.Value.idx2 (a := 1) (b := 1) y
    exact Cert.Reference7Ideal.Read.r_loss _ _ _ _ u v

end Cert.Proof

end
-- ==== Proof.Up2.Parity.lean ====
/-
  The parity of the chunk of columns that a column lies in, as the words compute it.
-/
module

public import proofs.«01_k».proof.Proof.Ffn.Spec
public import Idealize.ShloMosaic.Lib.StableHlo.Predicate

@[expose] public section

noncomputable section

namespace Up2

open Idealize.ShloMosaic

/-- A word that the comparisons find to be 0 or 1 is 0 or 1. -/
theorem word_of (x : BitVec 32) (h : IntOp.ori (IntOp.cmpi .eq x 0#32) (IntOp.cmpi .eq x 1#32) = 1#1) :
    ∃ p : Fin 2, x = BitVec.ofNat 32 p.val := by
  by_cases h0 : x = 0#32
  · exact ⟨0, h0⟩
  by_cases h1 : x = 1#32
  · exact ⟨1, h1⟩
  have e0 : IntOp.cmpi .eq x 0#32 = 0#1 := by
    show BitVec.ofBool (x == 0#32) = 0#1
    rw [beq_false_of_ne h0]; rfl
  have e1 : IntOp.cmpi .eq x 1#32 = 0#1 := by
    show BitVec.ofBool (x == 1#32) = 0#1
    rw [beq_false_of_ne h1]; rfl
  rw [e0, e1] at h
  exact absurd h (by decide)

/-- The quotient by the chunk's width, and its remainder by 2, of a column. -/
theorem parity_col : ∀ f : Fin 5632,
    IntOp.remsi .host (IntOp.divsi .host (BitVec.ofNat 32 f.val) 1408#32) 2#32 = BitVec.ofNat 32 (f.val / 1408 % 2) := by
  decide +kernel

/-- The comparison of that parity with a parity. -/
theorem own_col (f : Fin 5632) (p : Fin 2) :
    IntOp.cmpi .eq (IntOp.remsi .host (IntOp.divsi .host (BitVec.ofNat 32 f.val) 1408#32) 2#32) (BitVec.ofNat 32 p.val) = 1#1
      ↔ f.val / 1408 % 2 = p.val := by
  rw [parity_col, StableHlo.Predicate.cmpi_eq_iff]
  have h : f.val / 1408 % 2 < 2 := Nat.mod_lt _ (by decide)
  generalize f.val / 1408 % 2 = q at h
  obtain ⟨p, hp⟩ := p
  interval_cases q <;> interval_cases p <;> simp

/-- The gates' and the values' arguments alone: the block's other arguments are not read. -/
def args (h : Fin 2048 → Fin 2048 → EReal) (w : Fin 2048 → Fin 11264 → EReal) : Ffn.Args where
  h := h
  wgu := w
  wd _ _ := 0
  x _ _ := 0
  dy _ _ := 0

end Up2

end
-- ==== Proof.Up2.RefGu.lean ====
/-
  The gates, the values and the activations that the reference computes, at a row and a column.
-/
module

public import proofs.«01_k».proof.Proof.Gen.Reference8Ideal.Read
public import proofs.«01_k».proof.Proof.Up2.Parity
import Idealize.ShloMosaic.Lib.Pointwise
import Idealize.ShloMosaic.Lib.IdealHost

@[expose] public section

noncomputable section

namespace Cert.Reference8Ideal.Read

open Idealize.ShloMosaic Cert.Reference8Ideal Cert.Reference8Ideal.Gen

variable (x1 : Vec Ideal S2048x2048 .bf16) (x2 : Vec Ideal S2048x11264 .bf16)

/-- The reference's arguments, by coordinates. -/
def args : Ffn.Args := Up2.args (fun i l => x1 (ix2 i l)) (fun l f => x2 (ix2 l f))

theorem r_prod (i : Fin 2048) (f : Fin 11264) : val_main_v2 (F := Ideal) x1 x2 (ix2 i f) = Ffn.GU (args x1 x2) i f := by
  unfold Ffn.GU args Up2.args
  pointwise [val_main_v2, val_main_v0, val_main_v1]
theorem r_gate (i : Fin 2048) (f : Fin 5632) : val_main_v3 (F := Ideal) x1 x2 (ix2 i f) = Ffn.GU (args x1 x2) i (Ffn.col 0 f) := by
  refine Eq.trans ?_ (r_prod x1 x2 i (Ffn.col 0 f))
  rw [val_main_v3_apply]
  refine congrArg (val_main_v2 (F := Ideal) x1 x2) (funext fun k => Fin.ext ?_)
  match k with
  | ⟨0, _⟩ => rfl
  | ⟨1, _⟩ => show f.val = 5632 * 0 + f.val; omega
theorem r_value (i : Fin 2048) (f : Fin 5632) : val_main_v4 (F := Ideal) x1 x2 (ix2 i f) = Ffn.GU (args x1 x2) i (Ffn.col 1 f) := by
  refine Eq.trans ?_ (r_prod x1 x2 i (Ffn.col 1 f))
  rw [val_main_v4_apply]
  refine congrArg (val_main_v2 (F := Ideal) x1 x2) (funext fun k => Fin.ext ?_)
  match k with
  | ⟨0, _⟩ => rfl
  | ⟨1, _⟩ => rfl

/-- The logistic function of the gate. -/
theorem r_sig (i : Fin 2048) (f : Fin 5632) : val_main_call0_v5 (F := Ideal) x1 x2 (ix2 i f) = Ffn.sig (Ffn.GU (args x1 x2) i (Ffn.col 0 f)) := by
  have e1 : Ideal.ofBits .f32 0x3F800000#32 = 1 := Ideal.ofBits_one_f32
  show Ideal.div (Ideal.ofBits .f32 0x3F800000#32) (Ideal.ofBits .f32 0x3F800000#32 + Ideal.exp (-(val_main_v3 (F := Ideal) x1 x2 (ix2 i f)))) = _
  rw [e1, r_gate x1 x2]
  rfl
/-- The activation. -/
theorem r_act (i : Fin 2048) (f : Fin 5632) : val_main_v11 (F := Ideal) x1 x2 (ix2 i f) = Ffn.A (args x1 x2) i f := by
  show val_main_v3 (F := Ideal) x1 x2 (ix2 i f) * val_main_call0_v5 (F := Ideal) x1 x2 (ix2 i f) * val_main_v4 (F := Ideal) x1 x2 (ix2 i f) = _
  rw [r_gate x1 x2, r_sig x1 x2, r_value x1 x2]
  rfl

/-- The gates in a plane of their own, and the values in theirs. -/
theorem r_plane0 (i : Fin 2048) (f : Fin 5632) : val_main_v5 (F := Ideal) x1 x2 (ix3 0 i f) = Ffn.GU (args x1 x2) i (Ffn.col 0 f) := by
  rw [← r_gate]
  unfold val_main_v5
  generalize val_main_v3 (F := Ideal) x1 x2 = e
  pointwise
theorem r_plane1 (i : Fin 2048) (f : Fin 5632) : val_main_v6 (F := Ideal) x1 x2 (ix3 0 i f) = Ffn.GU (args x1 x2) i (Ffn.col 1 f) := by
  rw [← r_value]
  unfold val_main_v6
  generalize val_main_v4 (F := Ideal) x1 x2 = e
  pointwise
/-- The gates' plane above the values'. -/
theorem r_gu (b : Fin 2) (i : Fin 2048) (f : Fin 5632) : val_main_v8 (F := Ideal) x1 x2 (ix3 b i f) = Ffn.GU (args x1 x2) i (Ffn.col b f) := by
  show val_main_v7 (F := Ideal) x1 x2 (ix3 b i f) = _
  unfold val_main_v7
  match b with
  | ⟨0, _⟩ =>
    refine (concatenate_pair_apply_left 0 (val_main_v5 (F := Ideal) x1 x2) (val_main_v6 (F := Ideal) x1 x2)
      concatenates_S1x2048x5632_S1x2048x5632_S2x2048x5632_d0 (ix3 0 i f) rfl (ix3 0 i f) fun k => ?_).trans (r_plane0 x1 x2 i f)
    match k with
    | ⟨0, _⟩ => rfl
    | ⟨1, _⟩ => rfl
    | ⟨2, _⟩ => rfl
  | ⟨1, _⟩ =>
    refine (concatenate_pair_apply_right 0 (val_main_v5 (F := Ideal) x1 x2) (val_main_v6 (F := Ideal) x1 x2)
      concatenates_S1x2048x5632_S1x2048x5632_S2x2048x5632_d0 (ix3 1 i f) rfl rfl (ix3 0 i f) (fun k hk => ?_) ?_).trans (r_plane1 x1 x2 i f)
    · match k with
      | ⟨0, _⟩ => exact absurd rfl hk
      | ⟨1, _⟩ => rfl
      | ⟨2, _⟩ => rfl
    · rfl

end Cert.Reference8Ideal.Read

end
-- ==== Proof.Up2.Table8.lean ====
/-
  The first half of the gates and the values, at a parity: the chunks that the parity names lie inside the arrays.
-/
module

public import proofs.«01_k».proof.Defs
public import proofs.«01_k».proof.Proof.Gen.Kernel8.Frame
public import proofs.«01_k».proof.Proof.Gen.Kernel8Ideal.Frame
public import proofs.«01_k».proof.Proof.Up2.Parity
public import Idealize.ShloMosaic.Lib.Pipeline.ValueKit

@[expose] public section

noncomputable section

/-- The side conditions of the precondition's operations. -/
theorem Cert.Pre_is_parity8.facts : Cert.Pre_is_parity8.Facts := ⟨by decide⟩

namespace Cert.Kernel8.Value

open Idealize.ShloMosaic Idealize.ShloMosaic.TcCoe Idealize.SL.Sem Cert.Kernel8 Cert.Kernel8.Gen

set_option backward.proofsInPublic true in
/-- The table that holds the parity. -/
def pf (p : Fin 2) : pre0.Contents (Elt Bits) := fun | ⟨0, _⟩ => fun _ => BitVec.ofNat 32 p.val | ⟨_ + 1, h⟩ => absurd h (by simp)

theorem ok_pf : ∀ p : Fin 2, ok0 (F := Bits) (pf p) := by decide +kernel

/-- Under the precondition the table holds a parity, and every block lies inside its array. -/
theorem ok_of_pre (m : (ℓ : Loc nD τ sig) → Buf (Elt Bits) ℓ) (h : Cert.Pre_Kernel8 (hPre_is_parity8 := Cert.Pre_is_parity8.facts) m) : Ok (F := Bits) m := by
  have e := congrFun (h 0) (ix1 0)
  obtain ⟨p, hp⟩ := Up2.word_of _ e
  have ht : tbl m = pf p := by
    funext j x
    match j with
    | ⟨0, _⟩ =>
      refine Eq.trans ?_ hp
      refine congrArg (m (((0 : Dev nD) : Thread nD τ).loc main_arg0) : Vec Bits S1 .i32) (funext fun k => match k with | ⟨0, _⟩ => Subsingleton.elim (α := Fin 1) _ _)
  unfold Ok
  rw [ht]
  exact ok_pf p

end Cert.Kernel8.Value

namespace Cert.Kernel8Ideal.Value

open Idealize.ShloMosaic Idealize.ShloMosaic.TcCoe Idealize.SL.Sem Cert.Kernel8Ideal Cert.Kernel8Ideal.Gen

set_option backward.proofsInPublic true in
/-- The table that holds the parity. -/
def pf (p : Fin 2) : pre0.Contents (Elt Ideal) := fun | ⟨0, _⟩ => fun _ => BitVec.ofNat 32 p.val | ⟨_ + 1, h⟩ => absurd h (by simp)

theorem ok_pf : ∀ p : Fin 2, ok0 (F := Ideal) (pf p) := by decide +kernel

/-- Under the precondition the parity's word is a parity, and the table holds it. -/
theorem parity_of_pre (m : (ℓ : Loc nD τ sig) → Buf (Elt Ideal) ℓ) (h : Cert.Pre_Kernel8Ideal (hPre_is_parity8 := Cert.Pre_is_parity8.facts) m) :
    ∃ p : Fin 2, (m (((0 : Dev nD) : Thread nD τ).loc main_arg0) : Vec Ideal S1 .i32) = (fun _ => BitVec.ofNat 32 p.val) ∧ tbl m = pf p := by
  have e := congrFun (h 0) (ix1 0)
  obtain ⟨p, hp⟩ := Up2.word_of _ e
  have hw : (m (((0 : Dev nD) : Thread nD τ).loc main_arg0) : Vec Ideal S1 .i32) = (fun _ => BitVec.ofNat 32 p.val) := by
    funext x
    refine Eq.trans ?_ hp
    refine congrArg (m (((0 : Dev nD) : Thread nD τ).loc main_arg0) : Vec Ideal S1 .i32) (funext fun k => match k with | ⟨0, _⟩ => Subsingleton.elim (α := Fin 1) _ _)
  refine ⟨p, hw, ?_⟩
  funext j x
  match j with
  | ⟨0, _⟩ => exact congrFun hw x

theorem ok_of_tbl (m : (ℓ : Loc nD τ sig) → Buf (Elt Ideal) ℓ) (p : Fin 2) (h : tbl m = pf p) : Ok (F := Ideal) m := by
  unfold Ok
  rw [h]
  exact ok_pf p

theorem ok_of_pre (m : (ℓ : Loc nD τ sig) → Buf (Elt Ideal) ℓ) (h : Cert.Pre_Kernel8Ideal (hPre_is_parity8 := Cert.Pre_is_parity8.facts) m) : Ok (F := Ideal) m := by
  obtain ⟨p, -, hp⟩ := parity_of_pre m h
  exact ok_of_tbl m p hp

/-! ## The blocks' places, and what the written blocks cover -/

theorem at_0' (p : Fin 2) : ∀ t : Fin grid0.N, ((cfg0 ⟨pf p, ok_pf p⟩).win 0).index t (0 : Fin 2) = t.val % 4 ∧ ((cfg0 ⟨pf p, ok_pf p⟩).win 0).index t (1 : Fin 2) = 0 := by
  revert p; decide +kernel
theorem at_1' (p : Fin 2) : ∀ t : Fin grid0.N, ((cfg0 ⟨pf p, ok_pf p⟩).win 1).index t (0 : Fin 3) = 2 * (t.val / 4) + p.val ∧ ((cfg0 ⟨pf p, ok_pf p⟩).win 1).index t (1 : Fin 3) = 0
    ∧ ((cfg0 ⟨pf p, ok_pf p⟩).win 1).index t (2 : Fin 3) = 0 := by
  revert p; decide +kernel
theorem at_2' (p : Fin 2) : ∀ t : Fin grid0.N, ((cfg0 ⟨pf p, ok_pf p⟩).win 2).index t (0 : Fin 3) = 4 + (2 * (t.val / 4) + p.val) ∧ ((cfg0 ⟨pf p, ok_pf p⟩).win 2).index t (1 : Fin 3) = 0
    ∧ ((cfg0 ⟨pf p, ok_pf p⟩).win 2).index t (2 : Fin 3) = 0 := by
  revert p; decide +kernel
theorem at_3' (p : Fin 2) : ∀ t : Fin grid0.N, ((cfg0 ⟨pf p, ok_pf p⟩).win 3).index t (0 : Fin 3) = 0 ∧ ((cfg0 ⟨pf p, ok_pf p⟩).win 3).index t (1 : Fin 3) = t.val % 4
    ∧ ((cfg0 ⟨pf p, ok_pf p⟩).win 3).index t (2 : Fin 3) = 2 * (t.val / 4) + p.val := by
  revert p; decide +kernel
theorem at_4' (p : Fin 2) : ∀ t : Fin grid0.N, ((cfg0 ⟨pf p, ok_pf p⟩).win 4).index t (0 : Fin 2) = t.val % 4 ∧ ((cfg0 ⟨pf p, ok_pf p⟩).win 4).index t (1 : Fin 2) = 2 * (t.val / 4) + p.val := by
  revert p; decide +kernel

theorem covers_3' (p : Fin 2) : ((cfg0 ⟨pf p, ok_pf p⟩).win 3).CoversWhere (fun β => β (2 : Fin 3) % 2 = p.val) := by
  revert p; decide +kernel
theorem covers_4' (p : Fin 2) : ((cfg0 ⟨pf p, ok_pf p⟩).win 4).CoversWhere (fun β => β (1 : Fin 2) % 2 = p.val) := by
  revert p; decide +kernel

section
variable (a : (pcfg0 (F := Ideal)).Adm) (p : Fin 2) (h : a.1 = pf p)
include h

theorem adm_eq : a = ⟨pf p, ok_pf p⟩ := Subtype.ext h
theorem at_0 (t : Fin grid0.N) : ((cfg0 a).win 0).index t (0 : Fin 2) = t.val % 4 ∧ ((cfg0 a).win 0).index t (1 : Fin 2) = 0 := by
  rw [adm_eq a p h]; exact at_0' p t
theorem at_1 (t : Fin grid0.N) : ((cfg0 a).win 1).index t (0 : Fin 3) = 2 * (t.val / 4) + p.val ∧ ((cfg0 a).win 1).index t (1 : Fin 3) = 0 ∧ ((cfg0 a).win 1).index t (2 : Fin 3) = 0 := by
  rw [adm_eq a p h]; exact at_1' p t
theorem at_2 (t : Fin grid0.N) : ((cfg0 a).win 2).index t (0 : Fin 3) = 4 + (2 * (t.val / 4) + p.val) ∧ ((cfg0 a).win 2).index t (1 : Fin 3) = 0 ∧ ((cfg0 a).win 2).index t (2 : Fin 3) = 0 := by
  rw [adm_eq a p h]; exact at_2' p t
theorem at_3 (t : Fin grid0.N) : ((cfg0 a).win 3).index t (0 : Fin 3) = 0 ∧ ((cfg0 a).win 3).index t (1 : Fin 3) = t.val % 4 ∧ ((cfg0 a).win 3).index t (2 : Fin 3) = 2 * (t.val / 4) + p.val := by
  rw [adm_eq a p h]; exact at_3' p t
theorem at_4 (t : Fin grid0.N) : ((cfg0 a).win 4).index t (0 : Fin 2) = t.val % 4 ∧ ((cfg0 a).win 4).index t (1 : Fin 2) = 2 * (t.val / 4) + p.val := by
  rw [adm_eq a p h]; exact at_4' p t
theorem covers_3 : ((cfg0 a).win 3).CoversWhere (fun β => β (2 : Fin 3) % 2 = p.val) := by
  rw [adm_eq a p h]; exact covers_3' p
theorem covers_4 : ((cfg0 a).win 4).CoversWhere (fun β => β (1 : Fin 2) % 2 = p.val) := by
  rw [adm_eq a p h]; exact covers_4' p
end

end Cert.Kernel8Ideal.Value

end
-- ==== Proof.Up2.Table9.lean ====
/-
  The second half of the gates and the values, at a parity: the chunks that the parity names lie inside the arrays.
-/
module

public import proofs.«01_k».proof.Defs
public import proofs.«01_k».proof.Proof.Gen.Kernel9.Frame
public import proofs.«01_k».proof.Proof.Gen.Kernel9Ideal.Frame
public import proofs.«01_k».proof.Proof.Up2.Parity
public import Idealize.ShloMosaic.Lib.Pipeline.ValueKit

@[expose] public section

noncomputable section

/-- The side conditions of the precondition's operations. -/
theorem Cert.Pre_is_parity9.facts : Cert.Pre_is_parity9.Facts := ⟨by decide⟩

namespace Cert.Kernel9.Value

open Idealize.ShloMosaic Idealize.ShloMosaic.TcCoe Idealize.SL.Sem Cert.Kernel9 Cert.Kernel9.Gen

set_option backward.proofsInPublic true in
/-- The table that holds the parity. -/
def pf (p : Fin 2) : pre0.Contents (Elt Bits) := fun | ⟨0, _⟩ => fun _ => BitVec.ofNat 32 p.val | ⟨_ + 1, h⟩ => absurd h (by simp)

theorem ok_pf : ∀ p : Fin 2, ok0 (F := Bits) (pf p) := by decide +kernel

/-- Under the precondition the table holds a parity, and every block lies inside its array. -/
theorem ok_of_pre (m : (ℓ : Loc nD τ sig) → Buf (Elt Bits) ℓ) (h : Cert.Pre_Kernel9 (hPre_is_parity9 := Cert.Pre_is_parity9.facts) m) : Ok (F := Bits) m := by
  have e := congrFun (h 0) (ix1 0)
  obtain ⟨p, hp⟩ := Up2.word_of _ e
  have ht : tbl m = pf p := by
    funext j x
    match j with
    | ⟨0, _⟩ =>
      refine Eq.trans ?_ hp
      refine congrArg (m (((0 : Dev nD) : Thread nD τ).loc main_arg0) : Vec Bits S1 .i32) (funext fun k => match k with | ⟨0, _⟩ => Subsingleton.elim (α := Fin 1) _ _)
  unfold Ok
  rw [ht]
  exact ok_pf p

end Cert.Kernel9.Value

namespace Cert.Kernel9Ideal.Value

open Idealize.ShloMosaic Idealize.ShloMosaic.TcCoe Idealize.SL.Sem Cert.Kernel9Ideal Cert.Kernel9Ideal.Gen

set_option backward.proofsInPublic true in
/-- The table that holds the parity. -/
def pf (p : Fin 2) : pre0.Contents (Elt Ideal) := fun | ⟨0, _⟩ => fun _ => BitVec.ofNat 32 p.val | ⟨_ + 1, h⟩ => absurd h (by simp)

theorem ok_pf : ∀ p : Fin 2, ok0 (F := Ideal) (pf p) := by decide +kernel

/-- Under the precondition the parity's word is a parity, and the table holds it. -/
theorem parity_of_pre (m : (ℓ : Loc nD τ sig) → Buf (Elt Ideal) ℓ) (h : Cert.Pre_Kernel9Ideal (hPre_is_parity9 := Cert.Pre_is_parity9.facts) m) :
    ∃ p : Fin 2, (m (((0 : Dev nD) : Thread nD τ).loc main_arg0) : Vec Ideal S1 .i32) = (fun _ => BitVec.ofNat 32 p.val) ∧ tbl m = pf p := by
  have e := congrFun (h 0) (ix1 0)
  obtain ⟨p, hp⟩ := Up2.word_of _ e
  have hw : (m (((0 : Dev nD) : Thread nD τ).loc main_arg0) : Vec Ideal S1 .i32) = (fun _ => BitVec.ofNat 32 p.val) := by
    funext x
    refine Eq.trans ?_ hp
    refine congrArg (m (((0 : Dev nD) : Thread nD τ).loc main_arg0) : Vec Ideal S1 .i32) (funext fun k => match k with | ⟨0, _⟩ => Subsingleton.elim (α := Fin 1) _ _)
  refine ⟨p, hw, ?_⟩
  funext j x
  match j with
  | ⟨0, _⟩ => exact congrFun hw x

theorem ok_of_tbl (m : (ℓ : Loc nD τ sig) → Buf (Elt Ideal) ℓ) (p : Fin 2) (h : tbl m = pf p) : Ok (F := Ideal) m := by
  unfold Ok
  rw [h]
  exact ok_pf p

theorem ok_of_pre (m : (ℓ : Loc nD τ sig) → Buf (Elt Ideal) ℓ) (h : Cert.Pre_Kernel9Ideal (hPre_is_parity9 := Cert.Pre_is_parity9.facts) m) : Ok (F := Ideal) m := by
  obtain ⟨p, -, hp⟩ := parity_of_pre m h
  exact ok_of_tbl m p hp

/-! ## The blocks' places, and what the written blocks cover -/

theorem at_0' (p : Fin 2) : ∀ t : Fin grid0.N, ((cfg0 ⟨pf p, ok_pf p⟩).win 0).index t (0 : Fin 2) = t.val % 4 ∧ ((cfg0 ⟨pf p, ok_pf p⟩).win 0).index t (1 : Fin 2) = 0 := by
  revert p; decide +kernel
theorem at_1' (p : Fin 2) : ∀ t : Fin grid0.N, ((cfg0 ⟨pf p, ok_pf p⟩).win 1).index t (0 : Fin 3) = 2 * (t.val / 4) + p.val ∧ ((cfg0 ⟨pf p, ok_pf p⟩).win 1).index t (1 : Fin 3) = 0
    ∧ ((cfg0 ⟨pf p, ok_pf p⟩).win 1).index t (2 : Fin 3) = 0 := by
  revert p; decide +kernel
theorem at_2' (p : Fin 2) : ∀ t : Fin grid0.N, ((cfg0 ⟨pf p, ok_pf p⟩).win 2).index t (0 : Fin 3) = 4 + (2 * (t.val / 4) + p.val) ∧ ((cfg0 ⟨pf p, ok_pf p⟩).win 2).index t (1 : Fin 3) = 0
    ∧ ((cfg0 ⟨pf p, ok_pf p⟩).win 2).index t (2 : Fin 3) = 0 := by
  revert p; decide +kernel
theorem at_3' (p : Fin 2) : ∀ t : Fin grid0.N, ((cfg0 ⟨pf p, ok_pf p⟩).win 3).index t (0 : Fin 3) = 0 ∧ ((cfg0 ⟨pf p, ok_pf p⟩).win 3).index t (1 : Fin 3) = t.val % 4
    ∧ ((cfg0 ⟨pf p, ok_pf p⟩).win 3).index t (2 : Fin 3) = 2 * (t.val / 4) + p.val := by
  revert p; decide +kernel
theorem at_4' (p : Fin 2) : ∀ t : Fin grid0.N, ((cfg0 ⟨pf p, ok_pf p⟩).win 4).index t (0 : Fin 2) = t.val % 4 ∧ ((cfg0 ⟨pf p, ok_pf p⟩).win 4).index t (1 : Fin 2) = 2 * (t.val / 4) + p.val := by
  revert p; decide +kernel

theorem covers_3' (p : Fin 2) : ((cfg0 ⟨pf p, ok_pf p⟩).win 3).CoversWhere (fun β => β (2 : Fin 3) % 2 = p.val) := by
  revert p; decide +kernel
theorem covers_4' (p : Fin 2) : ((cfg0 ⟨pf p, ok_pf p⟩).win 4).CoversWhere (fun β => β (1 : Fin 2) % 2 = p.val) := by
  revert p; decide +kernel

section
variable (a : (pcfg0 (F := Ideal)).Adm) (p : Fin 2) (h : a.1 = pf p)
include h

theorem adm_eq : a = ⟨pf p, ok_pf p⟩ := Subtype.ext h
theorem at_0 (t : Fin grid0.N) : ((cfg0 a).win 0).index t (0 : Fin 2) = t.val % 4 ∧ ((cfg0 a).win 0).index t (1 : Fin 2) = 0 := by
  rw [adm_eq a p h]; exact at_0' p t
theorem at_1 (t : Fin grid0.N) : ((cfg0 a).win 1).index t (0 : Fin 3) = 2 * (t.val / 4) + p.val ∧ ((cfg0 a).win 1).index t (1 : Fin 3) = 0 ∧ ((cfg0 a).win 1).index t (2 : Fin 3) = 0 := by
  rw [adm_eq a p h]; exact at_1' p t
theorem at_2 (t : Fin grid0.N) : ((cfg0 a).win 2).index t (0 : Fin 3) = 4 + (2 * (t.val / 4) + p.val) ∧ ((cfg0 a).win 2).index t (1 : Fin 3) = 0 ∧ ((cfg0 a).win 2).index t (2 : Fin 3) = 0 := by
  rw [adm_eq a p h]; exact at_2' p t
theorem at_3 (t : Fin grid0.N) : ((cfg0 a).win 3).index t (0 : Fin 3) = 0 ∧ ((cfg0 a).win 3).index t (1 : Fin 3) = t.val % 4 ∧ ((cfg0 a).win 3).index t (2 : Fin 3) = 2 * (t.val / 4) + p.val := by
  rw [adm_eq a p h]; exact at_3' p t
theorem at_4 (t : Fin grid0.N) : ((cfg0 a).win 4).index t (0 : Fin 2) = t.val % 4 ∧ ((cfg0 a).win 4).index t (1 : Fin 2) = 2 * (t.val / 4) + p.val := by
  rw [adm_eq a p h]; exact at_4' p t
theorem covers_3 : ((cfg0 a).win 3).CoversWhere (fun β => β (2 : Fin 3) % 2 = p.val) := by
  rw [adm_eq a p h]; exact covers_3' p
theorem covers_4 : ((cfg0 a).win 4).CoversWhere (fun β => β (1 : Fin 2) % 2 = p.val) := by
  rw [adm_eq a p h]; exact covers_4' p
end

end Cert.Kernel9Ideal.Value

end
-- ==== Proof.Up2.Run9.lean ====
/-
  The second half of the gates and the values: what the call leaves in its arrays.
-/
module

public import proofs.«01_k».proof.Proof.Up2.Table9
public import proofs.«01_k».proof.Proof.Ffn.Up
import Idealize.ShloMosaic.Lib.Pointwise
import Idealize.ShloMosaic.Lib.IdealHost

@[expose] public section

noncomputable section

namespace Cert.Kernel9Ideal.Value

open Idealize.ShloMosaic Idealize.ShloMosaic.TcCoe Idealize.SL.Sem Cert.Kernel9Ideal Cert.Kernel9Ideal.Gen
open Idealize.ShloMosaic.Pipeline (Dat)
open Cert.Kernel2Ideal.Value (prod guBlock actBlock idx2 idx3 ld_rows gu_piece256 gu_piece128 act_piece256 act_piece128)

/-! ## The body -/

section
variable (c : Dev nD) (i : grid0.Coords) (arg3 : Memref sig .tc .vmem S512x2048 .bf16) (harg3 : arg3.IsWhole)
  (arg4 : Memref sig .tc .vmem S1x2048x1408 .bf16) (harg4 : arg4.IsWhole) (arg5 : Memref sig .tc .vmem S1x2048x1408 .bf16) (harg5 : arg5.IsWhole)
  (arg8 : Memref sig .tc .vmem S2x512x1408 .bf16) (harg8 : arg8.IsWhole) (arg9 : Memref sig .tc .vmem S512x1408 .bf16) (harg9 : arg9.IsWhole)
  (x0 : Vec Ideal S512x2048 .bf16) (x1 x2 : Vec Ideal S1x2048x1408 .bf16) (xt0 : TbBuf0 (F := Ideal) c tbM0_0)

set_option maxRecDepth 65536 in
/-- The first block holds the gates in its first plane and the values in its second. -/
theorem up_gu (y : S2x512x1408.Idx) :
    out0_A_3 c i arg3 harg3 arg4 harg4 arg5 harg5 arg8 harg8 arg9 harg9 x0 x1 x2 xt0 y = guBlock x0 x1 x2 y := by
  unfold out0_A_3
  refine View.read_writes_apply_of_pieces _ _ (guBlock x0 x1 x2) _ ?_ _ (cover0_A_3 c i arg3 harg3 arg4 harg4 arg5 harg5 arg8 harg8 arg9 harg9 x0 x1 x2 xt0 y)
  unfold kernelRun0_A; dsimp only; sl_unfold_words
  simp only [View.readAt_eq_ld]
  rw [harg3.read_unread x0, harg4.read_unread x1, harg5.read_unread x2, ld_rows x0]
  have g0 : ∀ r q, guBlock x0 x1 x2 (ix3 0 r q) = prod x0 x1 r q := fun _ _ => rfl
  have g1 : ∀ r q, guBlock x0 x1 x2 (ix3 1 r q) = prod x0 x2 r q := fun _ _ => rfl
  intro p hp
  simp only [List.mem_cons, List.not_mem_nil, or_false] at hp
  rcases hp with rfl | rfl | rfl | rfl | rfl | rfl | rfl | rfl | rfl | rfl | rfl | rfl
  · exact gu_piece128 x0 x2 1280 (by decide) 1 (by decide) (by decide) _ g1
  · exact gu_piece128 x0 x1 1280 (by decide) 0 (by decide) (by decide) _ g0
  · exact gu_piece256 x0 x2 1024 (by decide) 1 (by decide) (by decide) _ g1
  · exact gu_piece256 x0 x1 1024 (by decide) 0 (by decide) (by decide) _ g0
  · exact gu_piece256 x0 x2 768 (by decide) 1 (by decide) (by decide) _ g1
  · exact gu_piece256 x0 x1 768 (by decide) 0 (by decide) (by decide) _ g0
  · exact gu_piece256 x0 x2 512 (by decide) 1 (by decide) (by decide) _ g1
  · exact gu_piece256 x0 x1 512 (by decide) 0 (by decide) (by decide) _ g0
  · exact gu_piece256 x0 x2 256 (by decide) 1 (by decide) (by decide) _ g1
  · exact gu_piece256 x0 x1 256 (by decide) 0 (by decide) (by decide) _ g0
  · exact gu_piece256 x0 x2 0 (by decide) 1 (by decide) (by decide) _ g1
  · exact gu_piece256 x0 x1 0 (by decide) 0 (by decide) (by decide) _ g0

set_option maxRecDepth 65536 in
/-- The second block holds the activations. -/
theorem up_act (y : S512x1408.Idx) :
    out0_A_4 c i arg3 harg3 arg4 harg4 arg5 harg5 arg8 harg8 arg9 harg9 x0 x1 x2 xt0 y = actBlock x0 x1 x2 y := by
  unfold out0_A_4
  refine View.read_writes_apply_of_pieces _ _ (actBlock x0 x1 x2) _ ?_ _ (cover0_A_4 c i arg3 harg3 arg4 harg4 arg5 harg5 arg8 harg8 arg9 harg9 x0 x1 x2 xt0 y)
  unfold kernelRun0_A; dsimp only; sl_unfold_words
  simp only [View.readAt_eq_ld]
  rw [harg3.read_unread x0, harg4.read_unread x1, harg5.read_unread x2, ld_rows x0]
  have g : ∀ r q, actBlock x0 x1 x2 (ix2 r q) = Ffn.act (prod x0 x1 r q) (prod x0 x2 r q) := fun _ _ => rfl
  intro p hp
  simp only [List.mem_cons, List.not_mem_nil, or_false] at hp
  rcases hp with rfl | rfl | rfl | rfl | rfl | rfl
  · exact act_piece128 x0 x1 x2 1280 (by decide) (by decide) (by decide) _ g
  · exact act_piece256 x0 x1 x2 1024 (by decide) (by decide) (by decide) _ g
  · exact act_piece256 x0 x1 x2 768 (by decide) (by decide) (by decide) _ g
  · exact act_piece256 x0 x1 x2 512 (by decide) (by decide) (by decide) _ g
  · exact act_piece256 x0 x1 x2 256 (by decide) (by decide) (by decide) _ g
  · exact act_piece256 x0 x1 x2 0 (by decide) (by decide) (by decide) _ g
end

/-! ## The blocks that a step reads -/

variable (m : (ℓ : Loc nD τ sig) → Buf (Elt Ideal) ℓ) (ρ : Dev nD → PrngReg) (c : Dev nD)

/-- The arguments, by coordinates. -/
def args : Ffn.Args := Up2.args
  (fun i l => (m ((c : Thread nD τ).loc main_arg1) : Vec Ideal S2048x2048 .bf16) (ix2 i l))
  (fun l f => (m ((c : Thread nD τ).loc main_arg2) : Vec Ideal S2048x11264 .bf16) (ix2 l f))

theorem V_w : V m c main_v1 = transpose S8x2048x1408 [1, 0, 2] (shapeCast S2048x8x1408 (m ((c : Thread nD τ).loc main_arg2) : Vec Ideal S2048x11264 .bf16) shapeCasts_S2048x11264_S2048x8x1408)
    transposes_S2048x8x1408_S8x2048x1408_1_0_2 := by
  rfl
theorem V_gu : V m c main_v2_0 = m ((c : Thread nD τ).loc main_arg3) := by
  rfl
theorem V_act : V m c main_v2_1 = m ((c : Thread nD τ).loc main_arg4) := by
  rfl

theorem chunk_at (x : Vec Ideal S2048x11264 .bf16) (k : Fin 8) (l : Fin 2048) (q : Fin 1408) :
    transpose S8x2048x1408 [1, 0, 2] (shapeCast S2048x8x1408 x shapeCasts_S2048x11264_S2048x8x1408) transposes_S2048x8x1408_S8x2048x1408_1_0_2 (ix3 k l q)
      = x (ix2 l (Ffn.chunk k q)) := by
  pointwise
  refine congrArg x (congrArg (ix2 l) (Fin.ext ?_))
  show k.val * 1408 + q.val = 1408 * k.val + q.val
  omega
theorem chunk_apply (k : Fin 8) (l : Fin 2048) (q : Fin 1408) : (V m c main_v1 : Vec Ideal S8x2048x1408 .bf16) (ix3 k l q) = (args m c).wgu l (Ffn.chunk k q) :=
  (congrFun (V_w m c) _).trans (chunk_at _ k l q)

/-- Row `r` of step `t`'s block of rows, and column `q` of its chunk of columns at the parity `p`. -/
def row (t : Nat) (r : Fin 512) : Fin 2048 := ⟨512 * (t % 4) + r.val, by omega⟩
def col (t : Nat) (ht : t < 8) (p : Fin 2) (q : Fin 1408) : Fin 5632 := ⟨1408 * (2 * (t / 4) + p.val) + q.val, by omega⟩

variable (hO : Ok m) (p : Fin 2) (hp : tbl m = pf p)

include hp in
theorem blk_0 (t : Fin (cfgM m hO).N) (r : Fin 512) (l : Fin 2048) : (iblk m hO c 0 t : Vec Ideal S512x2048 .bf16) (ix2 r l) = (args m c).h (row t.val r) l := by
  have h := at_0 (adm m hO) p hp t
  show (V m c main_arg1 : Vec Ideal S2048x2048 .bf16) ((((cfgM m hO).win 0).blk t).view.emb (ix2 r l)) = _
  refine (congrFun (V_main_arg1 m c) _).trans (congrArg (m ((c : Thread nD τ).loc main_arg1) : Vec Ideal S2048x2048 .bf16) (funext fun k => Fin.ext ?_))
  match k with
  | ⟨0, _⟩ => show ((cfgM m hO).win 0).index t (0 : Fin 2) * 512 + 1 * r.val = _; rw [h.1]; show _ = 512 * (t.val % 4) + r.val; omega
  | ⟨1, _⟩ => show ((cfgM m hO).win 0).index t (1 : Fin 2) * 2048 + 1 * l.val = _; rw [h.2]; show _ = l.val; omega
include hp in
theorem blk_1 (t : Fin (cfgM m hO).N) (ht : t.val < 8) (l : Fin 2048) (q : Fin 1408) :
    (iblk m hO c 1 t : Vec Ideal S1x2048x1408 .bf16) (ix3 0 l q) = (args m c).wgu l (Ffn.col 0 (col t.val ht p q)) := by
  have h := at_1 (adm m hO) p hp t
  show (V m c main_v1 : Vec Ideal S8x2048x1408 .bf16) ((((cfgM m hO).win 1).blk t).view.emb (ix3 0 l q)) = _
  have e : (((cfgM m hO).win 1).blk t).view.emb (ix3 0 l q) = (ix3 ⟨2 * (t.val / 4) + p.val, by omega⟩ l q : S8x2048x1408.Idx) := by
    funext k; apply Fin.ext
    match k with
    | ⟨0, _⟩ => show ((cfgM m hO).win 1).index t (0 : Fin 3) * 1 + 1 * 0 = _; rw [h.1]; show _ = 2 * (t.val / 4) + p.val; omega
    | ⟨1, _⟩ => show ((cfgM m hO).win 1).index t (1 : Fin 3) * 2048 + 1 * l.val = _; rw [h.2.1]; show _ = l.val; omega
    | ⟨2, _⟩ => show ((cfgM m hO).win 1).index t (2 : Fin 3) * 1408 + 1 * q.val = _; rw [h.2.2]; show _ = q.val; omega
  refine (congrArg (V m c main_v1 : Vec Ideal S8x2048x1408 .bf16) e).trans ((chunk_apply m c _ l q).trans ?_)
  refine congrArg ((args m c).wgu l) (Fin.ext ?_)
  show 1408 * (2 * (t.val / 4) + p.val) + q.val = 5632 * 0 + (1408 * (2 * (t.val / 4) + p.val) + q.val)
  omega
include hp in
theorem blk_2 (t : Fin (cfgM m hO).N) (ht : t.val < 8) (l : Fin 2048) (q : Fin 1408) :
    (iblk m hO c 2 t : Vec Ideal S1x2048x1408 .bf16) (ix3 0 l q) = (args m c).wgu l (Ffn.col 1 (col t.val ht p q)) := by
  have h := at_2 (adm m hO) p hp t
  show (V m c main_v1 : Vec Ideal S8x2048x1408 .bf16) ((((cfgM m hO).win 2).blk t).view.emb (ix3 0 l q)) = _
  have e : (((cfgM m hO).win 2).blk t).view.emb (ix3 0 l q) = (ix3 ⟨4 + (2 * (t.val / 4) + p.val), by omega⟩ l q : S8x2048x1408.Idx) := by
    funext k; apply Fin.ext
    match k with
    | ⟨0, _⟩ => show ((cfgM m hO).win 2).index t (0 : Fin 3) * 1 + 1 * 0 = _; rw [h.1]; show _ = 4 + (2 * (t.val / 4) + p.val); omega
    | ⟨1, _⟩ => show ((cfgM m hO).win 2).index t (1 : Fin 3) * 2048 + 1 * l.val = _; rw [h.2.1]; show _ = l.val; omega
    | ⟨2, _⟩ => show ((cfgM m hO).win 2).index t (2 : Fin 3) * 1408 + 1 * q.val = _; rw [h.2.2]; show _ = q.val; omega
  refine (congrArg (V m c main_v1 : Vec Ideal S8x2048x1408 .bf16) e).trans ((chunk_apply m c _ l q).trans ?_)
  refine congrArg ((args m c).wgu l) (Fin.ext ?_)
  show 1408 * (4 + (2 * (t.val / 4) + p.val)) + q.val = 5632 * 1 + (1408 * (2 * (t.val / 4) + p.val) + q.val)
  omega

include hp in
theorem prod_gates (t : Fin (cfgM m hO).N) (ht : t.val < 8) (r : Fin 512) (q : Fin 1408) :
    prod (iblk m hO c 0 t) (iblk m hO c 1 t) r q = Ffn.GU (args m c) (row t.val r) (Ffn.col 0 (col t.val ht p q)) := by
  unfold prod Ffn.GU
  exact Finset.sum_congr rfl fun l _ => congrArg₂ (· * ·) (blk_0 m c hO p hp t r l) (blk_1 m c hO p hp t ht l q)
include hp in
theorem prod_values (t : Fin (cfgM m hO).N) (ht : t.val < 8) (r : Fin 512) (q : Fin 1408) :
    prod (iblk m hO c 0 t) (iblk m hO c 2 t) r q = Ffn.GU (args m c) (row t.val r) (Ffn.col 1 (col t.val ht p q)) := by
  unfold prod Ffn.GU
  exact Finset.sum_congr rfl fun l _ => congrArg₂ (· * ·) (blk_0 m c hO p hp t r l) (blk_2 m c hO p hp t ht l q)

/-! ## The arrays -/

/-- The array of the gates and the values: the columns of the parity's chunks are written, the others are kept. -/
def guAfter : S2x2048x5632.Idx → EReal := fun y =>
  if (y 2).val / 1408 % 2 = p.val then Ffn.GU (args m c) (y 1) (Ffn.col (y 0) (y 2)) else (m ((c : Thread nD τ).loc main_arg3) : Vec Ideal S2x2048x5632 .bf16) y
/-- The array of the activations. -/
def actAfter : S2048x5632.Idx → EReal := fun y =>
  if (y 1).val / 1408 % 2 = p.val then Ffn.A (args m c) (y 0) (y 1) else (m ((c : Thread nD τ).loc main_arg4) : Vec Ideal S2048x5632 .bf16) y

include hp in
theorem gu_arr : (dats m hO 0 c).arrAt 3 (cfgM m hO).N = guAfter m c p := by
  refine ((dats m hO 0 c).arrAt_eq_of_coversWhere 3 (fun y : S2x2048x5632.Idx => Ffn.GU (args m c) (y 1) (Ffn.col (y 0) (y 2)))
    (P := fun y : S2x2048x5632.Idx => (y 2).val / 1408 % 2 = p.val)
    (fun β => β (2 : Fin 3) % 2 = p.val) (covers_3 (adm m hO) p hp) (fun t hf y => ?_) (fun j => Iff.rfl)).trans ?_
  · have ht : t.val < 8 := t.isLt
    have h := at_3 (adm m hO) p hp t
    blk_simp
    rw [after0_3]
    obtain ⟨b, r, q, rfl⟩ := idx3 (a := 2) (b := 512) (c := 1408) y
    have e0 : ((((cfgM m hO).win 3).blk t).view.emb (ix3 b r q) (0 : Fin 3) : Fin 2) = b := Fin.ext (by
      show ((cfgM m hO).win 3).index t (0 : Fin 3) * 2 + 1 * b.val = b.val; rw [h.1]; omega)
    have e1 : ((((cfgM m hO).win 3).blk t).view.emb (ix3 b r q) (1 : Fin 3) : Fin 2048) = row t.val r := Fin.ext (by
      show ((cfgM m hO).win 3).index t (1 : Fin 3) * 512 + 1 * r.val = 512 * (t.val % 4) + r.val; rw [h.2.1]; omega)
    have e2 : ((((cfgM m hO).win 3).blk t).view.emb (ix3 b r q) (2 : Fin 3) : Fin 5632) = col t.val ht p q := Fin.ext (by
      show ((cfgM m hO).win 3).index t (2 : Fin 3) * 1408 + 1 * q.val = 1408 * (2 * (t.val / 4) + p.val) + q.val; rw [h.2.2]; omega)
    refine Eq.trans ?_ (congrArg₂ (fun i f => Ffn.GU (args m c) i f) e1 (congrArg₂ Ffn.col e0 e2)).symm
    unfold outsAt0
    dsimp only
    refine (up_gu _ _ _ _ _ _ _ _ _ _ _ _ _ _ _ _ (ix3 b r q)).trans ?_
    match b with
    | ⟨0, _⟩ => exact prod_gates m c hO p hp t ht r q
    | ⟨1, _⟩ => exact prod_values m c hO p hp t ht r q
  · funext y
    unfold guAfter
    rw [A_eq]
    exact if_congr Iff.rfl rfl (congrFun (V_gu m c) y)

include hp in
theorem act_arr : (dats m hO 0 c).arrAt 4 (cfgM m hO).N = actAfter m c p := by
  refine ((dats m hO 0 c).arrAt_eq_of_coversWhere 4 (fun y : S2048x5632.Idx => Ffn.A (args m c) (y 0) (y 1))
    (P := fun y : S2048x5632.Idx => (y 1).val / 1408 % 2 = p.val)
    (fun β => β (1 : Fin 2) % 2 = p.val) (covers_4 (adm m hO) p hp) (fun t hf y => ?_) (fun j => Iff.rfl)).trans ?_
  · have ht : t.val < 8 := t.isLt
    have h := at_4 (adm m hO) p hp t
    blk_simp
    rw [after0_4]
    obtain ⟨r, q, rfl⟩ := idx2 (a := 512) (b := 1408) y
    have e0 : ((((cfgM m hO).win 4).blk t).view.emb (ix2 r q) (0 : Fin 2) : Fin 2048) = row t.val r := Fin.ext (by
      show ((cfgM m hO).win 4).index t (0 : Fin 2) * 512 + 1 * r.val = 512 * (t.val % 4) + r.val; rw [h.1]; omega)
    have e1 : ((((cfgM m hO).win 4).blk t).view.emb (ix2 r q) (1 : Fin 2) : Fin 5632) = col t.val ht p q := Fin.ext (by
      show ((cfgM m hO).win 4).index t (1 : Fin 2) * 1408 + 1 * q.val = 1408 * (2 * (t.val / 4) + p.val) + q.val; rw [h.2]; omega)
    refine Eq.trans ?_ (congrArg₂ (fun i f => Ffn.A (args m c) i f) e0 e1).symm
    unfold outsAt0
    dsimp only
    refine (up_act _ _ _ _ _ _ _ _ _ _ _ _ _ _ _ _ (ix2 r q)).trans ?_
    exact congrArg₂ Ffn.act (prod_gates m c hO p hp t ht r q) (prod_values m c hO p hp t ht r q)
  · funext y
    unfold actAfter
    rw [A_eq]
    exact if_congr Iff.rfl rfl (congrFun (V_act m c) y)

include hO hp in
/-- The run leaves the two arrays, and the arguments as they were. -/
theorem run : θ_run defs (onTc (τ := τ) (main (F := Ideal))) ⟨m, fun _ => 0, ρ⟩ fun r => ∀ c : Dev nD,
      r.2.mem ((c.tc : Thread nD τ).loc main_v2_0) = guAfter m c p
      ∧ r.2.mem ((c.tc : Thread nD τ).loc main_v2_1) = actAfter m c p
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 3).trans (gu_arr m c hO p hp), ((h c).1 4).trans (act_arr m c hO p hp),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩)
    (run_main m ρ hO)

end Cert.Kernel9Ideal.Value

end
-- ==== Proof.Up2.Run8.lean ====
/-
  The first half of the gates and the values: what the call leaves in its arrays.
-/
module

public import proofs.«01_k».proof.Proof.Up2.Table8
public import proofs.«01_k».proof.Proof.Up2.Run9
public import proofs.«01_k».proof.Proof.Ffn.Up
import Idealize.ShloMosaic.Lib.Pointwise
import Idealize.ShloMosaic.Lib.IdealHost

@[expose] public section

noncomputable section

namespace Cert.Kernel8Ideal.Value

open Idealize.ShloMosaic Idealize.ShloMosaic.TcCoe Idealize.SL.Sem Cert.Kernel8Ideal Cert.Kernel8Ideal.Gen
open Idealize.ShloMosaic.Pipeline (Dat)
open Cert.Kernel9Ideal.Value (row col)
open Cert.Kernel2Ideal.Value (prod guBlock actBlock idx2 idx3 ld_rows gu_piece256 gu_piece128 act_piece256 act_piece128)

/-! ## The body -/

section
variable (c : Dev nD) (i : grid0.Coords) (arg3 : Memref sig .tc .vmem S512x2048 .bf16) (harg3 : arg3.IsWhole)
  (arg4 : Memref sig .tc .vmem S1x2048x1408 .bf16) (harg4 : arg4.IsWhole) (arg5 : Memref sig .tc .vmem S1x2048x1408 .bf16) (harg5 : arg5.IsWhole)
  (arg6 : Memref sig .tc .vmem S2x512x1408 .bf16) (harg6 : arg6.IsWhole) (arg7 : Memref sig .tc .vmem S512x1408 .bf16) (harg7 : arg7.IsWhole)
  (x0 : Vec Ideal S512x2048 .bf16) (x1 x2 : Vec Ideal S1x2048x1408 .bf16) (xt0 : TbBuf0 (F := Ideal) c tbM0_0)

set_option maxRecDepth 65536 in
/-- The first block holds the gates in its first plane and the values in its second. -/
theorem up_gu (y : S2x512x1408.Idx) :
    out0_A_3 c i arg3 harg3 arg4 harg4 arg5 harg5 arg6 harg6 arg7 harg7 x0 x1 x2 xt0 y = guBlock x0 x1 x2 y := by
  unfold out0_A_3
  refine View.read_writes_apply_of_pieces _ _ (guBlock x0 x1 x2) _ ?_ _ (cover0_A_3 c i arg3 harg3 arg4 harg4 arg5 harg5 arg6 harg6 arg7 harg7 x0 x1 x2 xt0 y)
  unfold kernelRun0_A; dsimp only; sl_unfold_words
  simp only [View.readAt_eq_ld]
  rw [harg3.read_unread x0, harg4.read_unread x1, harg5.read_unread x2, ld_rows x0]
  have g0 : ∀ r q, guBlock x0 x1 x2 (ix3 0 r q) = prod x0 x1 r q := fun _ _ => rfl
  have g1 : ∀ r q, guBlock x0 x1 x2 (ix3 1 r q) = prod x0 x2 r q := fun _ _ => rfl
  intro p hp
  simp only [List.mem_cons, List.not_mem_nil, or_false] at hp
  rcases hp with rfl | rfl | rfl | rfl | rfl | rfl | rfl | rfl | rfl | rfl | rfl | rfl
  · exact gu_piece128 x0 x2 1280 (by decide) 1 (by decide) (by decide) _ g1
  · exact gu_piece128 x0 x1 1280 (by decide) 0 (by decide) (by decide) _ g0
  · exact gu_piece256 x0 x2 1024 (by decide) 1 (by decide) (by decide) _ g1
  · exact gu_piece256 x0 x1 1024 (by decide) 0 (by decide) (by decide) _ g0
  · exact gu_piece256 x0 x2 768 (by decide) 1 (by decide) (by decide) _ g1
  · exact gu_piece256 x0 x1 768 (by decide) 0 (by decide) (by decide) _ g0
  · exact gu_piece256 x0 x2 512 (by decide) 1 (by decide) (by decide) _ g1
  · exact gu_piece256 x0 x1 512 (by decide) 0 (by decide) (by decide) _ g0
  · exact gu_piece256 x0 x2 256 (by decide) 1 (by decide) (by decide) _ g1
  · exact gu_piece256 x0 x1 256 (by decide) 0 (by decide) (by decide) _ g0
  · exact gu_piece256 x0 x2 0 (by decide) 1 (by decide) (by decide) _ g1
  · exact gu_piece256 x0 x1 0 (by decide) 0 (by decide) (by decide) _ g0

set_option maxRecDepth 65536 in
/-- The second block holds the activations. -/
theorem up_act (y : S512x1408.Idx) :
    out0_A_4 c i arg3 harg3 arg4 harg4 arg5 harg5 arg6 harg6 arg7 harg7 x0 x1 x2 xt0 y = actBlock x0 x1 x2 y := by
  unfold out0_A_4
  refine View.read_writes_apply_of_pieces _ _ (actBlock x0 x1 x2) _ ?_ _ (cover0_A_4 c i arg3 harg3 arg4 harg4 arg5 harg5 arg6 harg6 arg7 harg7 x0 x1 x2 xt0 y)
  unfold kernelRun0_A; dsimp only; sl_unfold_words
  simp only [View.readAt_eq_ld]
  rw [harg3.read_unread x0, harg4.read_unread x1, harg5.read_unread x2, ld_rows x0]
  have g : ∀ r q, actBlock x0 x1 x2 (ix2 r q) = Ffn.act (prod x0 x1 r q) (prod x0 x2 r q) := fun _ _ => rfl
  intro p hp
  simp only [List.mem_cons, List.not_mem_nil, or_false] at hp
  rcases hp with rfl | rfl | rfl | rfl | rfl | rfl
  · exact act_piece128 x0 x1 x2 1280 (by decide) (by decide) (by decide) _ g
  · exact act_piece256 x0 x1 x2 1024 (by decide) (by decide) (by decide) _ g
  · exact act_piece256 x0 x1 x2 768 (by decide) (by decide) (by decide) _ g
  · exact act_piece256 x0 x1 x2 512 (by decide) (by decide) (by decide) _ g
  · exact act_piece256 x0 x1 x2 256 (by decide) (by decide) (by decide) _ g
  · exact act_piece256 x0 x1 x2 0 (by decide) (by decide) (by decide) _ g
end

/-! ## The blocks that a step reads -/

variable (m : (ℓ : Loc nD τ sig) → Buf (Elt Ideal) ℓ) (ρ : Dev nD → PrngReg) (c : Dev nD)

/-- The arguments, by coordinates. -/
def args : Ffn.Args := Up2.args
  (fun i l => (m ((c : Thread nD τ).loc main_arg1) : Vec Ideal S2048x2048 .bf16) (ix2 i l))
  (fun l f => (m ((c : Thread nD τ).loc main_arg2) : Vec Ideal S2048x11264 .bf16) (ix2 l f))

theorem V_w : V m c main_v1 = transpose S8x2048x1408 [1, 0, 2] (shapeCast S2048x8x1408 (m ((c : Thread nD τ).loc main_arg2) : Vec Ideal S2048x11264 .bf16) shapeCasts_S2048x11264_S2048x8x1408)
    transposes_S2048x8x1408_S8x2048x1408_1_0_2 := by
  rfl

theorem chunk_apply (k : Fin 8) (l : Fin 2048) (q : Fin 1408) : (V m c main_v1 : Vec Ideal S8x2048x1408 .bf16) (ix3 k l q) = (args m c).wgu l (Ffn.chunk k q) :=
  (congrFun (V_w m c) _).trans (Cert.Kernel9Ideal.Value.chunk_at _ k l q)

variable (hO : Ok m) (p : Fin 2) (hp : tbl m = pf p)

include hp in
theorem blk_0 (t : Fin (cfgM m hO).N) (r : Fin 512) (l : Fin 2048) : (iblk m hO c 0 t : Vec Ideal S512x2048 .bf16) (ix2 r l) = (args m c).h (row t.val r) l := by
  have h := at_0 (adm m hO) p hp t
  show (V m c main_arg1 : Vec Ideal S2048x2048 .bf16) ((((cfgM m hO).win 0).blk t).view.emb (ix2 r l)) = _
  refine (congrFun (V_main_arg1 m c) _).trans (congrArg (m ((c : Thread nD τ).loc main_arg1) : Vec Ideal S2048x2048 .bf16) (funext fun k => Fin.ext ?_))
  match k with
  | ⟨0, _⟩ => show ((cfgM m hO).win 0).index t (0 : Fin 2) * 512 + 1 * r.val = _; rw [h.1]; show _ = 512 * (t.val % 4) + r.val; omega
  | ⟨1, _⟩ => show ((cfgM m hO).win 0).index t (1 : Fin 2) * 2048 + 1 * l.val = _; rw [h.2]; show _ = l.val; omega
include hp in
theorem blk_1 (t : Fin (cfgM m hO).N) (ht : t.val < 8) (l : Fin 2048) (q : Fin 1408) :
    (iblk m hO c 1 t : Vec Ideal S1x2048x1408 .bf16) (ix3 0 l q) = (args m c).wgu l (Ffn.col 0 (col t.val ht p q)) := by
  have h := at_1 (adm m hO) p hp t
  show (V m c main_v1 : Vec Ideal S8x2048x1408 .bf16) ((((cfgM m hO).win 1).blk t).view.emb (ix3 0 l q)) = _
  have e : (((cfgM m hO).win 1).blk t).view.emb (ix3 0 l q) = (ix3 ⟨2 * (t.val / 4) + p.val, by omega⟩ l q : S8x2048x1408.Idx) := by
    funext k; apply Fin.ext
    match k with
    | ⟨0, _⟩ => show ((cfgM m hO).win 1).index t (0 : Fin 3) * 1 + 1 * 0 = _; rw [h.1]; show _ = 2 * (t.val / 4) + p.val; omega
    | ⟨1, _⟩ => show ((cfgM m hO).win 1).index t (1 : Fin 3) * 2048 + 1 * l.val = _; rw [h.2.1]; show _ = l.val; omega
    | ⟨2, _⟩ => show ((cfgM m hO).win 1).index t (2 : Fin 3) * 1408 + 1 * q.val = _; rw [h.2.2]; show _ = q.val; omega
  refine (congrArg (V m c main_v1 : Vec Ideal S8x2048x1408 .bf16) e).trans ((chunk_apply m c _ l q).trans ?_)
  refine congrArg ((args m c).wgu l) (Fin.ext ?_)
  show 1408 * (2 * (t.val / 4) + p.val) + q.val = 5632 * 0 + (1408 * (2 * (t.val / 4) + p.val) + q.val)
  omega
include hp in
theorem blk_2 (t : Fin (cfgM m hO).N) (ht : t.val < 8) (l : Fin 2048) (q : Fin 1408) :
    (iblk m hO c 2 t : Vec Ideal S1x2048x1408 .bf16) (ix3 0 l q) = (args m c).wgu l (Ffn.col 1 (col t.val ht p q)) := by
  have h := at_2 (adm m hO) p hp t
  show (V m c main_v1 : Vec Ideal S8x2048x1408 .bf16) ((((cfgM m hO).win 2).blk t).view.emb (ix3 0 l q)) = _
  have e : (((cfgM m hO).win 2).blk t).view.emb (ix3 0 l q) = (ix3 ⟨4 + (2 * (t.val / 4) + p.val), by omega⟩ l q : S8x2048x1408.Idx) := by
    funext k; apply Fin.ext
    match k with
    | ⟨0, _⟩ => show ((cfgM m hO).win 2).index t (0 : Fin 3) * 1 + 1 * 0 = _; rw [h.1]; show _ = 4 + (2 * (t.val / 4) + p.val); omega
    | ⟨1, _⟩ => show ((cfgM m hO).win 2).index t (1 : Fin 3) * 2048 + 1 * l.val = _; rw [h.2.1]; show _ = l.val; omega
    | ⟨2, _⟩ => show ((cfgM m hO).win 2).index t (2 : Fin 3) * 1408 + 1 * q.val = _; rw [h.2.2]; show _ = q.val; omega
  refine (congrArg (V m c main_v1 : Vec Ideal S8x2048x1408 .bf16) e).trans ((chunk_apply m c _ l q).trans ?_)
  refine congrArg ((args m c).wgu l) (Fin.ext ?_)
  show 1408 * (4 + (2 * (t.val / 4) + p.val)) + q.val = 5632 * 1 + (1408 * (2 * (t.val / 4) + p.val) + q.val)
  omega

include hp in
theorem prod_gates (t : Fin (cfgM m hO).N) (ht : t.val < 8) (r : Fin 512) (q : Fin 1408) :
    prod (iblk m hO c 0 t) (iblk m hO c 1 t) r q = Ffn.GU (args m c) (row t.val r) (Ffn.col 0 (col t.val ht p q)) := by
  unfold prod Ffn.GU
  exact Finset.sum_congr rfl fun l _ => congrArg₂ (· * ·) (blk_0 m c hO p hp t r l) (blk_1 m c hO p hp t ht l q)
include hp in
theorem prod_values (t : Fin (cfgM m hO).N) (ht : t.val < 8) (r : Fin 512) (q : Fin 1408) :
    prod (iblk m hO c 0 t) (iblk m hO c 2 t) r q = Ffn.GU (args m c) (row t.val r) (Ffn.col 1 (col t.val ht p q)) := by
  unfold prod Ffn.GU
  exact Finset.sum_congr rfl fun l _ => congrArg₂ (· * ·) (blk_0 m c hO p hp t r l) (blk_2 m c hO p hp t ht l q)

/-! ## The arrays -/

include hp in
/-- In the columns of the parity's chunks the first array holds the gates and the values. -/
theorem gu_arr (b : Fin 2) (i : Fin 2048) (f : Fin 5632) (own : f.val / 1408 % 2 = p.val) :
    ((dats m hO 0 c).arrAt 3 (cfgM m hO).N : S2x2048x5632.Idx → EReal) (ix3 b i f) = Ffn.GU (args m c) i (Ffn.col b f) := by
  refine (congrFun ((dats m hO 0 c).arrAt_eq_of_coversWhere 3 (fun y : S2x2048x5632.Idx => Ffn.GU (args m c) (y 1) (Ffn.col (y 0) (y 2)))
    (P := fun y : S2x2048x5632.Idx => (y 2).val / 1408 % 2 = p.val)
    (fun β => β (2 : Fin 3) % 2 = p.val) (covers_3 (adm m hO) p hp) (fun t hf y => ?_) (fun j => Iff.rfl)) (ix3 b i f)).trans (if_pos own)
  have ht : t.val < 8 := t.isLt
  have h := at_3 (adm m hO) p hp t
  blk_simp
  rw [after0_3]
  obtain ⟨b, r, q, rfl⟩ := idx3 (a := 2) (b := 512) (c := 1408) y
  have e0 : ((((cfgM m hO).win 3).blk t).view.emb (ix3 b r q) (0 : Fin 3) : Fin 2) = b := Fin.ext (by
    show ((cfgM m hO).win 3).index t (0 : Fin 3) * 2 + 1 * b.val = b.val; rw [h.1]; omega)
  have e1 : ((((cfgM m hO).win 3).blk t).view.emb (ix3 b r q) (1 : Fin 3) : Fin 2048) = row t.val r := Fin.ext (by
    show ((cfgM m hO).win 3).index t (1 : Fin 3) * 512 + 1 * r.val = 512 * (t.val % 4) + r.val; rw [h.2.1]; omega)
  have e2 : ((((cfgM m hO).win 3).blk t).view.emb (ix3 b r q) (2 : Fin 3) : Fin 5632) = col t.val ht p q := Fin.ext (by
    show ((cfgM m hO).win 3).index t (2 : Fin 3) * 1408 + 1 * q.val = 1408 * (2 * (t.val / 4) + p.val) + q.val; rw [h.2.2]; omega)
  refine Eq.trans ?_ (congrArg₂ (fun i f => Ffn.GU (args m c) i f) e1 (congrArg₂ Ffn.col e0 e2)).symm
  unfold outsAt0
  dsimp only
  refine (up_gu _ _ _ _ _ _ _ _ _ _ _ _ _ _ _ _ (ix3 b r q)).trans ?_
  match b with
  | ⟨0, _⟩ => exact prod_gates m c hO p hp t ht r q
  | ⟨1, _⟩ => exact prod_values m c hO p hp t ht r q

include hp in
/-- And the second array the activations. -/
theorem act_arr (i : Fin 2048) (f : Fin 5632) (own : f.val / 1408 % 2 = p.val) :
    ((dats m hO 0 c).arrAt 4 (cfgM m hO).N : S2048x5632.Idx → EReal) (ix2 i f) = Ffn.A (args m c) i f := by
  refine (congrFun ((dats m hO 0 c).arrAt_eq_of_coversWhere 4 (fun y : S2048x5632.Idx => Ffn.A (args m c) (y 0) (y 1))
    (P := fun y : S2048x5632.Idx => (y 1).val / 1408 % 2 = p.val)
    (fun β => β (1 : Fin 2) % 2 = p.val) (covers_4 (adm m hO) p hp) (fun t hf y => ?_) (fun j => Iff.rfl)) (ix2 i f)).trans (if_pos own)
  have ht : t.val < 8 := t.isLt
  have h := at_4 (adm m hO) p hp t
  blk_simp
  rw [after0_4]
  obtain ⟨r, q, rfl⟩ := idx2 (a := 512) (b := 1408) y
  have e0 : ((((cfgM m hO).win 4).blk t).view.emb (ix2 r q) (0 : Fin 2) : Fin 2048) = row t.val r := Fin.ext (by
    show ((cfgM m hO).win 4).index t (0 : Fin 2) * 512 + 1 * r.val = 512 * (t.val % 4) + r.val; rw [h.1]; omega)
  have e1 : ((((cfgM m hO).win 4).blk t).view.emb (ix2 r q) (1 : Fin 2) : Fin 5632) = col t.val ht p q := Fin.ext (by
    show ((cfgM m hO).win 4).index t (1 : Fin 2) * 1408 + 1 * q.val = 1408 * (2 * (t.val / 4) + p.val) + q.val; rw [h.2]; omega)
  refine Eq.trans ?_ (congrArg₂ (fun i f => Ffn.A (args m c) i f) e0 e1).symm
  unfold outsAt0
  dsimp only
  refine (up_act _ _ _ _ _ _ _ _ _ _ _ _ _ _ _ _ (ix2 r q)).trans ?_
  exact congrArg₂ Ffn.act (prod_gates m c hO p hp t ht r q) (prod_values m c hO p hp t ht r q)

include hO hp in
/-- The run leaves the gates, the values and the activations in those columns, and the arguments as they were. -/
theorem run : θ_run defs (onTc (τ := τ) (main (F := Ideal))) ⟨m, fun _ => 0, ρ⟩ fun r => ∀ c : Dev nD,
      (∀ (b : Fin 2) (i : Fin 2048) (f : Fin 5632), f.val / 1408 % 2 = p.val →
        (r.2.mem ((c.tc : Thread nD τ).loc main_v2_0) : S2x2048x5632.Idx → EReal) (ix3 b i f) = Ffn.GU (args m c) i (Ffn.col b f))
      ∧ (∀ (i : Fin 2048) (f : Fin 5632), f.val / 1408 % 2 = p.val →
        (r.2.mem ((c.tc : Thread nD τ).loc main_v2_1) : S2048x5632.Idx → EReal) (ix2 i f) = Ffn.A (args m c) i f)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨fun b i f own => (congrFun ((h c).1 3) (ix3 b i f)).trans (gu_arr m c hO p hp b i f own),
      fun i f own => (congrFun ((h c).1 4) (ix2 i f)).trans (act_arr m c hO p hp i f own),
      ((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).2 main_arg2 (by decide : main_arg2 ∈ Pipeline.restRefs sig spec0)).trans (V_main_arg2 m c)⟩)
    (run_main m ρ hO)

end Cert.Kernel8Ideal.Value

end
-- ==== Proof.Up2.Claim8.lean ====
/-
  The first half of the gates and the values: the claims of its program.
-/
module

public import proofs.«01_k».proof.Proof.Up2.RefGu
public import proofs.«01_k».proof.Proof.Up2.Run8

@[expose] public section

noncomputable section

/-- The side conditions of the mask's operations. -/
theorem Cert.On_own_chunks.facts : Cert.On_own_chunks.Facts := ⟨by decide, by decide, by decide⟩

namespace Cert.Proof

open Idealize.ShloMosaic Idealize.SL.Sem

/-- The reference runs and leaves its arguments. -/
theorem frame_ri8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

section
variable (x0 : Vec Ideal Cert.Kernel8Ideal.S1 .i32) (x1 : Vec Ideal Cert.Kernel8Ideal.S2048x2048 .bf16) (x2 : Vec Ideal Cert.Kernel8Ideal.S2048x11264 .bf16)
  (p : Fin 2) (hx : x0 = fun _ => BitVec.ofNat 32 p.val)
include hx

/-- An element that the mask names lies in a column of the parity's chunks. -/
theorem own_gu (b : Fin 2) (i : Fin 2048) (f : Fin 5632)
    (h : (@Cert.On_own_chunks.fn Cert.On_own_chunks.facts Ideal _ x0 x1 x2).1 (ix3 b i f) = 1#1) : f.val / 1408 % 2 = p.val := by
  subst hx
  exact (Up2.own_col f p).1 h
theorem own_act (i : Fin 2048) (f : Fin 5632)
    (h : (@Cert.On_own_chunks.fn Cert.On_own_chunks.facts Ideal _ x0 x1 x2).2 (ix2 i f) = 1#1) : f.val / 1408 % 2 = p.val := by
  subst hx
  exact (Up2.own_col f p).1 h
end

/-- At a parity, the kernel and the reference leave the same elements in the columns of its chunks. -/
theorem algebraic8 : Cert.algebraic_Kernel8Ideal_Reference8Ideal_on_own_chunks (hPre_is_parity8 := Cert.Pre_is_parity8.facts)
    (hOn_own_chunks := Cert.On_own_chunks.facts) := by
  intro m ρ m' ρ' hpre hagree
  obtain ⟨p, hw, hp⟩ := Cert.Kernel8Ideal.Value.parity_of_pre m hpre
  refine ⟨fun c y => Ffn.GU (Cert.Kernel8Ideal.Value.args m c) (y 1) (Ffn.col (y 0) (y 2)), fun c y => Ffn.A (Cert.Kernel8Ideal.Value.args m c) (y 0) (y 1), ?_, ?_⟩
  · refine (θ_run Cert.Kernel8Ideal.defs _ _).mono (fun r h c => ?_) (Cert.Kernel8Ideal.Value.run m ρ (Cert.Kernel8Ideal.Value.ok_of_tbl m p hp) p hp)
    obtain ⟨h0, h1, hargs⟩ := h c
    obtain rfl : c = 0 := Subsingleton.elim (α := Fin 1) _ _
    refine ⟨fun y hy => ?_, fun y hy => ?_, hargs⟩
    · obtain ⟨b, i, f, rfl⟩ := Cert.Kernel2Ideal.Value.idx3 (a := 2) (b := 2048) (c := 5632) y
      exact h0 b i f (own_gu _ _ _ p hw b i f hy)
    · obtain ⟨i, f, rfl⟩ := Cert.Kernel2Ideal.Value.idx2 (a := 2048) (b := 5632) y
      exact h1 i f (own_act _ _ _ p hw i f hy)
  · refine (θ_run Cert.Reference8Ideal.defs _ _).mono (fun r h c => ?_) (Cert.Reference8Ideal.Value.run (F := Ideal) m' ρ')
    obtain ⟨h0, h1, hargs⟩ := h c
    obtain ⟨a0, a1, a2⟩ := hagree c
    refine ⟨fun y _ => ?_, fun y _ => ?_, hargs⟩
    · refine (congrFun h0 y).trans ?_
      rw [Cert.Reference8Ideal.Read.val_main_v8_eq, a1, a2]
      obtain ⟨b, i, f, rfl⟩ := Cert.Kernel2Ideal.Value.idx3 (a := 2) (b := 2048) (c := 5632) y
      exact Cert.Reference8Ideal.Read.r_gu _ _ b i f
    · refine (congrFun h1 y).trans ?_
      rw [Cert.Reference8Ideal.Read.val_main_v11_eq, a1, a2]
      obtain ⟨i, f, rfl⟩ := Cert.Kernel2Ideal.Value.idx2 (a := 2048) (b := 5632) y
      exact Cert.Reference8Ideal.Read.r_act _ _ i f

end Cert.Proof

end
-- ==== Proof.Up2.Claim9.lean ====
/-
  The second half of the gates and the values: the claims of its program.
-/
module

public import proofs.«01_k».proof.Proof.Gen.Reference9Ideal.Read
public import proofs.«01_k».proof.Proof.Up2.RefGu
public import proofs.«01_k».proof.Proof.Up2.Run9

@[expose] public section

noncomputable section

namespace Cert.Reference9Ideal.Read

open Idealize.ShloMosaic Cert.Reference9Ideal

variable (p : Fin 2) (x1 : Vec Ideal S2048x2048 .bf16) (x2 : Vec Ideal S2048x11264 .bf16) (x3 : Vec Ideal S2x2048x5632 .bf16) (x4 : Vec Ideal S2048x5632 .bf16)

/-- Where the column lies in a chunk of the parity the gates and the values are new, elsewhere they are kept. -/
theorem r_gu (b : Fin 2) (i : Fin 2048) (f : Fin 5632) : val_main_v20 (F := Ideal) (fun _ => BitVec.ofNat 32 p.val) x1 x2 x3 (ix3 b i f)
    = if f.val / 1408 % 2 = p.val then Ffn.GU (Cert.Reference8Ideal.Read.args x1 x2) i (Ffn.col b f) else x3 (ix3 b i f) := by
  show (if IntOp.cmpi .eq (IntOp.remsi .host (IntOp.divsi .host (BitVec.ofNat 32 f.val) 1408#32) 2#32) (BitVec.ofNat 32 p.val) = 1#1
    then val_main_v8 (F := Ideal) x1 x2 (ix3 b i f) else x3 (ix3 b i f)) = _
  exact if_congr (Up2.own_col f p) (Cert.Reference8Ideal.Read.r_gu x1 x2 b i f) rfl
/-- And so are the activations. -/
theorem r_act (i : Fin 2048) (f : Fin 5632) : val_main_v29 (F := Ideal) (fun _ => BitVec.ofNat 32 p.val) x1 x2 x4 (ix2 i f)
    = if f.val / 1408 % 2 = p.val then Ffn.A (Cert.Reference8Ideal.Read.args x1 x2) i f else x4 (ix2 i f) := by
  show (if IntOp.cmpi .eq (IntOp.remsi .host (IntOp.divsi .host (BitVec.ofNat 32 f.val) 1408#32) 2#32) (BitVec.ofNat 32 p.val) = 1#1
    then val_main_v11 (F := Ideal) x1 x2 (ix2 i f) else x4 (ix2 i f)) = _
  exact if_congr (Up2.own_col f p) (Cert.Reference8Ideal.Read.r_act x1 x2 i f) rfl

end Cert.Reference9Ideal.Read

namespace Cert.Proof

open Idealize.ShloMosaic Idealize.SL.Sem

/-- The reference runs and leaves its arguments. -/
theorem frame_ri9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- At a parity, the kernel and the reference leave the same arrays. -/
theorem algebraic9 : Cert.algebraic_Kernel9Ideal_Reference9Ideal (hPre_is_parity9 := Cert.Pre_is_parity9.facts) := by
  intro m ρ m' ρ' hpre hagree
  obtain ⟨p, hw, hp⟩ := Cert.Kernel9Ideal.Value.parity_of_pre m hpre
  refine ⟨_, _, Cert.Kernel9Ideal.Value.run m ρ (Cert.Kernel9Ideal.Value.ok_of_tbl m p hp) p hp, ?_⟩
  refine (θ_run Cert.Reference9Ideal.defs _ _).mono (fun r h c => ?_) (Cert.Reference9Ideal.Value.run (F := Ideal) m' ρ')
  obtain ⟨h0, h1, hargs⟩ := h c
  obtain ⟨a0, a1, a2, a3, a4⟩ := hagree c
  obtain rfl : c = 0 := Subsingleton.elim (α := Fin 1) _ _
  refine ⟨h0.trans ?_, h1.trans ?_, hargs⟩
  · rw [Cert.Reference9Ideal.Read.val_main_v20_eq, a0, a1, a2, a3]
    funext y
    obtain ⟨b, i, f, rfl⟩ := Cert.Kernel2Ideal.Value.idx3 (a := 2) (b := 2048) (c := 5632) y
    refine (congrArg (fun w => Cert.Reference9Ideal.Read.val_main_v20 (F := Ideal) w _ _ _ _) hw).trans ?_
    exact Cert.Reference9Ideal.Read.r_gu p _ _ _ b i f
  · rw [Cert.Reference9Ideal.Read.val_main_v29_eq, a0, a1, a2, a4]
    funext y
    obtain ⟨i, f, rfl⟩ := Cert.Kernel2Ideal.Value.idx2 (a := 2048) (b := 5632) y
    refine (congrArg (fun w => Cert.Reference9Ideal.Read.val_main_v29 (F := Ideal) w _ _ _ _) hw).trans ?_
    exact Cert.Reference9Ideal.Read.r_act p _ _ _ i f

end Cert.Proof

end
-- ==== Proof.Pair.Spec.lean ====
/-
  The gradient of a layer's weights, summed over two devices, chunk by chunk of the columns.
-/
module

public import Idealize.ShloMosaic.PureOps.Ideal

@[expose] public section

noncomputable section

namespace Pair

/-- The two devices' inputs of the layer and their gradients at the gates (plane 0) and at the values (plane 1). -/
structure Args where
  h : Fin 2048 → Fin 2048 → EReal
  h' : Fin 2048 → Fin 2048 → EReal
  d : Fin 2 → Fin 2048 → Fin 5632 → EReal
  d' : Fin 2 → Fin 2048 → Fin 5632 → EReal

/-- Of the eight chunks of 1408 columns, every second one starting at `p` is core `p`'s: the plane and the column of column `q` of its chunk `k`. -/
def plane (p : Fin 2) (k : Fin 4) : Fin 2 := ⟨(2 * k.val + p.val) / 4, by omega⟩
def col (p : Fin 2) (k : Fin 4) (q : Fin 1408) : Fin 5632 := ⟨1408 * ((2 * k.val + p.val) % 4) + q.val, by omega⟩

/-- The sum of the two devices' gradients at the weight in row `l` and column `q` of chunk `k` of core `p`. -/
def G (a : Args) (p : Fin 2) (k : Fin 4) (l : Fin 2048) (q : Fin 1408) : EReal :=
  ∑ i : Fin 2048, a.h i l * a.d (plane p k) i (col p k q) + ∑ i : Fin 2048, a.h' i l * a.d' (plane p k) i (col p k q)

end Pair

end
-- ==== Proof.Pair.Ref.lean ====
/-
  The sum of the two devices' gradients that the reference computes, at a chunk, a row and a column.
-/
module

public import proofs.«01_k».proof.Proof.Gen.Reference10Ideal.Read
public import proofs.«01_k».proof.Proof.Pair.Spec
public import Idealize.ShloMosaic.Lib.Pipeline.ValueKit
public import Idealize.ShloMosaic.Lib.Pointwise
import Idealize.ShloMosaic.Lib.IdealHost

@[expose] public section

noncomputable section

namespace Cert.Reference10Ideal.Read

open Idealize.ShloMosaic Cert.Reference10Ideal Cert.Reference10Ideal.Gen

variable (x0 : Vec Ideal S2 .i32) (x1 x2 : Vec Ideal S2048x2048 .bf16) (x3 x4 : Vec Ideal S2x2048x5632 .bf16)

/-- The arguments, by coordinates. -/
def args : Pair.Args where
  h i l := x1 (ix2 i l)
  h' i l := x2 (ix2 i l)
  d b i f := x3 (ix3 b i f)
  d' b i f := x4 (ix3 b i f)

/-- A gradient, its two planes beside one another. -/
theorem r_flat (i : Fin 2048) (b : Fin 2) (f : Fin 5632) : val_main_v7 (F := Ideal) x3 (ix2 i ⟨5632 * b.val + f.val, by omega⟩) = x3 (ix3 b i f) := by
  pointwise [val_main_v7, val_main_v6, val_main_v5]

/-- One device's gradient, at a row of the weights and a column of a plane. -/
theorem r_one (l : Fin 2048) (b : Fin 2) (f : Fin 5632) :
    val_main_v14 (F := Ideal) x1 x3 (ix2 l ⟨5632 * b.val + f.val, by omega⟩) = ∑ i : Fin 2048, x1 (ix2 i l) * x3 (ix3 b i f) := by
  rw [val_main_v14_apply, val_main_v13_apply]
  refine Finset.sum_congr rfl fun i _ => ?_
  rw [← r_flat x3 i b f]
  refine (mul_comm _ _).trans (congrArg₂ (· * ·) (congrArg x1 (funext fun k => ?_)) (congrArg (val_main_v7 (F := Ideal) x3) (funext fun k => ?_)))
  · match k with
    | ⟨0, _⟩ => rfl
    | ⟨1, _⟩ => rfl
  · match k with
    | ⟨0, _⟩ => rfl
    | ⟨1, _⟩ => rfl
/-- The other device's is the same of its own arguments. -/
theorem r_other (l : Fin 2048) (b : Fin 2) (f : Fin 5632) :
    val_main_v12 (F := Ideal) x2 x4 (ix2 l ⟨5632 * b.val + f.val, by omega⟩) = ∑ i : Fin 2048, x2 (ix2 i l) * x4 (ix3 b i f) :=
  r_one x2 x4 l b f

/-- Where the reshapes and the exchange of axes find an element. -/
theorem at_18 (k : Fin 4) (p : Fin 2) (l : Fin 2048) (q : Fin 1408) : idx_main_v18 (ix4 k p l q) = ix3 ⟨2 * k.val + p.val, by omega⟩ l q := by
  refine funext fun a => Fin.ext ?_
  match a with
  | ⟨0, _⟩ => show (((k.val * 2 + p.val) * 2048 + l.val) * 1408 + q.val) / 2883584 = 2 * k.val + p.val; omega
  | ⟨1, _⟩ => show (((k.val * 2 + p.val) * 2048 + l.val) * 1408 + q.val) / 1408 % 2048 = l.val; omega
  | ⟨2, _⟩ => show (((k.val * 2 + p.val) * 2048 + l.val) * 1408 + q.val) % 1408 = q.val; omega
theorem at_17 (e : Fin 8) (l : Fin 2048) (q : Fin 1408) : idx_main_v17 (ix3 e l q) = ix3 l e q := by
  refine funext fun a => ?_
  match a with
  | ⟨0, _⟩ => rfl
  | ⟨1, _⟩ => rfl
  | ⟨2, _⟩ => rfl
theorem at_16 (l : Fin 2048) (e : Fin 8) (q : Fin 1408) : idx_main_v16 (ix3 l e q) = ix2 l ⟨1408 * e.val + q.val, by omega⟩ := by
  refine funext fun a => Fin.ext ?_
  match a with
  | ⟨0, _⟩ => show ((l.val * 8 + e.val) * 1408 + q.val) / 11264 = l.val; omega
  | ⟨1, _⟩ => show ((l.val * 8 + e.val) * 1408 + q.val) % 11264 = 1408 * e.val + q.val; omega
theorem at_23 (k : Fin 4) (l : Fin 2048) (q : Fin 1408) : idx_main_v22 (idx_main_v23 (ix3 k l q)) = ix4 k 0 l q := by
  refine funext fun a => Fin.ext ?_
  match a with
  | ⟨0, _⟩ => show ((k.val * 2048 + l.val) * 1408 + q.val) / 2883584 = k.val; omega
  | ⟨1, _⟩ => rfl
  | ⟨2, _⟩ => show ((k.val * 2048 + l.val) * 1408 + q.val) / 1408 % 2048 = l.val; omega
  | ⟨3, _⟩ => show ((k.val * 2048 + l.val) * 1408 + q.val) % 1408 = q.val; omega
theorem at_25 (k : Fin 4) (l : Fin 2048) (q : Fin 1408) : idx_main_v24 (idx_main_v25 (ix3 k l q)) = ix4 k 1 l q := by
  refine funext fun a => Fin.ext ?_
  match a with
  | ⟨0, _⟩ => show ((k.val * 2048 + l.val) * 1408 + q.val) / 2883584 = k.val; omega
  | ⟨1, _⟩ => rfl
  | ⟨2, _⟩ => show ((k.val * 2048 + l.val) * 1408 + q.val) / 1408 % 2048 = l.val; omega
  | ⟨3, _⟩ => show ((k.val * 2048 + l.val) * 1408 + q.val) % 1408 = q.val; omega

/-- The column of a chunk of either core. -/
theorem flat (p : Fin 2) (k : Fin 4) (q : Fin 1408) : 1408 * (2 * k.val + p.val) + q.val = 5632 * (Pair.plane p k).val + (Pair.col p k q).val := by
  show _ = 5632 * ((2 * k.val + p.val) / 4) + (1408 * ((2 * k.val + p.val) % 4) + q.val)
  omega

/-- The sum of the two, at a chunk of either core. -/
theorem r_chunk (p : Fin 2) (k : Fin 4) (l : Fin 2048) (q : Fin 1408) :
    val_main_v18 (F := Ideal) x1 x2 x3 x4 (ix4 k p l q) = Pair.G (args x1 x2 x3 x4) p k l q := by
  rw [val_main_v18_apply, at_18, val_main_v17_apply, at_17, val_main_v16_apply, at_16, val_main_v15_apply]
  simp only [flat p k q]
  refine (congrArg₂ (· + ·) (r_other x2 x4 l (Pair.plane p k) (Pair.col p k q)) (r_one x1 x3 l (Pair.plane p k) (Pair.col p k q))).trans ?_
  exact add_comm _ _

theorem r_even (k : Fin 4) (l : Fin 2048) (q : Fin 1408) : val_main_v23 (F := Ideal) x1 x2 x3 x4 (ix3 k l q) = Pair.G (args x1 x2 x3 x4) 0 k l q := by
  rw [val_main_v23_apply, val_main_v22_apply, at_23, r_chunk]
theorem r_odd (k : Fin 4) (l : Fin 2048) (q : Fin 1408) : val_main_v25 (F := Ideal) x1 x2 x3 x4 (ix3 k l q) = Pair.G (args x1 x2 x3 x4) 1 k l q := by
  rw [val_main_v25_apply, val_main_v24_apply, at_25, r_chunk]

/-- The reference's result: the chunks of the core that the first word names. -/
theorem r_own (p : Fin 2) (h0 : x0 (ix1 0) = BitVec.ofNat 32 p.val) (k : Fin 4) (l : Fin 2048) (q : Fin 1408) :
    val_main_v27 (F := Ideal) x0 x1 x2 x3 x4 (ix3 k l q) = Pair.G (args x1 x2 x3 x4) p k l q := by
  have e : val_main_v27 (F := Ideal) x0 x1 x2 x3 x4 (ix3 k l q)
      = if IntOp.cmpi .eq (x0 (ix1 0)) 0#32 = 1#1 then val_main_v23 (F := Ideal) x1 x2 x3 x4 (ix3 k l q) else val_main_v25 (F := Ideal) x1 x2 x3 x4 (ix3 k l q) := by
    show val_main_v26 (F := Ideal) x0 x1 x2 x3 x4 (ix3 k l q) = _
    unfold val_main_v26 val_main_v21 val_main_v20 val_main_v19 val_main_c
    generalize val_main_v23 (F := Ideal) x1 x2 x3 x4 = u
    generalize val_main_v25 (F := Ideal) x1 x2 x3 x4 = v
    pointwise
    rfl
  rw [e, h0]
  match p with
  | ⟨0, _⟩ => exact r_even x1 x2 x3 x4 k l q
  | ⟨1, _⟩ => exact r_odd x1 x2 x3 x4 k l q

end Cert.Reference10Ideal.Read

end
-- ==== Proof.Pair.Place.lean ====
/-
  The second half step's weights' gradient: the place of a device, from the precondition.
-/
module

public import proofs.«01_k».proof.Defs
public import proofs.«01_k».proof.Proof.Gen.Kernel10.Flash
public import proofs.«01_k».proof.Proof.Gen.Kernel10Ideal.Flash
public import Idealize.ShloMosaic.Lib.StableHlo.Predicate
public import Idealize.ShloMosaic.Lib.Pipeline.ValueKit

@[expose] public section

noncomputable section

/-- The side conditions of the precondition's operations, and of the mask's. -/
theorem Cert.Pre_is_place.facts : Cert.Pre_is_place.Facts := ⟨by decide⟩
theorem Cert.On_own_slot.facts : Cert.On_own_slot.Facts := ⟨by decide⟩

namespace Pair

open Idealize.ShloMosaic

theorem both : ∀ a b : BitVec 1, IntOp.andi a b = 1#1 → a = 1#1 ∧ b = 1#1 := by decide

/-- A word that the comparisons find to be at least 0 and at most another is so as an integer. -/
theorem between (x y : BitVec 32) (h : IntOp.andi (IntOp.cmpi .sge x 0#32) (IntOp.cmpi .sle x y) = 1#1) : 0 ≤ x.toInt ∧ x.toInt ≤ y.toInt := by
  obtain ⟨h0, h1⟩ := both _ _ h
  have e0 : BitVec.ofBool ((0#32).sle x) = 1#1 := h0
  have e1 : BitVec.ofBool (x.sle y) = 1#1 := h1
  rw [StableHlo.Predicate.ofBool_eq_one_iff, BitVec.sle_iff_toInt_le] at e0 e1
  exact ⟨e0, e1⟩

/-- The first word of a place is 0 or 1. -/
theorem core_of (x : BitVec 32) (h : IntOp.andi (IntOp.cmpi .sge x 0#32) (IntOp.cmpi .sle x 1#32) = 1#1) : ∃ p : Fin 2, x = BitVec.ofNat 32 p.val := by
  obtain ⟨h0, h1⟩ := between x _ h
  have h1' : x.toInt ≤ 1 := h1
  have e := BitVec.ofInt_toInt (x := x)
  generalize x.toInt = z at h0 h1' e
  obtain rfl | rfl : z = 0 ∨ z = 1 := by omega
  · exact ⟨0, e.symm⟩
  · exact ⟨1, e.symm⟩
/-- And the second is 0. -/
theorem chip_of (x : BitVec 32) (h : IntOp.andi (IntOp.cmpi .sge x 0#32) (IntOp.cmpi .sle x 0#32) = 1#1) : x = 0#32 := by
  obtain ⟨h0, h1⟩ := between x _ h
  have h1' : x.toInt ≤ 0 := h1
  have e := BitVec.ofInt_toInt (x := x)
  generalize x.toInt = z at h0 h1' e
  obtain rfl : z = 0 := by omega
  exact e.symm

end Pair

namespace Cert.Kernel10.Value

open Idealize.ShloMosaic Idealize.ShloMosaic.TcCoe Idealize.SL.Sem Cert.Kernel10 Cert.Kernel10.Gen

/-- The words of the two places. -/
theorem place_core : ∀ p : Fin 2, pinT_0 p (ix1 0) = BitVec.ofNat 32 p.val := by decide
theorem place_chip : ∀ p : Fin 2, pinT_0 p (ix1 1) = 0#32 := by decide

/-- Under the precondition the first argument holds one of the two places. -/
theorem pinned_of_pre (m : (ℓ : Loc nD τ sig) → Buf (Elt Bits) ℓ) (h : Cert.Pre_Kernel10 (hPre_is_place := Cert.Pre_is_place.facts) m) : ∃ ch : Fin 2, Pinned ch m := by
  obtain ⟨p, hp⟩ := Pair.core_of _ (congrFun (h 0) (ix1 0))
  have hq := Pair.chip_of _ (congrFun (h 0) (ix1 1))
  refine ⟨p, fun c => ?_⟩
  obtain rfl : c = 0 := Subsingleton.elim (α := Fin 1) _ _
  funext x
  obtain ⟨k, rfl⟩ : ∃ k : Fin 2, x = ix1 k := ⟨x 0, funext fun a => match a with | ⟨0, _⟩ => rfl⟩
  match k with
  | ⟨0, _⟩ => exact hp.trans (place_core p).symm
  | ⟨1, _⟩ => exact hq.trans (place_chip p).symm

end Cert.Kernel10.Value

namespace Cert.Kernel10Ideal.Value

open Idealize.ShloMosaic Idealize.ShloMosaic.TcCoe Idealize.SL.Sem Cert.Kernel10Ideal Cert.Kernel10Ideal.Gen

/-- The words of the two places. -/
theorem place_core : ∀ p : Fin 2, pinT_0 p (ix1 0) = BitVec.ofNat 32 p.val := by decide
theorem place_chip : ∀ p : Fin 2, pinT_0 p (ix1 1) = 0#32 := by decide

/-- Under the precondition the first argument holds one of the two places. -/
theorem pinned_of_pre (m : (ℓ : Loc nD τ sig) → Buf (Elt Ideal) ℓ) (h : Cert.Pre_Kernel10Ideal (hPre_is_place := Cert.Pre_is_place.facts) m) : ∃ ch : Fin 2, Pinned ch m := by
  obtain ⟨p, hp⟩ := Pair.core_of _ (congrFun (h 0) (ix1 0))
  have hq := Pair.chip_of _ (congrFun (h 0) (ix1 1))
  refine ⟨p, fun c => ?_⟩
  obtain rfl : c = 0 := Subsingleton.elim (α := Fin 1) _ _
  funext x
  obtain ⟨k, rfl⟩ : ∃ k : Fin 2, x = ix1 k := ⟨x 0, funext fun a => match a with | ⟨0, _⟩ => rfl⟩
  match k with
  | ⟨0, _⟩ => exact hp.trans (place_core p).symm
  | ⟨1, _⟩ => exact hq.trans (place_chip p).symm

end Cert.Kernel10Ideal.Value

end
-- ==== Proof.Pair.Run.lean ====
/-
  The second half step's weights' gradient: what the call leaves in its arrays.
-/
module

public import proofs.«01_k».proof.Proof.Pair.Place
public import proofs.«01_k».proof.Proof.Pair.Spec
public import Idealize.ShloMosaic.Lib.Pipeline.ValueKit
import Idealize.ShloMosaic.Lib.Pointwise
import Idealize.ShloMosaic.Lib.IdealHost

@[expose] public section

noncomputable section

namespace Cert.Kernel10Ideal.Value

open Idealize.ShloMosaic Idealize.ShloMosaic.TcCoe Idealize.SL.Sem Cert.Kernel10Ideal Cert.Kernel10Ideal.Gen
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl
theorem idx3 {a b c : ℕ} (y : (⟨3, ![a, b, c]⟩ : Shape).Idx) : ∃ (p : Fin a) (r : Fin b) (q : Fin c), y = ix3 p r q :=
  ⟨y 0, y 1, y 2, funext fun k => match k with | ⟨0, _⟩ => rfl | ⟨1, _⟩ => rfl | ⟨2, _⟩ => rfl⟩

/-! ## The body -/

/-- The two products of the step's blocks, added. -/
def pairBlock (x0 x1 : Vec Ideal S2048x512 .bf16) (x2 x3 : Vec Ideal S1x2048x1408 .bf16) (r : Fin 512) (q : Fin 1408) : EReal :=
  ∑ i : Fin 2048, x0 (ix2 i r) * x2 (ix3 0 i q) + ∑ i : Fin 2048, x1 (ix2 i r) * x3 (ix3 0 i q)

theorem pay2_apply (x0 x1 : Vec Ideal S2048x512 .bf16) (x2 x3 : Vec Ideal S1x2048x1408 .bf16) (r : Fin 512) (q : Fin 1408) :
    k0_pay2 x0 x2 x1 x3 (ix3 0 r q) = pairBlock x0 x1 x2 x3 r q := by
  unfold pairBlock
  pointwise [k0_pay2, k0_pay1]
theorem pay3_apply (x0 x1 : Vec Ideal S2048x512 .bf16) (x2 x3 : Vec Ideal S1x2048x1408 .bf16) (r : Fin 512) (q : Fin 1408) :
    k0_pay3 x0 x2 x1 x3 (ix3 0 r q) = pairBlock x0 x1 x2 x3 r q := pay2_apply x0 x1 x2 x3 r q

section
variable (c : Dev nD) (i : grid0.Coords) (arg3 : Memref sig .tc .vmem S2048x512 .bf16) (harg3 : arg3.IsWhole)
  (arg4 : Memref sig .tc .vmem S2048x512 .bf16) (harg4 : arg4.IsWhole) (arg5 : Memref sig .tc .vmem S1x2048x1408 .bf16) (harg5 : arg5.IsWhole)
  (arg6 : Memref sig .tc .vmem S1x2048x1408 .bf16) (harg6 : arg6.IsWhole) (arg7 : Memref sig .tc .vmem S1x512x1408 .bf16) (harg7 : arg7.IsWhole)
  (arg8 : Memref sig .tc .vmem S1x512x1408 .bf16) (harg8 : arg8.IsWhole) (T : S2.Idx → BitVec 32)
  (x0 x1 : Vec Ideal S2048x512 .bf16) (x2 x3 : Vec Ideal S1x2048x1408 .bf16)

theorem out_A4 (hc) : out0_A_4 c i arg3 harg3 arg4 harg4 arg5 harg5 arg6 harg6 arg7 harg7 arg8 harg8 T x0 x1 x2 x3 hc = k0_pay2 x0 x2 x1 x3 := by
  unfold out0_A_4
  refine (View.read_writes_eq_canon _ _ _ (cover0_A_4 c i arg3 harg3 arg4 harg4 arg5 harg5 arg6 harg6 arg7 harg7 arg8 harg8 T x0 x1 x2 x3 hc)).trans ?_
  unfold kernelRun0_A; dsimp only; sl_unfold_words
  simp only [View.readAt_eq_ld]
  rw [View.read_rep, View.read_rep, View.read_rep, View.read_rep]
  refine (View.canon_unit_zero (S := S1x512x1408) hz3 _ _).trans ?_
  rw [View.ld_unit_zero (S := S2048x512) hz2 _ x0, View.ld_unit_zero (S := S2048x512) hz2 _ x1, View.ld_unit_zero (S := S1x2048x1408) hz3 _ x2, View.ld_unit_zero (S := S1x2048x1408) hz3 _ x3]
theorem out_A5 (hc) : out0_A_5 c i arg3 harg3 arg4 harg4 arg5 harg5 arg6 harg6 arg7 harg7 arg8 harg8 T x0 x1 x2 x3 hc = k0_pay3 x0 x2 x1 x3 := by
  unfold out0_A_5
  refine (View.read_writes_eq_canon _ _ _ (cover0_A_5 c i arg3 harg3 arg4 harg4 arg5 harg5 arg6 harg6 arg7 harg7 arg8 harg8 T x0 x1 x2 x3 hc)).trans ?_
  unfold kernelRun0_A; dsimp only; sl_unfold_words
  simp only [View.readAt_eq_ld]
  rw [View.read_rep, View.read_rep, View.read_rep, View.read_rep]
  refine (View.canon_unit_zero (S := S1x512x1408) hz3 _ _).trans ?_
  rw [View.ld_unit_zero (S := S2048x512) hz2 _ x0, View.ld_unit_zero (S := S2048x512) hz2 _ x1, View.ld_unit_zero (S := S1x2048x1408) hz3 _ x2, View.ld_unit_zero (S := S1x2048x1408) hz3 _ x3]
theorem out_B4 (hc) : out0_B_4 c i arg3 harg3 arg4 harg4 arg5 harg5 arg6 harg6 arg7 harg7 arg8 harg8 T x0 x1 x2 x3 hc = k0_pay2 x0 x2 x1 x3 := by
  unfold out0_B_4
  refine (View.read_writes_eq_canon _ _ _ (cover0_B_4 c i arg3 harg3 arg4 harg4 arg5 harg5 arg6 harg6 arg7 harg7 arg8 harg8 T x0 x1 x2 x3 hc)).trans ?_
  unfold kernelRun0_B; dsimp only; sl_unfold_words
  simp only [View.readAt_eq_ld]
  rw [View.read_rep, View.read_rep, View.read_rep, View.read_rep]
  refine (View.canon_unit_zero (S := S1x512x1408) hz3 _ _).trans ?_
  rw [View.ld_unit_zero (S := S2048x512) hz2 _ x0, View.ld_unit_zero (S := S2048x512) hz2 _ x1, View.ld_unit_zero (S := S1x2048x1408) hz3 _ x2, View.ld_unit_zero (S := S1x2048x1408) hz3 _ x3]
end

/-! ## The steps' places -/

variable (ch : Fin 2)

theorem points : (cfgA ch).N = 16 := by revert ch; decide +kernel
theorem at_0 : ∀ t : Fin (cfgA ch).N, ((cfgA ch).win (0 : Fin 6)).index t (0 : Fin 2) = 0 ∧ ((cfgA ch).win (0 : Fin 6)).index t (1 : Fin 2) = t.val / 4 := by
  revert ch; decide +kernel
theorem at_1 : ∀ t : Fin (cfgA ch).N, ((cfgA ch).win (1 : Fin 6)).index t (0 : Fin 2) = 0 ∧ ((cfgA ch).win (1 : Fin 6)).index t (1 : Fin 2) = t.val / 4 := by
  revert ch; decide +kernel
theorem at_2 : ∀ t : Fin (cfgA ch).N, ((cfgA ch).win (2 : Fin 6)).index t (0 : Fin 3) = (2 * (t.val % 4) + ch.val) / 4
    ∧ ((cfgA ch).win (2 : Fin 6)).index t (1 : Fin 3) = 0 ∧ ((cfgA ch).win (2 : Fin 6)).index t (2 : Fin 3) = (2 * (t.val % 4) + ch.val) % 4 := by
  revert ch; decide +kernel
theorem at_3 : ∀ t : Fin (cfgA ch).N, ((cfgA ch).win (3 : Fin 6)).index t (0 : Fin 3) = (2 * (t.val % 4) + ch.val) / 4
    ∧ ((cfgA ch).win (3 : Fin 6)).index t (1 : Fin 3) = 0 ∧ ((cfgA ch).win (3 : Fin 6)).index t (2 : Fin 3) = (2 * (t.val % 4) + ch.val) % 4 := by
  revert ch; decide +kernel
theorem at_4 : ∀ t : Fin (cfgA ch).N, ((cfgA ch).win (4 : Fin 6)).index t (0 : Fin 3) = t.val % 4
    ∧ ((cfgA ch).win (4 : Fin 6)).index t (1 : Fin 3) = t.val / 4 ∧ ((cfgA ch).win (4 : Fin 6)).index t (2 : Fin 3) = 0 := by
  revert ch; decide +kernel
theorem at_5 : ∀ t : Fin (cfgA ch).N, ((cfgA ch).win (5 : Fin 6)).index t (0 : Fin 3) = 0
    ∧ ((cfgA ch).win (5 : Fin 6)).index t (1 : Fin 3) = t.val / 4 ∧ ((cfgA ch).win (5 : Fin 6)).index t (2 : Fin 3) = 0 := by
  revert ch; decide +kernel
/-- The slot is stored at the first of every four steps. -/
theorem stored : ∀ t : Fin (cfgA ch).N, P0_0 ch t ↔ t.val % 4 = 0 := by revert ch; decide +kernel
theorem covers_4 : ((cfgA ch).win (4 : Fin 6)).Covers := by revert ch; decide +kernel
theorem covers_5 : ((cfgA ch).win (5 : Fin 6)).CoversWhere (fun β => β (0 : Fin 3) = 0) := by revert ch; decide +kernel

/-! ## The blocks that a step reads -/

variable (m : (ℓ : Loc nD τ sig) → Buf (Elt Ideal) ℓ) (ρ : Dev nD → PrngReg) (c : Dev nD)

/-- The arguments, by coordinates. -/
def args : Pair.Args where
  h i l := (m ((c : Thread nD τ).loc main_arg1) : Vec Ideal S2048x2048 .bf16) (ix2 i l)
  h' i l := (m ((c : Thread nD τ).loc main_arg2) : Vec Ideal S2048x2048 .bf16) (ix2 i l)
  d b i f := (m ((c : Thread nD τ).loc main_arg3) : Vec Ideal S2x2048x5632 .bf16) (ix3 b i f)
  d' b i f := (m ((c : Thread nD τ).loc main_arg4) : Vec Ideal S2x2048x5632 .bf16) (ix3 b i f)

/-- The chunk of step `t`, and row `r` of the rows of its block. -/
def chunk (t : Nat) : Fin 4 := ⟨t % 4, by omega⟩
def row (t : Nat) (ht : t < 16) (r : Fin 512) : Fin 2048 := ⟨512 * (t / 4) + r.val, by omega⟩

theorem blk_0 (t : Fin (cfgA ch).N) (ht : t.val < 16) (i : Fin 2048) (r : Fin 512) :
    (iblk ch m ρ c (0 : Fin 6) t : Vec Ideal S2048x512 .bf16) (ix2 i r) = (args m c).h i (row t.val ht r) := by
  have h := at_0 ch t
  show (m ((c : Thread nD τ).loc main_arg1) : Vec Ideal S2048x2048 .bf16) ((((cfgA ch).win (0 : Fin 6)).blk t).view.emb (ix2 i r)) = _
  refine congrArg (m ((c : Thread nD τ).loc main_arg1) : Vec Ideal S2048x2048 .bf16) (funext fun k => Fin.ext ?_)
  match k with
  | ⟨0, _⟩ => show ((cfgA ch).win (0 : Fin 6)).index t (0 : Fin 2) * 2048 + 1 * i.val = _; rw [h.1]; show _ = i.val; omega
  | ⟨1, _⟩ => show ((cfgA ch).win (0 : Fin 6)).index t (1 : Fin 2) * 512 + 1 * r.val = _; rw [h.2]; show _ = 512 * (t.val / 4) + r.val; omega
theorem blk_1 (t : Fin (cfgA ch).N) (ht : t.val < 16) (i : Fin 2048) (r : Fin 512) :
    (iblk ch m ρ c (1 : Fin 6) t : Vec Ideal S2048x512 .bf16) (ix2 i r) = (args m c).h' i (row t.val ht r) := by
  have h := at_1 ch t
  show (m ((c : Thread nD τ).loc main_arg2) : Vec Ideal S2048x2048 .bf16) ((((cfgA ch).win (1 : Fin 6)).blk t).view.emb (ix2 i r)) = _
  refine congrArg (m ((c : Thread nD τ).loc main_arg2) : Vec Ideal S2048x2048 .bf16) (funext fun k => Fin.ext ?_)
  match k with
  | ⟨0, _⟩ => show ((cfgA ch).win (1 : Fin 6)).index t (0 : Fin 2) * 2048 + 1 * i.val = _; rw [h.1]; show _ = i.val; omega
  | ⟨1, _⟩ => show ((cfgA ch).win (1 : Fin 6)).index t (1 : Fin 2) * 512 + 1 * r.val = _; rw [h.2]; show _ = 512 * (t.val / 4) + r.val; omega
theorem blk_2 (t : Fin (cfgA ch).N) (i : Fin 2048) (q : Fin 1408) :
    (iblk ch m ρ c (2 : Fin 6) t : Vec Ideal S1x2048x1408 .bf16) (ix3 0 i q) = (args m c).d (Pair.plane ch (chunk t.val)) i (Pair.col ch (chunk t.val) q) := by
  have h := at_2 ch t
  show (m ((c : Thread nD τ).loc main_arg3) : Vec Ideal S2x2048x5632 .bf16) ((((cfgA ch).win (2 : Fin 6)).blk t).view.emb (ix3 0 i q)) = _
  refine congrArg (m ((c : Thread nD τ).loc main_arg3) : Vec Ideal S2x2048x5632 .bf16) (funext fun k => Fin.ext ?_)
  match k with
  | ⟨0, _⟩ => show ((cfgA ch).win (2 : Fin 6)).index t (0 : Fin 3) * 1 + 1 * 0 = _; rw [h.1]; show _ = (2 * (t.val % 4) + ch.val) / 4; omega
  | ⟨1, _⟩ => show ((cfgA ch).win (2 : Fin 6)).index t (1 : Fin 3) * 2048 + 1 * i.val = _; rw [h.2.1]; show _ = i.val; omega
  | ⟨2, _⟩ => show ((cfgA ch).win (2 : Fin 6)).index t (2 : Fin 3) * 1408 + 1 * q.val = _; rw [h.2.2]; show _ = 1408 * ((2 * (t.val % 4) + ch.val) % 4) + q.val; omega
theorem blk_3 (t : Fin (cfgA ch).N) (i : Fin 2048) (q : Fin 1408) :
    (iblk ch m ρ c (3 : Fin 6) t : Vec Ideal S1x2048x1408 .bf16) (ix3 0 i q) = (args m c).d' (Pair.plane ch (chunk t.val)) i (Pair.col ch (chunk t.val) q) := by
  have h := at_3 ch t
  show (m ((c : Thread nD τ).loc main_arg4) : Vec Ideal S2x2048x5632 .bf16) ((((cfgA ch).win (3 : Fin 6)).blk t).view.emb (ix3 0 i q)) = _
  refine congrArg (m ((c : Thread nD τ).loc main_arg4) : Vec Ideal S2x2048x5632 .bf16) (funext fun k => Fin.ext ?_)
  match k with
  | ⟨0, _⟩ => show ((cfgA ch).win (3 : Fin 6)).index t (0 : Fin 3) * 1 + 1 * 0 = _; rw [h.1]; show _ = (2 * (t.val % 4) + ch.val) / 4; omega
  | ⟨1, _⟩ => show ((cfgA ch).win (3 : Fin 6)).index t (1 : Fin 3) * 2048 + 1 * i.val = _; rw [h.2.1]; show _ = i.val; omega
  | ⟨2, _⟩ => show ((cfgA ch).win (3 : Fin 6)).index t (2 : Fin 3) * 1408 + 1 * q.val = _; rw [h.2.2]; show _ = 1408 * ((2 * (t.val % 4) + ch.val) % 4) + q.val; omega

/-- The step's two products, in the arguments. -/
theorem pair_at (t : Fin (cfgA ch).N) (ht : t.val < 16) (r : Fin 512) (q : Fin 1408) :
    pairBlock (iblk ch m ρ c (0 : Fin 6) t) (iblk ch m ρ c (1 : Fin 6) t) (iblk ch m ρ c (2 : Fin 6) t) (iblk ch m ρ c (3 : Fin 6) t) r q
      = Pair.G (args m c) ch (chunk t.val) (row t.val ht r) q := by
  unfold pairBlock Pair.G
  exact congrArg₂ (· + ·)
    (Finset.sum_congr rfl fun i _ => congrArg₂ (· * ·) (blk_0 ch m ρ c t ht i r) (blk_2 ch m ρ c t i q))
    (Finset.sum_congr rfl fun i _ => congrArg₂ (· * ·) (blk_1 ch m ρ c t ht i r) (blk_3 ch m ρ c t i q))

/-! ## What each step leaves -/

/-- Every step leaves its sum in the first output's block. -/
theorem sums_at (t : Fin (cfgA ch).N) : (traj0 ch m ρ c t.val t.isLt).1
    = k0_pay2 (iblk ch m ρ c (0 : Fin 6) t) (iblk ch m ρ c (2 : Fin 6) t) (iblk ch m ρ c (1 : Fin 6) t) (iblk ch m ρ c (3 : Fin 6) t) := by
  rw [traj0_eq]
  by_cases q0 : P0_0 ch t
  · rw [step0_A ch m ρ c t _ q0]; dsimp only; rw [out_A4]
  · rw [step0_B ch m ρ c t _ q0]; dsimp only; rw [out_B4]

/-- The first of four steps leaves its sum in the second output's block, and the others keep it there. -/
theorem slot_at (n j : Nat) (hj : j < 4) (h : 4 * n + j < (cfgA ch).N) (h0 : 4 * n < (cfgA ch).N) : (traj0 ch m ρ c (4 * n + j) h).2
    = k0_pay3 (iblk ch m ρ c (0 : Fin 6) ⟨4 * n, h0⟩) (iblk ch m ρ c (2 : Fin 6) ⟨4 * n, h0⟩) (iblk ch m ρ c (1 : Fin 6) ⟨4 * n, h0⟩) (iblk ch m ρ c (3 : Fin 6) ⟨4 * n, h0⟩) := by
  induction j with
  | zero =>
    have q0 : P0_0 ch ⟨4 * n, h0⟩ := (stored ch ⟨4 * n, h0⟩).2 (Nat.mul_mod_right 4 n)
    refine (congrArg Prod.snd (traj0_eq ch m ρ c ⟨4 * n, h0⟩)).trans ?_
    rw [step0_A ch m ρ c ⟨4 * n, h0⟩ _ q0]; dsimp only; rw [out_A5]
  | succ j ih =>
    have q0 : ¬P0_0 ch ⟨4 * n + (j + 1), h⟩ := fun q => by
      have e : (4 * n + (j + 1)) % 4 = 0 := (stored ch ⟨4 * n + (j + 1), h⟩).1 q
      omega
    obtain ⟨-, -, -, i5, f5⟩ := sched0_B ch ⟨4 * n + (j + 1), h⟩ q0
    exact (hcarry0_5 ch m ρ c ⟨4 * n + (j + 1), h⟩ (Nat.succ_ne_zero _) i5 f5).trans (ih (by omega) (Nat.lt_of_succ_lt h))

/-! ## The arrays -/

/-- The first array holds the core's four chunks. -/
theorem sums_arr (k : Fin 4) (l : Fin 2048) (q : Fin 1408) :
    ((dats ch m ρ 0 c).arrAt (4 : Fin 6) (cfgA ch).N : S4x2048x1408.Idx → EReal) (ix3 k l q) = Pair.G (args m c) ch k l q := by
  refine congrFun ((dats ch m ρ 0 c).arrAt_eq_of_covers (4 : Fin 6) (fun y : S4x2048x1408.Idx => Pair.G (args m c) ch (y 0) (y 1) (y 2))
    (covers_4 ch) (fun t hf y => ?_)) (ix3 k l q)
  have ht : t.val < 16 := points ch ▸ t.isLt
  have h := at_4 ch t
  blk_simp
  rw [after0_4]
  obtain ⟨b, r, q, rfl⟩ := idx3 (a := 1) (b := 512) (c := 1408) y
  obtain rfl : b = 0 := Subsingleton.elim _ _
  have e0 : ((((cfgA ch).win (4 : Fin 6)).blk t).view.emb (ix3 0 r q) (0 : Fin 3) : Fin 4) = chunk t.val := Fin.ext (by
    show ((cfgA ch).win (4 : Fin 6)).index t (0 : Fin 3) * 1 + 1 * 0 = t.val % 4; rw [h.1]; omega)
  have e1 : ((((cfgA ch).win (4 : Fin 6)).blk t).view.emb (ix3 0 r q) (1 : Fin 3) : Fin 2048) = row t.val ht r := Fin.ext (by
    show ((cfgA ch).win (4 : Fin 6)).index t (1 : Fin 3) * 512 + 1 * r.val = 512 * (t.val / 4) + r.val; rw [h.2.1]; omega)
  have e2 : ((((cfgA ch).win (4 : Fin 6)).blk t).view.emb (ix3 0 r q) (2 : Fin 3) : Fin 1408) = q := Fin.ext (by
    show ((cfgA ch).win (4 : Fin 6)).index t (2 : Fin 3) * 1408 + 1 * q.val = q.val; rw [h.2.2]; omega)
  refine Eq.trans ?_ ((congrArg₂ (fun k l => Pair.G (args m c) ch k l _) e0 e1).trans (congrArg (Pair.G (args m c) ch _ _) e2)).symm
  exact (congrFun (sums_at ch m ρ c t) (ix3 0 r q)).trans ((pay2_apply _ _ _ _ r q).trans (pair_at ch m ρ c t ht r q))

theorem flushed : ∀ t : Fin (cfgA ch).N, ((cfgA ch).win (5 : Fin 6)).flush t = true → t.val % 4 = 3 := by revert ch; decide +kernel

/-- The second array holds in its slot 0 the core's first chunk. -/
theorem slot_arr (l : Fin 2048) (q : Fin 1408) :
    ((dats ch m ρ 0 c).arrAt (5 : Fin 6) (cfgA ch).N : S4x2048x1408.Idx → EReal) (ix3 0 l q) = Pair.G (args m c) ch 0 l q := by
  refine (congrFun ((dats ch m ρ 0 c).arrAt_eq_of_coversWhere (5 : Fin 6) (fun y : S4x2048x1408.Idx => Pair.G (args m c) ch 0 (y 1) (y 2))
    (P := fun y : S4x2048x1408.Idx => (y 0).val / 1 = 0)
    (fun β => β (0 : Fin 3) = 0) (covers_5 ch) (fun t hf y => ?_) (fun j => Iff.rfl)) (ix3 0 l q)).trans (if_pos (Nat.zero_div 1))
  have ht : t.val < 16 := points ch ▸ t.isLt
  have hlast := flushed ch t hf
  have h := at_5 ch t
  blk_simp
  rw [after0_5]
  obtain ⟨b, r, q, rfl⟩ := idx3 (a := 1) (b := 512) (c := 1408) y
  obtain rfl : b = 0 := Subsingleton.elim _ _
  have e1 : ((((cfgA ch).win (5 : Fin 6)).blk t).view.emb (ix3 0 r q) (1 : Fin 3) : Fin 2048) = row t.val ht r := Fin.ext (by
    show ((cfgA ch).win (5 : Fin 6)).index t (1 : Fin 3) * 512 + 1 * r.val = 512 * (t.val / 4) + r.val; rw [h.2.1]; omega)
  have e2 : ((((cfgA ch).win (5 : Fin 6)).blk t).view.emb (ix3 0 r q) (2 : Fin 3) : Fin 1408) = q := Fin.ext (by
    show ((cfgA ch).win (5 : Fin 6)).index t (2 : Fin 3) * 1408 + 1 * q.val = q.val; rw [h.2.2]; omega)
  refine Eq.trans ?_ (congrArg₂ (fun l q => Pair.G (args m c) ch 0 l q) e1 e2).symm
  obtain ⟨n, hn⟩ : ∃ n, t.val = 4 * n + 3 := ⟨t.val / 4, by omega⟩
  have h3 : 4 * n + 3 < (cfgA ch).N := hn ▸ t.isLt
  have h0 : 4 * n < (cfgA ch).N := Nat.lt_of_le_of_lt (Nat.le_add_right _ _) h3
  have ht' : t = ⟨4 * n + 3, h3⟩ := Fin.ext hn
  refine (congrFun ((congrArg (fun u : Fin (cfgA ch).N => (traj0 ch m ρ c u.val u.isLt).2) ht').trans (slot_at ch m ρ c n 3 (by decide) _ h0)) (ix3 0 r q)).trans ?_
  refine (pay3_apply _ _ _ _ r q).trans ((pair_at ch m ρ c ⟨4 * n, h0⟩ (by show 4 * n < 16; omega) r q).trans ?_)
  refine congrArg₂ (fun k l => Pair.G (args m c) ch k l q) (Fin.ext (Nat.mul_mod_right 4 n)) (Fin.ext ?_)
  show 512 * (4 * n / 4) + r.val = 512 * (t.val / 4) + r.val
  omega

/-- The run leaves the core's chunks in the first array and the first of them in slot 0 of the second, and the arguments as they were. -/
theorem run (hp : Pinned ch m) : θ_run defs (onTc (τ := τ) (main (F := Ideal))) ⟨m, fun _ => 0, ρ⟩ fun r => ∀ c : Dev nD,
      (∀ (k : Fin 4) (l : Fin 2048) (q : Fin 1408),
        (r.2.mem ((c.tc : Thread nD τ).loc main_v0_0) : S4x2048x1408.Idx → EReal) (ix3 k l q) = Pair.G (args m c) ch k l q)
      ∧ (∀ (l : Fin 2048) (q : Fin 1408),
        (r.2.mem ((c.tc : Thread nD τ).loc main_v0_1) : S4x2048x1408.Idx → EReal) (ix3 0 l q) = Pair.G (args m c) ch 0 l q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨fun k l q => (congrFun ((h c).1 (4 : Fin 6)) (ix3 k l q)).trans (sums_arr ch m ρ c k l q),
      fun l q => (congrFun ((h c).1 (5 : Fin 6)) (ix3 0 l q)).trans (slot_arr ch m ρ c l q),
      ((h c).2 0).trans (hp c).symm,
      ((h c).1 (0 : Fin 6)).trans ((dats ch m ρ 0 c).arrAt_in (0 : Fin 6) rfl _),
      ((h c).1 (1 : Fin 6)).trans ((dats ch m ρ 0 c).arrAt_in (1 : Fin 6) rfl _),
      ((h c).1 (2 : Fin 6)).trans ((dats ch m ρ 0 c).arrAt_in (2 : Fin 6) rfl _),
      ((h c).1 (3 : Fin 6)).trans ((dats ch m ρ 0 c).arrAt_in (3 : Fin 6) rfl _)⟩)
    (run_main ch m ρ hp)

end Cert.Kernel10Ideal.Value

end
-- ==== Proof.Pair.Claim10.lean ====
/-
  The second half step's weights' gradient: the claims of its program.
-/
module

public import proofs.«01_k».proof.Proof.Pair.Ref
public import proofs.«01_k».proof.Proof.Pair.Run
public import proofs.«01_k».proof.Proof.Gen.Reference10Ideal.Run

@[expose] public section

noncomputable section

namespace Cert.Proof

open Idealize.ShloMosaic Idealize.SL.Sem

/-- The reference runs and leaves its arguments. -/
theorem frame_ri10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- The one slot whose number is zero. -/
theorem slot_zero : ∀ k : Fin 4, IntOp.cmpi .eq (BitVec.ofNat 32 k.val) 0#32 = 1#1 → k = 0 := by decide

/-- An element of the second array that the mask names lies in slot 0. -/
theorem own_slot (x0 : Vec Ideal Cert.Kernel10Ideal.S2 .i32) (x1 x2 : Vec Ideal Cert.Kernel10Ideal.S2048x2048 .bf16)
    (x3 x4 : Vec Ideal Cert.Kernel10Ideal.S2x2048x5632 .bf16) (k : Fin 4) (l : Fin 2048) (q : Fin 1408)
    (h : (@Cert.On_own_slot.fn Cert.On_own_slot.facts Ideal _ x0 x1 x2 x3 x4).2 (ix3 k l q) = 1#1) : k = 0 :=
  slot_zero k h

/-- On either core of chip 0, the kernel and the reference leave the same elements in the core's chunks, and the same
in the slot that the kernel writes of the array to exchange. -/
theorem algebraic10 : Cert.algebraic_Kernel10Ideal_Reference10Ideal_on_own_slot (hPre_is_place := Cert.Pre_is_place.facts)
    (hOn_own_slot := Cert.On_own_slot.facts) := by
  intro m ρ m' ρ' hpre hagree
  obtain ⟨p, hp⟩ := Cert.Kernel10Ideal.Value.pinned_of_pre m hpre
  refine ⟨fun c y => Pair.G (Cert.Kernel10Ideal.Value.args m c) p (y 0) (y 1) (y 2),
    fun c y => Pair.G (Cert.Kernel10Ideal.Value.args m c) p (y 0) (y 1) (y 2), ?_, ?_⟩
  · refine (θ_run Cert.Kernel10Ideal.defs _ _).mono (fun r h c => ?_) (Cert.Kernel10Ideal.Value.run p m ρ hp)
    obtain ⟨h0, h1, hargs⟩ := h c
    refine ⟨fun y _ => ?_, fun y hy => ?_, hargs⟩
    · obtain ⟨k, l, q, rfl⟩ := Cert.Kernel10Ideal.Value.idx3 (a := 4) (b := 2048) (c := 1408) y
      exact h0 k l q
    · obtain ⟨k, l, q, rfl⟩ := Cert.Kernel10Ideal.Value.idx3 (a := 4) (b := 2048) (c := 1408) y
      obtain rfl := own_slot _ _ _ _ _ k l q hy
      exact h1 l q
  · refine (θ_run Cert.Reference10Ideal.defs _ _).mono (fun r h c => ?_) (Cert.Reference10Ideal.Value.run (F := Ideal) m' ρ')
    obtain ⟨h0, h1, hargs⟩ := h c
    obtain ⟨a0, a1, a2, a3, a4⟩ := hagree c
    refine ⟨fun y _ => ?_, fun y _ => ?_, hargs⟩
    all_goals
      refine (congrFun h0 y).trans ?_
      rw [Cert.Reference10Ideal.Read.val_main_v27_eq, a0, a1, a2, a3, a4]
      obtain ⟨k, l, q, rfl⟩ := Cert.Kernel10Ideal.Value.idx3 (a := 4) (b := 2048) (c := 1408) y
      exact Cert.Reference10Ideal.Read.r_own _ _ _ _ _ p ((congrFun (hp c) _).trans (Cert.Kernel10Ideal.Value.place_core p)) k l q

end Cert.Proof

end
-- ==== Proof.Norm.Spec.lean ====
/-
  The normalization of a row by its mean square, and its gradients, by coordinates: one row of the input, the gains, the
  gradient at the result and the residual's gradient. The two forms of the input's gradient are equal on all the values.
-/
module

public import proofs.«01_k».proof.Proof.Loss.Spec
import Idealize.ShloMosaic.Lib.IdealHost

@[expose] public section

noncomputable section

namespace Norm

open Idealize.ShloMosaic

/-- The constants of the two programs, as they are written there: 1e-6 and -1/2. -/
def eps : EReal := Ideal.ofBits .f32 0x358637BD#32
def minus : EReal := Ideal.ofBits .f32 0xBF000000#32

theorem minus_eq : minus = ((-(1 / 2) : ℝ) : EReal) := by
  simp [minus, Ideal.ofBits, Ideal.ieee]
  rw [← EReal.coe_mul]
  norm_num
theorem eps_eq : ∃ e : ℝ, 0 < e ∧ eps = (e : EReal) := by
  simp only [eps, Ideal.ofBits, Ideal.ieee]
  simp
  rw [← EReal.coe_mul]
  exact ⟨_, by positivity, rfl⟩

/-- The mean square of a row and 1e-6, the inverse of its root, and the row times that. -/
def V (x : Fin 2048 → EReal) : EReal := Ideal.div (∑ l, x l * x l) Loss.width + eps
def R (x : Fin 2048 → EReal) : EReal := Ideal.rsqrt (V x)
def N (x : Fin 2048 → EReal) (l : Fin 2048) : EReal := x l * R x
/-- The result. -/
def Y (x g : Fin 2048 → EReal) (l : Fin 2048) : EReal := N x l * g l
/-- The gradient at the input, with the gradient `d` at the result and the residual's gradient `e`. -/
def Dx (x g d e : Fin 2048 → EReal) (l : Fin 2048) : EReal :=
  e l + R x * (d l * g l - N x l * Ideal.div (∑ k, d k * g k * N x k) Loss.width)

/-- The sum over a row with an infinity of the squares is infinite. -/
theorem square_nonneg (a : EReal) : 0 ≤ a * a := by
  induction a with
  | bot => simp
  | top => simp
  | coe r => rw [← EReal.coe_mul]; exact EReal.coe_nonneg.mpr (mul_self_nonneg r)
theorem squares_top (x : Fin 2048 → EReal) (l : Fin 2048) (h : x l = ⊤ ∨ x l = ⊥) : ∑ k, x k * x k = ⊤ := by
  refine top_le_iff.mp (le_trans (le_of_eq ?_) (Finset.single_le_sum (f := fun k => x k * x k) (fun k _ => square_nonneg (x k)) (Finset.mem_univ l)))
  rcases h with h | h <;> simp [h]
/-- The sum of a real row's squares is real. -/
theorem squares_real (y : Fin 2048 → ℝ) : ∑ k, (y k : EReal) * (y k : EReal) = ((∑ k, y k * y k : ℝ) : EReal) := by
  refine Finset.induction_on (Finset.univ : Finset (Fin 2048)) (by simp) fun d s hd ih => ?_
  rw [Finset.sum_insert hd, Finset.sum_insert hd, ih, EReal.coe_add, EReal.coe_mul]

/-- A row with an infinity is scaled by zero. -/
theorem top_row (x : Fin 2048 → EReal) (l : Fin 2048) (h : x l = ⊤ ∨ x l = ⊥) : R x = 0 ∧ Ideal.div (R x) (V x) = 0 := by
  have hv : V x = ⊤ := by
    obtain ⟨e, -, he⟩ := eps_eq
    unfold V
    rw [Loss.div_width, squares_top x l h, Loss.share_eq, EReal.top_mul_coe_of_pos (by norm_num), he, EReal.top_add_coe]
  have hr : R x = 0 := by unfold R; rw [hv]; rfl
  refine ⟨hr, ?_⟩
  rw [hr, hv]
  simp [Ideal.div]
/-- A real row is scaled by a real `r` that is not negative, and `r` over the mean square is the cube of `r`. -/
theorem real_row (y : Fin 2048 → ℝ) : ∃ r : ℝ, 0 ≤ r ∧ R (fun l => (y l : EReal)) = (r : EReal)
    ∧ Ideal.div (R (fun l => (y l : EReal))) (V (fun l => (y l : EReal))) = ((r * r * r : ℝ) : EReal) := by
  obtain ⟨e, he0, he⟩ := eps_eq
  have hv : V (fun l => (y l : EReal)) = (((∑ k, y k * y k) * (1 / 2048) + e : ℝ) : EReal) := by
    unfold V
    rw [Loss.div_width, squares_real, Loss.share_eq, he, EReal.coe_add, EReal.coe_mul]
  have hp : 0 < (∑ k, y k * y k) * (1 / 2048) + e := by
    have := Finset.sum_nonneg (s := (Finset.univ : Finset (Fin 2048))) fun k _ => mul_self_nonneg (y k)
    positivity
  generalize (∑ k, y k * y k) * (1 / 2048) + e = v at hv hp
  have hr : R (fun l => (y l : EReal)) = (((Real.sqrt v)⁻¹ : ℝ) : EReal) := by
    unfold R
    rw [hv]
    show (if v < 0 then (⊥ : EReal) else if v = 0 then ⊤ else (((Real.sqrt v)⁻¹ : ℝ) : EReal)) = _
    rw [if_neg (not_lt.mpr hp.le), if_neg hp.ne']
  refine ⟨(Real.sqrt v)⁻¹, inv_nonneg.mpr (Real.sqrt_nonneg v), hr, ?_⟩
  rw [hr, hv]
  unfold Ideal.div
  rw [if_neg (by rw [EReal.coe_eq_zero]; exact hp.ne'), ← EReal.coe_inv, ← EReal.coe_mul]
  have hs : (Real.sqrt v)⁻¹ * (Real.sqrt v)⁻¹ = v⁻¹ := by rw [← mul_inv, Real.mul_self_sqrt hp.le]
  rw [mul_assoc, hs]

/-- A real factor that is not negative comes out of a sum. -/
theorem sum_scale (u : Fin 2048 → EReal) (r : ℝ) (h : 0 ≤ r) : ∑ k, u k * (r : EReal) = (∑ k, u k) * (r : EReal) := by
  refine Finset.induction_on (Finset.univ : Finset (Fin 2048)) (by simp) fun d s hd ih => ?_
  rw [Finset.sum_insert hd, Finset.sum_insert hd, EReal.right_distrib_of_nonneg_of_ne_top (EReal.coe_nonneg.mpr h) (EReal.coe_ne_top _), ih]

/-- Twice a product by a real number is the product by its double. -/
theorem twice_nonneg (a : ℝ) (h : 0 ≤ a) (s : EReal) : (a : EReal) * s + (a : EReal) * s = ((2 * a : ℝ) : EReal) * s := by
  rw [two_mul, EReal.coe_add]
  exact (EReal.right_distrib_of_nonneg (EReal.coe_nonneg.mpr h) (EReal.coe_nonneg.mpr h)).symm
theorem twice (a : ℝ) (s : EReal) : (a : EReal) * s + (a : EReal) * s = ((2 * a : ℝ) : EReal) * s := by
  rcases le_total 0 a with h | h
  · exact twice_nonneg a h s
  · have e : ∀ b : ℝ, (b : EReal) * s = ((-b : ℝ) : EReal) * -s := fun b => by rw [EReal.coe_neg, EReal.neg_mul, mul_comm _ (-s), EReal.neg_mul, neg_neg, mul_comm]
    rw [e a, e (2 * a), twice_nonneg (-a) (neg_nonneg.mpr h) (-s)]
    exact congrArg (fun b : ℝ => (b : EReal) * -s) (mul_neg 2 a)

/-- What the reference's gradient of the mean square gives each entry of the row. -/
def K (x g d : Fin 2048 → EReal) : EReal :=
  Ideal.div ((∑ k, x k * (d k * g k)) * (minus * Ideal.div (R x) (V x))) Loss.width

/-- The gradient in the reference's form. -/
theorem dx_eq (x g d e : Fin 2048 → EReal) (l : Fin 2048) :
    e l + d l * g l * R x + x l * K x g d + K x g d * x l = Dx x g d e l := by
  by_cases h : ∃ k, x k = ⊤ ∨ x k = ⊥
  · obtain ⟨k, hk⟩ := h
    obtain ⟨hr, hd⟩ := top_row x k hk
    unfold Dx K
    rw [Loss.div_width, hd, hr]
    simp
  · obtain ⟨y, rfl⟩ : ∃ y : Fin 2048 → ℝ, x = fun l => (y l : EReal) :=
      ⟨fun l => (x l).toReal, funext fun l => (EReal.coe_toReal (fun h' => h ⟨l, .inl h'⟩) (fun h' => h ⟨l, .inr h'⟩)).symm⟩
    obtain ⟨r, h0, hr, hd⟩ := real_row y
    unfold Dx K N
    rw [Loss.div_width, Loss.div_width, hd, hr]
    have hs : ∑ k, d k * g k * ((y k : EReal) * (r : EReal)) = (∑ k, (y k : EReal) * (d k * g k)) * (r : EReal) := by
      rw [← sum_scale _ r h0]
      exact Finset.sum_congr rfl fun k _ => by rw [← mul_assoc, mul_comm (d k * g k) (y k : EReal)]
    rw [hs]
    generalize ∑ k, (y k : EReal) * (d k * g k) = s
    generalize d l * g l = u
    rw [sub_eq_add_neg, EReal.left_distrib_of_nonneg_of_ne_top (EReal.coe_nonneg.mpr h0) (EReal.coe_ne_top _), add_assoc, add_assoc, mul_comm u]
    refine congrArg (e l + ·) (congrArg ((r : EReal) * u + ·) ?_)
    rw [minus_eq, Loss.share_eq, ← EReal.coe_mul]
    have e1 : (y l : EReal) * (s * ((-(1 / 2) * (r * r * r) : ℝ) : EReal) * ((1 / 2048 : ℝ) : EReal))
        = ((y l * (-(1 / 2) * (r * r * r)) * (1 / 2048) : ℝ) : EReal) * s := by
      rw [mul_assoc s, mul_comm s, ← mul_assoc, ← EReal.coe_mul, ← EReal.coe_mul, mul_assoc (y l)]
    have e2 : (r : EReal) * -((y l : EReal) * (r : EReal) * (s * (r : EReal) * ((1 / 2048 : ℝ) : EReal)))
        = ((-(r * (y l * r * (r * (1 / 2048)))) : ℝ) : EReal) * s := by
      rw [mul_assoc s, mul_comm s, ← mul_assoc, ← EReal.coe_mul, ← EReal.coe_mul, ← EReal.coe_mul, ← EReal.neg_mul, ← mul_assoc, ← EReal.coe_neg, ← EReal.coe_mul,
        mul_neg]
    rw [mul_comm _ (y l : EReal), e1, e2, twice]
    congr 2
    ring

end Norm

end
-- ==== Proof.Norm.Fwd.lean ====
/-
  The normalization before the feed-forward block: what the kernel's eight steps leave, and the run.
-/
module

public import proofs.«01_k».proof.Proof.Gen.Kernel11Ideal.Frame
public import proofs.«01_k».proof.Proof.Norm.Spec
public import Idealize.ShloMosaic.Lib.Pipeline.ValueKit
import Idealize.ShloMosaic.Lib.Pointwise
import Idealize.ShloMosaic.Lib.IdealHost

@[expose] public section

noncomputable section

namespace Cert.Kernel11Ideal.Value

open Idealize.ShloMosaic Idealize.ShloMosaic.TcCoe Idealize.SL.Sem Cert.Kernel11Ideal Cert.Kernel11Ideal.Gen
open Idealize.ShloMosaic.Pipeline (Dat)

theorem hz : (![0, 0] : Fin 2 → Nat) = fun _ => 0 := funext fun a => by fin_cases a <;> rfl
theorem idx2 {a b : ℕ} (y : (⟨2, ![a, b]⟩ : Shape).Idx) : ∃ (r : Fin a) (q : Fin b), y = ix2 r q :=
  ⟨y 0, y 1, funext fun k => match k with | ⟨0, _⟩ => rfl | ⟨1, _⟩ => rfl⟩

theorem pay1_apply (v0 : Vec Ideal S256x2048 .f32) (v1 : Vec Ideal S1x2048 .f32) (r : Fin 256) (l : Fin 2048) :
    k0_pay1 v0 v1 (ix2 r l) = Norm.Y (fun k => v0 (ix2 r k)) (fun k => v1 (ix2 0 k)) l := by
  unfold Norm.Y Norm.N Norm.R Norm.V Norm.eps Loss.width
  pointwise [k0_pay1]

/-- What a step leaves in its block. -/
theorem out (x0 : Vec Ideal S256x2048 .f32) (x1 : Vec Ideal S1x2048 .f32) : out0_2 x0 x1 = k0_pay1 x0 x1 := by
  unfold out0_2
  refine (View.canon_unit_zero (S := S256x2048) hz _ _).trans ?_
  rw [View.ld_unit_zero (S := S256x2048) hz _ x0, View.ld_unit_zero (S := S1x2048) hz _ x1]

variable (m : (ℓ : Loc nD τ sig) → Buf (Elt Ideal) ℓ) (ρ : Dev nD → PrngReg) (c : Dev nD)

/-- The input and the gains, by coordinates. -/
def xIn (i l : Fin 2048) : EReal := (m ((c : Thread nD τ).loc main_arg0) : Vec Ideal S2048x2048 .f32) (ix2 i l)
def gIn (l : Fin 2048) : EReal := (m ((c : Thread nD τ).loc main_arg1) : Vec Ideal S1x2048 .f32) (ix2 0 l)

theorem at_0 : ∀ t : Fin grid0.N, win0_0.index t 0 = t.val ∧ win0_0.index t 1 = 0 := by decide +kernel
theorem at_1 : ∀ t : Fin grid0.N, win0_1.index t 0 = 0 ∧ win0_1.index t 1 = 0 := by decide +kernel
theorem at_2 : ∀ t : Fin grid0.N, win0_2.index t 0 = t.val ∧ win0_2.index t 1 = 0 := by decide +kernel

/-- Row `r` of step `t`'s block. -/
def row (t : Nat) (r : Fin 256) : Fin 2048 := ⟨256 * (t % 8) + r.val, by omega⟩

theorem blk0 (t : Fin cfg0.N) (r : Fin 256) (l : Fin 2048) : (iblk m c 0 t : Vec Ideal S256x2048 .f32) (ix2 r l) = xIn m c (row t.val r) l := by
  have ht : t.val < 8 := t.isLt
  unfold iblk
  rw [View.read_apply]
  refine congrArg (m ((c : Thread nD τ).loc main_arg0) : Vec Ideal S2048x2048 .f32) (funext fun k => Fin.ext ?_)
  match k with
  | ⟨0, _⟩ => show win0_0.index t 0 * 256 + 1 * r.val = _; rw [(at_0 t).1]; show _ = 256 * (t.val % 8) + r.val; omega
  | ⟨1, _⟩ => show win0_0.index t 1 * 2048 + 1 * l.val = _; rw [(at_0 t).2]; show _ = l.val; omega
theorem blk1 (t : Fin cfg0.N) (l : Fin 2048) : (iblk m c 1 t : Vec Ideal S1x2048 .f32) (ix2 0 l) = gIn m c l := by
  unfold iblk
  rw [View.read_apply]
  refine congrArg (m ((c : Thread nD τ).loc main_arg1) : Vec Ideal S1x2048 .f32) (funext fun k => Fin.ext ?_)
  match k with
  | ⟨0, _⟩ => show win0_1.index t 0 * 1 + 1 * 0 = _; rw [(at_1 t).1]; rfl
  | ⟨1, _⟩ => show win0_1.index t 1 * 2048 + 1 * l.val = _; rw [(at_1 t).2]; show _ = l.val; omega

theorem y_arr : (dats m 0 c).arrAt 2 cfg0.N = fun y : S2048x2048.Idx => Norm.Y (xIn m c (y 0)) (gIn m c) (y 1) := by
  refine (dats m 0 c).arrAt_eq_of_covers 2 _ (by decide +kernel) fun t hf y => ?_
  have ht : t.val < 8 := t.isLt
  blk_simp
  rw [after0_2, out]
  obtain ⟨r, q, rfl⟩ := idx2 (a := 256) (b := 2048) y
  have e0 : ((win0_2.blk t).view.emb (ix2 r q) 0 : Fin 2048) = row t.val r := Fin.ext (by
    show win0_2.index t 0 * 256 + 1 * r.val = 256 * (t.val % 8) + r.val; rw [(at_2 t).1]; omega)
  have e1 : ((win0_2.blk t).view.emb (ix2 r q) 1 : Fin 2048) = q := Fin.ext (by
    show win0_2.index t 1 * 2048 + 1 * q.val = q.val; rw [(at_2 t).2]; omega)
  rw [e0, e1]
  refine (pay1_apply _ _ r q).trans ?_
  simp only [blk0, blk1]

/-- The run leaves the normalized rows, and the arguments as they were. -/
theorem run : θ_run defs (onTc (τ := τ) (main (F := Ideal))) ⟨m, fun _ => 0, ρ⟩ fun r => ∀ c : Dev nD,
      r.2.mem ((c.tc : Thread nD τ).loc main_v0) = (fun y : S2048x2048.Idx => Norm.Y (xIn m c (y 0)) (gIn m c) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (y_arr m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Kernel11Ideal.Value

end
-- ==== Proof.Norm.Claim11.lean ====
/-
  The normalization before the feed-forward block: the claims of its program.
-/
module

public import proofs.«01_k».proof.Defs
public import proofs.«01_k».proof.Proof.Gen.Kernel11.Frame
public import proofs.«01_k».proof.Proof.Gen.Reference11Ideal.Read
public import proofs.«01_k».proof.Proof.Norm.Fwd
import Idealize.ShloMosaic.Lib.Pointwise
import Idealize.ShloMosaic.Lib.IdealHost

@[expose] public section

noncomputable section

namespace Cert.Proof

open Idealize.ShloMosaic Idealize.SL.Sem

/-- The reference runs and leaves its arguments. -/
theorem frame_ri11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The reference's result, at a row and a column. -/
theorem ref_y (x0 : Vec Ideal Cert.Reference11Ideal.S2048x2048 .f32) (x1 : Vec Ideal Cert.Reference11Ideal.S1x2048 .f32) (i l : Fin 2048) :
    Cert.Reference11Ideal.Read.val_main_v12 (F := Ideal) x0 x1 (ix2 i l) = Norm.Y (fun k => x0 (ix2 i k)) (fun k => x1 (ix2 0 k)) l := by
  unfold Norm.Y Norm.N Norm.R Norm.V Norm.eps Loss.width
  pointwise [Cert.Reference11Ideal.Read.val_main_v12, Cert.Reference11Ideal.Read.val_main_v11, Cert.Reference11Ideal.Read.val_main_v10, Cert.Reference11Ideal.Read.val_main_v9,
    Cert.Reference11Ideal.Read.val_main_v8, Cert.Reference11Ideal.Read.val_main_v7, Cert.Reference11Ideal.Read.val_main_v6, Cert.Reference11Ideal.Read.val_main_v5,
    Cert.Reference11Ideal.Read.val_main_v4, Cert.Reference11Ideal.Read.val_main_v3, Cert.Reference11Ideal.Read.val_main_v2, Cert.Reference11Ideal.Read.val_main_v1,
    Cert.Reference11Ideal.Read.val_main_v0, Cert.Reference11Ideal.Read.val_main_cst, Cert.Reference11Ideal.Read.val_main_cst_0, Cert.Reference11Ideal.Read.val_main_cst_1]

/-- The kernel and the reference give the same rows. -/
theorem algebraic11 : Cert.algebraic_Kernel11Ideal_Reference11Ideal := by
  intro m ρ m' ρ' _ hagree
  refine ⟨_, Cert.Kernel11Ideal.Value.run m ρ, ?_⟩
  refine (θ_run Cert.Reference11Ideal.defs _ _).mono (fun r h c => ?_) (Cert.Reference11Ideal.Value.run (F := Ideal) m' ρ')
  obtain ⟨h0, hargs⟩ := h c
  obtain ⟨a0, a1⟩ := hagree c
  refine ⟨h0.trans ?_, hargs⟩
  rw [Cert.Reference11Ideal.Read.val_main_v12_eq, a0, a1]
  funext y
  obtain ⟨i, l, rfl⟩ := Cert.Kernel11Ideal.Value.idx2 (a := 2048) (b := 2048) y
  exact ref_y _ _ i l

end Cert.Proof

end
-- ==== Proof.Attn.FwdSpec.lean ====
/-
  The sliding-window attention with sinks, as a formula of the arguments, by the coordinates of its gradient's formulas.
-/
module

public import proofs.«01_k».proof.Proof.Attn.Spec
public import proofs.«01_k».proof.Proof.Attn.SpecReal

@[expose] public section

noncomputable section

namespace Cert.Attn

open Idealize.ShloMosaic

/-- A query row's output: the values of the keys that it sees, by their weights. -/
def O (A : Args) (t : Fin 16) (h g : Fin 4) (r : Fin 128) (d : Fin 64) : EReal := ∑ c : Fin 256, Pn A t h g r c * banded A.v t h c d
/-- The output at a row and a column. -/
def aO (A : Args) (i : Fin 2048) (l : Fin 1024) : EReal := O A (blk i) (colH l) (colG l) (pos i) (colD l)

/-- A query row's scores are real or masked where the queries and the keys are real, and its own key's is real. -/
theorem S_real_of (A : Args) (hq : ∀ i j, ∃ x : ℝ, A.q i j = x) (hk : ∀ i j, ∃ x : ℝ, A.k i j = x) (t : Fin 16) (h g : Fin 4) (r : Fin 128) :
    Row.Real (S A t h g r) :=
  S_real (A := { A with v := fun _ _ => 0, sinks := fun _ => 0, g := fun _ _ => 0 })
    ⟨hq, hk, fun _ _ => ⟨0, rfl⟩, fun _ => ⟨0, rfl⟩, fun _ _ => ⟨0, rfl⟩⟩ t h g r

end Cert.Attn

end
-- ==== Proof.Attn.Fwd.lean ====
/-
  The attention's forward kernel: its body on its blocks as one term per value, a key-value head `h : Fin 4` being a
  variable; those terms read at an index; and the array after the run, the formula of `Attn` at every row and column.
-/
module

public import proofs.«01_k».proof.Proof.Gen.Kernel13Ideal.Value
public import proofs.«01_k».proof.Proof.Attn.FwdSpec
public import proofs.«01_k».proof.Proof.Attn.Words
public import Idealize.ShloMosaic.Lib.Pipeline.ValueKit
import Idealize.ShloMosaic.Lib.Pointwise
import Idealize.ShloMosaic.Lib.IdealHost

@[expose] public section

noncomputable section

namespace Cert.Kernel13Ideal.Value

open Idealize.ShloMosaic Idealize.ShloMosaic.TcCoe Idealize.SL.Sem Cert.Kernel13Ideal Cert.Kernel13Ideal.Gen
open Idealize.ShloMosaic.Pipeline (Dat)
open Cert.KernelIdeal.Value (lane_word above_word below_word own_word first_word)

section
variable {F : FTy → Type} [FloatOps F] [Named F]

/-! ## One head -/

section
variable (valid : IVec S256x512 1) (k2 v2 : FVec F S256x64 .bf16) (q4 : FVec F S512x64 .bf16) (sk : FVec F S1x512 .f32)

/-- The masked scores: a row per key, a column per query row of the group. -/
def tS : FVec F S256x512 .f32 :=
  select valid (mulf (matmul dot_S256x64_S512x64_S256x512_1_1_0_0_n_n none k2 q4 (constant S256x512 .f32 0x00000000#32))
    (broadcast S256x512 (Scalar.ofBits .f32 0x3E000000#32))) (broadcast S256x512 (Named.named κ "mask" 0xF149F2CA#32))
/-- Each column's maximum, the sink included. -/
def tM : FVec F S1x512 .f32 :=
  maximumf (shapeCast S1x512 (multiReduction .maximumf [0] S512 (tS valid k2 q4) 0xFF800000#32 reduces_S256x512_S512 (.inl rfl) rfl)
    shapeCasts_S512_S1x512) sk
/-- The weights before the division. -/
def tP : FVec F S256x512 .f32 := exp (subf (tS valid k2 q4) (broadcastTo S256x512 (tM valid k2 q4 sk) broadcasts_S1x512_S256x512))
/-- The sinks' weights before the division. -/
def tE : FVec F S1x512 .f32 := exp (subf sk (tM valid k2 q4 sk))
/-- The reciprocal of each column's sum. -/
def tInv : FVec F S1x512 .f32 :=
  divf (broadcast S1x512 (Scalar.ofBits .f32 0x3F800000#32))
    (addf (shapeCast S1x512 (multiReduction .add [0] S512 (tP valid k2 q4 sk) 0x00000000#32 reduces_S256x512_S512 (.inl rfl) rfl)
      shapeCasts_S512_S1x512) (tE valid k2 q4 sk))
/-- The weights. -/
def tPn : FVec F S256x512 .f32 := mulf (tP valid k2 q4 sk) (broadcastTo S256x512 (tInv valid k2 q4 sk) broadcasts_S1x512_S256x512)
/-- The outputs. -/
def tO : FVec F S512x64 .f32 :=
  matmul dot_S256x512_S256x64_S512x64_0_0_1_1_n_n none (truncf .bf16 (tPn valid k2 q4 sk) bitsLt_bf16_f32) v2 (constant S512x64 .f32 0x00000000#32)
end

/-! ## A head's part of the blocks -/

theorem slKv (h : Fin 4) : S128x256.Slices ![0, 64 * h.val] S128x64 := by revert h; decide
theorem slQ (n : Fin 16) : S128x1024.Slices ![0, 64 * n.val] S128x64 := by revert n; decide
theorem slR (g : Fin 4) : S512x64.Slices ![128 * g.val, 0] S128x64 := by revert g; decide
theorem inSk (n : Fin 16) : ∀ a, (![n.val, 0] : Fin 2 → Nat) a + S1x128.size a ≤ S16x128.size a := by revert n; decide

/-- Query head `g` of key-value head `h`. -/
def qh (h g : Fin 4) : Fin 16 := ⟨4 * h.val + g.val, by omega⟩

/-- The head's keys (or values): those of the block before, then the block's own. -/
def kOf (h : Fin 4) (a b : Vec F S128x256 .bf16) : FVec F S256x64 .bf16 :=
  concatenate S256x64 0 [⟨S128x64, extractStridedSlice S128x64 ![0, 64 * h.val] a (slKv h)⟩, ⟨S128x64, extractStridedSlice S128x64 ![0, 64 * h.val] b (slKv h)⟩]
    concatenates_S128x64_S128x64_S256x64_d0
/-- The head's four query heads, one under another. -/
def qOf (ty : FTy) (h : Fin 4) (x : FVec F S128x1024 ty) : FVec F S512x64 ty :=
  concatenate S512x64 0 (List.ofFn fun g : Fin 4 => (⟨S128x64, extractStridedSlice S128x64 ![0, 64 * (qh h g).val] x (slQ (qh h g))⟩ : (s : Shape) × (s.Idx → F ty)))
    concatenates_S128x64_S128x64_S128x64_S128x64_S512x64_d0
/-- The head's four sinks, one beside another. -/
def skOf (h : Fin 4) (x : Vec F S16x128 .f32) : FVec F S1x512 .f32 :=
  concatenate S1x512 1 (List.ofFn fun g : Fin 4 => (⟨S1x128, shapeCast S1x128 (View.ld x (Rect.unit (s := S16x128) ![(qh h g).val, 0] S1x128.size (inSk (qh h g)))) shapeCasts_S1x128_S1x128⟩ : (s : Shape) × (s.Idx → F .f32)))
    concatenates_S1x128_S1x128_S1x128_S1x128_S1x512_d1

/-! ## The body -/

section
variable (i : grid0.Coords) (x0 : Vec F S128x1024 .bf16) (x1 x2 x3 x4 : Vec F S128x256 .bf16) (x5 : Vec F S16x128 .f32)

/-- The outputs of head `h`. -/
def hO (h : Fin 4) : FVec F S512x64 .f32 := tO (k0_pay3 i) (kOf h x1 x2) (kOf h x3 x4) (qOf .bf16 h x0) (skOf h x5)

/-- Query head `n`'s key-value head and its place there. -/
def hd (n : Fin 16) : Fin 4 := ⟨n.val / 4, by omega⟩
def gp (n : Fin 16) : Fin 4 := ⟨n.val % 4, by omega⟩

/-- The block of the outputs, before and after the rounding. -/
def oF : FVec F S128x1024 .f32 :=
  concatenate S128x1024 1 (List.ofFn fun n : Fin 16 => (⟨S128x64, extractStridedSlice S128x64 ![128 * (gp n).val, 0] (hO i x0 x1 x2 x3 x4 x5 (hd n)) (slR (gp n))⟩ : (s : Shape) × (s.Idx → F .f32)))
    concatenates_S128x64_S128x64_S128x64_S128x64_S128x64_S128x64_S128x64_S128x64_S128x64_S128x64_S128x64_S128x64_S128x64_S128x64_S128x64_S128x64_S128x1024_d1
def oO : FVec F S128x1024 .bf16 := truncf .bf16 (oF i x0 x1 x2 x3 x4 x5) bitsLt_bf16_f32

theorem hz : (![0, 0] : Fin 2 → Nat) = fun _ => 0 := funext fun a => by fin_cases a <;> rfl
theorem ldQ {ty : EltTy} (x : Vec F S128x1024 ty) : View.ld x r0_0 = x := View.ld_unit_zero (S := S128x1024) hz _ x
theorem ldK {ty : EltTy} (x : Vec F S128x256 ty) : View.ld x r0_1 = x := View.ld_unit_zero (S := S128x256) hz _ x

set_option maxRecDepth 65536 in
set_option maxHeartbeats 2000000 in
/-- What the body leaves. -/
theorem out_eq : out0_6 i x0 x1 x2 x3 x4 x5 = oO i x0 x1 x2 x3 x4 x5 := by
  unfold out0_6
  refine (View.canon_unit_zero (S := S128x1024) hz _ _).trans ?_
  unfold k0_pay60 k0_pay59 k0_pay58 k0_pay57 k0_pay56 k0_pay55 k0_pay54 k0_pay53 k0_pay52 k0_pay51 k0_pay50 k0_pay49 k0_pay48 k0_pay47 k0_pay46 k0_pay45 k0_pay44 k0_pay43 k0_pay42
  rw [ldQ x0, ldK x1, ldK x2, ldK x3, ldK x4]
  rfl
end
end

/-! ## One head's terms at a column -/

section
/-- The scale of the scores, as the printed number. -/
abbrev sc : EReal := Ideal.ofBits .f32 0x3E000000#32

variable (valid : IVec S256x512 1) (k2 v2 : FVec Ideal S256x64 .bf16) (q4 : FVec Ideal S512x64 .bf16) (sk : FVec Ideal S1x512 .f32)

/-- The scores of column `j`. -/
def colS (j : Fin 512) (c : Fin 256) : EReal := tS valid k2 q4 (ix2 c j)

theorem tS_apply (c : Fin 256) (j : Fin 512) :
    tS valid k2 q4 (ix2 c j) = if valid (ix2 c j) = 1#1 then (∑ d : Fin 64, k2 (ix2 c d) * q4 (ix2 j d)) * sc else ⊥ := by
  pointwise [tS]
  rw [IdealRules.named_const.ideal_named_scalar]
  · rfl
  · rfl

theorem tM_apply (j : Fin 512) : tM valid k2 q4 sk (ix2 0 j) = Row.mx (colS valid k2 q4 j) (sk (ix2 0 j)) := by
  pointwise [tM]
  rfl

theorem tP_apply (c : Fin 256) (j : Fin 512) : tP valid k2 q4 sk (ix2 c j) = Row.p (colS valid k2 q4 j) (sk (ix2 0 j)) c := by
  pointwise [tP, tM_apply]
  rfl

theorem tE_apply (j : Fin 512) : tE valid k2 q4 sk (ix2 0 j) = Row.e (colS valid k2 q4 j) (sk (ix2 0 j)) := by
  pointwise [tE, tM_apply]
  rfl

theorem tInv_apply (j : Fin 512) : tInv valid k2 q4 sk (ix2 0 j) = Ideal.div 1 (Row.den (colS valid k2 q4 j) (sk (ix2 0 j))) := by
  pointwise [tInv, tE_apply, tP_apply]
  rfl

theorem tPn_apply (c : Fin 256) (j : Fin 512) : tPn valid k2 q4 sk (ix2 c j) = Row.pn (colS valid k2 q4 j) (sk (ix2 0 j)) c := by
  pointwise [tPn, tP_apply, tInv_apply]
  rfl

theorem tO_apply (j : Fin 512) (d : Fin 64) :
    tO valid k2 v2 q4 sk (ix2 j d) = ∑ c : Fin 256, Row.pn (colS valid k2 q4 j) (sk (ix2 0 j)) c * v2 (ix2 c d) := by
  pointwise [tO, tPn_apply]
end

/-- Column `128 * g + r` of a head's 512. -/
def jj (g : Fin 4) (r : Fin 128) : Fin 512 := ⟨128 * g.val + r.val, by omega⟩

/-! ## The pieces of the operands -/

theorem kOf_lo (h : Fin 4) (a b : Vec Ideal S128x256 .bf16) (c : Fin 256) (d : Fin 64) (hc : c.val < 128) :
    kOf h a b (ix2 c d) = a (ix2 ⟨c.val, hc⟩ (Attn.kcol h d)) := by
  refine (concatenate_ofFn_apply (s₁ := S128x64) (N := 2) 0 ![extractStridedSlice S128x64 ![0, 64 * h.val] a (slKv h), extractStridedSlice S128x64 ![0, 64 * h.val] b (slKv h)]
    concatenates_S128x64_S128x64_S256x64_d0 rfl 128 rfl (ix2 c d) 0 ?_ (ix2 ⟨c.val, hc⟩ d) ?_ ?_).trans ?_
  · show c.val / 128 = 0; omega
  · show c.val = c.val % 128; omega
  · intro b hb
    match b with
    | ⟨0, _⟩ => exact absurd rfl hb
    | ⟨1, _⟩ => rfl
  · show extractStridedSlice S128x64 ![0, 64 * h.val] a (slKv h) _ = _
    pointwise []
    rfl

theorem kOf_hi (h : Fin 4) (a b : Vec Ideal S128x256 .bf16) (c : Fin 256) (d : Fin 64) (hc : ¬c.val < 128) :
    kOf h a b (ix2 c d) = b (ix2 ⟨c.val - 128, by omega⟩ (Attn.kcol h d)) := by
  refine (concatenate_ofFn_apply (s₁ := S128x64) (N := 2) 0 ![extractStridedSlice S128x64 ![0, 64 * h.val] a (slKv h), extractStridedSlice S128x64 ![0, 64 * h.val] b (slKv h)]
    concatenates_S128x64_S128x64_S256x64_d0 rfl 128 rfl (ix2 c d) 1 ?_ (ix2 ⟨c.val - 128, by omega⟩ d) ?_ ?_).trans ?_
  · show c.val / 128 = 1; omega
  · show c.val - 128 = c.val % 128; omega
  · intro b hb
    match b with
    | ⟨0, _⟩ => exact absurd rfl hb
    | ⟨1, _⟩ => rfl
  · show extractStridedSlice S128x64 ![0, 64 * h.val] b (slKv h) _ = _
    pointwise []
    rfl

theorem qOf_apply (ty : FTy) (h g : Fin 4) (x : FVec Ideal S128x1024 ty) (r : Fin 128) (d : Fin 64) :
    qOf ty h x (ix2 (jj g r) d) = x (ix2 r (Attn.col h g d)) := by
  refine (concatenate_ofFn_apply (s₁ := S128x64) (N := 4) 0 (fun g => extractStridedSlice S128x64 ![0, 64 * (qh h g).val] x (slQ (qh h g)))
    concatenates_S128x64_S128x64_S128x64_S128x64_S512x64_d0 rfl 128 rfl (ix2 (jj g r) d) g ?_ (ix2 r d) ?_ ?_).trans ?_
  · show (128 * g.val + r.val) / 128 = g.val; omega
  · show r.val = (128 * g.val + r.val) % 128; omega
  · intro b hb
    match b with
    | ⟨0, _⟩ => exact absurd rfl hb
    | ⟨1, _⟩ => rfl
  · show extractStridedSlice S128x64 ![0, 64 * (qh h g).val] x (slQ (qh h g)) _ = _
    pointwise []
    rfl

theorem skOf_apply (h g : Fin 4) (x : Vec Ideal S16x128 .f32) (r : Fin 128) :
    skOf h x (ix2 0 (jj g r)) = x (ix2 (Attn.head h g) r) := by
  refine (concatenate_ofFn_apply (s₁ := S1x128) (N := 4) 1 (fun g => shapeCast S1x128 (View.ld x (Rect.unit (s := S16x128) ![(qh h g).val, 0] S1x128.size (inSk (qh h g)))) shapeCasts_S1x128_S1x128)
    concatenates_S1x128_S1x128_S1x128_S1x128_S1x512_d1 rfl 128 rfl (ix2 0 (jj g r)) g ?_ (ix2 0 r) ?_ ?_).trans ?_
  · show (128 * g.val + r.val) / 128 = g.val; omega
  · show r.val = (128 * g.val + r.val) % 128; omega
  · intro b hb
    match b with
    | ⟨0, _⟩ => rfl
    | ⟨1, _⟩ => exact absurd rfl hb
  · show shapeCast S1x128 (View.ld x (Rect.unit (s := S16x128) ![(qh h g).val, 0] S1x128.size (inSk (qh h g)))) shapeCasts_S1x128_S1x128 _ = _
    pointwise []
    rfl

/-- The kernel's mask of point `t`. -/
theorem valid_apply (i : grid0.Coords) (t : Fin 16) (hi : (i 0).val = t.val) (g : Fin 4) (r : Fin 128) (c : Fin 256) :
    k0_pay3 i (ix2 c (jj g r)) = 1#1 ↔ Attn.Seen t r c := by
  pointwise [k0_pay3]
  rw [hi]
  show IntOp.andi (IntOp.andi (IntOp.cmpi .sgt _ (IntOp.andi (BitVec.ofNat 32 (128 * g.val + r.val)) 127#32))
    (IntOp.cmpi .sle _ (IntOp.addi (IntOp.andi (BitVec.ofNat 32 (128 * g.val + r.val)) 127#32) 128#32))) _ = 1#1 ↔ _
  rw [lane_word, above_word, below_word, own_word, first_word]
  unfold Attn.Seen
  by_cases h1 : r.val < c.val <;> by_cases h2 : c.val ≤ r.val + 128 <;> by_cases h3 : 128 ≤ c.val <;> by_cases h4 : 0 < t.val <;>
    simp only [h1, h2, h3, h4, if_true, if_false, and_true, and_false, or_true, or_false, iff_true, iff_false] <;> decide

/-! ## The blocks -/

section
variable (A : Attn.Args) (i : grid0.Coords) (t : Fin 16) (hi : (i 0).val = t.val)
  (x0 : Vec Ideal S128x1024 .bf16) (x1 x2 x3 x4 : Vec Ideal S128x256 .bf16) (x5 : Vec Ideal S16x128 .f32)

/-- The blocks are those of point `t`. -/
structure Blocks : Prop where
  q : ∀ r l, x0 (ix2 r l) = A.q (Attn.row t r) l
  kp : ∀ r l, x1 (ix2 r l) = A.k (Attn.rowBefore t r) l
  kc : ∀ r l, x2 (ix2 r l) = A.k (Attn.row t r) l
  vp : ∀ r l, x3 (ix2 r l) = A.v (Attn.rowBefore t r) l
  vc : ∀ r l, x4 (ix2 r l) = A.v (Attn.row t r) l
  sk : ∀ n r, x5 (ix2 n r) = A.sinks n

/-- Where a key is seen, or the block is not the first, the head's keys are those of the formulas. -/
theorem kOf_banded (x : Fin 2048 → Fin 256 → EReal) (h : Fin 4) (a b : Vec Ideal S128x256 .bf16)
    (ha : ∀ r l, a (ix2 r l) = x (Attn.rowBefore t r) l) (hb : ∀ r l, b (ix2 r l) = x (Attn.row t r) l)
    (c : Fin 256) (hc : 128 ≤ c.val ∨ 0 < t.val) (d : Fin 64) : kOf h a b (ix2 c d) = Attn.banded x t h c d := by
  unfold Attn.banded
  by_cases h1 : c.val < 128
  · rw [dif_pos h1, if_neg (by omega), kOf_lo h a b c d h1, ha]
  · rw [dif_neg h1, kOf_hi h a b c d h1, hb]

variable {A i t x0 x1 x2 x3 x4 x5} (hi : (i 0).val = t.val) (B : Blocks A t x0 x1 x2 x3 x4 x5) (h g : Fin 4) (r : Fin 128)
include hi B

theorem colS_eq : colS (k0_pay3 i) (kOf h x1 x2) (qOf .bf16 h x0) (jj g r) = Attn.S A t h g r := by
  funext c
  unfold colS Attn.S
  rw [tS_apply]
  by_cases hs : Attn.Seen t r c
  · rw [if_pos ((valid_apply i t hi g r c).2 hs), if_pos hs]
    congr 1
    refine Finset.sum_congr rfl fun d _ => ?_
    rw [kOf_banded t A.k h x1 x2 B.kp B.kc c hs.2.2 d, qOf_apply, B.q]
  · rw [if_neg (fun he => hs ((valid_apply i t hi g r c).1 he)), if_neg hs]

omit hi in
theorem sink_eq : skOf h x5 (ix2 0 (jj g r)) = A.sinks (Attn.head h g) := by rw [skOf_apply, B.sk]

theorem hO_apply (d : Fin 64) : hO i x0 x1 x2 x3 x4 x5 h (ix2 (jj g r) d) = Attn.O A t h g r d := by
  unfold hO Attn.O Attn.Pn
  rw [tO_apply, colS_eq hi B h g r, sink_eq B h g r]
  refine Finset.sum_congr rfl fun c _ => ?_
  by_cases hs : Attn.Seen t r c
  · rw [kOf_banded t A.v h x3 x4 B.vp B.vc c hs.2.2 d]
  · rw [Row.pn_bot _ _ c (if_neg hs), zero_mul, zero_mul]

theorem oF_apply (l : Fin 1024) : oF i x0 x1 x2 x3 x4 x5 (ix2 r l) = Attn.O A t (Attn.colH l) (Attn.colG l) r (Attn.colD l) := by
  rw [← hO_apply hi B]
  have hn : l.val / 64 < 16 := by omega
  refine (concatenate_ofFn_apply (t := S128x1024) (s₁ := S128x64) (N := 16) 1 (fun n => extractStridedSlice S128x64 ![128 * (gp n).val, 0] (hO i x0 x1 x2 x3 x4 x5 (hd n)) (slR (gp n)))
    _ rfl 64 rfl (ix2 r l) ⟨l.val / 64, hn⟩ rfl (ix2 r (Attn.colD l)) rfl ?_).trans ?_
  · intro b hb
    match b with
    | ⟨0, _⟩ => rfl
    | ⟨1, _⟩ => exact absurd rfl hb
  · have e1 : hd ⟨l.val / 64, hn⟩ = Attn.colH l := Fin.ext (by show l.val / 64 / 4 = l.val / 256; omega)
    rw [e1]
    show extractStridedSlice S128x64 ![128 * (gp ⟨l.val / 64, hn⟩).val, 0] (hO i x0 x1 x2 x3 x4 x5 (Attn.colH l)) (slR (gp ⟨l.val / 64, hn⟩)) _ = _
    pointwise []
    congr 1
    all_goals rfl

theorem oO_apply (l : Fin 1024) : oO i x0 x1 x2 x3 x4 x5 (ix2 r l) = Attn.O A t (Attn.colH l) (Attn.colG l) r (Attn.colD l) := by
  rw [← oF_apply hi B]
  rfl
end

/-! ## The array -/

variable (m : (ℓ : Loc nD τ sig) → Buf (Elt Ideal) ℓ) (c : Dev nD)

/-- The arguments, by coordinates; the formula of the output reads no gradient. -/
def args : Attn.Args where
  q i l := (m ((c : Thread nD τ).loc main_arg0) : Vec Ideal S2048x1024 .bf16) (ix2 i l)
  k i l := (m ((c : Thread nD τ).loc main_arg1) : Vec Ideal S2048x256 .bf16) (ix2 i l)
  v i l := (m ((c : Thread nD τ).loc main_arg2) : Vec Ideal S2048x256 .bf16) (ix2 i l)
  sinks n := (m ((c : Thread nD τ).loc main_arg3) : Vec Ideal S16 .f32) (ix1 n)
  g _ _ := 0

/-- A grid point as a block. -/
def tp (t : Fin cfg0.N) : Fin 16 := ⟨t.val, t.isLt⟩

theorem coords_val : ∀ t : Fin grid0.N, (grid0.coords t 0).val = t.val := by decide +kernel

theorem at_0 : ∀ t : Fin grid0.N, win0_0.index t 0 = t.val ∧ win0_0.index t 1 = 0 := by decide +kernel
theorem at_1 : ∀ t : Fin grid0.N, win0_1.index t 0 = t.val - 1 ∧ win0_1.index t 1 = 0 := by decide +kernel
theorem at_2 : ∀ t : Fin grid0.N, win0_2.index t 0 = t.val ∧ win0_2.index t 1 = 0 := by decide +kernel
theorem at_3 : ∀ t : Fin grid0.N, win0_3.index t 0 = t.val - 1 ∧ win0_3.index t 1 = 0 := by decide +kernel
theorem at_4 : ∀ t : Fin grid0.N, win0_4.index t 0 = t.val ∧ win0_4.index t 1 = 0 := by decide +kernel
theorem at_5 : ∀ t : Fin grid0.N, win0_5.index t 0 = 0 ∧ win0_5.index t 1 = 0 := by decide +kernel
theorem at_6 : ∀ t : Fin grid0.N, win0_6.index t 0 = t.val ∧ win0_6.index t 1 = 0 := by decide +kernel

theorem iblk0 (t : Fin cfg0.N) (r : Fin 128) (l : Fin 1024) :
    (iblk m c 0 t : Vec Ideal S128x1024 .bf16) (ix2 r l) = (args m c).q (Attn.row (tp t) r) l := by
  unfold iblk
  rw [View.read_apply]
  show V m c main_arg0 _ = _
  rw [V_main_arg0]
  show m _ _ = m _ _
  congr 1
  funext a
  apply Fin.ext
  match a with
  | ⟨0, _⟩ => show win0_0.index t 0 * 128 + 1 * r.val = 128 * t.val + r.val; rw [(at_0 t).1]; omega
  | ⟨1, _⟩ => show win0_0.index t 1 * 1024 + 1 * l.val = l.val; rw [(at_0 t).2]; omega

theorem iblk1 (t : Fin cfg0.N) (r : Fin 128) (l : Fin 256) :
    (iblk m c 1 t : Vec Ideal S128x256 .bf16) (ix2 r l) = (args m c).k (Attn.rowBefore (tp t) r) l := by
  unfold iblk
  rw [View.read_apply]
  show V m c main_arg1 _ = _
  rw [V_main_arg1]
  show m _ _ = m _ _
  congr 1
  funext a
  apply Fin.ext
  match a with
  | ⟨0, _⟩ => show win0_1.index t 0 * 128 + 1 * r.val = 128 * (t.val - 1) + r.val; rw [(at_1 t).1]; omega
  | ⟨1, _⟩ => show win0_1.index t 1 * 256 + 1 * l.val = l.val; rw [(at_1 t).2]; omega

theorem iblk2 (t : Fin cfg0.N) (r : Fin 128) (l : Fin 256) :
    (iblk m c 2 t : Vec Ideal S128x256 .bf16) (ix2 r l) = (args m c).k (Attn.row (tp t) r) l := by
  unfold iblk
  rw [View.read_apply]
  show V m c main_arg1 _ = _
  rw [V_main_arg1]
  show m _ _ = m _ _
  congr 1
  funext a
  apply Fin.ext
  match a with
  | ⟨0, _⟩ => show win0_2.index t 0 * 128 + 1 * r.val = 128 * t.val + r.val; rw [(at_2 t).1]; omega
  | ⟨1, _⟩ => show win0_2.index t 1 * 256 + 1 * l.val = l.val; rw [(at_2 t).2]; omega

theorem iblk3 (t : Fin cfg0.N) (r : Fin 128) (l : Fin 256) :
    (iblk m c 3 t : Vec Ideal S128x256 .bf16) (ix2 r l) = (args m c).v (Attn.rowBefore (tp t) r) l := by
  unfold iblk
  rw [View.read_apply]
  show V m c main_arg2 _ = _
  rw [V_main_arg2]
  show m _ _ = m _ _
  congr 1
  funext a
  apply Fin.ext
  match a with
  | ⟨0, _⟩ => show win0_3.index t 0 * 128 + 1 * r.val = 128 * (t.val - 1) + r.val; rw [(at_3 t).1]; omega
  | ⟨1, _⟩ => show win0_3.index t 1 * 256 + 1 * l.val = l.val; rw [(at_3 t).2]; omega

theorem iblk4 (t : Fin cfg0.N) (r : Fin 128) (l : Fin 256) :
    (iblk m c 4 t : Vec Ideal S128x256 .bf16) (ix2 r l) = (args m c).v (Attn.row (tp t) r) l := by
  unfold iblk
  rw [View.read_apply]
  show V m c main_arg2 _ = _
  rw [V_main_arg2]
  show m _ _ = m _ _
  congr 1
  funext a
  apply Fin.ext
  match a with
  | ⟨0, _⟩ => show win0_4.index t 0 * 128 + 1 * r.val = 128 * t.val + r.val; rw [(at_4 t).1]; omega
  | ⟨1, _⟩ => show win0_4.index t 1 * 256 + 1 * l.val = l.val; rw [(at_4 t).2]; omega

/-- The sinks, laid out over rows of 128. -/
theorem V_sinks : V m c main_v1 = broadcastInDim S16x128 ![0, 1] bcast_S16x1_S16x128_0_1
    (broadcastInDim S16x1 ![0] bcast_S16_S16x1_0 (m ((c : Thread nD τ).loc main_arg3) : Vec Ideal S16 .f32)) := by
  rfl

theorem iblk5 (t : Fin cfg0.N) (n : Fin 16) (r : Fin 128) :
    (iblk m c 5 t : Vec Ideal S16x128 .f32) (ix2 n r) = (args m c).sinks n := by
  unfold iblk
  rw [View.read_apply]
  show V m c main_v1 _ = _
  rw [V_sinks]
  show m _ _ = m _ _
  congr 1
  funext a
  apply Fin.ext
  match a with
  | ⟨0, _⟩ =>
    show win0_5.index t 0 * 16 + 1 * n.val = n.val; rw [(at_5 t).1]; omega

theorem blocks (t : Fin cfg0.N) :
    Blocks (args m c) (tp t) (iblk m c 0 t) (iblk m c 1 t) (iblk m c 2 t) (iblk m c 3 t) (iblk m c 4 t) (iblk m c 5 t) where
  q := iblk0 m c t
  kp := iblk1 m c t
  kc := iblk2 m c t
  vp := iblk3 m c t
  vc := iblk4 m c t
  sk := iblk5 m c t

theorem idx_pair {n : Nat} (y : (⟨2, ![128, n]⟩ : Shape).Idx) : ∃ (r : Fin 128) (l : Fin n), y = ix2 r l :=
  ⟨y 0, y 1, funext fun a => match a with | ⟨0, _⟩ => rfl | ⟨1, _⟩ => rfl⟩

theorem blk_row (t : Fin 16) (r : Fin 128) : Attn.blk (Attn.row t r) = t := Fin.ext (by show (128 * t.val + r.val) / 128 = t.val; omega)
theorem pos_row (t : Fin 16) (r : Fin 128) : Attn.pos (Attn.row t r) = r := Fin.ext (by show (128 * t.val + r.val) % 128 = r.val; omega)

theorem final6 : (dats m 0 c).arrAt 6 cfg0.N = fun i : S2048x1024.Idx => Attn.aO (args m c) (i 0) (i 1) := by
  refine (dats m 0 c).arrAt_eq_of_covers 6 _ (by decide +kernel) fun t hf y => ?_
  blk_simp
  rw [after0_6, out_eq]
  obtain ⟨r, l, rfl⟩ := idx_pair (n := 1024) y
  have e0 : ((win0_6.blk t).view.emb (ix2 r l) 0 : Fin 2048) = Attn.row (tp t) r := Fin.ext (by
    show win0_6.index t 0 * 128 + 1 * r.val = 128 * t.val + r.val; rw [(at_6 t).1]; omega)
  have e1 : ((win0_6.blk t).view.emb (ix2 r l) 1 : Fin 1024) = l := Fin.ext (by
    show win0_6.index t 1 * 1024 + 1 * l.val = l.val; rw [(at_6 t).2]; omega)
  rw [e0, e1]
  unfold Attn.aO
  rw [blk_row, pos_row]
  exact oO_apply (coords_val t) (blocks m c t) r l

end Cert.Kernel13Ideal.Value

end
-- ==== Proof.Attn.FwdRef.lean ====
/-
  The reference's attention, read at an index: its operands and its mask, its softmax, and its output.
-/
module

public import proofs.«01_k».proof.Proof.Gen.Reference13Ideal.Read
public import proofs.«01_k».proof.Proof.Attn.RefWords
public import proofs.«01_k».proof.Proof.Attn.FwdSpec
import Idealize.ShloMosaic.Lib.Pointwise
import Idealize.ShloMosaic.Lib.IdealHost

@[expose] public section

noncomputable section

namespace Cert.Reference13Ideal.Read

open Idealize.ShloMosaic Idealize.SL.Sem Cert.Reference13Ideal Cert.Reference13Ideal.Gen
open Cert.ReferenceIdeal.Read (window_word start_word)

/-- What falls on a row, of the last axis. -/
theorem fiber_5 (hr : S1x16x4x4x128x256.ReducesTo [5] S1x16x4x4x128) (n : Fin 16) (h g : Fin 4) (r : Fin 128) (i : S1x16x4x4x128x256.Idx) :
    hr.drop i = ix5 0 n h g r ↔ ∃ c : Fin 256, ix6 0 n h g r c = i := by
  constructor
  · intro e
    refine ⟨i 5, funext fun a => ?_⟩
    match a with
    | ⟨0, _⟩ => exact Fin.ext (congrArg Fin.val (congrFun e 0)).symm
    | ⟨1, _⟩ => exact Fin.ext (congrArg Fin.val (congrFun e 1)).symm
    | ⟨2, _⟩ => exact Fin.ext (congrArg Fin.val (congrFun e 2)).symm
    | ⟨3, _⟩ => exact Fin.ext (congrArg Fin.val (congrFun e 3)).symm
    | ⟨4, _⟩ => exact Fin.ext (congrArg Fin.val (congrFun e 4)).symm
    | ⟨5, _⟩ => rfl
  · rintro ⟨c, rfl⟩
    funext b
    match b with
    | ⟨0, _⟩ => rfl
    | ⟨1, _⟩ => rfl
    | ⟨2, _⟩ => rfl
    | ⟨3, _⟩ => rfl
    | ⟨4, _⟩ => rfl

theorem sum_5 (hr : S1x16x4x4x128x256.ReducesTo [5] S1x16x4x4x128) (v : S1x16x4x4x128x256.Idx → EReal) (z : EReal) (n : Fin 16) (h g : Fin 4) (r : Fin 128) :
    Ideal.hostReduceAdd hr v z (ix5 0 n h g r) = z + ∑ c : Fin 256, v (ix6 0 n h g r c) :=
  congrArg (z + ·) (Finset.sum_filter_eq_sum_of_fiber _ (fun c : Fin 256 => (ix6 0 n h g r c : S1x16x4x4x128x256.Idx))
    (fun _ _ e => congrFun e 5) (fiber_5 hr n h g r) v)

theorem max_5 (hr : S1x16x4x4x128x256.ReducesTo [5] S1x16x4x4x128) (v : S1x16x4x4x128x256.Idx → EReal) (z : EReal) (n : Fin 16) (h g : Fin 4) (r : Fin 128) :
    Finset.fold max z v {i | hr.drop i = ix5 0 n h g r} = Finset.univ.fold max z fun c : Fin 256 => v (ix6 0 n h g r c) :=
  Finset.fold_filter_eq_fold_of_fiber max _ (fun c : Fin 256 => (ix6 0 n h g r c : S1x16x4x4x128x256.Idx))
    (fun _ _ e => congrFun e 5) (fiber_5 hr n h g r) z v

variable (x0 : (⟨S2048x1024, .bf16⟩ : BufTy).Contents (Elt Ideal)) (x1 x2 : (⟨S2048x256, .bf16⟩ : BufTy).Contents (Elt Ideal))
  (x3 : (⟨S16, .f32⟩ : BufTy).Contents (Elt Ideal))

/-- The arguments, by coordinates; the formula of the output reads no gradient. -/
def args : Attn.Args where
  q i l := x0 (ix2 i l)
  k i l := x1 (ix2 i l)
  v i l := x2 (ix2 i l)
  sinks n := x3 (ix1 n)
  g _ _ := 0

/-! ## The operands -/

theorem r14 (n : Fin 16) (r : Fin 128) (h g : Fin 4) (d : Fin 64) :
    val_main_v14 x0 (ix6 0 n r h g d) = x0 (ix2 (Attn.row n r) (Attn.col h g d)) := by
  pointwise [val_main_v14, val_main_v1, val_main_v0]
  congr 2 <;> apply Fin.ext
  · simp only [Attn.row]; omega
  · simp only [Attn.col]; omega

/-- The keys after 128 zero rows. -/
theorem r4 (i : Fin 2176) (h : Fin 4) (d : Fin 64) :
    val_main_v4 x1 (ix4 0 i h d) = if hi : 128 ≤ i.val then x1 (ix2 ⟨i.val - 128, by omega⟩ (Attn.kcol h d)) else 0 := by
  pointwise [val_main_v4, val_main_v3, val_main_v2, val_main_call0_v0]
  by_cases hi : 128 ≤ i.val
  · rw [dif_pos ⟨hi, by omega⟩, dif_pos hi]
    congr 2
    apply Fin.ext; show h.val * 64 + d.val = 64 * h.val + d.val; omega
  · rw [dif_neg (fun hh => hi hh.1), dif_neg hi]
    show ((((0#32 : BitVec 32).toInt : ℤ) : ℝ) : EReal) = 0
    simp

theorem r10 (i : Fin 2176) (h : Fin 4) (d : Fin 64) :
    val_main_v10 x2 (ix4 0 i h d) = if hi : 128 ≤ i.val then x2 (ix2 ⟨i.val - 128, by omega⟩ (Attn.kcol h d)) else 0 := by
  pointwise [val_main_v10, val_main_v9, val_main_v8, val_main_call1_v0]
  by_cases hi : 128 ≤ i.val
  · rw [dif_pos ⟨hi, by omega⟩, dif_pos hi]
    congr 2
    apply Fin.ext; show h.val * 64 + d.val = 64 * h.val + d.val; omega
  · rw [dif_neg (fun hh => hi hh.1), dif_neg hi]
    show ((((0#32 : BitVec 32).toInt : ℤ) : ℝ) : EReal) = 0
    simp

/-- Two blocks of 128 keys, one after the other, read at a key. -/
theorem join_apply (a b : (⟨S1x16x128x4x64, .f32⟩ : BufTy).Contents (Elt Ideal)) (n : Fin 16) (c : Fin 256) (h : Fin 4) (d : Fin 64) :
    concatenate S1x16x256x4x64 2 [⟨S1x16x128x4x64, a⟩, ⟨S1x16x128x4x64, b⟩] concatenates_S1x16x128x4x64_S1x16x128x4x64_S1x16x256x4x64_d2 (ix5 0 n c h d)
      = if hc : c.val < 128 then a (ix5 0 n ⟨c.val, hc⟩ h d) else b (ix5 0 n ⟨c.val - 128, by omega⟩ h d) := by
  by_cases hc : c.val < 128
  · rw [dif_pos hc]
    refine concatenate_ofFn_apply (t := S1x16x256x4x64) (s₁ := S1x16x128x4x64) (N := 2) 2 ![a, b]
      concatenates_S1x16x128x4x64_S1x16x128x4x64_S1x16x256x4x64_d2 rfl 128 rfl (ix5 0 n c h d) 0 ?_ (ix5 0 n ⟨c.val, hc⟩ h d) ?_ ?_
    · show c.val / 128 = 0; omega
    · show c.val = c.val % 128; omega
    · intro b hb
      match b with
      | ⟨0, _⟩ => rfl
      | ⟨1, _⟩ => rfl
      | ⟨2, _⟩ => exact absurd rfl hb
      | ⟨3, _⟩ => rfl
      | ⟨4, _⟩ => rfl
  · rw [dif_neg hc]
    refine concatenate_ofFn_apply (t := S1x16x256x4x64) (s₁ := S1x16x128x4x64) (N := 2) 2 ![a, b]
      concatenates_S1x16x128x4x64_S1x16x128x4x64_S1x16x256x4x64_d2 rfl 128 rfl (ix5 0 n c h d) 1 ?_ (ix5 0 n ⟨c.val - 128, by omega⟩ h d) ?_ ?_
    · show c.val / 128 = 1; omega
    · show c.val - 128 = c.val % 128; omega
    · intro b hb
      match b with
      | ⟨0, _⟩ => rfl
      | ⟨1, _⟩ => rfl
      | ⟨2, _⟩ => exact absurd rfl hb
      | ⟨3, _⟩ => rfl
      | ⟨4, _⟩ => rfl

theorem r15 (n : Fin 16) (c : Fin 256) (h : Fin 4) (d : Fin 64) :
    val_main_v15 x1 (ix5 0 n c h d) = Attn.banded (fun i l => x1 (ix2 i l)) n h c d := by
  unfold val_main_v15 Attn.banded
  rw [join_apply]
  by_cases hc : c.val < 128
  · rw [dif_pos hc, dif_pos hc]
    pointwise [val_main_v6, val_main_v5]
    rw [r4]
    by_cases hn : n.val = 0
    · rw [if_pos hn, dif_neg (by show ¬128 ≤ n.val * 128 + c.val; omega)]
    · rw [if_neg hn, dif_pos (by show 128 ≤ n.val * 128 + c.val; omega)]
      congr 2
      apply Fin.ext; show n.val * 128 + c.val - 128 = 128 * (n.val - 1) + c.val; omega
  · rw [dif_neg hc, dif_neg hc]
    pointwise [val_main_v7, val_main_v5]
    rw [r4, dif_pos (by show 128 ≤ (1 + n.val) * 128 + (c.val - 128); omega)]
    congr 2
    apply Fin.ext; show (1 + n.val) * 128 + (c.val - 128) - 128 = 128 * n.val + (c.val - 128); omega

theorem r16 (n : Fin 16) (c : Fin 256) (h : Fin 4) (d : Fin 64) :
    val_main_v16 x2 (ix5 0 n c h d) = Attn.banded (fun i l => x2 (ix2 i l)) n h c d := by
  unfold val_main_v16 Attn.banded
  rw [join_apply]
  by_cases hc : c.val < 128
  · rw [dif_pos hc, dif_pos hc]
    pointwise [val_main_v12, val_main_v11]
    rw [r10]
    by_cases hn : n.val = 0
    · rw [if_pos hn, dif_neg (by show ¬128 ≤ n.val * 128 + c.val; omega)]
    · rw [if_neg hn, dif_pos (by show 128 ≤ n.val * 128 + c.val; omega)]
      congr 2
      apply Fin.ext; show n.val * 128 + c.val - 128 = 128 * (n.val - 1) + c.val; omega
  · rw [dif_neg hc, dif_neg hc]
    pointwise [val_main_v13, val_main_v11]
    rw [r10, dif_pos (by show 128 ≤ (1 + n.val) * 128 + (c.val - 128); omega)]
    congr 2
    apply Fin.ext; show (1 + n.val) * 128 + (c.val - 128) - 128 = 128 * n.val + (c.val - 128); omega

/-! ## The mask -/

theorem r34 (r : Fin 128) (c : Fin 256) : val_main_v34 (F := Ideal) (ix2 r c) = if r.val < c.val ∧ c.val ≤ r.val + 128 then 1#1 else 0#1 := by
  rw [← window_word]
  pointwise [val_main_v34, val_main_v31, val_main_v33, val_main_v29, val_main_v27, val_main_v28, val_main_v24, val_main_v22, val_main_v21, val_main_v23,
    val_main_c_1, val_main_v26, val_main_v25, val_main_v30, val_main_c_2, val_main_v32, val_main_c_3]

theorem r48 (n : Fin 16) (c : Fin 256) : val_main_v48 (F := Ideal) (ix2 n c) = if 128 ≤ c.val ∨ 0 < n.val then 1#1 else 0#1 := by
  rw [← start_word]
  pointwise [val_main_v48, val_main_v47, val_main_c_6, val_main_v45, val_main_v44, val_main_c_5, val_main_v43, val_main_v42, val_main_v41, val_main_v40,
    val_main_v39, val_main_v38, val_main_v37, val_main_c_4, val_main_v36, val_main_v35]

theorem mask (n : Fin 16) (h g : Fin 4) (r : Fin 128) (c : Fin 256) :
    val_main_call2_v1 (F := Ideal) (ix6 0 n h g r c) = if Attn.Seen n r c then 1#1 else 0#1 := by
  pointwise [val_main_call2_v1, val_main_v53, val_main_v52, val_main_v51, val_main_v50, val_main_v49, val_main_v46]
  rw [r34, r48]
  unfold Attn.Seen
  by_cases h1 : r.val < c.val <;> by_cases h2 : c.val ≤ r.val + 128 <;> by_cases h3 : 128 ≤ c.val <;> by_cases h4 : 0 < n.val <;>
    simp only [h1, h2, h3, h4, if_true, if_false, and_true, and_false, or_true, or_false, iff_true, iff_false] <;> decide

/-! ## The softmax -/

theorem zero_word (s : Shape) (i : s.Idx) : constant (F := Ideal) s .f32 0x00000000#32 i = 0 := Ideal.ofBits_zero_f32
theorem bot_word (s : Shape) (i : s.Idx) : constant (F := Ideal) s .f32 0xFF800000#32 i = ⊥ := rfl

variable (n : Fin 16) (h g : Fin 4) (r : Fin 128)

/-- The row's scores. -/
abbrev S : Fin 256 → EReal := Attn.S (args x0 x1 x2 x3) n h g r
/-- Its head's sink. -/
abbrev σ : EReal := (args x0 x1 x2 x3).sinks (Attn.head h g)
theorem r54 (c : Fin 256) : val_main_v54 x0 x1 (ix6 0 n h g r c) = S x0 x1 x2 x3 n h g r c := by
  pointwise [val_main_v54, val_main_v20, val_main_v19, val_main_v18, val_main_v17, val_main_cst, val_main_call2_v2, val_main_call2_v0, val_main_cst_7]
  rw [mask]
  simp only [r15, r14]
  show (if (if Attn.Seen n r c then 1#1 else 0#1) = 1#1 then _ else _) = _
  unfold S Attn.S
  by_cases hs : Attn.Seen n r c
  · rw [if_pos hs, if_pos hs, if_pos rfl]; rfl
  · rw [if_neg hs, if_neg hs, if_neg (by decide)]; rfl

theorem r55 : val_main_v55 x3 (ix6 0 0 h g 0 0) = σ x0 x1 x2 x3 h g := by
  pointwise [val_main_v55]
  show x3 _ = x3 _
  congr 2
  apply Fin.ext; show h.val * 4 + g.val = 4 * h.val + g.val; omega

theorem r56 : val_main_v56 x0 x1 (ix5 0 n h g r) = Row.top (S x0 x1 x2 x3 n h g r) := by
  pointwise [val_main_v56]
  rw [max_5]
  simp only [r54 x0 x1 x2 x3]
  unfold Row.top val_main_cst_8
  rw [bot_word]

theorem max_word (a b : EReal) : FloatOps.maximumf (F := Ideal) (φ := .f32) a b = max a b := rfl

theorem r57 : val_main_v57 x0 x1 (ix6 0 n h g r 0) = val_main_v56 x0 x1 (ix5 0 n h g r) := by
  pointwise [val_main_v57]

theorem r58 : val_main_v58 x3 (ix6 0 n h g r 0) = val_main_v55 x3 (ix6 0 0 h g 0 0) := by
  pointwise [val_main_v58]

theorem r59 : val_main_v59 x0 x1 x3 (ix6 0 n h g r 0) = Row.mx (S x0 x1 x2 x3 n h g r) (σ x0 x1 x2 x3 h g) := by
  unfold val_main_v59 Row.mx
  rw [maximumf_apply, r57, r58, r55 x0 x1 x2 x3, r56 x0 x1 x2 x3]
  exact max_word _ _

theorem r62 (c : Fin 256) : val_main_v62 x0 x1 x3 (ix6 0 n h g r c) = Row.p (S x0 x1 x2 x3 n h g r) (σ x0 x1 x2 x3 h g) c := by
  pointwise [val_main_v62, val_main_v61, val_main_v60]
  rw [r54 x0 x1 x2 x3, r59 x0 x1 x2 x3]
  rfl

theorem r67 : val_main_v67 x0 x1 x3 (ix6 0 n h g r 0) = Row.e (S x0 x1 x2 x3 n h g r) (σ x0 x1 x2 x3 h g) := by
  pointwise [val_main_v67, val_main_v66, val_main_v65]
  rw [r55 x0 x1 x2 x3, r59 x0 x1 x2 x3]
  rfl

theorem r68 : val_main_v68 x0 x1 x3 (ix6 0 n h g r 0) = Row.den (S x0 x1 x2 x3 n h g r) (σ x0 x1 x2 x3 h g) := by
  pointwise [val_main_v68, val_main_v64, val_main_v63]
  rw [sum_5, r67 x0 x1 x2 x3]
  simp only [r62 x0 x1 x2 x3]
  unfold val_main_cst_9 Row.den
  rw [zero_word, zero_add]

theorem r70 (c : Fin 256) : val_main_v70 x0 x1 x3 (ix6 0 n h g r c)
    = Ideal.div (Row.p (S x0 x1 x2 x3 n h g r) (σ x0 x1 x2 x3 h g) c) (Row.den (S x0 x1 x2 x3 n h g r) (σ x0 x1 x2 x3 h g)) := by
  pointwise [val_main_v70, val_main_v69]
  rw [r62 x0 x1 x2 x3, r68 x0 x1 x2 x3]

/-! ## The output -/

variable (hq : ∀ i, ∃ y : ℝ, x0 i = y) (hk : ∀ i, ∃ y : ℝ, x1 i = y) (hs : ∀ i, ∃ y : ℝ, x3 i = y)
include hq hk hs

theorem r71 (d : Fin 64) : val_main_v71 x0 x1 x2 x3 (ix6 0 n h d g r) = Attn.O (args x0 x1 x2 x3) n h g r d := by
  pointwise [val_main_v71]
  unfold Attn.O Attn.Pn
  refine Finset.sum_congr rfl fun c _ => ?_
  obtain ⟨z, hz⟩ := hs (ix1 (Attn.head h g))
  have hS := Attn.S_real_of (args x0 x1 x2 x3) (fun i j => hq (ix2 i j)) (fun i j => hk (ix2 i j)) n h g r
  have hz' : (args x0 x1 x2 x3).sinks (Attn.head h g) = z := hz
  rw [r70, r16]
  unfold S σ
  rw [hz', hS.div_eq, mul_comm]
  rfl

theorem res (i : Fin 2048) (l : Fin 1024) : val_main_v75 x0 x1 x2 x3 (ix2 i l) = Attn.aO (args x0 x1 x2 x3) i l := by
  unfold Attn.aO
  rw [← r71 x0 x1 x2 x3 (hq := hq) (hk := hk) (hs := hs)]
  pointwise [val_main_v75, val_main_v74, val_main_v73, val_main_v72]
  congr 1

end Cert.Reference13Ideal.Read

end
-- ==== Proof.Attn.Claim13.lean ====
/-
  The attention's forward pass: the claims of its program.
-/
module

public import proofs.«01_k».proof.Defs
public import proofs.«01_k».proof.Proof.Gen.Kernel13.Frame
public import proofs.«01_k».proof.Proof.Attn.Fwd
public import proofs.«01_k».proof.Proof.Attn.FwdRef
public import proofs.«01_k».proof.Proof.Attn.Finite

@[expose] public section

noncomputable section

namespace Cert.Pre_finite13

open Idealize.ShloMosaic

/-- The side conditions of the precondition's operations. -/
theorem facts : Facts where
  bitsLt_bf16_f32 := by decide
  bcast_S_S2048x1024 := by decide
  bcast_S_S2048x256 := by decide
  bcast_S_S16 := by decide

variable [Facts] (x0 : FVec Ideal S2048x1024 .bf16) (x1 x2 : FVec Ideal S2048x256 .bf16) (x3 : FVec Ideal S16 .f32)

/-! The precondition gives a real number at every index of the queries, the keys and the sinks. -/

theorem real0 (h : (fn x0 x1 x2 x3).1 = fun _ => 1#1) (i : S2048x1024.Idx) : ∃ y : ℝ, x0 i = y := Cert.Pre_finite.real_of_lt _ (congrFun h i)
theorem real1 (h : (fn x0 x1 x2 x3).2.1 = fun _ => 1#1) (i : S2048x256.Idx) : ∃ y : ℝ, x1 i = y := Cert.Pre_finite.real_of_lt _ (congrFun h i)
theorem real3 (h : (fn x0 x1 x2 x3).2.2 = fun _ => 1#1) (i : S16.Idx) : ∃ y : ℝ, x3 i = y := Cert.Pre_finite.real_of_lt _ (congrFun h i)

end Cert.Pre_finite13

namespace Cert.Proof

open Idealize.ShloMosaic Idealize.SL.Sem

/-- The reference runs and leaves its arguments. -/
theorem frame_ri13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The kernel's named constant has the value that the table gives. -/
theorem preserves13 : Cert.preserves_Kernel13_Kernel13Ideal :=
  IdealRules.named_const.statement Cert.Kernel13Ideal.κ "mask" .f32 0xF149F2CA#32 ⊥ rfl

/-- Over real queries, keys and sinks the kernel and the reference give the same output. -/
theorem algebraic13 : Cert.algebraic_Kernel13Ideal_Reference13Ideal_pre_finite13 (hPre_finite13 := Cert.Pre_finite13.facts) := by
  haveI := Cert.Pre_finite13.facts
  intro m ρ m' ρ' hpre hagree
  refine ⟨_, Cert.Kernel13Ideal.Value.run_blocks (F := Ideal) m ρ, ?_⟩
  refine (θ_run Cert.Reference13Ideal.defs _ _).mono (fun r h c => ?_) (Cert.Reference13Ideal.Value.run (F := Ideal) m' ρ')
  obtain ⟨h0, hargs⟩ := h c
  obtain ⟨a0, a1, a2, a3⟩ := hagree c
  obtain ⟨p0, p1, p3⟩ := hpre c
  refine ⟨h0.trans ?_, hargs⟩
  rw [Cert.Reference13Ideal.Read.val_main_v75_eq, Cert.Kernel13Ideal.Value.final6]
  simp only [StableHlo.launchContents_devRef, a0, a1, a2, a3]
  funext i
  obtain ⟨r, l, rfl⟩ : ∃ (r : Fin 2048) (l : Fin 1024), i = ix2 r l := ⟨i 0, i 1, funext fun k => match k with | ⟨0, _⟩ => rfl | ⟨1, _⟩ => rfl⟩
  exact Cert.Reference13Ideal.Read.res _ _ _ _ (Cert.Pre_finite13.real0 _ _ _ _ p0) (Cert.Pre_finite13.real1 _ _ _ _ p1)
    (Cert.Pre_finite13.real3 _ _ _ _ p3) r l

end Cert.Proof

end
-- ==== Proof.Norm.Bwd.lean ====
/-
  The gradient of a normalization: what the kernel's eight steps leave.
-/
module

public import proofs.«01_k».proof.Proof.Gen.Kernel12Ideal.Frame
public import proofs.«01_k».proof.Proof.Norm.Spec
public import Idealize.ShloMosaic.Lib.Pipeline.ValueKit
import Idealize.ShloMosaic.Lib.WritesUnit
import Idealize.ShloMosaic.Lib.Pointwise
import Idealize.ShloMosaic.Lib.IdealHost

@[expose] public section

noncomputable section

namespace Cert.Kernel12Ideal.Value

open Idealize.ShloMosaic Idealize.ShloMosaic.TcCoe Idealize.SL.Sem Cert.Kernel12Ideal Cert.Kernel12Ideal.Gen
open Idealize.ShloMosaic.Pipeline (Dat)

theorem hz : (![0, 0] : Fin 2 → Nat) = fun _ => 0 := funext fun a => by fin_cases a <;> rfl
theorem idx2 {a b : ℕ} (y : (⟨2, ![a, b]⟩ : Shape).Idx) : ∃ (r : Fin a) (q : Fin b), y = ix2 r q :=
  ⟨y 0, y 1, funext fun k => match k with | ⟨0, _⟩ => rfl | ⟨1, _⟩ => rfl⟩

/-! ## The bodies' arithmetic, by coordinates -/

section
variable (x0 : Vec Ideal S256x2048 .f32) (x1 : Vec Ideal S1x2048 .f32) (x2 x3 : Vec Ideal S256x2048 .f32)

theorem pay2_apply (r : Fin 256) : k0_pay2 x0 (ix2 r 0) = Norm.R fun k => x0 (ix2 r k) := by
  unfold Norm.R Norm.V Norm.eps Loss.width
  pointwise [k0_pay2]
theorem pay3_apply (r : Fin 256) (l : Fin 2048) : k0_pay3 x0 (ix2 r l) = Norm.N (fun k => x0 (ix2 r k)) l := by
  unfold Norm.N
  rw [← pay2_apply]
  unfold k0_pay3
  generalize k0_pay2 x0 = e
  pointwise
theorem pay4_apply (r : Fin 256) (l : Fin 2048) :
    k0_pay4 x0 x1 x2 x3 (ix2 r l) = Norm.Dx (fun k => x0 (ix2 r k)) (fun k => x1 (ix2 0 k)) (fun k => x2 (ix2 r k)) (fun k => x3 (ix2 r k)) l := by
  unfold Norm.Dx Loss.width
  simp only [← pay3_apply, ← pay2_apply]
  unfold k0_pay4
  generalize k0_pay2 x0 = e
  generalize k0_pay3 x0 = f
  pointwise
theorem pay5_apply (r : Fin 256) (l : Fin 2048) : k0_pay5 x0 x1 x2 x3 (ix2 r l) = k0_pay4 x0 x1 x2 x3 (ix2 r l) := by
  unfold k0_pay5
  generalize k0_pay4 x0 x1 x2 x3 = e
  pointwise
theorem pay6_apply (u : Fin 8) (v : Fin 2048) : k0_pay6 (F := Ideal) (ix2 u v) = 0 := by
  pointwise [k0_pay6]
/-- A column's products added up. -/
def prods (n : Vec Ideal S256x2048 .f32) (l : Fin 2048) : EReal := ∑ r : Fin 256, x2 (ix2 r l) * n (ix2 r l)
theorem pay1_apply (n : Vec Ideal S256x2048 .f32) (a : Vec Ideal S1x2048 .f32) (l : Fin 2048) :
    k0_pay1 x2 n a (ix2 0 l) = a (ix2 0 l) + prods x2 n l := by
  unfold k0_pay1 prods
  pointwise
end

/-! ## The first row of the block of eight -/

theorem ld_row (x : Vec Ideal S8x2048 .f32) (h) (l : Fin 2048) :
    View.ld x (Rect.unit (s := S8x2048) ![0, 0] S1x2048.size h) (ix2 (0 : Fin 1) l) = x (ix2 0 l) := by
  refine congrArg x (funext fun a => Fin.ext ?_)
  match a with
  | ⟨0, _⟩ => rfl
  | ⟨1, _⟩ => show 0 + 1 * l.val = l.val; omega

variable {κ : Kind} {sp : Space} (v : View sig κ sp S8x2048 .f32) (f : v.ty.Contents (Elt Ideal)) (L : List (View.Piece (Elt Ideal) S8x2048 .f32)) in
/-- The first row, after a store to it. -/
theorem read_row (h) (w : Vec Ideal S1x2048 .f32) (l : Fin 2048) :
    v.read (Elt Ideal) (v.writes (Elt Ideal) f (⟨Rect.unit (s := S8x2048) ![0, 0] S1x2048.size h, w⟩ :: L)) (ix2 0 l) = w (ix2 0 l) := by
  refine View.read_writes_cons_unit_of_mem v f (s := S8x2048) (off := ![0, 0]) (size := S1x2048.size) h w L (ix2 0 l) (ix2 (0 : Fin 1) l) rfl fun a => ?_
  match a with
  | ⟨0, _⟩ => rfl
  | ⟨1, _⟩ => exact (Nat.zero_add _).symm
variable {κ : Kind} {sp : Space} (v : View sig κ sp S8x2048 .f32) (f : v.ty.Contents (Elt Ideal)) (L : List (View.Piece (Elt Ideal) S8x2048 .f32)) in
/-- The other rows, after a store to the first. -/
theorem read_rest (h) (w : Vec Ideal S1x2048 .f32) (u : Fin 8) (hu : u ≠ 0) (l : Fin 2048) :
    v.read (Elt Ideal) (v.writes (Elt Ideal) f (⟨Rect.unit (s := S8x2048) ![0, 0] S1x2048.size h, w⟩ :: L)) (ix2 u l)
      = v.read (Elt Ideal) (v.writes (Elt Ideal) f L) (ix2 u l) := by
  refine View.read_writes_cons_unit_of_not_mem v f (s := S8x2048) (off := ![0, 0]) (size := S1x2048.size) h w L (ix2 u l) rfl (0 : Fin 2) (.inr ?_)
  have h0 : u.val ≠ 0 := fun h' => hu (Fin.ext h')
  show 0 + 1 ≤ u.val
  omega
variable {κ : Kind} {sp : Space} (v : View sig κ sp S8x2048 .f32) (f : v.ty.Contents (Elt Ideal)) (L : List (View.Piece (Elt Ideal) S8x2048 .f32)) in
/-- The eight rows, after a store to them all. -/
theorem read_all (h) (w : Vec Ideal S8x2048 .f32) (u : Fin 8) (l : Fin 2048) :
    v.read (Elt Ideal) (v.writes (Elt Ideal) f (⟨Rect.unit (s := S8x2048) ![0, 0] S8x2048.size h, w⟩ :: L)) (ix2 u l) = w (ix2 u l) := by
  refine View.read_writes_cons_unit_of_mem v f (s := S8x2048) (off := ![0, 0]) (size := S8x2048.size) h w L (ix2 u l) (ix2 u l) rfl fun a => ?_
  match a with
  | ⟨0, _⟩ => exact (Nat.zero_add _).symm
  | ⟨1, _⟩ => exact (Nat.zero_add _).symm
variable {κ : Kind} {sp : Space} (v : View sig κ sp S8x2048 .f32) in
/-- The first row read back after a store to all the rows. -/
theorem cov_row (h h') (w : Vec Ideal S8x2048 .f32) (l : Fin 2048) :
    v.readCov (Val := Elt Ideal) [⟨Rect.unit (s := S8x2048) ![0, 0] S8x2048.size h, w⟩] (Rect.unit (s := S8x2048) ![0, 0] S1x2048.size h') (ix2 (0 : Fin 1) l) = w (ix2 0 l) := by
  have e : (Rect.unit (s := S8x2048) ![0, 0] S1x2048.size h').toLoadRect.idx (ix2 (0 : Fin 1) l) = ix2 0 l := by
    refine funext fun a => Fin.ext ?_
    match a with
    | ⟨0, _⟩ => rfl
    | ⟨1, _⟩ => show 0 + 1 * l.val = l.val; omega
  unfold View.readCov
  exact (congrArg (v.read (Elt Ideal) _) e).trans (read_all v _ [] h w 0 l)

/-! ## What each step leaves in its blocks -/

section
variable (c : Dev nD) (i : grid0.Coords) (arg3 : Memref sig .tc .vmem S256x2048 .f32) (harg3 : arg3.IsWhole)
  (arg4 : Memref sig .tc .vmem S1x2048 .f32) (harg4 : arg4.IsWhole) (arg5 : Memref sig .tc .vmem S256x2048 .f32) (harg5 : arg5.IsWhole)
  (arg6 : Memref sig .tc .vmem S256x2048 .f32) (harg6 : arg6.IsWhole) (arg7 : Memref sig .tc .vmem S256x2048 .f32) (harg7 : arg7.IsWhole)
  (arg8 : Memref sig .tc .vmem S8x2048 .f32) (harg8 : arg8.IsWhole) (arg9 : Memref sig .tc .vmem S256x2048 .bf16) (harg9 : arg9.IsWhole)
  (x0 : Vec Ideal S256x2048 .f32) (x1 : Vec Ideal S1x2048 .f32) (x2 x3 : Vec Ideal S256x2048 .f32) (acc : Vec Ideal S8x2048 .f32)

theorem out_A4 (hc0 : cond0_0 i) :
    out0_A_4 c i arg3 harg3 arg4 harg4 arg5 harg5 arg6 harg6 arg7 harg7 arg8 harg8 arg9 harg9 hc0 x0 x1 x2 x3 = k0_pay4 x0 x1 x2 x3 := by
  unfold out0_A_4
  refine (View.read_writes_eq_canon _ _ _ (cover0_A_4 c i arg3 harg3 arg4 harg4 arg5 harg5 arg6 harg6 arg7 harg7 arg8 harg8 arg9 harg9 hc0 x0 x1 x2 x3)).trans ?_
  unfold kernelRun0_A; dsimp only; sl_unfold_words
  simp only [View.readAt_eq_ld]
  rw [harg3.read_unread x0, harg4.read_unread x1, harg5.read_unread x2, harg6.read_unread x3]
  refine (View.canon_unit_zero (S := S256x2048) hz _ _).trans ?_
  rw [View.ld_unit_zero (S := S256x2048) hz _ x0, View.ld_unit_zero (S := S1x2048) hz _ x1, View.ld_unit_zero (S := S256x2048) hz _ x2, View.ld_unit_zero (S := S256x2048) hz _ x3]
theorem out_B4 (hc0 : ¬cond0_0 i) :
    out0_B_4 c i arg3 harg3 arg4 harg4 arg5 harg5 arg6 harg6 arg7 harg7 arg8 harg8 arg9 harg9 hc0 x0 x1 x2 x3 acc = k0_pay4 x0 x1 x2 x3 := by
  unfold out0_B_4
  refine (View.read_writes_eq_canon _ _ _ (cover0_B_4 c i arg3 harg3 arg4 harg4 arg5 harg5 arg6 harg6 arg7 harg7 arg8 harg8 arg9 harg9 hc0 x0 x1 x2 x3 acc)).trans ?_
  unfold kernelRun0_B; dsimp only; sl_unfold_words
  simp only [View.readAt_eq_ld]
  rw [harg3.read_unread x0, harg4.read_unread x1, harg5.read_unread x2, harg6.read_unread x3]
  refine (View.canon_unit_zero (S := S256x2048) hz _ _).trans ?_
  rw [View.ld_unit_zero (S := S256x2048) hz _ x0, View.ld_unit_zero (S := S1x2048) hz _ x1, View.ld_unit_zero (S := S256x2048) hz _ x2, View.ld_unit_zero (S := S256x2048) hz _ x3]
theorem out_A6 (hc0 : cond0_0 i) :
    out0_A_6 c i arg3 harg3 arg4 harg4 arg5 harg5 arg6 harg6 arg7 harg7 arg8 harg8 arg9 harg9 hc0 x0 x1 x2 x3 = k0_pay5 x0 x1 x2 x3 := by
  unfold out0_A_6
  refine (View.read_writes_eq_canon _ _ _ (cover0_A_6 c i arg3 harg3 arg4 harg4 arg5 harg5 arg6 harg6 arg7 harg7 arg8 harg8 arg9 harg9 hc0 x0 x1 x2 x3)).trans ?_
  unfold kernelRun0_A; dsimp only; sl_unfold_words
  simp only [View.readAt_eq_ld]
  rw [harg3.read_unread x0, harg4.read_unread x1, harg5.read_unread x2, harg6.read_unread x3]
  refine (View.canon_unit_zero (S := S256x2048) hz _ _).trans ?_
  rw [View.ld_unit_zero (S := S256x2048) hz _ x0, View.ld_unit_zero (S := S1x2048) hz _ x1, View.ld_unit_zero (S := S256x2048) hz _ x2, View.ld_unit_zero (S := S256x2048) hz _ x3]
theorem out_B6 (hc0 : ¬cond0_0 i) :
    out0_B_6 c i arg3 harg3 arg4 harg4 arg5 harg5 arg6 harg6 arg7 harg7 arg8 harg8 arg9 harg9 hc0 x0 x1 x2 x3 acc = k0_pay5 x0 x1 x2 x3 := by
  unfold out0_B_6
  refine (View.read_writes_eq_canon _ _ _ (cover0_B_6 c i arg3 harg3 arg4 harg4 arg5 harg5 arg6 harg6 arg7 harg7 arg8 harg8 arg9 harg9 hc0 x0 x1 x2 x3 acc)).trans ?_
  unfold kernelRun0_B; dsimp only; sl_unfold_words
  simp only [View.readAt_eq_ld]
  rw [harg3.read_unread x0, harg4.read_unread x1, harg5.read_unread x2, harg6.read_unread x3]
  refine (View.canon_unit_zero (S := S256x2048) hz _ _).trans ?_
  rw [View.ld_unit_zero (S := S256x2048) hz _ x0, View.ld_unit_zero (S := S1x2048) hz _ x1, View.ld_unit_zero (S := S256x2048) hz _ x2, View.ld_unit_zero (S := S256x2048) hz _ x3]

/-- The first step's eight rows: the products of its rows added up, and seven rows of zeros. -/
theorem out_A5 (hc0 : cond0_0 i) (u : Fin 8) (l : Fin 2048) :
    out0_A_5 c i arg3 harg3 arg4 harg4 arg5 harg5 arg6 harg6 arg7 harg7 arg8 harg8 arg9 harg9 hc0 x0 x1 x2 x3 (ix2 u l) = if u = 0 then 0 + prods x2 (k0_pay3 x0) l else 0 := by
  unfold out0_A_5
  unfold kernelRun0_A; dsimp only; sl_unfold_words
  simp only [View.readAt_eq_ld]
  rw [harg3.read_unread x0, harg5.read_unread x2]
  split_ifs with h
  · subst h
    refine (read_row _ _ _ _ _ l).trans ?_
    refine (pay1_apply _ _ _ l).trans ?_
    rw [View.ld_unit_zero (S := S256x2048) hz _ x0, View.ld_unit_zero (S := S256x2048) hz _ x2]
    exact congrArg (· + _) ((cov_row _ _ _ _ l).trans (pay6_apply 0 l))
  · refine (read_rest _ _ _ _ _ u h l).trans ?_
    exact (read_all _ _ _ _ _ u l).trans (pay6_apply u l)
/-- A later step's eight rows: the products of its rows added to the first, and the other seven as they were. -/
theorem out_B5 (hc0 : ¬cond0_0 i) (u : Fin 8) (l : Fin 2048) :
    out0_B_5 c i arg3 harg3 arg4 harg4 arg5 harg5 arg6 harg6 arg7 harg7 arg8 harg8 arg9 harg9 hc0 x0 x1 x2 x3 acc (ix2 u l) = if u = 0 then acc (ix2 0 l) + prods x2 (k0_pay3 x0) l else acc (ix2 u l) := by
  unfold out0_B_5
  unfold kernelRun0_B; dsimp only; sl_unfold_words
  simp only [View.readAt_eq_ld]
  rw [harg3.read_unread x0, harg5.read_unread x2]
  split_ifs with h
  · subst h
    refine (read_row _ _ _ _ _ l).trans ?_
    refine (pay1_apply _ _ _ l).trans ?_
    rw [harg8.read_unread acc, View.ld_unit_zero (S := S256x2048) hz _ x0, View.ld_unit_zero (S := S256x2048) hz _ x2]
    exact congrArg (· + _) (ld_row _ _ l)
  · refine (read_rest _ _ _ _ _ u h l).trans ?_
    exact congrFun (harg8.read_unread acc) (ix2 u l)
end

/-! ## The blocks -/

variable (m : (ℓ : Loc nD τ sig) → Buf (Elt Ideal) ℓ) (ρ : Dev nD → PrngReg) (c : Dev nD)

/-- The input, the gains, the gradient at the result and the residual's gradient, by coordinates. -/
def xIn (i l : Fin 2048) : EReal := (m ((c : Thread nD τ).loc main_arg0) : Vec Ideal S2048x2048 .f32) (ix2 i l)
def gIn (l : Fin 2048) : EReal := (m ((c : Thread nD τ).loc main_arg1) : Vec Ideal S1x2048 .f32) (ix2 0 l)
def dIn (i l : Fin 2048) : EReal := (m ((c : Thread nD τ).loc main_arg2) : Vec Ideal S2048x2048 .f32) (ix2 i l)
def eIn (i l : Fin 2048) : EReal := (m ((c : Thread nD τ).loc main_arg3) : Vec Ideal S2048x2048 .f32) (ix2 i l)

theorem at_0 : ∀ t : Fin grid0.N, win0_0.index t 0 = t.val ∧ win0_0.index t 1 = 0 := by decide +kernel
theorem at_2 : ∀ t : Fin grid0.N, win0_2.index t 0 = t.val ∧ win0_2.index t 1 = 0 := by decide +kernel
theorem at_3 : ∀ t : Fin grid0.N, win0_3.index t 0 = t.val ∧ win0_3.index t 1 = 0 := by decide +kernel
theorem at_4 : ∀ t : Fin grid0.N, win0_4.index t 0 = t.val ∧ win0_4.index t 1 = 0 := by decide +kernel
theorem at_6 : ∀ t : Fin grid0.N, win0_6.index t 0 = t.val ∧ win0_6.index t 1 = 0 := by decide +kernel
theorem at_1 : ∀ t : Fin grid0.N, win0_1.index t 0 = 0 ∧ win0_1.index t 1 = 0 := by decide +kernel
theorem at_5 : ∀ t : Fin grid0.N, win0_5.index t 0 = 0 ∧ win0_5.index t 1 = 0 := by decide +kernel

/-- Row `r` of step `t`'s block. -/
def row (t : Nat) (r : Fin 256) : Fin 2048 := ⟨256 * (t % 8) + r.val, by omega⟩

theorem blk0 (t : Fin cfg0.N) (r : Fin 256) (l : Fin 2048) : (iblk m c 0 t : Vec Ideal S256x2048 .f32) (ix2 r l) = xIn m c (row t.val r) l := by
  have ht : t.val < 8 := t.isLt
  unfold iblk
  rw [View.read_apply]
  refine congrArg (m ((c : Thread nD τ).loc main_arg0) : Vec Ideal S2048x2048 .f32) (funext fun k => Fin.ext ?_)
  match k with
  | ⟨0, _⟩ => show win0_0.index t 0 * 256 + 1 * r.val = _; rw [(at_0 t).1]; show _ = 256 * (t.val % 8) + r.val; omega
  | ⟨1, _⟩ => show win0_0.index t 1 * 2048 + 1 * l.val = _; rw [(at_0 t).2]; show _ = l.val; omega
theorem blk2 (t : Fin cfg0.N) (r : Fin 256) (l : Fin 2048) : (iblk m c 2 t : Vec Ideal S256x2048 .f32) (ix2 r l) = dIn m c (row t.val r) l := by
  have ht : t.val < 8 := t.isLt
  unfold iblk
  rw [View.read_apply]
  refine congrArg (m ((c : Thread nD τ).loc main_arg2) : Vec Ideal S2048x2048 .f32) (funext fun k => Fin.ext ?_)
  match k with
  | ⟨0, _⟩ => show win0_2.index t 0 * 256 + 1 * r.val = _; rw [(at_2 t).1]; show _ = 256 * (t.val % 8) + r.val; omega
  | ⟨1, _⟩ => show win0_2.index t 1 * 2048 + 1 * l.val = _; rw [(at_2 t).2]; show _ = l.val; omega
theorem blk3 (t : Fin cfg0.N) (r : Fin 256) (l : Fin 2048) : (iblk m c 3 t : Vec Ideal S256x2048 .f32) (ix2 r l) = eIn m c (row t.val r) l := by
  have ht : t.val < 8 := t.isLt
  unfold iblk
  rw [View.read_apply]
  refine congrArg (m ((c : Thread nD τ).loc main_arg3) : Vec Ideal S2048x2048 .f32) (funext fun k => Fin.ext ?_)
  match k with
  | ⟨0, _⟩ => show win0_3.index t 0 * 256 + 1 * r.val = _; rw [(at_3 t).1]; show _ = 256 * (t.val % 8) + r.val; omega
  | ⟨1, _⟩ => show win0_3.index t 1 * 2048 + 1 * l.val = _; rw [(at_3 t).2]; show _ = l.val; omega
theorem blk1 (t : Fin cfg0.N) (l : Fin 2048) : (iblk m c 1 t : Vec Ideal S1x2048 .f32) (ix2 0 l) = gIn m c l := by
  unfold iblk
  rw [View.read_apply]
  refine congrArg (m ((c : Thread nD τ).loc main_arg1) : Vec Ideal S1x2048 .f32) (funext fun k => Fin.ext ?_)
  match k with
  | ⟨0, _⟩ => show win0_1.index t 0 * 1 + 1 * 0 = _; rw [(at_1 t).1]; rfl
  | ⟨1, _⟩ => show win0_1.index t 1 * 2048 + 1 * l.val = _; rw [(at_1 t).2]; show _ = l.val; omega

/-! ## The gradient at the input -/

/-- The gradient at the input, by coordinates. -/
def dx (i l : Fin 2048) : EReal := Norm.Dx (xIn m c i) (gIn m c) (dIn m c i) (eIn m c i) l

theorem after4 (t : Fin cfg0.N) : (outsAt0 m c t.val t.isLt).1 = k0_pay4 (iblk m c 0 t) (iblk m c 1 t) (iblk m c 2 t) (iblk m c 3 t) := by
  by_cases h : t.val % 8 = 0
  · rw [outsAt0_A m c t h]; dsimp only; rw [out_A4]
  · rw [outsAt0_B m c t h]; dsimp only; rw [out_B4]
theorem after6 (t : Fin cfg0.N) : (outsAt0 m c t.val t.isLt).2.2 = k0_pay5 (iblk m c 0 t) (iblk m c 1 t) (iblk m c 2 t) (iblk m c 3 t) := by
  by_cases h : t.val % 8 = 0
  · rw [outsAt0_A m c t h]; dsimp only; rw [out_A6]
  · rw [outsAt0_B m c t h]; dsimp only; rw [out_B6]

theorem grad (t : Fin cfg0.N) (r : Fin 256) (l : Fin 2048) :
    k0_pay4 (iblk m c 0 t) (iblk m c 1 t) (iblk m c 2 t) (iblk m c 3 t) (ix2 r l) = dx m c (row t.val r) l := by
  rw [pay4_apply]
  simp only [blk0, blk1, blk2, blk3]
  rfl

theorem dx_arr : (dats m 0 c).arrAt 4 cfg0.N = fun y : S2048x2048.Idx => dx m c (y 0) (y 1) := by
  refine (dats m 0 c).arrAt_eq_of_covers 4 _ (by decide +kernel) fun t hf y => ?_
  have ht : t.val < 8 := t.isLt
  blk_simp
  rw [after0_4, after4]
  obtain ⟨r, q, rfl⟩ := idx2 (a := 256) (b := 2048) y
  have e0 : ((win0_4.blk t).view.emb (ix2 r q) 0 : Fin 2048) = row t.val r := Fin.ext (by
    show win0_4.index t 0 * 256 + 1 * r.val = 256 * (t.val % 8) + r.val; rw [(at_4 t).1]; omega)
  have e1 : ((win0_4.blk t).view.emb (ix2 r q) 1 : Fin 2048) = q := Fin.ext (by
    show win0_4.index t 1 * 2048 + 1 * q.val = q.val; rw [(at_4 t).2]; omega)
  rw [e0, e1]
  exact grad m c t r q
theorem dxb_arr : (dats m 0 c).arrAt 6 cfg0.N = fun y : S2048x2048.Idx => dx m c (y 0) (y 1) := by
  refine (dats m 0 c).arrAt_eq_of_covers 6 _ (by decide +kernel) fun t hf y => ?_
  have ht : t.val < 8 := t.isLt
  blk_simp
  rw [after0_6, after6]
  obtain ⟨r, q, rfl⟩ := idx2 (a := 256) (b := 2048) y
  have e0 : ((win0_6.blk t).view.emb (ix2 r q) 0 : Fin 2048) = row t.val r := Fin.ext (by
    show win0_6.index t 0 * 256 + 1 * r.val = 256 * (t.val % 8) + r.val; rw [(at_6 t).1]; omega)
  have e1 : ((win0_6.blk t).view.emb (ix2 r q) 1 : Fin 2048) = q := Fin.ext (by
    show win0_6.index t 1 * 2048 + 1 * q.val = q.val; rw [(at_6 t).2]; omega)
  rw [e0, e1]
  exact (pay5_apply _ _ _ _ r q).trans (grad m c t r q)

/-! ## The gradient at the gains -/

/-- The gradient at the gains, its eight rows of which the last seven are zero, and the part of it that step `t` adds. -/
def dg (l : Fin 2048) : EReal := ∑ i, dIn m c i l * Norm.N (xIn m c i) l
def dg8 (u : Fin 8) (l : Fin 2048) : EReal := if u = 0 then dg m c l else 0
def part (t : Nat) (l : Fin 2048) : EReal := ∑ r, dIn m c (row t r) l * Norm.N (xIn m c (row t r)) l

theorem products (t : Fin cfg0.N) (l : Fin 2048) :
    prods (iblk m c 2 t) (k0_pay3 (iblk m c 0 t)) l = part m c t.val l := by
  unfold part prods
  refine Finset.sum_congr rfl fun r _ => ?_
  rw [pay3_apply, blk2]
  simp only [blk0]

theorem carried (u : Fin 8) (l : Fin 2048) (n : Nat) (h : n < cfg0.N) :
    (outsAt0 m c n h).2.1 (ix2 u l) = if u = 0 then ∑ j ∈ Finset.range (n + 1), part m c j l else 0 := by
  induction n with
  | zero =>
    rw [outsAt0_A m c ⟨0, h⟩ rfl]
    dsimp only
    rw [out_A5, products, Finset.sum_range_one, zero_add (part m c 0 l)]
  | succ n ih =>
    have h8 : n + 1 < 8 := h
    rw [outsAt0_B m c ⟨n + 1, h⟩ (by dsimp only; omega)]
    dsimp only
    rw [out_B5, products]
    by_cases hu : u = 0
    · subst hu
      rw [if_pos rfl, if_pos rfl, Finset.sum_range_succ _ (n + 1)]
      exact congrArg (· + part m c (n + 1) l) ((ih (Nat.lt_of_succ_lt h)).trans (if_pos rfl))
    · rw [if_neg hu, if_neg hu]
      exact (ih (Nat.lt_of_succ_lt h)).trans (if_neg hu)

/-- The eight blocks are the whole. -/
theorem eight (l : Fin 2048) : ∑ j ∈ Finset.range 8, part m c j l = dg m c l := by
  unfold part dg
  rw [Finset.sum_range, ← Equiv.sum_comp (finProdFinEquiv (m := 8) (n := 256)), Fintype.sum_prod_type]
  refine Finset.sum_congr rfl fun b _ => Finset.sum_congr rfl fun r _ => ?_
  have hr : row b.val r = finProdFinEquiv (m := 8) (n := 256) (b, r) := Fin.ext (by
    show 256 * (b.val % 8) + r.val = r.val + 256 * b.val; omega)
  rw [hr]

theorem dg_arr : (dats m 0 c).arrAt 5 cfg0.N = fun y : S8x2048.Idx => dg8 m c (y 0) (y 1) := by
  refine (dats m 0 c).arrAt_eq_of_covers 5 _ (by decide +kernel) fun t hf y => ?_
  have ht : t.val < 8 := t.isLt
  have h7 : t.val = 7 := by have := (flush0_5 t).mp hf; omega
  blk_simp
  rw [after0_5]
  obtain ⟨u, l, rfl⟩ := idx2 (a := 8) (b := 2048) y
  have e0 : ((win0_5.blk t).view.emb (ix2 u l) 0 : Fin 8) = u := Fin.ext (by
    show win0_5.index t 0 * 8 + 1 * u.val = u.val; rw [(at_5 t).1]; omega)
  have e1 : ((win0_5.blk t).view.emb (ix2 u l) 1 : Fin 2048) = l := Fin.ext (by
    show win0_5.index t 1 * 2048 + 1 * l.val = l.val; rw [(at_5 t).2]; omega)
  rw [e0, e1]
  refine (carried m c u l t.val t.isLt).trans ?_
  rw [h7, eight m c l]
  rfl

/-! ## The run -/

/-- The run leaves the gradient at the input twice, the gradient at the gains in eight rows, and the arguments as they were. -/
theorem run : θ_run defs (onTc (τ := τ) (main (F := Ideal))) ⟨m, fun _ => 0, ρ⟩ fun r => ∀ c : Dev nD,
      r.2.mem ((c.tc : Thread nD τ).loc main_v0_0) = (fun y : S2048x2048.Idx => dx m c (y 0) (y 1))
      ∧ r.2.mem ((c.tc : Thread nD τ).loc main_v0_1) = (fun y : S8x2048.Idx => dg8 m c (y 0) (y 1))
      ∧ r.2.mem ((c.tc : Thread nD τ).loc main_v0_2) = (fun y : S2048x2048.Idx => dx m c (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (dx_arr m c), ((h c).1 5).trans (dg_arr m c), ((h c).1 6).trans (dxb_arr m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Kernel12Ideal.Value

end
-- ==== Proof.Norm.Claim12.lean ====
/-
  The gradient of a normalization: the claims of its program.
-/
module

public import proofs.«01_k».proof.Defs
public import proofs.«01_k».proof.Proof.Gen.Kernel12.Frame
public import proofs.«01_k».proof.Proof.Gen.Reference12Ideal.Read
public import proofs.«01_k».proof.Proof.Norm.Bwd
import Idealize.ShloMosaic.Lib.Pointwise
import Idealize.ShloMosaic.Lib.IdealHost

@[expose] public section

noncomputable section

namespace Cert.Proof

open Idealize.ShloMosaic Idealize.SL.Sem

/-- The reference runs and leaves its arguments. -/
theorem frame_ri12 : Cert.quiescent_Reference12Ideal := fun m ρ _ =>
  (θ_run Cert.Reference12Ideal.defs _ _).mono (fun r h => ⟨fun c => (h c).2.2.2, sem_eq_zero_of_no_sems (by decide) r.2⟩)
    (Cert.Reference12Ideal.Value.run (F := Ideal) m ρ)

end Cert.Proof

namespace Cert.Reference12Ideal.Norms

open Idealize.ShloMosaic Cert.Reference12Ideal Cert.Reference12Ideal.Read

variable (x0 : Vec Ideal S2048x2048 .f32) (x1 : Vec Ideal S1x2048 .f32) (x2 x3 : Vec Ideal S2048x2048 .f32)

/-- The reference's mean square, the inverse of its root, and the row times that. -/
theorem v_apply (i : Fin 2048) : val_main_v6 (F := Ideal) x0 (ix2 i 0) = Norm.V fun k => x0 (ix2 i k) := by
  unfold Norm.V Norm.eps Loss.width
  pointwise [val_main_v6, val_main_v5, val_main_v4, val_main_v3, val_main_v2, val_main_v1, val_main_v0, val_main_cst, val_main_cst_0, val_main_cst_1]
theorem r_apply (i : Fin 2048) : val_main_v7 (F := Ideal) x0 (ix2 i 0) = Norm.R fun k => x0 (ix2 i k) := by
  unfold Norm.R
  rw [← v_apply]
  unfold val_main_v7
  generalize val_main_v6 (F := Ideal) x0 = e
  pointwise
theorem n_apply (i l : Fin 2048) : val_main_v12 (F := Ideal) x0 (ix2 i l) = Norm.N (fun k => x0 (ix2 i k)) l := by
  unfold Norm.N
  rw [← r_apply]
  unfold val_main_v12 val_main_v11
  generalize val_main_v7 (F := Ideal) x0 = e
  pointwise

/-- The reference's gradient at the gains. -/
theorem g_apply (l : Fin 2048) : val_main_v16 (F := Ideal) x0 x2 (ix1 l) = ∑ i : Fin 2048, x2 (ix2 i l) * Norm.N (fun k => x0 (ix2 i k)) l := by
  simp only [← n_apply]
  unfold val_main_v16 val_main_v15 val_main_cst_3
  generalize val_main_v12 (F := Ideal) x0 = e
  pointwise
  exact Finset.sum_congr rfl fun i _ => mul_comm _ _
theorem g8_apply (u : Fin 8) (l : Fin 2048) : val_main_v36 (F := Ideal) x0 x2 (ix2 u l)
    = if u = 0 then ∑ i : Fin 2048, x2 (ix2 i l) * Norm.N (fun k => x0 (ix2 i k)) l else 0 := by
  rw [← g_apply]
  unfold val_main_v36 val_main_v17 val_main_v35 val_main_cst_7
  generalize val_main_v16 (F := Ideal) x0 x2 = e
  pointwise
  by_cases h : u = 0
  · subst h
    rw [if_pos rfl]
    exact dif_pos (by decide)
  · have h0 : u.val ≠ 0 := fun h' => h (Fin.ext h')
    rw [if_neg h]
    exact dif_neg (by omega)

/-- What the reference's gradient of the mean square gives each entry of a row. -/
theorem s_apply (i : Fin 2048) : val_main_v22 (F := Ideal) x0 x1 x2 (ix2 i 0) = ∑ k : Fin 2048, x0 (ix2 i k) * (x2 (ix2 i k) * x1 (ix2 0 k)) := by
  pointwise [val_main_v22, val_main_v21, val_main_v20, val_main_v19, val_main_v18, val_main_cst_4]
theorem k_apply (i l : Fin 2048) : val_main_v30 (F := Ideal) x0 x1 x2 (ix2 i l)
    = Norm.K (fun k => x0 (ix2 i k)) (fun k => x1 (ix2 0 k)) (fun k => x2 (ix2 i k)) := by
  unfold Norm.K Norm.minus Loss.width
  rw [← s_apply, ← r_apply, ← v_apply]
  unfold val_main_v30 val_main_v29 val_main_v28 val_main_v27 val_main_v26 val_main_v10 val_main_v9 val_main_v8 val_main_cst_2 val_main_cst_5 val_main_cst_6
  generalize val_main_v22 (F := Ideal) x0 x1 x2 = s
  generalize val_main_v7 (F := Ideal) x0 = r
  generalize val_main_v6 (F := Ideal) x0 = v
  pointwise
  exact Fin.sum_univ_one _

/-- The reference's gradient at the input. -/
theorem x_apply (i l : Fin 2048) : val_main_v34 (F := Ideal) x0 x1 x2 x3 (ix2 i l)
    = Norm.Dx (fun k => x0 (ix2 i k)) (fun k => x1 (ix2 0 k)) (fun k => x2 (ix2 i k)) (fun k => x3 (ix2 i k)) l := by
  rw [← Norm.dx_eq, ← k_apply x0 x1 x2 i l, ← r_apply]
  unfold val_main_v34 val_main_v33 val_main_v32 val_main_v31 val_main_v25 val_main_v24 val_main_v23 val_main_v19 val_main_v18
  generalize val_main_v30 (F := Ideal) x0 x1 x2 = k
  generalize val_main_v7 (F := Ideal) x0 = r
  pointwise
theorem xb_apply (i l : Fin 2048) : val_main_v37 (F := Ideal) x0 x1 x2 x3 (ix2 i l)
    = Norm.Dx (fun k => x0 (ix2 i k)) (fun k => x1 (ix2 0 k)) (fun k => x2 (ix2 i k)) (fun k => x3 (ix2 i k)) l := by
  rw [← x_apply]
  unfold val_main_v37
  generalize val_main_v34 (F := Ideal) x0 x1 x2 x3 = e
  pointwise

end Cert.Reference12Ideal.Norms

namespace Cert.Proof

open Idealize.ShloMosaic Idealize.SL.Sem

/-- The kernel and the reference give the same gradients at the input and at the gains. -/
theorem algebraic12 : Cert.algebraic_Kernel12Ideal_Reference12Ideal := by
  intro m ρ m' ρ' _ hagree
  refine ⟨_, _, _, Cert.Kernel12Ideal.Value.run m ρ, ?_⟩
  refine (θ_run Cert.Reference12Ideal.defs _ _).mono (fun r h c => ?_) (Cert.Reference12Ideal.Value.run (F := Ideal) m' ρ')
  obtain ⟨h0, h1, h2, hargs⟩ := h c
  obtain ⟨a0, a1, a2, a3⟩ := hagree c
  refine ⟨h0.trans ?_, h1.trans ?_, h2.trans ?_, hargs⟩
  · rw [Cert.Reference12Ideal.Read.val_main_v34_eq, a0, a1, a2, a3]
    funext y
    obtain ⟨i, l, rfl⟩ := Cert.Kernel12Ideal.Value.idx2 (a := 2048) (b := 2048) y
    exact Cert.Reference12Ideal.Norms.x_apply _ _ _ _ i l
  · rw [Cert.Reference12Ideal.Read.val_main_v36_eq, a0, a2]
    funext y
    obtain ⟨u, l, rfl⟩ := Cert.Kernel12Ideal.Value.idx2 (a := 8) (b := 2048) y
    exact Cert.Reference12Ideal.Norms.g8_apply _ _ u l
  · rw [Cert.Reference12Ideal.Read.val_main_v37_eq, a0, a1, a2, a3]
    funext y
    obtain ⟨i, l, rfl⟩ := Cert.Kernel12Ideal.Value.idx2 (a := 2048) (b := 2048) y
    exact Cert.Reference12Ideal.Norms.xb_apply _ _ _ _ i l

end Cert.Proof

end
-- ==== Proof.lean ====
/-
  The claims: the frames of the programs, the naming of the attention kernels' mask constant, and the equality of the
  attention's output and gradients, of the feed-forward block's result and gradients, of the mixer's projections, gates,
  convolution and their gradients, of the loss and its gradient, of the second half step's gates and values, of
  its weights' gradient, and of the normalization and its gradients, by the kernel and by the reference.
-/
module

public import proofs.«01_k».proof.Defs
public import proofs.«01_k».proof.Proof.Gen.Kernel.Frame
public import proofs.«01_k».proof.Proof.Attn.KArr
public import proofs.«01_k».proof.Proof.Attn.RefGrad
public import proofs.«01_k».proof.Proof.Attn.Finite
public import proofs.«01_k».proof.Proof.Gen.Kernel2.Frame
public import proofs.«01_k».proof.Proof.Ffn.Claim2
public import proofs.«01_k».proof.Proof.Ffn.DhClaim
public import proofs.«01_k».proof.Proof.In.ProjClaim
public import proofs.«01_k».proof.Proof.Gen.Kernel5.Frame
public import proofs.«01_k».proof.Proof.In.DhClaim
public import proofs.«01_k».proof.Proof.Gen.Kernel6.Frame
public import proofs.«01_k».proof.Proof.Mix.Claim6
public import proofs.«01_k».proof.Proof.Gen.Kernel7.Frame
public import proofs.«01_k».proof.Proof.Loss.Claim7
public import proofs.«01_k».proof.Proof.Up2.Claim8
public import proofs.«01_k».proof.Proof.Up2.Claim9
public import proofs.«01_k».proof.Proof.Pair.Claim10
public import proofs.«01_k».proof.Proof.Norm.Claim11
public import proofs.«01_k».proof.Proof.Attn.Claim13
public import proofs.«01_k».proof.Proof.Norm.Claim12

@[expose] public section

noncomputable section

namespace Cert.Proof

open Idealize.ShloMosaic Idealize.SL.Sem

/-- The reference runs and leaves its arguments. -/
theorem frame_ri : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

/-- The kernel's named constant has the value that the table gives. -/
theorem preserves : Cert.preserves_Kernel_KernelIdeal :=
  IdealRules.named_const.statement Cert.KernelIdeal.κ "mask" .f32 0xF149F2CA#32 ⊥ rfl

/-- Under the precondition the kernel's arguments are real. -/
theorem args_real (m : (ℓ : Loc Cert.KernelIdeal.nD Cert.KernelIdeal.τ Cert.KernelIdeal.sig) → Buf (Elt Ideal) ℓ)
    (h : Cert.Pre_KernelIdeal_finite (hPre_finite := Cert.Pre_finite.facts) m) (c : Dev Cert.KernelIdeal.nD) :
    (Cert.KernelIdeal.Value.args m c).Real := by
  haveI := Cert.Pre_finite.facts
  obtain ⟨h0, h1, h2, h3, h4⟩ := h c
  exact ⟨fun i j => Cert.Pre_finite.real0 _ _ _ _ _ h0 (ix2 i j), fun i j => Cert.Pre_finite.real1 _ _ _ _ _ h1 (ix2 i j),
    fun i j => Cert.Pre_finite.real2 _ _ _ _ _ h2 (ix2 i j), fun i => Cert.Pre_finite.real3 _ _ _ _ _ h3 (ix1 i),
    fun i j => Cert.Pre_finite.real4 _ _ _ _ _ h4 (ix2 i j)⟩

/-- An index of a matrix is a row and a column. -/
theorem idx_eq {a b : ℕ} (i : (⟨2, ![a, b]⟩ : Shape).Idx) : i = ix2 (i 0) (i 1) :=
  funext fun k => match k with
    | ⟨0, _⟩ => rfl
    | ⟨1, _⟩ => rfl

/-- Over real arguments the kernel and the reference give the same gradients. -/
theorem algebraic : Cert.algebraic_KernelIdeal_ReferenceIdeal_pre_finite (hPre_finite := Cert.Pre_finite.facts) := by
  intro m ρ m' ρ' hpre hagree
  refine ⟨_, _, _, _, _, _, Cert.KernelIdeal.Value.run_blocks (F := Ideal) m ρ, ?_⟩
  refine (θ_run Cert.ReferenceIdeal.defs _ _).mono (fun r h c => ?_) (Cert.ReferenceIdeal.Value.run (F := Ideal) m' ρ')
  obtain ⟨h0, h1, h2, h3, h4, h5, hargs⟩ := h c
  obtain ⟨a0, a1, a2, a3, a4⟩ := hagree c
  have hA : (Cert.ReferenceIdeal.Read.args (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))).Real := args_real m hpre c
  refine ⟨h0.trans ?_, h1.trans ?_, h2.trans ?_, h3.trans ?_, h4.trans ?_, h5.trans ?_, hargs⟩
  · rw [Cert.ReferenceIdeal.Read.val_main_v152_eq, Cert.KernelIdeal.Value.final7]
    simp only [StableHlo.launchContents_devRef, a0, a1, a2, a3, a4]
    funext i
    exact (congrArg _ (idx_eq i)).trans (Cert.ReferenceIdeal.Read.res_dq _ _ _ _ _ hA (i 0) (i 1))
  · rw [Cert.ReferenceIdeal.Read.val_main_v153_eq, Cert.KernelIdeal.Value.final8]
    simp only [StableHlo.launchContents_devRef, a0, a1, a2, a3, a4]
    funext i
    exact (congrArg _ (idx_eq i)).trans (Cert.ReferenceIdeal.Read.res_dkOwn _ _ _ _ _ hA (i 0) (i 1))
  · rw [Cert.ReferenceIdeal.Read.val_main_v154_eq, Cert.KernelIdeal.Value.final9]
    simp only [StableHlo.launchContents_devRef, a0, a1, a2, a3, a4]
    funext i
    exact (congrArg _ (idx_eq i)).trans (Cert.ReferenceIdeal.Read.res_dkBefore _ _ _ _ _ hA (i 0) (i 1))
  · rw [Cert.ReferenceIdeal.Read.val_main_v155_eq, Cert.KernelIdeal.Value.final10]
    simp only [StableHlo.launchContents_devRef, a0, a1, a2, a3, a4]
    funext i
    exact (congrArg _ (idx_eq i)).trans (Cert.ReferenceIdeal.Read.res_dvOwn _ _ _ _ _ hA (i 0) (i 1))
  · rw [Cert.ReferenceIdeal.Read.val_main_v156_eq, Cert.KernelIdeal.Value.final11]
    simp only [StableHlo.launchContents_devRef, a0, a1, a2, a3, a4]
    funext i
    exact (congrArg _ (idx_eq i)).trans (Cert.ReferenceIdeal.Read.res_dvBefore _ _ _ _ _ hA (i 0) (i 1))
  · rw [Cert.ReferenceIdeal.Read.val_main_v158_eq, Cert.KernelIdeal.Value.final12]
    simp only [StableHlo.launchContents_devRef, a0, a1, a2, a3, a4]
    funext i
    rw [Cert.ReferenceIdeal.Read.res_dsk (hA := hA)]
    rfl

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.facts, Cert.Pre_finite2.facts, Cert.Pre_is_parity8.facts, Cert.Pre_is_parity9.facts, Cert.Pre_is_place.facts, Cert.Pre_finite13.facts,
    Cert.On_own_chunks.facts, Cert.On_own_slot.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial,
    fun m ρ _ => Cert.Kernel2.Gen.frame m ρ, fun m ρ _ => Cert.Kernel2Ideal.Gen.frame m ρ, fun m ρ _ => Cert.Kernel2Ideal.Gen.frame m ρ,
    frame_ri2, fun m ρ _ => frame_ri2 m ρ trivial,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, frame_ri4,
    fun m ρ _ => Cert.Kernel5.Gen.frame m ρ, fun m ρ _ => Cert.Kernel5Ideal.Gen.frame m ρ, frame_ri5,
    fun m ρ _ => Cert.Kernel6.Gen.frame m ρ, fun m ρ _ => Cert.Kernel6Ideal.Gen.frame m ρ, frame_ri6,
    fun m ρ _ => Cert.Kernel7.Gen.frame m ρ, fun m ρ _ => Cert.Kernel7Ideal.Gen.frame m ρ, frame_ri7,
    fun m ρ h => Cert.Kernel8.Gen.frame m ρ (Cert.Kernel8.Value.ok_of_pre m h), fun m ρ h => Cert.Kernel8Ideal.Gen.frame m ρ (Cert.Kernel8Ideal.Value.ok_of_pre m h),
    frame_ri8, fun m ρ _ => frame_ri8 m ρ trivial,
    fun m ρ h => Cert.Kernel9.Gen.frame m ρ (Cert.Kernel9.Value.ok_of_pre m h), fun m ρ h => Cert.Kernel9Ideal.Gen.frame m ρ (Cert.Kernel9Ideal.Value.ok_of_pre m h),
    frame_ri9, fun m ρ _ => frame_ri9 m ρ trivial,
    fun m ρ h => (Cert.Kernel10.Value.pinned_of_pre m h).elim fun p hp => Cert.Kernel10.Gen.frame p m ρ hp,
    fun m ρ h => (Cert.Kernel10Ideal.Value.pinned_of_pre m h).elim fun p hp => Cert.Kernel10Ideal.Gen.frame p m ρ hp,
    frame_ri10, fun m ρ _ => frame_ri10 m ρ trivial,
    fun m ρ _ => Cert.Kernel11.Gen.frame m ρ, fun m ρ _ => Cert.Kernel11Ideal.Gen.frame m ρ, frame_ri11,
    fun m ρ _ => Cert.Kernel12.Gen.frame m ρ, fun m ρ _ => Cert.Kernel12Ideal.Gen.frame m ρ, frame_ri12,
    fun m ρ _ => Cert.Kernel13.Gen.frame m ρ, fun m ρ _ => Cert.Kernel13Ideal.Gen.frame m ρ, fun m ρ _ => Cert.Kernel13Ideal.Gen.frame m ρ,
    frame_ri13, fun m ρ _ => frame_ri13 m ρ trivial,
    preserves, algebraic, trivial, @algebraic2 Cert.Pre_finite2.facts, trivial, algebraic3, trivial, algebraic4, trivial, algebraic5, trivial, algebraic6, trivial, algebraic7,
    trivial, algebraic8, trivial, algebraic9, trivial, algebraic10, trivial, algebraic11, trivial, algebraic12, preserves13, algebraic13⟩

end Cert.Proof

end
